-- ==== Defs.lean ====
def Pre_ActGrad (m : (ℓ : Loc Cert.ActGrad.nD Cert.ActGrad.τ Cert.ActGrad.sig) → Buf (Elt Bits) ℓ) : Prop :=
  True

def Pre_ActGradIdeal (m : (ℓ : Loc Cert.ActGradIdeal.nD Cert.ActGradIdeal.τ Cert.ActGradIdeal.sig) → Buf (Elt Ideal) ℓ) : Prop :=
  True

def Pre_ActGradIdeal_finite_act [hPre_finite_act : Cert.Pre_finite_act.Facts] (m : (ℓ : Loc Cert.ActGradIdeal.nD Cert.ActGradIdeal.τ Cert.ActGradIdeal.sig) → Buf (Elt Ideal) ℓ) : Prop :=
  ∀ c : Dev Cert.ActGradIdeal.nD,
    (Cert.Pre_finite_act.fn (F := Ideal) (m ((c.tc : Thread Cert.ActGradIdeal.nD Cert.ActGradIdeal.τ).loc Cert.ActGradIdeal.main_arg0)) (m ((c.tc : Thread Cert.ActGradIdeal.nD Cert.ActGradIdeal.τ).loc Cert.ActGradIdeal.main_arg1)) (m ((c.tc : Thread Cert.ActGradIdeal.nD Cert.ActGradIdeal.τ).loc Cert.ActGradIdeal.main_arg2)) (m ((c.tc : Thread Cert.ActGradIdeal.nD Cert.ActGradIdeal.τ).loc Cert.ActGradIdeal.main_arg3))) = (fun _ => 1#1)

def Pre_ActGradRefIdeal (m : (ℓ : Loc Cert.ActGradRefIdeal.nD Cert.ActGradRefIdeal.τ Cert.ActGradRefIdeal.sig) → Buf (Elt Ideal) ℓ) : Prop :=
  True

def Pre_ActGradRefIdeal_finite_act [hPre_finite_act : Cert.Pre_finite_act.Facts] (m : (ℓ : Loc Cert.ActGradRefIdeal.nD Cert.ActGradRefIdeal.τ Cert.ActGradRefIdeal.sig) → Buf (Elt Ideal) ℓ) : Prop :=
  ∀ c : Dev Cert.ActGradRefIdeal.nD,
    (Cert.Pre_finite_act.fn (F := Ideal) (m ((c.tc : Thread Cert.ActGradRefIdeal.nD Cert.ActGradRefIdeal.τ).loc Cert.ActGradRefIdeal.main_arg0)) (m ((c.tc : Thread Cert.ActGradRefIdeal.nD Cert.ActGradRefIdeal.τ).loc Cert.ActGradRefIdeal.main_arg1)) (m ((c.tc : Thread Cert.ActGradRefIdeal.nD Cert.ActGradRefIdeal.τ).loc Cert.ActGradRefIdeal.main_arg2)) (m ((c.tc : Thread Cert.ActGradRefIdeal.nD Cert.ActGradRefIdeal.τ).loc Cert.ActGradRefIdeal.main_arg3))) = (fun _ => 1#1)

def Pre_WeightGrad (m : (ℓ : Loc Cert.WeightGrad.nD Cert.WeightGrad.τ Cert.WeightGrad.sig) → Buf (Elt Bits) ℓ) : Prop :=
  True

def Pre_WeightGradIdeal (m : (ℓ : Loc Cert.WeightGradIdeal.nD Cert.WeightGradIdeal.τ Cert.WeightGradIdeal.sig) → Buf (Elt Ideal) ℓ) : Prop :=
  True

def Pre_WeightGradRefIdeal (m : (ℓ : Loc Cert.WeightGradRefIdeal.nD Cert.WeightGradRefIdeal.τ Cert.WeightGradRefIdeal.sig) → Buf (Elt Ideal) ℓ) : Prop :=
  True

def Pre_NormGrad (m : (ℓ : Loc Cert.NormGrad.nD Cert.NormGrad.τ Cert.NormGrad.sig) → Buf (Elt Bits) ℓ) : Prop :=
  True

def Pre_NormGradIdeal (m : (ℓ : Loc Cert.NormGradIdeal.nD Cert.NormGradIdeal.τ Cert.NormGradIdeal.sig) → Buf (Elt Ideal) ℓ) : Prop :=
  True

def Pre_NormGradIdeal_finite_norm [hPre_finite_norm : Cert.Pre_finite_norm.Facts] (m : (ℓ : Loc Cert.NormGradIdeal.nD Cert.NormGradIdeal.τ Cert.NormGradIdeal.sig) → Buf (Elt Ideal) ℓ) : Prop :=
  ∀ c : Dev Cert.NormGradIdeal.nD,
    (Cert.Pre_finite_norm.fn (F := Ideal) (m ((c.tc : Thread Cert.NormGradIdeal.nD Cert.NormGradIdeal.τ).loc Cert.NormGradIdeal.main_arg0)) (m ((c.tc : Thread Cert.NormGradIdeal.nD Cert.NormGradIdeal.τ).loc Cert.NormGradIdeal.main_arg1)) (m ((c.tc : Thread Cert.NormGradIdeal.nD Cert.NormGradIdeal.τ).loc Cert.NormGradIdeal.main_arg2)) (m ((c.tc : Thread Cert.NormGradIdeal.nD Cert.NormGradIdeal.τ).loc Cert.NormGradIdeal.main_arg3)) (m ((c.tc : Thread Cert.NormGradIdeal.nD Cert.NormGradIdeal.τ).loc Cert.NormGradIdeal.main_arg4)) (m ((c.tc : Thread Cert.NormGradIdeal.nD Cert.NormGradIdeal.τ).loc Cert.NormGradIdeal.main_arg5)) (m ((c.tc : Thread Cert.NormGradIdeal.nD Cert.NormGradIdeal.τ).loc Cert.NormGradIdeal.main_arg6))) = (fun _ => 1#1)

def Pre_NormGradRefIdeal (m : (ℓ : Loc Cert.NormGradRefIdeal.nD Cert.NormGradRefIdeal.τ Cert.NormGradRefIdeal.sig) → Buf (Elt Ideal) ℓ) : Prop :=
  True

def Pre_NormGradRefIdeal_finite_norm [hPre_finite_norm : Cert.Pre_finite_norm.Facts] (m : (ℓ : Loc Cert.NormGradRefIdeal.nD Cert.NormGradRefIdeal.τ Cert.NormGradRefIdeal.sig) → Buf (Elt Ideal) ℓ) : Prop :=
  ∀ c : Dev Cert.NormGradRefIdeal.nD,
    (Cert.Pre_finite_norm.fn (F := Ideal) (m ((c.tc : Thread Cert.NormGradRefIdeal.nD Cert.NormGradRefIdeal.τ).loc Cert.NormGradRefIdeal.main_arg0)) (m ((c.tc : Thread Cert.NormGradRefIdeal.nD Cert.NormGradRefIdeal.τ).loc Cert.NormGradRefIdeal.main_arg1)) (m ((c.tc : Thread Cert.NormGradRefIdeal.nD Cert.NormGradRefIdeal.τ).loc Cert.NormGradRefIdeal.main_arg2)) (m ((c.tc : Thread Cert.NormGradRefIdeal.nD Cert.NormGradRefIdeal.τ).loc Cert.NormGradRefIdeal.main_arg3)) (m ((c.tc : Thread Cert.NormGradRefIdeal.nD Cert.NormGradRefIdeal.τ).loc Cert.NormGradRefIdeal.main_arg4)) (m ((c.tc : Thread Cert.NormGradRefIdeal.nD Cert.NormGradRefIdeal.τ).loc Cert.NormGradRefIdeal.main_arg5)) (m ((c.tc : Thread Cert.NormGradRefIdeal.nD Cert.NormGradRefIdeal.τ).loc Cert.NormGradRefIdeal.main_arg6))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixNorm (m : (ℓ : Loc Cert.MixNorm.nD Cert.MixNorm.τ Cert.MixNorm.sig) → Buf (Elt Bits) ℓ) : Prop :=
  True

def Pre_MixNormIdeal (m : (ℓ : Loc Cert.MixNormIdeal.nD Cert.MixNormIdeal.τ Cert.MixNormIdeal.sig) → Buf (Elt Ideal) ℓ) : Prop :=
  True

def Pre_MixNormIdeal_finite_mix [hPre_finite_mix : Cert.Pre_finite_mix.Facts] (m : (ℓ : Loc Cert.MixNormIdeal.nD Cert.MixNormIdeal.τ Cert.MixNormIdeal.sig) → Buf (Elt Ideal) ℓ) : Prop :=
  ∀ c : Dev Cert.MixNormIdeal.nD,
    (Cert.Pre_finite_mix.fn (F := Ideal) (m ((c.tc : Thread Cert.MixNormIdeal.nD Cert.MixNormIdeal.τ).loc Cert.MixNormIdeal.main_arg0)) (m ((c.tc : Thread Cert.MixNormIdeal.nD Cert.MixNormIdeal.τ).loc Cert.MixNormIdeal.main_arg1)) (m ((c.tc : Thread Cert.MixNormIdeal.nD Cert.MixNormIdeal.τ).loc Cert.MixNormIdeal.main_arg2)) (m ((c.tc : Thread Cert.MixNormIdeal.nD Cert.MixNormIdeal.τ).loc Cert.MixNormIdeal.main_arg3)) (m ((c.tc : Thread Cert.MixNormIdeal.nD Cert.MixNormIdeal.τ).loc Cert.MixNormIdeal.main_arg4))) = (fun _ => 1#1)

def Pre_MixNormRefIdeal (m : (ℓ : Loc Cert.MixNormRefIdeal.nD Cert.MixNormRefIdeal.τ Cert.MixNormRefIdeal.sig) → Buf (Elt Ideal) ℓ) : Prop :=
  True

def Pre_MixNormRefIdeal_finite_mix [hPre_finite_mix : Cert.Pre_finite_mix.Facts] (m : (ℓ : Loc Cert.MixNormRefIdeal.nD Cert.MixNormRefIdeal.τ Cert.MixNormRefIdeal.sig) → Buf (Elt Ideal) ℓ) : Prop :=
  ∀ c : Dev Cert.MixNormRefIdeal.nD,
    (Cert.Pre_finite_mix.fn (F := Ideal) (m ((c.tc : Thread Cert.MixNormRefIdeal.nD Cert.MixNormRefIdeal.τ).loc Cert.MixNormRefIdeal.main_arg0)) (m ((c.tc : Thread Cert.MixNormRefIdeal.nD Cert.MixNormRefIdeal.τ).loc Cert.MixNormRefIdeal.main_arg1)) (m ((c.tc : Thread Cert.MixNormRefIdeal.nD Cert.MixNormRefIdeal.τ).loc Cert.MixNormRefIdeal.main_arg2)) (m ((c.tc : Thread Cert.MixNormRefIdeal.nD Cert.MixNormRefIdeal.τ).loc Cert.MixNormRefIdeal.main_arg3)) (m ((c.tc : Thread Cert.MixNormRefIdeal.nD Cert.MixNormRefIdeal.τ).loc Cert.MixNormRefIdeal.main_arg4))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AttnGrad (m : (ℓ : Loc Cert.AttnGrad.nD Cert.AttnGrad.τ Cert.AttnGrad.sig) → Buf (Elt Bits) ℓ) : Prop :=
  True

def Pre_AttnGradIdeal (m : (ℓ : Loc Cert.AttnGradIdeal.nD Cert.AttnGradIdeal.τ Cert.AttnGradIdeal.sig) → Buf (Elt Ideal) ℓ) : Prop :=
  True

def Pre_AttnGradIdeal_finite_gate [hPre_finite_gate : Cert.Pre_finite_gate.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_finite_gate.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5)) (m ((c.tc : Thread Cert.AttnGradIdeal.nD Cert.AttnGradIdeal.τ).loc Cert.AttnGradIdeal.main_arg6)) (m ((c.tc : Thread Cert.AttnGradIdeal.nD Cert.AttnGradIdeal.τ).loc Cert.AttnGradIdeal.main_arg7)) (m ((c.tc : Thread Cert.AttnGradIdeal.nD Cert.AttnGradIdeal.τ).loc Cert.AttnGradIdeal.main_arg8)) (m ((c.tc : Thread Cert.AttnGradIdeal.nD Cert.AttnGradIdeal.τ).loc Cert.AttnGradIdeal.main_arg9)) (m ((c.tc : Thread Cert.AttnGradIdeal.nD Cert.AttnGradIdeal.τ).loc Cert.AttnGradIdeal.main_arg10)) (m ((c.tc : Thread Cert.AttnGradIdeal.nD Cert.AttnGradIdeal.τ).loc Cert.AttnGradIdeal.main_arg11))) = (fun _ => 1#1)

def Pre_AttnGradRefIdeal (m : (ℓ : Loc Cert.AttnGradRefIdeal.nD Cert.AttnGradRefIdeal.τ Cert.AttnGradRefIdeal.sig) → Buf (Elt Ideal) ℓ) : Prop :=
  True

def Pre_AttnGradRefIdeal_finite_gate [hPre_finite_gate : Cert.Pre_finite_gate.Facts] (m : (ℓ : Loc Cert.AttnGradRefIdeal.nD Cert.AttnGradRefIdeal.τ Cert.AttnGradRefIdeal.sig) → Buf (Elt Ideal) ℓ) : Prop :=
  ∀ c : Dev Cert.AttnGradRefIdeal.nD,
    (Cert.Pre_finite_gate.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4)) (m ((c.tc : Thread Cert.AttnGradRefIdeal.nD Cert.AttnGradRefIdeal.τ).loc Cert.AttnGradRefIdeal.main_arg5)) (m ((c.tc : Thread Cert.AttnGradRefIdeal.nD Cert.AttnGradRefIdeal.τ).loc Cert.AttnGradRefIdeal.main_arg6)) (m ((c.tc : Thread Cert.AttnGradRefIdeal.nD Cert.AttnGradRefIdeal.τ).loc Cert.AttnGradRefIdeal.main_arg7)) (m ((c.tc : Thread Cert.AttnGradRefIdeal.nD Cert.AttnGradRefIdeal.τ).loc Cert.AttnGradRefIdeal.main_arg8)) (m ((c.tc : Thread Cert.AttnGradRefIdeal.nD Cert.AttnGradRefIdeal.τ).loc Cert.AttnGradRefIdeal.main_arg9)) (m ((c.tc : Thread Cert.AttnGradRefIdeal.nD Cert.AttnGradRefIdeal.τ).loc Cert.AttnGradRefIdeal.main_arg10)) (m ((c.tc : Thread Cert.AttnGradRefIdeal.nD Cert.AttnGradRefIdeal.τ).loc Cert.AttnGradRefIdeal.main_arg11))) = (fun _ => 1#1)

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_finite_loss [hPre_finite_loss : Cert.Pre_finite_loss.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_finite_loss.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4))) = (fun _ => 1#1)

def Pre_FfnLossRefIdeal (m : (ℓ : Loc Cert.FfnLossRefIdeal.nD Cert.FfnLossRefIdeal.τ Cert.FfnLossRefIdeal.sig) → Buf (Elt Ideal) ℓ) : Prop :=
  True

def Pre_FfnLossRefIdeal_finite_loss [hPre_finite_loss : Cert.Pre_finite_loss.Facts] (m : (ℓ : Loc Cert.FfnLossRefIdeal.nD Cert.FfnLossRefIdeal.τ Cert.FfnLossRefIdeal.sig) → Buf (Elt Ideal) ℓ) : Prop :=
  ∀ c : Dev Cert.FfnLossRefIdeal.nD,
    (Cert.Pre_finite_loss.fn (F := Ideal) (m ((c.tc : Thread Cert.FfnLossRefIdeal.nD Cert.FfnLossRefIdeal.τ).loc Cert.FfnLossRefIdeal.main_arg0)) (m ((c.tc : Thread Cert.FfnLossRefIdeal.nD Cert.FfnLossRefIdeal.τ).loc Cert.FfnLossRefIdeal.main_arg1)) (m ((c.tc : Thread Cert.FfnLossRefIdeal.nD Cert.FfnLossRefIdeal.τ).loc Cert.FfnLossRefIdeal.main_arg2)) (m ((c.tc : Thread Cert.FfnLossRefIdeal.nD Cert.FfnLossRefIdeal.τ).loc Cert.FfnLossRefIdeal.main_arg3)) (m ((c.tc : Thread Cert.FfnLossRefIdeal.nD Cert.FfnLossRefIdeal.τ).loc Cert.FfnLossRefIdeal.main_arg4))) = (fun _ => 1#1)

def Pre_AdamA (m : (ℓ : Loc Cert.AdamA.nD Cert.AdamA.τ Cert.AdamA.sig) → Buf (Elt Bits) ℓ) : Prop :=
  True

def Pre_AdamAIdeal (m : (ℓ : Loc Cert.AdamAIdeal.nD Cert.AdamAIdeal.τ Cert.AdamAIdeal.sig) → Buf (Elt Ideal) ℓ) : Prop :=
  True

def Pre_AdamARefIdeal (m : (ℓ : Loc Cert.AdamARefIdeal.nD Cert.AdamARefIdeal.τ Cert.AdamARefIdeal.sig) → Buf (Elt Ideal) ℓ) : Prop :=
  True

def quiescent_ActGrad [hActGrad : Cert.ActGrad.Facts] : Prop :=
  ∀ (m : (ℓ : Loc Cert.ActGrad.nD Cert.ActGrad.τ Cert.ActGrad.sig) → Buf (Elt Bits) ℓ) (g : Dev Cert.ActGrad.nD → PrngReg), Pre_ActGrad m →
    θ_run (Cert.ActGrad.defs (F := Bits)) (onTc (τ := Cert.ActGrad.τ) (Cert.ActGrad.main (F := Bits))) ⟨m, fun _ => 0, g⟩ (fun r => (∀ c : Dev Cert.ActGrad.nD,
      r.2.mem ((c.tc : Thread Cert.ActGrad.nD Cert.ActGrad.τ).loc Cert.ActGrad.main_arg0) = m ((c.tc : Thread Cert.ActGrad.nD Cert.ActGrad.τ).loc Cert.ActGrad.main_arg0)
      ∧ r.2.mem ((c.tc : Thread Cert.ActGrad.nD Cert.ActGrad.τ).loc Cert.ActGrad.main_arg1) = m ((c.tc : Thread Cert.ActGrad.nD Cert.ActGrad.τ).loc Cert.ActGrad.main_arg1)
      ∧ r.2.mem ((c.tc : Thread Cert.ActGrad.nD Cert.ActGrad.τ).loc Cert.ActGrad.main_arg2) = m ((c.tc : Thread Cert.ActGrad.nD Cert.ActGrad.τ).loc Cert.ActGrad.main_arg2)
      ∧ r.2.mem ((c.tc : Thread Cert.ActGrad.nD Cert.ActGrad.τ).loc Cert.ActGrad.main_arg3) = m ((c.tc : Thread Cert.ActGrad.nD Cert.ActGrad.τ).loc Cert.ActGrad.main_arg3))
      ∧ r.2.sem = fun _ => 0)

def quiescent_ActGradIdeal [hActGradIdeal : Cert.ActGradIdeal.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradIdeal_pre_finite_act [hActGradIdeal : Cert.ActGradIdeal.Facts] [hPre_finite_act : Cert.Pre_finite_act.Facts] : Prop :=
  ∀ (m : (ℓ : Loc Cert.ActGradIdeal.nD Cert.ActGradIdeal.τ Cert.ActGradIdeal.sig) → Buf (Elt Ideal) ℓ) (g : Dev Cert.ActGradIdeal.nD → PrngReg), Pre_ActGradIdeal_finite_act m →
    θ_run (Cert.ActGradIdeal.defs (F := Ideal)) (onTc (τ := Cert.ActGradIdeal.τ) (Cert.ActGradIdeal.main (F := Ideal))) ⟨m, fun _ => 0, g⟩ (fun r => (∀ c : Dev Cert.ActGradIdeal.nD,
      r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
      ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
      ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
      ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ r.2.sem = fun _ => 0)

def quiescent_ActGradRefIdeal [hActGradRefIdeal : Cert.ActGradRefIdeal.Facts] : Prop :=
  ∀ (m : (ℓ : Loc Cert.ActGradRefIdeal.nD Cert.ActGradRefIdeal.τ Cert.ActGradRefIdeal.sig) → Buf (Elt Ideal) ℓ) (g : Dev Cert.ActGradRefIdeal.nD → PrngReg), Pre_ActGradRefIdeal m →
    θ_run (Cert.ActGradRefIdeal.defs (F := Ideal)) (onTc (τ := Cert.ActGradRefIdeal.τ) (Cert.ActGradRefIdeal.main (F := Ideal))) ⟨m, fun _ => 0, g⟩ (fun r => (∀ c : Dev Cert.ActGradRefIdeal.nD,
      r.2.mem ((c.tc : Thread Cert.ActGradRefIdeal.nD Cert.ActGradRefIdeal.τ).loc Cert.ActGradRefIdeal.main_arg0) = m ((c.tc : Thread Cert.ActGradRefIdeal.nD Cert.ActGradRefIdeal.τ).loc Cert.ActGradRefIdeal.main_arg0)
      ∧ r.2.mem ((c.tc : Thread Cert.ActGradRefIdeal.nD Cert.ActGradRefIdeal.τ).loc Cert.ActGradRefIdeal.main_arg1) = m ((c.tc : Thread Cert.ActGradRefIdeal.nD Cert.ActGradRefIdeal.τ).loc Cert.ActGradRefIdeal.main_arg1)
      ∧ r.2.mem ((c.tc : Thread Cert.ActGradRefIdeal.nD Cert.ActGradRefIdeal.τ).loc Cert.ActGradRefIdeal.main_arg2) = m ((c.tc : Thread Cert.ActGradRefIdeal.nD Cert.ActGradRefIdeal.τ).loc Cert.ActGradRefIdeal.main_arg2)
      ∧ r.2.mem ((c.tc : Thread Cert.ActGradRefIdeal.nD Cert.ActGradRefIdeal.τ).loc Cert.ActGradRefIdeal.main_arg3) = m ((c.tc : Thread Cert.ActGradRefIdeal.nD Cert.ActGradRefIdeal.τ).loc Cert.ActGradRefIdeal.main_arg3))
      ∧ r.2.sem = fun _ => 0)

def quiescent_ActGradRefIdeal_pre_finite_act [hActGradRefIdeal : Cert.ActGradRefIdeal.Facts] [hPre_finite_act : Cert.Pre_finite_act.Facts] : Prop :=
  ∀ (m : (ℓ : Loc Cert.ActGradRefIdeal.nD Cert.ActGradRefIdeal.τ Cert.ActGradRefIdeal.sig) → Buf (Elt Ideal) ℓ) (g : Dev Cert.ActGradRefIdeal.nD → PrngReg), Pre_ActGradRefIdeal_finite_act m →
    θ_run (Cert.ActGradRefIdeal.defs (F := Ideal)) (onTc (τ := Cert.ActGradRefIdeal.τ) (Cert.ActGradRefIdeal.main (F := Ideal))) ⟨m, fun _ => 0, g⟩ (fun r => (∀ c : Dev Cert.ActGradRefIdeal.nD,
      r.2.mem ((c.tc : Thread Cert.ActGradRefIdeal.nD Cert.ActGradRefIdeal.τ).loc Cert.ActGradRefIdeal.main_arg0) = m ((c.tc : Thread Cert.ActGradRefIdeal.nD Cert.ActGradRefIdeal.τ).loc Cert.ActGradRefIdeal.main_arg0)
      ∧ r.2.mem ((c.tc : Thread Cert.ActGradRefIdeal.nD Cert.ActGradRefIdeal.τ).loc Cert.ActGradRefIdeal.main_arg1) = m ((c.tc : Thread Cert.ActGradRefIdeal.nD Cert.ActGradRefIdeal.τ).loc Cert.ActGradRefIdeal.main_arg1)
      ∧ r.2.mem ((c.tc : Thread Cert.ActGradRefIdeal.nD Cert.ActGradRefIdeal.τ).loc Cert.ActGradRefIdeal.main_arg2) = m ((c.tc : Thread Cert.ActGradRefIdeal.nD Cert.ActGradRefIdeal.τ).loc Cert.ActGradRefIdeal.main_arg2)
      ∧ r.2.mem ((c.tc : Thread Cert.ActGradRefIdeal.nD Cert.ActGradRefIdeal.τ).loc Cert.ActGradRefIdeal.main_arg3) = m ((c.tc : Thread Cert.ActGradRefIdeal.nD Cert.ActGradRefIdeal.τ).loc Cert.ActGradRefIdeal.main_arg3))
      ∧ r.2.sem = fun _ => 0)

def quiescent_WeightGrad [hWeightGrad : Cert.WeightGrad.Facts] : Prop :=
  ∀ (m : (ℓ : Loc Cert.WeightGrad.nD Cert.WeightGrad.τ Cert.WeightGrad.sig) → Buf (Elt Bits) ℓ) (g : Dev Cert.WeightGrad.nD → PrngReg), Pre_WeightGrad m →
    θ_run (Cert.WeightGrad.defs (F := Bits)) (onTc (τ := Cert.WeightGrad.τ) (Cert.WeightGrad.main (F := Bits))) ⟨m, fun _ => 0, g⟩ (fun r => (∀ c : Dev Cert.WeightGrad.nD,
      r.2.mem ((c.tc : Thread Cert.WeightGrad.nD Cert.WeightGrad.τ).loc Cert.WeightGrad.main_arg0) = m ((c.tc : Thread Cert.WeightGrad.nD Cert.WeightGrad.τ).loc Cert.WeightGrad.main_arg0)
      ∧ r.2.mem ((c.tc : Thread Cert.WeightGrad.nD Cert.WeightGrad.τ).loc Cert.WeightGrad.main_arg1) = m ((c.tc : Thread Cert.WeightGrad.nD Cert.WeightGrad.τ).loc Cert.WeightGrad.main_arg1))
      ∧ r.2.sem = fun _ => 0)

def quiescent_WeightGradIdeal [hWeightGradIdeal : Cert.WeightGradIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg), Pre_WeightGradIdeal m →
    θ_run (Cert.WeightGradIdeal.defs (F := Ideal)) (onTc (τ := Cert.WeightGradIdeal.τ) (Cert.WeightGradIdeal.main (F := Ideal))) ⟨m, fun _ => 0, g⟩ (fun r => (∀ c : Dev Cert.WeightGradIdeal.nD,
      r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
      ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ r.2.sem = fun _ => 0)

def quiescent_WeightGradRefIdeal [hWeightGradRefIdeal : Cert.WeightGradRefIdeal.Facts] : Prop :=
  ∀ (m : (ℓ : Loc Cert.WeightGradRefIdeal.nD Cert.WeightGradRefIdeal.τ Cert.WeightGradRefIdeal.sig) → Buf (Elt Ideal) ℓ) (g : Dev Cert.WeightGradRefIdeal.nD → PrngReg), Pre_WeightGradRefIdeal m →
    θ_run (Cert.WeightGradRefIdeal.defs (F := Ideal)) (onTc (τ := Cert.WeightGradRefIdeal.τ) (Cert.WeightGradRefIdeal.main (F := Ideal))) ⟨m, fun _ => 0, g⟩ (fun r => (∀ c : Dev Cert.WeightGradRefIdeal.nD,
      r.2.mem ((c.tc : Thread Cert.WeightGradRefIdeal.nD Cert.WeightGradRefIdeal.τ).loc Cert.WeightGradRefIdeal.main_arg0) = m ((c.tc : Thread Cert.WeightGradRefIdeal.nD Cert.WeightGradRefIdeal.τ).loc Cert.WeightGradRefIdeal.main_arg0)
      ∧ r.2.mem ((c.tc : Thread Cert.WeightGradRefIdeal.nD Cert.WeightGradRefIdeal.τ).loc Cert.WeightGradRefIdeal.main_arg1) = m ((c.tc : Thread Cert.WeightGradRefIdeal.nD Cert.WeightGradRefIdeal.τ).loc Cert.WeightGradRefIdeal.main_arg1))
      ∧ r.2.sem = fun _ => 0)

def quiescent_NormGrad [hNormGrad : Cert.NormGrad.Facts] : Prop :=
  ∀ (m : (ℓ : Loc Cert.NormGrad.nD Cert.NormGrad.τ Cert.NormGrad.sig) → Buf (Elt Bits) ℓ) (g : Dev Cert.NormGrad.nD → PrngReg), Pre_NormGrad m →
    θ_run (Cert.NormGrad.defs (F := Bits)) (onTc (τ := Cert.NormGrad.τ) (Cert.NormGrad.main (F := Bits))) ⟨m, fun _ => 0, g⟩ (fun r => (∀ c : Dev Cert.NormGrad.nD,
      r.2.mem ((c.tc : Thread Cert.NormGrad.nD Cert.NormGrad.τ).loc Cert.NormGrad.main_arg0) = m ((c.tc : Thread Cert.NormGrad.nD Cert.NormGrad.τ).loc Cert.NormGrad.main_arg0)
      ∧ r.2.mem ((c.tc : Thread Cert.NormGrad.nD Cert.NormGrad.τ).loc Cert.NormGrad.main_arg1) = m ((c.tc : Thread Cert.NormGrad.nD Cert.NormGrad.τ).loc Cert.NormGrad.main_arg1)
      ∧ r.2.mem ((c.tc : Thread Cert.NormGrad.nD Cert.NormGrad.τ).loc Cert.NormGrad.main_arg2) = m ((c.tc : Thread Cert.NormGrad.nD Cert.NormGrad.τ).loc Cert.NormGrad.main_arg2)
      ∧ r.2.mem ((c.tc : Thread Cert.NormGrad.nD Cert.NormGrad.τ).loc Cert.NormGrad.main_arg3) = m ((c.tc : Thread Cert.NormGrad.nD Cert.NormGrad.τ).loc Cert.NormGrad.main_arg3)
      ∧ r.2.mem ((c.tc : Thread Cert.NormGrad.nD Cert.NormGrad.τ).loc Cert.NormGrad.main_arg4) = m ((c.tc : Thread Cert.NormGrad.nD Cert.NormGrad.τ).loc Cert.NormGrad.main_arg4)
      ∧ r.2.mem ((c.tc : Thread Cert.NormGrad.nD Cert.NormGrad.τ).loc Cert.NormGrad.main_arg5) = m ((c.tc : Thread Cert.NormGrad.nD Cert.NormGrad.τ).loc Cert.NormGrad.main_arg5)
      ∧ r.2.mem ((c.tc : Thread Cert.NormGrad.nD Cert.NormGrad.τ).loc Cert.NormGrad.main_arg6) = m ((c.tc : Thread Cert.NormGrad.nD Cert.NormGrad.τ).loc Cert.NormGrad.main_arg6))
      ∧ r.2.sem = fun _ => 0)

def quiescent_NormGradIdeal [hNormGradIdeal : Cert.NormGradIdeal.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ r.2.sem = fun _ => 0)

def quiescent_NormGradIdeal_pre_finite_norm [hNormGradIdeal : Cert.NormGradIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg), Pre_NormGradIdeal_finite_norm m →
    θ_run (Cert.NormGradIdeal.defs (F := Ideal)) (onTc (τ := Cert.NormGradIdeal.τ) (Cert.NormGradIdeal.main (F := Ideal))) ⟨m, fun _ => 0, g⟩ (fun r => (∀ c : Dev Cert.NormGradIdeal.nD,
      r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
      ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
      ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
      ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
      ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
      ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
      ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ r.2.sem = fun _ => 0)

def quiescent_NormGradRefIdeal [hNormGradRefIdeal : Cert.NormGradRefIdeal.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4)
      ∧ r.2.mem ((c.tc : Thread Cert.NormGradRefIdeal.nD Cert.NormGradRefIdeal.τ).loc Cert.NormGradRefIdeal.main_arg5) = m ((c.tc : Thread Cert.NormGradRefIdeal.nD Cert.NormGradRefIdeal.τ).loc Cert.NormGradRefIdeal.main_arg5)
      ∧ r.2.mem ((c.tc : Thread Cert.NormGradRefIdeal.nD Cert.NormGradRefIdeal.τ).loc Cert.NormGradRefIdeal.main_arg6) = m ((c.tc : Thread Cert.NormGradRefIdeal.nD Cert.NormGradRefIdeal.τ).loc Cert.NormGradRefIdeal.main_arg6))
      ∧ r.2.sem = fun _ => 0)

def quiescent_NormGradRefIdeal_pre_finite_norm [hNormGradRefIdeal : Cert.NormGradRefIdeal.Facts] [hPre_finite_norm : Cert.Pre_finite_norm.Facts] : Prop :=
  ∀ (m : (ℓ : Loc Cert.NormGradRefIdeal.nD Cert.NormGradRefIdeal.τ Cert.NormGradRefIdeal.sig) → Buf (Elt Ideal) ℓ) (g : Dev Cert.NormGradRefIdeal.nD → PrngReg), Pre_NormGradRefIdeal_finite_norm m →
    θ_run (Cert.NormGradRefIdeal.defs (F := Ideal)) (onTc (τ := Cert.NormGradRefIdeal.τ) (Cert.NormGradRefIdeal.main (F := Ideal))) ⟨m, fun _ => 0, g⟩ (fun r => (∀ c : Dev Cert.NormGradRefIdeal.nD,
      r.2.mem ((c.tc : Thread Cert.NormGradRefIdeal.nD Cert.NormGradRefIdeal.τ).loc Cert.NormGradRefIdeal.main_arg0) = m ((c.tc : Thread Cert.NormGradRefIdeal.nD Cert.NormGradRefIdeal.τ).loc Cert.NormGradRefIdeal.main_arg0)
      ∧ r.2.mem ((c.tc : Thread Cert.NormGradRefIdeal.nD Cert.NormGradRefIdeal.τ).loc Cert.NormGradRefIdeal.main_arg1) = m ((c.tc : Thread Cert.NormGradRefIdeal.nD Cert.NormGradRefIdeal.τ).loc Cert.NormGradRefIdeal.main_arg1)
      ∧ r.2.mem ((c.tc : Thread Cert.NormGradRefIdeal.nD Cert.NormGradRefIdeal.τ).loc Cert.NormGradRefIdeal.main_arg2) = m ((c.tc : Thread Cert.NormGradRefIdeal.nD Cert.NormGradRefIdeal.τ).loc Cert.NormGradRefIdeal.main_arg2)
      ∧ r.2.mem ((c.tc : Thread Cert.NormGradRefIdeal.nD Cert.NormGradRefIdeal.τ).loc Cert.NormGradRefIdeal.main_arg3) = m ((c.tc : Thread Cert.NormGradRefIdeal.nD Cert.NormGradRefIdeal.τ).loc Cert.NormGradRefIdeal.main_arg3)
      ∧ r.2.mem ((c.tc : Thread Cert.NormGradRefIdeal.nD Cert.NormGradRefIdeal.τ).loc Cert.NormGradRefIdeal.main_arg4) = m ((c.tc : Thread Cert.NormGradRefIdeal.nD Cert.NormGradRefIdeal.τ).loc Cert.NormGradRefIdeal.main_arg4)
      ∧ r.2.mem ((c.tc : Thread Cert.NormGradRefIdeal.nD Cert.NormGradRefIdeal.τ).loc Cert.NormGradRefIdeal.main_arg5) = m ((c.tc : Thread Cert.NormGradRefIdeal.nD Cert.NormGradRefIdeal.τ).loc Cert.NormGradRefIdeal.main_arg5)
      ∧ r.2.mem ((c.tc : Thread Cert.NormGradRefIdeal.nD Cert.NormGradRefIdeal.τ).loc Cert.NormGradRefIdeal.main_arg6) = m ((c.tc : Thread Cert.NormGradRefIdeal.nD Cert.NormGradRefIdeal.τ).loc Cert.NormGradRefIdeal.main_arg6))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixNorm [hMixNorm : Cert.MixNorm.Facts] : Prop :=
  ∀ (m : (ℓ : Loc Cert.MixNorm.nD Cert.MixNorm.τ Cert.MixNorm.sig) → Buf (Elt Bits) ℓ) (g : Dev Cert.MixNorm.nD → PrngReg), Pre_MixNorm m →
    θ_run (Cert.MixNorm.defs (F := Bits)) (onTc (τ := Cert.MixNorm.τ) (Cert.MixNorm.main (F := Bits))) ⟨m, fun _ => 0, g⟩ (fun r => (∀ c : Dev Cert.MixNorm.nD,
      r.2.mem ((c.tc : Thread Cert.MixNorm.nD Cert.MixNorm.τ).loc Cert.MixNorm.main_arg0) = m ((c.tc : Thread Cert.MixNorm.nD Cert.MixNorm.τ).loc Cert.MixNorm.main_arg0)
      ∧ r.2.mem ((c.tc : Thread Cert.MixNorm.nD Cert.MixNorm.τ).loc Cert.MixNorm.main_arg1) = m ((c.tc : Thread Cert.MixNorm.nD Cert.MixNorm.τ).loc Cert.MixNorm.main_arg1)
      ∧ r.2.mem ((c.tc : Thread Cert.MixNorm.nD Cert.MixNorm.τ).loc Cert.MixNorm.main_arg2) = m ((c.tc : Thread Cert.MixNorm.nD Cert.MixNorm.τ).loc Cert.MixNorm.main_arg2)
      ∧ r.2.mem ((c.tc : Thread Cert.MixNorm.nD Cert.MixNorm.τ).loc Cert.MixNorm.main_arg3) = m ((c.tc : Thread Cert.MixNorm.nD Cert.MixNorm.τ).loc Cert.MixNorm.main_arg3)
      ∧ r.2.mem ((c.tc : Thread Cert.MixNorm.nD Cert.MixNorm.τ).loc Cert.MixNorm.main_arg4) = m ((c.tc : Thread Cert.MixNorm.nD Cert.MixNorm.τ).loc Cert.MixNorm.main_arg4))
      ∧ r.2.sem = fun _ => 0)

def quiescent_MixNormIdeal [hMixNormIdeal : Cert.MixNormIdeal.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ r.2.sem = fun _ => 0)

def quiescent_MixNormIdeal_pre_finite_mix [hMixNormIdeal : Cert.MixNormIdeal.Facts] [hPre_finite_mix : Cert.Pre_finite_mix.Facts] : Prop :=
  ∀ (m : (ℓ : Loc Cert.MixNormIdeal.nD Cert.MixNormIdeal.τ Cert.MixNormIdeal.sig) → Buf (Elt Ideal) ℓ) (g : Dev Cert.MixNormIdeal.nD → PrngReg), Pre_MixNormIdeal_finite_mix m →
    θ_run (Cert.MixNormIdeal.defs (F := Ideal)) (onTc (τ := Cert.MixNormIdeal.τ) (Cert.MixNormIdeal.main (F := Ideal))) ⟨m, fun _ => 0, g⟩ (fun r => (∀ c : Dev Cert.MixNormIdeal.nD,
      r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
      ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
      ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
      ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
      ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ r.2.sem = fun _ => 0)

def quiescent_MixNormRefIdeal [hMixNormRefIdeal : Cert.MixNormRefIdeal.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4))
      ∧ r.2.sem = fun _ => 0)

def quiescent_MixNormRefIdeal_pre_finite_mix [hMixNormRefIdeal : Cert.MixNormRefIdeal.Facts] [hPre_finite_mix : Cert.Pre_finite_mix.Facts] : Prop :=
  ∀ (m : (ℓ : Loc Cert.MixNormRefIdeal.nD Cert.MixNormRefIdeal.τ Cert.MixNormRefIdeal.sig) → Buf (Elt Ideal) ℓ) (g : Dev Cert.MixNormRefIdeal.nD → PrngReg), Pre_MixNormRefIdeal_finite_mix m →
    θ_run (Cert.MixNormRefIdeal.defs (F := Ideal)) (onTc (τ := Cert.MixNormRefIdeal.τ) (Cert.MixNormRefIdeal.main (F := Ideal))) ⟨m, fun _ => 0, g⟩ (fun r => (∀ c : Dev Cert.MixNormRefIdeal.nD,
      r.2.mem ((c.tc : Thread Cert.MixNormRefIdeal.nD Cert.MixNormRefIdeal.τ).loc Cert.MixNormRefIdeal.main_arg0) = m ((c.tc : Thread Cert.MixNormRefIdeal.nD Cert.MixNormRefIdeal.τ).loc Cert.MixNormRefIdeal.main_arg0)
      ∧ r.2.mem ((c.tc : Thread Cert.MixNormRefIdeal.nD Cert.MixNormRefIdeal.τ).loc Cert.MixNormRefIdeal.main_arg1) = m ((c.tc : Thread Cert.MixNormRefIdeal.nD Cert.MixNormRefIdeal.τ).loc Cert.MixNormRefIdeal.main_arg1)
      ∧ r.2.mem ((c.tc : Thread Cert.MixNormRefIdeal.nD Cert.MixNormRefIdeal.τ).loc Cert.MixNormRefIdeal.main_arg2) = m ((c.tc : Thread Cert.MixNormRefIdeal.nD Cert.MixNormRefIdeal.τ).loc Cert.MixNormRefIdeal.main_arg2)
      ∧ r.2.mem ((c.tc : Thread Cert.MixNormRefIdeal.nD Cert.MixNormRefIdeal.τ).loc Cert.MixNormRefIdeal.main_arg3) = m ((c.tc : Thread Cert.MixNormRefIdeal.nD Cert.MixNormRefIdeal.τ).loc Cert.MixNormRefIdeal.main_arg3)
      ∧ r.2.mem ((c.tc : Thread Cert.MixNormRefIdeal.nD Cert.MixNormRefIdeal.τ).loc Cert.MixNormRefIdeal.main_arg4) = m ((c.tc : Thread Cert.MixNormRefIdeal.nD Cert.MixNormRefIdeal.τ).loc Cert.MixNormRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3)
      ∧ r.2.mem ((c.tc : Thread Cert.AdamB.nD Cert.AdamB.τ).loc Cert.AdamB.main_arg4) = m ((c.tc : Thread Cert.AdamB.nD Cert.AdamB.τ).loc Cert.AdamB.main_arg4)
      ∧ r.2.mem ((c.tc : Thread Cert.AdamB.nD Cert.AdamB.τ).loc Cert.AdamB.main_arg5) = m ((c.tc : Thread Cert.AdamB.nD Cert.AdamB.τ).loc Cert.AdamB.main_arg5)
      ∧ r.2.mem ((c.tc : Thread Cert.AdamB.nD Cert.AdamB.τ).loc Cert.AdamB.main_arg6) = m ((c.tc : Thread Cert.AdamB.nD Cert.AdamB.τ).loc Cert.AdamB.main_arg6)
      ∧ r.2.mem ((c.tc : Thread Cert.AdamB.nD Cert.AdamB.τ).loc Cert.AdamB.main_arg7) = m ((c.tc : Thread Cert.AdamB.nD Cert.AdamB.τ).loc Cert.AdamB.main_arg7)
      ∧ r.2.mem ((c.tc : Thread Cert.AdamB.nD Cert.AdamB.τ).loc Cert.AdamB.main_arg8) = m ((c.tc : Thread Cert.AdamB.nD Cert.AdamB.τ).loc Cert.AdamB.main_arg8)
      ∧ r.2.mem ((c.tc : Thread Cert.AdamB.nD Cert.AdamB.τ).loc Cert.AdamB.main_arg9) = m ((c.tc : Thread Cert.AdamB.nD Cert.AdamB.τ).loc Cert.AdamB.main_arg9)
      ∧ r.2.mem ((c.tc : Thread Cert.AdamB.nD Cert.AdamB.τ).loc Cert.AdamB.main_arg10) = m ((c.tc : Thread Cert.AdamB.nD Cert.AdamB.τ).loc Cert.AdamB.main_arg10)
      ∧ r.2.mem ((c.tc : Thread Cert.AdamB.nD Cert.AdamB.τ).loc Cert.AdamB.main_arg11) = m ((c.tc : Thread Cert.AdamB.nD Cert.AdamB.τ).loc Cert.AdamB.main_arg11))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
      ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4)
      ∧ r.2.mem ((c.tc : Thread Cert.AdamBIdeal.nD Cert.AdamBIdeal.τ).loc Cert.AdamBIdeal.main_arg5) = m ((c.tc : Thread Cert.AdamBIdeal.nD Cert.AdamBIdeal.τ).loc Cert.AdamBIdeal.main_arg5)
      ∧ r.2.mem ((c.tc : Thread Cert.AdamBIdeal.nD Cert.AdamBIdeal.τ).loc Cert.AdamBIdeal.main_arg6) = m ((c.tc : Thread Cert.AdamBIdeal.nD Cert.AdamBIdeal.τ).loc Cert.AdamBIdeal.main_arg6)
      ∧ r.2.mem ((c.tc : Thread Cert.AdamBIdeal.nD Cert.AdamBIdeal.τ).loc Cert.AdamBIdeal.main_arg7) = m ((c.tc : Thread Cert.AdamBIdeal.nD Cert.AdamBIdeal.τ).loc Cert.AdamBIdeal.main_arg7)
      ∧ r.2.mem ((c.tc : Thread Cert.AdamBIdeal.nD Cert.AdamBIdeal.τ).loc Cert.AdamBIdeal.main_arg8) = m ((c.tc : Thread Cert.AdamBIdeal.nD Cert.AdamBIdeal.τ).loc Cert.AdamBIdeal.main_arg8)
      ∧ r.2.mem ((c.tc : Thread Cert.AdamBIdeal.nD Cert.AdamBIdeal.τ).loc Cert.AdamBIdeal.main_arg9) = m ((c.tc : Thread Cert.AdamBIdeal.nD Cert.AdamBIdeal.τ).loc Cert.AdamBIdeal.main_arg9)
      ∧ r.2.mem ((c.tc : Thread Cert.AdamBIdeal.nD Cert.AdamBIdeal.τ).loc Cert.AdamBIdeal.main_arg10) = m ((c.tc : Thread Cert.AdamBIdeal.nD Cert.AdamBIdeal.τ).loc Cert.AdamBIdeal.main_arg10)
      ∧ r.2.mem ((c.tc : Thread Cert.AdamBIdeal.nD Cert.AdamBIdeal.τ).loc Cert.AdamBIdeal.main_arg11) = m ((c.tc : Thread Cert.AdamBIdeal.nD Cert.AdamBIdeal.τ).loc Cert.AdamBIdeal.main_arg11))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3)
      ∧ r.2.mem ((c.tc : Thread Cert.AdamBRefIdeal.nD Cert.AdamBRefIdeal.τ).loc Cert.AdamBRefIdeal.main_arg4) = m ((c.tc : Thread Cert.AdamBRefIdeal.nD Cert.AdamBRefIdeal.τ).loc Cert.AdamBRefIdeal.main_arg4)
      ∧ r.2.mem ((c.tc : Thread Cert.AdamBRefIdeal.nD Cert.AdamBRefIdeal.τ).loc Cert.AdamBRefIdeal.main_arg5) = m ((c.tc : Thread Cert.AdamBRefIdeal.nD Cert.AdamBRefIdeal.τ).loc Cert.AdamBRefIdeal.main_arg5)
      ∧ r.2.mem ((c.tc : Thread Cert.AdamBRefIdeal.nD Cert.AdamBRefIdeal.τ).loc Cert.AdamBRefIdeal.main_arg6) = m ((c.tc : Thread Cert.AdamBRefIdeal.nD Cert.AdamBRefIdeal.τ).loc Cert.AdamBRefIdeal.main_arg6)
      ∧ r.2.mem ((c.tc : Thread Cert.AdamBRefIdeal.nD Cert.AdamBRefIdeal.τ).loc Cert.AdamBRefIdeal.main_arg7) = m ((c.tc : Thread Cert.AdamBRefIdeal.nD Cert.AdamBRefIdeal.τ).loc Cert.AdamBRefIdeal.main_arg7)
      ∧ r.2.mem ((c.tc : Thread Cert.AdamBRefIdeal.nD Cert.AdamBRefIdeal.τ).loc Cert.AdamBRefIdeal.main_arg8) = m ((c.tc : Thread Cert.AdamBRefIdeal.nD Cert.AdamBRefIdeal.τ).loc Cert.AdamBRefIdeal.main_arg8)
      ∧ r.2.mem ((c.tc : Thread Cert.AdamBRefIdeal.nD Cert.AdamBRefIdeal.τ).loc Cert.AdamBRefIdeal.main_arg9) = m ((c.tc : Thread Cert.AdamBRefIdeal.nD Cert.AdamBRefIdeal.τ).loc Cert.AdamBRefIdeal.main_arg9)
      ∧ r.2.mem ((c.tc : Thread Cert.AdamBRefIdeal.nD Cert.AdamBRefIdeal.τ).loc Cert.AdamBRefIdeal.main_arg10) = m ((c.tc : Thread Cert.AdamBRefIdeal.nD Cert.AdamBRefIdeal.τ).loc Cert.AdamBRefIdeal.main_arg10)
      ∧ r.2.mem ((c.tc : Thread Cert.AdamBRefIdeal.nD Cert.AdamBRefIdeal.τ).loc Cert.AdamBRefIdeal.main_arg11) = m ((c.tc : Thread Cert.AdamBRefIdeal.nD Cert.AdamBRefIdeal.τ).loc Cert.AdamBRefIdeal.main_arg11))
      ∧ r.2.sem = fun _ => 0)

def quiescent_AttnGrad [hAttnGrad : Cert.AttnGrad.Facts] : Prop :=
  ∀ (m : (ℓ : Loc Cert.AttnGrad.nD Cert.AttnGrad.τ Cert.AttnGrad.sig) → Buf (Elt Bits) ℓ) (g : Dev Cert.AttnGrad.nD → PrngReg), Pre_AttnGrad m →
    θ_run (Cert.AttnGrad.defs (F := Bits)) (onTc (τ := Cert.AttnGrad.τ) (Cert.AttnGrad.main (F := Bits))) ⟨m, fun _ => 0, g⟩ (fun r => (∀ c : Dev Cert.AttnGrad.nD,
      r.2.mem ((c.tc : Thread Cert.AttnGrad.nD Cert.AttnGrad.τ).loc Cert.AttnGrad.main_arg0) = m ((c.tc : Thread Cert.AttnGrad.nD Cert.AttnGrad.τ).loc Cert.AttnGrad.main_arg0)
      ∧ r.2.mem ((c.tc : Thread Cert.AttnGrad.nD Cert.AttnGrad.τ).loc Cert.AttnGrad.main_arg1) = m ((c.tc : Thread Cert.AttnGrad.nD Cert.AttnGrad.τ).loc Cert.AttnGrad.main_arg1)
      ∧ r.2.mem ((c.tc : Thread Cert.AttnGrad.nD Cert.AttnGrad.τ).loc Cert.AttnGrad.main_arg2) = m ((c.tc : Thread Cert.AttnGrad.nD Cert.AttnGrad.τ).loc Cert.AttnGrad.main_arg2)
      ∧ r.2.mem ((c.tc : Thread Cert.AttnGrad.nD Cert.AttnGrad.τ).loc Cert.AttnGrad.main_arg3) = m ((c.tc : Thread Cert.AttnGrad.nD Cert.AttnGrad.τ).loc Cert.AttnGrad.main_arg3)
      ∧ r.2.mem ((c.tc : Thread Cert.AttnGrad.nD Cert.AttnGrad.τ).loc Cert.AttnGrad.main_arg4) = m ((c.tc : Thread Cert.AttnGrad.nD Cert.AttnGrad.τ).loc Cert.AttnGrad.main_arg4)
      ∧ r.2.mem ((c.tc : Thread Cert.AttnGrad.nD Cert.AttnGrad.τ).loc Cert.AttnGrad.main_arg5) = m ((c.tc : Thread Cert.AttnGrad.nD Cert.AttnGrad.τ).loc Cert.AttnGrad.main_arg5)
      ∧ r.2.mem ((c.tc : Thread Cert.AttnGrad.nD Cert.AttnGrad.τ).loc Cert.AttnGrad.main_arg6) = m ((c.tc : Thread Cert.AttnGrad.nD Cert.AttnGrad.τ).loc Cert.AttnGrad.main_arg6)
      ∧ r.2.mem ((c.tc : Thread Cert.AttnGrad.nD Cert.AttnGrad.τ).loc Cert.AttnGrad.main_arg7) = m ((c.tc : Thread Cert.AttnGrad.nD Cert.AttnGrad.τ).loc Cert.AttnGrad.main_arg7)
      ∧ r.2.mem ((c.tc : Thread Cert.AttnGrad.nD Cert.AttnGrad.τ).loc Cert.AttnGrad.main_arg8) = m ((c.tc : Thread Cert.AttnGrad.nD Cert.AttnGrad.τ).loc Cert.AttnGrad.main_arg8)
      ∧ r.2.mem ((c.tc : Thread Cert.AttnGrad.nD Cert.AttnGrad.τ).loc Cert.AttnGrad.main_arg9) = m ((c.tc : Thread Cert.AttnGrad.nD Cert.AttnGrad.τ).loc Cert.AttnGrad.main_arg9)
      ∧ r.2.mem ((c.tc : Thread Cert.AttnGrad.nD Cert.AttnGrad.τ).loc Cert.AttnGrad.main_arg10) = m ((c.tc : Thread Cert.AttnGrad.nD Cert.AttnGrad.τ).loc Cert.AttnGrad.main_arg10)
      ∧ r.2.mem ((c.tc : Thread Cert.AttnGrad.nD Cert.AttnGrad.τ).loc Cert.AttnGrad.main_arg11) = m ((c.tc : Thread Cert.AttnGrad.nD Cert.AttnGrad.τ).loc Cert.AttnGrad.main_arg11))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4)
      ∧ r.2.mem ((c.tc : Thread Cert.AttnGradIdeal.nD Cert.AttnGradIdeal.τ).loc Cert.AttnGradIdeal.main_arg5) = m ((c.tc : Thread Cert.AttnGradIdeal.nD Cert.AttnGradIdeal.τ).loc Cert.AttnGradIdeal.main_arg5)
      ∧ r.2.mem ((c.tc : Thread Cert.AttnGradIdeal.nD Cert.AttnGradIdeal.τ).loc Cert.AttnGradIdeal.main_arg6) = m ((c.tc : Thread Cert.AttnGradIdeal.nD Cert.AttnGradIdeal.τ).loc Cert.AttnGradIdeal.main_arg6)
      ∧ r.2.mem ((c.tc : Thread Cert.AttnGradIdeal.nD Cert.AttnGradIdeal.τ).loc Cert.AttnGradIdeal.main_arg7) = m ((c.tc : Thread Cert.AttnGradIdeal.nD Cert.AttnGradIdeal.τ).loc Cert.AttnGradIdeal.main_arg7)
      ∧ r.2.mem ((c.tc : Thread Cert.AttnGradIdeal.nD Cert.AttnGradIdeal.τ).loc Cert.AttnGradIdeal.main_arg8) = m ((c.tc : Thread Cert.AttnGradIdeal.nD Cert.AttnGradIdeal.τ).loc Cert.AttnGradIdeal.main_arg8)
      ∧ r.2.mem ((c.tc : Thread Cert.AttnGradIdeal.nD Cert.AttnGradIdeal.τ).loc Cert.AttnGradIdeal.main_arg9) = m ((c.tc : Thread Cert.AttnGradIdeal.nD Cert.AttnGradIdeal.τ).loc Cert.AttnGradIdeal.main_arg9)
      ∧ r.2.mem ((c.tc : Thread Cert.AttnGradIdeal.nD Cert.AttnGradIdeal.τ).loc Cert.AttnGradIdeal.main_arg10) = m ((c.tc : Thread Cert.AttnGradIdeal.nD Cert.AttnGradIdeal.τ).loc Cert.AttnGradIdeal.main_arg10)
      ∧ r.2.mem ((c.tc : Thread Cert.AttnGradIdeal.nD Cert.AttnGradIdeal.τ).loc Cert.AttnGradIdeal.main_arg11) = m ((c.tc : Thread Cert.AttnGradIdeal.nD Cert.AttnGradIdeal.τ).loc Cert.AttnGradIdeal.main_arg11))
      ∧ r.2.sem = fun _ => 0)

def quiescent_AttnGradIdeal_pre_finite_gate [hAttnGradIdeal : Cert.AttnGradIdeal.Facts] [hPre_finite_gate : Cert.Pre_finite_gate.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_finite_gate m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4)
      ∧ r.2.mem ((c.tc : Thread Cert.AttnGradIdeal.nD Cert.AttnGradIdeal.τ).loc Cert.AttnGradIdeal.main_arg5) = m ((c.tc : Thread Cert.AttnGradIdeal.nD Cert.AttnGradIdeal.τ).loc Cert.AttnGradIdeal.main_arg5)
      ∧ r.2.mem ((c.tc : Thread Cert.AttnGradIdeal.nD Cert.AttnGradIdeal.τ).loc Cert.AttnGradIdeal.main_arg6) = m ((c.tc : Thread Cert.AttnGradIdeal.nD Cert.AttnGradIdeal.τ).loc Cert.AttnGradIdeal.main_arg6)
      ∧ r.2.mem ((c.tc : Thread Cert.AttnGradIdeal.nD Cert.AttnGradIdeal.τ).loc Cert.AttnGradIdeal.main_arg7) = m ((c.tc : Thread Cert.AttnGradIdeal.nD Cert.AttnGradIdeal.τ).loc Cert.AttnGradIdeal.main_arg7)
      ∧ r.2.mem ((c.tc : Thread Cert.AttnGradIdeal.nD Cert.AttnGradIdeal.τ).loc Cert.AttnGradIdeal.main_arg8) = m ((c.tc : Thread Cert.AttnGradIdeal.nD Cert.AttnGradIdeal.τ).loc Cert.AttnGradIdeal.main_arg8)
      ∧ r.2.mem ((c.tc : Thread Cert.AttnGradIdeal.nD Cert.AttnGradIdeal.τ).loc Cert.AttnGradIdeal.main_arg9) = m ((c.tc : Thread Cert.AttnGradIdeal.nD Cert.AttnGradIdeal.τ).loc Cert.AttnGradIdeal.main_arg9)
      ∧ r.2.mem ((c.tc : Thread Cert.AttnGradIdeal.nD Cert.AttnGradIdeal.τ).loc Cert.AttnGradIdeal.main_arg10) = m ((c.tc : Thread Cert.AttnGradIdeal.nD Cert.AttnGradIdeal.τ).loc Cert.AttnGradIdeal.main_arg10)
      ∧ r.2.mem ((c.tc : Thread Cert.AttnGradIdeal.nD Cert.AttnGradIdeal.τ).loc Cert.AttnGradIdeal.main_arg11) = m ((c.tc : Thread Cert.AttnGradIdeal.nD Cert.AttnGradIdeal.τ).loc Cert.AttnGradIdeal.main_arg11))
      ∧ r.2.sem = fun _ => 0)

def quiescent_AttnGradRefIdeal [hAttnGradRefIdeal : Cert.AttnGradRefIdeal.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4)
      ∧ r.2.mem ((c.tc : Thread Cert.AttnGradRefIdeal.nD Cert.AttnGradRefIdeal.τ).loc Cert.AttnGradRefIdeal.main_arg5) = m ((c.tc : Thread Cert.AttnGradRefIdeal.nD Cert.AttnGradRefIdeal.τ).loc Cert.AttnGradRefIdeal.main_arg5)
      ∧ r.2.mem ((c.tc : Thread Cert.AttnGradRefIdeal.nD Cert.AttnGradRefIdeal.τ).loc Cert.AttnGradRefIdeal.main_arg6) = m ((c.tc : Thread Cert.AttnGradRefIdeal.nD Cert.AttnGradRefIdeal.τ).loc Cert.AttnGradRefIdeal.main_arg6)
      ∧ r.2.mem ((c.tc : Thread Cert.AttnGradRefIdeal.nD Cert.AttnGradRefIdeal.τ).loc Cert.AttnGradRefIdeal.main_arg7) = m ((c.tc : Thread Cert.AttnGradRefIdeal.nD Cert.AttnGradRefIdeal.τ).loc Cert.AttnGradRefIdeal.main_arg7)
      ∧ r.2.mem ((c.tc : Thread Cert.AttnGradRefIdeal.nD Cert.AttnGradRefIdeal.τ).loc Cert.AttnGradRefIdeal.main_arg8) = m ((c.tc : Thread Cert.AttnGradRefIdeal.nD Cert.AttnGradRefIdeal.τ).loc Cert.AttnGradRefIdeal.main_arg8)
      ∧ r.2.mem ((c.tc : Thread Cert.AttnGradRefIdeal.nD Cert.AttnGradRefIdeal.τ).loc Cert.AttnGradRefIdeal.main_arg9) = m ((c.tc : Thread Cert.AttnGradRefIdeal.nD Cert.AttnGradRefIdeal.τ).loc Cert.AttnGradRefIdeal.main_arg9)
      ∧ r.2.mem ((c.tc : Thread Cert.AttnGradRefIdeal.nD Cert.AttnGradRefIdeal.τ).loc Cert.AttnGradRefIdeal.main_arg10) = m ((c.tc : Thread Cert.AttnGradRefIdeal.nD Cert.AttnGradRefIdeal.τ).loc Cert.AttnGradRefIdeal.main_arg10)
      ∧ r.2.mem ((c.tc : Thread Cert.AttnGradRefIdeal.nD Cert.AttnGradRefIdeal.τ).loc Cert.AttnGradRefIdeal.main_arg11) = m ((c.tc : Thread Cert.AttnGradRefIdeal.nD Cert.AttnGradRefIdeal.τ).loc Cert.AttnGradRefIdeal.main_arg11))
      ∧ r.2.sem = fun _ => 0)

def quiescent_AttnGradRefIdeal_pre_finite_gate [hAttnGradRefIdeal : Cert.AttnGradRefIdeal.Facts] [hPre_finite_gate : Cert.Pre_finite_gate.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal_finite_gate m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4)
      ∧ r.2.mem ((c.tc : Thread Cert.AttnGradRefIdeal.nD Cert.AttnGradRefIdeal.τ).loc Cert.AttnGradRefIdeal.main_arg5) = m ((c.tc : Thread Cert.AttnGradRefIdeal.nD Cert.AttnGradRefIdeal.τ).loc Cert.AttnGradRefIdeal.main_arg5)
      ∧ r.2.mem ((c.tc : Thread Cert.AttnGradRefIdeal.nD Cert.AttnGradRefIdeal.τ).loc Cert.AttnGradRefIdeal.main_arg6) = m ((c.tc : Thread Cert.AttnGradRefIdeal.nD Cert.AttnGradRefIdeal.τ).loc Cert.AttnGradRefIdeal.main_arg6)
      ∧ r.2.mem ((c.tc : Thread Cert.AttnGradRefIdeal.nD Cert.AttnGradRefIdeal.τ).loc Cert.AttnGradRefIdeal.main_arg7) = m ((c.tc : Thread Cert.AttnGradRefIdeal.nD Cert.AttnGradRefIdeal.τ).loc Cert.AttnGradRefIdeal.main_arg7)
      ∧ r.2.mem ((c.tc : Thread Cert.AttnGradRefIdeal.nD Cert.AttnGradRefIdeal.τ).loc Cert.AttnGradRefIdeal.main_arg8) = m ((c.tc : Thread Cert.AttnGradRefIdeal.nD Cert.AttnGradRefIdeal.τ).loc Cert.AttnGradRefIdeal.main_arg8)
      ∧ r.2.mem ((c.tc : Thread Cert.AttnGradRefIdeal.nD Cert.AttnGradRefIdeal.τ).loc Cert.AttnGradRefIdeal.main_arg9) = m ((c.tc : Thread Cert.AttnGradRefIdeal.nD Cert.AttnGradRefIdeal.τ).loc Cert.AttnGradRefIdeal.main_arg9)
      ∧ r.2.mem ((c.tc : Thread Cert.AttnGradRefIdeal.nD Cert.AttnGradRefIdeal.τ).loc Cert.AttnGradRefIdeal.main_arg10) = m ((c.tc : Thread Cert.AttnGradRefIdeal.nD Cert.AttnGradRefIdeal.τ).loc Cert.AttnGradRefIdeal.main_arg10)
      ∧ r.2.mem ((c.tc : Thread Cert.AttnGradRefIdeal.nD Cert.AttnGradRefIdeal.τ).loc Cert.AttnGradRefIdeal.main_arg11) = m ((c.tc : Thread Cert.AttnGradRefIdeal.nD Cert.AttnGradRefIdeal.τ).loc Cert.AttnGradRefIdeal.main_arg11))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossIdeal_pre_finite_loss [hFfnLossIdeal : Cert.FfnLossIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_finite_loss m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_FfnLossRefIdeal_pre_finite_loss [hFfnLossRefIdeal : Cert.FfnLossRefIdeal.Facts] [hPre_finite_loss : Cert.Pre_finite_loss.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal_finite_loss m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_AdamA [hAdamA : Cert.AdamA.Facts] : Prop :=
  ∀ (m : (ℓ : Loc Cert.AdamA.nD Cert.AdamA.τ Cert.AdamA.sig) → Buf (Elt Bits) ℓ) (g : Dev Cert.AdamA.nD → PrngReg), Pre_AdamA m →
    θ_run (Cert.AdamA.defs (F := Bits)) (onTc (τ := Cert.AdamA.τ) (Cert.AdamA.main (F := Bits))) ⟨m, fun _ => 0, g⟩ (fun r => (∀ c : Dev Cert.AdamA.nD,
      r.2.mem ((c.tc : Thread Cert.AdamA.nD Cert.AdamA.τ).loc Cert.AdamA.main_arg0) = m ((c.tc : Thread Cert.AdamA.nD Cert.AdamA.τ).loc Cert.AdamA.main_arg0)
      ∧ r.2.mem ((c.tc : Thread Cert.AdamA.nD Cert.AdamA.τ).loc Cert.AdamA.main_arg1) = m ((c.tc : Thread Cert.AdamA.nD Cert.AdamA.τ).loc Cert.AdamA.main_arg1)
      ∧ r.2.mem ((c.tc : Thread Cert.AdamA.nD Cert.AdamA.τ).loc Cert.AdamA.main_arg2) = m ((c.tc : Thread Cert.AdamA.nD Cert.AdamA.τ).loc Cert.AdamA.main_arg2)
      ∧ r.2.mem ((c.tc : Thread Cert.AdamA.nD Cert.AdamA.τ).loc Cert.AdamA.main_arg3) = m ((c.tc : Thread Cert.AdamA.nD Cert.AdamA.τ).loc Cert.AdamA.main_arg3)
      ∧ r.2.mem ((c.tc : Thread Cert.AdamA.nD Cert.AdamA.τ).loc Cert.AdamA.main_arg4) = m ((c.tc : Thread Cert.AdamA.nD Cert.AdamA.τ).loc Cert.AdamA.main_arg4)
      ∧ r.2.mem ((c.tc : Thread Cert.AdamA.nD Cert.AdamA.τ).loc Cert.AdamA.main_arg5) = m ((c.tc : Thread Cert.AdamA.nD Cert.AdamA.τ).loc Cert.AdamA.main_arg5)
      ∧ r.2.mem ((c.tc : Thread Cert.AdamA.nD Cert.AdamA.τ).loc Cert.AdamA.main_arg6) = m ((c.tc : Thread Cert.AdamA.nD Cert.AdamA.τ).loc Cert.AdamA.main_arg6)
      ∧ r.2.mem ((c.tc : Thread Cert.AdamA.nD Cert.AdamA.τ).loc Cert.AdamA.main_arg7) = m ((c.tc : Thread Cert.AdamA.nD Cert.AdamA.τ).loc Cert.AdamA.main_arg7)
      ∧ r.2.mem ((c.tc : Thread Cert.AdamA.nD Cert.AdamA.τ).loc Cert.AdamA.main_arg8) = m ((c.tc : Thread Cert.AdamA.nD Cert.AdamA.τ).loc Cert.AdamA.main_arg8)
      ∧ r.2.mem ((c.tc : Thread Cert.AdamA.nD Cert.AdamA.τ).loc Cert.AdamA.main_arg9) = m ((c.tc : Thread Cert.AdamA.nD Cert.AdamA.τ).loc Cert.AdamA.main_arg9)
      ∧ r.2.mem ((c.tc : Thread Cert.AdamA.nD Cert.AdamA.τ).loc Cert.AdamA.main_arg10) = m ((c.tc : Thread Cert.AdamA.nD Cert.AdamA.τ).loc Cert.AdamA.main_arg10)
      ∧ r.2.mem ((c.tc : Thread Cert.AdamA.nD Cert.AdamA.τ).loc Cert.AdamA.main_arg11) = m ((c.tc : Thread Cert.AdamA.nD Cert.AdamA.τ).loc Cert.AdamA.main_arg11)
      ∧ r.2.mem ((c.tc : Thread Cert.AdamA.nD Cert.AdamA.τ).loc Cert.AdamA.main_arg12) = m ((c.tc : Thread Cert.AdamA.nD Cert.AdamA.τ).loc Cert.AdamA.main_arg12)
      ∧ r.2.mem ((c.tc : Thread Cert.AdamA.nD Cert.AdamA.τ).loc Cert.AdamA.main_arg13) = m ((c.tc : Thread Cert.AdamA.nD Cert.AdamA.τ).loc Cert.AdamA.main_arg13)
      ∧ r.2.mem ((c.tc : Thread Cert.AdamA.nD Cert.AdamA.τ).loc Cert.AdamA.main_arg14) = m ((c.tc : Thread Cert.AdamA.nD Cert.AdamA.τ).loc Cert.AdamA.main_arg14)
      ∧ r.2.mem ((c.tc : Thread Cert.AdamA.nD Cert.AdamA.τ).loc Cert.AdamA.main_arg15) = m ((c.tc : Thread Cert.AdamA.nD Cert.AdamA.τ).loc Cert.AdamA.main_arg15))
      ∧ r.2.sem = fun _ => 0)

def quiescent_AdamAIdeal [hAdamAIdeal : Cert.AdamAIdeal.Facts] : Prop :=
  ∀ (m : (ℓ : Loc Cert.AdamAIdeal.nD Cert.AdamAIdeal.τ Cert.AdamAIdeal.sig) → Buf (Elt Ideal) ℓ) (g : Dev Cert.AdamAIdeal.nD → PrngReg), Pre_AdamAIdeal m →
    θ_run (Cert.AdamAIdeal.defs (F := Ideal)) (onTc (τ := Cert.AdamAIdeal.τ) (Cert.AdamAIdeal.main (F := Ideal))) ⟨m, fun _ => 0, g⟩ (fun r => (∀ c : Dev Cert.AdamAIdeal.nD,
      r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
      ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
      ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
      ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
      ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4)
      ∧ r.2.mem ((c.tc : Thread Cert.AdamAIdeal.nD Cert.AdamAIdeal.τ).loc Cert.AdamAIdeal.main_arg5) = m ((c.tc : Thread Cert.AdamAIdeal.nD Cert.AdamAIdeal.τ).loc Cert.AdamAIdeal.main_arg5)
      ∧ r.2.mem ((c.tc : Thread Cert.AdamAIdeal.nD Cert.AdamAIdeal.τ).loc Cert.AdamAIdeal.main_arg6) = m ((c.tc : Thread Cert.AdamAIdeal.nD Cert.AdamAIdeal.τ).loc Cert.AdamAIdeal.main_arg6)
      ∧ r.2.mem ((c.tc : Thread Cert.AdamAIdeal.nD Cert.AdamAIdeal.τ).loc Cert.AdamAIdeal.main_arg7) = m ((c.tc : Thread Cert.AdamAIdeal.nD Cert.AdamAIdeal.τ).loc Cert.AdamAIdeal.main_arg7)
      ∧ r.2.mem ((c.tc : Thread Cert.AdamAIdeal.nD Cert.AdamAIdeal.τ).loc Cert.AdamAIdeal.main_arg8) = m ((c.tc : Thread Cert.AdamAIdeal.nD Cert.AdamAIdeal.τ).loc Cert.AdamAIdeal.main_arg8)
      ∧ r.2.mem ((c.tc : Thread Cert.AdamAIdeal.nD Cert.AdamAIdeal.τ).loc Cert.AdamAIdeal.main_arg9) = m ((c.tc : Thread Cert.AdamAIdeal.nD Cert.AdamAIdeal.τ).loc Cert.AdamAIdeal.main_arg9)
      ∧ r.2.mem ((c.tc : Thread Cert.AdamAIdeal.nD Cert.AdamAIdeal.τ).loc Cert.AdamAIdeal.main_arg10) = m ((c.tc : Thread Cert.AdamAIdeal.nD Cert.AdamAIdeal.τ).loc Cert.AdamAIdeal.main_arg10)
      ∧ r.2.mem ((c.tc : Thread Cert.AdamAIdeal.nD Cert.AdamAIdeal.τ).loc Cert.AdamAIdeal.main_arg11) = m ((c.tc : Thread Cert.AdamAIdeal.nD Cert.AdamAIdeal.τ).loc Cert.AdamAIdeal.main_arg11)
      ∧ r.2.mem ((c.tc : Thread Cert.AdamAIdeal.nD Cert.AdamAIdeal.τ).loc Cert.AdamAIdeal.main_arg12) = m ((c.tc : Thread Cert.AdamAIdeal.nD Cert.AdamAIdeal.τ).loc Cert.AdamAIdeal.main_arg12)
      ∧ r.2.mem ((c.tc : Thread Cert.AdamAIdeal.nD Cert.AdamAIdeal.τ).loc Cert.AdamAIdeal.main_arg13) = m ((c.tc : Thread Cert.AdamAIdeal.nD Cert.AdamAIdeal.τ).loc Cert.AdamAIdeal.main_arg13)
      ∧ r.2.mem ((c.tc : Thread Cert.AdamAIdeal.nD Cert.AdamAIdeal.τ).loc Cert.AdamAIdeal.main_arg14) = m ((c.tc : Thread Cert.AdamAIdeal.nD Cert.AdamAIdeal.τ).loc Cert.AdamAIdeal.main_arg14)
      ∧ r.2.mem ((c.tc : Thread Cert.AdamAIdeal.nD Cert.AdamAIdeal.τ).loc Cert.AdamAIdeal.main_arg15) = m ((c.tc : Thread Cert.AdamAIdeal.nD Cert.AdamAIdeal.τ).loc Cert.AdamAIdeal.main_arg15))
      ∧ r.2.sem = fun _ => 0)

def quiescent_AdamARefIdeal [hAdamARefIdeal : Cert.AdamARefIdeal.Facts] : Prop :=
  ∀ (m : (ℓ : Loc Cert.AdamARefIdeal.nD Cert.AdamARefIdeal.τ Cert.AdamARefIdeal.sig) → Buf (Elt Ideal) ℓ) (g : Dev Cert.AdamARefIdeal.nD → PrngReg), Pre_AdamARefIdeal m →
    θ_run (Cert.AdamARefIdeal.defs (F := Ideal)) (onTc (τ := Cert.AdamARefIdeal.τ) (Cert.AdamARefIdeal.main (F := Ideal))) ⟨m, fun _ => 0, g⟩ (fun r => (∀ c : Dev Cert.AdamARefIdeal.nD,
      r.2.mem ((c.tc : Thread Cert.AdamARefIdeal.nD Cert.AdamARefIdeal.τ).loc Cert.AdamARefIdeal.main_arg0) = m ((c.tc : Thread Cert.AdamARefIdeal.nD Cert.AdamARefIdeal.τ).loc Cert.AdamARefIdeal.main_arg0)
      ∧ r.2.mem ((c.tc : Thread Cert.AdamARefIdeal.nD Cert.AdamARefIdeal.τ).loc Cert.AdamARefIdeal.main_arg1) = m ((c.tc : Thread Cert.AdamARefIdeal.nD Cert.AdamARefIdeal.τ).loc Cert.AdamARefIdeal.main_arg1)
      ∧ r.2.mem ((c.tc : Thread Cert.AdamARefIdeal.nD Cert.AdamARefIdeal.τ).loc Cert.AdamARefIdeal.main_arg2) = m ((c.tc : Thread Cert.AdamARefIdeal.nD Cert.AdamARefIdeal.τ).loc Cert.AdamARefIdeal.main_arg2)
      ∧ r.2.mem ((c.tc : Thread Cert.AdamARefIdeal.nD Cert.AdamARefIdeal.τ).loc Cert.AdamARefIdeal.main_arg3) = m ((c.tc : Thread Cert.AdamARefIdeal.nD Cert.AdamARefIdeal.τ).loc Cert.AdamARefIdeal.main_arg3)
      ∧ r.2.mem ((c.tc : Thread Cert.AdamARefIdeal.nD Cert.AdamARefIdeal.τ).loc Cert.AdamARefIdeal.main_arg4) = m ((c.tc : Thread Cert.AdamARefIdeal.nD Cert.AdamARefIdeal.τ).loc Cert.AdamARefIdeal.main_arg4)
      ∧ r.2.mem ((c.tc : Thread Cert.AdamARefIdeal.nD Cert.AdamARefIdeal.τ).loc Cert.AdamARefIdeal.main_arg5) = m ((c.tc : Thread Cert.AdamARefIdeal.nD Cert.AdamARefIdeal.τ).loc Cert.AdamARefIdeal.main_arg5)
      ∧ r.2.mem ((c.tc : Thread Cert.AdamARefIdeal.nD Cert.AdamARefIdeal.τ).loc Cert.AdamARefIdeal.main_arg6) = m ((c.tc : Thread Cert.AdamARefIdeal.nD Cert.AdamARefIdeal.τ).loc Cert.AdamARefIdeal.main_arg6)
      ∧ r.2.mem ((c.tc : Thread Cert.AdamARefIdeal.nD Cert.AdamARefIdeal.τ).loc Cert.AdamARefIdeal.main_arg7) = m ((c.tc : Thread Cert.AdamARefIdeal.nD Cert.AdamARefIdeal.τ).loc Cert.AdamARefIdeal.main_arg7)
      ∧ r.2.mem ((c.tc : Thread Cert.AdamARefIdeal.nD Cert.AdamARefIdeal.τ).loc Cert.AdamARefIdeal.main_arg8) = m ((c.tc : Thread Cert.AdamARefIdeal.nD Cert.AdamARefIdeal.τ).loc Cert.AdamARefIdeal.main_arg8)
      ∧ r.2.mem ((c.tc : Thread Cert.AdamARefIdeal.nD Cert.AdamARefIdeal.τ).loc Cert.AdamARefIdeal.main_arg9) = m ((c.tc : Thread Cert.AdamARefIdeal.nD Cert.AdamARefIdeal.τ).loc Cert.AdamARefIdeal.main_arg9)
      ∧ r.2.mem ((c.tc : Thread Cert.AdamARefIdeal.nD Cert.AdamARefIdeal.τ).loc Cert.AdamARefIdeal.main_arg10) = m ((c.tc : Thread Cert.AdamARefIdeal.nD Cert.AdamARefIdeal.τ).loc Cert.AdamARefIdeal.main_arg10)
      ∧ r.2.mem ((c.tc : Thread Cert.AdamARefIdeal.nD Cert.AdamARefIdeal.τ).loc Cert.AdamARefIdeal.main_arg11) = m ((c.tc : Thread Cert.AdamARefIdeal.nD Cert.AdamARefIdeal.τ).loc Cert.AdamARefIdeal.main_arg11)
      ∧ r.2.mem ((c.tc : Thread Cert.AdamARefIdeal.nD Cert.AdamARefIdeal.τ).loc Cert.AdamARefIdeal.main_arg12) = m ((c.tc : Thread Cert.AdamARefIdeal.nD Cert.AdamARefIdeal.τ).loc Cert.AdamARefIdeal.main_arg12)
      ∧ r.2.mem ((c.tc : Thread Cert.AdamARefIdeal.nD Cert.AdamARefIdeal.τ).loc Cert.AdamARefIdeal.main_arg13) = m ((c.tc : Thread Cert.AdamARefIdeal.nD Cert.AdamARefIdeal.τ).loc Cert.AdamARefIdeal.main_arg13)
      ∧ r.2.mem ((c.tc : Thread Cert.AdamARefIdeal.nD Cert.AdamARefIdeal.τ).loc Cert.AdamARefIdeal.main_arg14) = m ((c.tc : Thread Cert.AdamARefIdeal.nD Cert.AdamARefIdeal.τ).loc Cert.AdamARefIdeal.main_arg14)
      ∧ r.2.mem ((c.tc : Thread Cert.AdamARefIdeal.nD Cert.AdamARefIdeal.τ).loc Cert.AdamARefIdeal.main_arg15) = m ((c.tc : Thread Cert.AdamARefIdeal.nD Cert.AdamARefIdeal.τ).loc Cert.AdamARefIdeal.main_arg15))
      ∧ r.2.sem = fun _ => 0)

def preserves_ActGrad_ActGradIdeal : Prop :=
  True

def algebraic_ActGradIdeal_ActGradRefIdeal_pre_finite_act [hActGradIdeal : Cert.ActGradIdeal.Facts] [hActGradRefIdeal : Cert.ActGradRefIdeal.Facts] [hPre_finite_act : Cert.Pre_finite_act.Facts] : Prop :=
  ∀ (m : (ℓ : Loc Cert.ActGradIdeal.nD Cert.ActGradIdeal.τ Cert.ActGradIdeal.sig) → Buf (Elt Ideal) ℓ) (g : Dev Cert.ActGradIdeal.nD → PrngReg)
    (m' : (ℓ : Loc Cert.ActGradRefIdeal.nD Cert.ActGradRefIdeal.τ Cert.ActGradRefIdeal.sig) → Buf (Elt Ideal) ℓ) (g' : Dev Cert.ActGradRefIdeal.nD → PrngReg), Pre_ActGradIdeal_finite_act m →
    (∀ c : Dev Cert.ActGradIdeal.nD,
      m' ((c.tc : Thread Cert.ActGradRefIdeal.nD Cert.ActGradRefIdeal.τ).loc Cert.ActGradRefIdeal.main_arg0) = m ((c.tc : Thread Cert.ActGradIdeal.nD Cert.ActGradIdeal.τ).loc Cert.ActGradIdeal.main_arg0)
      ∧ m' ((c.tc : Thread Cert.ActGradRefIdeal.nD Cert.ActGradRefIdeal.τ).loc Cert.ActGradRefIdeal.main_arg1) = m ((c.tc : Thread Cert.ActGradIdeal.nD Cert.ActGradIdeal.τ).loc Cert.ActGradIdeal.main_arg1)
      ∧ m' ((c.tc : Thread Cert.ActGradRefIdeal.nD Cert.ActGradRefIdeal.τ).loc Cert.ActGradRefIdeal.main_arg2) = m ((c.tc : Thread Cert.ActGradIdeal.nD Cert.ActGradIdeal.τ).loc Cert.ActGradIdeal.main_arg2)
      ∧ m' ((c.tc : Thread Cert.ActGradRefIdeal.nD Cert.ActGradRefIdeal.τ).loc Cert.ActGradRefIdeal.main_arg3) = m ((c.tc : Thread Cert.ActGradIdeal.nD Cert.ActGradIdeal.τ).loc Cert.ActGradIdeal.main_arg3)) →
    ∃ (v0 : (c : Dev Cert.ActGradIdeal.nD) → Buf (Elt Ideal) ((c.tc : Thread Cert.ActGradIdeal.nD Cert.ActGradIdeal.τ).loc Cert.ActGradIdeal.main_v21_0)) (v1 : (c : Dev Cert.ActGradIdeal.nD) → Buf (Elt Ideal) ((c.tc : Thread Cert.ActGradIdeal.nD Cert.ActGradIdeal.τ).loc Cert.ActGradIdeal.main_v21_1)),
      θ_run (Cert.ActGradIdeal.defs (F := Ideal)) (onTc (τ := Cert.ActGradIdeal.τ) (Cert.ActGradIdeal.main (F := Ideal))) ⟨m, fun _ => 0, g⟩ (fun r => ∀ c : Dev Cert.ActGradIdeal.nD,
          r.2.mem ((c.tc : Thread Cert.ActGradIdeal.nD Cert.ActGradIdeal.τ).loc Cert.ActGradIdeal.main_v21_0) = v0 c
          ∧ r.2.mem ((c.tc : Thread Cert.ActGradIdeal.nD Cert.ActGradIdeal.τ).loc Cert.ActGradIdeal.main_v21_1) = v1 c
          ∧ r.2.mem ((c.tc : Thread Cert.ActGradIdeal.nD Cert.ActGradIdeal.τ).loc Cert.ActGradIdeal.main_arg0) = m ((c.tc : Thread Cert.ActGradIdeal.nD Cert.ActGradIdeal.τ).loc Cert.ActGradIdeal.main_arg0)
          ∧ r.2.mem ((c.tc : Thread Cert.ActGradIdeal.nD Cert.ActGradIdeal.τ).loc Cert.ActGradIdeal.main_arg1) = m ((c.tc : Thread Cert.ActGradIdeal.nD Cert.ActGradIdeal.τ).loc Cert.ActGradIdeal.main_arg1)
          ∧ r.2.mem ((c.tc : Thread Cert.ActGradIdeal.nD Cert.ActGradIdeal.τ).loc Cert.ActGradIdeal.main_arg2) = m ((c.tc : Thread Cert.ActGradIdeal.nD Cert.ActGradIdeal.τ).loc Cert.ActGradIdeal.main_arg2)
          ∧ r.2.mem ((c.tc : Thread Cert.ActGradIdeal.nD Cert.ActGradIdeal.τ).loc Cert.ActGradIdeal.main_arg3) = m ((c.tc : Thread Cert.ActGradIdeal.nD Cert.ActGradIdeal.τ).loc Cert.ActGradIdeal.main_arg3))
      ∧ θ_run (Cert.ActGradRefIdeal.defs (F := Ideal)) (onTc (τ := Cert.ActGradRefIdeal.τ) (Cert.ActGradRefIdeal.main (F := Ideal))) ⟨m', fun _ => 0, g'⟩ (fun r => ∀ c : Dev Cert.ActGradRefIdeal.nD,
          r.2.mem ((c.tc : Thread Cert.ActGradRefIdeal.nD Cert.ActGradRefIdeal.τ).loc Cert.ActGradRefIdeal.main_v8) = v0 c
          ∧ r.2.mem ((c.tc : Thread Cert.ActGradRefIdeal.nD Cert.ActGradRefIdeal.τ).loc Cert.ActGradRefIdeal.main_v9) = v1 c
          ∧ r.2.mem ((c.tc : Thread Cert.ActGradRefIdeal.nD Cert.ActGradRefIdeal.τ).loc Cert.ActGradRefIdeal.main_arg0) = m' ((c.tc : Thread Cert.ActGradRefIdeal.nD Cert.ActGradRefIdeal.τ).loc Cert.ActGradRefIdeal.main_arg0)
          ∧ r.2.mem ((c.tc : Thread Cert.ActGradRefIdeal.nD Cert.ActGradRefIdeal.τ).loc Cert.ActGradRefIdeal.main_arg1) = m' ((c.tc : Thread Cert.ActGradRefIdeal.nD Cert.ActGradRefIdeal.τ).loc Cert.ActGradRefIdeal.main_arg1)
          ∧ r.2.mem ((c.tc : Thread Cert.ActGradRefIdeal.nD Cert.ActGradRefIdeal.τ).loc Cert.ActGradRefIdeal.main_arg2) = m' ((c.tc : Thread Cert.ActGradRefIdeal.nD Cert.ActGradRefIdeal.τ).loc Cert.ActGradRefIdeal.main_arg2)
          ∧ r.2.mem ((c.tc : Thread Cert.ActGradRefIdeal.nD Cert.ActGradRefIdeal.τ).loc Cert.ActGradRefIdeal.main_arg3) = m' ((c.tc : Thread Cert.ActGradRefIdeal.nD Cert.ActGradRefIdeal.τ).loc Cert.ActGradRefIdeal.main_arg3))

def preserves_WeightGrad_WeightGradIdeal : Prop :=
  True

def algebraic_WeightGradIdeal_WeightGradRefIdeal [hWeightGradIdeal : Cert.WeightGradIdeal.Facts] [hWeightGradRefIdeal : Cert.WeightGradRefIdeal.Facts] : Prop :=
  ∀ (m : (ℓ : Loc Cert.WeightGradIdeal.nD Cert.WeightGradIdeal.τ Cert.WeightGradIdeal.sig) → Buf (Elt Ideal) ℓ) (g : Dev Cert.WeightGradIdeal.nD → PrngReg)
    (m' : (ℓ : Loc Cert.WeightGradRefIdeal.nD Cert.WeightGradRefIdeal.τ Cert.WeightGradRefIdeal.sig) → Buf (Elt Ideal) ℓ) (g' : Dev Cert.WeightGradRefIdeal.nD → PrngReg), Pre_WeightGradIdeal m →
    (∀ c : Dev Cert.WeightGradIdeal.nD,
      m' ((c.tc : Thread Cert.WeightGradRefIdeal.nD Cert.WeightGradRefIdeal.τ).loc Cert.WeightGradRefIdeal.main_arg0) = m ((c.tc : Thread Cert.WeightGradIdeal.nD Cert.WeightGradIdeal.τ).loc Cert.WeightGradIdeal.main_arg0)
      ∧ m' ((c.tc : Thread Cert.WeightGradRefIdeal.nD Cert.WeightGradRefIdeal.τ).loc Cert.WeightGradRefIdeal.main_arg1) = m ((c.tc : Thread Cert.WeightGradIdeal.nD Cert.WeightGradIdeal.τ).loc Cert.WeightGradIdeal.main_arg1)) →
    ∃ (v0 : (c : Dev Cert.WeightGradIdeal.nD) → Buf (Elt Ideal) ((c.tc : Thread Cert.WeightGradIdeal.nD Cert.WeightGradIdeal.τ).loc Cert.WeightGradIdeal.main_v0)),
      θ_run (Cert.WeightGradIdeal.defs (F := Ideal)) (onTc (τ := Cert.WeightGradIdeal.τ) (Cert.WeightGradIdeal.main (F := Ideal))) ⟨m, fun _ => 0, g⟩ (fun r => ∀ c : Dev Cert.WeightGradIdeal.nD,
          r.2.mem ((c.tc : Thread Cert.WeightGradIdeal.nD Cert.WeightGradIdeal.τ).loc Cert.WeightGradIdeal.main_v0) = v0 c
          ∧ r.2.mem ((c.tc : Thread Cert.WeightGradIdeal.nD Cert.WeightGradIdeal.τ).loc Cert.WeightGradIdeal.main_arg0) = m ((c.tc : Thread Cert.WeightGradIdeal.nD Cert.WeightGradIdeal.τ).loc Cert.WeightGradIdeal.main_arg0)
          ∧ r.2.mem ((c.tc : Thread Cert.WeightGradIdeal.nD Cert.WeightGradIdeal.τ).loc Cert.WeightGradIdeal.main_arg1) = m ((c.tc : Thread Cert.WeightGradIdeal.nD Cert.WeightGradIdeal.τ).loc Cert.WeightGradIdeal.main_arg1))
      ∧ θ_run (Cert.WeightGradRefIdeal.defs (F := Ideal)) (onTc (τ := Cert.WeightGradRefIdeal.τ) (Cert.WeightGradRefIdeal.main (F := Ideal))) ⟨m', fun _ => 0, g'⟩ (fun r => ∀ c : Dev Cert.WeightGradRefIdeal.nD,
          r.2.mem ((c.tc : Thread Cert.WeightGradRefIdeal.nD Cert.WeightGradRefIdeal.τ).loc Cert.WeightGradRefIdeal.main_v6) = v0 c
          ∧ r.2.mem ((c.tc : Thread Cert.WeightGradRefIdeal.nD Cert.WeightGradRefIdeal.τ).loc Cert.WeightGradRefIdeal.main_arg0) = m' ((c.tc : Thread Cert.WeightGradRefIdeal.nD Cert.WeightGradRefIdeal.τ).loc Cert.WeightGradRefIdeal.main_arg0)
          ∧ r.2.mem ((c.tc : Thread Cert.WeightGradRefIdeal.nD Cert.WeightGradRefIdeal.τ).loc Cert.WeightGradRefIdeal.main_arg1) = m' ((c.tc : Thread Cert.WeightGradRefIdeal.nD Cert.WeightGradRefIdeal.τ).loc Cert.WeightGradRefIdeal.main_arg1))

def preserves_NormGrad_NormGradIdeal : Prop :=
  True

def algebraic_NormGradIdeal_NormGradRefIdeal_pre_finite_norm [hNormGradIdeal : Cert.NormGradIdeal.Facts] [hNormGradRefIdeal : Cert.NormGradRefIdeal.Facts] [hPre_finite_norm : Cert.Pre_finite_norm.Facts] : Prop :=
  ∀ (m : (ℓ : Loc Cert.NormGradIdeal.nD Cert.NormGradIdeal.τ Cert.NormGradIdeal.sig) → Buf (Elt Ideal) ℓ) (g : Dev Cert.NormGradIdeal.nD → PrngReg)
    (m' : (ℓ : Loc Cert.NormGradRefIdeal.nD Cert.NormGradRefIdeal.τ Cert.NormGradRefIdeal.sig) → Buf (Elt Ideal) ℓ) (g' : Dev Cert.NormGradRefIdeal.nD → PrngReg), Pre_NormGradIdeal_finite_norm m →
    (∀ c : Dev Cert.NormGradIdeal.nD,
      m' ((c.tc : Thread Cert.NormGradRefIdeal.nD Cert.NormGradRefIdeal.τ).loc Cert.NormGradRefIdeal.main_arg0) = m ((c.tc : Thread Cert.NormGradIdeal.nD Cert.NormGradIdeal.τ).loc Cert.NormGradIdeal.main_arg0)
      ∧ m' ((c.tc : Thread Cert.NormGradRefIdeal.nD Cert.NormGradRefIdeal.τ).loc Cert.NormGradRefIdeal.main_arg1) = m ((c.tc : Thread Cert.NormGradIdeal.nD Cert.NormGradIdeal.τ).loc Cert.NormGradIdeal.main_arg1)
      ∧ m' ((c.tc : Thread Cert.NormGradRefIdeal.nD Cert.NormGradRefIdeal.τ).loc Cert.NormGradRefIdeal.main_arg2) = m ((c.tc : Thread Cert.NormGradIdeal.nD Cert.NormGradIdeal.τ).loc Cert.NormGradIdeal.main_arg2)
      ∧ m' ((c.tc : Thread Cert.NormGradRefIdeal.nD Cert.NormGradRefIdeal.τ).loc Cert.NormGradRefIdeal.main_arg3) = m ((c.tc : Thread Cert.NormGradIdeal.nD Cert.NormGradIdeal.τ).loc Cert.NormGradIdeal.main_arg3)
      ∧ m' ((c.tc : Thread Cert.NormGradRefIdeal.nD Cert.NormGradRefIdeal.τ).loc Cert.NormGradRefIdeal.main_arg4) = m ((c.tc : Thread Cert.NormGradIdeal.nD Cert.NormGradIdeal.τ).loc Cert.NormGradIdeal.main_arg4)
      ∧ m' ((c.tc : Thread Cert.NormGradRefIdeal.nD Cert.NormGradRefIdeal.τ).loc Cert.NormGradRefIdeal.main_arg5) = m ((c.tc : Thread Cert.NormGradIdeal.nD Cert.NormGradIdeal.τ).loc Cert.NormGradIdeal.main_arg5)
      ∧ m' ((c.tc : Thread Cert.NormGradRefIdeal.nD Cert.NormGradRefIdeal.τ).loc Cert.NormGradRefIdeal.main_arg6) = m ((c.tc : Thread Cert.NormGradIdeal.nD Cert.NormGradIdeal.τ).loc Cert.NormGradIdeal.main_arg6)) →
    ∃ (v0 : (c : Dev Cert.NormGradIdeal.nD) → Buf (Elt Ideal) ((c.tc : Thread Cert.NormGradIdeal.nD Cert.NormGradIdeal.τ).loc Cert.NormGradIdeal.main_v6_0)) (v1 : (c : Dev Cert.NormGradIdeal.nD) → Buf (Elt Ideal) ((c.tc : Thread Cert.NormGradIdeal.nD Cert.NormGradIdeal.τ).loc Cert.NormGradIdeal.main_v6_1)) (v2 : (c : Dev Cert.NormGradIdeal.nD) → Buf (Elt Ideal) ((c.tc : Thread Cert.NormGradIdeal.nD Cert.NormGradIdeal.τ).loc Cert.NormGradIdeal.main_v6_2)),
      θ_run (Cert.NormGradIdeal.defs (F := Ideal)) (onTc (τ := Cert.NormGradIdeal.τ) (Cert.NormGradIdeal.main (F := Ideal))) ⟨m, fun _ => 0, g⟩ (fun r => ∀ c : Dev Cert.NormGradIdeal.nD,
          r.2.mem ((c.tc : Thread Cert.NormGradIdeal.nD Cert.NormGradIdeal.τ).loc Cert.NormGradIdeal.main_v6_0) = v0 c
          ∧ r.2.mem ((c.tc : Thread Cert.NormGradIdeal.nD Cert.NormGradIdeal.τ).loc Cert.NormGradIdeal.main_v6_1) = v1 c
          ∧ r.2.mem ((c.tc : Thread Cert.NormGradIdeal.nD Cert.NormGradIdeal.τ).loc Cert.NormGradIdeal.main_v6_2) = v2 c
          ∧ r.2.mem ((c.tc : Thread Cert.NormGradIdeal.nD Cert.NormGradIdeal.τ).loc Cert.NormGradIdeal.main_arg0) = m ((c.tc : Thread Cert.NormGradIdeal.nD Cert.NormGradIdeal.τ).loc Cert.NormGradIdeal.main_arg0)
          ∧ r.2.mem ((c.tc : Thread Cert.NormGradIdeal.nD Cert.NormGradIdeal.τ).loc Cert.NormGradIdeal.main_arg1) = m ((c.tc : Thread Cert.NormGradIdeal.nD Cert.NormGradIdeal.τ).loc Cert.NormGradIdeal.main_arg1)
          ∧ r.2.mem ((c.tc : Thread Cert.NormGradIdeal.nD Cert.NormGradIdeal.τ).loc Cert.NormGradIdeal.main_arg2) = m ((c.tc : Thread Cert.NormGradIdeal.nD Cert.NormGradIdeal.τ).loc Cert.NormGradIdeal.main_arg2)
          ∧ r.2.mem ((c.tc : Thread Cert.NormGradIdeal.nD Cert.NormGradIdeal.τ).loc Cert.NormGradIdeal.main_arg3) = m ((c.tc : Thread Cert.NormGradIdeal.nD Cert.NormGradIdeal.τ).loc Cert.NormGradIdeal.main_arg3)
          ∧ r.2.mem ((c.tc : Thread Cert.NormGradIdeal.nD Cert.NormGradIdeal.τ).loc Cert.NormGradIdeal.main_arg4) = m ((c.tc : Thread Cert.NormGradIdeal.nD Cert.NormGradIdeal.τ).loc Cert.NormGradIdeal.main_arg4)
          ∧ r.2.mem ((c.tc : Thread Cert.NormGradIdeal.nD Cert.NormGradIdeal.τ).loc Cert.NormGradIdeal.main_arg5) = m ((c.tc : Thread Cert.NormGradIdeal.nD Cert.NormGradIdeal.τ).loc Cert.NormGradIdeal.main_arg5)
          ∧ r.2.mem ((c.tc : Thread Cert.NormGradIdeal.nD Cert.NormGradIdeal.τ).loc Cert.NormGradIdeal.main_arg6) = m ((c.tc : Thread Cert.NormGradIdeal.nD Cert.NormGradIdeal.τ).loc Cert.NormGradIdeal.main_arg6))
      ∧ θ_run (Cert.NormGradRefIdeal.defs (F := Ideal)) (onTc (τ := Cert.NormGradRefIdeal.τ) (Cert.NormGradRefIdeal.main (F := Ideal))) ⟨m', fun _ => 0, g'⟩ (fun r => ∀ c : Dev Cert.NormGradRefIdeal.nD,
          r.2.mem ((c.tc : Thread Cert.NormGradRefIdeal.nD Cert.NormGradRefIdeal.τ).loc Cert.NormGradRefIdeal.main_v44) = v0 c
          ∧ r.2.mem ((c.tc : Thread Cert.NormGradRefIdeal.nD Cert.NormGradRefIdeal.τ).loc Cert.NormGradRefIdeal.main_v45) = v1 c
          ∧ r.2.mem ((c.tc : Thread Cert.NormGradRefIdeal.nD Cert.NormGradRefIdeal.τ).loc Cert.NormGradRefIdeal.main_v46) = v2 c
          ∧ r.2.mem ((c.tc : Thread Cert.NormGradRefIdeal.nD Cert.NormGradRefIdeal.τ).loc Cert.NormGradRefIdeal.main_arg0) = m' ((c.tc : Thread Cert.NormGradRefIdeal.nD Cert.NormGradRefIdeal.τ).loc Cert.NormGradRefIdeal.main_arg0)
          ∧ r.2.mem ((c.tc : Thread Cert.NormGradRefIdeal.nD Cert.NormGradRefIdeal.τ).loc Cert.NormGradRefIdeal.main_arg1) = m' ((c.tc : Thread Cert.NormGradRefIdeal.nD Cert.NormGradRefIdeal.τ).loc Cert.NormGradRefIdeal.main_arg1)
          ∧ r.2.mem ((c.tc : Thread Cert.NormGradRefIdeal.nD Cert.NormGradRefIdeal.τ).loc Cert.NormGradRefIdeal.main_arg2) = m' ((c.tc : Thread Cert.NormGradRefIdeal.nD Cert.NormGradRefIdeal.τ).loc Cert.NormGradRefIdeal.main_arg2)
          ∧ r.2.mem ((c.tc : Thread Cert.NormGradRefIdeal.nD Cert.NormGradRefIdeal.τ).loc Cert.NormGradRefIdeal.main_arg3) = m' ((c.tc : Thread Cert.NormGradRefIdeal.nD Cert.NormGradRefIdeal.τ).loc Cert.NormGradRefIdeal.main_arg3)
          ∧ r.2.mem ((c.tc : Thread Cert.NormGradRefIdeal.nD Cert.NormGradRefIdeal.τ).loc Cert.NormGradRefIdeal.main_arg4) = m' ((c.tc : Thread Cert.NormGradRefIdeal.nD Cert.NormGradRefIdeal.τ).loc Cert.NormGradRefIdeal.main_arg4)
          ∧ r.2.mem ((c.tc : Thread Cert.NormGradRefIdeal.nD Cert.NormGradRefIdeal.τ).loc Cert.NormGradRefIdeal.main_arg5) = m' ((c.tc : Thread Cert.NormGradRefIdeal.nD Cert.NormGradRefIdeal.τ).loc Cert.NormGradRefIdeal.main_arg5)
          ∧ r.2.mem ((c.tc : Thread Cert.NormGradRefIdeal.nD Cert.NormGradRefIdeal.τ).loc Cert.NormGradRefIdeal.main_arg6) = m' ((c.tc : Thread Cert.NormGradRefIdeal.nD Cert.NormGradRefIdeal.τ).loc Cert.NormGradRefIdeal.main_arg6))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v7) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixNorm_MixNormIdeal : Prop :=
  True

def algebraic_MixNormIdeal_MixNormRefIdeal_pre_finite_mix [hMixNormIdeal : Cert.MixNormIdeal.Facts] [hMixNormRefIdeal : Cert.MixNormRefIdeal.Facts] [hPre_finite_mix : Cert.Pre_finite_mix.Facts] : Prop :=
  ∀ (m : (ℓ : Loc Cert.MixNormIdeal.nD Cert.MixNormIdeal.τ Cert.MixNormIdeal.sig) → Buf (Elt Ideal) ℓ) (g : Dev Cert.MixNormIdeal.nD → PrngReg)
    (m' : (ℓ : Loc Cert.MixNormRefIdeal.nD Cert.MixNormRefIdeal.τ Cert.MixNormRefIdeal.sig) → Buf (Elt Ideal) ℓ) (g' : Dev Cert.MixNormRefIdeal.nD → PrngReg), Pre_MixNormIdeal_finite_mix m →
    (∀ c : Dev Cert.MixNormIdeal.nD,
      m' ((c.tc : Thread Cert.MixNormRefIdeal.nD Cert.MixNormRefIdeal.τ).loc Cert.MixNormRefIdeal.main_arg0) = m ((c.tc : Thread Cert.MixNormIdeal.nD Cert.MixNormIdeal.τ).loc Cert.MixNormIdeal.main_arg0)
      ∧ m' ((c.tc : Thread Cert.MixNormRefIdeal.nD Cert.MixNormRefIdeal.τ).loc Cert.MixNormRefIdeal.main_arg1) = m ((c.tc : Thread Cert.MixNormIdeal.nD Cert.MixNormIdeal.τ).loc Cert.MixNormIdeal.main_arg1)
      ∧ m' ((c.tc : Thread Cert.MixNormRefIdeal.nD Cert.MixNormRefIdeal.τ).loc Cert.MixNormRefIdeal.main_arg2) = m ((c.tc : Thread Cert.MixNormIdeal.nD Cert.MixNormIdeal.τ).loc Cert.MixNormIdeal.main_arg2)
      ∧ m' ((c.tc : Thread Cert.MixNormRefIdeal.nD Cert.MixNormRefIdeal.τ).loc Cert.MixNormRefIdeal.main_arg3) = m ((c.tc : Thread Cert.MixNormIdeal.nD Cert.MixNormIdeal.τ).loc Cert.MixNormIdeal.main_arg3)
      ∧ m' ((c.tc : Thread Cert.MixNormRefIdeal.nD Cert.MixNormRefIdeal.τ).loc Cert.MixNormRefIdeal.main_arg4) = m ((c.tc : Thread Cert.MixNormIdeal.nD Cert.MixNormIdeal.τ).loc Cert.MixNormIdeal.main_arg4)) →
    ∃ (v0 : (c : Dev Cert.MixNormIdeal.nD) → Buf (Elt Ideal) ((c.tc : Thread Cert.MixNormIdeal.nD Cert.MixNormIdeal.τ).loc Cert.MixNormIdeal.main_v3_0)) (v1 : (c : Dev Cert.MixNormIdeal.nD) → Buf (Elt Ideal) ((c.tc : Thread Cert.MixNormIdeal.nD Cert.MixNormIdeal.τ).loc Cert.MixNormIdeal.main_v3_1)) (v2 : (c : Dev Cert.MixNormIdeal.nD) → Buf (Elt Ideal) ((c.tc : Thread Cert.MixNormIdeal.nD Cert.MixNormIdeal.τ).loc Cert.MixNormIdeal.main_v3_2)),
      θ_run (Cert.MixNormIdeal.defs (F := Ideal)) (onTc (τ := Cert.MixNormIdeal.τ) (Cert.MixNormIdeal.main (F := Ideal))) ⟨m, fun _ => 0, g⟩ (fun r => ∀ c : Dev Cert.MixNormIdeal.nD,
          r.2.mem ((c.tc : Thread Cert.MixNormIdeal.nD Cert.MixNormIdeal.τ).loc Cert.MixNormIdeal.main_v3_0) = v0 c
          ∧ r.2.mem ((c.tc : Thread Cert.MixNormIdeal.nD Cert.MixNormIdeal.τ).loc Cert.MixNormIdeal.main_v3_1) = v1 c
          ∧ r.2.mem ((c.tc : Thread Cert.MixNormIdeal.nD Cert.MixNormIdeal.τ).loc Cert.MixNormIdeal.main_v3_2) = v2 c
          ∧ r.2.mem ((c.tc : Thread Cert.MixNormIdeal.nD Cert.MixNormIdeal.τ).loc Cert.MixNormIdeal.main_arg0) = m ((c.tc : Thread Cert.MixNormIdeal.nD Cert.MixNormIdeal.τ).loc Cert.MixNormIdeal.main_arg0)
          ∧ r.2.mem ((c.tc : Thread Cert.MixNormIdeal.nD Cert.MixNormIdeal.τ).loc Cert.MixNormIdeal.main_arg1) = m ((c.tc : Thread Cert.MixNormIdeal.nD Cert.MixNormIdeal.τ).loc Cert.MixNormIdeal.main_arg1)
          ∧ r.2.mem ((c.tc : Thread Cert.MixNormIdeal.nD Cert.MixNormIdeal.τ).loc Cert.MixNormIdeal.main_arg2) = m ((c.tc : Thread Cert.MixNormIdeal.nD Cert.MixNormIdeal.τ).loc Cert.MixNormIdeal.main_arg2)
          ∧ r.2.mem ((c.tc : Thread Cert.MixNormIdeal.nD Cert.MixNormIdeal.τ).loc Cert.MixNormIdeal.main_arg3) = m ((c.tc : Thread Cert.MixNormIdeal.nD Cert.MixNormIdeal.τ).loc Cert.MixNormIdeal.main_arg3)
          ∧ r.2.mem ((c.tc : Thread Cert.MixNormIdeal.nD Cert.MixNormIdeal.τ).loc Cert.MixNormIdeal.main_arg4) = m ((c.tc : Thread Cert.MixNormIdeal.nD Cert.MixNormIdeal.τ).loc Cert.MixNormIdeal.main_arg4))
      ∧ θ_run (Cert.MixNormRefIdeal.defs (F := Ideal)) (onTc (τ := Cert.MixNormRefIdeal.τ) (Cert.MixNormRefIdeal.main (F := Ideal))) ⟨m', fun _ => 0, g'⟩ (fun r => ∀ c : Dev Cert.MixNormRefIdeal.nD,
          r.2.mem ((c.tc : Thread Cert.MixNormRefIdeal.nD Cert.MixNormRefIdeal.τ).loc Cert.MixNormRefIdeal.main_v40) = v0 c
          ∧ r.2.mem ((c.tc : Thread Cert.MixNormRefIdeal.nD Cert.MixNormRefIdeal.τ).loc Cert.MixNormRefIdeal.main_v43) = v1 c
          ∧ r.2.mem ((c.tc : Thread Cert.MixNormRefIdeal.nD Cert.MixNormRefIdeal.τ).loc Cert.MixNormRefIdeal.main_v44) = v2 c
          ∧ r.2.mem ((c.tc : Thread Cert.MixNormRefIdeal.nD Cert.MixNormRefIdeal.τ).loc Cert.MixNormRefIdeal.main_arg0) = m' ((c.tc : Thread Cert.MixNormRefIdeal.nD Cert.MixNormRefIdeal.τ).loc Cert.MixNormRefIdeal.main_arg0)
          ∧ r.2.mem ((c.tc : Thread Cert.MixNormRefIdeal.nD Cert.MixNormRefIdeal.τ).loc Cert.MixNormRefIdeal.main_arg1) = m' ((c.tc : Thread Cert.MixNormRefIdeal.nD Cert.MixNormRefIdeal.τ).loc Cert.MixNormRefIdeal.main_arg1)
          ∧ r.2.mem ((c.tc : Thread Cert.MixNormRefIdeal.nD Cert.MixNormRefIdeal.τ).loc Cert.MixNormRefIdeal.main_arg2) = m' ((c.tc : Thread Cert.MixNormRefIdeal.nD Cert.MixNormRefIdeal.τ).loc Cert.MixNormRefIdeal.main_arg2)
          ∧ r.2.mem ((c.tc : Thread Cert.MixNormRefIdeal.nD Cert.MixNormRefIdeal.τ).loc Cert.MixNormRefIdeal.main_arg3) = m' ((c.tc : Thread Cert.MixNormRefIdeal.nD Cert.MixNormRefIdeal.τ).loc Cert.MixNormRefIdeal.main_arg3)
          ∧ r.2.mem ((c.tc : Thread Cert.MixNormRefIdeal.nD Cert.MixNormRefIdeal.τ).loc Cert.MixNormRefIdeal.main_arg4) = m' ((c.tc : Thread Cert.MixNormRefIdeal.nD Cert.MixNormRefIdeal.τ).loc Cert.MixNormRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v4_0)) (v1 : (c : Dev Cert.AdamInIdeal.nD) → Buf (Elt Ideal) ((c.tc : Thread Cert.AdamInIdeal.nD Cert.AdamInIdeal.τ).loc Cert.AdamInIdeal.main_v4_1)) (v2 : (c : Dev Cert.AdamInIdeal.nD) → Buf (Elt Ideal) ((c.tc : Thread Cert.AdamInIdeal.nD Cert.AdamInIdeal.τ).loc Cert.AdamInIdeal.main_v4_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v4_0) = v0 c
          ∧ r.2.mem ((c.tc : Thread Cert.AdamInIdeal.nD Cert.AdamInIdeal.τ).loc Cert.AdamInIdeal.main_v4_1) = v1 c
          ∧ r.2.mem ((c.tc : Thread Cert.AdamInIdeal.nD Cert.AdamInIdeal.τ).loc Cert.AdamInIdeal.main_v4_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v24) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v26) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)
      ∧ m' ((c.tc : Thread Cert.AdamBRefIdeal.nD Cert.AdamBRefIdeal.τ).loc Cert.AdamBRefIdeal.main_arg4) = m ((c.tc : Thread Cert.AdamBIdeal.nD Cert.AdamBIdeal.τ).loc Cert.AdamBIdeal.main_arg4)
      ∧ m' ((c.tc : Thread Cert.AdamBRefIdeal.nD Cert.AdamBRefIdeal.τ).loc Cert.AdamBRefIdeal.main_arg5) = m ((c.tc : Thread Cert.AdamBIdeal.nD Cert.AdamBIdeal.τ).loc Cert.AdamBIdeal.main_arg5)
      ∧ m' ((c.tc : Thread Cert.AdamBRefIdeal.nD Cert.AdamBRefIdeal.τ).loc Cert.AdamBRefIdeal.main_arg6) = m ((c.tc : Thread Cert.AdamBIdeal.nD Cert.AdamBIdeal.τ).loc Cert.AdamBIdeal.main_arg6)
      ∧ m' ((c.tc : Thread Cert.AdamBRefIdeal.nD Cert.AdamBRefIdeal.τ).loc Cert.AdamBRefIdeal.main_arg7) = m ((c.tc : Thread Cert.AdamBIdeal.nD Cert.AdamBIdeal.τ).loc Cert.AdamBIdeal.main_arg7)
      ∧ m' ((c.tc : Thread Cert.AdamBRefIdeal.nD Cert.AdamBRefIdeal.τ).loc Cert.AdamBRefIdeal.main_arg8) = m ((c.tc : Thread Cert.AdamBIdeal.nD Cert.AdamBIdeal.τ).loc Cert.AdamBIdeal.main_arg8)
      ∧ m' ((c.tc : Thread Cert.AdamBRefIdeal.nD Cert.AdamBRefIdeal.τ).loc Cert.AdamBRefIdeal.main_arg9) = m ((c.tc : Thread Cert.AdamBIdeal.nD Cert.AdamBIdeal.τ).loc Cert.AdamBIdeal.main_arg9)
      ∧ m' ((c.tc : Thread Cert.AdamBRefIdeal.nD Cert.AdamBRefIdeal.τ).loc Cert.AdamBRefIdeal.main_arg10) = m ((c.tc : Thread Cert.AdamBIdeal.nD Cert.AdamBIdeal.τ).loc Cert.AdamBIdeal.main_arg10)
      ∧ m' ((c.tc : Thread Cert.AdamBRefIdeal.nD Cert.AdamBRefIdeal.τ).loc Cert.AdamBRefIdeal.main_arg11) = m ((c.tc : Thread Cert.AdamBIdeal.nD Cert.AdamBIdeal.τ).loc Cert.AdamBIdeal.main_arg11)) →
    ∃ (v0 : (c : Dev Cert.AdamBIdeal.nD) → Buf (Elt Ideal) ((c.tc : Thread Cert.AdamBIdeal.nD Cert.AdamBIdeal.τ).loc Cert.AdamBIdeal.main_v20_0)) (v1 : (c : Dev Cert.AdamBIdeal.nD) → Buf (Elt Ideal) ((c.tc : Thread Cert.AdamBIdeal.nD Cert.AdamBIdeal.τ).loc Cert.AdamBIdeal.main_v20_1)) (v2 : (c : Dev Cert.AdamBIdeal.nD) → Buf (Elt Ideal) ((c.tc : Thread Cert.AdamBIdeal.nD Cert.AdamBIdeal.τ).loc Cert.AdamBIdeal.main_v20_2)) (v3 : (c : Dev Cert.AdamBIdeal.nD) → Buf (Elt Ideal) ((c.tc : Thread Cert.AdamBIdeal.nD Cert.AdamBIdeal.τ).loc Cert.AdamBIdeal.main_v20_3)) (v4 : (c : Dev Cert.AdamBIdeal.nD) → Buf (Elt Ideal) ((c.tc : Thread Cert.AdamBIdeal.nD Cert.AdamBIdeal.τ).loc Cert.AdamBIdeal.main_v20_4)) (v5 : (c : Dev Cert.AdamBIdeal.nD) → Buf (Elt Ideal) ((c.tc : Thread Cert.AdamBIdeal.nD Cert.AdamBIdeal.τ).loc Cert.AdamBIdeal.main_v20_5)) (v6 : (c : Dev Cert.AdamBIdeal.nD) → Buf (Elt Ideal) ((c.tc : Thread Cert.AdamBIdeal.nD Cert.AdamBIdeal.τ).loc Cert.AdamBIdeal.main_v20_6)) (v7 : (c : Dev Cert.AdamBIdeal.nD) → Buf (Elt Ideal) ((c.tc : Thread Cert.AdamBIdeal.nD Cert.AdamBIdeal.τ).loc Cert.AdamBIdeal.main_v20_7)) (v8 : (c : Dev Cert.AdamBIdeal.nD) → Buf (Elt Ideal) ((c.tc : Thread Cert.AdamBIdeal.nD Cert.AdamBIdeal.τ).loc Cert.AdamBIdeal.main_v20_8)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v20_0) = v0 c
          ∧ r.2.mem ((c.tc : Thread Cert.AdamBIdeal.nD Cert.AdamBIdeal.τ).loc Cert.AdamBIdeal.main_v20_1) = v1 c
          ∧ r.2.mem ((c.tc : Thread Cert.AdamBIdeal.nD Cert.AdamBIdeal.τ).loc Cert.AdamBIdeal.main_v20_2) = v2 c
          ∧ r.2.mem ((c.tc : Thread Cert.AdamBIdeal.nD Cert.AdamBIdeal.τ).loc Cert.AdamBIdeal.main_v20_3) = v3 c
          ∧ r.2.mem ((c.tc : Thread Cert.AdamBIdeal.nD Cert.AdamBIdeal.τ).loc Cert.AdamBIdeal.main_v20_4) = v4 c
          ∧ r.2.mem ((c.tc : Thread Cert.AdamBIdeal.nD Cert.AdamBIdeal.τ).loc Cert.AdamBIdeal.main_v20_5) = v5 c
          ∧ r.2.mem ((c.tc : Thread Cert.AdamBIdeal.nD Cert.AdamBIdeal.τ).loc Cert.AdamBIdeal.main_v20_6) = v6 c
          ∧ r.2.mem ((c.tc : Thread Cert.AdamBIdeal.nD Cert.AdamBIdeal.τ).loc Cert.AdamBIdeal.main_v20_7) = v7 c
          ∧ r.2.mem ((c.tc : Thread Cert.AdamBIdeal.nD Cert.AdamBIdeal.τ).loc Cert.AdamBIdeal.main_v20_8) = v8 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3)
          ∧ r.2.mem ((c.tc : Thread Cert.AdamBIdeal.nD Cert.AdamBIdeal.τ).loc Cert.AdamBIdeal.main_arg4) = m ((c.tc : Thread Cert.AdamBIdeal.nD Cert.AdamBIdeal.τ).loc Cert.AdamBIdeal.main_arg4)
          ∧ r.2.mem ((c.tc : Thread Cert.AdamBIdeal.nD Cert.AdamBIdeal.τ).loc Cert.AdamBIdeal.main_arg5) = m ((c.tc : Thread Cert.AdamBIdeal.nD Cert.AdamBIdeal.τ).loc Cert.AdamBIdeal.main_arg5)
          ∧ r.2.mem ((c.tc : Thread Cert.AdamBIdeal.nD Cert.AdamBIdeal.τ).loc Cert.AdamBIdeal.main_arg6) = m ((c.tc : Thread Cert.AdamBIdeal.nD Cert.AdamBIdeal.τ).loc Cert.AdamBIdeal.main_arg6)
          ∧ r.2.mem ((c.tc : Thread Cert.AdamBIdeal.nD Cert.AdamBIdeal.τ).loc Cert.AdamBIdeal.main_arg7) = m ((c.tc : Thread Cert.AdamBIdeal.nD Cert.AdamBIdeal.τ).loc Cert.AdamBIdeal.main_arg7)
          ∧ r.2.mem ((c.tc : Thread Cert.AdamBIdeal.nD Cert.AdamBIdeal.τ).loc Cert.AdamBIdeal.main_arg8) = m ((c.tc : Thread Cert.AdamBIdeal.nD Cert.AdamBIdeal.τ).loc Cert.AdamBIdeal.main_arg8)
          ∧ r.2.mem ((c.tc : Thread Cert.AdamBIdeal.nD Cert.AdamBIdeal.τ).loc Cert.AdamBIdeal.main_arg9) = m ((c.tc : Thread Cert.AdamBIdeal.nD Cert.AdamBIdeal.τ).loc Cert.AdamBIdeal.main_arg9)
          ∧ r.2.mem ((c.tc : Thread Cert.AdamBIdeal.nD Cert.AdamBIdeal.τ).loc Cert.AdamBIdeal.main_arg10) = m ((c.tc : Thread Cert.AdamBIdeal.nD Cert.AdamBIdeal.τ).loc Cert.AdamBIdeal.main_arg10)
          ∧ r.2.mem ((c.tc : Thread Cert.AdamBIdeal.nD Cert.AdamBIdeal.τ).loc Cert.AdamBIdeal.main_arg11) = m ((c.tc : Thread Cert.AdamBIdeal.nD Cert.AdamBIdeal.τ).loc Cert.AdamBIdeal.main_arg11))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v73) = v0 c
          ∧ r.2.mem ((c.tc : Thread Cert.AdamBRefIdeal.nD Cert.AdamBRefIdeal.τ).loc Cert.AdamBRefIdeal.main_v75) = v1 c
          ∧ r.2.mem ((c.tc : Thread Cert.AdamBRefIdeal.nD Cert.AdamBRefIdeal.τ).loc Cert.AdamBRefIdeal.main_v77) = v2 c
          ∧ r.2.mem ((c.tc : Thread Cert.AdamBRefIdeal.nD Cert.AdamBRefIdeal.τ).loc Cert.AdamBRefIdeal.main_v79) = v3 c
          ∧ r.2.mem ((c.tc : Thread Cert.AdamBRefIdeal.nD Cert.AdamBRefIdeal.τ).loc Cert.AdamBRefIdeal.main_v81) = v4 c
          ∧ r.2.mem ((c.tc : Thread Cert.AdamBRefIdeal.nD Cert.AdamBRefIdeal.τ).loc Cert.AdamBRefIdeal.main_v83) = v5 c
          ∧ r.2.mem ((c.tc : Thread Cert.AdamBRefIdeal.nD Cert.AdamBRefIdeal.τ).loc Cert.AdamBRefIdeal.main_v84) = v6 c
          ∧ r.2.mem ((c.tc : Thread Cert.AdamBRefIdeal.nD Cert.AdamBRefIdeal.τ).loc Cert.AdamBRefIdeal.main_v85) = v7 c
          ∧ r.2.mem ((c.tc : Thread Cert.AdamBRefIdeal.nD Cert.AdamBRefIdeal.τ).loc Cert.AdamBRefIdeal.main_v86) = v8 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3)
          ∧ r.2.mem ((c.tc : Thread Cert.AdamBRefIdeal.nD Cert.AdamBRefIdeal.τ).loc Cert.AdamBRefIdeal.main_arg4) = m' ((c.tc : Thread Cert.AdamBRefIdeal.nD Cert.AdamBRefIdeal.τ).loc Cert.AdamBRefIdeal.main_arg4)
          ∧ r.2.mem ((c.tc : Thread Cert.AdamBRefIdeal.nD Cert.AdamBRefIdeal.τ).loc Cert.AdamBRefIdeal.main_arg5) = m' ((c.tc : Thread Cert.AdamBRefIdeal.nD Cert.AdamBRefIdeal.τ).loc Cert.AdamBRefIdeal.main_arg5)
          ∧ r.2.mem ((c.tc : Thread Cert.AdamBRefIdeal.nD Cert.AdamBRefIdeal.τ).loc Cert.AdamBRefIdeal.main_arg6) = m' ((c.tc : Thread Cert.AdamBRefIdeal.nD Cert.AdamBRefIdeal.τ).loc Cert.AdamBRefIdeal.main_arg6)
          ∧ r.2.mem ((c.tc : Thread Cert.AdamBRefIdeal.nD Cert.AdamBRefIdeal.τ).loc Cert.AdamBRefIdeal.main_arg7) = m' ((c.tc : Thread Cert.AdamBRefIdeal.nD Cert.AdamBRefIdeal.τ).loc Cert.AdamBRefIdeal.main_arg7)
          ∧ r.2.mem ((c.tc : Thread Cert.AdamBRefIdeal.nD Cert.AdamBRefIdeal.τ).loc Cert.AdamBRefIdeal.main_arg8) = m' ((c.tc : Thread Cert.AdamBRefIdeal.nD Cert.AdamBRefIdeal.τ).loc Cert.AdamBRefIdeal.main_arg8)
          ∧ r.2.mem ((c.tc : Thread Cert.AdamBRefIdeal.nD Cert.AdamBRefIdeal.τ).loc Cert.AdamBRefIdeal.main_arg9) = m' ((c.tc : Thread Cert.AdamBRefIdeal.nD Cert.AdamBRefIdeal.τ).loc Cert.AdamBRefIdeal.main_arg9)
          ∧ r.2.mem ((c.tc : Thread Cert.AdamBRefIdeal.nD Cert.AdamBRefIdeal.τ).loc Cert.AdamBRefIdeal.main_arg10) = m' ((c.tc : Thread Cert.AdamBRefIdeal.nD Cert.AdamBRefIdeal.τ).loc Cert.AdamBRefIdeal.main_arg10)
          ∧ r.2.mem ((c.tc : Thread Cert.AdamBRefIdeal.nD Cert.AdamBRefIdeal.τ).loc Cert.AdamBRefIdeal.main_arg11) = m' ((c.tc : Thread Cert.AdamBRefIdeal.nD Cert.AdamBRefIdeal.τ).loc Cert.AdamBRefIdeal.main_arg11))

def preserves_AttnGrad_AttnGradIdeal : Prop :=
  True

def algebraic_AttnGradIdeal_AttnGradRefIdeal_on_gate_columns_pre_finite_gate [hAttnGradIdeal : Cert.AttnGradIdeal.Facts] [hAttnGradRefIdeal : Cert.AttnGradRefIdeal.Facts] [hPre_finite_gate : Cert.Pre_finite_gate.Facts] [hOn_gate_columns : Cert.On_gate_columns.Facts] : Prop :=
  ∀ (m : (ℓ : Loc Cert.AttnGradIdeal.nD Cert.AttnGradIdeal.τ Cert.AttnGradIdeal.sig) → Buf (Elt Ideal) ℓ) (g : Dev Cert.AttnGradIdeal.nD → PrngReg)
    (m' : (ℓ : Loc Cert.AttnGradRefIdeal.nD Cert.AttnGradRefIdeal.τ Cert.AttnGradRefIdeal.sig) → Buf (Elt Ideal) ℓ) (g' : Dev Cert.AttnGradRefIdeal.nD → PrngReg), Pre_AttnGradIdeal_finite_gate m →
    (∀ c : Dev Cert.AttnGradIdeal.nD,
      m' ((c.tc : Thread Cert.AttnGradRefIdeal.nD Cert.AttnGradRefIdeal.τ).loc Cert.AttnGradRefIdeal.main_arg0) = m ((c.tc : Thread Cert.AttnGradIdeal.nD Cert.AttnGradIdeal.τ).loc Cert.AttnGradIdeal.main_arg0)
      ∧ m' ((c.tc : Thread Cert.AttnGradRefIdeal.nD Cert.AttnGradRefIdeal.τ).loc Cert.AttnGradRefIdeal.main_arg1) = m ((c.tc : Thread Cert.AttnGradIdeal.nD Cert.AttnGradIdeal.τ).loc Cert.AttnGradIdeal.main_arg1)
      ∧ m' ((c.tc : Thread Cert.AttnGradRefIdeal.nD Cert.AttnGradRefIdeal.τ).loc Cert.AttnGradRefIdeal.main_arg2) = m ((c.tc : Thread Cert.AttnGradIdeal.nD Cert.AttnGradIdeal.τ).loc Cert.AttnGradIdeal.main_arg2)
      ∧ m' ((c.tc : Thread Cert.AttnGradRefIdeal.nD Cert.AttnGradRefIdeal.τ).loc Cert.AttnGradRefIdeal.main_arg3) = m ((c.tc : Thread Cert.AttnGradIdeal.nD Cert.AttnGradIdeal.τ).loc Cert.AttnGradIdeal.main_arg3)
      ∧ m' ((c.tc : Thread Cert.AttnGradRefIdeal.nD Cert.AttnGradRefIdeal.τ).loc Cert.AttnGradRefIdeal.main_arg4) = m ((c.tc : Thread Cert.AttnGradIdeal.nD Cert.AttnGradIdeal.τ).loc Cert.AttnGradIdeal.main_arg4)
      ∧ m' ((c.tc : Thread Cert.AttnGradRefIdeal.nD Cert.AttnGradRefIdeal.τ).loc Cert.AttnGradRefIdeal.main_arg5) = m ((c.tc : Thread Cert.AttnGradIdeal.nD Cert.AttnGradIdeal.τ).loc Cert.AttnGradIdeal.main_arg5)
      ∧ m' ((c.tc : Thread Cert.AttnGradRefIdeal.nD Cert.AttnGradRefIdeal.τ).loc Cert.AttnGradRefIdeal.main_arg6) = m ((c.tc : Thread Cert.AttnGradIdeal.nD Cert.AttnGradIdeal.τ).loc Cert.AttnGradIdeal.main_arg6)
      ∧ m' ((c.tc : Thread Cert.AttnGradRefIdeal.nD Cert.AttnGradRefIdeal.τ).loc Cert.AttnGradRefIdeal.main_arg7) = m ((c.tc : Thread Cert.AttnGradIdeal.nD Cert.AttnGradIdeal.τ).loc Cert.AttnGradIdeal.main_arg7)
      ∧ m' ((c.tc : Thread Cert.AttnGradRefIdeal.nD Cert.AttnGradRefIdeal.τ).loc Cert.AttnGradRefIdeal.main_arg8) = m ((c.tc : Thread Cert.AttnGradIdeal.nD Cert.AttnGradIdeal.τ).loc Cert.AttnGradIdeal.main_arg8)
      ∧ m' ((c.tc : Thread Cert.AttnGradRefIdeal.nD Cert.AttnGradRefIdeal.τ).loc Cert.AttnGradRefIdeal.main_arg9) = m ((c.tc : Thread Cert.AttnGradIdeal.nD Cert.AttnGradIdeal.τ).loc Cert.AttnGradIdeal.main_arg9)
      ∧ m' ((c.tc : Thread Cert.AttnGradRefIdeal.nD Cert.AttnGradRefIdeal.τ).loc Cert.AttnGradRefIdeal.main_arg10) = m ((c.tc : Thread Cert.AttnGradIdeal.nD Cert.AttnGradIdeal.τ).loc Cert.AttnGradIdeal.main_arg10)
      ∧ m' ((c.tc : Thread Cert.AttnGradRefIdeal.nD Cert.AttnGradRefIdeal.τ).loc Cert.AttnGradRefIdeal.main_arg11) = m ((c.tc : Thread Cert.AttnGradIdeal.nD Cert.AttnGradIdeal.τ).loc Cert.AttnGradIdeal.main_arg11)) →
    ∃ (v0 : (c : Dev Cert.AttnGradIdeal.nD) → Buf (Elt Ideal) ((c.tc : Thread Cert.AttnGradIdeal.nD Cert.AttnGradIdeal.τ).loc Cert.AttnGradIdeal.main_v0_0)) (v1 : (c : Dev Cert.AttnGradIdeal.nD) → Buf (Elt Ideal) ((c.tc : Thread Cert.AttnGradIdeal.nD Cert.AttnGradIdeal.τ).loc Cert.AttnGradIdeal.main_v0_1)) (v2 : (c : Dev Cert.AttnGradIdeal.nD) → Buf (Elt Ideal) ((c.tc : Thread Cert.AttnGradIdeal.nD Cert.AttnGradIdeal.τ).loc Cert.AttnGradIdeal.main_v0_2)),
      θ_run (Cert.AttnGradIdeal.defs (F := Ideal)) (onTc (τ := Cert.AttnGradIdeal.τ) (Cert.AttnGradIdeal.main (F := Ideal))) ⟨m, fun _ => 0, g⟩ (fun r => ∀ c : Dev Cert.AttnGradIdeal.nD,
          (∀ i : (⟨2, ![4096, 3200]⟩ : Shape).Idx, (Cert.On_gate_columns.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5)) (m ((c.tc : Thread Cert.AttnGradIdeal.nD Cert.AttnGradIdeal.τ).loc Cert.AttnGradIdeal.main_arg6)) (m ((c.tc : Thread Cert.AttnGradIdeal.nD Cert.AttnGradIdeal.τ).loc Cert.AttnGradIdeal.main_arg7)) (m ((c.tc : Thread Cert.AttnGradIdeal.nD Cert.AttnGradIdeal.τ).loc Cert.AttnGradIdeal.main_arg8)) (m ((c.tc : Thread Cert.AttnGradIdeal.nD Cert.AttnGradIdeal.τ).loc Cert.AttnGradIdeal.main_arg9)) (m ((c.tc : Thread Cert.AttnGradIdeal.nD Cert.AttnGradIdeal.τ).loc Cert.AttnGradIdeal.main_arg10)) (m ((c.tc : Thread Cert.AttnGradIdeal.nD Cert.AttnGradIdeal.τ).loc Cert.AttnGradIdeal.main_arg11))).1 i = 1#1 → r.2.mem ((c.tc : Thread Cert.AttnGradIdeal.nD Cert.AttnGradIdeal.τ).loc Cert.AttnGradIdeal.main_v0_0) i = v0 c i)
          ∧ (∀ i : (⟨2, ![1, 512]⟩ : Shape).Idx, (Cert.On_gate_columns.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5)) (m ((c.tc : Thread Cert.AttnGradIdeal.nD Cert.AttnGradIdeal.τ).loc Cert.AttnGradIdeal.main_arg6)) (m ((c.tc : Thread Cert.AttnGradIdeal.nD Cert.AttnGradIdeal.τ).loc Cert.AttnGradIdeal.main_arg7)) (m ((c.tc : Thread Cert.AttnGradIdeal.nD Cert.AttnGradIdeal.τ).loc Cert.AttnGradIdeal.main_arg8)) (m ((c.tc : Thread Cert.AttnGradIdeal.nD Cert.AttnGradIdeal.τ).loc Cert.AttnGradIdeal.main_arg9)) (m ((c.tc : Thread Cert.AttnGradIdeal.nD Cert.AttnGradIdeal.τ).loc Cert.AttnGradIdeal.main_arg10)) (m ((c.tc : Thread Cert.AttnGradIdeal.nD Cert.AttnGradIdeal.τ).loc Cert.AttnGradIdeal.main_arg11))).2.1 i = 1#1 → r.2.mem ((c.tc : Thread Cert.AttnGradIdeal.nD Cert.AttnGradIdeal.τ).loc Cert.AttnGradIdeal.main_v0_1) i = v1 c i)
          ∧ (∀ i : (⟨2, ![1, 512]⟩ : Shape).Idx, (Cert.On_gate_columns.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5)) (m ((c.tc : Thread Cert.AttnGradIdeal.nD Cert.AttnGradIdeal.τ).loc Cert.AttnGradIdeal.main_arg6)) (m ((c.tc : Thread Cert.AttnGradIdeal.nD Cert.AttnGradIdeal.τ).loc Cert.AttnGradIdeal.main_arg7)) (m ((c.tc : Thread Cert.AttnGradIdeal.nD Cert.AttnGradIdeal.τ).loc Cert.AttnGradIdeal.main_arg8)) (m ((c.tc : Thread Cert.AttnGradIdeal.nD Cert.AttnGradIdeal.τ).loc Cert.AttnGradIdeal.main_arg9)) (m ((c.tc : Thread Cert.AttnGradIdeal.nD Cert.AttnGradIdeal.τ).loc Cert.AttnGradIdeal.main_arg10)) (m ((c.tc : Thread Cert.AttnGradIdeal.nD Cert.AttnGradIdeal.τ).loc Cert.AttnGradIdeal.main_arg11))).2.2 i = 1#1 → r.2.mem ((c.tc : Thread Cert.AttnGradIdeal.nD Cert.AttnGradIdeal.τ).loc Cert.AttnGradIdeal.main_v0_2) i = v2 c i)
          ∧ r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
          ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4)
          ∧ r.2.mem ((c.tc : Thread Cert.AttnGradIdeal.nD Cert.AttnGradIdeal.τ).loc Cert.AttnGradIdeal.main_arg5) = m ((c.tc : Thread Cert.AttnGradIdeal.nD Cert.AttnGradIdeal.τ).loc Cert.AttnGradIdeal.main_arg5)
          ∧ r.2.mem ((c.tc : Thread Cert.AttnGradIdeal.nD Cert.AttnGradIdeal.τ).loc Cert.AttnGradIdeal.main_arg6) = m ((c.tc : Thread Cert.AttnGradIdeal.nD Cert.AttnGradIdeal.τ).loc Cert.AttnGradIdeal.main_arg6)
          ∧ r.2.mem ((c.tc : Thread Cert.AttnGradIdeal.nD Cert.AttnGradIdeal.τ).loc Cert.AttnGradIdeal.main_arg7) = m ((c.tc : Thread Cert.AttnGradIdeal.nD Cert.AttnGradIdeal.τ).loc Cert.AttnGradIdeal.main_arg7)
          ∧ r.2.mem ((c.tc : Thread Cert.AttnGradIdeal.nD Cert.AttnGradIdeal.τ).loc Cert.AttnGradIdeal.main_arg8) = m ((c.tc : Thread Cert.AttnGradIdeal.nD Cert.AttnGradIdeal.τ).loc Cert.AttnGradIdeal.main_arg8)
          ∧ r.2.mem ((c.tc : Thread Cert.AttnGradIdeal.nD Cert.AttnGradIdeal.τ).loc Cert.AttnGradIdeal.main_arg9) = m ((c.tc : Thread Cert.AttnGradIdeal.nD Cert.AttnGradIdeal.τ).loc Cert.AttnGradIdeal.main_arg9)
          ∧ r.2.mem ((c.tc : Thread Cert.AttnGradIdeal.nD Cert.AttnGradIdeal.τ).loc Cert.AttnGradIdeal.main_arg10) = m ((c.tc : Thread Cert.AttnGradIdeal.nD Cert.AttnGradIdeal.τ).loc Cert.AttnGradIdeal.main_arg10)
          ∧ r.2.mem ((c.tc : Thread Cert.AttnGradIdeal.nD Cert.AttnGradIdeal.τ).loc Cert.AttnGradIdeal.main_arg11) = m ((c.tc : Thread Cert.AttnGradIdeal.nD Cert.AttnGradIdeal.τ).loc Cert.AttnGradIdeal.main_arg11))
      ∧ θ_run (Cert.AttnGradRefIdeal.defs (F := Ideal)) (onTc (τ := Cert.AttnGradRefIdeal.τ) (Cert.AttnGradRefIdeal.main (F := Ideal))) ⟨m', fun _ => 0, g'⟩ (fun r => ∀ c : Dev Cert.AttnGradRefIdeal.nD,
          (∀ i : (⟨2, ![4096, 3200]⟩ : Shape).Idx, (Cert.On_gate_columns.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5)) (m ((c.tc : Thread Cert.AttnGradIdeal.nD Cert.AttnGradIdeal.τ).loc Cert.AttnGradIdeal.main_arg6)) (m ((c.tc : Thread Cert.AttnGradIdeal.nD Cert.AttnGradIdeal.τ).loc Cert.AttnGradIdeal.main_arg7)) (m ((c.tc : Thread Cert.AttnGradIdeal.nD Cert.AttnGradIdeal.τ).loc Cert.AttnGradIdeal.main_arg8)) (m ((c.tc : Thread Cert.AttnGradIdeal.nD Cert.AttnGradIdeal.τ).loc Cert.AttnGradIdeal.main_arg9)) (m ((c.tc : Thread Cert.AttnGradIdeal.nD Cert.AttnGradIdeal.τ).loc Cert.AttnGradIdeal.main_arg10)) (m ((c.tc : Thread Cert.AttnGradIdeal.nD Cert.AttnGradIdeal.τ).loc Cert.AttnGradIdeal.main_arg11))).1 i = 1#1 → r.2.mem ((c.tc : Thread Cert.AttnGradRefIdeal.nD Cert.AttnGradRefIdeal.τ).loc Cert.AttnGradRefIdeal.main_v76) i = v0 c i)
          ∧ (∀ i : (⟨2, ![1, 512]⟩ : Shape).Idx, (Cert.On_gate_columns.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5)) (m ((c.tc : Thread Cert.AttnGradIdeal.nD Cert.AttnGradIdeal.τ).loc Cert.AttnGradIdeal.main_arg6)) (m ((c.tc : Thread Cert.AttnGradIdeal.nD Cert.AttnGradIdeal.τ).loc Cert.AttnGradIdeal.main_arg7)) (m ((c.tc : Thread Cert.AttnGradIdeal.nD Cert.AttnGradIdeal.τ).loc Cert.AttnGradIdeal.main_arg8)) (m ((c.tc : Thread Cert.AttnGradIdeal.nD Cert.AttnGradIdeal.τ).loc Cert.AttnGradIdeal.main_arg9)) (m ((c.tc : Thread Cert.AttnGradIdeal.nD Cert.AttnGradIdeal.τ).loc Cert.AttnGradIdeal.main_arg10)) (m ((c.tc : Thread Cert.AttnGradIdeal.nD Cert.AttnGradIdeal.τ).loc Cert.AttnGradIdeal.main_arg11))).2.1 i = 1#1 → r.2.mem ((c.tc : Thread Cert.AttnGradRefIdeal.nD Cert.AttnGradRefIdeal.τ).loc Cert.AttnGradRefIdeal.main_v77) i = v1 c i)
          ∧ (∀ i : (⟨2, ![1, 512]⟩ : Shape).Idx, (Cert.On_gate_columns.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5)) (m ((c.tc : Thread Cert.AttnGradIdeal.nD Cert.AttnGradIdeal.τ).loc Cert.AttnGradIdeal.main_arg6)) (m ((c.tc : Thread Cert.AttnGradIdeal.nD Cert.AttnGradIdeal.τ).loc Cert.AttnGradIdeal.main_arg7)) (m ((c.tc : Thread Cert.AttnGradIdeal.nD Cert.AttnGradIdeal.τ).loc Cert.AttnGradIdeal.main_arg8)) (m ((c.tc : Thread Cert.AttnGradIdeal.nD Cert.AttnGradIdeal.τ).loc Cert.AttnGradIdeal.main_arg9)) (m ((c.tc : Thread Cert.AttnGradIdeal.nD Cert.AttnGradIdeal.τ).loc Cert.AttnGradIdeal.main_arg10)) (m ((c.tc : Thread Cert.AttnGradIdeal.nD Cert.AttnGradIdeal.τ).loc Cert.AttnGradIdeal.main_arg11))).2.2 i = 1#1 → r.2.mem ((c.tc : Thread Cert.AttnGradRefIdeal.nD Cert.AttnGradRefIdeal.τ).loc Cert.AttnGradRefIdeal.main_v78) i = v2 c i)
          ∧ r.2.mem ((c.tc : Thread Cert.AttnGradRefIdeal.nD Cert.AttnGradRefIdeal.τ).loc Cert.AttnGradRefIdeal.main_arg0) = m' ((c.tc : Thread Cert.AttnGradRefIdeal.nD Cert.AttnGradRefIdeal.τ).loc Cert.AttnGradRefIdeal.main_arg0)
          ∧ r.2.mem ((c.tc : Thread Cert.AttnGradRefIdeal.nD Cert.AttnGradRefIdeal.τ).loc Cert.AttnGradRefIdeal.main_arg1) = m' ((c.tc : Thread Cert.AttnGradRefIdeal.nD Cert.AttnGradRefIdeal.τ).loc Cert.AttnGradRefIdeal.main_arg1)
          ∧ r.2.mem ((c.tc : Thread Cert.AttnGradRefIdeal.nD Cert.AttnGradRefIdeal.τ).loc Cert.AttnGradRefIdeal.main_arg2) = m' ((c.tc : Thread Cert.AttnGradRefIdeal.nD Cert.AttnGradRefIdeal.τ).loc Cert.AttnGradRefIdeal.main_arg2)
          ∧ r.2.mem ((c.tc : Thread Cert.AttnGradRefIdeal.nD Cert.AttnGradRefIdeal.τ).loc Cert.AttnGradRefIdeal.main_arg3) = m' ((c.tc : Thread Cert.AttnGradRefIdeal.nD Cert.AttnGradRefIdeal.τ).loc Cert.AttnGradRefIdeal.main_arg3)
          ∧ r.2.mem ((c.tc : Thread Cert.AttnGradRefIdeal.nD Cert.AttnGradRefIdeal.τ).loc Cert.AttnGradRefIdeal.main_arg4) = m' ((c.tc : Thread Cert.AttnGradRefIdeal.nD Cert.AttnGradRefIdeal.τ).loc Cert.AttnGradRefIdeal.main_arg4)
          ∧ r.2.mem ((c.tc : Thread Cert.AttnGradRefIdeal.nD Cert.AttnGradRefIdeal.τ).loc Cert.AttnGradRefIdeal.main_arg5) = m' ((c.tc : Thread Cert.AttnGradRefIdeal.nD Cert.AttnGradRefIdeal.τ).loc Cert.AttnGradRefIdeal.main_arg5)
          ∧ r.2.mem ((c.tc : Thread Cert.AttnGradRefIdeal.nD Cert.AttnGradRefIdeal.τ).loc Cert.AttnGradRefIdeal.main_arg6) = m' ((c.tc : Thread Cert.AttnGradRefIdeal.nD Cert.AttnGradRefIdeal.τ).loc Cert.AttnGradRefIdeal.main_arg6)
          ∧ r.2.mem ((c.tc : Thread Cert.AttnGradRefIdeal.nD Cert.AttnGradRefIdeal.τ).loc Cert.AttnGradRefIdeal.main_arg7) = m' ((c.tc : Thread Cert.AttnGradRefIdeal.nD Cert.AttnGradRefIdeal.τ).loc Cert.AttnGradRefIdeal.main_arg7)
          ∧ r.2.mem ((c.tc : Thread Cert.AttnGradRefIdeal.nD Cert.AttnGradRefIdeal.τ).loc Cert.AttnGradRefIdeal.main_arg8) = m' ((c.tc : Thread Cert.AttnGradRefIdeal.nD Cert.AttnGradRefIdeal.τ).loc Cert.AttnGradRefIdeal.main_arg8)
          ∧ r.2.mem ((c.tc : Thread Cert.AttnGradRefIdeal.nD Cert.AttnGradRefIdeal.τ).loc Cert.AttnGradRefIdeal.main_arg9) = m' ((c.tc : Thread Cert.AttnGradRefIdeal.nD Cert.AttnGradRefIdeal.τ).loc Cert.AttnGradRefIdeal.main_arg9)
          ∧ r.2.mem ((c.tc : Thread Cert.AttnGradRefIdeal.nD Cert.AttnGradRefIdeal.τ).loc Cert.AttnGradRefIdeal.main_arg10) = m' ((c.tc : Thread Cert.AttnGradRefIdeal.nD Cert.AttnGradRefIdeal.τ).loc Cert.AttnGradRefIdeal.main_arg10)
          ∧ r.2.mem ((c.tc : Thread Cert.AttnGradRefIdeal.nD Cert.AttnGradRefIdeal.τ).loc Cert.AttnGradRefIdeal.main_arg11) = m' ((c.tc : Thread Cert.AttnGradRefIdeal.nD Cert.AttnGradRefIdeal.τ).loc Cert.AttnGradRefIdeal.main_arg11))

def preserves_FfnLoss_FfnLossIdeal : Prop :=
  True

def algebraic_FfnLossIdeal_FfnLossRefIdeal_pre_finite_loss [hFfnLossIdeal : Cert.FfnLossIdeal.Facts] [hFfnLossRefIdeal : Cert.FfnLossRefIdeal.Facts] [hPre_finite_loss : Cert.Pre_finite_loss.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal_finite_loss m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)) →
    ∃ (v0 : (c : Dev Cert.FfnLossIdeal.nD) → Buf (Elt Ideal) ((c.tc : Thread Cert.FfnLossIdeal.nD Cert.FfnLossIdeal.τ).loc Cert.FfnLossIdeal.main_v2_0)) (v1 : (c : Dev Cert.FfnLossIdeal.nD) → Buf (Elt Ideal) ((c.tc : Thread Cert.FfnLossIdeal.nD Cert.FfnLossIdeal.τ).loc Cert.FfnLossIdeal.main_v2_1)) (v2 : (c : Dev Cert.FfnLossIdeal.nD) → Buf (Elt Ideal) ((c.tc : Thread Cert.FfnLossIdeal.nD Cert.FfnLossIdeal.τ).loc Cert.FfnLossIdeal.main_v2_2)) (v3 : (c : Dev Cert.FfnLossIdeal.nD) → Buf (Elt Ideal) ((c.tc : Thread Cert.FfnLossIdeal.nD Cert.FfnLossIdeal.τ).loc Cert.FfnLossIdeal.main_v2_3)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v2_0) = v0 c
          ∧ r.2.mem ((c.tc : Thread Cert.FfnLossIdeal.nD Cert.FfnLossIdeal.τ).loc Cert.FfnLossIdeal.main_v2_1) = v1 c
          ∧ r.2.mem ((c.tc : Thread Cert.FfnLossIdeal.nD Cert.FfnLossIdeal.τ).loc Cert.FfnLossIdeal.main_v2_2) = v2 c
          ∧ r.2.mem ((c.tc : Thread Cert.FfnLossIdeal.nD Cert.FfnLossIdeal.τ).loc Cert.FfnLossIdeal.main_v2_3) = v3 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v56) = v0 c
          ∧ r.2.mem ((c.tc : Thread Cert.FfnLossRefIdeal.nD Cert.FfnLossRefIdeal.τ).loc Cert.FfnLossRefIdeal.main_v59) = v1 c
          ∧ r.2.mem ((c.tc : Thread Cert.FfnLossRefIdeal.nD Cert.FfnLossRefIdeal.τ).loc Cert.FfnLossRefIdeal.main_v60) = v2 c
          ∧ r.2.mem ((c.tc : Thread Cert.FfnLossRefIdeal.nD Cert.FfnLossRefIdeal.τ).loc Cert.FfnLossRefIdeal.main_v61) = v3 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4))

def preserves_AdamA_AdamAIdeal : Prop :=
  True

def algebraic_AdamAIdeal_AdamARefIdeal [hAdamAIdeal : Cert.AdamAIdeal.Facts] [hAdamARefIdeal : Cert.AdamARefIdeal.Facts] : Prop :=
  ∀ (m : (ℓ : Loc Cert.AdamAIdeal.nD Cert.AdamAIdeal.τ Cert.AdamAIdeal.sig) → Buf (Elt Ideal) ℓ) (g : Dev Cert.AdamAIdeal.nD → PrngReg)
    (m' : (ℓ : Loc Cert.AdamARefIdeal.nD Cert.AdamARefIdeal.τ Cert.AdamARefIdeal.sig) → Buf (Elt Ideal) ℓ) (g' : Dev Cert.AdamARefIdeal.nD → PrngReg), Pre_AdamAIdeal m →
    (∀ c : Dev Cert.AdamAIdeal.nD,
      m' ((c.tc : Thread Cert.AdamARefIdeal.nD Cert.AdamARefIdeal.τ).loc Cert.AdamARefIdeal.main_arg0) = m ((c.tc : Thread Cert.AdamAIdeal.nD Cert.AdamAIdeal.τ).loc Cert.AdamAIdeal.main_arg0)
      ∧ m' ((c.tc : Thread Cert.AdamARefIdeal.nD Cert.AdamARefIdeal.τ).loc Cert.AdamARefIdeal.main_arg1) = m ((c.tc : Thread Cert.AdamAIdeal.nD Cert.AdamAIdeal.τ).loc Cert.AdamAIdeal.main_arg1)
      ∧ m' ((c.tc : Thread Cert.AdamARefIdeal.nD Cert.AdamARefIdeal.τ).loc Cert.AdamARefIdeal.main_arg2) = m ((c.tc : Thread Cert.AdamAIdeal.nD Cert.AdamAIdeal.τ).loc Cert.AdamAIdeal.main_arg2)
      ∧ m' ((c.tc : Thread Cert.AdamARefIdeal.nD Cert.AdamARefIdeal.τ).loc Cert.AdamARefIdeal.main_arg3) = m ((c.tc : Thread Cert.AdamAIdeal.nD Cert.AdamAIdeal.τ).loc Cert.AdamAIdeal.main_arg3)
      ∧ m' ((c.tc : Thread Cert.AdamARefIdeal.nD Cert.AdamARefIdeal.τ).loc Cert.AdamARefIdeal.main_arg4) = m ((c.tc : Thread Cert.AdamAIdeal.nD Cert.AdamAIdeal.τ).loc Cert.AdamAIdeal.main_arg4)
      ∧ m' ((c.tc : Thread Cert.AdamARefIdeal.nD Cert.AdamARefIdeal.τ).loc Cert.AdamARefIdeal.main_arg5) = m ((c.tc : Thread Cert.AdamAIdeal.nD Cert.AdamAIdeal.τ).loc Cert.AdamAIdeal.main_arg5)
      ∧ m' ((c.tc : Thread Cert.AdamARefIdeal.nD Cert.AdamARefIdeal.τ).loc Cert.AdamARefIdeal.main_arg6) = m ((c.tc : Thread Cert.AdamAIdeal.nD Cert.AdamAIdeal.τ).loc Cert.AdamAIdeal.main_arg6)
      ∧ m' ((c.tc : Thread Cert.AdamARefIdeal.nD Cert.AdamARefIdeal.τ).loc Cert.AdamARefIdeal.main_arg7) = m ((c.tc : Thread Cert.AdamAIdeal.nD Cert.AdamAIdeal.τ).loc Cert.AdamAIdeal.main_arg7)
      ∧ m' ((c.tc : Thread Cert.AdamARefIdeal.nD Cert.AdamARefIdeal.τ).loc Cert.AdamARefIdeal.main_arg8) = m ((c.tc : Thread Cert.AdamAIdeal.nD Cert.AdamAIdeal.τ).loc Cert.AdamAIdeal.main_arg8)
      ∧ m' ((c.tc : Thread Cert.AdamARefIdeal.nD Cert.AdamARefIdeal.τ).loc Cert.AdamARefIdeal.main_arg9) = m ((c.tc : Thread Cert.AdamAIdeal.nD Cert.AdamAIdeal.τ).loc Cert.AdamAIdeal.main_arg9)
      ∧ m' ((c.tc : Thread Cert.AdamARefIdeal.nD Cert.AdamARefIdeal.τ).loc Cert.AdamARefIdeal.main_arg10) = m ((c.tc : Thread Cert.AdamAIdeal.nD Cert.AdamAIdeal.τ).loc Cert.AdamAIdeal.main_arg10)
      ∧ m' ((c.tc : Thread Cert.AdamARefIdeal.nD Cert.AdamARefIdeal.τ).loc Cert.AdamARefIdeal.main_arg11) = m ((c.tc : Thread Cert.AdamAIdeal.nD Cert.AdamAIdeal.τ).loc Cert.AdamAIdeal.main_arg11)
      ∧ m' ((c.tc : Thread Cert.AdamARefIdeal.nD Cert.AdamARefIdeal.τ).loc Cert.AdamARefIdeal.main_arg12) = m ((c.tc : Thread Cert.AdamAIdeal.nD Cert.AdamAIdeal.τ).loc Cert.AdamAIdeal.main_arg12)
      ∧ m' ((c.tc : Thread Cert.AdamARefIdeal.nD Cert.AdamARefIdeal.τ).loc Cert.AdamARefIdeal.main_arg13) = m ((c.tc : Thread Cert.AdamAIdeal.nD Cert.AdamAIdeal.τ).loc Cert.AdamAIdeal.main_arg13)
      ∧ m' ((c.tc : Thread Cert.AdamARefIdeal.nD Cert.AdamARefIdeal.τ).loc Cert.AdamARefIdeal.main_arg14) = m ((c.tc : Thread Cert.AdamAIdeal.nD Cert.AdamAIdeal.τ).loc Cert.AdamAIdeal.main_arg14)
      ∧ m' ((c.tc : Thread Cert.AdamARefIdeal.nD Cert.AdamARefIdeal.τ).loc Cert.AdamARefIdeal.main_arg15) = m ((c.tc : Thread Cert.AdamAIdeal.nD Cert.AdamAIdeal.τ).loc Cert.AdamAIdeal.main_arg15)) →
    ∃ (v0 : (c : Dev Cert.AdamAIdeal.nD) → Buf (Elt Ideal) ((c.tc : Thread Cert.AdamAIdeal.nD Cert.AdamAIdeal.τ).loc Cert.AdamAIdeal.main_v24_0)) (v1 : (c : Dev Cert.AdamAIdeal.nD) → Buf (Elt Ideal) ((c.tc : Thread Cert.AdamAIdeal.nD Cert.AdamAIdeal.τ).loc Cert.AdamAIdeal.main_v24_1)) (v2 : (c : Dev Cert.AdamAIdeal.nD) → Buf (Elt Ideal) ((c.tc : Thread Cert.AdamAIdeal.nD Cert.AdamAIdeal.τ).loc Cert.AdamAIdeal.main_v24_2)) (v3 : (c : Dev Cert.AdamAIdeal.nD) → Buf (Elt Ideal) ((c.tc : Thread Cert.AdamAIdeal.nD Cert.AdamAIdeal.τ).loc Cert.AdamAIdeal.main_v24_3)) (v4 : (c : Dev Cert.AdamAIdeal.nD) → Buf (Elt Ideal) ((c.tc : Thread Cert.AdamAIdeal.nD Cert.AdamAIdeal.τ).loc Cert.AdamAIdeal.main_v24_4)) (v5 : (c : Dev Cert.AdamAIdeal.nD) → Buf (Elt Ideal) ((c.tc : Thread Cert.AdamAIdeal.nD Cert.AdamAIdeal.τ).loc Cert.AdamAIdeal.main_v24_5)) (v6 : (c : Dev Cert.AdamAIdeal.nD) → Buf (Elt Ideal) ((c.tc : Thread Cert.AdamAIdeal.nD Cert.AdamAIdeal.τ).loc Cert.AdamAIdeal.main_v24_6)) (v7 : (c : Dev Cert.AdamAIdeal.nD) → Buf (Elt Ideal) ((c.tc : Thread Cert.AdamAIdeal.nD Cert.AdamAIdeal.τ).loc Cert.AdamAIdeal.main_v24_7)) (v8 : (c : Dev Cert.AdamAIdeal.nD) → Buf (Elt Ideal) ((c.tc : Thread Cert.AdamAIdeal.nD Cert.AdamAIdeal.τ).loc Cert.AdamAIdeal.main_v24_8)) (v9 : (c : Dev Cert.AdamAIdeal.nD) → Buf (Elt Ideal) ((c.tc : Thread Cert.AdamAIdeal.nD Cert.AdamAIdeal.τ).loc Cert.AdamAIdeal.main_v24_9)) (v10 : (c : Dev Cert.AdamAIdeal.nD) → Buf (Elt Ideal) ((c.tc : Thread Cert.AdamAIdeal.nD Cert.AdamAIdeal.τ).loc Cert.AdamAIdeal.main_v24_10)) (v11 : (c : Dev Cert.AdamAIdeal.nD) → Buf (Elt Ideal) ((c.tc : Thread Cert.AdamAIdeal.nD Cert.AdamAIdeal.τ).loc Cert.AdamAIdeal.main_v24_11)),
      θ_run (Cert.AdamAIdeal.defs (F := Ideal)) (onTc (τ := Cert.AdamAIdeal.τ) (Cert.AdamAIdeal.main (F := Ideal))) ⟨m, fun _ => 0, g⟩ (fun r => ∀ c : Dev Cert.AdamAIdeal.nD,
          r.2.mem ((c.tc : Thread Cert.AdamAIdeal.nD Cert.AdamAIdeal.τ).loc Cert.AdamAIdeal.main_v24_0) = v0 c
          ∧ r.2.mem ((c.tc : Thread Cert.AdamAIdeal.nD Cert.AdamAIdeal.τ).loc Cert.AdamAIdeal.main_v24_1) = v1 c
          ∧ r.2.mem ((c.tc : Thread Cert.AdamAIdeal.nD Cert.AdamAIdeal.τ).loc Cert.AdamAIdeal.main_v24_2) = v2 c
          ∧ r.2.mem ((c.tc : Thread Cert.AdamAIdeal.nD Cert.AdamAIdeal.τ).loc Cert.AdamAIdeal.main_v24_3) = v3 c
          ∧ r.2.mem ((c.tc : Thread Cert.AdamAIdeal.nD Cert.AdamAIdeal.τ).loc Cert.AdamAIdeal.main_v24_4) = v4 c
          ∧ r.2.mem ((c.tc : Thread Cert.AdamAIdeal.nD Cert.AdamAIdeal.τ).loc Cert.AdamAIdeal.main_v24_5) = v5 c
          ∧ r.2.mem ((c.tc : Thread Cert.AdamAIdeal.nD Cert.AdamAIdeal.τ).loc Cert.AdamAIdeal.main_v24_6) = v6 c
          ∧ r.2.mem ((c.tc : Thread Cert.AdamAIdeal.nD Cert.AdamAIdeal.τ).loc Cert.AdamAIdeal.main_v24_7) = v7 c
          ∧ r.2.mem ((c.tc : Thread Cert.AdamAIdeal.nD Cert.AdamAIdeal.τ).loc Cert.AdamAIdeal.main_v24_8) = v8 c
          ∧ r.2.mem ((c.tc : Thread Cert.AdamAIdeal.nD Cert.AdamAIdeal.τ).loc Cert.AdamAIdeal.main_v24_9) = v9 c
          ∧ r.2.mem ((c.tc : Thread Cert.AdamAIdeal.nD Cert.AdamAIdeal.τ).loc Cert.AdamAIdeal.main_v24_10) = v10 c
          ∧ r.2.mem ((c.tc : Thread Cert.AdamAIdeal.nD Cert.AdamAIdeal.τ).loc Cert.AdamAIdeal.main_v24_11) = v11 c
          ∧ r.2.mem ((c.tc : Thread Cert.AdamAIdeal.nD Cert.AdamAIdeal.τ).loc Cert.AdamAIdeal.main_arg0) = m ((c.tc : Thread Cert.AdamAIdeal.nD Cert.AdamAIdeal.τ).loc Cert.AdamAIdeal.main_arg0)
          ∧ r.2.mem ((c.tc : Thread Cert.AdamAIdeal.nD Cert.AdamAIdeal.τ).loc Cert.AdamAIdeal.main_arg1) = m ((c.tc : Thread Cert.AdamAIdeal.nD Cert.AdamAIdeal.τ).loc Cert.AdamAIdeal.main_arg1)
          ∧ r.2.mem ((c.tc : Thread Cert.AdamAIdeal.nD Cert.AdamAIdeal.τ).loc Cert.AdamAIdeal.main_arg2) = m ((c.tc : Thread Cert.AdamAIdeal.nD Cert.AdamAIdeal.τ).loc Cert.AdamAIdeal.main_arg2)
          ∧ r.2.mem ((c.tc : Thread Cert.AdamAIdeal.nD Cert.AdamAIdeal.τ).loc Cert.AdamAIdeal.main_arg3) = m ((c.tc : Thread Cert.AdamAIdeal.nD Cert.AdamAIdeal.τ).loc Cert.AdamAIdeal.main_arg3)
          ∧ r.2.mem ((c.tc : Thread Cert.AdamAIdeal.nD Cert.AdamAIdeal.τ).loc Cert.AdamAIdeal.main_arg4) = m ((c.tc : Thread Cert.AdamAIdeal.nD Cert.AdamAIdeal.τ).loc Cert.AdamAIdeal.main_arg4)
          ∧ r.2.mem ((c.tc : Thread Cert.AdamAIdeal.nD Cert.AdamAIdeal.τ).loc Cert.AdamAIdeal.main_arg5) = m ((c.tc : Thread Cert.AdamAIdeal.nD Cert.AdamAIdeal.τ).loc Cert.AdamAIdeal.main_arg5)
          ∧ r.2.mem ((c.tc : Thread Cert.AdamAIdeal.nD Cert.AdamAIdeal.τ).loc Cert.AdamAIdeal.main_arg6) = m ((c.tc : Thread Cert.AdamAIdeal.nD Cert.AdamAIdeal.τ).loc Cert.AdamAIdeal.main_arg6)
          ∧ r.2.mem ((c.tc : Thread Cert.AdamAIdeal.nD Cert.AdamAIdeal.τ).loc Cert.AdamAIdeal.main_arg7) = m ((c.tc : Thread Cert.AdamAIdeal.nD Cert.AdamAIdeal.τ).loc Cert.AdamAIdeal.main_arg7)
          ∧ r.2.mem ((c.tc : Thread Cert.AdamAIdeal.nD Cert.AdamAIdeal.τ).loc Cert.AdamAIdeal.main_arg8) = m ((c.tc : Thread Cert.AdamAIdeal.nD Cert.AdamAIdeal.τ).loc Cert.AdamAIdeal.main_arg8)
          ∧ r.2.mem ((c.tc : Thread Cert.AdamAIdeal.nD Cert.AdamAIdeal.τ).loc Cert.AdamAIdeal.main_arg9) = m ((c.tc : Thread Cert.AdamAIdeal.nD Cert.AdamAIdeal.τ).loc Cert.AdamAIdeal.main_arg9)
          ∧ r.2.mem ((c.tc : Thread Cert.AdamAIdeal.nD Cert.AdamAIdeal.τ).loc Cert.AdamAIdeal.main_arg10) = m ((c.tc : Thread Cert.AdamAIdeal.nD Cert.AdamAIdeal.τ).loc Cert.AdamAIdeal.main_arg10)
          ∧ r.2.mem ((c.tc : Thread Cert.AdamAIdeal.nD Cert.AdamAIdeal.τ).loc Cert.AdamAIdeal.main_arg11) = m ((c.tc : Thread Cert.AdamAIdeal.nD Cert.AdamAIdeal.τ).loc Cert.AdamAIdeal.main_arg11)
          ∧ r.2.mem ((c.tc : Thread Cert.AdamAIdeal.nD Cert.AdamAIdeal.τ).loc Cert.AdamAIdeal.main_arg12) = m ((c.tc : Thread Cert.AdamAIdeal.nD Cert.AdamAIdeal.τ).loc Cert.AdamAIdeal.main_arg12)
          ∧ r.2.mem ((c.tc : Thread Cert.AdamAIdeal.nD Cert.AdamAIdeal.τ).loc Cert.AdamAIdeal.main_arg13) = m ((c.tc : Thread Cert.AdamAIdeal.nD Cert.AdamAIdeal.τ).loc Cert.AdamAIdeal.main_arg13)
          ∧ r.2.mem ((c.tc : Thread Cert.AdamAIdeal.nD Cert.AdamAIdeal.τ).loc Cert.AdamAIdeal.main_arg14) = m ((c.tc : Thread Cert.AdamAIdeal.nD Cert.AdamAIdeal.τ).loc Cert.AdamAIdeal.main_arg14)
          ∧ r.2.mem ((c.tc : Thread Cert.AdamAIdeal.nD Cert.AdamAIdeal.τ).loc Cert.AdamAIdeal.main_arg15) = m ((c.tc : Thread Cert.AdamAIdeal.nD Cert.AdamAIdeal.τ).loc Cert.AdamAIdeal.main_arg15))
      ∧ θ_run (Cert.AdamARefIdeal.defs (F := Ideal)) (onTc (τ := Cert.AdamARefIdeal.τ) (Cert.AdamARefIdeal.main (F := Ideal))) ⟨m', fun _ => 0, g'⟩ (fun r => ∀ c : Dev Cert.AdamARefIdeal.nD,
          r.2.mem ((c.tc : Thread Cert.AdamARefIdeal.nD Cert.AdamARefIdeal.τ).loc Cert.AdamARefIdeal.main_v97) = v0 c
          ∧ r.2.mem ((c.tc : Thread Cert.AdamARefIdeal.nD Cert.AdamARefIdeal.τ).loc Cert.AdamARefIdeal.main_v99) = v1 c
          ∧ r.2.mem ((c.tc : Thread Cert.AdamARefIdeal.nD Cert.AdamARefIdeal.τ).loc Cert.AdamARefIdeal.main_v101) = v2 c
          ∧ r.2.mem ((c.tc : Thread Cert.AdamARefIdeal.nD Cert.AdamARefIdeal.τ).loc Cert.AdamARefIdeal.main_v103) = v3 c
          ∧ r.2.mem ((c.tc : Thread Cert.AdamARefIdeal.nD Cert.AdamARefIdeal.τ).loc Cert.AdamARefIdeal.main_v105) = v4 c
          ∧ r.2.mem ((c.tc : Thread Cert.AdamARefIdeal.nD Cert.AdamARefIdeal.τ).loc Cert.AdamARefIdeal.main_v107) = v5 c
          ∧ r.2.mem ((c.tc : Thread Cert.AdamARefIdeal.nD Cert.AdamARefIdeal.τ).loc Cert.AdamARefIdeal.main_v108) = v6 c
          ∧ r.2.mem ((c.tc : Thread Cert.AdamARefIdeal.nD Cert.AdamARefIdeal.τ).loc Cert.AdamARefIdeal.main_v109) = v7 c
          ∧ r.2.mem ((c.tc : Thread Cert.AdamARefIdeal.nD Cert.AdamARefIdeal.τ).loc Cert.AdamARefIdeal.main_v110) = v8 c
          ∧ r.2.mem ((c.tc : Thread Cert.AdamARefIdeal.nD Cert.AdamARefIdeal.τ).loc Cert.AdamARefIdeal.main_v111) = v9 c
          ∧ r.2.mem ((c.tc : Thread Cert.AdamARefIdeal.nD Cert.AdamARefIdeal.τ).loc Cert.AdamARefIdeal.main_v112) = v10 c
          ∧ r.2.mem ((c.tc : Thread Cert.AdamARefIdeal.nD Cert.AdamARefIdeal.τ).loc Cert.AdamARefIdeal.main_v113) = v11 c
          ∧ r.2.mem ((c.tc : Thread Cert.AdamARefIdeal.nD Cert.AdamARefIdeal.τ).loc Cert.AdamARefIdeal.main_arg0) = m' ((c.tc : Thread Cert.AdamARefIdeal.nD Cert.AdamARefIdeal.τ).loc Cert.AdamARefIdeal.main_arg0)
          ∧ r.2.mem ((c.tc : Thread Cert.AdamARefIdeal.nD Cert.AdamARefIdeal.τ).loc Cert.AdamARefIdeal.main_arg1) = m' ((c.tc : Thread Cert.AdamARefIdeal.nD Cert.AdamARefIdeal.τ).loc Cert.AdamARefIdeal.main_arg1)
          ∧ r.2.mem ((c.tc : Thread Cert.AdamARefIdeal.nD Cert.AdamARefIdeal.τ).loc Cert.AdamARefIdeal.main_arg2) = m' ((c.tc : Thread Cert.AdamARefIdeal.nD Cert.AdamARefIdeal.τ).loc Cert.AdamARefIdeal.main_arg2)
          ∧ r.2.mem ((c.tc : Thread Cert.AdamARefIdeal.nD Cert.AdamARefIdeal.τ).loc Cert.AdamARefIdeal.main_arg3) = m' ((c.tc : Thread Cert.AdamARefIdeal.nD Cert.AdamARefIdeal.τ).loc Cert.AdamARefIdeal.main_arg3)
          ∧ r.2.mem ((c.tc : Thread Cert.AdamARefIdeal.nD Cert.AdamARefIdeal.τ).loc Cert.AdamARefIdeal.main_arg4) = m' ((c.tc : Thread Cert.AdamARefIdeal.nD Cert.AdamARefIdeal.τ).loc Cert.AdamARefIdeal.main_arg4)
          ∧ r.2.mem ((c.tc : Thread Cert.AdamARefIdeal.nD Cert.AdamARefIdeal.τ).loc Cert.AdamARefIdeal.main_arg5) = m' ((c.tc : Thread Cert.AdamARefIdeal.nD Cert.AdamARefIdeal.τ).loc Cert.AdamARefIdeal.main_arg5)
          ∧ r.2.mem ((c.tc : Thread Cert.AdamARefIdeal.nD Cert.AdamARefIdeal.τ).loc Cert.AdamARefIdeal.main_arg6) = m' ((c.tc : Thread Cert.AdamARefIdeal.nD Cert.AdamARefIdeal.τ).loc Cert.AdamARefIdeal.main_arg6)
          ∧ r.2.mem ((c.tc : Thread Cert.AdamARefIdeal.nD Cert.AdamARefIdeal.τ).loc Cert.AdamARefIdeal.main_arg7) = m' ((c.tc : Thread Cert.AdamARefIdeal.nD Cert.AdamARefIdeal.τ).loc Cert.AdamARefIdeal.main_arg7)
          ∧ r.2.mem ((c.tc : Thread Cert.AdamARefIdeal.nD Cert.AdamARefIdeal.τ).loc Cert.AdamARefIdeal.main_arg8) = m' ((c.tc : Thread Cert.AdamARefIdeal.nD Cert.AdamARefIdeal.τ).loc Cert.AdamARefIdeal.main_arg8)
          ∧ r.2.mem ((c.tc : Thread Cert.AdamARefIdeal.nD Cert.AdamARefIdeal.τ).loc Cert.AdamARefIdeal.main_arg9) = m' ((c.tc : Thread Cert.AdamARefIdeal.nD Cert.AdamARefIdeal.τ).loc Cert.AdamARefIdeal.main_arg9)
          ∧ r.2.mem ((c.tc : Thread Cert.AdamARefIdeal.nD Cert.AdamARefIdeal.τ).loc Cert.AdamARefIdeal.main_arg10) = m' ((c.tc : Thread Cert.AdamARefIdeal.nD Cert.AdamARefIdeal.τ).loc Cert.AdamARefIdeal.main_arg10)
          ∧ r.2.mem ((c.tc : Thread Cert.AdamARefIdeal.nD Cert.AdamARefIdeal.τ).loc Cert.AdamARefIdeal.main_arg11) = m' ((c.tc : Thread Cert.AdamARefIdeal.nD Cert.AdamARefIdeal.τ).loc Cert.AdamARefIdeal.main_arg11)
          ∧ r.2.mem ((c.tc : Thread Cert.AdamARefIdeal.nD Cert.AdamARefIdeal.τ).loc Cert.AdamARefIdeal.main_arg12) = m' ((c.tc : Thread Cert.AdamARefIdeal.nD Cert.AdamARefIdeal.τ).loc Cert.AdamARefIdeal.main_arg12)
          ∧ r.2.mem ((c.tc : Thread Cert.AdamARefIdeal.nD Cert.AdamARefIdeal.τ).loc Cert.AdamARefIdeal.main_arg13) = m' ((c.tc : Thread Cert.AdamARefIdeal.nD Cert.AdamARefIdeal.τ).loc Cert.AdamARefIdeal.main_arg13)
          ∧ r.2.mem ((c.tc : Thread Cert.AdamARefIdeal.nD Cert.AdamARefIdeal.τ).loc Cert.AdamARefIdeal.main_arg14) = m' ((c.tc : Thread Cert.AdamARefIdeal.nD Cert.AdamARefIdeal.τ).loc Cert.AdamARefIdeal.main_arg14)
          ∧ r.2.mem ((c.tc : Thread Cert.AdamARefIdeal.nD Cert.AdamARefIdeal.τ).loc Cert.AdamARefIdeal.main_arg15) = m' ((c.tc : Thread Cert.AdamARefIdeal.nD Cert.AdamARefIdeal.τ).loc Cert.AdamARefIdeal.main_arg15))

def Claim : Prop :=
  ∃ (hActGrad : Cert.ActGrad.Facts) (hActGradIdeal : Cert.ActGradIdeal.Facts) (hActGradRefIdeal : Cert.ActGradRefIdeal.Facts) (hWeightGrad : Cert.WeightGrad.Facts) (hWeightGradIdeal : Cert.WeightGradIdeal.Facts) (hWeightGradRefIdeal : Cert.WeightGradRefIdeal.Facts) (hNormGrad : Cert.NormGrad.Facts) (hNormGradIdeal : Cert.NormGradIdeal.Facts) (hNormGradRefIdeal : Cert.NormGradRefIdeal.Facts) (hMixOut : Cert.MixOut.Facts) (hMixOutIdeal : Cert.MixOutIdeal.Facts) (hMixOutRefIdeal : Cert.MixOutRefIdeal.Facts) (hMixIn : Cert.MixIn.Facts) (hMixInIdeal : Cert.MixInIdeal.Facts) (hMixInRefIdeal : Cert.MixInRefIdeal.Facts) (hMixNorm : Cert.MixNorm.Facts) (hMixNormIdeal : Cert.MixNormIdeal.Facts) (hMixNormRefIdeal : Cert.MixNormRefIdeal.Facts) (hAdamIn : Cert.AdamIn.Facts) (hAdamInIdeal : Cert.AdamInIdeal.Facts) (hAdamInRefIdeal : Cert.AdamInRefIdeal.Facts) (hAdamB : Cert.AdamB.Facts) (hAdamBIdeal : Cert.AdamBIdeal.Facts) (hAdamBRefIdeal : Cert.AdamBRefIdeal.Facts) (hAttnGrad : Cert.AttnGrad.Facts) (hAttnGradIdeal : Cert.AttnGradIdeal.Facts) (hAttnGradRefIdeal : Cert.AttnGradRefIdeal.Facts) (hFfnLoss : Cert.FfnLoss.Facts) (hFfnLossIdeal : Cert.FfnLossIdeal.Facts) (hFfnLossRefIdeal : Cert.FfnLossRefIdeal.Facts) (hAdamA : Cert.AdamA.Facts) (hAdamAIdeal : Cert.AdamAIdeal.Facts) (hAdamARefIdeal : Cert.AdamARefIdeal.Facts) (hPre_finite_act : Cert.Pre_finite_act.Facts) (hPre_finite_norm : Cert.Pre_finite_norm.Facts) (hPre_finite_mix : Cert.Pre_finite_mix.Facts) (hPre_finite_gate : Cert.Pre_finite_gate.Facts) (hPre_finite_loss : Cert.Pre_finite_loss.Facts) (hOn_gate_columns : Cert.On_gate_columns.Facts),
    quiescent_ActGrad (hActGrad := hActGrad)
    ∧ quiescent_ActGradIdeal (hActGradIdeal := hActGradIdeal)
    ∧ quiescent_ActGradIdeal_pre_finite_act (hActGradIdeal := hActGradIdeal) (hPre_finite_act := hPre_finite_act)
    ∧ quiescent_ActGradRefIdeal (hActGradRefIdeal := hActGradRefIdeal)
    ∧ quiescent_ActGradRefIdeal_pre_finite_act (hActGradRefIdeal := hActGradRefIdeal) (hPre_finite_act := hPre_finite_act)
    ∧ quiescent_WeightGrad (hWeightGrad := hWeightGrad)
    ∧ quiescent_WeightGradIdeal (hWeightGradIdeal := hWeightGradIdeal)
    ∧ quiescent_WeightGradRefIdeal (hWeightGradRefIdeal := hWeightGradRefIdeal)
    ∧ quiescent_NormGrad (hNormGrad := hNormGrad)
    ∧ quiescent_NormGradIdeal (hNormGradIdeal := hNormGradIdeal)
    ∧ quiescent_NormGradIdeal_pre_finite_norm (hNormGradIdeal := hNormGradIdeal) (hPre_finite_norm := hPre_finite_norm)
    ∧ quiescent_NormGradRefIdeal (hNormGradRefIdeal := hNormGradRefIdeal)
    ∧ quiescent_NormGradRefIdeal_pre_finite_norm (hNormGradRefIdeal := hNormGradRefIdeal) (hPre_finite_norm := hPre_finite_norm)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixNorm (hMixNorm := hMixNorm)
    ∧ quiescent_MixNormIdeal (hMixNormIdeal := hMixNormIdeal)
    ∧ quiescent_MixNormIdeal_pre_finite_mix (hMixNormIdeal := hMixNormIdeal) (hPre_finite_mix := hPre_finite_mix)
    ∧ quiescent_MixNormRefIdeal (hMixNormRefIdeal := hMixNormRefIdeal)
    ∧ quiescent_MixNormRefIdeal_pre_finite_mix (hMixNormRefIdeal := hMixNormRefIdeal) (hPre_finite_mix := hPre_finite_mix)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AttnGrad (hAttnGrad := hAttnGrad)
    ∧ quiescent_AttnGradIdeal (hAttnGradIdeal := hAttnGradIdeal)
    ∧ quiescent_AttnGradIdeal_pre_finite_gate (hAttnGradIdeal := hAttnGradIdeal) (hPre_finite_gate := hPre_finite_gate)
    ∧ quiescent_AttnGradRefIdeal (hAttnGradRefIdeal := hAttnGradRefIdeal)
    ∧ quiescent_AttnGradRefIdeal_pre_finite_gate (hAttnGradRefIdeal := hAttnGradRefIdeal) (hPre_finite_gate := hPre_finite_gate)
    ∧ quiescent_FfnLoss (hFfnLoss := hFfnLoss)
    ∧ quiescent_FfnLossIdeal (hFfnLossIdeal := hFfnLossIdeal)
    ∧ quiescent_FfnLossIdeal_pre_finite_loss (hFfnLossIdeal := hFfnLossIdeal) (hPre_finite_loss := hPre_finite_loss)
    ∧ quiescent_FfnLossRefIdeal (hFfnLossRefIdeal := hFfnLossRefIdeal)
    ∧ quiescent_FfnLossRefIdeal_pre_finite_loss (hFfnLossRefIdeal := hFfnLossRefIdeal) (hPre_finite_loss := hPre_finite_loss)
    ∧ quiescent_AdamA (hAdamA := hAdamA)
    ∧ quiescent_AdamAIdeal (hAdamAIdeal := hAdamAIdeal)
    ∧ quiescent_AdamARefIdeal (hAdamARefIdeal := hAdamARefIdeal)
    ∧ preserves_ActGrad_ActGradIdeal
    ∧ algebraic_ActGradIdeal_ActGradRefIdeal_pre_finite_act (hActGradIdeal := hActGradIdeal) (hActGradRefIdeal := hActGradRefIdeal) (hPre_finite_act := hPre_finite_act)
    ∧ preserves_WeightGrad_WeightGradIdeal
    ∧ algebraic_WeightGradIdeal_WeightGradRefIdeal (hWeightGradIdeal := hWeightGradIdeal) (hWeightGradRefIdeal := hWeightGradRefIdeal)
    ∧ preserves_NormGrad_NormGradIdeal
    ∧ algebraic_NormGradIdeal_NormGradRefIdeal_pre_finite_norm (hNormGradIdeal := hNormGradIdeal) (hNormGradRefIdeal := hNormGradRefIdeal) (hPre_finite_norm := hPre_finite_norm)
    ∧ preserves_MixOut_MixOutIdeal
    ∧ algebraic_MixOutIdeal_MixOutRefIdeal (hMixOutIdeal := hMixOutIdeal) (hMixOutRefIdeal := hMixOutRefIdeal)
    ∧ preserves_MixIn_MixInIdeal
    ∧ algebraic_MixInIdeal_MixInRefIdeal (hMixInIdeal := hMixInIdeal) (hMixInRefIdeal := hMixInRefIdeal)
    ∧ preserves_MixNorm_MixNormIdeal
    ∧ algebraic_MixNormIdeal_MixNormRefIdeal_pre_finite_mix (hMixNormIdeal := hMixNormIdeal) (hMixNormRefIdeal := hMixNormRefIdeal) (hPre_finite_mix := hPre_finite_mix)
    ∧ preserves_AdamIn_AdamInIdeal
    ∧ algebraic_AdamInIdeal_AdamInRefIdeal (hAdamInIdeal := hAdamInIdeal) (hAdamInRefIdeal := hAdamInRefIdeal)
    ∧ preserves_AdamB_AdamBIdeal
    ∧ algebraic_AdamBIdeal_AdamBRefIdeal (hAdamBIdeal := hAdamBIdeal) (hAdamBRefIdeal := hAdamBRefIdeal)
    ∧ preserves_AttnGrad_AttnGradIdeal
    ∧ algebraic_AttnGradIdeal_AttnGradRefIdeal_on_gate_columns_pre_finite_gate (hAttnGradIdeal := hAttnGradIdeal) (hAttnGradRefIdeal := hAttnGradRefIdeal) (hPre_finite_gate := hPre_finite_gate) (hOn_gate_columns := hOn_gate_columns)
    ∧ preserves_FfnLoss_FfnLossIdeal
    ∧ algebraic_FfnLossIdeal_FfnLossRefIdeal_pre_finite_loss (hFfnLossIdeal := hFfnLossIdeal) (hFfnLossRefIdeal := hFfnLossRefIdeal) (hPre_finite_loss := hPre_finite_loss)
    ∧ preserves_AdamA_AdamAIdeal
    ∧ algebraic_AdamAIdeal_AdamARefIdeal (hAdamAIdeal := hAdamAIdeal) (hAdamARefIdeal := hAdamARefIdeal)
-- ==== On_gate_columns.lean ====
abbrev S4096x3200 : Shape := ⟨2, ![4096, 3200]⟩
abbrev S4096x128 : Shape := ⟨2, ![4096, 128]⟩
abbrev S1x256 : Shape := ⟨2, ![1, 256]⟩
abbrev S128x256 : Shape := ⟨2, ![128, 256]⟩
abbrev S1x512 : Shape := ⟨2, ![1, 512]⟩
abbrev S4096x1024 : Shape := ⟨2, ![4096, 1024]⟩
abbrev S1024x1024 : Shape := ⟨2, ![1024, 1024]⟩
abbrev S16x2x512x256 : Shape := ⟨4, ![16, 2, 512, 256]⟩
abbrev S_ : Shape := ⟨0, ![]⟩

class Facts : Prop where
  bcast_S_S4096x3200 : S_.BroadcastsInDim S4096x3200 (![] : Fin 0 → Fin S4096x3200.rank)
  bcast_S_S1x512 : S_.BroadcastsInDim S1x512 (![] : Fin 0 → Fin S1x512.rank)

variable [Facts]

def fn {F : FTy → Type} [FloatOps F] (main_arg0 : FVec F S4096x3200 .bf16) (main_arg1 : FVec F S4096x128 .f32) (main_arg2 : FVec F S4096x128 .f32) (main_arg3 : FVec F S1x256 .f32) (main_arg4 : FVec F S128x256 .f32) (main_arg5 : FVec F S1x256 .f32) (main_arg6 : FVec F S1x512 .f32) (main_arg7 : FVec F S1x512 .f32) (main_arg8 : FVec F S4096x1024 .f32) (main_arg9 : FVec F S4096x1024 .bf16) (main_arg10 : FVec F S1024x1024 .bf16) (main_arg11 : FVec F S16x2x512x256 .f32) : IVec S4096x3200 1 × IVec S1x512 1 × IVec S1x512 1 :=
  let main_v0 : IVec S4096x3200 32 := iotaInDim S4096x3200 32 1
  let main_c : IVec S_ 32 := constantI S_ 32 1024#32
  let main_v1 : IVec S4096x3200 32 := broadcastInDim S4096x3200 ![] bcast_S_S4096x3200 main_c
  let main_v2 : IVec S4096x3200 1 := cmpi .sge main_v0 main_v1
  let main_c_0 : IVec S_ 32 := constantI S_ 32 1536#32
  let main_v3 : IVec S4096x3200 32 := broadcastInDim S4096x3200 ![] bcast_S_S4096x3200 main_c_0
  let main_v4 : IVec S4096x3200 1 := cmpi .slt main_v0 main_v3
  let main_v5 : IVec S4096x3200 1 := andi main_v2 main_v4
  let main_c_1 : IVec S_ 32 := constantI S_ 32 2560#32
  let main_v6 : IVec S4096x3200 32 := broadcastInDim S4096x3200 ![] bcast_S_S4096x3200 main_c_1
  let main_v7 : IVec S4096x3200 1 := cmpi .sge main_v0 main_v6
  let main_c_2 : IVec S_ 32 := constantI S_ 32 3072#32
  let main_v8 : IVec S4096x3200 32 := broadcastInDim S4096x3200 ![] bcast_S_S4096x3200 main_c_2
  let main_v9 : IVec S4096x3200 1 := cmpi .slt main_v0 main_v8
  let main_v10 : IVec S4096x3200 1 := andi main_v7 main_v9
  let main_v11 : IVec S4096x3200 1 := ori main_v5 main_v10
  let main_c_3 : IVec S_ 1 := constantI S_ 1 1#1
  let main_v12 : IVec S1x512 1 := broadcastInDim S1x512 ![] bcast_S_S1x512 main_c_3
  let main_c_4 : IVec S_ 1 := constantI S_ 1 1#1
  let main_v13 : IVec S1x512 1 := broadcastInDim S1x512 ![] bcast_S_S1x512 main_c_4
  (main_v11, main_v12, main_v13)
-- ==== Pre_finite_act.lean ====
abbrev S4096x2816 : Shape := ⟨2, ![4096, 2816]⟩
abbrev S4096x1024 : Shape := ⟨2, ![4096, 1024]⟩
abbrev S2816x1024 : Shape := ⟨2, ![2816, 1024]⟩
abbrev S_ : Shape := ⟨0, ![]⟩

class Facts : Prop where
  bcast_S_S4096x2816 : S_.BroadcastsInDim S4096x2816 (![] : Fin 0 → Fin S4096x2816.rank)
  reducesTo_S4096x2816_S_d0_1 : S4096x2816.ReducesTo [0, 1] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S4096x2816 .f32) (main_arg1 : FVec F S4096x2816 .f32) (main_arg2 : FVec F S4096x1024 .bf16) (main_arg3 : FVec F S2816x1024 .f32) : IVec S_ 1 :=
  let main_v0 : FVec F S4096x2816 .f32 := Host.absf main_arg1
  let main_cst : FVec F S_ .f32 := constant S_ .f32 0x7F800000#32
  let main_v1 : FVec F S4096x2816 .f32 := broadcastInDim S4096x2816 ![] bcast_S_S4096x2816 main_cst
  let main_v2 : IVec S4096x2816 1 := cmpf .olt main_v0 main_v1
  let main_c : IVec S_ 1 := constantI S_ 1 1#1
  let main_v3 : IVec S_ 1 := (fun x v => Host.reduce IntOp.andi x v reducesTo_S4096x2816_S_d0_1 h_S_) main_v2 main_c
  let main_v4 : FVec F S4096x1024 .f32 := (extf .f32 · bitsLt_bf16_f32) main_arg2
  let main_v5 : FVec F S4096x1024 .f32 := Host.absf main_v4
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : IVec S_ 1 := andi main_v3 main_v8
  let main_v10 : FVec F S2816x1024 .f32 := Host.absf main_arg3
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  main_v14
-- ==== Pre_finite_gate.lean ====
abbrev S4096x3200 : Shape := ⟨2, ![4096, 3200]⟩
abbrev S4096x128 : Shape := ⟨2, ![4096, 128]⟩
abbrev S1x256 : Shape := ⟨2, ![1, 256]⟩
abbrev S128x256 : Shape := ⟨2, ![128, 256]⟩
abbrev S1x512 : Shape := ⟨2, ![1, 512]⟩
abbrev S4096x1024 : Shape := ⟨2, ![4096, 1024]⟩
abbrev S1024x1024 : Shape := ⟨2, ![1024, 1024]⟩
abbrev S16x2x512x256 : Shape := ⟨4, ![16, 2, 512, 256]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v14 : IVec S_ 1) (main_v16 : FVec F S1024x1024 .f32) (main_cst_4 : FVec F S_ .f32) : IVec S_ 1 :=
  let main_v17 : FVec F S1024x1024 .f32 := broadcastInDim S1024x1024 ![] bcast_S_S1024x1024 main_cst_4
  let main_v18 : IVec S1024x1024 1 := cmpf .olt main_v16 main_v17
  let main_c_5 : IVec S_ 1 := constantI S_ 1 1#1
  let main_v19 : IVec S_ 1 := (fun x v => Host.reduce IntOp.andi x v reducesTo_S1024x1024_S_d0_1 h_S_) main_v18 main_c_5
  let main_v20 : IVec S_ 1 := andi main_v14 main_v19
  main_v20

def fn {F : FTy → Type} [FloatOps F] (main_arg0 : FVec F S4096x3200 .bf16) (main_arg1 : FVec F S4096x128 .f32) (main_arg2 : FVec F S4096x128 .f32) (main_arg3 : FVec F S1x256 .f32) (main_arg4 : FVec F S128x256 .f32) (main_arg5 : FVec F S1x256 .f32) (main_arg6 : FVec F S1x512 .f32) (main_arg7 : FVec F S1x512 .f32) (main_arg8 : FVec F S4096x1024 .f32) (main_arg9 : FVec F S4096x1024 .bf16) (main_arg10 : FVec F S1024x1024 .bf16) (main_arg11 : FVec F S16x2x512x256 .f32) : IVec S_ 1 :=
  let main_v0 : FVec F S1x512 .f32 := Host.absf main_arg6
  let main_cst : FVec F S_ .f32 := constant S_ .f32 0x7F800000#32
  let main_v1 : FVec F S1x512 .f32 := broadcastInDim S1x512 ![] bcast_S_S1x512 main_cst
  let main_v2 : IVec S1x512 1 := cmpf .olt main_v0 main_v1
  let main_c : IVec S_ 1 := constantI S_ 1 1#1
  let main_v3 : IVec S_ 1 := (fun x v => Host.reduce IntOp.andi x v reducesTo_S1x512_S_d0_1 h_S_) main_v2 main_c
  let main_v4 : FVec F S1x512 .f32 := Host.absf main_arg7
  let main_cst_0 : FVec F S_ .f32 := constant S_ .f32 0x7F800000#32
  let main_v5 : FVec F S1x512 .f32 := broadcastInDim S1x512 ![] bcast_S_S1x512 main_cst_0
  let main_v6 : IVec S1x512 1 := cmpf .olt main_v4 main_v5
  let main_c_1 : IVec S_ 1 := constantI S_ 1 1#1
  let main_v7 : IVec S_ 1 := (fun x v => Host.reduce IntOp.andi x v reducesTo_S1x512_S_d0_1 h_S_) main_v6 main_c_1
  let main_v8 : IVec S_ 1 := andi main_v3 main_v7
  let main_v9 : FVec F S4096x1024 .f32 := (extf .f32 · bitsLt_bf16_f32) main_arg9
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S1024x1024 .f32 := (extf .f32 · bitsLt_bf16_f32) main_arg10
  let main_v16 : FVec F S1024x1024 .f32 := Host.absf main_v15
  let main_cst_4 : FVec F S_ .f32 := constant S_ .f32 0x7F800000#32
  fn_part1 (F := F) main_v14 main_v16 main_cst_4
-- ==== Pre_finite_loss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  let main_v20 : FVec F S4096x1024 .f32 := Host.absf main_arg4
  let main_cst_6 : FVec F S_ .f32 := constant S_ .f32 0x7F800000#32
  let main_v21 : FVec F S4096x1024 .f32 := broadcastInDim S4096x1024 ![] bcast_S_S4096x1024 main_cst_6
  let main_v22 : IVec S4096x1024 1 := cmpf .olt main_v20 main_v21
  let main_c_7 : IVec S_ 1 := constantI S_ 1 1#1
  let main_v23 : IVec S_ 1 := (fun x v => Host.reduce IntOp.andi x v reducesTo_S4096x1024_S_d0_1 h_S_) main_v22 main_c_7
  let main_v24 : IVec S_ 1 := andi main_v19 main_v23
  main_v24

def fn {F : FTy → Type} [FloatOps F] (main_arg0 : FVec F S4096x2816 .bf16) (main_arg1 : FVec F S2816x1024 .f32) (main_arg2 : FVec F S4096x1024 .f32) (main_arg3 : FVec F S1x1024 .f32) (main_arg4 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_arg4 main_v14 main_v15 main_v16
-- ==== Pre_finite_mix.lean ====
abbrev S4096x3200 : Shape := ⟨2, ![4096, 3200]⟩
abbrev S1024x3200 : Shape := ⟨2, ![1024, 3200]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x3200 : S_.BroadcastsInDim S4096x3200 (![] : Fin 0 → Fin S4096x3200.rank)
  reducesTo_S4096x3200_S_d0_1 : S4096x3200.ReducesTo [0, 1] S_
  h_S_ : 0 < S_.numel
  bcast_S_S1024x3200 : S_.BroadcastsInDim S1024x3200 (![] : Fin 0 → Fin S1024x3200.rank)
  reducesTo_S1024x3200_S_d0_1 : S1024x3200.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v14 : IVec S_ 1) (main_v15 : FVec F S1x1024 .f32) (main_v16 : FVec F S1x1024 .f32) : IVec S_ 1 :=
  let main_v17 : IVec S1x1024 1 := cmpf .olt main_v15 main_v16
  let main_c_5 : IVec S_ 1 := constantI S_ 1 1#1
  let main_v18 : IVec S_ 1 := (fun x v => Host.reduce IntOp.andi x v reducesTo_S1x1024_S_d0_1 h_S_) main_v17 main_c_5
  let main_v19 : IVec S_ 1 := andi main_v14 main_v18
  main_v19

def fn {F : FTy → Type} [FloatOps F] (main_arg0 : FVec F S4096x3200 .bf16) (main_arg1 : FVec F S1024x3200 .f32) (main_arg2 : FVec F S4096x1024 .f32) (main_arg3 : FVec F S1x1024 .f32) (main_arg4 : FVec F S4096x1024 .f32) : IVec S_ 1 :=
  let main_v0 : FVec F S4096x3200 .f32 := (extf .f32 · bitsLt_bf16_f32) main_arg0
  let main_v1 : FVec F S4096x3200 .f32 := Host.absf main_v0
  let main_cst : FVec F S_ .f32 := constant S_ .f32 0x7F800000#32
  let main_v2 : FVec F S4096x3200 .f32 := broadcastInDim S4096x3200 ![] bcast_S_S4096x3200 main_cst
  let main_v3 : IVec S4096x3200 1 := cmpf .olt main_v1 main_v2
  let main_c : IVec S_ 1 := constantI S_ 1 1#1
  let main_v4 : IVec S_ 1 := (fun x v => Host.reduce IntOp.andi x v reducesTo_S4096x3200_S_d0_1 h_S_) main_v3 main_c
  let main_v5 : FVec F S1024x3200 .f32 := Host.absf main_arg1
  let main_cst_0 : FVec F S_ .f32 := constant S_ .f32 0x7F800000#32
  let main_v6 : FVec F S1024x3200 .f32 := broadcastInDim S1024x3200 ![] bcast_S_S1024x3200 main_cst_0
  let main_v7 : IVec S1024x3200 1 := cmpf .olt main_v5 main_v6
  let main_c_1 : IVec S_ 1 := constantI S_ 1 1#1
  let main_v8 : IVec S_ 1 := (fun x v => Host.reduce IntOp.andi x v reducesTo_S1024x3200_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  let main_v15 : FVec F S1x1024 .f32 := Host.absf main_arg3
  let main_cst_4 : FVec F S_ .f32 := constant S_ .f32 0x7F800000#32
  let main_v16 : FVec F S1x1024 .f32 := broadcastInDim S1x1024 ![] bcast_S_S1x1024 main_cst_4
  fn_part1 (F := F) main_v14 main_v15 main_v16
-- ==== Pre_finite_norm.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S4096x1024 .f32) (main_arg5 : FVec F S1x1024 .f32) (main_v15 : IVec S_ 1) (main_v16 : FVec F S1024x2816 .f32) (main_cst_4 : FVec F S_ .f32) : IVec S_ 1 :=
  let main_v17 : FVec F S1024x2816 .f32 := broadcastInDim S1024x2816 ![] bcast_S_S1024x2816 main_cst_4
  let main_v18 : IVec S1024x2816 1 := cmpf .olt main_v16 main_v17
  let main_c_5 : IVec S_ 1 := constantI S_ 1 1#1
  let main_v19 : IVec S_ 1 := (fun x v => Host.reduce IntOp.andi x v reducesTo_S1024x2816_S_d0_1 h_S_) main_v18 main_c_5
  let main_v20 : IVec S_ 1 := andi main_v15 main_v19
  let main_v21 : FVec F S4096x1024 .f32 := Host.absf main_arg4
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  let main_c_7 : IVec S_ 1 := constantI S_ 1 1#1
  let main_v24 : IVec S_ 1 := (fun x v => Host.reduce IntOp.andi x v reducesTo_S4096x1024_S_d0_1 h_S_) main_v23 main_c_7
  let main_v25 : IVec S_ 1 := andi main_v20 main_v24
  let main_v26 : FVec F S1x1024 .f32 := Host.absf main_arg5
  let main_cst_8 : FVec F S_ .f32 := constant S_ .f32 0x7F800000#32
  let main_v27 : FVec F S1x1024 .f32 := broadcastInDim S1x1024 ![] bcast_S_S1x1024 main_cst_8
  let main_v28 : IVec S1x1024 1 := cmpf .olt main_v26 main_v27
  let main_c_9 : IVec S_ 1 := constantI S_ 1 1#1
  let main_v29 : IVec S_ 1 := (fun x v => Host.reduce IntOp.andi x v reducesTo_S1x1024_S_d0_1 h_S_) main_v28 main_c_9
  let main_v30 : IVec S_ 1 := andi main_v25 main_v29
  main_v30

def fn {F : FTy → Type} [FloatOps F] (main_arg0 : FVec F S4096x2816 .bf16) (main_arg1 : FVec F S4096x2816 .bf16) (main_arg2 : FVec F S1024x2816 .f32) (main_arg3 : FVec F S1024x2816 .f32) (main_arg4 : FVec F S4096x1024 .f32) (main_arg5 : FVec F S1x1024 .f32) (main_arg6 : FVec F S4096x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S4096x2816 .f32 := (extf .f32 · bitsLt_bf16_f32) main_arg1
  let main_v6 : FVec F S4096x2816 .f32 := Host.absf main_v5
  let main_cst_0 : FVec F S_ .f32 := constant S_ .f32 0x7F800000#32
  let main_v7 : FVec F S4096x2816 .f32 := broadcastInDim S4096x2816 ![] bcast_S_S4096x2816 main_cst_0
  let main_v8 : IVec S4096x2816 1 := cmpf .olt main_v6 main_v7
  let main_c_1 : IVec S_ 1 := constantI S_ 1 1#1
  let main_v9 : IVec S_ 1 := (fun x v => Host.reduce IntOp.andi x v reducesTo_S4096x2816_S_d0_1 h_S_) main_v8 main_c_1
  let main_v10 : IVec S_ 1 := andi main_v4 main_v9
  let main_v11 : FVec F S1024x2816 .f32 := Host.absf main_arg2
  let main_cst_2 : FVec F S_ .f32 := constant S_ .f32 0x7F800000#32
  let main_v12 : FVec F S1024x2816 .f32 := broadcastInDim S1024x2816 ![] bcast_S_S1024x2816 main_cst_2
  let main_v13 : IVec S1024x2816 1 := cmpf .olt main_v11 main_v12
  let main_c_3 : IVec S_ 1 := constantI S_ 1 1#1
  let main_v14 : IVec S_ 1 := (fun x v => Host.reduce IntOp.andi x v reducesTo_S1024x2816_S_d0_1 h_S_) main_v13 main_c_3
  let main_v15 : IVec S_ 1 := andi main_v10 main_v14
  let main_v16 : FVec F S1024x2816 .f32 := Host.absf main_arg3
  let main_cst_4 : FVec F S_ .f32 := constant S_ .f32 0x7F800000#32
  fn_part1 (F := F) main_arg4 main_arg5 main_v15 main_v16 main_cst_4
-- ==== ActGrad.lean ====
abbrev S4096x2816 : Shape := ⟨2, ![4096, 2816]⟩
abbrev S4096x1024 : Shape := ⟨2, ![4096, 1024]⟩
abbrev S2816x1024 : Shape := ⟨2, ![2816, 1024]⟩
abbrev S_ : Shape := ⟨0, ![]⟩
abbrev S1x2816x1024 : Shape := ⟨3, ![1, 2816, 1024]⟩
abbrev S1x256x1024 : Shape := ⟨3, ![1, 256, 1024]⟩
abbrev S4096x256 : Shape := ⟨2, ![4096, 256]⟩
abbrev S1024x1024 : Shape := ⟨2, ![1024, 1024]⟩
abbrev S256x1024 : Shape := ⟨2, ![256, 1024]⟩
abbrev S1024x256 : Shape := ⟨2, ![1024, 256]⟩

abbrev nBuf : Space → Nat
  | .hbm => 30
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .bf16⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .bf16⟩
  | .hbm, ⟨19, _⟩ => ⟨S4096x2816, .bf16⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S2816x1024, .bf16⟩
  | .hbm, ⟨25, _⟩ => ⟨S1x2816x1024, .bf16⟩
  | .hbm, ⟨26, _⟩ => ⟨S4096x2816, .bf16⟩
  | .hbm, ⟨27, _⟩ => ⟨S4096x2816, .bf16⟩
  | .hbm, ⟨28, _⟩ => ⟨S4096x2816, .bf16⟩
  | .hbm, ⟨29, _⟩ => ⟨S4096x2816, .bf16⟩
  | .local _ .vmem, ⟨0, _⟩ => ⟨S4096x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21_0 : Ref sig .tc := ⟨.hbm, 28, rfl⟩
abbrev main_v21_1 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ActGradRefIdeal.lean ====
abbrev S4096x2816 : Shape := ⟨2, ![4096, 2816]⟩
abbrev S4096x1024 : Shape := ⟨2, ![4096, 1024]⟩
abbrev S2816x1024 : Shape := ⟨2, ![2816, 1024]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x2816, .f32⟩
  | .hbm, ⟨2, _⟩ => ⟨S4096x1024, .bf16⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .bf16⟩
  | .hbm, ⟨28, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== WeightGrad.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WeightGradRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== NormGrad.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S2816x1024 : Shape := ⟨2, ![2816, 1024]⟩
abbrev S1x2816x1024 : Shape := ⟨3, ![1, 2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S2816x1024, .f32⟩
  | .hbm, ⟨8, _⟩ => ⟨S1x2816x1024, .f32⟩
  | .hbm, ⟨9, _⟩ => ⟨S1x2816x1024, .bf16⟩
  | .hbm, ⟨10, _⟩ => ⟨S2816x1024, .f32⟩
  | .hbm, ⟨11, _⟩ => ⟨S1x2816x1024, .f32⟩
  | .hbm, ⟨12, _⟩ => ⟨S1x2816x1024, .bf16⟩
  | .hbm, ⟨13, _⟩ => ⟨S4096x1024, .f32⟩
  | .hbm, ⟨14, _⟩ => ⟨S4096x1024, .bf16⟩
  | .hbm, ⟨15, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormGradRefIdeal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 63
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .f32⟩
  | .hbm, ⟨3, _⟩ => ⟨S1024x2816, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | .hbm, ⟨62, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== MixOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixIn.lean ====
abbrev S4096x3200 : Shape := ⟨2, ![4096, 3200]⟩
abbrev S4096x1024 : Shape := ⟨2, ![4096, 1024]⟩
abbrev S3200x1024 : Shape := ⟨2, ![3200, 1024]⟩
abbrev S2048x640 : Shape := ⟨2, ![2048, 640]⟩
abbrev S2048x1024 : Shape := ⟨2, ![2048, 1024]⟩
abbrev S640x1024 : Shape := ⟨2, ![640, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S3200x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S2048x1024, .bf16⟩
  | .local _ .vmem, ⟨4, _⟩ => ⟨S640x1024, .bf16⟩
  | .local _ .vmem, ⟨5, _⟩ => ⟨S640x1024, .bf16⟩
  | .local _ .vmem, ⟨6, _⟩ => ⟨S640x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![5, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x3200 : Shape := ⟨2, ![4096, 3200]⟩
abbrev S4096x1024 : Shape := ⟨2, ![4096, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x3200, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S3200x1024, .f32⟩
  | .hbm, ⟨10, _⟩ => ⟨S3200x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MixNorm.lean ====
abbrev S4096x3200 : Shape := ⟨2, ![4096, 3200]⟩
abbrev S1024x3200 : Shape := ⟨2, ![1024, 3200]⟩
abbrev S4096x1024 : Shape := ⟨2, ![4096, 1024]⟩
abbrev S1x1024 : Shape := ⟨2, ![1, 1024]⟩
abbrev S3200x1024 : Shape := ⟨2, ![3200, 1024]⟩
abbrev S1x3200x1024 : Shape := ⟨3, ![1, 3200, 1024]⟩
abbrev S512x3200 : Shape := ⟨2, ![512, 3200]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 13
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S3200x1024, .f32⟩
  | .hbm, ⟨6, _⟩ => ⟨S1x3200x1024, .f32⟩
  | .hbm, ⟨7, _⟩ => ⟨S1x3200x1024, .bf16⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S1x3200x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3200x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MixNormRefIdeal.lean ====
abbrev S4096x3200 : Shape := ⟨2, ![4096, 3200]⟩
abbrev S1024x3200 : Shape := ⟨2, ![1024, 3200]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3200, .f32⟩
  | .hbm, ⟨27, _⟩ => ⟨S4096x3200, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096x1024, .f32⟩
  | .hbm, ⟨57, _⟩ => ⟨S4096x1024, .f32⟩
  | .hbm, ⟨58, _⟩ => ⟨S4096x1024, .bf16⟩
  | .hbm, ⟨59, _⟩ => ⟨S1x1024, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_8 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== AdamIn.lean ====
abbrev S1x1024x386 : Shape := ⟨3, ![1, 1024, 386]⟩
abbrev S386x1x1024 : Shape := ⟨3, ![386, 1, 1024]⟩
abbrev S193x1x1024 : Shape := ⟨3, ![193, 1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x386, .f32⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S386x1x1024, .f32⟩
  | .hbm, ⟨5, _⟩ => ⟨S386x1x1024, .f32⟩
  | .hbm, ⟨6, _⟩ => ⟨S386x1x1024, .f32⟩
  | .hbm, ⟨7, _⟩ => ⟨S386x1x1024, .f32⟩
  | .hbm, ⟨8, _⟩ => ⟨S386x1x1024, .f32⟩
  | .hbm, ⟨9, _⟩ => ⟨S386x1x1024, .f32⟩
  | .hbm, ⟨10, _⟩ => ⟨S386x1x1024, .f32⟩
  | .local _ .vmem, ⟨0, _⟩ => ⟨S193x1x1024, .f32⟩
  | .local _ .vmem, ⟨1, _⟩ => ⟨S193x1x1024, .f32⟩
  | .local _ .vmem, ⟨2, _⟩ => ⟨S193x1x1024, .f32⟩
  | .local _ .vmem, ⟨3, _⟩ => ⟨S193x1x1024, .f32⟩
  | .local _ .vmem, ⟨4, _⟩ => ⟨S193x1x1024, .f32⟩
  | .local _ .vmem, ⟨5, _⟩ => ⟨S193x1x1024, .f32⟩
  | .local _ .vmem, ⟨6, _⟩ => ⟨S193x1x1024, .f32⟩
  | .local _ .vmem, ⟨7, _⟩ => ⟨S193x1x1024, .f32⟩
  | .local _ .vmem, ⟨8, _⟩ => ⟨S193x1x1024, .f32⟩
  | .local _ .vmem, ⟨9, _⟩ => ⟨S193x1x1024, .f32⟩
  | .local _ .vmem, ⟨10, _⟩ => ⟨S193x1x1024, .f32⟩
  | .local _ .vmem, ⟨11, _⟩ => ⟨S193x1x1024, .f32⟩
  | .local _ .vmem, ⟨12, _⟩ => ⟨S193x1x1024, .f32⟩
  | .local _ .vmem, ⟨13, _⟩ => ⟨S193x1x1024, .f32⟩
  | _, _ => ⟨S1x1024x386, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S193x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S193x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S193x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S193x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S193x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S193x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S193x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1x1024x386 : Shape := ⟨3, ![1, 1024, 386]⟩
abbrev S_ : Shape := ⟨0, ![]⟩
abbrev S386x1x1024 : Shape := ⟨3, ![386, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x386, .f32⟩
  | .hbm, ⟨1, _⟩ => ⟨S1x1024x386, .f32⟩
  | .hbm, ⟨2, _⟩ => ⟨S1x1024x386, .f32⟩
  | .hbm, ⟨3, _⟩ => ⟨S1x1024x386, .f32⟩
  | .hbm, ⟨4, _⟩ => ⟨S_, .f32⟩
  | .hbm, ⟨5, _⟩ => ⟨S1x1024x386, .f32⟩
  | .hbm, ⟨6, _⟩ => ⟨S1x1024x386, .f32⟩
  | .hbm, ⟨7, _⟩ => ⟨S_, .f32⟩
  | .hbm, ⟨8, _⟩ => ⟨S1x1024x386, .f32⟩
  | .hbm, ⟨9, _⟩ => ⟨S1x1024x386, .f32⟩
  | .hbm, ⟨10, _⟩ => ⟨S1x1024x386, .f32⟩
  | .hbm, ⟨11, _⟩ => ⟨S_, .f32⟩
  | .hbm, ⟨12, _⟩ => ⟨S1x1024x386, .f32⟩
  | .hbm, ⟨13, _⟩ => ⟨S1x1024x386, .f32⟩
  | .hbm, ⟨14, _⟩ => ⟨S1x1024x386, .f32⟩
  | .hbm, ⟨15, _⟩ => ⟨S_, .f32⟩
  | .hbm, ⟨16, _⟩ => ⟨S1x1024x386, .f32⟩
  | .hbm, ⟨17, _⟩ => ⟨S1x1024x386, .f32⟩
  | .hbm, ⟨18, _⟩ => ⟨S1x1024x386, .f32⟩
  | .hbm, ⟨19, _⟩ => ⟨S_, .f32⟩
  | .hbm, ⟨20, _⟩ => ⟨S1x1024x386, .f32⟩
  | .hbm, ⟨21, _⟩ => ⟨S1x1024x386, .f32⟩
  | .hbm, ⟨22, _⟩ => ⟨S_, .f32⟩
  | .hbm, ⟨23, _⟩ => ⟨S1x1024x386, .f32⟩
  | .hbm, ⟨24, _⟩ => ⟨S1x1024x386, .f32⟩
  | .hbm, ⟨25, _⟩ => ⟨S1x1024x386, .f32⟩
  | .hbm, ⟨26, _⟩ => ⟨S_, .f32⟩
  | .hbm, ⟨27, _⟩ => ⟨S1x1024x386, .f32⟩
  | .hbm, ⟨28, _⟩ => ⟨S1x1024x386, .f32⟩
  | .hbm, ⟨29, _⟩ => ⟨S1x1024x386, .f32⟩
  | .hbm, ⟨30, _⟩ => ⟨S_, .f32⟩
  | .hbm, ⟨31, _⟩ => ⟨S1x1024x386, .f32⟩
  | .hbm, ⟨32, _⟩ => ⟨S1x1024x386, .f32⟩
  | .hbm, ⟨33, _⟩ => ⟨S1x1024x386, .f32⟩
  | .hbm, ⟨34, _⟩ => ⟨S_, .f32⟩
  | .hbm, ⟨35, _⟩ => ⟨S1x1024x386, .f32⟩
  | .hbm, ⟨36, _⟩ => ⟨S1x1024x386, .f32⟩
  | .hbm, ⟨37, _⟩ => ⟨S386x1x1024, .f32⟩
  | .hbm, ⟨38, _⟩ => ⟨S386x1x1024, .f32⟩
  | .hbm, ⟨39, _⟩ => ⟨S386x1x1024, .f32⟩
  | _, _ => ⟨S1x1024x386, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamB.lean ====
abbrev S1x1024x352 : Shape := ⟨3, ![1, 1024, 352]⟩
abbrev S1x352x1024 : Shape := ⟨3, ![1, 352, 1024]⟩
abbrev S1024x352 : Shape := ⟨2, ![1024, 352]⟩
abbrev S352x1024 : Shape := ⟨2, ![352, 1024]⟩
abbrev S88x1024 : Shape := ⟨2, ![88, 1024]⟩

abbrev nBuf : Space → Nat
  | .hbm => 41
  | .vmem => 42
  | .smem => 0
  | _ => 0

abbrev bufTy : (tb : Table) → Fin (tcTables nBuf tb) → BufTy
  | .hbm, ⟨0, _⟩ => ⟨S1x1024x352, .f32⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x1024x352, .f32⟩
  | .hbm, ⟨5, _⟩ => ⟨S1x1024x352, .f32⟩
  | .hbm, ⟨6, _⟩ => ⟨S1x1024x352, .f32⟩
  | .hbm, ⟨7, _⟩ => ⟨S1x1024x352, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x352x1024, .f32⟩
  | .hbm, ⟨12, _⟩ => ⟨S1024x352, .f32⟩
  | .hbm, ⟨13, _⟩ => ⟨S352x1024, .f32⟩
  | .hbm, ⟨14, _⟩ => ⟨S1024x352, .f32⟩
  | .hbm, ⟨15, _⟩ => ⟨S352x1024, .f32⟩
  | .hbm, ⟨16, _⟩ => ⟨S1024x352, .f32⟩
  | .hbm, ⟨17, _⟩ => ⟨S352x1024, .f32⟩
  | .hbm, ⟨18, _⟩ => ⟨S1024x352, .f32⟩
  | .hbm, ⟨19, _⟩ => ⟨S352x1024, .f32⟩
  | .hbm, ⟨20, _⟩ => ⟨S1024x352, .f32⟩
  | .hbm, ⟨21, _⟩ => ⟨S352x1024, .f32⟩
  | .hbm, ⟨22, _⟩ => ⟨S1024x352, .f32⟩
  | .hbm, ⟨23, _⟩ => ⟨S352x1024, .f32⟩
  | .hbm, ⟨24, _⟩ => ⟨S1024x352, .f32⟩
  | .hbm, ⟨25, _⟩ => ⟨S352x1024, .f32⟩
  | .hbm, ⟨26, _⟩ => ⟨S1024x352, .f32⟩
  | .hbm, ⟨27, _⟩ => ⟨S352x1024, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S352x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S88x1024, .f32⟩
  | .local _ .vmem, ⟨19, _⟩ => ⟨S88x1024, .f32⟩
  | .local _ .vmem, ⟨20, _⟩ => ⟨S88x1024, .f32⟩
  | .local _ .vmem, ⟨21, _⟩ => ⟨S88x1024, .f32⟩
  | .local _ .vmem, ⟨22, _⟩ => ⟨S88x1024, .f32⟩
  | .local _ .vmem, ⟨23, _⟩ => ⟨S88x1024, .f32⟩
  | .local _ .vmem, ⟨24, _⟩ => ⟨S88x1024, .f32⟩
  | .local _ .vmem, ⟨25, _⟩ => ⟨S88x1024, .f32⟩
  | .local _ .vmem, ⟨26, _⟩ => ⟨S88x1024, .f32⟩
  | .local _ .vmem, ⟨27, _⟩ => ⟨S88x1024, .f32⟩
  | .local _ .vmem, ⟨28, _⟩ => ⟨S88x1024, .f32⟩
  | .local _ .vmem, ⟨29, _⟩ => ⟨S88x1024, .f32⟩
  | .local _ .vmem, ⟨30, _⟩ => ⟨S88x1024, .f32⟩
  | .local _ .vmem, ⟨31, _⟩ => ⟨S88x1024, .f32⟩
  | .local _ .vmem, ⟨32, _⟩ => ⟨S88x1024, .f32⟩
  | .local _ .vmem, ⟨33, _⟩ => ⟨S88x1024, .f32⟩
  | .local _ .vmem, ⟨34, _⟩ => ⟨S88x1024, .f32⟩
  | .local _ .vmem, ⟨35, _⟩ => ⟨S88x1024, .f32⟩
  | .local _ .vmem, ⟨36, _⟩ => ⟨S88x1024, .f32⟩
  | .local _ .vmem, ⟨37, _⟩ => ⟨S88x1024, .f32⟩
  | .local _ .vmem, ⟨38, _⟩ => ⟨S88x1024, .f32⟩
  | .local _ .vmem, ⟨39, _⟩ => ⟨S88x1024, .f32⟩
  | .local _ .vmem, ⟨40, _⟩ => ⟨S88x1024, .f32⟩
  | .local _ .vmem, ⟨41, _⟩ => ⟨S88x1024, .f32⟩
  | _, _ => ⟨S1x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v20_3 : Ref sig .tc := ⟨.hbm, 35, rfl⟩
abbrev main_v20_4 : Ref sig .tc := ⟨.hbm, 36, rfl⟩
abbrev main_v20_5 : Ref sig .tc := ⟨.hbm, 37, rfl⟩
abbrev main_v20_6 : Ref sig .tc := ⟨.hbm, 38, rfl⟩
abbrev main_v20_7 : Ref sig .tc := ⟨.hbm, 39, rfl⟩
abbrev main_v20_8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S88x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S88x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S88x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S88x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S88x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S88x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S88x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== AdamBRefIdeal.lean ====
abbrev S1x1024x352 : Shape := ⟨3, ![1, 1024, 352]⟩
abbrev S1x352x1024 : Shape := ⟨3, ![1, 352, 1024]⟩
abbrev S_ : Shape := ⟨0, ![]⟩
abbrev S1024x352 : Shape := ⟨2, ![1024, 352]⟩
abbrev S352x1024 : Shape := ⟨2, ![352, 1024]⟩

abbrev nBuf : Space → Nat
  | .hbm => 126
  | .vmem => 0
  | .smem => 0
  | _ => 0

abbrev bufTy : (tb : Table) → Fin (tcTables nBuf tb) → BufTy
  | .hbm, ⟨0, _⟩ => ⟨S1x1024x352, .f32⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x1024x352, .f32⟩
  | .hbm, ⟨5, _⟩ => ⟨S1x1024x352, .f32⟩
  | .hbm, ⟨6, _⟩ => ⟨S1x1024x352, .f32⟩
  | .hbm, ⟨7, _⟩ => ⟨S1x1024x352, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x352x1024, .f32⟩
  | .hbm, ⟨12, _⟩ => ⟨S_, .f32⟩
  | .hbm, ⟨13, _⟩ => ⟨S1x1024x352, .f32⟩
  | .hbm, ⟨14, _⟩ => ⟨S1x1024x352, .f32⟩
  | .hbm, ⟨15, _⟩ => ⟨S_, .f32⟩
  | .hbm, ⟨16, _⟩ => ⟨S1x1024x352, .f32⟩
  | .hbm, ⟨17, _⟩ => ⟨S1x1024x352, .f32⟩
  | .hbm, ⟨18, _⟩ => ⟨S1x1024x352, .f32⟩
  | .hbm, ⟨19, _⟩ => ⟨S_, .f32⟩
  | .hbm, ⟨20, _⟩ => ⟨S1x1024x352, .f32⟩
  | .hbm, ⟨21, _⟩ => ⟨S1x1024x352, .f32⟩
  | .hbm, ⟨22, _⟩ => ⟨S1x1024x352, .f32⟩
  | .hbm, ⟨23, _⟩ => ⟨S_, .f32⟩
  | .hbm, ⟨24, _⟩ => ⟨S1x1024x352, .f32⟩
  | .hbm, ⟨25, _⟩ => ⟨S1x1024x352, .f32⟩
  | .hbm, ⟨26, _⟩ => ⟨S1x1024x352, .f32⟩
  | .hbm, ⟨27, _⟩ => ⟨S_, .f32⟩
  | .hbm, ⟨28, _⟩ => ⟨S1x1024x352, .f32⟩
  | .hbm, ⟨29, _⟩ => ⟨S1x1024x352, .f32⟩
  | .hbm, ⟨30, _⟩ => ⟨S_, .f32⟩
  | .hbm, ⟨31, _⟩ => ⟨S1x1024x352, .f32⟩
  | .hbm, ⟨32, _⟩ => ⟨S1x1024x352, .f32⟩
  | .hbm, ⟨33, _⟩ => ⟨S1x1024x352, .f32⟩
  | .hbm, ⟨34, _⟩ => ⟨S_, .f32⟩
  | .hbm, ⟨35, _⟩ => ⟨S1x1024x352, .f32⟩
  | .hbm, ⟨36, _⟩ => ⟨S1x1024x352, .f32⟩
  | .hbm, ⟨37, _⟩ => ⟨S1x1024x352, .f32⟩
  | .hbm, ⟨38, _⟩ => ⟨S_, .f32⟩
  | .hbm, ⟨39, _⟩ => ⟨S1x1024x352, .f32⟩
  | .hbm, ⟨40, _⟩ => ⟨S1x1024x352, .f32⟩
  | .hbm, ⟨41, _⟩ => ⟨S1x1024x352, .f32⟩
  | .hbm, ⟨42, _⟩ => ⟨S_, .f32⟩
  | .hbm, ⟨43, _⟩ => ⟨S1x1024x352, .f32⟩
  | .hbm, ⟨44, _⟩ => ⟨S1x1024x352, .f32⟩
  | .hbm, ⟨45, _⟩ => ⟨S_, .f32⟩
  | .hbm, ⟨46, _⟩ => ⟨S1x1024x352, .f32⟩
  | .hbm, ⟨47, _⟩ => ⟨S1x1024x352, .f32⟩
  | .hbm, ⟨48, _⟩ => ⟨S_, .f32⟩
  | .hbm, ⟨49, _⟩ => ⟨S1x1024x352, .f32⟩
  | .hbm, ⟨50, _⟩ => ⟨S1x1024x352, .f32⟩
  | .hbm, ⟨51, _⟩ => ⟨S1x1024x352, .f32⟩
  | .hbm, ⟨52, _⟩ => ⟨S_, .f32⟩
  | .hbm, ⟨53, _⟩ => ⟨S1x1024x352, .f32⟩
  | .hbm, ⟨54, _⟩ => ⟨S1x1024x352, .f32⟩
  | .hbm, ⟨55, _⟩ => ⟨S1x1024x352, .f32⟩
  | .hbm, ⟨56, _⟩ => ⟨S_, .f32⟩
  | .hbm, ⟨57, _⟩ => ⟨S1x1024x352, .f32⟩
  | .hbm, ⟨58, _⟩ => ⟨S1x1024x352, .f32⟩
  | .hbm, ⟨59, _⟩ => ⟨S1x1024x352, .f32⟩
  | .hbm, ⟨60, _⟩ => ⟨S_, .f32⟩
  | .hbm, ⟨61, _⟩ => ⟨S1x1024x352, .f32⟩
  | .hbm, ⟨62, _⟩ => ⟨S1x1024x352, .f32⟩
  | .hbm, ⟨63, _⟩ => ⟨S_, .f32⟩
  | .hbm, ⟨64, _⟩ => ⟨S1x1024x352, .f32⟩
  | .hbm, ⟨65, _⟩ => ⟨S1x1024x352, .f32⟩
  | .hbm, ⟨66, _⟩ => ⟨S1x1024x352, .f32⟩
  | .hbm, ⟨67, _⟩ => ⟨S_, .f32⟩
  | .hbm, ⟨68, _⟩ => ⟨S1x1024x352, .f32⟩
  | .hbm, ⟨69, _⟩ => ⟨S1x1024x352, .f32⟩
  | .hbm, ⟨70, _⟩ => ⟨S1x1024x352, .f32⟩
  | .hbm, ⟨71, _⟩ => ⟨S_, .f32⟩
  | .hbm, ⟨72, _⟩ => ⟨S1x1024x352, .f32⟩
  | .hbm, ⟨73, _⟩ => ⟨S1x1024x352, .f32⟩
  | .hbm, ⟨74, _⟩ => ⟨S1x1024x352, .f32⟩
  | .hbm, ⟨75, _⟩ => ⟨S_, .f32⟩
  | .hbm, ⟨76, _⟩ => ⟨S1x1024x352, .f32⟩
  | .hbm, ⟨77, _⟩ => ⟨S1x1024x352, .f32⟩
  | .hbm, ⟨78, _⟩ => ⟨S_, .f32⟩
  | .hbm, ⟨79, _⟩ => ⟨S1x352x1024, .f32⟩
  | .hbm, ⟨80, _⟩ => ⟨S1x352x1024, .f32⟩
  | .hbm, ⟨81, _⟩ => ⟨S_, .f32⟩
  | .hbm, ⟨82, _⟩ => ⟨S1x352x1024, .f32⟩
  | .hbm, ⟨83, _⟩ => ⟨S1x352x1024, .f32⟩
  | .hbm, ⟨84, _⟩ => ⟨S1x352x1024, .f32⟩
  | .hbm, ⟨85, _⟩ => ⟨S_, .f32⟩
  | .hbm, ⟨86, _⟩ => ⟨S1x352x1024, .f32⟩
  | .hbm, ⟨87, _⟩ => ⟨S1x352x1024, .f32⟩
  | .hbm, ⟨88, _⟩ => ⟨S1x352x1024, .f32⟩
  | .hbm, ⟨89, _⟩ => ⟨S_, .f32⟩
  | .hbm, ⟨90, _⟩ => ⟨S1x352x1024, .f32⟩
  | .hbm, ⟨91, _⟩ => ⟨S1x352x1024, .f32⟩
  | .hbm, ⟨92, _⟩ => ⟨S1x352x1024, .f32⟩
  | .hbm, ⟨93, _⟩ => ⟨S_, .f32⟩
  | .hbm, ⟨94, _⟩ => ⟨S1x352x1024, .f32⟩
  | .hbm, ⟨95, _⟩ => ⟨S1x352x1024, .f32⟩
  | .hbm, ⟨96, _⟩ => ⟨S_, .f32⟩
  | .hbm, ⟨97, _⟩ => ⟨S1x352x1024, .f32⟩
  | .hbm, ⟨98, _⟩ => ⟨S1x352x1024, .f32⟩
  | .hbm, ⟨99, _⟩ => ⟨S1x352x1024, .f32⟩
  | .hbm, ⟨100, _⟩ => ⟨S_, .f32⟩
  | .hbm, ⟨101, _⟩ => ⟨S1x352x1024, .f32⟩
  | .hbm, ⟨102, _⟩ => ⟨S1x352x1024, .f32⟩
  | .hbm, ⟨103, _⟩ => ⟨S1x352x1024, .f32⟩
  | .hbm, ⟨104, _⟩ => ⟨S_, .f32⟩
  | .hbm, ⟨105, _⟩ => ⟨S1x352x1024, .f32⟩
  | .hbm, ⟨106, _⟩ => ⟨S1x352x1024, .f32⟩
  | .hbm, ⟨107, _⟩ => ⟨S1x352x1024, .f32⟩
  | .hbm, ⟨108, _⟩ => ⟨S_, .f32⟩
  | .hbm, ⟨109, _⟩ => ⟨S1x352x1024, .f32⟩
  | .hbm, ⟨110, _⟩ => ⟨S1x352x1024, .f32⟩
  | .hbm, ⟨111, _⟩ => ⟨S1024x352, .f32⟩
  | .hbm, ⟨112, _⟩ => ⟨S352x1024, .f32⟩
  | .hbm, ⟨113, _⟩ => ⟨S1024x352, .f32⟩
  | .hbm, ⟨114, _⟩ => ⟨S352x1024, .f32⟩
  | .hbm, ⟨115, _⟩ => ⟨S1024x352, .f32⟩
  | .hbm, ⟨116, _⟩ => ⟨S352x1024, .f32⟩
  | .hbm, ⟨117, _⟩ => ⟨S1024x352, .f32⟩
  | .hbm, ⟨118, _⟩ => ⟨S352x1024, .f32⟩
  | .hbm, ⟨119, _⟩ => ⟨S1024x352, .f32⟩
  | .hbm, ⟨120, _⟩ => ⟨S352x1024, .f32⟩
  | .hbm, ⟨121, _⟩ => ⟨S1024x352, .f32⟩
  | .hbm, ⟨122, _⟩ => ⟨S352x1024, .f32⟩
  | .hbm, ⟨123, _⟩ => ⟨S352x1024, .f32⟩
  | .hbm, ⟨124, _⟩ => ⟨S352x1024, .f32⟩
  | .hbm, ⟨125, _⟩ => ⟨S352x1024, .f32⟩
  | _, _ => ⟨S1x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== AttnGrad.lean ====
abbrev S4096x3200 : Shape := ⟨2, ![4096, 3200]⟩
abbrev S4096x128 : Shape := ⟨2, ![4096, 128]⟩
abbrev S1x256 : Shape := ⟨2, ![1, 256]⟩
abbrev S128x256 : Shape := ⟨2, ![128, 256]⟩
abbrev S1x512 : Shape := ⟨2, ![1, 512]⟩
abbrev S4096x1024 : Shape := ⟨2, ![4096, 1024]⟩
abbrev S1024x1024 : Shape := ⟨2, ![1024, 1024]⟩
abbrev S16x2x512x256 : Shape := ⟨4, ![16, 2, 512, 256]⟩
abbrev S256x3200 : Shape := ⟨2, ![256, 3200]⟩
abbrev S256x128 : Shape := ⟨2, ![256, 128]⟩
abbrev S256x1024 : Shape := ⟨2, ![256, 1024]⟩
abbrev S1x2x512x256 : Shape := ⟨4, ![1, 2, 512, 256]⟩
abbrev S2x512x256 : Shape := ⟨3, ![2, 512, 256]⟩
abbrev S256x256 : Shape := ⟨2, ![256, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1x128 : Shape := ⟨2, ![1, 128]⟩
abbrev S128 : Shape := ⟨1, ![128]⟩
abbrev S1x1x512x256 : Shape := ⟨4, ![1, 1, 512, 256]⟩
abbrev S1x512x256 : Shape := ⟨3, ![1, 512, 256]⟩
abbrev S1024x256 : Shape := ⟨2, ![1024, 256]⟩

abbrev nBuf : Space → Nat
  | .hbm => 17
  | .vmem => 26
  | .smem => 0
  | _ => 0

abbrev bufTy : (tb : Table) → Fin (tcTables nBuf tb) → BufTy
  | .hbm, ⟨0, _⟩ => ⟨S4096x3200, .bf16⟩
  | .hbm, ⟨1, _⟩ => ⟨S4096x128, .f32⟩
  | .hbm, ⟨2, _⟩ => ⟨S4096x128, .f32⟩
  | .hbm, ⟨3, _⟩ => ⟨S1x256, .f32⟩
  | .hbm, ⟨4, _⟩ => ⟨S128x256, .f32⟩
  | .hbm, ⟨5, _⟩ => ⟨S1x256, .f32⟩
  | .hbm, ⟨6, _⟩ => ⟨S1x512, .f32⟩
  | .hbm, ⟨7, _⟩ => ⟨S1x512, .f32⟩
  | .hbm, ⟨8, _⟩ => ⟨S4096x1024, .f32⟩
  | .hbm, ⟨9, _⟩ => ⟨S4096x1024, .bf16⟩
  | .hbm, ⟨10, _⟩ => ⟨S1024x1024, .bf16⟩
  | .hbm, ⟨11, _⟩ => ⟨S16x2x512x256, .f32⟩
  | .hbm, ⟨12, _⟩ => ⟨S4096x3200, .bf16⟩
  | .hbm, ⟨13, _⟩ => ⟨S1x512, .f32⟩
  | .hbm, ⟨14, _⟩ => ⟨S1x512, .f32⟩
  | .hbm, ⟨15, _⟩ => ⟨S1x256, .f32⟩
  | .hbm, ⟨16, _⟩ => ⟨S128x256, .f32⟩
  | .local _ .vmem, ⟨0, _⟩ => ⟨S256x3200, .bf16⟩
  | .local _ .vmem, ⟨1, _⟩ => ⟨S256x3200, .bf16⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x256, .f32⟩
  | .local _ .vmem, ⟨7, _⟩ => ⟨S128x256, .f32⟩
  | .local _ .vmem, ⟨8, _⟩ => ⟨S1x256, .f32⟩
  | .local _ .vmem, ⟨9, _⟩ => ⟨S1x512, .f32⟩
  | .local _ .vmem, ⟨10, _⟩ => ⟨S1x512, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1024x1024, .bf16⟩
  | .local _ .vmem, ⟨16, _⟩ => ⟨S1x2x512x256, .f32⟩
  | .local _ .vmem, ⟨17, _⟩ => ⟨S1x2x512x256, .f32⟩
  | .local _ .vmem, ⟨18, _⟩ => ⟨S256x3200, .bf16⟩
  | .local _ .vmem, ⟨19, _⟩ => ⟨S256x3200, .bf16⟩
  | .local _ .vmem, ⟨20, _⟩ => ⟨S1x512, .f32⟩
  | .local _ .vmem, ⟨21, _⟩ => ⟨S1x512, .f32⟩
  | .local _ .vmem, ⟨22, _⟩ => ⟨S1x256, .f32⟩
  | .local _ .vmem, ⟨23, _⟩ => ⟨S128x256, .f32⟩
  | .local _ .vmem, ⟨24, _⟩ => ⟨S2x512x256, .f32⟩
  | .local _ .vmem, ⟨25, _⟩ => ⟨S256x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x2x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3200 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== AttnGradRefIdeal.lean ====
abbrev S4096x3200 : Shape := ⟨2, ![4096, 3200]⟩
abbrev S4096x128 : Shape := ⟨2, ![4096, 128]⟩
abbrev S1x256 : Shape := ⟨2, ![1, 256]⟩
abbrev S128x256 : Shape := ⟨2, ![128, 256]⟩
abbrev S1x512 : Shape := ⟨2, ![1, 512]⟩
abbrev S4096x1024 : Shape := ⟨2, ![4096, 1024]⟩
abbrev S1024x1024 : Shape := ⟨2, ![1024, 1024]⟩
abbrev S16x2x512x256 : Shape := ⟨4, ![16, 2, 512, 256]⟩
abbrev S1x4096x3200 : Shape := ⟨3, ![1, 4096, 3200]⟩
abbrev S1x4096x512 : Shape := ⟨3, ![1, 4096, 512]⟩
abbrev S4096x512 : Shape := ⟨2, ![4096, 512]⟩
abbrev S512 : Shape := ⟨1, ![512]⟩
abbrev S1x4096x4x128 : Shape := ⟨4, ![1, 4096, 4, 128]⟩
abbrev S1x4x4096x128 : Shape := ⟨4, ![1, 4, 4096, 128]⟩
abbrev S_ : Shape := ⟨0, ![]⟩
abbrev S1x4x4096 : Shape := ⟨3, ![1, 4, 4096]⟩
abbrev S1x4x4096x1 : Shape := ⟨4, ![1, 4, 4096, 1]⟩
abbrev S1x1x512 : Shape := ⟨3, ![1, 1, 512]⟩
abbrev S1x4096x1024 : Shape := ⟨3, ![1, 4096, 1024]⟩

abbrev nBuf : Space → Nat
  | .hbm => 134
  | .vmem => 0
  | .smem => 0
  | _ => 0

abbrev hbmTy0_0 (i : Nat) : BufTy := match i % 128 with
  | 0 => ⟨S4096x3200, .bf16⟩
  | 1 => ⟨S4096x128, .f32⟩
  | 2 => ⟨S4096x128, .f32⟩
  | 3 => ⟨S1x256, .f32⟩
  | 4 => ⟨S128x256, .f32⟩
  | 5 => ⟨S1x256, .f32⟩
  | 6 => ⟨S1x512, .f32⟩
  | 7 => ⟨S1x512, .f32⟩
  | 8 => ⟨S4096x1024, .f32⟩
  | 9 => ⟨S4096x1024, .bf16⟩
  | 10 => ⟨S1024x1024, .bf16⟩
  | 11 => ⟨S16x2x512x256, .f32⟩
  | 12 => ⟨S4096x3200, .f32⟩
  | 13 => ⟨S1x4096x3200, .f32⟩
  | 14 => ⟨S1x4096x512, .f32⟩
  | 15 => ⟨S1x4096x512, .f32⟩
  | 16 => ⟨S4096x512, .f32⟩
  | 17 => ⟨S1x4096x512, .f32⟩
  | 18 => ⟨S4096x512, .f32⟩
  | 19 => ⟨S1x4096x512, .f32⟩
  | 20 => ⟨S1024x1024, .f32⟩
  | 21 => ⟨S512, .f32⟩
  | 22 => ⟨S512, .f32⟩
  | 23 => ⟨S1x4096x4x128, .f32⟩
  | 24 => ⟨S1x4x4096x128, .f32⟩
  | 25 => ⟨S1x4x4096x128, .f32⟩
  | 26 => ⟨S_, .f32⟩
  | 27 => ⟨S1x4x4096, .f32⟩
  | 28 => ⟨S1x4x4096x1, .f32⟩
  | 29 => ⟨S_, .f32⟩
  | 30 => ⟨S1x4x4096x1, .f32⟩
  | 31 => ⟨S1x4x4096x1, .f32⟩
  | 32 => ⟨S_, .f32⟩
  | 33 => ⟨S1x4x4096x1, .f32⟩
  | 34 => ⟨S1x4x4096x1, .f32⟩
  | 35 => ⟨S1x4x4096x1, .f32⟩
  | 36 => ⟨S1x4x4096x128, .f32⟩
  | 37 => ⟨S1x4x4096x128, .f32⟩
  | 38 => ⟨S1x4096x4x128, .f32⟩
  | 39 => ⟨S1x4096x512, .f32⟩
  | 40 => ⟨S1x1x512, .f32⟩
  | 41 => ⟨S1x4096x512, .f32⟩
  | 42 => ⟨S1x4096x512, .f32⟩
  | 43 => ⟨S1x4096x512, .f32⟩
  | 44 => ⟨S1x4096x512, .f32⟩
  | 45 => ⟨S_, .f32⟩
  | 46 => ⟨S1x4096x512, .f32⟩
  | 47 => ⟨S1x4096x512, .f32⟩
  | 48 => ⟨S_, .f32⟩
  | 49 => ⟨S1x4096x512, .f32⟩
  | 50 => ⟨S1x4096x512, .f32⟩
  | 51 => ⟨S_, .f32⟩
  | 52 => ⟨S1x4096x512, .f32⟩
  | 53 => ⟨S1x4096x512, .f32⟩
  | 54 => ⟨S1x4096x512, .f32⟩
  | 55 => ⟨S1x4096x512, .f32⟩
  | 56 => ⟨S1x4096x512, .f32⟩
  | 57 => ⟨S1x4096x4x128, .f32⟩
  | 58 => ⟨S1x4x4096x128, .f32⟩
  | 59 => ⟨S1x4x4096x128, .f32⟩
  | 60 => ⟨S_, .f32⟩
  | 61 => ⟨S1x4x4096, .f32⟩
  | 62 => ⟨S1x4x4096x1, .f32⟩
  | 63 => ⟨S_, .f32⟩
  | 64 => ⟨S1x4x4096x1, .f32⟩
  | 65 => ⟨S1x4x4096x1, .f32⟩
  | 66 => ⟨S_, .f32⟩
  | 67 => ⟨S1x4x4096x1, .f32⟩
  | 68 => ⟨S1x4x4096x1, .f32⟩
  | 69 => ⟨S1x4x4096x1, .f32⟩
  | 70 => ⟨S1x4x4096x128, .f32⟩
  | 71 => ⟨S1x4x4096x128, .f32⟩
  | 72 => ⟨S1x4096x4x128, .f32⟩
  | 73 => ⟨S1x4096x512, .f32⟩
  | 74 => ⟨S1x1x512, .f32⟩
  | 75 => ⟨S1x4096x512, .f32⟩
  | 76 => ⟨S1x4096x512, .f32⟩
  | 77 => ⟨S1x4096x512, .f32⟩
  | 78 => ⟨S1x4096x512, .f32⟩
  | 79 => ⟨S_, .f32⟩
  | 80 => ⟨S1x4096x512, .f32⟩
  | 81 => ⟨S1x4096x512, .f32⟩
  | 82 => ⟨S_, .f32⟩
  | 83 => ⟨S1x4096x512, .f32⟩
  | 84 => ⟨S1x4096x512, .f32⟩
  | 85 => ⟨S_, .f32⟩
  | 86 => ⟨S1x4096x512, .f32⟩
  | 87 => ⟨S1x4096x512, .f32⟩
  | 88 => ⟨S1x4096x512, .f32⟩
  | 89 => ⟨S1x4096x512, .f32⟩
  | 90 => ⟨S1x4096x512, .f32⟩
  | 91 => ⟨S1x4096x1024, .f32⟩
  | 92 => ⟨S1x4096x1024, .f32⟩
  | 93 => ⟨S4096x1024, .f32⟩
  | 94 => ⟨S1x4096x1024, .f32⟩
  | 95 => ⟨S1x4096x1024, .f32⟩
  | 96 => ⟨S1x4096x512, .f32⟩
  | 97 => ⟨S1x4096x512, .f32⟩
  | 98 => ⟨S1x4096x512, .f32⟩
  | 99 => ⟨S1x4096x512, .f32⟩
  | 100 => ⟨S1x4096x512, .f32⟩
  | 101 => ⟨S1x4096x512, .f32⟩
  | 102 => ⟨S1x4096x512, .f32⟩
  | 103 => ⟨S1x4096x512, .f32⟩
  | 104 => ⟨S1x4096x512, .f32⟩
  | 105 => ⟨S_, .f32⟩
  | 106 => ⟨S1x512, .f32⟩
  | 107 => ⟨S1x1x512, .f32⟩
  | 108 => ⟨S_, .f32⟩
  | 109 => ⟨S512, .f32⟩
  | 110 => ⟨S1x4096x512, .f32⟩
  | 111 => ⟨S1x4096x512, .f32⟩
  | 112 => ⟨S1x4096x512, .f32⟩
  | 113 => ⟨S1x4096x512, .f32⟩
  | 114 => ⟨S1x4096x512, .f32⟩
  | 115 => ⟨S1x4096x512, .f32⟩
  | 116 => ⟨S1x4096x512, .f32⟩
  | 117 => ⟨S_, .f32⟩
  | 118 => ⟨S1x512, .f32⟩
  | 119 => ⟨S1x1x512, .f32⟩
  | 120 => ⟨S_, .f32⟩
  | 121 => ⟨S512, .f32⟩
  | 122 => ⟨S_, .f32⟩
  | 123 => ⟨S4096x1024, .f32⟩
  | 124 => ⟨S4096x512, .f32⟩
  | 125 => ⟨S_, .f32⟩
  | 126 => ⟨S4096x1024, .f32⟩
  | 127 => ⟨S4096x512, .f32⟩
  | _ => ⟨S4096x3200, .bf16⟩

abbrev hbmTy0_1 (i : Nat) : BufTy := match i % 128 with
  | 0 => ⟨S_, .f32⟩
  | 1 => ⟨S4096x128, .f32⟩
  | 2 => ⟨S4096x3200, .f32⟩
  | 3 => ⟨S4096x3200, .bf16⟩
  | 4 => ⟨S1x512, .f32⟩
  | 5 => ⟨S1x512, .f32⟩
  | _ => ⟨S4096x3200, .bf16⟩

abbrev hbmTy (i : Nat) : BufTy := match i / 128 with
  | 0 => hbmTy0_0 i
  | 1 => hbmTy0_1 i
  | _ => ⟨S4096x3200, .bf16⟩

abbrev bufTy : (tb : Table) → Fin (tcTables nBuf tb) → BufTy
  | .hbm, ⟨i, _⟩ => hbmTy i
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v28_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v28_1 : Ref sig .tc := ⟨.hbm, 54, rfl⟩
abbrev main_v28_0 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_cst_3 : Ref sig .tc := ⟨.hbm, 63, rfl⟩
abbrev main_v35 : Ref sig .tc := ⟨.hbm, 64, rfl⟩
abbrev main_v36 : Ref sig .tc := ⟨.hbm, 65, rfl⟩
abbrev main_cst_4 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_v47_2 : Ref sig .tc := ⟨.hbm, 84, rfl⟩
abbrev main_call1_cst_1 : Ref sig .tc := ⟨.hbm, 85, rfl⟩
abbrev main_call1_v6 : Ref sig .tc := ⟨.hbm, 86, rfl⟩
abbrev main_call1_v7 : Ref sig .tc := ⟨.hbm, 87, rfl⟩
abbrev main_v47_1 : Ref sig .tc := ⟨.hbm, 88, rfl⟩
abbrev main_v47_0 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_call2_v0 : Ref sig .tc := ⟨.hbm, 100, rfl⟩
abbrev main_call2_v1 : Ref sig .tc := ⟨.hbm, 101, rfl⟩
abbrev main_call2_v2 : Ref sig .tc := ⟨.hbm, 102, rfl⟩
abbrev main_v58 : Ref sig .tc := ⟨.hbm, 103, rfl⟩
abbrev main_v59 : Ref sig .tc := ⟨.hbm, 104, rfl⟩
abbrev main_cst_5 : Ref sig .tc := ⟨.hbm, 105, rfl⟩
abbrev main_v60 : Ref sig .tc := ⟨.hbm, 106, rfl⟩
abbrev main_v61 : Ref sig .tc := ⟨.hbm, 107, rfl⟩
abbrev main_cst_6 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call3_v0 : Ref sig .tc := ⟨.hbm, 112, rfl⟩
abbrev main_call3_v1 : Ref sig .tc := ⟨.hbm, 113, rfl⟩
abbrev main_call3_v2 : Ref sig .tc := ⟨.hbm, 114, rfl⟩
abbrev main_v65 : Ref sig .tc := ⟨.hbm, 115, rfl⟩
abbrev main_v66 : Ref sig .tc := ⟨.hbm, 116, rfl⟩
abbrev main_cst_7 : Ref sig .tc := ⟨.hbm, 117, rfl⟩
abbrev main_v67 : Ref sig .tc := ⟨.hbm, 118, rfl⟩
abbrev main_v68 : Ref sig .tc := ⟨.hbm, 119, rfl⟩
abbrev main_cst_8 : Ref sig .tc := ⟨.hbm, 120, rfl⟩
abbrev main_v69 : Ref sig .tc := ⟨.hbm, 121, rfl⟩
abbrev main_cst_9 : Ref sig .tc := ⟨.hbm, 122, rfl⟩
abbrev main_v70 : Ref sig .tc := ⟨.hbm, 123, rfl⟩
abbrev main_v71 : Ref sig .tc := ⟨.hbm, 124, rfl⟩
abbrev main_cst_10 : Ref sig .tc := ⟨.hbm, 125, rfl⟩
abbrev main_v72 : Ref sig .tc := ⟨.hbm, 126, rfl⟩
abbrev main_v73 : Ref sig .tc := ⟨.hbm, 127, rfl⟩
abbrev main_cst_11 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩

abbrev nD : Nat := 1
abbrev τ : Topo := Topo.v7x

variable {F : FTy → Type} [FloatOps F]
-- ==== FfnLoss.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x2816x1024 : Shape := ⟨3, ![1, 2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩
abbrev S1024 : Shape := ⟨1, ![1024]⟩

abbrev nBuf : Space → Nat
  | .hbm => 11
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x2816x1024, .f32⟩
  | .hbm, ⟨6, _⟩ => ⟨S1x2816x1024, .bf16⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== FfnLossRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 86
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S4096x1024, .f32⟩
  | .hbm, ⟨7, _⟩ => ⟨S1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S4096x1024, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S4096x1, .f32⟩
  | .hbm, ⟨70, _⟩ => ⟨S_, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S4096x1024, .bf16⟩
  | .hbm, ⟨84, _⟩ => ⟨S1x1024, .f32⟩
  | .hbm, ⟨85, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_cst_9 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_cst_11 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_cst_16 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_17 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩

abbrev nD : Nat := 1
abbrev τ : Topo := Topo.v7x

variable {F : FTy → Type} [FloatOps F]
-- ==== AdamA.lean ====
abbrev S1x1024x352 : Shape := ⟨3, ![1, 1024, 352]⟩
abbrev S1x352x1024 : Shape := ⟨3, ![1, 352, 1024]⟩
abbrev S1x128x1024 : Shape := ⟨3, ![1, 128, 1024]⟩
abbrev S1024x352 : Shape := ⟨2, ![1024, 352]⟩
abbrev S352x1024 : Shape := ⟨2, ![352, 1024]⟩
abbrev S128x1024 : Shape := ⟨2, ![128, 1024]⟩
abbrev S88x1024 : Shape := ⟨2, ![88, 1024]⟩
abbrev S32x1024 : Shape := ⟨2, ![32, 1024]⟩

abbrev nBuf : Space → Nat
  | .hbm => 52
  | .vmem => 56
  | .smem => 0
  | _ => 0

abbrev bufTy : (tb : Table) → Fin (tcTables nBuf tb) → BufTy
  | .hbm, ⟨0, _⟩ => ⟨S1x1024x352, .f32⟩
  | .hbm, ⟨1, _⟩ => ⟨S1x1024x352, .f32⟩
  | .hbm, ⟨2, _⟩ => ⟨S1x1024x352, .f32⟩
  | .hbm, ⟨3, _⟩ => ⟨S1x1024x352, .f32⟩
  | .hbm, ⟨4, _⟩ => ⟨S1x1024x352, .f32⟩
  | .hbm, ⟨5, _⟩ => ⟨S1x1024x352, .f32⟩
  | .hbm, ⟨6, _⟩ => ⟨S1x1024x352, .f32⟩
  | .hbm, ⟨7, _⟩ => ⟨S1x1024x352, .f32⟩
  | .hbm, ⟨8, _⟩ => ⟨S1x352x1024, .f32⟩
  | .hbm, ⟨9, _⟩ => ⟨S1x352x1024, .f32⟩
  | .hbm, ⟨10, _⟩ => ⟨S1x352x1024, .f32⟩
  | .hbm, ⟨11, _⟩ => ⟨S1x352x1024, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S1x128x1024, .f32⟩
  | .hbm, ⟨16, _⟩ => ⟨S1024x352, .f32⟩
  | .hbm, ⟨17, _⟩ => ⟨S352x1024, .f32⟩
  | .hbm, ⟨18, _⟩ => ⟨S1024x352, .f32⟩
  | .hbm, ⟨19, _⟩ => ⟨S352x1024, .f32⟩
  | .hbm, ⟨20, _⟩ => ⟨S1024x352, .f32⟩
  | .hbm, ⟨21, _⟩ => ⟨S352x1024, .f32⟩
  | .hbm, ⟨22, _⟩ => ⟨S1024x352, .f32⟩
  | .hbm, ⟨23, _⟩ => ⟨S352x1024, .f32⟩
  | .hbm, ⟨24, _⟩ => ⟨S1024x352, .f32⟩
  | .hbm, ⟨25, _⟩ => ⟨S352x1024, .f32⟩
  | .hbm, ⟨26, _⟩ => ⟨S1024x352, .f32⟩
  | .hbm, ⟨27, _⟩ => ⟨S352x1024, .f32⟩
  | .hbm, ⟨28, _⟩ => ⟨S1024x352, .f32⟩
  | .hbm, ⟨29, _⟩ => ⟨S352x1024, .f32⟩
  | .hbm, ⟨30, _⟩ => ⟨S1024x352, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S352x1024, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S128x1024, .f32⟩
  | .hbm, ⟨50, _⟩ => ⟨S128x1024, .f32⟩
  | .hbm, ⟨51, _⟩ => ⟨S128x1024, .f32⟩
  | .local _ .vmem, ⟨0, _⟩ => ⟨S88x1024, .f32⟩
  | .local _ .vmem, ⟨1, _⟩ => ⟨S88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | .local _ .vmem, ⟨8, _⟩ => ⟨S88x1024, .f32⟩
  | .local _ .vmem, ⟨9, _⟩ => ⟨S88x1024, .f32⟩
  | .local _ .vmem, ⟨10, _⟩ => ⟨S88x1024, .f32⟩
  | .local _ .vmem, ⟨11, _⟩ => ⟨S88x1024, .f32⟩
  | .local _ .vmem, ⟨12, _⟩ => ⟨S88x1024, .f32⟩
  | .local _ .vmem, ⟨13, _⟩ => ⟨S88x1024, .f32⟩
  | .local _ .vmem, ⟨14, _⟩ => ⟨S88x1024, .f32⟩
  | .local _ .vmem, ⟨15, _⟩ => ⟨S88x1024, .f32⟩
  | .local _ .vmem, ⟨16, _⟩ => ⟨S88x1024, .f32⟩
  | .local _ .vmem, ⟨17, _⟩ => ⟨S88x1024, .f32⟩
  | .local _ .vmem, ⟨18, _⟩ => ⟨S88x1024, .f32⟩
  | .local _ .vmem, ⟨19, _⟩ => ⟨S88x1024, .f32⟩
  | .local _ .vmem, ⟨20, _⟩ => ⟨S88x1024, .f32⟩
  | .local _ .vmem, ⟨21, _⟩ => ⟨S88x1024, .f32⟩
  | .local _ .vmem, ⟨22, _⟩ => ⟨S88x1024, .f32⟩
  | .local _ .vmem, ⟨23, _⟩ => ⟨S88x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S32x1024, .f32⟩
  | .local _ .vmem, ⟨31, _⟩ => ⟨S32x1024, .f32⟩
  | .local _ .vmem, ⟨32, _⟩ => ⟨S88x1024, .f32⟩
  | .local _ .vmem, ⟨33, _⟩ => ⟨S88x1024, .f32⟩
  | .local _ .vmem, ⟨34, _⟩ => ⟨S88x1024, .f32⟩
  | .local _ .vmem, ⟨35, _⟩ => ⟨S88x1024, .f32⟩
  | .local _ .vmem, ⟨36, _⟩ => ⟨S88x1024, .f32⟩
  | .local _ .vmem, ⟨37, _⟩ => ⟨S88x1024, .f32⟩
  | .local _ .vmem, ⟨38, _⟩ => ⟨S88x1024, .f32⟩
  | .local _ .vmem, ⟨39, _⟩ => ⟨S88x1024, .f32⟩
  | .local _ .vmem, ⟨40, _⟩ => ⟨S88x1024, .f32⟩
  | .local _ .vmem, ⟨41, _⟩ => ⟨S88x1024, .f32⟩
  | .local _ .vmem, ⟨42, _⟩ => ⟨S88x1024, .f32⟩
  | .local _ .vmem, ⟨43, _⟩ => ⟨S88x1024, .f32⟩
  | .local _ .vmem, ⟨44, _⟩ => ⟨S88x1024, .f32⟩
  | .local _ .vmem, ⟨45, _⟩ => ⟨S88x1024, .f32⟩
  | .local _ .vmem, ⟨46, _⟩ => ⟨S88x1024, .f32⟩
  | .local _ .vmem, ⟨47, _⟩ => ⟨S88x1024, .f32⟩
  | .local _ .vmem, ⟨48, _⟩ => ⟨S88x1024, .f32⟩
  | .local _ .vmem, ⟨49, _⟩ => ⟨S88x1024, .f32⟩
  | .local _ .vmem, ⟨50, _⟩ => ⟨S32x1024, .f32⟩
  | .local _ .vmem, ⟨51, _⟩ => ⟨S32x1024, .f32⟩
  | .local _ .vmem, ⟨52, _⟩ => ⟨S32x1024, .f32⟩
  | .local _ .vmem, ⟨53, _⟩ => ⟨S32x1024, .f32⟩
  | .local _ .vmem, ⟨54, _⟩ => ⟨S32x1024, .f32⟩
  | .local _ .vmem, ⟨55, _⟩ => ⟨S32x1024, .f32⟩
  | _, _ => ⟨S1x1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24_0 : Ref sig .tc := ⟨.hbm, 40, rfl⟩
abbrev main_v24_1 : Ref sig .tc := ⟨.hbm, 41, rfl⟩
abbrev main_v24_2 : Ref sig .tc := ⟨.hbm, 42, rfl⟩
abbrev main_v24_3 : Ref sig .tc := ⟨.hbm, 43, rfl⟩
abbrev main_v24_4 : Ref sig .tc := ⟨.hbm, 44, rfl⟩
abbrev main_v24_5 : Ref sig .tc := ⟨.hbm, 45, rfl⟩
abbrev main_v24_6 : Ref sig .tc := ⟨.hbm, 46, rfl⟩
abbrev main_v24_7 : Ref sig .tc := ⟨.hbm, 47, rfl⟩
abbrev main_v24_8 : Ref sig .tc := ⟨.hbm, 48, rfl⟩
abbrev main_v24_9 : Ref sig .tc := ⟨.hbm, 49, rfl⟩
abbrev main_v24_10 : Ref sig .tc := ⟨.hbm, 50, rfl⟩
abbrev main_v24_11 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S88x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S88x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S88x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S88x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S88x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S88x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S88x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S88x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S88x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S88x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S88x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S88x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S88x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S88x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S88x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S88x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S88x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S88x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S88x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S32x1024 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S32x1024 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S32x1024 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== AdamARefIdeal.lean ====
abbrev S1x1024x352 : Shape := ⟨3, ![1, 1024, 352]⟩
abbrev S1x352x1024 : Shape := ⟨3, ![1, 352, 1024]⟩
abbrev S1x128x1024 : Shape := ⟨3, ![1, 128, 1024]⟩
abbrev S_ : Shape := ⟨0, ![]⟩
abbrev S1024x352 : Shape := ⟨2, ![1024, 352]⟩
abbrev S352x1024 : Shape := ⟨2, ![352, 1024]⟩
abbrev S128x1024 : Shape := ⟨2, ![128, 1024]⟩

abbrev nBuf : Space → Nat
  | .hbm => 166
  | .vmem => 0
  | .smem => 0
  | _ => 0

abbrev hbmTy0_0 (i : Nat) : BufTy := match i % 128 with
  | 0 => ⟨S1x1024x352, .f32⟩
  | 1 => ⟨S1x1024x352, .f32⟩
  | 2 => ⟨S1x1024x352, .f32⟩
  | 3 => ⟨S1x1024x352, .f32⟩
  | 4 => ⟨S1x1024x352, .f32⟩
  | 5 => ⟨S1x1024x352, .f32⟩
  | 6 => ⟨S1x1024x352, .f32⟩
  | 7 => ⟨S1x1024x352, .f32⟩
  | 8 => ⟨S1x352x1024, .f32⟩
  | 9 => ⟨S1x352x1024, .f32⟩
  | 10 => ⟨S1x352x1024, .f32⟩
  | 11 => ⟨S1x352x1024, .f32⟩
  | 12 => ⟨S1x128x1024, .f32⟩
  | 13 => ⟨S1x128x1024, .f32⟩
  | 14 => ⟨S1x128x1024, .f32⟩
  | 15 => ⟨S1x128x1024, .f32⟩
  | 16 => ⟨S_, .f32⟩
  | 17 => ⟨S1x1024x352, .f32⟩
  | 18 => ⟨S1x1024x352, .f32⟩
  | 19 => ⟨S_, .f32⟩
  | 20 => ⟨S1x1024x352, .f32⟩
  | 21 => ⟨S1x1024x352, .f32⟩
  | 22 => ⟨S1x1024x352, .f32⟩
  | 23 => ⟨S_, .f32⟩
  | 24 => ⟨S1x1024x352, .f32⟩
  | 25 => ⟨S1x1024x352, .f32⟩
  | 26 => ⟨S1x1024x352, .f32⟩
  | 27 => ⟨S_, .f32⟩
  | 28 => ⟨S1x1024x352, .f32⟩
  | 29 => ⟨S1x1024x352, .f32⟩
  | 30 => ⟨S1x1024x352, .f32⟩
  | 31 => ⟨S_, .f32⟩
  | 32 => ⟨S1x1024x352, .f32⟩
  | 33 => ⟨S1x1024x352, .f32⟩
  | 34 => ⟨S_, .f32⟩
  | 35 => ⟨S1x1024x352, .f32⟩
  | 36 => ⟨S1x1024x352, .f32⟩
  | 37 => ⟨S1x1024x352, .f32⟩
  | 38 => ⟨S_, .f32⟩
  | 39 => ⟨S1x1024x352, .f32⟩
  | 40 => ⟨S1x1024x352, .f32⟩
  | 41 => ⟨S1x1024x352, .f32⟩
  | 42 => ⟨S_, .f32⟩
  | 43 => ⟨S1x1024x352, .f32⟩
  | 44 => ⟨S1x1024x352, .f32⟩
  | 45 => ⟨S1x1024x352, .f32⟩
  | 46 => ⟨S_, .f32⟩
  | 47 => ⟨S1x1024x352, .f32⟩
  | 48 => ⟨S1x1024x352, .f32⟩
  | 49 => ⟨S_, .f32⟩
  | 50 => ⟨S1x1024x352, .f32⟩
  | 51 => ⟨S1x1024x352, .f32⟩
  | 52 => ⟨S_, .f32⟩
  | 53 => ⟨S1x1024x352, .f32⟩
  | 54 => ⟨S1x1024x352, .f32⟩
  | 55 => ⟨S1x1024x352, .f32⟩
  | 56 => ⟨S_, .f32⟩
  | 57 => ⟨S1x1024x352, .f32⟩
  | 58 => ⟨S1x1024x352, .f32⟩
  | 59 => ⟨S1x1024x352, .f32⟩
  | 60 => ⟨S_, .f32⟩
  | 61 => ⟨S1x1024x352, .f32⟩
  | 62 => ⟨S1x1024x352, .f32⟩
  | 63 => ⟨S1x1024x352, .f32⟩
  | 64 => ⟨S_, .f32⟩
  | 65 => ⟨S1x1024x352, .f32⟩
  | 66 => ⟨S1x1024x352, .f32⟩
  | 67 => ⟨S_, .f32⟩
  | 68 => ⟨S1x1024x352, .f32⟩
  | 69 => ⟨S1x1024x352, .f32⟩
  | 70 => ⟨S1x1024x352, .f32⟩
  | 71 => ⟨S_, .f32⟩
  | 72 => ⟨S1x1024x352, .f32⟩
  | 73 => ⟨S1x1024x352, .f32⟩
  | 74 => ⟨S1x1024x352, .f32⟩
  | 75 => ⟨S_, .f32⟩
  | 76 => ⟨S1x1024x352, .f32⟩
  | 77 => ⟨S1x1024x352, .f32⟩
  | 78 => ⟨S1x1024x352, .f32⟩
  | 79 => ⟨S_, .f32⟩
  | 80 => ⟨S1x1024x352, .f32⟩
  | 81 => ⟨S1x1024x352, .f32⟩
  | 82 => ⟨S_, .f32⟩
  | 83 => ⟨S1x352x1024, .f32⟩
  | 84 => ⟨S1x352x1024, .f32⟩
  | 85 => ⟨S_, .f32⟩
  | 86 => ⟨S1x352x1024, .f32⟩
  | 87 => ⟨S1x352x1024, .f32⟩
  | 88 => ⟨S1x352x1024, .f32⟩
  | 89 => ⟨S_, .f32⟩
  | 90 => ⟨S1x352x1024, .f32⟩
  | 91 => ⟨S1x352x1024, .f32⟩
  | 92 => ⟨S1x352x1024, .f32⟩
  | 93 => ⟨S_, .f32⟩
  | 94 => ⟨S1x352x1024, .f32⟩
  | 95 => ⟨S1x352x1024, .f32⟩
  | 96 => ⟨S1x352x1024, .f32⟩
  | 97 => ⟨S_, .f32⟩
  | 98 => ⟨S1x352x1024, .f32⟩
  | 99 => ⟨S1x352x1024, .f32⟩
  | 100 => ⟨S_, .f32⟩
  | 101 => ⟨S1x352x1024, .f32⟩
  | 102 => ⟨S1x352x1024, .f32⟩
  | 103 => ⟨S1x352x1024, .f32⟩
  | 104 => ⟨S_, .f32⟩
  | 105 => ⟨S1x352x1024, .f32⟩
  | 106 => ⟨S1x352x1024, .f32⟩
  | 107 => ⟨S1x352x1024, .f32⟩
  | 108 => ⟨S_, .f32⟩
  | 109 => ⟨S1x352x1024, .f32⟩
  | 110 => ⟨S1x352x1024, .f32⟩
  | 111 => ⟨S1x352x1024, .f32⟩
  | 112 => ⟨S_, .f32⟩
  | 113 => ⟨S1x352x1024, .f32⟩
  | 114 => ⟨S1x352x1024, .f32⟩
  | 115 => ⟨S_, .f32⟩
  | 116 => ⟨S1x128x1024, .f32⟩
  | 117 => ⟨S1x128x1024, .f32⟩
  | 118 => ⟨S_, .f32⟩
  | 119 => ⟨S1x128x1024, .f32⟩
  | 120 => ⟨S1x128x1024, .f32⟩
  | 121 => ⟨S1x128x1024, .f32⟩
  | 122 => ⟨S_, .f32⟩
  | 123 => ⟨S1x128x1024, .f32⟩
  | 124 => ⟨S1x128x1024, .f32⟩
  | 125 => ⟨S1x128x1024, .f32⟩
  | 126 => ⟨S_, .f32⟩
  | 127 => ⟨S1x128x1024, .f32⟩
  | _ => ⟨S1x1024x352, .f32⟩

abbrev hbmTy0_1 (i : Nat) : BufTy := match i % 128 with
  | 0 => ⟨S1x128x1024, .f32⟩
  | 1 => ⟨S1x128x1024, .f32⟩
  | 2 => ⟨S_, .f32⟩
  | 3 => ⟨S1x128x1024, .f32⟩
  | 4 => ⟨S1x128x1024, .f32⟩
  | 5 => ⟨S_, .f32⟩
  | 6 => ⟨S1x128x1024, .f32⟩
  | 7 => ⟨S1x128x1024, .f32⟩
  | 8 => ⟨S1x128x1024, .f32⟩
  | 9 => ⟨S_, .f32⟩
  | 10 => ⟨S1x128x1024, .f32⟩
  | 11 => ⟨S1x128x1024, .f32⟩
  | 12 => ⟨S1x128x1024, .f32⟩
  | 13 => ⟨S_, .f32⟩
  | 14 => ⟨S1x128x1024, .f32⟩
  | 15 => ⟨S1x128x1024, .f32⟩
  | 16 => ⟨S1x128x1024, .f32⟩
  | 17 => ⟨S_, .f32⟩
  | 18 => ⟨S1x128x1024, .f32⟩
  | 19 => ⟨S1x128x1024, .f32⟩
  | 20 => ⟨S1024x352, .f32⟩
  | 21 => ⟨S352x1024, .f32⟩
  | 22 => ⟨S1024x352, .f32⟩
  | 23 => ⟨S352x1024, .f32⟩
  | 24 => ⟨S1024x352, .f32⟩
  | 25 => ⟨S352x1024, .f32⟩
  | 26 => ⟨S1024x352, .f32⟩
  | 27 => ⟨S352x1024, .f32⟩
  | 28 => ⟨S1024x352, .f32⟩
  | 29 => ⟨S352x1024, .f32⟩
  | 30 => ⟨S1024x352, .f32⟩
  | 31 => ⟨S352x1024, .f32⟩
  | 32 => ⟨S352x1024, .f32⟩
  | 33 => ⟨S352x1024, .f32⟩
  | 34 => ⟨S352x1024, .f32⟩
  | 35 => ⟨S128x1024, .f32⟩
  | 36 => ⟨S128x1024, .f32⟩
  | 37 => ⟨S128x1024, .f32⟩
  | _ => ⟨S1x1024x352, .f32⟩

abbrev hbmTy (i : Nat) : BufTy := match i / 128 with
  | 0 => hbmTy0_0 i
  | 1 => hbmTy0_1 i
  | _ => ⟨S1x1024x352, .f32⟩

abbrev bufTy : (tb : Table) → Fin (tcTables nBuf tb) → BufTy
  | .hbm, ⟨i, _⟩ => hbmTy i
  | _, _ => ⟨S1x1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩

abbrev nD : Nat := 1
abbrev τ : Topo := Topo.v7x

variable {F : FTy → Type} [FloatOps F]
-- ==== Proof.Finite.lean ====
/-
  Real entries among the extended reals: what stays real under the operations used here, how the
  precondition "every entry is finite" is read at an entry, and the sigmoid.
-/
module

public import Idealize.ShloMosaic.Lib.Pointwise
public import Idealize.ShloMosaic.Lib.ReduceAll
public import Idealize.ShloMosaic.Lib.IdealHost

@[expose] public section

noncomputable section

namespace Cert.Finite

open Idealize.ShloMosaic

/-- `x` is a real number, not an infinity. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type} (s : Finset ι) (f : ι → EReal) (hf : ∀ i ∈ s, IsReal (f i)) : IsReal (∑ i ∈ s, f i) := by
  classical
  induction s using Finset.induction_on with
  | empty => exact ⟨0, by simp⟩
  | insert a s ha ih =>
    rw [Finset.sum_insert ha]
    exact (hf a (Finset.mem_insert_self ..)).add (ih fun i hi => hf i (Finset.mem_insert_of_mem hi))

/-- A value whose absolute value is below `+∞` is real. -/
theorem isReal_of_abs_lt {x : EReal} (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- `jnp.all(jnp.abs(x) < jnp.inf)` that is true says that every entry is real. -/
theorem isReal_of_all {s t : Shape} [Subsingleton t.Idx] {axes : List (Fin s.rank)} (x : FVec Ideal s .f32)
    (hb : (⟨0, ![]⟩ : Shape).BroadcastsInDim s (![] : Fin 0 → Fin s.rank)) (h : s.ReducesTo axes t) {u : Shape} (init : u.Idx → BitVec 1) (hu : 0 < u.numel) (j : t.Idx)
    (e : Host.reduce IntOp.andi (cmpf .olt (Host.absf x) (broadcastInDim s ![] hb (constant ⟨0, ![]⟩ .f32 0x7F800000#32))) init h hu j = 1#1)
    (i : s.Idx) : IsReal (x i) :=
  isReal_of_abs_lt (Host.reduce_andi_all _ init h hu j e i)

/-- The sigmoid of an extended real is a real number. -/
theorem isReal_sigmoid (g : EReal) : IsReal (Ideal.div 1 (1 + Ideal.exp (-g))) := by
  show IsReal (Ideal.logistic g)
  induction g using EReal.rec with
  | bot => exact ⟨0, Ideal.logistic_bot⟩
  | coe r => exact ⟨_, Ideal.logistic_coe r⟩
  | top => exact ⟨1, Ideal.logistic_top⟩

/-- The derivative of `g * sigmoid g` at a cotangent `a * u`, the two ways it is computed: from the saved factor
    `u * (s + (g * s) * (1 - s))`, and by the product rule term by term. -/
theorem silu_grad {a u : EReal} (g : EReal) (ha : IsReal a) (hu : IsReal u) :
    a * (u * (Ideal.div 1 (1 + Ideal.exp (-g)) + g * Ideal.div 1 (1 + Ideal.exp (-g)) * (1 - Ideal.div 1 (1 + Ideal.exp (-g)))))
      = a * u * Ideal.div 1 (1 + Ideal.exp (-g))
        + g * (a * u) * (Ideal.div 1 (1 + Ideal.exp (-g)) * (1 - Ideal.div 1 (1 + Ideal.exp (-g)))) := by
  show a * (u * (Ideal.logistic g + g * Ideal.logistic g * (1 - Ideal.logistic g)))
      = a * u * Ideal.logistic g + g * (a * u) * (Ideal.logistic g * (1 - Ideal.logistic g))
  obtain ⟨p, rfl⟩ := ha
  obtain ⟨q, rfl⟩ := hu
  induction g using EReal.rec with
  | bot => simp [Ideal.logistic_bot]
  | coe r =>
    rw [Ideal.logistic_coe, ← EReal.coe_one]
    simp only [← EReal.coe_sub, ← EReal.coe_mul, ← EReal.coe_add]
    congr 1
    ring
  | top =>
    have h : (1 : EReal) - 1 = 0 := by rw [← EReal.coe_one, ← EReal.coe_sub]; simp
    simp [Ideal.logistic_top, h]

end Cert.Finite

end
-- ==== Proof.ActGradValue.lean ====
/-
  The gradient of the gated unit: what the kernel's two result arrays hold, entry by entry, and that
  the reference's hold the same.
-/
module

public import proofs.«01_k».proof.Defs
public import proofs.«01_k».proof.Proof.Finite
public import proofs.«01_k».proof.Proof.Gen.ActGradIdeal.Value
public import proofs.«01_k».proof.Proof.Gen.ActGradRefIdeal.Run
public import proofs.«01_k».proof.Proof.Gen.ActGradRefIdeal.Read
public import Idealize.ShloMosaic.Lib.Pointwise
public import Idealize.ShloMosaic.Lib.Tactic

@[expose] public section

noncomputable section

namespace Cert.ActGradIdeal.Hand

open Cert.ActGradIdeal Cert.ActGradIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- A block of 256 hidden units: the rows of `dy` against the rows of the weight, times the saved factor. -/
def blockVal (x0 : FVec Ideal S4096x1024 .bf16) (x1 : FVec Ideal S1x256x1024 .bf16) (x2 : FVec Ideal S4096x256 .bf16) :
    FVec Ideal S4096x256 .bf16 :=
  fun j => (∑ k : Fin 1024, (x0 (ix2 (j 0) k) : EReal) * x1 (ix3 0 (j 1) k)) * x2 j

/-- Row `x` of the row block at offset `o` is row `o + x`. -/
theorem emb_off (o : Nat) (inb : ∀ a, (![o, 0] : Fin 2 → Nat) a + S1024x256.size a ≤ S4096x256.size a) (x : S1024x256.Idx) :
    (Rect.unit (s := S4096x256) ![o, 0] S1024x256.size inb).emb x
      = ix2 ⟨o + (x 0).val, by have h := inb 0; have h0 := (x 0).isLt; simp [S1024x256, S4096x256] at h h0; omega⟩ (x 1) := by
  funext a
  apply Fin.ext
  match a with
  | ⟨0, _⟩ => show o + 1 * (x 0).val = o + (x 0).val; omega
  | ⟨1, _⟩ => show 0 + 1 * (x 1).val = (x 1).val; omega

theorem out4_eq (x0 : FVec Ideal S4096x1024 .bf16) (x1 : FVec Ideal S1x256x1024 .bf16) (x2 x3 : FVec Ideal S4096x256 .bf16) :
    out0_4 (F := Ideal) x0 x1 x2 x3 = blockVal x0 x1 x2 := by
  funext y
  unfold out0_4
  refine View.canon_apply_of_pieces (Val := Elt Ideal) (blockVal x0 x1 x2) _ ?_ y (cover0_4 _ _ _ _ y)
  intro p hp
  simp only [List.mem_cons, List.not_mem_nil, or_false] at hp
  rcases hp with rfl | rfl | rfl | rfl <;> intro x <;> dsimp only <;> unfold_payloads <;> unfold blockVal <;> pointwise <;> rw [emb_off] <;>
    (try simp only [Nat.zero_add]) <;> rfl

theorem out5_eq (x0 : FVec Ideal S4096x1024 .bf16) (x1 : FVec Ideal S1x256x1024 .bf16) (x2 x3 : FVec Ideal S4096x256 .bf16) :
    out0_5 (F := Ideal) x0 x1 x2 x3 = blockVal x0 x1 x3 := by
  funext y
  unfold out0_5
  refine View.canon_apply_of_pieces (Val := Elt Ideal) (blockVal x0 x1 x3) _ ?_ y (cover0_5 _ _ _ _ y)
  intro p hp
  simp only [List.mem_cons, List.not_mem_nil, or_false] at hp
  rcases hp with rfl | rfl | rfl | rfl <;> intro x <;> dsimp only <;> unfold_payloads <;> unfold blockVal <;> pointwise <;> rw [emb_off] <;>
    (try simp only [Nat.zero_add]) <;> rfl

/-! The four arguments. -/
abbrev aG (c : Dev nD) : FVec Ideal S4096x2816 .f32 := m ((c : Thread nD τ).loc main_arg0)
abbrev aU (c : Dev nD) : FVec Ideal S4096x2816 .f32 := m ((c : Thread nD τ).loc main_arg1)
abbrev aY (c : Dev nD) : FVec Ideal S4096x1024 .bf16 := m ((c : Thread nD τ).loc main_arg2)
abbrev aW (c : Dev nD) : FVec Ideal S2816x1024 .f32 := m ((c : Thread nD τ).loc main_arg3)

/-- The sigmoid of the gate's argument, as the host computes it. -/
abbrev sig0 (g : FVec Ideal S4096x2816 .f32) : FVec Ideal S4096x2816 .f32 :=
  Host.divf (broadcastInDim S4096x2816 ![] bcast_S_S4096x2816 (constant S_ .f32 0x3F800000#32))
    (addf (broadcastInDim S4096x2816 ![] bcast_S_S4096x2816 (constant S_ .f32 0x3F800000#32)) (Host.exp (Host.negf g)))

theorem V_w (c : Dev nD) : (V m c main_v18 : FVec Ideal S1x2816x1024 .bf16)
    = broadcastInDim S1x2816x1024 ![1, 2] bcast_S2816x1024_S1x2816x1024_1_2
        (truncf .bf16 (aW m c) bitsLt_bf16_f32) := by
  show StableHlo.after hostOps0 _ _ = _
  after_results

theorem V_dsu (c : Dev nD) : (V m c main_v19 : FVec Ideal S4096x2816 .bf16)
    = truncf .bf16 (mulf (aU m c) (extf .f32 (truncf .bf16 (addf (sig0 (aG m c))
        (mulf (mulf (aG m c) (sig0 (aG m c)))
          (subf (broadcastInDim S4096x2816 ![] bcast_S_S4096x2816 (constant S_ .f32 0x3F800000#32)) (sig0 (aG m c))))) bitsLt_bf16_f32) bitsLt_bf16_f32)) bitsLt_bf16_f32 := by
  show StableHlo.after hostOps0 _ _ = _
  after_results

theorem V_sl (c : Dev nD) : (V m c main_v20 : FVec Ideal S4096x2816 .bf16)
    = truncf .bf16 (mulf (aG m c) (sig0 (aG m c))) bitsLt_bf16_f32 := by
  show StableHlo.after hostOps0 _ _ = _
  after_results

theorem idx : ∀ t : Fin cfg0.N, (win0_0.index t 0 = 0 ∧ win0_0.index t 1 = 0)
    ∧ (win0_1.index t 0 = 0 ∧ win0_1.index t 1 = t.val ∧ win0_1.index t 2 = 0)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val) :=
  (by decide +kernel : ∀ t : Fin grid0.N, (win0_0.index t 0 = 0 ∧ win0_0.index t 1 = 0)
    ∧ (win0_1.index t 0 = 0 ∧ win0_1.index t 1 = t.val ∧ win0_1.index t 2 = 0)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val))

/-- Column `l` of block `t`, as a column of the whole array. -/
def col (t : Fin cfg0.N) (l : Fin 256) : Fin 2816 :=
  ⟨256 * t.val + l.val, by have := t.isLt; have h : cfg0.N = 11 := N_0; have := l.isLt; omega⟩

theorem blk0 (c : Dev nD) (t : Fin cfg0.N) (j : S4096x1024.Idx) :
    (iblk m c 0 t : FVec Ideal S4096x1024 .bf16) j = aY m c j := by
  unfold aY; rw [← V_main_arg2 m c]
  unfold iblk
  rw [View.read_apply]
  show V m c main_arg2 _ = V m c main_arg2 _
  congr 1
  funext a
  apply Fin.ext
  match a with
  | ⟨0, _⟩ => show win0_0.index t 0 * 4096 + 1 * (j 0).val = (j 0).val; rw [(idx t).1.1]; omega
  | ⟨1, _⟩ => show win0_0.index t 1 * 1024 + 1 * (j 1).val = (j 1).val; rw [(idx t).1.2]; omega

theorem blk1 (c : Dev nD) (t : Fin cfg0.N) (j : S1x256x1024.Idx) :
    (iblk m c 1 t : FVec Ideal S1x256x1024 .bf16) j = (V m c main_v18 : FVec Ideal S1x2816x1024 .bf16) (ix3 (j 0) (col t (j 1)) (j 2)) := by
  unfold iblk
  rw [View.read_apply]
  show V m c main_v18 _ = V m c main_v18 _
  congr 1
  funext a
  apply Fin.ext
  match a with
  | ⟨0, _⟩ => show win0_1.index t 0 * 1 + 1 * (j 0).val = (j 0).val; rw [(idx t).2.1.1]; omega
  | ⟨1, _⟩ => show win0_1.index t 1 * 256 + 1 * (j 1).val = 256 * t.val + (j 1).val; rw [(idx t).2.1.2.1]; omega
  | ⟨2, _⟩ => show win0_1.index t 2 * 1024 + 1 * (j 2).val = (j 2).val; rw [(idx t).2.1.2.2]; omega

theorem blk2 (c : Dev nD) (t : Fin cfg0.N) (j : S4096x256.Idx) :
    (iblk m c 2 t : FVec Ideal S4096x256 .bf16) j = (V m c main_v19 : FVec Ideal S4096x2816 .bf16) (ix2 (j 0) (col t (j 1))) := by
  unfold iblk
  rw [View.read_apply]
  show V m c main_v19 _ = V m c main_v19 _
  congr 1
  funext a
  apply Fin.ext
  match a with
  | ⟨0, _⟩ => show win0_2.index t 0 * 4096 + 1 * (j 0).val = (j 0).val; rw [(idx t).2.2.1.1]; omega
  | ⟨1, _⟩ => show win0_2.index t 1 * 256 + 1 * (j 1).val = 256 * t.val + (j 1).val; rw [(idx t).2.2.1.2]; omega

theorem blk3 (c : Dev nD) (t : Fin cfg0.N) (j : S4096x256.Idx) :
    (iblk m c 3 t : FVec Ideal S4096x256 .bf16) j = (V m c main_v20 : FVec Ideal S4096x2816 .bf16) (ix2 (j 0) (col t (j 1))) := by
  unfold iblk
  rw [View.read_apply]
  show V m c main_v20 _ = V m c main_v20 _
  congr 1
  funext a
  apply Fin.ext
  match a with
  | ⟨0, _⟩ => show win0_3.index t 0 * 4096 + 1 * (j 0).val = (j 0).val; rw [(idx t).2.2.2.1.1]; omega
  | ⟨1, _⟩ => show win0_3.index t 1 * 256 + 1 * (j 1).val = 256 * t.val + (j 1).val; rw [(idx t).2.2.2.1.2]; omega

/-- The product of `dy` with the transposed weight at an entry, times a saved factor. -/
def total (dy : FVec Ideal S4096x1024 .bf16) (w : FVec Ideal S2816x1024 .f32) (s : FVec Ideal S4096x2816 .bf16) : FVec Ideal S4096x2816 .bf16 :=
  fun i => (∑ k : Fin 1024, (dy (ix2 (i 0) k) : EReal) * w (ix2 (i 1) k)) * s i

theorem V_w_apply (c : Dev nD) (a : Fin 1) (b : Fin 2816) (k : Fin 1024) :
    (V m c main_v18 : FVec Ideal S1x2816x1024 .bf16) (ix3 a b k) = aW m c (ix2 b k) := by
  rw [V_w]
  pointwise

theorem block_total (c : Dev nD) (t : Fin cfg0.N) (x : FVec Ideal S4096x256 .bf16) (s : FVec Ideal S4096x2816 .bf16)
    (hx : ∀ j : S4096x256.Idx, x j = s (ix2 (j 0) (col t (j 1)))) (y : S4096x256.Idx) :
    blockVal (iblk m c 0 t) (iblk m c 1 t) x y = total (aY m c) (aW m c) s (ix2 (y 0) (col t (y 1))) := by
  unfold blockVal total
  rw [hx]
  refine congrArg (· * s (ix2 (y 0) (col t (y 1)))) (Finset.sum_congr rfl fun k _ => ?_)
  rw [blk0, blk1]
  exact congrArg (aY m c (ix2 (y 0) k) * ·) (V_w_apply m c _ _ _)

theorem flushed4_eq (c : Dev nD) (t : Fin cfg0.N) (hf : (cfg0.win 4).flush t = true) :
    (dats m 0 c).flushed 4 t = ((cfg0.win 4).blk t).view.read (Elt Ideal)
      (total (aY m c) (aW m c) (V m c main_v19) : FVec Ideal S4096x2816 .bf16) := by
  rw [Value.flushed4, out4_eq]
  funext y
  rw [View.read_apply]
  have hi : ((cfg0.win 4).blk t).view.emb y = (ix2 (y 0) (col t (y 1)) : S4096x2816.Idx) := by
    funext a
    apply Fin.ext
    match a with
    | ⟨0, _⟩ => show win0_4.index t 0 * 4096 + 1 * (y 0).val = (y 0).val; rw [(idx t).2.2.2.2.1.1]; omega
    | ⟨1, _⟩ => show win0_4.index t 1 * 256 + 1 * (y 1).val = 256 * t.val + (y 1).val; rw [(idx t).2.2.2.2.1.2]; omega
  exact (block_total m c t (iblk m c 2 t) (V m c main_v19) (blk2 m c t) y).trans (congrArg (total (aY m c) (aW m c) (V m c main_v19)) hi.symm)

theorem flushed5_eq (c : Dev nD) (t : Fin cfg0.N) (hf : (cfg0.win 5).flush t = true) :
    (dats m 0 c).flushed 5 t = ((cfg0.win 5).blk t).view.read (Elt Ideal)
      (total (aY m c) (aW m c) (V m c main_v20) : FVec Ideal S4096x2816 .bf16) := by
  rw [Value.flushed5, out5_eq]
  funext y
  rw [View.read_apply]
  have hi : ((cfg0.win 5).blk t).view.emb y = (ix2 (y 0) (col t (y 1)) : S4096x2816.Idx) := by
    funext a
    apply Fin.ext
    match a with
    | ⟨0, _⟩ => show win0_5.index t 0 * 4096 + 1 * (y 0).val = (y 0).val; rw [(idx t).2.2.2.2.2.1]; omega
    | ⟨1, _⟩ => show win0_5.index t 1 * 256 + 1 * (y 1).val = 256 * t.val + (y 1).val; rw [(idx t).2.2.2.2.2.2]; omega
  exact (block_total m c t (iblk m c 3 t) (V m c main_v20) (blk3 m c t) y).trans (congrArg (total (aY m c) (aW m c) (V m c main_v20)) hi.symm)

theorem flush4 : ∀ t : Fin cfg0.N, (cfg0.win 4).flush t = true := (by decide +kernel : ∀ t : Fin grid0.N, (cfg0.win 4).flush t = true)
theorem flush5 : ∀ t : Fin cfg0.N, (cfg0.win 5).flush t = true := (by decide +kernel : ∀ t : Fin grid0.N, (cfg0.win 5).flush t = true)

/-- The point whose block holds a column. -/
def ptOf (i : S4096x2816.Idx) : Fin cfg0.N :=
  ⟨(i 1).val / 256, by have h : cfg0.N = 11 := N_0; have h1 : (i 1).val < 2816 := (i 1).isLt; omega⟩

theorem final4 (c : Dev nD) : (dats m 0 c).arrAt 4 cfg0.N
    = (total (aY m c) (aW m c) (V m c main_v19) : FVec Ideal S4096x2816 .bf16) :=
  (dats m 0 c).arrAt_eq_of_cover 4 _ (flushed4_eq m c) fun i => ⟨ptOf i, flush4 _, by
    show i ∈ ((View.whole main_v21_0).slice (win0_4.rect (ptOf i))).set
    rw [View.set_slice_whole, Rect.mem_set_unit]
    intro a
    have h0 : (i 0 : Nat) < 4096 := (i 0).isLt
    have h1 : (i 1 : Nat) < 2816 := (i 1).isLt
    have hp : (ptOf i).val = (i 1 : Nat) / 256 := rfl
    match a with
    | ⟨0, _⟩ => show win0_4.index (ptOf i) 0 * 4096 ≤ (i 0 : Nat) ∧ (i 0 : Nat) < win0_4.index (ptOf i) 0 * 4096 + 4096
                rw [(idx (ptOf i)).2.2.2.2.1.1]; omega
    | ⟨1, _⟩ => show win0_4.index (ptOf i) 1 * 256 ≤ (i 1 : Nat) ∧ (i 1 : Nat) < win0_4.index (ptOf i) 1 * 256 + 256
                rw [(idx (ptOf i)).2.2.2.2.1.2]; omega⟩

theorem final5 (c : Dev nD) : (dats m 0 c).arrAt 5 cfg0.N
    = (total (aY m c) (aW m c) (V m c main_v20) : FVec Ideal S4096x2816 .bf16) :=
  (dats m 0 c).arrAt_eq_of_cover 5 _ (flushed5_eq m c) fun i => ⟨ptOf i, flush5 _, by
    show i ∈ ((View.whole main_v21_1).slice (win0_5.rect (ptOf i))).set
    rw [View.set_slice_whole, Rect.mem_set_unit]
    intro a
    have h0 : (i 0 : Nat) < 4096 := (i 0).isLt
    have h1 : (i 1 : Nat) < 2816 := (i 1).isLt
    have hp : (ptOf i).val = (i 1 : Nat) / 256 := rfl
    match a with
    | ⟨0, _⟩ => show win0_5.index (ptOf i) 0 * 4096 ≤ (i 0 : Nat) ∧ (i 0 : Nat) < win0_5.index (ptOf i) 0 * 4096 + 4096
                rw [(idx (ptOf i)).2.2.2.2.2.1]; omega
    | ⟨1, _⟩ => show win0_5.index (ptOf i) 1 * 256 ≤ (i 1 : Nat) ∧ (i 1 : Nat) < win0_5.index (ptOf i) 1 * 256 + 256
                rw [(idx (ptOf i)).2.2.2.2.2.2]; omega⟩

theorem total_dsu (c : Dev nD) (i : S4096x2816.Idx) :
    total (aY m c) (aW m c) (V m c main_v19) i
      = (∑ k : Fin 1024, (aY m c (ix2 (i 0) k) : EReal) * aW m c (ix2 (i 1) k))
        * ((aU m c i : EReal) * (Ideal.div 1 (1 + Ideal.exp (-aG m c i))
          + aG m c i * Ideal.div 1 (1 + Ideal.exp (-aG m c i))
            * (1 - Ideal.div 1 (1 + Ideal.exp (-aG m c i))))) := by
  rw [V_dsu]
  unfold total
  pointwise

theorem total_sl (c : Dev nD) (i : S4096x2816.Idx) :
    total (aY m c) (aW m c) (V m c main_v20) i
      = (∑ k : Fin 1024, (aY m c (ix2 (i 0) k) : EReal) * aW m c (ix2 (i 1) k))
        * ((aG m c i : EReal) * Ideal.div 1 (1 + Ideal.exp (-aG m c i))) := by
  rw [V_sl]
  unfold total
  pointwise

end Cert.ActGradIdeal.Hand

namespace Cert.ActGradRefIdeal.Hand

open Cert.ActGradRefIdeal Cert.ActGradRefIdeal.Gen Idealize.ShloMosaic Idealize.ShloMosaic.TcCoe Idealize.SL.Sem
open Cert.Finite

/-- The gradient of the gate, as the kernel and as the reference compute it. -/
theorem gate_eq (g u : FVec Ideal S4096x2816 .f32) (dy : FVec Ideal S4096x1024 .bf16) (w : FVec Ideal S2816x1024 .f32)
    (hu : ∀ i, IsReal (u i)) (hy : ∀ i, IsReal (dy i)) (hw : ∀ i, IsReal (w i)) (i : S4096x2816.Idx) :
    Read.val_main_v8 (F := Ideal) g u dy w i
      = (∑ k : Fin 1024, (dy (ix2 (i 0) k) : EReal) * w (ix2 (i 1) k))
        * (u i * (Ideal.div 1 (1 + Ideal.exp (-g i)) + g i * Ideal.div 1 (1 + Ideal.exp (-g i)) * (1 - Ideal.div 1 (1 + Ideal.exp (-g i))))) := by
  rw [silu_grad (g i) (IsReal.sum _ _ fun k _ => (hy _).mul (hw _)) (hu i), ← Read.val_main_v8_eq]
  pointwise

/-- The gradient of the linear factor. -/
theorem up_eq (g : FVec Ideal S4096x2816 .f32) (dy : FVec Ideal S4096x1024 .bf16) (w : FVec Ideal S2816x1024 .f32) (i : S4096x2816.Idx) :
    Read.val_main_v9 (F := Ideal) g dy w i
      = (∑ k : Fin 1024, (dy (ix2 (i 0) k) : EReal) * w (ix2 (i 1) k)) * (g i * Ideal.div 1 (1 + Ideal.exp (-g i))) := by
  rw [← Read.val_main_v9_eq]
  pointwise
  rw [mul_comm]

end Cert.ActGradRefIdeal.Hand

namespace Cert.Claims

open Idealize.ShloMosaic Idealize.ShloMosaic.TcCoe Idealize.SL.Sem Cert.Finite

/-- What the precondition says of the arguments of the gated unit's gradient. -/
theorem finite_act_read (g u : FVec Ideal Cert.Pre_finite_act.S4096x2816 .f32) (dy : FVec Ideal Cert.Pre_finite_act.S4096x1024 .bf16)
    (w : FVec Ideal Cert.Pre_finite_act.S2816x1024 .f32) [Cert.Pre_finite_act.Facts]
    (h : Cert.Pre_finite_act.fn (F := Ideal) g u dy w = fun _ => 1#1) :
    (∀ i, IsReal (u i)) ∧ (∀ i, IsReal (dy i)) ∧ (∀ i, IsReal (w i)) := by
  have h' := congrFun h (fun a => a.elim0)
  unfold Cert.Pre_finite_act.fn at h'
  obtain ⟨h12, h3⟩ := IntOp.andi_eq_one.1 h'
  obtain ⟨h1, h2⟩ := IntOp.andi_eq_one.1 h12
  haveI : Subsingleton Cert.Pre_finite_act.S_.Idx := ⟨fun a b => funext fun x => x.elim0⟩
  exact ⟨isReal_of_all u _ _ _ _ _ h1, isReal_of_all (extf .f32 dy _) _ _ _ _ _ h2, isReal_of_all w _ _ _ _ _ h3⟩

theorem act_grad [hP : Cert.Pre_finite_act.Facts] :
    Cert.algebraic_ActGradIdeal_ActGradRefIdeal_pre_finite_act (hActGradIdeal := Cert.ActGradIdeal.Gen.facts)
      (hActGradRefIdeal := Cert.ActGradRefIdeal.Gen.facts) (hPre_finite_act := hP) := by
  intro m g m' g' hpre hargs
  refine ⟨fun c => (Cert.ActGradIdeal.Hand.total (Cert.ActGradIdeal.Hand.aY m c) (Cert.ActGradIdeal.Hand.aW m c) (Cert.ActGradIdeal.Gen.V m c Cert.ActGradIdeal.main_v19) : FVec Ideal Cert.ActGradIdeal.S4096x2816 .bf16),
    fun c => (Cert.ActGradIdeal.Hand.total (Cert.ActGradIdeal.Hand.aY m c) (Cert.ActGradIdeal.Hand.aW m c) (Cert.ActGradIdeal.Gen.V m c Cert.ActGradIdeal.main_v20) : FVec Ideal Cert.ActGradIdeal.S4096x2816 .bf16),
    (θ_run Cert.ActGradIdeal.defs _ _).mono (fun r h c => ?_) (Cert.ActGradIdeal.Value.run_blocks (F := Ideal) m g),
    (θ_run Cert.ActGradRefIdeal.defs _ _).mono (fun r h c => ?_) (Cert.ActGradRefIdeal.Value.run (F := Ideal) m' g')⟩
  · exact ⟨(h c).1.trans (Cert.ActGradIdeal.Hand.final4 m c), (h c).2.1.trans (Cert.ActGradIdeal.Hand.final5 m c), (h c).2.2⟩
  · obtain ⟨hu, hy, hw⟩ := finite_act_read _ _ _ _ (hpre c)
    obtain ⟨e0, e1, e2, e3⟩ := hargs c
    refine ⟨(h c).1.trans ?_, (h c).2.1.trans ?_, (h c).2.2⟩
    · rw [Cert.ActGradRefIdeal.Read.val_main_v8_eq, e0, e1, e2, e3]
      exact funext fun i => (Cert.ActGradRefIdeal.Hand.gate_eq _ _ _ _ hu hy hw i).trans (Cert.ActGradIdeal.Hand.total_dsu m c i).symm
    · rw [Cert.ActGradRefIdeal.Read.val_main_v9_eq, e0, e2, e3]
      exact funext fun i => (Cert.ActGradRefIdeal.Hand.up_eq _ _ _ i).trans (Cert.ActGradIdeal.Hand.total_sl m c i).symm

end Cert.Claims

end
-- ==== Proof.AdamARun.lean ====
/-
  The run of the optimiser call `AdamA`: from any memory it ends, its arguments unchanged, its output arrays holding what
  the grid points wrote.
-/
module

public import proofs.«01_k».proof.Proof.Gen.AdamAIdeal.Launch
public import proofs.«01_k».proof.Proof.Gen.AdamAIdeal.Skeleton
public import proofs.«01_k».proof.Proof.Gen.AdamAIdeal.Points
public import Idealize.ShloMosaic.Lib.Pipeline.FrameBody
public import Idealize.ShloMosaic.Lib.Claim
public import Idealize.ShloMosaic.Lib.Pipeline.Value
public import proofs.«01_k».proof.Defs
public import proofs.«01_k».proof.Proof.Gen.AdamA
public import proofs.«01_k».proof.Proof.Gen.AdamA.Launch
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.AdamAIdeal.Run

open Cert.AdamAIdeal Cert.AdamAIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1680000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_AdamAIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩) h

/-! ## The body's accesses -/

abbrev r0_0 : Rect S88x1024 := Rect.unit (s := S88x1024) ![0, 0] S88x1024.size inb_S88x1024_S88x1024_0_0
abbrev r0_1 : Rect S32x1024 := Rect.unit (s := S32x1024) ![0, 0] S32x1024.size inb_S32x1024_S32x1024_0_0

/-! ## What the body leaves in each output window's buffer -/

/-- Window 16's staging buffer after the body, from the input windows' blocks: its 1 store as pieces, LAST
    FIRST (Lib/Pipeline/FrameBody.lean `View.canon`; the payloads are the skeleton's). -/
def out0_16 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay4 (View.ld x0 r0_0) (View.ld x2 r0_0) (View.ld x3 r0_0) (View.ld x1 r0_0)⟩]

/-- Its stores tile the buffer (checked by evaluation), so they cover it. -/
theorem cover0_16 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 17's staging buffer after the body, from the input windows' blocks: its 1 store as pieces, LAST
    FIRST (Lib/Pipeline/FrameBody.lean `View.canon`; the payloads are the skeleton's). -/
def out0_17 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay2 (View.ld x0 r0_0) (View.ld x2 r0_0)⟩]

/-- Its stores tile the buffer (checked by evaluation), so they cover it. -/
theorem cover0_17 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 18's staging buffer after the body, from the input windows' blocks: its 1 store as pieces, LAST
    FIRST (Lib/Pipeline/FrameBody.lean `View.canon`; the payloads are the skeleton's). -/
def out0_18 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay3 (View.ld x0 r0_0) (View.ld x3 r0_0)⟩]

/-- Its stores tile the buffer (checked by evaluation), so they cover it. -/
theorem cover0_18 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 19's staging buffer after the body, from the input windows' blocks: its 1 store as pieces, LAST
    FIRST (Lib/Pipeline/FrameBody.lean `View.canon`; the payloads are the skeleton's). -/
def out0_19 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay8 (View.ld x4 r0_0) (View.ld x6 r0_0) (View.ld x7 r0_0) (View.ld x5 r0_0)⟩]

/-- Its stores tile the buffer (checked by evaluation), so they cover it. -/
theorem cover0_19 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 20's staging buffer after the body, from the input windows' blocks: its 1 store as pieces, LAST
    FIRST (Lib/Pipeline/FrameBody.lean `View.canon`; the payloads are the skeleton's). -/
def out0_20 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay6 (View.ld x4 r0_0) (View.ld x6 r0_0)⟩]

/-- Its stores tile the buffer (checked by evaluation), so they cover it. -/
theorem cover0_20 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 21's staging buffer after the body, from the input windows' blocks: its 1 store as pieces, LAST
    FIRST (Lib/Pipeline/FrameBody.lean `View.canon`; the payloads are the skeleton's). -/
def out0_21 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay7 (View.ld x4 r0_0) (View.ld x7 r0_0)⟩]

/-- Its stores tile the buffer (checked by evaluation), so they cover it. -/
theorem cover0_21 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 22's staging buffer after the body, from the input windows' blocks: its 1 store as pieces, LAST
    FIRST (Lib/Pipeline/FrameBody.lean `View.canon`; the payloads are the skeleton's). -/
def out0_22 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay12 (View.ld x8 r0_0) (View.ld x10 r0_0) (View.ld x11 r0_0) (View.ld x9 r0_0)⟩]

/-- Its stores tile the buffer (checked by evaluation), so they cover it. -/
theorem cover0_22 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 23's staging buffer after the body, from the input windows' blocks: its 1 store as pieces, LAST
    FIRST (Lib/Pipeline/FrameBody.lean `View.canon`; the payloads are the skeleton's). -/
def out0_23 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay10 (View.ld x8 r0_0) (View.ld x10 r0_0)⟩]

/-- Its stores tile the buffer (checked by evaluation), so they cover it. -/
theorem cover0_23 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 24's staging buffer after the body, from the input windows' blocks: its 1 store as pieces, LAST
    FIRST (Lib/Pipeline/FrameBody.lean `View.canon`; the payloads are the skeleton's). -/
def out0_24 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S88x1024 .f32 :=
  View.canon [⟨r0_0, k0_pay11 (View.ld x8 r0_0) (View.ld x11 r0_0)⟩]

/-- Its stores tile the buffer (checked by evaluation), so they cover it. -/
theorem cover0_24 (p0 : Vec F S88x1024 .f32) (y : S88x1024.Idx) :
    ∃ pc ∈ ([⟨r0_0, p0⟩] : List (View.Piece (Elt F) S88x1024 .f32)), y ∈ pc.1.set :=
  View.cover_of_tiled [⟨r0_0, p0⟩] S88x1024.size (by rfl) y

/-- Window 25's staging buffer after the body, from the input windows' blocks: its 1 store as pieces, LAST
    FIRST (Lib/Pipeline/FrameBody.lean `View.canon`; the payloads are the skeleton's). -/
def out0_25 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S32x1024 .f32 :=
  View.canon [⟨r0_1, k0_pay16 (View.ld x12 r0_1) (View.ld x14 r0_1) (View.ld x15 r0_1) (View.ld x13 r0_1)⟩]

/-- Its stores tile the buffer (checked by evaluation), so they cover it. -/
theorem cover0_25 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 26's staging buffer after the body, from the input windows' blocks: its 1 store as pieces, LAST
    FIRST (Lib/Pipeline/FrameBody.lean `View.canon`; the payloads are the skeleton's). -/
def out0_26 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S32x1024 .f32 :=
  View.canon [⟨r0_1, k0_pay14 (View.ld x12 r0_1) (View.ld x14 r0_1)⟩]

/-- Its stores tile the buffer (checked by evaluation), so they cover it. -/
theorem cover0_26 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-- Window 27's staging buffer after the body, from the input windows' blocks: its 1 store as pieces, LAST
    FIRST (Lib/Pipeline/FrameBody.lean `View.canon`; the payloads are the skeleton's). -/
def out0_27 (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) : Vec F S32x1024 .f32 :=
  View.canon [⟨r0_1, k0_pay15 (View.ld x12 r0_1) (View.ld x15 r0_1)⟩]

/-- Its stores tile the buffer (checked by evaluation), so they cover it. -/
theorem cover0_27 (p0 : Vec F S32x1024 .f32) (y : S32x1024.Idx) :
    ∃ pc ∈ ([⟨r0_1, p0⟩] : List (View.Piece (Elt F) S32x1024 .f32)), y ∈ pc.1.set :=
  View.cover_of_tiled [⟨r0_1, p0⟩] S32x1024.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S88x1024 .f32) (harg1 : arg1.IsWhole) (arg2 : Memref sig .tc .vmem S88x1024 .f32) (harg2 : arg2.IsWhole) (arg3 : Memref sig .tc .vmem S88x1024 .f32) (harg3 : arg3.IsWhole) (arg4 : Memref sig .tc .vmem S88x1024 .f32) (harg4 : arg4.IsWhole) (arg5 : Memref sig .tc .vmem S88x1024 .f32) (harg5 : arg5.IsWhole) (arg6 : Memref sig .tc .vmem S88x1024 .f32) (harg6 : arg6.IsWhole) (arg7 : Memref sig .tc .vmem S88x1024 .f32) (harg7 : arg7.IsWhole) (arg8 : Memref sig .tc .vmem S88x1024 .f32) (harg8 : arg8.IsWhole) (arg9 : Memref sig .tc .vmem S88x1024 .f32) (harg9 : arg9.IsWhole) (arg10 : Memref sig .tc .vmem S88x1024 .f32) (harg10 : arg10.IsWhole) (arg11 : Memref sig .tc .vmem S88x1024 .f32) (harg11 : arg11.IsWhole) (arg12 : Memref sig .tc .vmem S88x1024 .f32) (harg12 : arg12.IsWhole) (arg13 : Memref sig .tc .vmem S32x1024 .f32) (harg13 : arg13.IsWhole) (arg14 : Memref sig .tc .vmem S32x1024 .f32) (harg14 : arg14.IsWhole) (arg15 : Memref sig .tc .vmem S32x1024 .f32) (harg15 : arg15.IsWhole) (arg16 : Memref sig .tc .vmem S32x1024 .f32) (harg16 : arg16.IsWhole) (arg17 : Memref sig .tc .vmem S88x1024 .f32) (harg17 : arg17.IsWhole) (arg18 : Memref sig .tc .vmem S88x1024 .f32) (harg18 : arg18.IsWhole) (arg19 : Memref sig .tc .vmem S88x1024 .f32) (harg19 : arg19.IsWhole) (arg20 : Memref sig .tc .vmem S88x1024 .f32) (harg20 : arg20.IsWhole) (arg21 : Memref sig .tc .vmem S88x1024 .f32) (harg21 : arg21.IsWhole) (arg22 : Memref sig .tc .vmem S88x1024 .f32) (harg22 : arg22.IsWhole) (arg23 : Memref sig .tc .vmem S88x1024 .f32) (harg23 : arg23.IsWhole) (arg24 : Memref sig .tc .vmem S88x1024 .f32) (harg24 : arg24.IsWhole) (arg25 : Memref sig .tc .vmem S88x1024 .f32) (harg25 : arg25.IsWhole) (arg26 : Memref sig .tc .vmem S32x1024 .f32) (harg26 : arg26.IsWhole) (arg27 : Memref sig .tc .vmem S32x1024 .f32) (harg27 : arg27.IsWhole) (arg28 : Memref sig .tc .vmem S32x1024 .f32) (harg28 : arg28.IsWhole)
    (x0 : Vec F S88x1024 .f32) (x1 : Vec F S88x1024 .f32) (x2 : Vec F S88x1024 .f32) (x3 : Vec F S88x1024 .f32) (x4 : Vec F S88x1024 .f32) (x5 : Vec F S88x1024 .f32) (x6 : Vec F S88x1024 .f32) (x7 : Vec F S88x1024 .f32) (x8 : Vec F S88x1024 .f32) (x9 : Vec F S88x1024 .f32) (x10 : Vec F S88x1024 .f32) (x11 : Vec F S88x1024 .f32) (x12 : Vec F S32x1024 .f32) (x13 : Vec F S32x1024 .f32) (x14 : Vec F S32x1024 .f32) (x15 : Vec F S32x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out0_16 x0 x1 x2 x3 x4 x5 x6 x7 x8 x9 x10 x11 x12 x13 x14 x15) ∗ owns (c : Thread nD τ) arg18 fullShare (out0_17 x0 x1 x2 x3 x4 x5 x6 x7 x8 x9 x10 x11 x12 x13 x14 x15) ∗ owns (c : Thread nD τ) arg19 fullShare (out0_18 x0 x1 x2 x3 x4 x5 x6 x7 x8 x9 x10 x11 x12 x13 x14 x15) ∗ owns (c : Thread nD τ) arg20 fullShare (out0_19 x0 x1 x2 x3 x4 x5 x6 x7 x8 x9 x10 x11 x12 x13 x14 x15) ∗ owns (c : Thread nD τ) arg21 fullShare (out0_20 x0 x1 x2 x3 x4 x5 x6 x7 x8 x9 x10 x11 x12 x13 x14 x15) ∗ owns (c : Thread nD τ) arg22 fullShare (out0_21 x0 x1 x2 x3 x4 x5 x6 x7 x8 x9 x10 x11 x12 x13 x14 x15) ∗ owns (c : Thread nD τ) arg23 fullShare (out0_22 x0 x1 x2 x3 x4 x5 x6 x7 x8 x9 x10 x11 x12 x13 x14 x15) ∗ owns (c : Thread nD τ) arg24 fullShare (out0_23 x0 x1 x2 x3 x4 x5 x6 x7 x8 x9 x10 x11 x12 x13 x14 x15) ∗ owns (c : Thread nD τ) arg25 fullShare (out0_24 x0 x1 x2 x3 x4 x5 x6 x7 x8 x9 x10 x11 x12 x13 x14 x15) ∗ owns (c : Thread nD τ) arg26 fullShare (out0_25 x0 x1 x2 x3 x4 x5 x6 x7 x8 x9 x10 x11 x12 x13 x14 x15) ∗ owns (c : Thread nD τ) arg27 fullShare (out0_26 x0 x1 x2 x3 x4 x5 x6 x7 x8 x9 x10 x11 x12 x13 x14 x15) ∗ owns (c : Thread nD τ) arg28 fullShare (out0_27 x0 x1 x2 x3 x4 x5 x6 x7 x8 x9 x10 x11 x12 x13 x14 x15)) -∗ K ⟨⟩))
      ⊢ wp frame (wpE (defs₀ (F := F)) Variants.none c none) E (cc0_adamw_a i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28) K := by
  simp only [cc0_adamw_a_eq_skeleton]; unfold cc0_adamw_a_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  isplitl [H20]
  · iexists _; isplitr
    swap; · iexact H20
    ipureintro
    exact View.read_writes_eq_canon _ _ _ (cover0_20 _)
  isplitl [H21]
  · iexists _; isplitr
    swap; · iexact H21
    ipureintro
    exact View.read_writes_eq_canon _ _ _ (cover0_21 _)
  isplitl [H22]
  · iexists _; isplitr
    swap; · iexact H22
    ipureintro
    exact View.read_writes_eq_canon _ _ _ (cover0_22 _)
  isplitl [H23]
  · iexists _; isplitr
    swap; · iexact H23
    ipureintro
    exact View.read_writes_eq_canon _ _ _ (cover0_23 _)
  isplitl [H24]
  · iexists _; isplitr
    swap; · iexact H24
    ipureintro
    exact View.read_writes_eq_canon _ _ _ (cover0_24 _)
  isplitl [H25]
  · iexists _; isplitr
    swap; · iexact H25
    ipureintro
    exact View.read_writes_eq_canon _ _ _ (cover0_25 _)
  isplitl [H26]
  · iexists _; isplitr
    swap; · iexact H26
    ipureintro
    exact View.read_writes_eq_canon _ _ _ (cover0_26 _)
  iexists _; isplitr
  swap; · iexact H27
  ipureintro
  exact View.read_writes_eq_canon _ _ _ (cover0_27 _)

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 28, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t))

set_option maxHeartbeats 4000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  iintro ⟨H0, H1, H2, H3, H4, H5, H6, H7, H8, H9, H10, H11, H12, H13, H14, H15, H16, H17, H18, H19, H20, H21, H22, H23, H24, H25, H26, H27⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact H27

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The program ends, its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

/-! ## What a grid point writes back, and the run with the output arrays named -/

/-- What point `t` writes back to this window. -/
theorem flushed16 (c : Dev nD) (t : Fin cfg0.N) :
    (dats m 0 c).flushed 16 t = (cfg0.win 16).cut (grid0.coords t) (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 16).cut (grid0.coords t) ((dats m 0 c).after 16 t) = _
  rw [after0_16]

/-- What point `t` writes back to this window. -/
theorem flushed17 (c : Dev nD) (t : Fin cfg0.N) :
    (dats m 0 c).flushed 17 t = (cfg0.win 17).cut (grid0.coords t) (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 17).cut (grid0.coords t) ((dats m 0 c).after 17 t) = _
  rw [after0_17]

/-- What point `t` writes back to this window. -/
theorem flushed18 (c : Dev nD) (t : Fin cfg0.N) :
    (dats m 0 c).flushed 18 t = (cfg0.win 18).cut (grid0.coords t) (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 18).cut (grid0.coords t) ((dats m 0 c).after 18 t) = _
  rw [after0_18]

/-- What point `t` writes back to this window. -/
theorem flushed19 (c : Dev nD) (t : Fin cfg0.N) :
    (dats m 0 c).flushed 19 t = (cfg0.win 19).cut (grid0.coords t) (out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 19).cut (grid0.coords t) ((dats m 0 c).after 19 t) = _
  rw [after0_19]

/-- What point `t` writes back to this window. -/
theorem flushed20 (c : Dev nD) (t : Fin cfg0.N) :
    (dats m 0 c).flushed 20 t = (cfg0.win 20).cut (grid0.coords t) (out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 20).cut (grid0.coords t) ((dats m 0 c).after 20 t) = _
  rw [after0_20]

/-- What point `t` writes back to this window. -/
theorem flushed21 (c : Dev nD) (t : Fin cfg0.N) :
    (dats m 0 c).flushed 21 t = (cfg0.win 21).cut (grid0.coords t) (out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 21).cut (grid0.coords t) ((dats m 0 c).after 21 t) = _
  rw [after0_21]

/-- What point `t` writes back to this window. -/
theorem flushed22 (c : Dev nD) (t : Fin cfg0.N) :
    (dats m 0 c).flushed 22 t = (cfg0.win 22).cut (grid0.coords t) (out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 22).cut (grid0.coords t) ((dats m 0 c).after 22 t) = _
  rw [after0_22]

/-- What point `t` writes back to this window. -/
theorem flushed23 (c : Dev nD) (t : Fin cfg0.N) :
    (dats m 0 c).flushed 23 t = (cfg0.win 23).cut (grid0.coords t) (out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 23).cut (grid0.coords t) ((dats m 0 c).after 23 t) = _
  rw [after0_23]

/-- What point `t` writes back to this window. -/
theorem flushed24 (c : Dev nD) (t : Fin cfg0.N) :
    (dats m 0 c).flushed 24 t = (cfg0.win 24).cut (grid0.coords t) (out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 24).cut (grid0.coords t) ((dats m 0 c).after 24 t) = _
  rw [after0_24]

/-- What point `t` writes back to this window. -/
theorem flushed25 (c : Dev nD) (t : Fin cfg0.N) :
    (dats m 0 c).flushed 25 t = (cfg0.win 25).cut (grid0.coords t) (out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 25).cut (grid0.coords t) ((dats m 0 c).after 25 t) = _
  rw [after0_25]

/-- What point `t` writes back to this window. -/
theorem flushed26 (c : Dev nD) (t : Fin cfg0.N) :
    (dats m 0 c).flushed 26 t = (cfg0.win 26).cut (grid0.coords t) (out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 26).cut (grid0.coords t) ((dats m 0 c).after 26 t) = _
  rw [after0_26]

/-- What point `t` writes back to this window. -/
theorem flushed27 (c : Dev nD) (t : Fin cfg0.N) :
    (dats m 0 c).flushed 27 t = (cfg0.win 27).cut (grid0.coords t) (out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) := by
  show (cfg0.win 27).cut (grid0.coords t) ((dats m 0 c).after 27 t) = _
  rw [after0_27]

set_option maxHeartbeats 800000 in
/-- After the run each output array is what the grid points wrote, and the arguments are unchanged. -/
theorem run_blocks : θ_run defs (onTc (τ := τ) (main (F := F))) ⟨m, fun _ => 0, ρ⟩ fun r => ∀ c : Dev nD,
      r.2.mem ((c : Thread nD τ).loc main_v24_0) = (dats m 0 c).arrAt 16 cfg0.N
      ∧ r.2.mem ((c : Thread nD τ).loc main_v24_1) = (dats m 0 c).arrAt 17 cfg0.N
      ∧ r.2.mem ((c : Thread nD τ).loc main_v24_2) = (dats m 0 c).arrAt 18 cfg0.N
      ∧ r.2.mem ((c : Thread nD τ).loc main_v24_3) = (dats m 0 c).arrAt 19 cfg0.N
      ∧ r.2.mem ((c : Thread nD τ).loc main_v24_4) = (dats m 0 c).arrAt 20 cfg0.N
      ∧ r.2.mem ((c : Thread nD τ).loc main_v24_5) = (dats m 0 c).arrAt 21 cfg0.N
      ∧ r.2.mem ((c : Thread nD τ).loc main_v24_6) = (dats m 0 c).arrAt 22 cfg0.N
      ∧ r.2.mem ((c : Thread nD τ).loc main_v24_7) = (dats m 0 c).arrAt 23 cfg0.N
      ∧ r.2.mem ((c : Thread nD τ).loc main_v24_8) = (dats m 0 c).arrAt 24 cfg0.N
      ∧ r.2.mem ((c : Thread nD τ).loc main_v24_9) = (dats m 0 c).arrAt 25 cfg0.N
      ∧ r.2.mem ((c : Thread nD τ).loc main_v24_10) = (dats m 0 c).arrAt 26 cfg0.N
      ∧ r.2.mem ((c : Thread nD τ).loc main_v24_11) = (dats m 0 c).arrAt 27 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1 16,
      (h c).1 17,
      (h c).1 18,
      (h c).1 19,
      (h c).1 20,
      (h c).1 21,
      (h c).1 22,
      (h c).1 23,
      (h c).1 24,
      (h c).1 25,
      (h c).1 26,
      (h c).1 27,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c)⟩)
    (run_main m ρ)

end Cert.AdamAIdeal.Run

end
-- ==== Proof.AdamASame.lean ====
/-
  `AdamA` and its idealization have the same text, no rewrite having been made between them: their body tables and their
  host programs are equal over any numbers.
-/
module

public import proofs.«01_k».proof.Proof.Gen.AdamA
public import proofs.«01_k».proof.Proof.Gen.AdamAIdeal

@[expose] public section

set_option maxRecDepth 16384
set_option maxHeartbeats 4000000

noncomputable section

namespace Cert.AdamASame

open Idealize.ShloMosaic Idealize.ShloMosaic.TcCoe Idealize.SL.Sem
variable {F : FTy → Type} [FloatOps F]
attribute [local instance] Cert.AdamA.Gen.facts Cert.AdamAIdeal.Gen.facts

/-- The bodies are the same. -/
theorem body_eq : Cert.AdamA.cc0_adamw_a (F := F) = Cert.AdamAIdeal.cc0_adamw_a (F := F) := rfl

/-- The body tables are the same: one label, called at the same point on the same staging buffers. -/
theorem table_eq : Cert.AdamA.defs₀ (F := F) = Cert.AdamAIdeal.defs₀ (F := F) := by
  unfold Cert.AdamA.defs₀
  rw [body_eq]
  unfold Cert.AdamAIdeal.defs₀
  refine congrArg Defs.onTc (funext fun ℓ => ?_)
  obtain ⟨k, hk⟩ := ℓ
  obtain rfl : k = 0 := by omega
  refine funext fun ⟨t, s⟩ => ?_
  exact rfl

/-- The tables with the pipeline's own labels are the same. -/
theorem defs_eq : Cert.AdamA.defs (F := F) = Cert.AdamAIdeal.defs (F := F) :=
  congrArg (Pipeline.defs Cert.AdamAIdeal.pcfgs) table_eq

/-- The host programs are the same. -/
theorem main_eq : Cert.AdamA.main (F := F) = Cert.AdamAIdeal.main (F := F) := by
  unfold Cert.AdamA.main Cert.AdamAIdeal.main
  rfl

end Cert.AdamASame

end
-- ==== Proof.AdamAFrame.lean ====
/-
  The frame of `AdamA` from the run of its idealization, the two programs being equal.
-/
module

public import proofs.«01_k».proof.Defs
public import proofs.«01_k».proof.Proof.AdamARun
public import proofs.«01_k».proof.Proof.AdamASame

@[expose] public section

set_option maxRecDepth 16384
set_option maxHeartbeats 4000000

noncomputable section

namespace Cert.AdamAFrame

open Idealize.ShloMosaic Idealize.ShloMosaic.TcCoe Idealize.SL.Sem

/-- A run of one program is a run of an equal one. -/
theorem transport {nD : Nat} {τ : Topo} {sig : RefSig} {Val : EltTy → Type} {Λ : Labels} {d d' : Defs nD τ sig Val Λ}
    {p p' : Dev nD → Prog (TpuEff nD τ sig Val Λ .tc) PUnit}
    (hd : d' = d) (hp : p' = p) (s) (Q) (h : θ_run d (onTc p) s Q) : θ_run d' (onTc p') s Q := by
  subst hd hp; exact h

/-- `AdamA` ends from any memory with its arguments as they were and every counter back at zero. -/
theorem frame_kernel : Cert.quiescent_AdamA (hAdamA := Cert.AdamA.Gen.facts) := fun m ρ _ =>
  transport Cert.AdamASame.defs_eq Cert.AdamASame.main_eq _ _ (Cert.AdamAIdeal.Run.frame (F := Bits) m ρ)

end Cert.AdamAFrame

end
-- ==== Proof.Step.lean ====
/-
  One step of the optimiser at one entry: the new first and second moments, and the change of the weight.
-/
module

public import Idealize.ShloMosaic.Lib.Pointwise

@[expose] public section

noncomputable section

namespace Cert.Step

open Idealize.ShloMosaic

/-- The new first moment of the gradient. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

theorem newM_congr {g g' m m' : EReal} (hg : g = g') (hm : m = m') : newM g m = newM g' m' := by rw [hg, hm]
theorem newV_congr {g g' v v' : EReal} (hg : g = g') (hv : v = v') : newV g v = newV g' v' := by rw [hg, hv]
theorem delta_congr {g g' w w' m m' v v' : EReal} (hg : g = g') (hw : w = w') (hm : m = m') (hv : v = v') :
    delta g w m v = delta g' w' m' v' := by rw [hg, hw, hm, hv]

end Cert.Step

end
-- ==== Proof.AdamAValue.lean ====
/-
  The optimiser's step on the second feed-forward layer and the output projection: what the kernel's result arrays
  hold, entry by entry, and that the reference's hold the same.
-/
module

public import proofs.«01_k».proof.Defs
public import proofs.«01_k».proof.Proof.Step
public import proofs.«01_k».proof.Proof.AdamARun
public import proofs.«01_k».proof.Proof.Gen.AdamARefIdeal.Run
public import proofs.«01_k».proof.Proof.Gen.AdamARefIdeal.Read
public import Idealize.ShloMosaic.Lib.Pointwise
public import Idealize.ShloMosaic.Lib.Tactic

@[expose] public section

noncomputable section

namespace Cert.AdamAIdeal.Hand

open Cert.AdamAIdeal Cert.AdamAIdeal.Gen Cert.AdamAIdeal.Run Idealize.ShloMosaic Idealize.ShloMosaic.TcCoe Idealize.SL.Sem Cert.Step
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section

variable (x0 : Vec Ideal S88x1024 .f32) (x1 : Vec Ideal S88x1024 .f32) (x2 : Vec Ideal S88x1024 .f32) (x3 : Vec Ideal S88x1024 .f32) (x4 : Vec Ideal S88x1024 .f32) (x5 : Vec Ideal S88x1024 .f32) (x6 : Vec Ideal S88x1024 .f32) (x7 : Vec Ideal S88x1024 .f32) (x8 : Vec Ideal S88x1024 .f32) (x9 : Vec Ideal S88x1024 .f32) (x10 : Vec Ideal S88x1024 .f32) (x11 : Vec Ideal S88x1024 .f32) (x12 : Vec Ideal S32x1024 .f32) (x13 : Vec Ideal S32x1024 .f32) (x14 : Vec Ideal S32x1024 .f32) (x15 : Vec Ideal S32x1024 .f32)

theorem out_16 :
    out0_16 (F := Ideal) x0 x1 x2 x3 x4 x5 x6 x7 x8 x9 x10 x11 x12 x13 x14 x15 = (fun j => (delta (x0 j) (x1 j) (x2 j) (x3 j) : EReal) : Vec Ideal S88x1024 .f32) := by
  unfold out0_16
  rw [View.canon_unit_zero (S := S88x1024) hz2]
  simp only [View.ld_unit_zero (S := S32x1024) hz2, View.ld_unit_zero (S := S88x1024) hz2]
  funext j
  unfold_payloads
  unfold delta newM newV
  pointwise

theorem out_17 :
    out0_17 (F := Ideal) x0 x1 x2 x3 x4 x5 x6 x7 x8 x9 x10 x11 x12 x13 x14 x15 = (fun j => (newM (x0 j) (x2 j) : EReal) : Vec Ideal S88x1024 .f32) := by
  unfold out0_17
  rw [View.canon_unit_zero (S := S88x1024) hz2]
  simp only [View.ld_unit_zero (S := S32x1024) hz2, View.ld_unit_zero (S := S88x1024) hz2]
  funext j
  unfold_payloads
  unfold newM
  pointwise

theorem out_18 :
    out0_18 (F := Ideal) x0 x1 x2 x3 x4 x5 x6 x7 x8 x9 x10 x11 x12 x13 x14 x15 = (fun j => (newV (x0 j) (x3 j) : EReal) : Vec Ideal S88x1024 .f32) := by
  unfold out0_18
  rw [View.canon_unit_zero (S := S88x1024) hz2]
  simp only [View.ld_unit_zero (S := S32x1024) hz2, View.ld_unit_zero (S := S88x1024) hz2]
  funext j
  unfold_payloads
  unfold newV
  pointwise

theorem out_19 :
    out0_19 (F := Ideal) x0 x1 x2 x3 x4 x5 x6 x7 x8 x9 x10 x11 x12 x13 x14 x15 = (fun j => (delta (x4 j) (x5 j) (x6 j) (x7 j) : EReal) : Vec Ideal S88x1024 .f32) := by
  unfold out0_19
  rw [View.canon_unit_zero (S := S88x1024) hz2]
  simp only [View.ld_unit_zero (S := S32x1024) hz2, View.ld_unit_zero (S := S88x1024) hz2]
  funext j
  unfold_payloads
  unfold delta newM newV
  pointwise

theorem out_20 :
    out0_20 (F := Ideal) x0 x1 x2 x3 x4 x5 x6 x7 x8 x9 x10 x11 x12 x13 x14 x15 = (fun j => (newM (x4 j) (x6 j) : EReal) : Vec Ideal S88x1024 .f32) := by
  unfold out0_20
  rw [View.canon_unit_zero (S := S88x1024) hz2]
  simp only [View.ld_unit_zero (S := S32x1024) hz2, View.ld_unit_zero (S := S88x1024) hz2]
  funext j
  unfold_payloads
  unfold newM
  pointwise

theorem out_21 :
    out0_21 (F := Ideal) x0 x1 x2 x3 x4 x5 x6 x7 x8 x9 x10 x11 x12 x13 x14 x15 = (fun j => (newV (x4 j) (x7 j) : EReal) : Vec Ideal S88x1024 .f32) := by
  unfold out0_21
  rw [View.canon_unit_zero (S := S88x1024) hz2]
  simp only [View.ld_unit_zero (S := S32x1024) hz2, View.ld_unit_zero (S := S88x1024) hz2]
  funext j
  unfold_payloads
  unfold newV
  pointwise

theorem out_22 :
    out0_22 (F := Ideal) x0 x1 x2 x3 x4 x5 x6 x7 x8 x9 x10 x11 x12 x13 x14 x15 = (fun j => (delta (x8 j) (x9 j) (x10 j) (x11 j) : EReal) : Vec Ideal S88x1024 .f32) := by
  unfold out0_22
  rw [View.canon_unit_zero (S := S88x1024) hz2]
  simp only [View.ld_unit_zero (S := S32x1024) hz2, View.ld_unit_zero (S := S88x1024) hz2]
  funext j
  unfold_payloads
  unfold delta newM newV
  pointwise

theorem out_23 :
    out0_23 (F := Ideal) x0 x1 x2 x3 x4 x5 x6 x7 x8 x9 x10 x11 x12 x13 x14 x15 = (fun j => (newM (x8 j) (x10 j) : EReal) : Vec Ideal S88x1024 .f32) := by
  unfold out0_23
  rw [View.canon_unit_zero (S := S88x1024) hz2]
  simp only [View.ld_unit_zero (S := S32x1024) hz2, View.ld_unit_zero (S := S88x1024) hz2]
  funext j
  unfold_payloads
  unfold newM
  pointwise

theorem out_24 :
    out0_24 (F := Ideal) x0 x1 x2 x3 x4 x5 x6 x7 x8 x9 x10 x11 x12 x13 x14 x15 = (fun j => (newV (x8 j) (x11 j) : EReal) : Vec Ideal S88x1024 .f32) := by
  unfold out0_24
  rw [View.canon_unit_zero (S := S88x1024) hz2]
  simp only [View.ld_unit_zero (S := S32x1024) hz2, View.ld_unit_zero (S := S88x1024) hz2]
  funext j
  unfold_payloads
  unfold newV
  pointwise

theorem out_25 :
    out0_25 (F := Ideal) x0 x1 x2 x3 x4 x5 x6 x7 x8 x9 x10 x11 x12 x13 x14 x15 = (fun j => (delta (x12 j) (x13 j) (x14 j) (x15 j) : EReal) : Vec Ideal S32x1024 .f32) := by
  unfold out0_25
  rw [View.canon_unit_zero (S := S32x1024) hz2]
  simp only [View.ld_unit_zero (S := S32x1024) hz2, View.ld_unit_zero (S := S88x1024) hz2]
  funext j
  unfold_payloads
  unfold delta newM newV
  pointwise

theorem out_26 :
    out0_26 (F := Ideal) x0 x1 x2 x3 x4 x5 x6 x7 x8 x9 x10 x11 x12 x13 x14 x15 = (fun j => (newM (x12 j) (x14 j) : EReal) : Vec Ideal S32x1024 .f32) := by
  unfold out0_26
  rw [View.canon_unit_zero (S := S32x1024) hz2]
  simp only [View.ld_unit_zero (S := S32x1024) hz2, View.ld_unit_zero (S := S88x1024) hz2]
  funext j
  unfold_payloads
  unfold newM
  pointwise

theorem out_27 :
    out0_27 (F := Ideal) x0 x1 x2 x3 x4 x5 x6 x7 x8 x9 x10 x11 x12 x13 x14 x15 = (fun j => (newV (x12 j) (x15 j) : EReal) : Vec Ideal S32x1024 .f32) := by
  unfold out0_27
  rw [View.canon_unit_zero (S := S32x1024) hz2]
  simp only [View.ld_unit_zero (S := S32x1024) hz2, View.ld_unit_zero (S := S88x1024) hz2]
  funext j
  unfold_payloads
  unfold newV
  pointwise

end

/-- The grid point whose block holds an entry. -/
def ptOf_352x1024 (i : S352x1024.Idx) : Fin cfg0.N :=
  ⟨(i 0).val / 88, by have h : cfg0.N = 4 := N_0; have h0 : (i 0).val < 352 := (i 0).isLt; omega⟩

/-- Row `r` of the block at point `t`. -/
def row_352x1024 (t : Fin cfg0.N) (r : Fin 88) : Fin 352 :=
  ⟨t.val * 88 + r.val, by have h := t.isLt; have h' : cfg0.N = 4 := N_0; have := r.isLt; omega⟩

/-- The grid point whose block holds an entry. -/
def ptOf_128x1024 (i : S128x1024.Idx) : Fin cfg0.N :=
  ⟨(i 0).val / 32, by have h : cfg0.N = 4 := N_0; have h0 : (i 0).val < 128 := (i 0).isLt; omega⟩

/-- Row `r` of the block at point `t`. -/
def row_128x1024 (t : Fin cfg0.N) (r : Fin 32) : Fin 128 :=
  ⟨t.val * 32 + r.val, by have h := t.isLt; have h' : cfg0.N = 4 := N_0; have := r.isLt; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)
theorem idx14 : ∀ t : Fin cfg0.N, win0_14.index t 0 = t.val ∧ win0_14.index t 1 = 0 :=
  (by decide +kernel : ∀ t : Fin grid0.N, win0_14.index t 0 = t.val ∧ win0_14.index t 1 = 0)
theorem idx15 : ∀ t : Fin cfg0.N, win0_15.index t 0 = t.val ∧ win0_15.index t 1 = 0 :=
  (by decide +kernel : ∀ t : Fin grid0.N, win0_15.index t 0 = t.val ∧ win0_15.index t 1 = 0)
theorem idx16 : ∀ t : Fin cfg0.N, win0_16.index t 0 = t.val ∧ win0_16.index t 1 = 0 :=
  (by decide +kernel : ∀ t : Fin grid0.N, win0_16.index t 0 = t.val ∧ win0_16.index t 1 = 0)
theorem idx17 : ∀ t : Fin cfg0.N, win0_17.index t 0 = t.val ∧ win0_17.index t 1 = 0 :=
  (by decide +kernel : ∀ t : Fin grid0.N, win0_17.index t 0 = t.val ∧ win0_17.index t 1 = 0)
theorem idx18 : ∀ t : Fin cfg0.N, win0_18.index t 0 = t.val ∧ win0_18.index t 1 = 0 :=
  (by decide +kernel : ∀ t : Fin grid0.N, win0_18.index t 0 = t.val ∧ win0_18.index t 1 = 0)
theorem idx19 : ∀ t : Fin cfg0.N, win0_19.index t 0 = t.val ∧ win0_19.index t 1 = 0 :=
  (by decide +kernel : ∀ t : Fin grid0.N, win0_19.index t 0 = t.val ∧ win0_19.index t 1 = 0)
theorem idx20 : ∀ t : Fin cfg0.N, win0_20.index t 0 = t.val ∧ win0_20.index t 1 = 0 :=
  (by decide +kernel : ∀ t : Fin grid0.N, win0_20.index t 0 = t.val ∧ win0_20.index t 1 = 0)
theorem idx21 : ∀ t : Fin cfg0.N, win0_21.index t 0 = t.val ∧ win0_21.index t 1 = 0 :=
  (by decide +kernel : ∀ t : Fin grid0.N, win0_21.index t 0 = t.val ∧ win0_21.index t 1 = 0)
theorem idx22 : ∀ t : Fin cfg0.N, win0_22.index t 0 = t.val ∧ win0_22.index t 1 = 0 :=
  (by decide +kernel : ∀ t : Fin grid0.N, win0_22.index t 0 = t.val ∧ win0_22.index t 1 = 0)
theorem idx23 : ∀ t : Fin cfg0.N, win0_23.index t 0 = t.val ∧ win0_23.index t 1 = 0 :=
  (by decide +kernel : ∀ t : Fin grid0.N, win0_23.index t 0 = t.val ∧ win0_23.index t 1 = 0)
theorem idx24 : ∀ t : Fin cfg0.N, win0_24.index t 0 = t.val ∧ win0_24.index t 1 = 0 :=
  (by decide +kernel : ∀ t : Fin grid0.N, win0_24.index t 0 = t.val ∧ win0_24.index t 1 = 0)
theorem idx25 : ∀ t : Fin cfg0.N, win0_25.index t 0 = t.val ∧ win0_25.index t 1 = 0 :=
  (by decide +kernel : ∀ t : Fin grid0.N, win0_25.index t 0 = t.val ∧ win0_25.index t 1 = 0)
theorem idx26 : ∀ t : Fin cfg0.N, win0_26.index t 0 = t.val ∧ win0_26.index t 1 = 0 :=
  (by decide +kernel : ∀ t : Fin grid0.N, win0_26.index t 0 = t.val ∧ win0_26.index t 1 = 0)
theorem idx27 : ∀ t : Fin cfg0.N, win0_27.index t 0 = t.val ∧ win0_27.index t 1 = 0 :=
  (by decide +kernel : ∀ t : Fin grid0.N, win0_27.index t 0 = t.val ∧ win0_27.index t 1 = 0)

abbrev a0 (c : Dev nD) : FVec Ideal S1x1024x352 .f32 := m ((c : Thread nD τ).loc main_arg0)
/-- The array the call takes as its operand 0. -/
def X0 (c : Dev nD) : FVec Ideal S352x1024 .f32 := transpose S352x1024 [1, 0] (shapeCast S1024x352 (a0 m c) shapeCasts_S1x1024x352_S1024x352) transposes_S1024x352_S352x1024_1_0
theorem V0 (c : Dev nD) : (V m c main_v1 : FVec Ideal S352x1024 .f32) = X0 m c := by
  unfold X0
  show StableHlo.after hostOps0 _ _ = _
  after_results <;> rfl
theorem blk0 (c : Dev nD) (t : Fin cfg0.N) (y : S88x1024.Idx) :
    ((iblk m c 0 t : FVec Ideal S88x1024 .f32) y : EReal) = X0 m c (ix2 (row_352x1024 t (y 0)) (y 1)) := by
  rw [← V0 m c]
  unfold iblk
  rw [View.read_apply]
  show V m c main_v1 _ = V m c main_v1 _
  congr 1
  funext a
  apply Fin.ext
  match a with
  | ⟨0, _⟩ => show win0_0.index t 0 * 88 + 1 * (y 0).val = t.val * 88 + (y 0).val; rw [(idx0 t).1]; omega
  | ⟨1, _⟩ => show win0_0.index t 1 * 1024 + 1 * (y 1).val = (y 1).val; rw [(idx0 t).2]; omega

abbrev a1 (c : Dev nD) : FVec Ideal S1x1024x352 .f32 := m ((c : Thread nD τ).loc main_arg1)
/-- The array the call takes as its operand 1. -/
def X1 (c : Dev nD) : FVec Ideal S352x1024 .f32 := transpose S352x1024 [1, 0] (shapeCast S1024x352 (a1 m c) shapeCasts_S1x1024x352_S1024x352) transposes_S1024x352_S352x1024_1_0
theorem V1 (c : Dev nD) : (V m c main_v3 : FVec Ideal S352x1024 .f32) = X1 m c := by
  unfold X1
  show StableHlo.after hostOps0 _ _ = _
  after_results <;> rfl
theorem blk1 (c : Dev nD) (t : Fin cfg0.N) (y : S88x1024.Idx) :
    ((iblk m c 1 t : FVec Ideal S88x1024 .f32) y : EReal) = X1 m c (ix2 (row_352x1024 t (y 0)) (y 1)) := by
  rw [← V1 m c]
  unfold iblk
  rw [View.read_apply]
  show V m c main_v3 _ = V m c main_v3 _
  congr 1
  funext a
  apply Fin.ext
  match a with
  | ⟨0, _⟩ => show win0_1.index t 0 * 88 + 1 * (y 0).val = t.val * 88 + (y 0).val; rw [(idx1 t).1]; omega
  | ⟨1, _⟩ => show win0_1.index t 1 * 1024 + 1 * (y 1).val = (y 1).val; rw [(idx1 t).2]; omega

abbrev a2 (c : Dev nD) : FVec Ideal S1x1024x352 .f32 := m ((c : Thread nD τ).loc main_arg2)
/-- The array the call takes as its operand 2. -/
def X2 (c : Dev nD) : FVec Ideal S352x1024 .f32 := transpose S352x1024 [1, 0] (shapeCast S1024x352 (a2 m c) shapeCasts_S1x1024x352_S1024x352) transposes_S1024x352_S352x1024_1_0
theorem V2 (c : Dev nD) : (V m c main_v5 : FVec Ideal S352x1024 .f32) = X2 m c := by
  unfold X2
  show StableHlo.after hostOps0 _ _ = _
  after_results <;> rfl
theorem blk2 (c : Dev nD) (t : Fin cfg0.N) (y : S88x1024.Idx) :
    ((iblk m c 2 t : FVec Ideal S88x1024 .f32) y : EReal) = X2 m c (ix2 (row_352x1024 t (y 0)) (y 1)) := by
  rw [← V2 m c]
  unfold iblk
  rw [View.read_apply]
  show V m c main_v5 _ = V m c main_v5 _
  congr 1
  funext a
  apply Fin.ext
  match a with
  | ⟨0, _⟩ => show win0_2.index t 0 * 88 + 1 * (y 0).val = t.val * 88 + (y 0).val; rw [(idx2 t).1]; omega
  | ⟨1, _⟩ => show win0_2.index t 1 * 1024 + 1 * (y 1).val = (y 1).val; rw [(idx2 t).2]; omega

abbrev a3 (c : Dev nD) : FVec Ideal S1x1024x352 .f32 := m ((c : Thread nD τ).loc main_arg3)
/-- The array the call takes as its operand 3. -/
def X3 (c : Dev nD) : FVec Ideal S352x1024 .f32 := transpose S352x1024 [1, 0] (shapeCast S1024x352 (a3 m c) shapeCasts_S1x1024x352_S1024x352) transposes_S1024x352_S352x1024_1_0
theorem V3 (c : Dev nD) : (V m c main_v7 : FVec Ideal S352x1024 .f32) = X3 m c := by
  unfold X3
  show StableHlo.after hostOps0 _ _ = _
  after_results <;> rfl
theorem blk3 (c : Dev nD) (t : Fin cfg0.N) (y : S88x1024.Idx) :
    ((iblk m c 3 t : FVec Ideal S88x1024 .f32) y : EReal) = X3 m c (ix2 (row_352x1024 t (y 0)) (y 1)) := by
  rw [← V3 m c]
  unfold iblk
  rw [View.read_apply]
  show V m c main_v7 _ = V m c main_v7 _
  congr 1
  funext a
  apply Fin.ext
  match a with
  | ⟨0, _⟩ => show win0_3.index t 0 * 88 + 1 * (y 0).val = t.val * 88 + (y 0).val; rw [(idx3 t).1]; omega
  | ⟨1, _⟩ => show win0_3.index t 1 * 1024 + 1 * (y 1).val = (y 1).val; rw [(idx3 t).2]; omega

abbrev a4 (c : Dev nD) : FVec Ideal S1x1024x352 .f32 := m ((c : Thread nD τ).loc main_arg4)
/-- The array the call takes as its operand 4. -/
def X4 (c : Dev nD) : FVec Ideal S352x1024 .f32 := transpose S352x1024 [1, 0] (shapeCast S1024x352 (a4 m c) shapeCasts_S1x1024x352_S1024x352) transposes_S1024x352_S352x1024_1_0
theorem V4 (c : Dev nD) : (V m c main_v9 : FVec Ideal S352x1024 .f32) = X4 m c := by
  unfold X4
  show StableHlo.after hostOps0 _ _ = _
  after_results <;> rfl
theorem blk4 (c : Dev nD) (t : Fin cfg0.N) (y : S88x1024.Idx) :
    ((iblk m c 4 t : FVec Ideal S88x1024 .f32) y : EReal) = X4 m c (ix2 (row_352x1024 t (y 0)) (y 1)) := by
  rw [← V4 m c]
  unfold iblk
  rw [View.read_apply]
  show V m c main_v9 _ = V m c main_v9 _
  congr 1
  funext a
  apply Fin.ext
  match a with
  | ⟨0, _⟩ => show win0_4.index t 0 * 88 + 1 * (y 0).val = t.val * 88 + (y 0).val; rw [(idx4 t).1]; omega
  | ⟨1, _⟩ => show win0_4.index t 1 * 1024 + 1 * (y 1).val = (y 1).val; rw [(idx4 t).2]; omega

abbrev a5 (c : Dev nD) : FVec Ideal S1x1024x352 .f32 := m ((c : Thread nD τ).loc main_arg5)
/-- The array the call takes as its operand 5. -/
def X5 (c : Dev nD) : FVec Ideal S352x1024 .f32 := transpose S352x1024 [1, 0] (shapeCast S1024x352 (a5 m c) shapeCasts_S1x1024x352_S1024x352) transposes_S1024x352_S352x1024_1_0
theorem V5 (c : Dev nD) : (V m c main_v11 : FVec Ideal S352x1024 .f32) = X5 m c := by
  unfold X5
  show StableHlo.after hostOps0 _ _ = _
  after_results <;> rfl
theorem blk5 (c : Dev nD) (t : Fin cfg0.N) (y : S88x1024.Idx) :
    ((iblk m c 5 t : FVec Ideal S88x1024 .f32) y : EReal) = X5 m c (ix2 (row_352x1024 t (y 0)) (y 1)) := by
  rw [← V5 m c]
  unfold iblk
  rw [View.read_apply]
  show V m c main_v11 _ = V m c main_v11 _
  congr 1
  funext a
  apply Fin.ext
  match a with
  | ⟨0, _⟩ => show win0_5.index t 0 * 88 + 1 * (y 0).val = t.val * 88 + (y 0).val; rw [(idx5 t).1]; omega
  | ⟨1, _⟩ => show win0_5.index t 1 * 1024 + 1 * (y 1).val = (y 1).val; rw [(idx5 t).2]; omega

abbrev a6 (c : Dev nD) : FVec Ideal S1x1024x352 .f32 := m ((c : Thread nD τ).loc main_arg6)
/-- The array the call takes as its operand 6. -/
def X6 (c : Dev nD) : FVec Ideal S352x1024 .f32 := transpose S352x1024 [1, 0] (shapeCast S1024x352 (a6 m c) shapeCasts_S1x1024x352_S1024x352) transposes_S1024x352_S352x1024_1_0
theorem V6 (c : Dev nD) : (V m c main_v13 : FVec Ideal S352x1024 .f32) = X6 m c := by
  unfold X6
  show StableHlo.after hostOps0 _ _ = _
  after_results <;> rfl
theorem blk6 (c : Dev nD) (t : Fin cfg0.N) (y : S88x1024.Idx) :
    ((iblk m c 6 t : FVec Ideal S88x1024 .f32) y : EReal) = X6 m c (ix2 (row_352x1024 t (y 0)) (y 1)) := by
  rw [← V6 m c]
  unfold iblk
  rw [View.read_apply]
  show V m c main_v13 _ = V m c main_v13 _
  congr 1
  funext a
  apply Fin.ext
  match a with
  | ⟨0, _⟩ => show win0_6.index t 0 * 88 + 1 * (y 0).val = t.val * 88 + (y 0).val; rw [(idx6 t).1]; omega
  | ⟨1, _⟩ => show win0_6.index t 1 * 1024 + 1 * (y 1).val = (y 1).val; rw [(idx6 t).2]; omega

abbrev a7 (c : Dev nD) : FVec Ideal S1x1024x352 .f32 := m ((c : Thread nD τ).loc main_arg7)
/-- The array the call takes as its operand 7. -/
def X7 (c : Dev nD) : FVec Ideal S352x1024 .f32 := transpose S352x1024 [1, 0] (shapeCast S1024x352 (a7 m c) shapeCasts_S1x1024x352_S1024x352) transposes_S1024x352_S352x1024_1_0
theorem V7 (c : Dev nD) : (V m c main_v15 : FVec Ideal S352x1024 .f32) = X7 m c := by
  unfold X7
  show StableHlo.after hostOps0 _ _ = _
  after_results <;> rfl
theorem blk7 (c : Dev nD) (t : Fin cfg0.N) (y : S88x1024.Idx) :
    ((iblk m c 7 t : FVec Ideal S88x1024 .f32) y : EReal) = X7 m c (ix2 (row_352x1024 t (y 0)) (y 1)) := by
  rw [← V7 m c]
  unfold iblk
  rw [View.read_apply]
  show V m c main_v15 _ = V m c main_v15 _
  congr 1
  funext a
  apply Fin.ext
  match a with
  | ⟨0, _⟩ => show win0_7.index t 0 * 88 + 1 * (y 0).val = t.val * 88 + (y 0).val; rw [(idx7 t).1]; omega
  | ⟨1, _⟩ => show win0_7.index t 1 * 1024 + 1 * (y 1).val = (y 1).val; rw [(idx7 t).2]; omega

abbrev a8 (c : Dev nD) : FVec Ideal S1x352x1024 .f32 := m ((c : Thread nD τ).loc main_arg8)
/-- The array the call takes as its operand 8. -/
def X8 (c : Dev nD) : FVec Ideal S352x1024 .f32 := shapeCast S352x1024 (a8 m c) shapeCasts_S1x352x1024_S352x1024
theorem V8 (c : Dev nD) : (V m c main_v16 : FVec Ideal S352x1024 .f32) = X8 m c := by
  unfold X8
  show StableHlo.after hostOps0 _ _ = _
  after_results <;> rfl
theorem blk8 (c : Dev nD) (t : Fin cfg0.N) (y : S88x1024.Idx) :
    ((iblk m c 8 t : FVec Ideal S88x1024 .f32) y : EReal) = X8 m c (ix2 (row_352x1024 t (y 0)) (y 1)) := by
  rw [← V8 m c]
  unfold iblk
  rw [View.read_apply]
  show V m c main_v16 _ = V m c main_v16 _
  congr 1
  funext a
  apply Fin.ext
  match a with
  | ⟨0, _⟩ => show win0_8.index t 0 * 88 + 1 * (y 0).val = t.val * 88 + (y 0).val; rw [(idx8 t).1]; omega
  | ⟨1, _⟩ => show win0_8.index t 1 * 1024 + 1 * (y 1).val = (y 1).val; rw [(idx8 t).2]; omega

abbrev a9 (c : Dev nD) : FVec Ideal S1x352x1024 .f32 := m ((c : Thread nD τ).loc main_arg9)
/-- The array the call takes as its operand 9. -/
def X9 (c : Dev nD) : FVec Ideal S352x1024 .f32 := shapeCast S352x1024 (a9 m c) shapeCasts_S1x352x1024_S352x1024
theorem V9 (c : Dev nD) : (V m c main_v17 : FVec Ideal S352x1024 .f32) = X9 m c := by
  unfold X9
  show StableHlo.after hostOps0 _ _ = _
  after_results <;> rfl
theorem blk9 (c : Dev nD) (t : Fin cfg0.N) (y : S88x1024.Idx) :
    ((iblk m c 9 t : FVec Ideal S88x1024 .f32) y : EReal) = X9 m c (ix2 (row_352x1024 t (y 0)) (y 1)) := by
  rw [← V9 m c]
  unfold iblk
  rw [View.read_apply]
  show V m c main_v17 _ = V m c main_v17 _
  congr 1
  funext a
  apply Fin.ext
  match a with
  | ⟨0, _⟩ => show win0_9.index t 0 * 88 + 1 * (y 0).val = t.val * 88 + (y 0).val; rw [(idx9 t).1]; omega
  | ⟨1, _⟩ => show win0_9.index t 1 * 1024 + 1 * (y 1).val = (y 1).val; rw [(idx9 t).2]; omega

abbrev a10 (c : Dev nD) : FVec Ideal S1x352x1024 .f32 := m ((c : Thread nD τ).loc main_arg10)
/-- The array the call takes as its operand 10. -/
def X10 (c : Dev nD) : FVec Ideal S352x1024 .f32 := shapeCast S352x1024 (a10 m c) shapeCasts_S1x352x1024_S352x1024
theorem V10 (c : Dev nD) : (V m c main_v18 : FVec Ideal S352x1024 .f32) = X10 m c := by
  unfold X10
  show StableHlo.after hostOps0 _ _ = _
  after_results <;> rfl
theorem blk10 (c : Dev nD) (t : Fin cfg0.N) (y : S88x1024.Idx) :
    ((iblk m c 10 t : FVec Ideal S88x1024 .f32) y : EReal) = X10 m c (ix2 (row_352x1024 t (y 0)) (y 1)) := by
  rw [← V10 m c]
  unfold iblk
  rw [View.read_apply]
  show V m c main_v18 _ = V m c main_v18 _
  congr 1
  funext a
  apply Fin.ext
  match a with
  | ⟨0, _⟩ => show win0_10.index t 0 * 88 + 1 * (y 0).val = t.val * 88 + (y 0).val; rw [(idx10 t).1]; omega
  | ⟨1, _⟩ => show win0_10.index t 1 * 1024 + 1 * (y 1).val = (y 1).val; rw [(idx10 t).2]; omega

abbrev a11 (c : Dev nD) : FVec Ideal S1x352x1024 .f32 := m ((c : Thread nD τ).loc main_arg11)
/-- The array the call takes as its operand 11. -/
def X11 (c : Dev nD) : FVec Ideal S352x1024 .f32 := shapeCast S352x1024 (a11 m c) shapeCasts_S1x352x1024_S352x1024
theorem V11 (c : Dev nD) : (V m c main_v19 : FVec Ideal S352x1024 .f32) = X11 m c := by
  unfold X11
  show StableHlo.after hostOps0 _ _ = _
  after_results <;> rfl
theorem blk11 (c : Dev nD) (t : Fin cfg0.N) (y : S88x1024.Idx) :
    ((iblk m c 11 t : FVec Ideal S88x1024 .f32) y : EReal) = X11 m c (ix2 (row_352x1024 t (y 0)) (y 1)) := by
  rw [← V11 m c]
  unfold iblk
  rw [View.read_apply]
  show V m c main_v19 _ = V m c main_v19 _
  congr 1
  funext a
  apply Fin.ext
  match a with
  | ⟨0, _⟩ => show win0_11.index t 0 * 88 + 1 * (y 0).val = t.val * 88 + (y 0).val; rw [(idx11 t).1]; omega
  | ⟨1, _⟩ => show win0_11.index t 1 * 1024 + 1 * (y 1).val = (y 1).val; rw [(idx11 t).2]; omega

abbrev a12 (c : Dev nD) : FVec Ideal S1x128x1024 .f32 := m ((c : Thread nD τ).loc main_arg12)
/-- The array the call takes as its operand 12. -/
def X12 (c : Dev nD) : FVec Ideal S128x1024 .f32 := shapeCast S128x1024 (a12 m c) shapeCasts_S1x128x1024_S128x1024
theorem V12 (c : Dev nD) : (V m c main_v20 : FVec Ideal S128x1024 .f32) = X12 m c := by
  unfold X12
  show StableHlo.after hostOps0 _ _ = _
  after_results <;> rfl
theorem blk12 (c : Dev nD) (t : Fin cfg0.N) (y : S32x1024.Idx) :
    ((iblk m c 12 t : FVec Ideal S32x1024 .f32) y : EReal) = X12 m c (ix2 (row_128x1024 t (y 0)) (y 1)) := by
  rw [← V12 m c]
  unfold iblk
  rw [View.read_apply]
  show V m c main_v20 _ = V m c main_v20 _
  congr 1
  funext a
  apply Fin.ext
  match a with
  | ⟨0, _⟩ => show win0_12.index t 0 * 32 + 1 * (y 0).val = t.val * 32 + (y 0).val; rw [(idx12 t).1]; omega
  | ⟨1, _⟩ => show win0_12.index t 1 * 1024 + 1 * (y 1).val = (y 1).val; rw [(idx12 t).2]; omega

abbrev a13 (c : Dev nD) : FVec Ideal S1x128x1024 .f32 := m ((c : Thread nD τ).loc main_arg13)
/-- The array the call takes as its operand 13. -/
def X13 (c : Dev nD) : FVec Ideal S128x1024 .f32 := shapeCast S128x1024 (a13 m c) shapeCasts_S1x128x1024_S128x1024
theorem V13 (c : Dev nD) : (V m c main_v21 : FVec Ideal S128x1024 .f32) = X13 m c := by
  unfold X13
  show StableHlo.after hostOps0 _ _ = _
  after_results <;> rfl
theorem blk13 (c : Dev nD) (t : Fin cfg0.N) (y : S32x1024.Idx) :
    ((iblk m c 13 t : FVec Ideal S32x1024 .f32) y : EReal) = X13 m c (ix2 (row_128x1024 t (y 0)) (y 1)) := by
  rw [← V13 m c]
  unfold iblk
  rw [View.read_apply]
  show V m c main_v21 _ = V m c main_v21 _
  congr 1
  funext a
  apply Fin.ext
  match a with
  | ⟨0, _⟩ => show win0_13.index t 0 * 32 + 1 * (y 0).val = t.val * 32 + (y 0).val; rw [(idx13 t).1]; omega
  | ⟨1, _⟩ => show win0_13.index t 1 * 1024 + 1 * (y 1).val = (y 1).val; rw [(idx13 t).2]; omega

abbrev a14 (c : Dev nD) : FVec Ideal S1x128x1024 .f32 := m ((c : Thread nD τ).loc main_arg14)
/-- The array the call takes as its operand 14. -/
def X14 (c : Dev nD) : FVec Ideal S128x1024 .f32 := shapeCast S128x1024 (a14 m c) shapeCasts_S1x128x1024_S128x1024
theorem V14 (c : Dev nD) : (V m c main_v22 : FVec Ideal S128x1024 .f32) = X14 m c := by
  unfold X14
  show StableHlo.after hostOps0 _ _ = _
  after_results <;> rfl
theorem blk14 (c : Dev nD) (t : Fin cfg0.N) (y : S32x1024.Idx) :
    ((iblk m c 14 t : FVec Ideal S32x1024 .f32) y : EReal) = X14 m c (ix2 (row_128x1024 t (y 0)) (y 1)) := by
  rw [← V14 m c]
  unfold iblk
  rw [View.read_apply]
  show V m c main_v22 _ = V m c main_v22 _
  congr 1
  funext a
  apply Fin.ext
  match a with
  | ⟨0, _⟩ => show win0_14.index t 0 * 32 + 1 * (y 0).val = t.val * 32 + (y 0).val; rw [(idx14 t).1]; omega
  | ⟨1, _⟩ => show win0_14.index t 1 * 1024 + 1 * (y 1).val = (y 1).val; rw [(idx14 t).2]; omega

abbrev a15 (c : Dev nD) : FVec Ideal S1x128x1024 .f32 := m ((c : Thread nD τ).loc main_arg15)
/-- The array the call takes as its operand 15. -/
def X15 (c : Dev nD) : FVec Ideal S128x1024 .f32 := shapeCast S128x1024 (a15 m c) shapeCasts_S1x128x1024_S128x1024
theorem V15 (c : Dev nD) : (V m c main_v23 : FVec Ideal S128x1024 .f32) = X15 m c := by
  unfold X15
  show StableHlo.after hostOps0 _ _ = _
  after_results <;> rfl
theorem blk15 (c : Dev nD) (t : Fin cfg0.N) (y : S32x1024.Idx) :
    ((iblk m c 15 t : FVec Ideal S32x1024 .f32) y : EReal) = X15 m c (ix2 (row_128x1024 t (y 0)) (y 1)) := by
  rw [← V15 m c]
  unfold iblk
  rw [View.read_apply]
  show V m c main_v23 _ = V m c main_v23 _
  congr 1
  funext a
  apply Fin.ext
  match a with
  | ⟨0, _⟩ => show win0_15.index t 0 * 32 + 1 * (y 0).val = t.val * 32 + (y 0).val; rw [(idx15 t).1]; omega
  | ⟨1, _⟩ => show win0_15.index t 1 * 1024 + 1 * (y 1).val = (y 1).val; rw [(idx15 t).2]; omega

/-- Result 0 of the call, entry by entry. -/
def res16 (c : Dev nD) : Vec Ideal S352x1024 .f32 := fun i => (delta (X0 m c i) (X1 m c i) (X2 m c i) (X3 m c i) : EReal)

theorem flushed16_eq (c : Dev nD) (t : Fin cfg0.N) (hf : (cfg0.win 16).flush t = true) :
    (dats m 0 c).flushed 16 t = ((cfg0.win 16).blk t).view.read (Elt Ideal) (res16 m c) := by
  rw [Run.flushed16, out_16]
  funext y
  rw [View.read_apply]
  have hi : ((cfg0.win 16).blk t).view.emb y = ((ix2 (row_352x1024 t (y 0)) (y 1)) : S352x1024.Idx) := by
    funext a
    apply Fin.ext
    match a with
    | ⟨0, _⟩ => show win0_16.index t 0 * 88 + 1 * (y 0).val = t.val * 88 + (y 0).val; rw [(idx16 t).1]; omega
    | ⟨1, _⟩ => show win0_16.index t 1 * 1024 + 1 * (y 1).val = (y 1).val; rw [(idx16 t).2]; omega
  have hy : (cfg0.win 16).xinj (grid0.coords t) y = (ix2 (y 0) (y 1) : S88x1024.Idx) := by
    funext a
    match a with
    | ⟨0, _⟩ => rfl
    | ⟨1, _⟩ => rfl
  refine Eq.trans ?_ (congrArg (res16 m c) hi.symm)
  refine Eq.trans (congrArg (fun j : S88x1024.Idx => (delta ((iblk m c 0 t : FVec Ideal S88x1024 .f32) j) ((iblk m c 1 t : FVec Ideal S88x1024 .f32) j) ((iblk m c 2 t : FVec Ideal S88x1024 .f32) j) ((iblk m c 3 t : FVec Ideal S88x1024 .f32) j) : EReal)) hy) ?_
  exact delta_congr (blk0 m c t (ix2 (y 0) (y 1) : S88x1024.Idx)) (blk1 m c t (ix2 (y 0) (y 1) : S88x1024.Idx)) (blk2 m c t (ix2 (y 0) (y 1) : S88x1024.Idx)) (blk3 m c t (ix2 (y 0) (y 1) : S88x1024.Idx))

theorem flush16 : ∀ t : Fin cfg0.N, (cfg0.win 16).flush t = true := (by decide +kernel : ∀ t : Fin grid0.N, (cfg0.win 16).flush t = true)

theorem final16 (c : Dev nD) : (dats m 0 c).arrAt 16 cfg0.N = (res16 m c : Vec Ideal S352x1024 .f32) :=
  (dats m 0 c).arrAt_eq_of_cover 16 _ (flushed16_eq m c) fun i => ⟨ptOf_352x1024 i, flush16 _, by
    show i ∈ ((View.whole main_v24_0).slice (win0_16.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_16.index (ptOf_352x1024 i) 0 * 88 ≤ (i 0 : Nat) ∧ (i 0 : Nat) < win0_16.index (ptOf_352x1024 i) 0 * 88 + 88
                rw [(idx16 (ptOf_352x1024 i)).1]; omega
    | ⟨1, _⟩ => show win0_16.index (ptOf_352x1024 i) 1 * 1024 ≤ (i 1 : Nat) ∧ (i 1 : Nat) < win0_16.index (ptOf_352x1024 i) 1 * 1024 + 1024
                rw [(idx16 (ptOf_352x1024 i)).2]; omega⟩

/-- Result 1 of the call, entry by entry. -/
def res17 (c : Dev nD) : Vec Ideal S352x1024 .f32 := fun i => (newM (X0 m c i) (X2 m c i) : EReal)

theorem flushed17_eq (c : Dev nD) (t : Fin cfg0.N) (hf : (cfg0.win 17).flush t = true) :
    (dats m 0 c).flushed 17 t = ((cfg0.win 17).blk t).view.read (Elt Ideal) (res17 m c) := by
  rw [Run.flushed17, out_17]
  funext y
  rw [View.read_apply]
  have hi : ((cfg0.win 17).blk t).view.emb y = ((ix2 (row_352x1024 t (y 0)) (y 1)) : S352x1024.Idx) := by
    funext a
    apply Fin.ext
    match a with
    | ⟨0, _⟩ => show win0_17.index t 0 * 88 + 1 * (y 0).val = t.val * 88 + (y 0).val; rw [(idx17 t).1]; omega
    | ⟨1, _⟩ => show win0_17.index t 1 * 1024 + 1 * (y 1).val = (y 1).val; rw [(idx17 t).2]; omega
  have hy : (cfg0.win 17).xinj (grid0.coords t) y = (ix2 (y 0) (y 1) : S88x1024.Idx) := by
    funext a
    match a with
    | ⟨0, _⟩ => rfl
    | ⟨1, _⟩ => rfl
  refine Eq.trans ?_ (congrArg (res17 m c) hi.symm)
  refine Eq.trans (congrArg (fun j : S88x1024.Idx => (newM ((iblk m c 0 t : FVec Ideal S88x1024 .f32) j) ((iblk m c 2 t : FVec Ideal S88x1024 .f32) j) : EReal)) hy) ?_
  exact newM_congr (blk0 m c t (ix2 (y 0) (y 1) : S88x1024.Idx)) (blk2 m c t (ix2 (y 0) (y 1) : S88x1024.Idx))

theorem flush17 : ∀ t : Fin cfg0.N, (cfg0.win 17).flush t = true := (by decide +kernel : ∀ t : Fin grid0.N, (cfg0.win 17).flush t = true)

theorem final17 (c : Dev nD) : (dats m 0 c).arrAt 17 cfg0.N = (res17 m c : Vec Ideal S352x1024 .f32) :=
  (dats m 0 c).arrAt_eq_of_cover 17 _ (flushed17_eq m c) fun i => ⟨ptOf_352x1024 i, flush17 _, by
    show i ∈ ((View.whole main_v24_1).slice (win0_17.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_17.index (ptOf_352x1024 i) 0 * 88 ≤ (i 0 : Nat) ∧ (i 0 : Nat) < win0_17.index (ptOf_352x1024 i) 0 * 88 + 88
                rw [(idx17 (ptOf_352x1024 i)).1]; omega
    | ⟨1, _⟩ => show win0_17.index (ptOf_352x1024 i) 1 * 1024 ≤ (i 1 : Nat) ∧ (i 1 : Nat) < win0_17.index (ptOf_352x1024 i) 1 * 1024 + 1024
                rw [(idx17 (ptOf_352x1024 i)).2]; omega⟩

/-- Result 2 of the call, entry by entry. -/
def res18 (c : Dev nD) : Vec Ideal S352x1024 .f32 := fun i => (newV (X0 m c i) (X3 m c i) : EReal)

theorem flushed18_eq (c : Dev nD) (t : Fin cfg0.N) (hf : (cfg0.win 18).flush t = true) :
    (dats m 0 c).flushed 18 t = ((cfg0.win 18).blk t).view.read (Elt Ideal) (res18 m c) := by
  rw [Run.flushed18, out_18]
  funext y
  rw [View.read_apply]
  have hi : ((cfg0.win 18).blk t).view.emb y = ((ix2 (row_352x1024 t (y 0)) (y 1)) : S352x1024.Idx) := by
    funext a
    apply Fin.ext
    match a with
    | ⟨0, _⟩ => show win0_18.index t 0 * 88 + 1 * (y 0).val = t.val * 88 + (y 0).val; rw [(idx18 t).1]; omega
    | ⟨1, _⟩ => show win0_18.index t 1 * 1024 + 1 * (y 1).val = (y 1).val; rw [(idx18 t).2]; omega
  have hy : (cfg0.win 18).xinj (grid0.coords t) y = (ix2 (y 0) (y 1) : S88x1024.Idx) := by
    funext a
    match a with
    | ⟨0, _⟩ => rfl
    | ⟨1, _⟩ => rfl
  refine Eq.trans ?_ (congrArg (res18 m c) hi.symm)
  refine Eq.trans (congrArg (fun j : S88x1024.Idx => (newV ((iblk m c 0 t : FVec Ideal S88x1024 .f32) j) ((iblk m c 3 t : FVec Ideal S88x1024 .f32) j) : EReal)) hy) ?_
  exact newV_congr (blk0 m c t (ix2 (y 0) (y 1) : S88x1024.Idx)) (blk3 m c t (ix2 (y 0) (y 1) : S88x1024.Idx))

theorem flush18 : ∀ t : Fin cfg0.N, (cfg0.win 18).flush t = true := (by decide +kernel : ∀ t : Fin grid0.N, (cfg0.win 18).flush t = true)

theorem final18 (c : Dev nD) : (dats m 0 c).arrAt 18 cfg0.N = (res18 m c : Vec Ideal S352x1024 .f32) :=
  (dats m 0 c).arrAt_eq_of_cover 18 _ (flushed18_eq m c) fun i => ⟨ptOf_352x1024 i, flush18 _, by
    show i ∈ ((View.whole main_v24_2).slice (win0_18.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_18.index (ptOf_352x1024 i) 0 * 88 ≤ (i 0 : Nat) ∧ (i 0 : Nat) < win0_18.index (ptOf_352x1024 i) 0 * 88 + 88
                rw [(idx18 (ptOf_352x1024 i)).1]; omega
    | ⟨1, _⟩ => show win0_18.index (ptOf_352x1024 i) 1 * 1024 ≤ (i 1 : Nat) ∧ (i 1 : Nat) < win0_18.index (ptOf_352x1024 i) 1 * 1024 + 1024
                rw [(idx18 (ptOf_352x1024 i)).2]; omega⟩

/-- Result 3 of the call, entry by entry. -/
def res19 (c : Dev nD) : Vec Ideal S352x1024 .f32 := fun i => (delta (X4 m c i) (X5 m c i) (X6 m c i) (X7 m c i) : EReal)

theorem flushed19_eq (c : Dev nD) (t : Fin cfg0.N) (hf : (cfg0.win 19).flush t = true) :
    (dats m 0 c).flushed 19 t = ((cfg0.win 19).blk t).view.read (Elt Ideal) (res19 m c) := by
  rw [Run.flushed19, out_19]
  funext y
  rw [View.read_apply]
  have hi : ((cfg0.win 19).blk t).view.emb y = ((ix2 (row_352x1024 t (y 0)) (y 1)) : S352x1024.Idx) := by
    funext a
    apply Fin.ext
    match a with
    | ⟨0, _⟩ => show win0_19.index t 0 * 88 + 1 * (y 0).val = t.val * 88 + (y 0).val; rw [(idx19 t).1]; omega
    | ⟨1, _⟩ => show win0_19.index t 1 * 1024 + 1 * (y 1).val = (y 1).val; rw [(idx19 t).2]; omega
  have hy : (cfg0.win 19).xinj (grid0.coords t) y = (ix2 (y 0) (y 1) : S88x1024.Idx) := by
    funext a
    match a with
    | ⟨0, _⟩ => rfl
    | ⟨1, _⟩ => rfl
  refine Eq.trans ?_ (congrArg (res19 m c) hi.symm)
  refine Eq.trans (congrArg (fun j : S88x1024.Idx => (delta ((iblk m c 4 t : FVec Ideal S88x1024 .f32) j) ((iblk m c 5 t : FVec Ideal S88x1024 .f32) j) ((iblk m c 6 t : FVec Ideal S88x1024 .f32) j) ((iblk m c 7 t : FVec Ideal S88x1024 .f32) j) : EReal)) hy) ?_
  exact delta_congr (blk4 m c t (ix2 (y 0) (y 1) : S88x1024.Idx)) (blk5 m c t (ix2 (y 0) (y 1) : S88x1024.Idx)) (blk6 m c t (ix2 (y 0) (y 1) : S88x1024.Idx)) (blk7 m c t (ix2 (y 0) (y 1) : S88x1024.Idx))

theorem flush19 : ∀ t : Fin cfg0.N, (cfg0.win 19).flush t = true := (by decide +kernel : ∀ t : Fin grid0.N, (cfg0.win 19).flush t = true)

theorem final19 (c : Dev nD) : (dats m 0 c).arrAt 19 cfg0.N = (res19 m c : Vec Ideal S352x1024 .f32) :=
  (dats m 0 c).arrAt_eq_of_cover 19 _ (flushed19_eq m c) fun i => ⟨ptOf_352x1024 i, flush19 _, by
    show i ∈ ((View.whole main_v24_3).slice (win0_19.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_19.index (ptOf_352x1024 i) 0 * 88 ≤ (i 0 : Nat) ∧ (i 0 : Nat) < win0_19.index (ptOf_352x1024 i) 0 * 88 + 88
                rw [(idx19 (ptOf_352x1024 i)).1]; omega
    | ⟨1, _⟩ => show win0_19.index (ptOf_352x1024 i) 1 * 1024 ≤ (i 1 : Nat) ∧ (i 1 : Nat) < win0_19.index (ptOf_352x1024 i) 1 * 1024 + 1024
                rw [(idx19 (ptOf_352x1024 i)).2]; omega⟩

/-- Result 4 of the call, entry by entry. -/
def res20 (c : Dev nD) : Vec Ideal S352x1024 .f32 := fun i => (newM (X4 m c i) (X6 m c i) : EReal)

theorem flushed20_eq (c : Dev nD) (t : Fin cfg0.N) (hf : (cfg0.win 20).flush t = true) :
    (dats m 0 c).flushed 20 t = ((cfg0.win 20).blk t).view.read (Elt Ideal) (res20 m c) := by
  rw [Run.flushed20, out_20]
  funext y
  rw [View.read_apply]
  have hi : ((cfg0.win 20).blk t).view.emb y = ((ix2 (row_352x1024 t (y 0)) (y 1)) : S352x1024.Idx) := by
    funext a
    apply Fin.ext
    match a with
    | ⟨0, _⟩ => show win0_20.index t 0 * 88 + 1 * (y 0).val = t.val * 88 + (y 0).val; rw [(idx20 t).1]; omega
    | ⟨1, _⟩ => show win0_20.index t 1 * 1024 + 1 * (y 1).val = (y 1).val; rw [(idx20 t).2]; omega
  have hy : (cfg0.win 20).xinj (grid0.coords t) y = (ix2 (y 0) (y 1) : S88x1024.Idx) := by
    funext a
    match a with
    | ⟨0, _⟩ => rfl
    | ⟨1, _⟩ => rfl
  refine Eq.trans ?_ (congrArg (res20 m c) hi.symm)
  refine Eq.trans (congrArg (fun j : S88x1024.Idx => (newM ((iblk m c 4 t : FVec Ideal S88x1024 .f32) j) ((iblk m c 6 t : FVec Ideal S88x1024 .f32) j) : EReal)) hy) ?_
  exact newM_congr (blk4 m c t (ix2 (y 0) (y 1) : S88x1024.Idx)) (blk6 m c t (ix2 (y 0) (y 1) : S88x1024.Idx))

theorem flush20 : ∀ t : Fin cfg0.N, (cfg0.win 20).flush t = true := (by decide +kernel : ∀ t : Fin grid0.N, (cfg0.win 20).flush t = true)

theorem final20 (c : Dev nD) : (dats m 0 c).arrAt 20 cfg0.N = (res20 m c : Vec Ideal S352x1024 .f32) :=
  (dats m 0 c).arrAt_eq_of_cover 20 _ (flushed20_eq m c) fun i => ⟨ptOf_352x1024 i, flush20 _, by
    show i ∈ ((View.whole main_v24_4).slice (win0_20.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_20.index (ptOf_352x1024 i) 0 * 88 ≤ (i 0 : Nat) ∧ (i 0 : Nat) < win0_20.index (ptOf_352x1024 i) 0 * 88 + 88
                rw [(idx20 (ptOf_352x1024 i)).1]; omega
    | ⟨1, _⟩ => show win0_20.index (ptOf_352x1024 i) 1 * 1024 ≤ (i 1 : Nat) ∧ (i 1 : Nat) < win0_20.index (ptOf_352x1024 i) 1 * 1024 + 1024
                rw [(idx20 (ptOf_352x1024 i)).2]; omega⟩

/-- Result 5 of the call, entry by entry. -/
def res21 (c : Dev nD) : Vec Ideal S352x1024 .f32 := fun i => (newV (X4 m c i) (X7 m c i) : EReal)

theorem flushed21_eq (c : Dev nD) (t : Fin cfg0.N) (hf : (cfg0.win 21).flush t = true) :
    (dats m 0 c).flushed 21 t = ((cfg0.win 21).blk t).view.read (Elt Ideal) (res21 m c) := by
  rw [Run.flushed21, out_21]
  funext y
  rw [View.read_apply]
  have hi : ((cfg0.win 21).blk t).view.emb y = ((ix2 (row_352x1024 t (y 0)) (y 1)) : S352x1024.Idx) := by
    funext a
    apply Fin.ext
    match a with
    | ⟨0, _⟩ => show win0_21.index t 0 * 88 + 1 * (y 0).val = t.val * 88 + (y 0).val; rw [(idx21 t).1]; omega
    | ⟨1, _⟩ => show win0_21.index t 1 * 1024 + 1 * (y 1).val = (y 1).val; rw [(idx21 t).2]; omega
  have hy : (cfg0.win 21).xinj (grid0.coords t) y = (ix2 (y 0) (y 1) : S88x1024.Idx) := by
    funext a
    match a with
    | ⟨0, _⟩ => rfl
    | ⟨1, _⟩ => rfl
  refine Eq.trans ?_ (congrArg (res21 m c) hi.symm)
  refine Eq.trans (congrArg (fun j : S88x1024.Idx => (newV ((iblk m c 4 t : FVec Ideal S88x1024 .f32) j) ((iblk m c 7 t : FVec Ideal S88x1024 .f32) j) : EReal)) hy) ?_
  exact newV_congr (blk4 m c t (ix2 (y 0) (y 1) : S88x1024.Idx)) (blk7 m c t (ix2 (y 0) (y 1) : S88x1024.Idx))

theorem flush21 : ∀ t : Fin cfg0.N, (cfg0.win 21).flush t = true := (by decide +kernel : ∀ t : Fin grid0.N, (cfg0.win 21).flush t = true)

theorem final21 (c : Dev nD) : (dats m 0 c).arrAt 21 cfg0.N = (res21 m c : Vec Ideal S352x1024 .f32) :=
  (dats m 0 c).arrAt_eq_of_cover 21 _ (flushed21_eq m c) fun i => ⟨ptOf_352x1024 i, flush21 _, by
    show i ∈ ((View.whole main_v24_5).slice (win0_21.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_21.index (ptOf_352x1024 i) 0 * 88 ≤ (i 0 : Nat) ∧ (i 0 : Nat) < win0_21.index (ptOf_352x1024 i) 0 * 88 + 88
                rw [(idx21 (ptOf_352x1024 i)).1]; omega
    | ⟨1, _⟩ => show win0_21.index (ptOf_352x1024 i) 1 * 1024 ≤ (i 1 : Nat) ∧ (i 1 : Nat) < win0_21.index (ptOf_352x1024 i) 1 * 1024 + 1024
                rw [(idx21 (ptOf_352x1024 i)).2]; omega⟩

/-- Result 6 of the call, entry by entry. -/
def res22 (c : Dev nD) : Vec Ideal S352x1024 .f32 := fun i => (delta (X8 m c i) (X9 m c i) (X10 m c i) (X11 m c i) : EReal)

theorem flushed22_eq (c : Dev nD) (t : Fin cfg0.N) (hf : (cfg0.win 22).flush t = true) :
    (dats m 0 c).flushed 22 t = ((cfg0.win 22).blk t).view.read (Elt Ideal) (res22 m c) := by
  rw [Run.flushed22, out_22]
  funext y
  rw [View.read_apply]
  have hi : ((cfg0.win 22).blk t).view.emb y = ((ix2 (row_352x1024 t (y 0)) (y 1)) : S352x1024.Idx) := by
    funext a
    apply Fin.ext
    match a with
    | ⟨0, _⟩ => show win0_22.index t 0 * 88 + 1 * (y 0).val = t.val * 88 + (y 0).val; rw [(idx22 t).1]; omega
    | ⟨1, _⟩ => show win0_22.index t 1 * 1024 + 1 * (y 1).val = (y 1).val; rw [(idx22 t).2]; omega
  have hy : (cfg0.win 22).xinj (grid0.coords t) y = (ix2 (y 0) (y 1) : S88x1024.Idx) := by
    funext a
    match a with
    | ⟨0, _⟩ => rfl
    | ⟨1, _⟩ => rfl
  refine Eq.trans ?_ (congrArg (res22 m c) hi.symm)
  refine Eq.trans (congrArg (fun j : S88x1024.Idx => (delta ((iblk m c 8 t : FVec Ideal S88x1024 .f32) j) ((iblk m c 9 t : FVec Ideal S88x1024 .f32) j) ((iblk m c 10 t : FVec Ideal S88x1024 .f32) j) ((iblk m c 11 t : FVec Ideal S88x1024 .f32) j) : EReal)) hy) ?_
  exact delta_congr (blk8 m c t (ix2 (y 0) (y 1) : S88x1024.Idx)) (blk9 m c t (ix2 (y 0) (y 1) : S88x1024.Idx)) (blk10 m c t (ix2 (y 0) (y 1) : S88x1024.Idx)) (blk11 m c t (ix2 (y 0) (y 1) : S88x1024.Idx))

theorem flush22 : ∀ t : Fin cfg0.N, (cfg0.win 22).flush t = true := (by decide +kernel : ∀ t : Fin grid0.N, (cfg0.win 22).flush t = true)

theorem final22 (c : Dev nD) : (dats m 0 c).arrAt 22 cfg0.N = (res22 m c : Vec Ideal S352x1024 .f32) :=
  (dats m 0 c).arrAt_eq_of_cover 22 _ (flushed22_eq m c) fun i => ⟨ptOf_352x1024 i, flush22 _, by
    show i ∈ ((View.whole main_v24_6).slice (win0_22.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_22.index (ptOf_352x1024 i) 0 * 88 ≤ (i 0 : Nat) ∧ (i 0 : Nat) < win0_22.index (ptOf_352x1024 i) 0 * 88 + 88
                rw [(idx22 (ptOf_352x1024 i)).1]; omega
    | ⟨1, _⟩ => show win0_22.index (ptOf_352x1024 i) 1 * 1024 ≤ (i 1 : Nat) ∧ (i 1 : Nat) < win0_22.index (ptOf_352x1024 i) 1 * 1024 + 1024
                rw [(idx22 (ptOf_352x1024 i)).2]; omega⟩

/-- Result 7 of the call, entry by entry. -/
def res23 (c : Dev nD) : Vec Ideal S352x1024 .f32 := fun i => (newM (X8 m c i) (X10 m c i) : EReal)

theorem flushed23_eq (c : Dev nD) (t : Fin cfg0.N) (hf : (cfg0.win 23).flush t = true) :
    (dats m 0 c).flushed 23 t = ((cfg0.win 23).blk t).view.read (Elt Ideal) (res23 m c) := by
  rw [Run.flushed23, out_23]
  funext y
  rw [View.read_apply]
  have hi : ((cfg0.win 23).blk t).view.emb y = ((ix2 (row_352x1024 t (y 0)) (y 1)) : S352x1024.Idx) := by
    funext a
    apply Fin.ext
    match a with
    | ⟨0, _⟩ => show win0_23.index t 0 * 88 + 1 * (y 0).val = t.val * 88 + (y 0).val; rw [(idx23 t).1]; omega
    | ⟨1, _⟩ => show win0_23.index t 1 * 1024 + 1 * (y 1).val = (y 1).val; rw [(idx23 t).2]; omega
  have hy : (cfg0.win 23).xinj (grid0.coords t) y = (ix2 (y 0) (y 1) : S88x1024.Idx) := by
    funext a
    match a with
    | ⟨0, _⟩ => rfl
    | ⟨1, _⟩ => rfl
  refine Eq.trans ?_ (congrArg (res23 m c) hi.symm)
  refine Eq.trans (congrArg (fun j : S88x1024.Idx => (newM ((iblk m c 8 t : FVec Ideal S88x1024 .f32) j) ((iblk m c 10 t : FVec Ideal S88x1024 .f32) j) : EReal)) hy) ?_
  exact newM_congr (blk8 m c t (ix2 (y 0) (y 1) : S88x1024.Idx)) (blk10 m c t (ix2 (y 0) (y 1) : S88x1024.Idx))

theorem flush23 : ∀ t : Fin cfg0.N, (cfg0.win 23).flush t = true := (by decide +kernel : ∀ t : Fin grid0.N, (cfg0.win 23).flush t = true)

theorem final23 (c : Dev nD) : (dats m 0 c).arrAt 23 cfg0.N = (res23 m c : Vec Ideal S352x1024 .f32) :=
  (dats m 0 c).arrAt_eq_of_cover 23 _ (flushed23_eq m c) fun i => ⟨ptOf_352x1024 i, flush23 _, by
    show i ∈ ((View.whole main_v24_7).slice (win0_23.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_23.index (ptOf_352x1024 i) 0 * 88 ≤ (i 0 : Nat) ∧ (i 0 : Nat) < win0_23.index (ptOf_352x1024 i) 0 * 88 + 88
                rw [(idx23 (ptOf_352x1024 i)).1]; omega
    | ⟨1, _⟩ => show win0_23.index (ptOf_352x1024 i) 1 * 1024 ≤ (i 1 : Nat) ∧ (i 1 : Nat) < win0_23.index (ptOf_352x1024 i) 1 * 1024 + 1024
                rw [(idx23 (ptOf_352x1024 i)).2]; omega⟩

/-- Result 8 of the call, entry by entry. -/
def res24 (c : Dev nD) : Vec Ideal S352x1024 .f32 := fun i => (newV (X8 m c i) (X11 m c i) : EReal)

theorem flushed24_eq (c : Dev nD) (t : Fin cfg0.N) (hf : (cfg0.win 24).flush t = true) :
    (dats m 0 c).flushed 24 t = ((cfg0.win 24).blk t).view.read (Elt Ideal) (res24 m c) := by
  rw [Run.flushed24, out_24]
  funext y
  rw [View.read_apply]
  have hi : ((cfg0.win 24).blk t).view.emb y = ((ix2 (row_352x1024 t (y 0)) (y 1)) : S352x1024.Idx) := by
    funext a
    apply Fin.ext
    match a with
    | ⟨0, _⟩ => show win0_24.index t 0 * 88 + 1 * (y 0).val = t.val * 88 + (y 0).val; rw [(idx24 t).1]; omega
    | ⟨1, _⟩ => show win0_24.index t 1 * 1024 + 1 * (y 1).val = (y 1).val; rw [(idx24 t).2]; omega
  have hy : (cfg0.win 24).xinj (grid0.coords t) y = (ix2 (y 0) (y 1) : S88x1024.Idx) := by
    funext a
    match a with
    | ⟨0, _⟩ => rfl
    | ⟨1, _⟩ => rfl
  refine Eq.trans ?_ (congrArg (res24 m c) hi.symm)
  refine Eq.trans (congrArg (fun j : S88x1024.Idx => (newV ((iblk m c 8 t : FVec Ideal S88x1024 .f32) j) ((iblk m c 11 t : FVec Ideal S88x1024 .f32) j) : EReal)) hy) ?_
  exact newV_congr (blk8 m c t (ix2 (y 0) (y 1) : S88x1024.Idx)) (blk11 m c t (ix2 (y 0) (y 1) : S88x1024.Idx))

theorem flush24 : ∀ t : Fin cfg0.N, (cfg0.win 24).flush t = true := (by decide +kernel : ∀ t : Fin grid0.N, (cfg0.win 24).flush t = true)

theorem final24 (c : Dev nD) : (dats m 0 c).arrAt 24 cfg0.N = (res24 m c : Vec Ideal S352x1024 .f32) :=
  (dats m 0 c).arrAt_eq_of_cover 24 _ (flushed24_eq m c) fun i => ⟨ptOf_352x1024 i, flush24 _, by
    show i ∈ ((View.whole main_v24_8).slice (win0_24.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_24.index (ptOf_352x1024 i) 0 * 88 ≤ (i 0 : Nat) ∧ (i 0 : Nat) < win0_24.index (ptOf_352x1024 i) 0 * 88 + 88
                rw [(idx24 (ptOf_352x1024 i)).1]; omega
    | ⟨1, _⟩ => show win0_24.index (ptOf_352x1024 i) 1 * 1024 ≤ (i 1 : Nat) ∧ (i 1 : Nat) < win0_24.index (ptOf_352x1024 i) 1 * 1024 + 1024
                rw [(idx24 (ptOf_352x1024 i)).2]; omega⟩

/-- Result 9 of the call, entry by entry. -/
def res25 (c : Dev nD) : Vec Ideal S128x1024 .f32 := fun i => (delta (X12 m c i) (X13 m c i) (X14 m c i) (X15 m c i) : EReal)

theorem flushed25_eq (c : Dev nD) (t : Fin cfg0.N) (hf : (cfg0.win 25).flush t = true) :
    (dats m 0 c).flushed 25 t = ((cfg0.win 25).blk t).view.read (Elt Ideal) (res25 m c) := by
  rw [Run.flushed25, out_25]
  funext y
  rw [View.read_apply]
  have hi : ((cfg0.win 25).blk t).view.emb y = ((ix2 (row_128x1024 t (y 0)) (y 1)) : S128x1024.Idx) := by
    funext a
    apply Fin.ext
    match a with
    | ⟨0, _⟩ => show win0_25.index t 0 * 32 + 1 * (y 0).val = t.val * 32 + (y 0).val; rw [(idx25 t).1]; omega
    | ⟨1, _⟩ => show win0_25.index t 1 * 1024 + 1 * (y 1).val = (y 1).val; rw [(idx25 t).2]; omega
  have hy : (cfg0.win 25).xinj (grid0.coords t) y = (ix2 (y 0) (y 1) : S32x1024.Idx) := by
    funext a
    match a with
    | ⟨0, _⟩ => rfl
    | ⟨1, _⟩ => rfl
  refine Eq.trans ?_ (congrArg (res25 m c) hi.symm)
  refine Eq.trans (congrArg (fun j : S32x1024.Idx => (delta ((iblk m c 12 t : FVec Ideal S32x1024 .f32) j) ((iblk m c 13 t : FVec Ideal S32x1024 .f32) j) ((iblk m c 14 t : FVec Ideal S32x1024 .f32) j) ((iblk m c 15 t : FVec Ideal S32x1024 .f32) j) : EReal)) hy) ?_
  exact delta_congr (blk12 m c t (ix2 (y 0) (y 1) : S32x1024.Idx)) (blk13 m c t (ix2 (y 0) (y 1) : S32x1024.Idx)) (blk14 m c t (ix2 (y 0) (y 1) : S32x1024.Idx)) (blk15 m c t (ix2 (y 0) (y 1) : S32x1024.Idx))

theorem flush25 : ∀ t : Fin cfg0.N, (cfg0.win 25).flush t = true := (by decide +kernel : ∀ t : Fin grid0.N, (cfg0.win 25).flush t = true)

theorem final25 (c : Dev nD) : (dats m 0 c).arrAt 25 cfg0.N = (res25 m c : Vec Ideal S128x1024 .f32) :=
  (dats m 0 c).arrAt_eq_of_cover 25 _ (flushed25_eq m c) fun i => ⟨ptOf_128x1024 i, flush25 _, by
    show i ∈ ((View.whole main_v24_9).slice (win0_25.rect (ptOf_128x1024 i))).set
    rw [View.set_slice_whole, Rect.mem_set_unit]
    intro a
    have h0 : (i 0 : Nat) < 128 := (i 0).isLt
    have h1 : (i 1 : Nat) < 1024 := (i 1).isLt
    have hp : (ptOf_128x1024 i).val = (i 0 : Nat) / 32 := rfl
    match a with
    | ⟨0, _⟩ => show win0_25.index (ptOf_128x1024 i) 0 * 32 ≤ (i 0 : Nat) ∧ (i 0 : Nat) < win0_25.index (ptOf_128x1024 i) 0 * 32 + 32
                rw [(idx25 (ptOf_128x1024 i)).1]; omega
    | ⟨1, _⟩ => show win0_25.index (ptOf_128x1024 i) 1 * 1024 ≤ (i 1 : Nat) ∧ (i 1 : Nat) < win0_25.index (ptOf_128x1024 i) 1 * 1024 + 1024
                rw [(idx25 (ptOf_128x1024 i)).2]; omega⟩

/-- Result 10 of the call, entry by entry. -/
def res26 (c : Dev nD) : Vec Ideal S128x1024 .f32 := fun i => (newM (X12 m c i) (X14 m c i) : EReal)

theorem flushed26_eq (c : Dev nD) (t : Fin cfg0.N) (hf : (cfg0.win 26).flush t = true) :
    (dats m 0 c).flushed 26 t = ((cfg0.win 26).blk t).view.read (Elt Ideal) (res26 m c) := by
  rw [Run.flushed26, out_26]
  funext y
  rw [View.read_apply]
  have hi : ((cfg0.win 26).blk t).view.emb y = ((ix2 (row_128x1024 t (y 0)) (y 1)) : S128x1024.Idx) := by
    funext a
    apply Fin.ext
    match a with
    | ⟨0, _⟩ => show win0_26.index t 0 * 32 + 1 * (y 0).val = t.val * 32 + (y 0).val; rw [(idx26 t).1]; omega
    | ⟨1, _⟩ => show win0_26.index t 1 * 1024 + 1 * (y 1).val = (y 1).val; rw [(idx26 t).2]; omega
  have hy : (cfg0.win 26).xinj (grid0.coords t) y = (ix2 (y 0) (y 1) : S32x1024.Idx) := by
    funext a
    match a with
    | ⟨0, _⟩ => rfl
    | ⟨1, _⟩ => rfl
  refine Eq.trans ?_ (congrArg (res26 m c) hi.symm)
  refine Eq.trans (congrArg (fun j : S32x1024.Idx => (newM ((iblk m c 12 t : FVec Ideal S32x1024 .f32) j) ((iblk m c 14 t : FVec Ideal S32x1024 .f32) j) : EReal)) hy) ?_
  exact newM_congr (blk12 m c t (ix2 (y 0) (y 1) : S32x1024.Idx)) (blk14 m c t (ix2 (y 0) (y 1) : S32x1024.Idx))

theorem flush26 : ∀ t : Fin cfg0.N, (cfg0.win 26).flush t = true := (by decide +kernel : ∀ t : Fin grid0.N, (cfg0.win 26).flush t = true)

theorem final26 (c : Dev nD) : (dats m 0 c).arrAt 26 cfg0.N = (res26 m c : Vec Ideal S128x1024 .f32) :=
  (dats m 0 c).arrAt_eq_of_cover 26 _ (flushed26_eq m c) fun i => ⟨ptOf_128x1024 i, flush26 _, by
    show i ∈ ((View.whole main_v24_10).slice (win0_26.rect (ptOf_128x1024 i))).set
    rw [View.set_slice_whole, Rect.mem_set_unit]
    intro a
    have h0 : (i 0 : Nat) < 128 := (i 0).isLt
    have h1 : (i 1 : Nat) < 1024 := (i 1).isLt
    have hp : (ptOf_128x1024 i).val = (i 0 : Nat) / 32 := rfl
    match a with
    | ⟨0, _⟩ => show win0_26.index (ptOf_128x1024 i) 0 * 32 ≤ (i 0 : Nat) ∧ (i 0 : Nat) < win0_26.index (ptOf_128x1024 i) 0 * 32 + 32
                rw [(idx26 (ptOf_128x1024 i)).1]; omega
    | ⟨1, _⟩ => show win0_26.index (ptOf_128x1024 i) 1 * 1024 ≤ (i 1 : Nat) ∧ (i 1 : Nat) < win0_26.index (ptOf_128x1024 i) 1 * 1024 + 1024
                rw [(idx26 (ptOf_128x1024 i)).2]; omega⟩

/-- Result 11 of the call, entry by entry. -/
def res27 (c : Dev nD) : Vec Ideal S128x1024 .f32 := fun i => (newV (X12 m c i) (X15 m c i) : EReal)

theorem flushed27_eq (c : Dev nD) (t : Fin cfg0.N) (hf : (cfg0.win 27).flush t = true) :
    (dats m 0 c).flushed 27 t = ((cfg0.win 27).blk t).view.read (Elt Ideal) (res27 m c) := by
  rw [Run.flushed27, out_27]
  funext y
  rw [View.read_apply]
  have hi : ((cfg0.win 27).blk t).view.emb y = ((ix2 (row_128x1024 t (y 0)) (y 1)) : S128x1024.Idx) := by
    funext a
    apply Fin.ext
    match a with
    | ⟨0, _⟩ => show win0_27.index t 0 * 32 + 1 * (y 0).val = t.val * 32 + (y 0).val; rw [(idx27 t).1]; omega
    | ⟨1, _⟩ => show win0_27.index t 1 * 1024 + 1 * (y 1).val = (y 1).val; rw [(idx27 t).2]; omega
  have hy : (cfg0.win 27).xinj (grid0.coords t) y = (ix2 (y 0) (y 1) : S32x1024.Idx) := by
    funext a
    match a with
    | ⟨0, _⟩ => rfl
    | ⟨1, _⟩ => rfl
  refine Eq.trans ?_ (congrArg (res27 m c) hi.symm)
  refine Eq.trans (congrArg (fun j : S32x1024.Idx => (newV ((iblk m c 12 t : FVec Ideal S32x1024 .f32) j) ((iblk m c 15 t : FVec Ideal S32x1024 .f32) j) : EReal)) hy) ?_
  exact newV_congr (blk12 m c t (ix2 (y 0) (y 1) : S32x1024.Idx)) (blk15 m c t (ix2 (y 0) (y 1) : S32x1024.Idx))

theorem flush27 : ∀ t : Fin cfg0.N, (cfg0.win 27).flush t = true := (by decide +kernel : ∀ t : Fin grid0.N, (cfg0.win 27).flush t = true)

theorem final27 (c : Dev nD) : (dats m 0 c).arrAt 27 cfg0.N = (res27 m c : Vec Ideal S128x1024 .f32) :=
  (dats m 0 c).arrAt_eq_of_cover 27 _ (flushed27_eq m c) fun i => ⟨ptOf_128x1024 i, flush27 _, by
    show i ∈ ((View.whole main_v24_11).slice (win0_27.rect (ptOf_128x1024 i))).set
    rw [View.set_slice_whole, Rect.mem_set_unit]
    intro a
    have h0 : (i 0 : Nat) < 128 := (i 0).isLt
    have h1 : (i 1 : Nat) < 1024 := (i 1).isLt
    have hp : (ptOf_128x1024 i).val = (i 0 : Nat) / 32 := rfl
    match a with
    | ⟨0, _⟩ => show win0_27.index (ptOf_128x1024 i) 0 * 32 ≤ (i 0 : Nat) ∧ (i 0 : Nat) < win0_27.index (ptOf_128x1024 i) 0 * 32 + 32
                rw [(idx27 (ptOf_128x1024 i)).1]; omega
    | ⟨1, _⟩ => show win0_27.index (ptOf_128x1024 i) 1 * 1024 ≤ (i 1 : Nat) ∧ (i 1 : Nat) < win0_27.index (ptOf_128x1024 i) 1 * 1024 + 1024
                rw [(idx27 (ptOf_128x1024 i)).2]; omega⟩

end Cert.AdamAIdeal.Hand

namespace Cert.Claims

open Idealize.ShloMosaic Idealize.ShloMosaic.TcCoe Idealize.SL.Sem Cert.Step

theorem adam_a_16 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v97 (F := Ideal) (Cert.AdamAIdeal.Hand.a0 m c) (Cert.AdamAIdeal.Hand.a1 m c) (Cert.AdamAIdeal.Hand.a2 m c) (Cert.AdamAIdeal.Hand.a3 m c) i = Cert.AdamAIdeal.Hand.res16 m c i := by
  unfold Cert.AdamAIdeal.Hand.res16 Cert.AdamAIdeal.Hand.X0 Cert.AdamAIdeal.Hand.X1 Cert.AdamAIdeal.Hand.X2 Cert.AdamAIdeal.Hand.X3 delta newM newV
  unfold Cert.AdamARefIdeal.Read.val_main_v97 Cert.AdamARefIdeal.Read.val_main_v96 Cert.AdamARefIdeal.Read.val_main_v23 Cert.AdamARefIdeal.Read.val_main_v22 Cert.AdamARefIdeal.Read.val_main_cst_7 Cert.AdamARefIdeal.Read.val_main_v21 Cert.AdamARefIdeal.Read.val_main_v18 Cert.AdamARefIdeal.Read.val_main_v12 Cert.AdamARefIdeal.Read.val_main_v4 Cert.AdamARefIdeal.Read.val_main_v1 Cert.AdamARefIdeal.Read.val_main_v0 Cert.AdamARefIdeal.Read.val_main_cst Cert.AdamARefIdeal.Read.val_main_v3 Cert.AdamARefIdeal.Read.val_main_v2 Cert.AdamARefIdeal.Read.val_main_cst_0 Cert.AdamARefIdeal.Read.val_main_v11 Cert.AdamARefIdeal.Read.val_main_cst_3 Cert.AdamARefIdeal.Read.val_main_v17 Cert.AdamARefIdeal.Read.val_main_v15 Cert.AdamARefIdeal.Read.val_main_v14 Cert.AdamARefIdeal.Read.val_main_v10 Cert.AdamARefIdeal.Read.val_main_v6 Cert.AdamARefIdeal.Read.val_main_v5 Cert.AdamARefIdeal.Read.val_main_cst_1 Cert.AdamARefIdeal.Read.val_main_v9 Cert.AdamARefIdeal.Read.val_main_v8 Cert.AdamARefIdeal.Read.val_main_cst_2 Cert.AdamARefIdeal.Read.val_main_v7 Cert.AdamARefIdeal.Read.val_main_v13 Cert.AdamARefIdeal.Read.val_main_cst_4 Cert.AdamARefIdeal.Read.val_main_v16 Cert.AdamARefIdeal.Read.val_main_cst_5 Cert.AdamARefIdeal.Read.val_main_v20 Cert.AdamARefIdeal.Read.val_main_v19 Cert.AdamARefIdeal.Read.val_main_cst_6
  pointwise

theorem adam_a_17 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v99 (F := Ideal) (Cert.AdamAIdeal.Hand.a0 m c) (Cert.AdamAIdeal.Hand.a2 m c) i = Cert.AdamAIdeal.Hand.res17 m c i := by
  unfold Cert.AdamAIdeal.Hand.res17 Cert.AdamAIdeal.Hand.X0 Cert.AdamAIdeal.Hand.X2 newM
  unfold Cert.AdamARefIdeal.Read.val_main_v99 Cert.AdamARefIdeal.Read.val_main_v98 Cert.AdamARefIdeal.Read.val_main_v4 Cert.AdamARefIdeal.Read.val_main_v1 Cert.AdamARefIdeal.Read.val_main_v0 Cert.AdamARefIdeal.Read.val_main_cst Cert.AdamARefIdeal.Read.val_main_v3 Cert.AdamARefIdeal.Read.val_main_v2 Cert.AdamARefIdeal.Read.val_main_cst_0
  pointwise

theorem adam_a_18 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v101 (F := Ideal) (Cert.AdamAIdeal.Hand.a0 m c) (Cert.AdamAIdeal.Hand.a3 m c) i = Cert.AdamAIdeal.Hand.res18 m c i := by
  unfold Cert.AdamAIdeal.Hand.res18 Cert.AdamAIdeal.Hand.X0 Cert.AdamAIdeal.Hand.X3 newV
  unfold Cert.AdamARefIdeal.Read.val_main_v101 Cert.AdamARefIdeal.Read.val_main_v100 Cert.AdamARefIdeal.Read.val_main_v10 Cert.AdamARefIdeal.Read.val_main_v6 Cert.AdamARefIdeal.Read.val_main_v5 Cert.AdamARefIdeal.Read.val_main_cst_1 Cert.AdamARefIdeal.Read.val_main_v9 Cert.AdamARefIdeal.Read.val_main_v8 Cert.AdamARefIdeal.Read.val_main_cst_2 Cert.AdamARefIdeal.Read.val_main_v7
  pointwise

theorem adam_a_19 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v103 (F := Ideal) (Cert.AdamAIdeal.Hand.a4 m c) (Cert.AdamAIdeal.Hand.a5 m c) (Cert.AdamAIdeal.Hand.a6 m c) (Cert.AdamAIdeal.Hand.a7 m c) i = Cert.AdamAIdeal.Hand.res19 m c i := by
  unfold Cert.AdamAIdeal.Hand.res19 Cert.AdamAIdeal.Hand.X4 Cert.AdamAIdeal.Hand.X5 Cert.AdamAIdeal.Hand.X6 Cert.AdamAIdeal.Hand.X7 delta newM newV
  unfold Cert.AdamARefIdeal.Read.val_main_v103 Cert.AdamARefIdeal.Read.val_main_v102 Cert.AdamARefIdeal.Read.val_main_v47 Cert.AdamARefIdeal.Read.val_main_v46 Cert.AdamARefIdeal.Read.val_main_cst_16 Cert.AdamARefIdeal.Read.val_main_v45 Cert.AdamARefIdeal.Read.val_main_v42 Cert.AdamARefIdeal.Read.val_main_v36 Cert.AdamARefIdeal.Read.val_main_v28 Cert.AdamARefIdeal.Read.val_main_v25 Cert.AdamARefIdeal.Read.val_main_v24 Cert.AdamARefIdeal.Read.val_main_cst_8 Cert.AdamARefIdeal.Read.val_main_v27 Cert.AdamARefIdeal.Read.val_main_v26 Cert.AdamARefIdeal.Read.val_main_cst_9 Cert.AdamARefIdeal.Read.val_main_v35 Cert.AdamARefIdeal.Read.val_main_cst_12 Cert.AdamARefIdeal.Read.val_main_v41 Cert.AdamARefIdeal.Read.val_main_v39 Cert.AdamARefIdeal.Read.val_main_v38 Cert.AdamARefIdeal.Read.val_main_v34 Cert.AdamARefIdeal.Read.val_main_v30 Cert.AdamARefIdeal.Read.val_main_v29 Cert.AdamARefIdeal.Read.val_main_cst_10 Cert.AdamARefIdeal.Read.val_main_v33 Cert.AdamARefIdeal.Read.val_main_v32 Cert.AdamARefIdeal.Read.val_main_cst_11 Cert.AdamARefIdeal.Read.val_main_v31 Cert.AdamARefIdeal.Read.val_main_v37 Cert.AdamARefIdeal.Read.val_main_cst_13 Cert.AdamARefIdeal.Read.val_main_v40 Cert.AdamARefIdeal.Read.val_main_cst_14 Cert.AdamARefIdeal.Read.val_main_v44 Cert.AdamARefIdeal.Read.val_main_v43 Cert.AdamARefIdeal.Read.val_main_cst_15
  pointwise

theorem adam_a_20 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v105 (F := Ideal) (Cert.AdamAIdeal.Hand.a4 m c) (Cert.AdamAIdeal.Hand.a6 m c) i = Cert.AdamAIdeal.Hand.res20 m c i := by
  unfold Cert.AdamAIdeal.Hand.res20 Cert.AdamAIdeal.Hand.X4 Cert.AdamAIdeal.Hand.X6 newM
  unfold Cert.AdamARefIdeal.Read.val_main_v105 Cert.AdamARefIdeal.Read.val_main_v104 Cert.AdamARefIdeal.Read.val_main_v28 Cert.AdamARefIdeal.Read.val_main_v25 Cert.AdamARefIdeal.Read.val_main_v24 Cert.AdamARefIdeal.Read.val_main_cst_8 Cert.AdamARefIdeal.Read.val_main_v27 Cert.AdamARefIdeal.Read.val_main_v26 Cert.AdamARefIdeal.Read.val_main_cst_9
  pointwise

theorem adam_a_21 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v107 (F := Ideal) (Cert.AdamAIdeal.Hand.a4 m c) (Cert.AdamAIdeal.Hand.a7 m c) i = Cert.AdamAIdeal.Hand.res21 m c i := by
  unfold Cert.AdamAIdeal.Hand.res21 Cert.AdamAIdeal.Hand.X4 Cert.AdamAIdeal.Hand.X7 newV
  unfold Cert.AdamARefIdeal.Read.val_main_v107 Cert.AdamARefIdeal.Read.val_main_v106 Cert.AdamARefIdeal.Read.val_main_v34 Cert.AdamARefIdeal.Read.val_main_v30 Cert.AdamARefIdeal.Read.val_main_v29 Cert.AdamARefIdeal.Read.val_main_cst_10 Cert.AdamARefIdeal.Read.val_main_v33 Cert.AdamARefIdeal.Read.val_main_v32 Cert.AdamARefIdeal.Read.val_main_cst_11 Cert.AdamARefIdeal.Read.val_main_v31
  pointwise

theorem adam_a_22 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v108 (F := Ideal) (Cert.AdamAIdeal.Hand.a8 m c) (Cert.AdamAIdeal.Hand.a9 m c) (Cert.AdamAIdeal.Hand.a10 m c) (Cert.AdamAIdeal.Hand.a11 m c) i = Cert.AdamAIdeal.Hand.res22 m c i := by
  unfold Cert.AdamAIdeal.Hand.res22 Cert.AdamAIdeal.Hand.X8 Cert.AdamAIdeal.Hand.X9 Cert.AdamAIdeal.Hand.X10 Cert.AdamAIdeal.Hand.X11 delta newM newV
  unfold Cert.AdamARefIdeal.Read.val_main_v108 Cert.AdamARefIdeal.Read.val_main_v71 Cert.AdamARefIdeal.Read.val_main_v70 Cert.AdamARefIdeal.Read.val_main_cst_25 Cert.AdamARefIdeal.Read.val_main_v69 Cert.AdamARefIdeal.Read.val_main_v66 Cert.AdamARefIdeal.Read.val_main_v60 Cert.AdamARefIdeal.Read.val_main_v52 Cert.AdamARefIdeal.Read.val_main_v49 Cert.AdamARefIdeal.Read.val_main_v48 Cert.AdamARefIdeal.Read.val_main_cst_17 Cert.AdamARefIdeal.Read.val_main_v51 Cert.AdamARefIdeal.Read.val_main_v50 Cert.AdamARefIdeal.Read.val_main_cst_18 Cert.AdamARefIdeal.Read.val_main_v59 Cert.AdamARefIdeal.Read.val_main_cst_21 Cert.AdamARefIdeal.Read.val_main_v65 Cert.AdamARefIdeal.Read.val_main_v63 Cert.AdamARefIdeal.Read.val_main_v62 Cert.AdamARefIdeal.Read.val_main_v58 Cert.AdamARefIdeal.Read.val_main_v54 Cert.AdamARefIdeal.Read.val_main_v53 Cert.AdamARefIdeal.Read.val_main_cst_19 Cert.AdamARefIdeal.Read.val_main_v57 Cert.AdamARefIdeal.Read.val_main_v56 Cert.AdamARefIdeal.Read.val_main_cst_20 Cert.AdamARefIdeal.Read.val_main_v55 Cert.AdamARefIdeal.Read.val_main_v61 Cert.AdamARefIdeal.Read.val_main_cst_22 Cert.AdamARefIdeal.Read.val_main_v64 Cert.AdamARefIdeal.Read.val_main_cst_23 Cert.AdamARefIdeal.Read.val_main_v68 Cert.AdamARefIdeal.Read.val_main_v67 Cert.AdamARefIdeal.Read.val_main_cst_24
  pointwise

theorem adam_a_23 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v109 (F := Ideal) (Cert.AdamAIdeal.Hand.a8 m c) (Cert.AdamAIdeal.Hand.a10 m c) i = Cert.AdamAIdeal.Hand.res23 m c i := by
  unfold Cert.AdamAIdeal.Hand.res23 Cert.AdamAIdeal.Hand.X8 Cert.AdamAIdeal.Hand.X10 newM
  unfold Cert.AdamARefIdeal.Read.val_main_v109 Cert.AdamARefIdeal.Read.val_main_v52 Cert.AdamARefIdeal.Read.val_main_v49 Cert.AdamARefIdeal.Read.val_main_v48 Cert.AdamARefIdeal.Read.val_main_cst_17 Cert.AdamARefIdeal.Read.val_main_v51 Cert.AdamARefIdeal.Read.val_main_v50 Cert.AdamARefIdeal.Read.val_main_cst_18
  pointwise

theorem adam_a_24 (m : (ℓ : Loc Cert.AdamAIdeal.nD Cert.AdamAIdeal.τ Cert.AdamAIdeal.sig) → Buf (Elt Ideal) ℓ) (c : Dev Cert.AdamAIdeal.nD)
    (i : Cert.AdamAIdeal.S352x1024.Idx) : Cert.AdamARefIdeal.Read.val_main_v110 (F := Ideal) (Cert.AdamAIdeal.Hand.a8 m c) (Cert.AdamAIdeal.Hand.a11 m c) i = Cert.AdamAIdeal.Hand.res24 m c i := by
  unfold Cert.AdamAIdeal.Hand.res24 Cert.AdamAIdeal.Hand.X8 Cert.AdamAIdeal.Hand.X11 newV
  unfold Cert.AdamARefIdeal.Read.val_main_v110 Cert.AdamARefIdeal.Read.val_main_v58 Cert.AdamARefIdeal.Read.val_main_v54 Cert.AdamARefIdeal.Read.val_main_v53 Cert.AdamARefIdeal.Read.val_main_cst_19 Cert.AdamARefIdeal.Read.val_main_v57 Cert.AdamARefIdeal.Read.val_main_v56 Cert.AdamARefIdeal.Read.val_main_cst_20 Cert.AdamARefIdeal.Read.val_main_v55
  pointwise

theorem adam_a_25 (m : (ℓ : Loc Cert.AdamAIdeal.nD Cert.AdamAIdeal.τ Cert.AdamAIdeal.sig) → Buf (Elt Ideal) ℓ) (c : Dev Cert.AdamAIdeal.nD)
    (i : Cert.AdamAIdeal.S128x1024.Idx) : Cert.AdamARefIdeal.Read.val_main_v111 (F := Ideal) (Cert.AdamAIdeal.Hand.a12 m c) (Cert.AdamAIdeal.Hand.a13 m c) (Cert.AdamAIdeal.Hand.a14 m c) (Cert.AdamAIdeal.Hand.a15 m c) i = Cert.AdamAIdeal.Hand.res25 m c i := by
  unfold Cert.AdamAIdeal.Hand.res25 Cert.AdamAIdeal.Hand.X12 Cert.AdamAIdeal.Hand.X13 Cert.AdamAIdeal.Hand.X14 Cert.AdamAIdeal.Hand.X15 delta newM newV
  unfold Cert.AdamARefIdeal.Read.val_main_v111 Cert.AdamARefIdeal.Read.val_main_v95 Cert.AdamARefIdeal.Read.val_main_v94 Cert.AdamARefIdeal.Read.val_main_cst_34 Cert.AdamARefIdeal.Read.val_main_v93 Cert.AdamARefIdeal.Read.val_main_v90 Cert.AdamARefIdeal.Read.val_main_v84 Cert.AdamARefIdeal.Read.val_main_v76 Cert.AdamARefIdeal.Read.val_main_v73 Cert.AdamARefIdeal.Read.val_main_v72 Cert.AdamARefIdeal.Read.val_main_cst_26 Cert.AdamARefIdeal.Read.val_main_v75 Cert.AdamARefIdeal.Read.val_main_v74 Cert.AdamARefIdeal.Read.val_main_cst_27 Cert.AdamARefIdeal.Read.val_main_v83 Cert.AdamARefIdeal.Read.val_main_cst_30 Cert.AdamARefIdeal.Read.val_main_v89 Cert.AdamARefIdeal.Read.val_main_v87 Cert.AdamARefIdeal.Read.val_main_v86 Cert.AdamARefIdeal.Read.val_main_v82 Cert.AdamARefIdeal.Read.val_main_v78 Cert.AdamARefIdeal.Read.val_main_v77 Cert.AdamARefIdeal.Read.val_main_cst_28 Cert.AdamARefIdeal.Read.val_main_v81 Cert.AdamARefIdeal.Read.val_main_v80 Cert.AdamARefIdeal.Read.val_main_cst_29 Cert.AdamARefIdeal.Read.val_main_v79 Cert.AdamARefIdeal.Read.val_main_v85 Cert.AdamARefIdeal.Read.val_main_cst_31 Cert.AdamARefIdeal.Read.val_main_v88 Cert.AdamARefIdeal.Read.val_main_cst_32 Cert.AdamARefIdeal.Read.val_main_v92 Cert.AdamARefIdeal.Read.val_main_v91 Cert.AdamARefIdeal.Read.val_main_cst_33
  pointwise

theorem adam_a_26 (m : (ℓ : Loc Cert.AdamAIdeal.nD Cert.AdamAIdeal.τ Cert.AdamAIdeal.sig) → Buf (Elt Ideal) ℓ) (c : Dev Cert.AdamAIdeal.nD)
    (i : Cert.AdamAIdeal.S128x1024.Idx) : Cert.AdamARefIdeal.Read.val_main_v112 (F := Ideal) (Cert.AdamAIdeal.Hand.a12 m c) (Cert.AdamAIdeal.Hand.a14 m c) i = Cert.AdamAIdeal.Hand.res26 m c i := by
  unfold Cert.AdamAIdeal.Hand.res26 Cert.AdamAIdeal.Hand.X12 Cert.AdamAIdeal.Hand.X14 newM
  unfold Cert.AdamARefIdeal.Read.val_main_v112 Cert.AdamARefIdeal.Read.val_main_v76 Cert.AdamARefIdeal.Read.val_main_v73 Cert.AdamARefIdeal.Read.val_main_v72 Cert.AdamARefIdeal.Read.val_main_cst_26 Cert.AdamARefIdeal.Read.val_main_v75 Cert.AdamARefIdeal.Read.val_main_v74 Cert.AdamARefIdeal.Read.val_main_cst_27
  pointwise

theorem adam_a_27 (m : (ℓ : Loc Cert.AdamAIdeal.nD Cert.AdamAIdeal.τ Cert.AdamAIdeal.sig) → Buf (Elt Ideal) ℓ) (c : Dev Cert.AdamAIdeal.nD)
    (i : Cert.AdamAIdeal.S128x1024.Idx) : Cert.AdamARefIdeal.Read.val_main_v113 (F := Ideal) (Cert.AdamAIdeal.Hand.a12 m c) (Cert.AdamAIdeal.Hand.a15 m c) i = Cert.AdamAIdeal.Hand.res27 m c i := by
  unfold Cert.AdamAIdeal.Hand.res27 Cert.AdamAIdeal.Hand.X12 Cert.AdamAIdeal.Hand.X15 newV
  unfold Cert.AdamARefIdeal.Read.val_main_v113 Cert.AdamARefIdeal.Read.val_main_v82 Cert.AdamARefIdeal.Read.val_main_v78 Cert.AdamARefIdeal.Read.val_main_v77 Cert.AdamARefIdeal.Read.val_main_cst_28 Cert.AdamARefIdeal.Read.val_main_v81 Cert.AdamARefIdeal.Read.val_main_v80 Cert.AdamARefIdeal.Read.val_main_cst_29 Cert.AdamARefIdeal.Read.val_main_v79
  pointwise

theorem adam_a : Cert.algebraic_AdamAIdeal_AdamARefIdeal (hAdamAIdeal := Cert.AdamAIdeal.Gen.facts) (hAdamARefIdeal := Cert.AdamARefIdeal.Gen.facts) := by
  intro m g m' g' _ hargs
  refine ⟨fun c => (Cert.AdamAIdeal.Hand.res16 m c : Vec Ideal Cert.AdamAIdeal.S352x1024 .f32),
    fun c => (Cert.AdamAIdeal.Hand.res17 m c : Vec Ideal Cert.AdamAIdeal.S352x1024 .f32),
    fun c => (Cert.AdamAIdeal.Hand.res18 m c : Vec Ideal Cert.AdamAIdeal.S352x1024 .f32),
    fun c => (Cert.AdamAIdeal.Hand.res19 m c : Vec Ideal Cert.AdamAIdeal.S352x1024 .f32),
    fun c => (Cert.AdamAIdeal.Hand.res20 m c : Vec Ideal Cert.AdamAIdeal.S352x1024 .f32),
    fun c => (Cert.AdamAIdeal.Hand.res21 m c : Vec Ideal Cert.AdamAIdeal.S352x1024 .f32),
    fun c => (Cert.AdamAIdeal.Hand.res22 m c : Vec Ideal Cert.AdamAIdeal.S352x1024 .f32),
    fun c => (Cert.AdamAIdeal.Hand.res23 m c : Vec Ideal Cert.AdamAIdeal.S352x1024 .f32),
    fun c => (Cert.AdamAIdeal.Hand.res24 m c : Vec Ideal Cert.AdamAIdeal.S352x1024 .f32),
    fun c => (Cert.AdamAIdeal.Hand.res25 m c : Vec Ideal Cert.AdamAIdeal.S128x1024 .f32),
    fun c => (Cert.AdamAIdeal.Hand.res26 m c : Vec Ideal Cert.AdamAIdeal.S128x1024 .f32),
    fun c => (Cert.AdamAIdeal.Hand.res27 m c : Vec Ideal Cert.AdamAIdeal.S128x1024 .f32),
    (θ_run Cert.AdamAIdeal.defs _ _).mono (fun r h c => ?_) (Cert.AdamAIdeal.Run.run_blocks (F := Ideal) m g),
    (θ_run Cert.AdamARefIdeal.defs _ _).mono (fun r h c => ?_) (Cert.AdamARefIdeal.Value.run (F := Ideal) m' g')⟩
  · exact ⟨(h c).1.trans (Cert.AdamAIdeal.Hand.final16 m c), (h c).2.1.trans (Cert.AdamAIdeal.Hand.final17 m c), (h c).2.2.1.trans (Cert.AdamAIdeal.Hand.final18 m c), (h c).2.2.2.1.trans (Cert.AdamAIdeal.Hand.final19 m c), (h c).2.2.2.2.1.trans (Cert.AdamAIdeal.Hand.final20 m c), (h c).2.2.2.2.2.1.trans (Cert.AdamAIdeal.Hand.final21 m c), (h c).2.2.2.2.2.2.1.trans (Cert.AdamAIdeal.Hand.final22 m c), (h c).2.2.2.2.2.2.2.1.trans (Cert.AdamAIdeal.Hand.final23 m c), (h c).2.2.2.2.2.2.2.2.1.trans (Cert.AdamAIdeal.Hand.final24 m c), (h c).2.2.2.2.2.2.2.2.2.1.trans (Cert.AdamAIdeal.Hand.final25 m c), (h c).2.2.2.2.2.2.2.2.2.2.1.trans (Cert.AdamAIdeal.Hand.final26 m c), (h c).2.2.2.2.2.2.2.2.2.2.2.1.trans (Cert.AdamAIdeal.Hand.final27 m c), (h c).2.2.2.2.2.2.2.2.2.2.2.2⟩
  · obtain ⟨e0, e1, e2, e3, e4, e5, e6, e7, e8, e9, e10, e11, e12, e13, e14, e15⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩
    · rw [Cert.AdamARefIdeal.Read.val_main_v97_eq, e0, e1, e2, e3]
      exact funext fun i => adam_a_16 m c i
    · rw [Cert.AdamARefIdeal.Read.val_main_v99_eq, e0, e2]
      exact funext fun i => adam_a_17 m c i
    · rw [Cert.AdamARefIdeal.Read.val_main_v101_eq, e0, e3]
      exact funext fun i => adam_a_18 m c i
    · rw [Cert.AdamARefIdeal.Read.val_main_v103_eq, e4, e5, e6, e7]
      exact funext fun i => adam_a_19 m c i
    · rw [Cert.AdamARefIdeal.Read.val_main_v105_eq, e4, e6]
      exact funext fun i => adam_a_20 m c i
    · rw [Cert.AdamARefIdeal.Read.val_main_v107_eq, e4, e7]
      exact funext fun i => adam_a_21 m c i
    · rw [Cert.AdamARefIdeal.Read.val_main_v108_eq, e8, e9, e10, e11]
      exact funext fun i => adam_a_22 m c i
    · rw [Cert.AdamARefIdeal.Read.val_main_v109_eq, e8, e10]
      exact funext fun i => adam_a_23 m c i
    · rw [Cert.AdamARefIdeal.Read.val_main_v110_eq, e8, e11]
      exact funext fun i => adam_a_24 m c i
    · rw [Cert.AdamARefIdeal.Read.val_main_v111_eq, e12, e13, e14, e15]
      exact funext fun i => adam_a_25 m c i
    · rw [Cert.AdamARefIdeal.Read.val_main_v112_eq, e12, e14]
      exact funext fun i => adam_a_26 m c i
    · rw [Cert.AdamARefIdeal.Read.val_main_v113_eq, e12, e15]
      exact funext fun i => adam_a_27 m c i

end Cert.Claims

end
-- ==== Proof.AdamBValue.lean ====
/-
  The optimiser's step on the first feed-forward layer: what the kernel's result arrays hold, entry by entry, and that
  the reference's hold the same.
-/
module

public import proofs.«01_k».proof.Defs
public import proofs.«01_k».proof.Proof.Step
public import proofs.«01_k».proof.Proof.Gen.AdamBIdeal.Value
public import proofs.«01_k».proof.Proof.Gen.AdamBRefIdeal.Run
public import proofs.«01_k».proof.Proof.Gen.AdamBRefIdeal.Read
public import Idealize.ShloMosaic.Lib.Pointwise
public import Idealize.ShloMosaic.Lib.Tactic

@[expose] public section

noncomputable section

namespace Cert.AdamBIdeal.Hand

open Cert.AdamBIdeal Cert.AdamBIdeal.Gen Idealize.ShloMosaic Idealize.ShloMosaic.TcCoe Idealize.SL.Sem Cert.Step
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section

variable (x0 : Vec Ideal S88x1024 .f32) (x1 : Vec Ideal S88x1024 .f32) (x2 : Vec Ideal S88x1024 .f32) (x3 : Vec Ideal S88x1024 .f32) (x4 : Vec Ideal S88x1024 .f32) (x5 : Vec Ideal S88x1024 .f32) (x6 : Vec Ideal S88x1024 .f32) (x7 : Vec Ideal S88x1024 .f32) (x8 : Vec Ideal S88x1024 .f32) (x9 : Vec Ideal S88x1024 .f32) (x10 : Vec Ideal S88x1024 .f32) (x11 : Vec Ideal S88x1024 .f32)

theorem out_12 :
    out0_12 (F := Ideal) x0 x1 x2 x3 x4 x5 x6 x7 x8 x9 x10 x11 = (fun j => (delta (x0 j) (x1 j) (x2 j) (x3 j) : EReal) : Vec Ideal S88x1024 .f32) := by
  unfold out0_12
  rw [View.canon_unit_zero (S := S88x1024) hz2]
  simp only [View.ld_unit_zero (S := S88x1024) hz2]
  funext j
  unfold_payloads
  unfold delta newM newV
  pointwise

theorem out_13 :
    out0_13 (F := Ideal) x0 x1 x2 x3 x4 x5 x6 x7 x8 x9 x10 x11 = (fun j => (newM (x0 j) (x2 j) : EReal) : Vec Ideal S88x1024 .f32) := by
  unfold out0_13
  rw [View.canon_unit_zero (S := S88x1024) hz2]
  simp only [View.ld_unit_zero (S := S88x1024) hz2]
  funext j
  unfold_payloads
  unfold newM
  pointwise

theorem out_14 :
    out0_14 (F := Ideal) x0 x1 x2 x3 x4 x5 x6 x7 x8 x9 x10 x11 = (fun j => (newV (x0 j) (x3 j) : EReal) : Vec Ideal S88x1024 .f32) := by
  unfold out0_14
  rw [View.canon_unit_zero (S := S88x1024) hz2]
  simp only [View.ld_unit_zero (S := S88x1024) hz2]
  funext j
  unfold_payloads
  unfold newV
  pointwise

theorem out_15 :
    out0_15 (F := Ideal) x0 x1 x2 x3 x4 x5 x6 x7 x8 x9 x10 x11 = (fun j => (delta (x4 j) (x5 j) (x6 j) (x7 j) : EReal) : Vec Ideal S88x1024 .f32) := by
  unfold out0_15
  rw [View.canon_unit_zero (S := S88x1024) hz2]
  simp only [View.ld_unit_zero (S := S88x1024) hz2]
  funext j
  unfold_payloads
  unfold delta newM newV
  pointwise

theorem out_16 :
    out0_16 (F := Ideal) x0 x1 x2 x3 x4 x5 x6 x7 x8 x9 x10 x11 = (fun j => (newM (x4 j) (x6 j) : EReal) : Vec Ideal S88x1024 .f32) := by
  unfold out0_16
  rw [View.canon_unit_zero (S := S88x1024) hz2]
  simp only [View.ld_unit_zero (S := S88x1024) hz2]
  funext j
  unfold_payloads
  unfold newM
  pointwise

theorem out_17 :
    out0_17 (F := Ideal) x0 x1 x2 x3 x4 x5 x6 x7 x8 x9 x10 x11 = (fun j => (newV (x4 j) (x7 j) : EReal) : Vec Ideal S88x1024 .f32) := by
  unfold out0_17
  rw [View.canon_unit_zero (S := S88x1024) hz2]
  simp only [View.ld_unit_zero (S := S88x1024) hz2]
  funext j
  unfold_payloads
  unfold newV
  pointwise

theorem out_18 :
    out0_18 (F := Ideal) x0 x1 x2 x3 x4 x5 x6 x7 x8 x9 x10 x11 = (fun j => (delta (x8 j) (x9 j) (x10 j) (x11 j) : EReal) : Vec Ideal S88x1024 .f32) := by
  unfold out0_18
  rw [View.canon_unit_zero (S := S88x1024) hz2]
  simp only [View.ld_unit_zero (S := S88x1024) hz2]
  funext j
  unfold_payloads
  unfold delta newM newV
  pointwise

theorem out_19 :
    out0_19 (F := Ideal) x0 x1 x2 x3 x4 x5 x6 x7 x8 x9 x10 x11 = (fun j => (newM (x8 j) (x10 j) : EReal) : Vec Ideal S88x1024 .f32) := by
  unfold out0_19
  rw [View.canon_unit_zero (S := S88x1024) hz2]
  simp only [View.ld_unit_zero (S := S88x1024) hz2]
  funext j
  unfold_payloads
  unfold newM
  pointwise

theorem out_20 :
    out0_20 (F := Ideal) x0 x1 x2 x3 x4 x5 x6 x7 x8 x9 x10 x11 = (fun j => (newV (x8 j) (x11 j) : EReal) : Vec Ideal S88x1024 .f32) := by
  unfold out0_20
  rw [View.canon_unit_zero (S := S88x1024) hz2]
  simp only [View.ld_unit_zero (S := S88x1024) hz2]
  funext j
  unfold_payloads
  unfold newV
  pointwise

end

/-- The grid point whose block holds an entry. -/
def ptOf_352x1024 (i : S352x1024.Idx) : Fin cfg0.N :=
  ⟨(i 0).val / 88, by have h : cfg0.N = 4 := N_0; have h0 : (i 0).val < 352 := (i 0).isLt; omega⟩

/-- Row `r` of the block at point `t`. -/
def row_352x1024 (t : Fin cfg0.N) (r : Fin 88) : Fin 352 :=
  ⟨t.val * 88 + r.val, by have h := t.isLt; have h' : cfg0.N = 4 := N_0; have := r.isLt; omega⟩

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = t.val ∧ win0_3.index t 1 = 0 :=
  (by decide +kernel : ∀ t : Fin grid0.N, win0_3.index t 0 = t.val ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = t.val ∧ win0_9.index t 1 = 0 :=
  (by decide +kernel : ∀ t : Fin grid0.N, win0_9.index t 0 = t.val ∧ win0_9.index t 1 = 0)
theorem idx10 : ∀ t : Fin cfg0.N, win0_10.index t 0 = t.val ∧ win0_10.index t 1 = 0 :=
  (by decide +kernel : ∀ t : Fin grid0.N, win0_10.index t 0 = t.val ∧ win0_10.index t 1 = 0)
theorem idx11 : ∀ t : Fin cfg0.N, win0_11.index t 0 = t.val ∧ win0_11.index t 1 = 0 :=
  (by decide +kernel : ∀ t : Fin grid0.N, win0_11.index t 0 = t.val ∧ win0_11.index t 1 = 0)
theorem idx12 : ∀ t : Fin cfg0.N, win0_12.index t 0 = t.val ∧ win0_12.index t 1 = 0 :=
  (by decide +kernel : ∀ t : Fin grid0.N, win0_12.index t 0 = t.val ∧ win0_12.index t 1 = 0)
theorem idx13 : ∀ t : Fin cfg0.N, win0_13.index t 0 = t.val ∧ win0_13.index t 1 = 0 :=
  (by decide +kernel : ∀ t : Fin grid0.N, win0_13.index t 0 = t.val ∧ win0_13.index t 1 = 0)
theorem idx14 : ∀ t : Fin cfg0.N, win0_14.index t 0 = t.val ∧ win0_14.index t 1 = 0 :=
  (by decide +kernel : ∀ t : Fin grid0.N, win0_14.index t 0 = t.val ∧ win0_14.index t 1 = 0)
theorem idx15 : ∀ t : Fin cfg0.N, win0_15.index t 0 = t.val ∧ win0_15.index t 1 = 0 :=
  (by decide +kernel : ∀ t : Fin grid0.N, win0_15.index t 0 = t.val ∧ win0_15.index t 1 = 0)
theorem idx16 : ∀ t : Fin cfg0.N, win0_16.index t 0 = t.val ∧ win0_16.index t 1 = 0 :=
  (by decide +kernel : ∀ t : Fin grid0.N, win0_16.index t 0 = t.val ∧ win0_16.index t 1 = 0)
theorem idx17 : ∀ t : Fin cfg0.N, win0_17.index t 0 = t.val ∧ win0_17.index t 1 = 0 :=
  (by decide +kernel : ∀ t : Fin grid0.N, win0_17.index t 0 = t.val ∧ win0_17.index t 1 = 0)
theorem idx18 : ∀ t : Fin cfg0.N, win0_18.index t 0 = t.val ∧ win0_18.index t 1 = 0 :=
  (by decide +kernel : ∀ t : Fin grid0.N, win0_18.index t 0 = t.val ∧ win0_18.index t 1 = 0)
theorem idx19 : ∀ t : Fin cfg0.N, win0_19.index t 0 = t.val ∧ win0_19.index t 1 = 0 :=
  (by decide +kernel : ∀ t : Fin grid0.N, win0_19.index t 0 = t.val ∧ win0_19.index t 1 = 0)
theorem idx20 : ∀ t : Fin cfg0.N, win0_20.index t 0 = t.val ∧ win0_20.index t 1 = 0 :=
  (by decide +kernel : ∀ t : Fin grid0.N, win0_20.index t 0 = t.val ∧ win0_20.index t 1 = 0)

abbrev a0 (c : Dev nD) : FVec Ideal S1x1024x352 .f32 := m ((c : Thread nD τ).loc main_arg0)
/-- The array the call takes as its operand 0. -/
def X0 (c : Dev nD) : FVec Ideal S352x1024 .f32 := transpose S352x1024 [1, 0] (shapeCast S1024x352 (a0 m c) shapeCasts_S1x1024x352_S1024x352) transposes_S1024x352_S352x1024_1_0
theorem V0 (c : Dev nD) : (V m c main_v1 : FVec Ideal S352x1024 .f32) = X0 m c := by
  unfold X0
  show StableHlo.after hostOps0 _ _ = _
  after_results <;> rfl
theorem blk0 (c : Dev nD) (t : Fin cfg0.N) (y : S88x1024.Idx) :
    ((iblk m c 0 t : FVec Ideal S88x1024 .f32) y : EReal) = X0 m c (ix2 (row_352x1024 t (y 0)) (y 1)) := by
  rw [← V0 m c]
  unfold iblk
  rw [View.read_apply]
  show V m c main_v1 _ = V m c main_v1 _
  congr 1
  funext a
  apply Fin.ext
  match a with
  | ⟨0, _⟩ => show win0_0.index t 0 * 88 + 1 * (y 0).val = t.val * 88 + (y 0).val; rw [(idx0 t).1]; omega
  | ⟨1, _⟩ => show win0_0.index t 1 * 1024 + 1 * (y 1).val = (y 1).val; rw [(idx0 t).2]; omega

abbrev a1 (c : Dev nD) : FVec Ideal S1x1024x352 .f32 := m ((c : Thread nD τ).loc main_arg1)
/-- The array the call takes as its operand 1. -/
def X1 (c : Dev nD) : FVec Ideal S352x1024 .f32 := transpose S352x1024 [1, 0] (shapeCast S1024x352 (a1 m c) shapeCasts_S1x1024x352_S1024x352) transposes_S1024x352_S352x1024_1_0
theorem V1 (c : Dev nD) : (V m c main_v3 : FVec Ideal S352x1024 .f32) = X1 m c := by
  unfold X1
  show StableHlo.after hostOps0 _ _ = _
  after_results <;> rfl
theorem blk1 (c : Dev nD) (t : Fin cfg0.N) (y : S88x1024.Idx) :
    ((iblk m c 1 t : FVec Ideal S88x1024 .f32) y : EReal) = X1 m c (ix2 (row_352x1024 t (y 0)) (y 1)) := by
  rw [← V1 m c]
  unfold iblk
  rw [View.read_apply]
  show V m c main_v3 _ = V m c main_v3 _
  congr 1
  funext a
  apply Fin.ext
  match a with
  | ⟨0, _⟩ => show win0_1.index t 0 * 88 + 1 * (y 0).val = t.val * 88 + (y 0).val; rw [(idx1 t).1]; omega
  | ⟨1, _⟩ => show win0_1.index t 1 * 1024 + 1 * (y 1).val = (y 1).val; rw [(idx1 t).2]; omega

abbrev a2 (c : Dev nD) : FVec Ideal S1x1024x352 .f32 := m ((c : Thread nD τ).loc main_arg2)
/-- The array the call takes as its operand 2. -/
def X2 (c : Dev nD) : FVec Ideal S352x1024 .f32 := transpose S352x1024 [1, 0] (shapeCast S1024x352 (a2 m c) shapeCasts_S1x1024x352_S1024x352) transposes_S1024x352_S352x1024_1_0
theorem V2 (c : Dev nD) : (V m c main_v5 : FVec Ideal S352x1024 .f32) = X2 m c := by
  unfold X2
  show StableHlo.after hostOps0 _ _ = _
  after_results <;> rfl
theorem blk2 (c : Dev nD) (t : Fin cfg0.N) (y : S88x1024.Idx) :
    ((iblk m c 2 t : FVec Ideal S88x1024 .f32) y : EReal) = X2 m c (ix2 (row_352x1024 t (y 0)) (y 1)) := by
  rw [← V2 m c]
  unfold iblk
  rw [View.read_apply]
  show V m c main_v5 _ = V m c main_v5 _
  congr 1
  funext a
  apply Fin.ext
  match a with
  | ⟨0, _⟩ => show win0_2.index t 0 * 88 + 1 * (y 0).val = t.val * 88 + (y 0).val; rw [(idx2 t).1]; omega
  | ⟨1, _⟩ => show win0_2.index t 1 * 1024 + 1 * (y 1).val = (y 1).val; rw [(idx2 t).2]; omega

abbrev a3 (c : Dev nD) : FVec Ideal S1x1024x352 .f32 := m ((c : Thread nD τ).loc main_arg3)
/-- The array the call takes as its operand 3. -/
def X3 (c : Dev nD) : FVec Ideal S352x1024 .f32 := transpose S352x1024 [1, 0] (shapeCast S1024x352 (a3 m c) shapeCasts_S1x1024x352_S1024x352) transposes_S1024x352_S352x1024_1_0
theorem V3 (c : Dev nD) : (V m c main_v7 : FVec Ideal S352x1024 .f32) = X3 m c := by
  unfold X3
  show StableHlo.after hostOps0 _ _ = _
  after_results <;> rfl
theorem blk3 (c : Dev nD) (t : Fin cfg0.N) (y : S88x1024.Idx) :
    ((iblk m c 3 t : FVec Ideal S88x1024 .f32) y : EReal) = X3 m c (ix2 (row_352x1024 t (y 0)) (y 1)) := by
  rw [← V3 m c]
  unfold iblk
  rw [View.read_apply]
  show V m c main_v7 _ = V m c main_v7 _
  congr 1
  funext a
  apply Fin.ext
  match a with
  | ⟨0, _⟩ => show win0_3.index t 0 * 88 + 1 * (y 0).val = t.val * 88 + (y 0).val; rw [(idx3 t).1]; omega
  | ⟨1, _⟩ => show win0_3.index t 1 * 1024 + 1 * (y 1).val = (y 1).val; rw [(idx3 t).2]; omega

abbrev a4 (c : Dev nD) : FVec Ideal S1x1024x352 .f32 := m ((c : Thread nD τ).loc main_arg4)
/-- The array the call takes as its operand 4. -/
def X4 (c : Dev nD) : FVec Ideal S352x1024 .f32 := transpose S352x1024 [1, 0] (shapeCast S1024x352 (a4 m c) shapeCasts_S1x1024x352_S1024x352) transposes_S1024x352_S352x1024_1_0
theorem V4 (c : Dev nD) : (V m c main_v9 : FVec Ideal S352x1024 .f32) = X4 m c := by
  unfold X4
  show StableHlo.after hostOps0 _ _ = _
  after_results <;> rfl
theorem blk4 (c : Dev nD) (t : Fin cfg0.N) (y : S88x1024.Idx) :
    ((iblk m c 4 t : FVec Ideal S88x1024 .f32) y : EReal) = X4 m c (ix2 (row_352x1024 t (y 0)) (y 1)) := by
  rw [← V4 m c]
  unfold iblk
  rw [View.read_apply]
  show V m c main_v9 _ = V m c main_v9 _
  congr 1
  funext a
  apply Fin.ext
  match a with
  | ⟨0, _⟩ => show win0_4.index t 0 * 88 + 1 * (y 0).val = t.val * 88 + (y 0).val; rw [(idx4 t).1]; omega
  | ⟨1, _⟩ => show win0_4.index t 1 * 1024 + 1 * (y 1).val = (y 1).val; rw [(idx4 t).2]; omega

abbrev a5 (c : Dev nD) : FVec Ideal S1x1024x352 .f32 := m ((c : Thread nD τ).loc main_arg5)
/-- The array the call takes as its operand 5. -/
def X5 (c : Dev nD) : FVec Ideal S352x1024 .f32 := transpose S352x1024 [1, 0] (shapeCast S1024x352 (a5 m c) shapeCasts_S1x1024x352_S1024x352) transposes_S1024x352_S352x1024_1_0
theorem V5 (c : Dev nD) : (V m c main_v11 : FVec Ideal S352x1024 .f32) = X5 m c := by
  unfold X5
  show StableHlo.after hostOps0 _ _ = _
  after_results <;> rfl
theorem blk5 (c : Dev nD) (t : Fin cfg0.N) (y : S88x1024.Idx) :
    ((iblk m c 5 t : FVec Ideal S88x1024 .f32) y : EReal) = X5 m c (ix2 (row_352x1024 t (y 0)) (y 1)) := by
  rw [← V5 m c]
  unfold iblk
  rw [View.read_apply]
  show V m c main_v11 _ = V m c main_v11 _
  congr 1
  funext a
  apply Fin.ext
  match a with
  | ⟨0, _⟩ => show win0_5.index t 0 * 88 + 1 * (y 0).val = t.val * 88 + (y 0).val; rw [(idx5 t).1]; omega
  | ⟨1, _⟩ => show win0_5.index t 1 * 1024 + 1 * (y 1).val = (y 1).val; rw [(idx5 t).2]; omega

abbrev a6 (c : Dev nD) : FVec Ideal S1x1024x352 .f32 := m ((c : Thread nD τ).loc main_arg6)
/-- The array the call takes as its operand 6. -/
def X6 (c : Dev nD) : FVec Ideal S352x1024 .f32 := transpose S352x1024 [1, 0] (shapeCast S1024x352 (a6 m c) shapeCasts_S1x1024x352_S1024x352) transposes_S1024x352_S352x1024_1_0
theorem V6 (c : Dev nD) : (V m c main_v13 : FVec Ideal S352x1024 .f32) = X6 m c := by
  unfold X6
  show StableHlo.after hostOps0 _ _ = _
  after_results <;> rfl
theorem blk6 (c : Dev nD) (t : Fin cfg0.N) (y : S88x1024.Idx) :
    ((iblk m c 6 t : FVec Ideal S88x1024 .f32) y : EReal) = X6 m c (ix2 (row_352x1024 t (y 0)) (y 1)) := by
  rw [← V6 m c]
  unfold iblk
  rw [View.read_apply]
  show V m c main_v13 _ = V m c main_v13 _
  congr 1
  funext a
  apply Fin.ext
  match a with
  | ⟨0, _⟩ => show win0_6.index t 0 * 88 + 1 * (y 0).val = t.val * 88 + (y 0).val; rw [(idx6 t).1]; omega
  | ⟨1, _⟩ => show win0_6.index t 1 * 1024 + 1 * (y 1).val = (y 1).val; rw [(idx6 t).2]; omega

abbrev a7 (c : Dev nD) : FVec Ideal S1x1024x352 .f32 := m ((c : Thread nD τ).loc main_arg7)
/-- The array the call takes as its operand 7. -/
def X7 (c : Dev nD) : FVec Ideal S352x1024 .f32 := transpose S352x1024 [1, 0] (shapeCast S1024x352 (a7 m c) shapeCasts_S1x1024x352_S1024x352) transposes_S1024x352_S352x1024_1_0
theorem V7 (c : Dev nD) : (V m c main_v15 : FVec Ideal S352x1024 .f32) = X7 m c := by
  unfold X7
  show StableHlo.after hostOps0 _ _ = _
  after_results <;> rfl
theorem blk7 (c : Dev nD) (t : Fin cfg0.N) (y : S88x1024.Idx) :
    ((iblk m c 7 t : FVec Ideal S88x1024 .f32) y : EReal) = X7 m c (ix2 (row_352x1024 t (y 0)) (y 1)) := by
  rw [← V7 m c]
  unfold iblk
  rw [View.read_apply]
  show V m c main_v15 _ = V m c main_v15 _
  congr 1
  funext a
  apply Fin.ext
  match a with
  | ⟨0, _⟩ => show win0_7.index t 0 * 88 + 1 * (y 0).val = t.val * 88 + (y 0).val; rw [(idx7 t).1]; omega
  | ⟨1, _⟩ => show win0_7.index t 1 * 1024 + 1 * (y 1).val = (y 1).val; rw [(idx7 t).2]; omega

abbrev a8 (c : Dev nD) : FVec Ideal S1x352x1024 .f32 := m ((c : Thread nD τ).loc main_arg8)
/-- The array the call takes as its operand 8. -/
def X8 (c : Dev nD) : FVec Ideal S352x1024 .f32 := shapeCast S352x1024 (a8 m c) shapeCasts_S1x352x1024_S352x1024
theorem V8 (c : Dev nD) : (V m c main_v16 : FVec Ideal S352x1024 .f32) = X8 m c := by
  unfold X8
  show StableHlo.after hostOps0 _ _ = _
  after_results <;> rfl
theorem blk8 (c : Dev nD) (t : Fin cfg0.N) (y : S88x1024.Idx) :
    ((iblk m c 8 t : FVec Ideal S88x1024 .f32) y : EReal) = X8 m c (ix2 (row_352x1024 t (y 0)) (y 1)) := by
  rw [← V8 m c]
  unfold iblk
  rw [View.read_apply]
  show V m c main_v16 _ = V m c main_v16 _
  congr 1
  funext a
  apply Fin.ext
  match a with
  | ⟨0, _⟩ => show win0_8.index t 0 * 88 + 1 * (y 0).val = t.val * 88 + (y 0).val; rw [(idx8 t).1]; omega
  | ⟨1, _⟩ => show win0_8.index t 1 * 1024 + 1 * (y 1).val = (y 1).val; rw [(idx8 t).2]; omega

abbrev a9 (c : Dev nD) : FVec Ideal S1x352x1024 .f32 := m ((c : Thread nD τ).loc main_arg9)
/-- The array the call takes as its operand 9. -/
def X9 (c : Dev nD) : FVec Ideal S352x1024 .f32 := shapeCast S352x1024 (a9 m c) shapeCasts_S1x352x1024_S352x1024
theorem V9 (c : Dev nD) : (V m c main_v17 : FVec Ideal S352x1024 .f32) = X9 m c := by
  unfold X9
  show StableHlo.after hostOps0 _ _ = _
  after_results <;> rfl
theorem blk9 (c : Dev nD) (t : Fin cfg0.N) (y : S88x1024.Idx) :
    ((iblk m c 9 t : FVec Ideal S88x1024 .f32) y : EReal) = X9 m c (ix2 (row_352x1024 t (y 0)) (y 1)) := by
  rw [← V9 m c]
  unfold iblk
  rw [View.read_apply]
  show V m c main_v17 _ = V m c main_v17 _
  congr 1
  funext a
  apply Fin.ext
  match a with
  | ⟨0, _⟩ => show win0_9.index t 0 * 88 + 1 * (y 0).val = t.val * 88 + (y 0).val; rw [(idx9 t).1]; omega
  | ⟨1, _⟩ => show win0_9.index t 1 * 1024 + 1 * (y 1).val = (y 1).val; rw [(idx9 t).2]; omega

abbrev a10 (c : Dev nD) : FVec Ideal S1x352x1024 .f32 := m ((c : Thread nD τ).loc main_arg10)
/-- The array the call takes as its operand 10. -/
def X10 (c : Dev nD) : FVec Ideal S352x1024 .f32 := shapeCast S352x1024 (a10 m c) shapeCasts_S1x352x1024_S352x1024
theorem V10 (c : Dev nD) : (V m c main_v18 : FVec Ideal S352x1024 .f32) = X10 m c := by
  unfold X10
  show StableHlo.after hostOps0 _ _ = _
  after_results <;> rfl
theorem blk10 (c : Dev nD) (t : Fin cfg0.N) (y : S88x1024.Idx) :
    ((iblk m c 10 t : FVec Ideal S88x1024 .f32) y : EReal) = X10 m c (ix2 (row_352x1024 t (y 0)) (y 1)) := by
  rw [← V10 m c]
  unfold iblk
  rw [View.read_apply]
  show V m c main_v18 _ = V m c main_v18 _
  congr 1
  funext a
  apply Fin.ext
  match a with
  | ⟨0, _⟩ => show win0_10.index t 0 * 88 + 1 * (y 0).val = t.val * 88 + (y 0).val; rw [(idx10 t).1]; omega
  | ⟨1, _⟩ => show win0_10.index t 1 * 1024 + 1 * (y 1).val = (y 1).val; rw [(idx10 t).2]; omega

abbrev a11 (c : Dev nD) : FVec Ideal S1x352x1024 .f32 := m ((c : Thread nD τ).loc main_arg11)
/-- The array the call takes as its operand 11. -/
def X11 (c : Dev nD) : FVec Ideal S352x1024 .f32 := shapeCast S352x1024 (a11 m c) shapeCasts_S1x352x1024_S352x1024
theorem V11 (c : Dev nD) : (V m c main_v19 : FVec Ideal S352x1024 .f32) = X11 m c := by
  unfold X11
  show StableHlo.after hostOps0 _ _ = _
  after_results <;> rfl
theorem blk11 (c : Dev nD) (t : Fin cfg0.N) (y : S88x1024.Idx) :
    ((iblk m c 11 t : FVec Ideal S88x1024 .f32) y : EReal) = X11 m c (ix2 (row_352x1024 t (y 0)) (y 1)) := by
  rw [← V11 m c]
  unfold iblk
  rw [View.read_apply]
  show V m c main_v19 _ = V m c main_v19 _
  congr 1
  funext a
  apply Fin.ext
  match a with
  | ⟨0, _⟩ => show win0_11.index t 0 * 88 + 1 * (y 0).val = t.val * 88 + (y 0).val; rw [(idx11 t).1]; omega
  | ⟨1, _⟩ => show win0_11.index t 1 * 1024 + 1 * (y 1).val = (y 1).val; rw [(idx11 t).2]; omega

/-- Result 0 of the call, entry by entry. -/
def res12 (c : Dev nD) : Vec Ideal S352x1024 .f32 := fun i => (delta (X0 m c i) (X1 m c i) (X2 m c i) (X3 m c i) : EReal)

theorem flushed12_eq (c : Dev nD) (t : Fin cfg0.N) (hf : (cfg0.win 12).flush t = true) :
    (dats m 0 c).flushed 12 t = ((cfg0.win 12).blk t).view.read (Elt Ideal) (res12 m c) := by
  rw [Value.flushed12, out_12]
  funext y
  rw [View.read_apply]
  have hi : ((cfg0.win 12).blk t).view.emb y = ((ix2 (row_352x1024 t (y 0)) (y 1)) : S352x1024.Idx) := by
    funext a
    apply Fin.ext
    match a with
    | ⟨0, _⟩ => show win0_12.index t 0 * 88 + 1 * (y 0).val = t.val * 88 + (y 0).val; rw [(idx12 t).1]; omega
    | ⟨1, _⟩ => show win0_12.index t 1 * 1024 + 1 * (y 1).val = (y 1).val; rw [(idx12 t).2]; omega
  have hy : (cfg0.win 12).xinj (grid0.coords t) y = (ix2 (y 0) (y 1) : S88x1024.Idx) := by
    funext a
    match a with
    | ⟨0, _⟩ => rfl
    | ⟨1, _⟩ => rfl
  refine Eq.trans ?_ (congrArg (res12 m c) hi.symm)
  refine Eq.trans (congrArg (fun j : S88x1024.Idx => (delta ((iblk m c 0 t : FVec Ideal S88x1024 .f32) j) ((iblk m c 1 t : FVec Ideal S88x1024 .f32) j) ((iblk m c 2 t : FVec Ideal S88x1024 .f32) j) ((iblk m c 3 t : FVec Ideal S88x1024 .f32) j) : EReal)) hy) ?_
  exact delta_congr (blk0 m c t (ix2 (y 0) (y 1) : S88x1024.Idx)) (blk1 m c t (ix2 (y 0) (y 1) : S88x1024.Idx)) (blk2 m c t (ix2 (y 0) (y 1) : S88x1024.Idx)) (blk3 m c t (ix2 (y 0) (y 1) : S88x1024.Idx))

theorem flush12 : ∀ t : Fin cfg0.N, (cfg0.win 12).flush t = true := (by decide +kernel : ∀ t : Fin grid0.N, (cfg0.win 12).flush t = true)

theorem final12 (c : Dev nD) : (dats m 0 c).arrAt 12 cfg0.N = (res12 m c : Vec Ideal S352x1024 .f32) :=
  (dats m 0 c).arrAt_eq_of_cover 12 _ (flushed12_eq m c) fun i => ⟨ptOf_352x1024 i, flush12 _, by
    show i ∈ ((View.whole main_v20_0).slice (win0_12.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_12.index (ptOf_352x1024 i) 0 * 88 ≤ (i 0 : Nat) ∧ (i 0 : Nat) < win0_12.index (ptOf_352x1024 i) 0 * 88 + 88
                rw [(idx12 (ptOf_352x1024 i)).1]; omega
    | ⟨1, _⟩ => show win0_12.index (ptOf_352x1024 i) 1 * 1024 ≤ (i 1 : Nat) ∧ (i 1 : Nat) < win0_12.index (ptOf_352x1024 i) 1 * 1024 + 1024
                rw [(idx12 (ptOf_352x1024 i)).2]; omega⟩

/-- Result 1 of the call, entry by entry. -/
def res13 (c : Dev nD) : Vec Ideal S352x1024 .f32 := fun i => (newM (X0 m c i) (X2 m c i) : EReal)

theorem flushed13_eq (c : Dev nD) (t : Fin cfg0.N) (hf : (cfg0.win 13).flush t = true) :
    (dats m 0 c).flushed 13 t = ((cfg0.win 13).blk t).view.read (Elt Ideal) (res13 m c) := by
  rw [Value.flushed13, out_13]
  funext y
  rw [View.read_apply]
  have hi : ((cfg0.win 13).blk t).view.emb y = ((ix2 (row_352x1024 t (y 0)) (y 1)) : S352x1024.Idx) := by
    funext a
    apply Fin.ext
    match a with
    | ⟨0, _⟩ => show win0_13.index t 0 * 88 + 1 * (y 0).val = t.val * 88 + (y 0).val; rw [(idx13 t).1]; omega
    | ⟨1, _⟩ => show win0_13.index t 1 * 1024 + 1 * (y 1).val = (y 1).val; rw [(idx13 t).2]; omega
  have hy : (cfg0.win 13).xinj (grid0.coords t) y = (ix2 (y 0) (y 1) : S88x1024.Idx) := by
    funext a
    match a with
    | ⟨0, _⟩ => rfl
    | ⟨1, _⟩ => rfl
  refine Eq.trans ?_ (congrArg (res13 m c) hi.symm)
  refine Eq.trans (congrArg (fun j : S88x1024.Idx => (newM ((iblk m c 0 t : FVec Ideal S88x1024 .f32) j) ((iblk m c 2 t : FVec Ideal S88x1024 .f32) j) : EReal)) hy) ?_
  exact newM_congr (blk0 m c t (ix2 (y 0) (y 1) : S88x1024.Idx)) (blk2 m c t (ix2 (y 0) (y 1) : S88x1024.Idx))

theorem flush13 : ∀ t : Fin cfg0.N, (cfg0.win 13).flush t = true := (by decide +kernel : ∀ t : Fin grid0.N, (cfg0.win 13).flush t = true)

theorem final13 (c : Dev nD) : (dats m 0 c).arrAt 13 cfg0.N = (res13 m c : Vec Ideal S352x1024 .f32) :=
  (dats m 0 c).arrAt_eq_of_cover 13 _ (flushed13_eq m c) fun i => ⟨ptOf_352x1024 i, flush13 _, by
    show i ∈ ((View.whole main_v20_1).slice (win0_13.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_13.index (ptOf_352x1024 i) 0 * 88 ≤ (i 0 : Nat) ∧ (i 0 : Nat) < win0_13.index (ptOf_352x1024 i) 0 * 88 + 88
                rw [(idx13 (ptOf_352x1024 i)).1]; omega
    | ⟨1, _⟩ => show win0_13.index (ptOf_352x1024 i) 1 * 1024 ≤ (i 1 : Nat) ∧ (i 1 : Nat) < win0_13.index (ptOf_352x1024 i) 1 * 1024 + 1024
                rw [(idx13 (ptOf_352x1024 i)).2]; omega⟩

/-- Result 2 of the call, entry by entry. -/
def res14 (c : Dev nD) : Vec Ideal S352x1024 .f32 := fun i => (newV (X0 m c i) (X3 m c i) : EReal)

theorem flushed14_eq (c : Dev nD) (t : Fin cfg0.N) (hf : (cfg0.win 14).flush t = true) :
    (dats m 0 c).flushed 14 t = ((cfg0.win 14).blk t).view.read (Elt Ideal) (res14 m c) := by
  rw [Value.flushed14, out_14]
  funext y
  rw [View.read_apply]
  have hi : ((cfg0.win 14).blk t).view.emb y = ((ix2 (row_352x1024 t (y 0)) (y 1)) : S352x1024.Idx) := by
    funext a
    apply Fin.ext
    match a with
    | ⟨0, _⟩ => show win0_14.index t 0 * 88 + 1 * (y 0).val = t.val * 88 + (y 0).val; rw [(idx14 t).1]; omega
    | ⟨1, _⟩ => show win0_14.index t 1 * 1024 + 1 * (y 1).val = (y 1).val; rw [(idx14 t).2]; omega
  have hy : (cfg0.win 14).xinj (grid0.coords t) y = (ix2 (y 0) (y 1) : S88x1024.Idx) := by
    funext a
    match a with
    | ⟨0, _⟩ => rfl
    | ⟨1, _⟩ => rfl
  refine Eq.trans ?_ (congrArg (res14 m c) hi.symm)
  refine Eq.trans (congrArg (fun j : S88x1024.Idx => (newV ((iblk m c 0 t : FVec Ideal S88x1024 .f32) j) ((iblk m c 3 t : FVec Ideal S88x1024 .f32) j) : EReal)) hy) ?_
  exact newV_congr (blk0 m c t (ix2 (y 0) (y 1) : S88x1024.Idx)) (blk3 m c t (ix2 (y 0) (y 1) : S88x1024.Idx))

theorem flush14 : ∀ t : Fin cfg0.N, (cfg0.win 14).flush t = true := (by decide +kernel : ∀ t : Fin grid0.N, (cfg0.win 14).flush t = true)

theorem final14 (c : Dev nD) : (dats m 0 c).arrAt 14 cfg0.N = (res14 m c : Vec Ideal S352x1024 .f32) :=
  (dats m 0 c).arrAt_eq_of_cover 14 _ (flushed14_eq m c) fun i => ⟨ptOf_352x1024 i, flush14 _, by
    show i ∈ ((View.whole main_v20_2).slice (win0_14.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_14.index (ptOf_352x1024 i) 0 * 88 ≤ (i 0 : Nat) ∧ (i 0 : Nat) < win0_14.index (ptOf_352x1024 i) 0 * 88 + 88
                rw [(idx14 (ptOf_352x1024 i)).1]; omega
    | ⟨1, _⟩ => show win0_14.index (ptOf_352x1024 i) 1 * 1024 ≤ (i 1 : Nat) ∧ (i 1 : Nat) < win0_14.index (ptOf_352x1024 i) 1 * 1024 + 1024
                rw [(idx14 (ptOf_352x1024 i)).2]; omega⟩

/-- Result 3 of the call, entry by entry. -/
def res15 (c : Dev nD) : Vec Ideal S352x1024 .f32 := fun i => (delta (X4 m c i) (X5 m c i) (X6 m c i) (X7 m c i) : EReal)

theorem flushed15_eq (c : Dev nD) (t : Fin cfg0.N) (hf : (cfg0.win 15).flush t = true) :
    (dats m 0 c).flushed 15 t = ((cfg0.win 15).blk t).view.read (Elt Ideal) (res15 m c) := by
  rw [Value.flushed15, out_15]
  funext y
  rw [View.read_apply]
  have hi : ((cfg0.win 15).blk t).view.emb y = ((ix2 (row_352x1024 t (y 0)) (y 1)) : S352x1024.Idx) := by
    funext a
    apply Fin.ext
    match a with
    | ⟨0, _⟩ => show win0_15.index t 0 * 88 + 1 * (y 0).val = t.val * 88 + (y 0).val; rw [(idx15 t).1]; omega
    | ⟨1, _⟩ => show win0_15.index t 1 * 1024 + 1 * (y 1).val = (y 1).val; rw [(idx15 t).2]; omega
  have hy : (cfg0.win 15).xinj (grid0.coords t) y = (ix2 (y 0) (y 1) : S88x1024.Idx) := by
    funext a
    match a with
    | ⟨0, _⟩ => rfl
    | ⟨1, _⟩ => rfl
  refine Eq.trans ?_ (congrArg (res15 m c) hi.symm)
  refine Eq.trans (congrArg (fun j : S88x1024.Idx => (delta ((iblk m c 4 t : FVec Ideal S88x1024 .f32) j) ((iblk m c 5 t : FVec Ideal S88x1024 .f32) j) ((iblk m c 6 t : FVec Ideal S88x1024 .f32) j) ((iblk m c 7 t : FVec Ideal S88x1024 .f32) j) : EReal)) hy) ?_
  exact delta_congr (blk4 m c t (ix2 (y 0) (y 1) : S88x1024.Idx)) (blk5 m c t (ix2 (y 0) (y 1) : S88x1024.Idx)) (blk6 m c t (ix2 (y 0) (y 1) : S88x1024.Idx)) (blk7 m c t (ix2 (y 0) (y 1) : S88x1024.Idx))

theorem flush15 : ∀ t : Fin cfg0.N, (cfg0.win 15).flush t = true := (by decide +kernel : ∀ t : Fin grid0.N, (cfg0.win 15).flush t = true)

theorem final15 (c : Dev nD) : (dats m 0 c).arrAt 15 cfg0.N = (res15 m c : Vec Ideal S352x1024 .f32) :=
  (dats m 0 c).arrAt_eq_of_cover 15 _ (flushed15_eq m c) fun i => ⟨ptOf_352x1024 i, flush15 _, by
    show i ∈ ((View.whole main_v20_3).slice (win0_15.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_15.index (ptOf_352x1024 i) 0 * 88 ≤ (i 0 : Nat) ∧ (i 0 : Nat) < win0_15.index (ptOf_352x1024 i) 0 * 88 + 88
                rw [(idx15 (ptOf_352x1024 i)).1]; omega
    | ⟨1, _⟩ => show win0_15.index (ptOf_352x1024 i) 1 * 1024 ≤ (i 1 : Nat) ∧ (i 1 : Nat) < win0_15.index (ptOf_352x1024 i) 1 * 1024 + 1024
                rw [(idx15 (ptOf_352x1024 i)).2]; omega⟩

/-- Result 4 of the call, entry by entry. -/
def res16 (c : Dev nD) : Vec Ideal S352x1024 .f32 := fun i => (newM (X4 m c i) (X6 m c i) : EReal)

theorem flushed16_eq (c : Dev nD) (t : Fin cfg0.N) (hf : (cfg0.win 16).flush t = true) :
    (dats m 0 c).flushed 16 t = ((cfg0.win 16).blk t).view.read (Elt Ideal) (res16 m c) := by
  rw [Value.flushed16, out_16]
  funext y
  rw [View.read_apply]
  have hi : ((cfg0.win 16).blk t).view.emb y = ((ix2 (row_352x1024 t (y 0)) (y 1)) : S352x1024.Idx) := by
    funext a
    apply Fin.ext
    match a with
    | ⟨0, _⟩ => show win0_16.index t 0 * 88 + 1 * (y 0).val = t.val * 88 + (y 0).val; rw [(idx16 t).1]; omega
    | ⟨1, _⟩ => show win0_16.index t 1 * 1024 + 1 * (y 1).val = (y 1).val; rw [(idx16 t).2]; omega
  have hy : (cfg0.win 16).xinj (grid0.coords t) y = (ix2 (y 0) (y 1) : S88x1024.Idx) := by
    funext a
    match a with
    | ⟨0, _⟩ => rfl
    | ⟨1, _⟩ => rfl
  refine Eq.trans ?_ (congrArg (res16 m c) hi.symm)
  refine Eq.trans (congrArg (fun j : S88x1024.Idx => (newM ((iblk m c 4 t : FVec Ideal S88x1024 .f32) j) ((iblk m c 6 t : FVec Ideal S88x1024 .f32) j) : EReal)) hy) ?_
  exact newM_congr (blk4 m c t (ix2 (y 0) (y 1) : S88x1024.Idx)) (blk6 m c t (ix2 (y 0) (y 1) : S88x1024.Idx))

theorem flush16 : ∀ t : Fin cfg0.N, (cfg0.win 16).flush t = true := (by decide +kernel : ∀ t : Fin grid0.N, (cfg0.win 16).flush t = true)

theorem final16 (c : Dev nD) : (dats m 0 c).arrAt 16 cfg0.N = (res16 m c : Vec Ideal S352x1024 .f32) :=
  (dats m 0 c).arrAt_eq_of_cover 16 _ (flushed16_eq m c) fun i => ⟨ptOf_352x1024 i, flush16 _, by
    show i ∈ ((View.whole main_v20_4).slice (win0_16.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_16.index (ptOf_352x1024 i) 0 * 88 ≤ (i 0 : Nat) ∧ (i 0 : Nat) < win0_16.index (ptOf_352x1024 i) 0 * 88 + 88
                rw [(idx16 (ptOf_352x1024 i)).1]; omega
    | ⟨1, _⟩ => show win0_16.index (ptOf_352x1024 i) 1 * 1024 ≤ (i 1 : Nat) ∧ (i 1 : Nat) < win0_16.index (ptOf_352x1024 i) 1 * 1024 + 1024
                rw [(idx16 (ptOf_352x1024 i)).2]; omega⟩

/-- Result 5 of the call, entry by entry. -/
def res17 (c : Dev nD) : Vec Ideal S352x1024 .f32 := fun i => (newV (X4 m c i) (X7 m c i) : EReal)

theorem flushed17_eq (c : Dev nD) (t : Fin cfg0.N) (hf : (cfg0.win 17).flush t = true) :
    (dats m 0 c).flushed 17 t = ((cfg0.win 17).blk t).view.read (Elt Ideal) (res17 m c) := by
  rw [Value.flushed17, out_17]
  funext y
  rw [View.read_apply]
  have hi : ((cfg0.win 17).blk t).view.emb y = ((ix2 (row_352x1024 t (y 0)) (y 1)) : S352x1024.Idx) := by
    funext a
    apply Fin.ext
    match a with
    | ⟨0, _⟩ => show win0_17.index t 0 * 88 + 1 * (y 0).val = t.val * 88 + (y 0).val; rw [(idx17 t).1]; omega
    | ⟨1, _⟩ => show win0_17.index t 1 * 1024 + 1 * (y 1).val = (y 1).val; rw [(idx17 t).2]; omega
  have hy : (cfg0.win 17).xinj (grid0.coords t) y = (ix2 (y 0) (y 1) : S88x1024.Idx) := by
    funext a
    match a with
    | ⟨0, _⟩ => rfl
    | ⟨1, _⟩ => rfl
  refine Eq.trans ?_ (congrArg (res17 m c) hi.symm)
  refine Eq.trans (congrArg (fun j : S88x1024.Idx => (newV ((iblk m c 4 t : FVec Ideal S88x1024 .f32) j) ((iblk m c 7 t : FVec Ideal S88x1024 .f32) j) : EReal)) hy) ?_
  exact newV_congr (blk4 m c t (ix2 (y 0) (y 1) : S88x1024.Idx)) (blk7 m c t (ix2 (y 0) (y 1) : S88x1024.Idx))

theorem flush17 : ∀ t : Fin cfg0.N, (cfg0.win 17).flush t = true := (by decide +kernel : ∀ t : Fin grid0.N, (cfg0.win 17).flush t = true)

theorem final17 (c : Dev nD) : (dats m 0 c).arrAt 17 cfg0.N = (res17 m c : Vec Ideal S352x1024 .f32) :=
  (dats m 0 c).arrAt_eq_of_cover 17 _ (flushed17_eq m c) fun i => ⟨ptOf_352x1024 i, flush17 _, by
    show i ∈ ((View.whole main_v20_5).slice (win0_17.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_17.index (ptOf_352x1024 i) 0 * 88 ≤ (i 0 : Nat) ∧ (i 0 : Nat) < win0_17.index (ptOf_352x1024 i) 0 * 88 + 88
                rw [(idx17 (ptOf_352x1024 i)).1]; omega
    | ⟨1, _⟩ => show win0_17.index (ptOf_352x1024 i) 1 * 1024 ≤ (i 1 : Nat) ∧ (i 1 : Nat) < win0_17.index (ptOf_352x1024 i) 1 * 1024 + 1024
                rw [(idx17 (ptOf_352x1024 i)).2]; omega⟩

/-- Result 6 of the call, entry by entry. -/
def res18 (c : Dev nD) : Vec Ideal S352x1024 .f32 := fun i => (delta (X8 m c i) (X9 m c i) (X10 m c i) (X11 m c i) : EReal)

theorem flushed18_eq (c : Dev nD) (t : Fin cfg0.N) (hf : (cfg0.win 18).flush t = true) :
    (dats m 0 c).flushed 18 t = ((cfg0.win 18).blk t).view.read (Elt Ideal) (res18 m c) := by
  rw [Value.flushed18, out_18]
  funext y
  rw [View.read_apply]
  have hi : ((cfg0.win 18).blk t).view.emb y = ((ix2 (row_352x1024 t (y 0)) (y 1)) : S352x1024.Idx) := by
    funext a
    apply Fin.ext
    match a with
    | ⟨0, _⟩ => show win0_18.index t 0 * 88 + 1 * (y 0).val = t.val * 88 + (y 0).val; rw [(idx18 t).1]; omega
    | ⟨1, _⟩ => show win0_18.index t 1 * 1024 + 1 * (y 1).val = (y 1).val; rw [(idx18 t).2]; omega
  have hy : (cfg0.win 18).xinj (grid0.coords t) y = (ix2 (y 0) (y 1) : S88x1024.Idx) := by
    funext a
    match a with
    | ⟨0, _⟩ => rfl
    | ⟨1, _⟩ => rfl
  refine Eq.trans ?_ (congrArg (res18 m c) hi.symm)
  refine Eq.trans (congrArg (fun j : S88x1024.Idx => (delta ((iblk m c 8 t : FVec Ideal S88x1024 .f32) j) ((iblk m c 9 t : FVec Ideal S88x1024 .f32) j) ((iblk m c 10 t : FVec Ideal S88x1024 .f32) j) ((iblk m c 11 t : FVec Ideal S88x1024 .f32) j) : EReal)) hy) ?_
  exact delta_congr (blk8 m c t (ix2 (y 0) (y 1) : S88x1024.Idx)) (blk9 m c t (ix2 (y 0) (y 1) : S88x1024.Idx)) (blk10 m c t (ix2 (y 0) (y 1) : S88x1024.Idx)) (blk11 m c t (ix2 (y 0) (y 1) : S88x1024.Idx))

theorem flush18 : ∀ t : Fin cfg0.N, (cfg0.win 18).flush t = true := (by decide +kernel : ∀ t : Fin grid0.N, (cfg0.win 18).flush t = true)

theorem final18 (c : Dev nD) : (dats m 0 c).arrAt 18 cfg0.N = (res18 m c : Vec Ideal S352x1024 .f32) :=
  (dats m 0 c).arrAt_eq_of_cover 18 _ (flushed18_eq m c) fun i => ⟨ptOf_352x1024 i, flush18 _, by
    show i ∈ ((View.whole main_v20_6).slice (win0_18.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_18.index (ptOf_352x1024 i) 0 * 88 ≤ (i 0 : Nat) ∧ (i 0 : Nat) < win0_18.index (ptOf_352x1024 i) 0 * 88 + 88
                rw [(idx18 (ptOf_352x1024 i)).1]; omega
    | ⟨1, _⟩ => show win0_18.index (ptOf_352x1024 i) 1 * 1024 ≤ (i 1 : Nat) ∧ (i 1 : Nat) < win0_18.index (ptOf_352x1024 i) 1 * 1024 + 1024
                rw [(idx18 (ptOf_352x1024 i)).2]; omega⟩

/-- Result 7 of the call, entry by entry. -/
def res19 (c : Dev nD) : Vec Ideal S352x1024 .f32 := fun i => (newM (X8 m c i) (X10 m c i) : EReal)

theorem flushed19_eq (c : Dev nD) (t : Fin cfg0.N) (hf : (cfg0.win 19).flush t = true) :
    (dats m 0 c).flushed 19 t = ((cfg0.win 19).blk t).view.read (Elt Ideal) (res19 m c) := by
  rw [Value.flushed19, out_19]
  funext y
  rw [View.read_apply]
  have hi : ((cfg0.win 19).blk t).view.emb y = ((ix2 (row_352x1024 t (y 0)) (y 1)) : S352x1024.Idx) := by
    funext a
    apply Fin.ext
    match a with
    | ⟨0, _⟩ => show win0_19.index t 0 * 88 + 1 * (y 0).val = t.val * 88 + (y 0).val; rw [(idx19 t).1]; omega
    | ⟨1, _⟩ => show win0_19.index t 1 * 1024 + 1 * (y 1).val = (y 1).val; rw [(idx19 t).2]; omega
  have hy : (cfg0.win 19).xinj (grid0.coords t) y = (ix2 (y 0) (y 1) : S88x1024.Idx) := by
    funext a
    match a with
    | ⟨0, _⟩ => rfl
    | ⟨1, _⟩ => rfl
  refine Eq.trans ?_ (congrArg (res19 m c) hi.symm)
  refine Eq.trans (congrArg (fun j : S88x1024.Idx => (newM ((iblk m c 8 t : FVec Ideal S88x1024 .f32) j) ((iblk m c 10 t : FVec Ideal S88x1024 .f32) j) : EReal)) hy) ?_
  exact newM_congr (blk8 m c t (ix2 (y 0) (y 1) : S88x1024.Idx)) (blk10 m c t (ix2 (y 0) (y 1) : S88x1024.Idx))

theorem flush19 : ∀ t : Fin cfg0.N, (cfg0.win 19).flush t = true := (by decide +kernel : ∀ t : Fin grid0.N, (cfg0.win 19).flush t = true)

theorem final19 (c : Dev nD) : (dats m 0 c).arrAt 19 cfg0.N = (res19 m c : Vec Ideal S352x1024 .f32) :=
  (dats m 0 c).arrAt_eq_of_cover 19 _ (flushed19_eq m c) fun i => ⟨ptOf_352x1024 i, flush19 _, by
    show i ∈ ((View.whole main_v20_7).slice (win0_19.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_19.index (ptOf_352x1024 i) 0 * 88 ≤ (i 0 : Nat) ∧ (i 0 : Nat) < win0_19.index (ptOf_352x1024 i) 0 * 88 + 88
                rw [(idx19 (ptOf_352x1024 i)).1]; omega
    | ⟨1, _⟩ => show win0_19.index (ptOf_352x1024 i) 1 * 1024 ≤ (i 1 : Nat) ∧ (i 1 : Nat) < win0_19.index (ptOf_352x1024 i) 1 * 1024 + 1024
                rw [(idx19 (ptOf_352x1024 i)).2]; omega⟩

/-- Result 8 of the call, entry by entry. -/
def res20 (c : Dev nD) : Vec Ideal S352x1024 .f32 := fun i => (newV (X8 m c i) (X11 m c i) : EReal)

theorem flushed20_eq (c : Dev nD) (t : Fin cfg0.N) (hf : (cfg0.win 20).flush t = true) :
    (dats m 0 c).flushed 20 t = ((cfg0.win 20).blk t).view.read (Elt Ideal) (res20 m c) := by
  rw [Value.flushed20, out_20]
  funext y
  rw [View.read_apply]
  have hi : ((cfg0.win 20).blk t).view.emb y = ((ix2 (row_352x1024 t (y 0)) (y 1)) : S352x1024.Idx) := by
    funext a
    apply Fin.ext
    match a with
    | ⟨0, _⟩ => show win0_20.index t 0 * 88 + 1 * (y 0).val = t.val * 88 + (y 0).val; rw [(idx20 t).1]; omega
    | ⟨1, _⟩ => show win0_20.index t 1 * 1024 + 1 * (y 1).val = (y 1).val; rw [(idx20 t).2]; omega
  have hy : (cfg0.win 20).xinj (grid0.coords t) y = (ix2 (y 0) (y 1) : S88x1024.Idx) := by
    funext a
    match a with
    | ⟨0, _⟩ => rfl
    | ⟨1, _⟩ => rfl
  refine Eq.trans ?_ (congrArg (res20 m c) hi.symm)
  refine Eq.trans (congrArg (fun j : S88x1024.Idx => (newV ((iblk m c 8 t : FVec Ideal S88x1024 .f32) j) ((iblk m c 11 t : FVec Ideal S88x1024 .f32) j) : EReal)) hy) ?_
  exact newV_congr (blk8 m c t (ix2 (y 0) (y 1) : S88x1024.Idx)) (blk11 m c t (ix2 (y 0) (y 1) : S88x1024.Idx))

theorem flush20 : ∀ t : Fin cfg0.N, (cfg0.win 20).flush t = true := (by decide +kernel : ∀ t : Fin grid0.N, (cfg0.win 20).flush t = true)

theorem final20 (c : Dev nD) : (dats m 0 c).arrAt 20 cfg0.N = (res20 m c : Vec Ideal S352x1024 .f32) :=
  (dats m 0 c).arrAt_eq_of_cover 20 _ (flushed20_eq m c) fun i => ⟨ptOf_352x1024 i, flush20 _, by
    show i ∈ ((View.whole main_v20_8).slice (win0_20.rect (ptOf_352x1024 i))).set
    rw [View.set_slice_whole, Rect.mem_set_unit]
    intro a
    have h0 : (i 0 : Nat) < 352 := (i 0).isLt
    have h1 : (i 1 : Nat) < 1024 := (i 1).isLt
    have hp : (ptOf_352x1024 i).val = (i 0 : Nat) / 88 := rfl
    match a with
    | ⟨0, _⟩ => show win0_20.index (ptOf_352x1024 i) 0 * 88 ≤ (i 0 : Nat) ∧ (i 0 : Nat) < win0_20.index (ptOf_352x1024 i) 0 * 88 + 88
                rw [(idx20 (ptOf_352x1024 i)).1]; omega
    | ⟨1, _⟩ => show win0_20.index (ptOf_352x1024 i) 1 * 1024 ≤ (i 1 : Nat) ∧ (i 1 : Nat) < win0_20.index (ptOf_352x1024 i) 1 * 1024 + 1024
                rw [(idx20 (ptOf_352x1024 i)).2]; omega⟩

end Cert.AdamBIdeal.Hand

namespace Cert.Claims

open Idealize.ShloMosaic Idealize.ShloMosaic.TcCoe Idealize.SL.Sem Cert.Step

theorem adam_b_12 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v73 (F := Ideal) (Cert.AdamBIdeal.Hand.a0 m c) (Cert.AdamBIdeal.Hand.a1 m c) (Cert.AdamBIdeal.Hand.a2 m c) (Cert.AdamBIdeal.Hand.a3 m c) i = Cert.AdamBIdeal.Hand.res12 m c i := by
  unfold Cert.AdamBIdeal.Hand.res12 Cert.AdamBIdeal.Hand.X0 Cert.AdamBIdeal.Hand.X1 Cert.AdamBIdeal.Hand.X2 Cert.AdamBIdeal.Hand.X3 delta newM newV
  unfold Cert.AdamBRefIdeal.Read.val_main_v73 Cert.AdamBRefIdeal.Read.val_main_v72 Cert.AdamBRefIdeal.Read.val_main_v23 Cert.AdamBRefIdeal.Read.val_main_v22 Cert.AdamBRefIdeal.Read.val_main_cst_7 Cert.AdamBRefIdeal.Read.val_main_v21 Cert.AdamBRefIdeal.Read.val_main_v18 Cert.AdamBRefIdeal.Read.val_main_v12 Cert.AdamBRefIdeal.Read.val_main_v4 Cert.AdamBRefIdeal.Read.val_main_v1 Cert.AdamBRefIdeal.Read.val_main_v0 Cert.AdamBRefIdeal.Read.val_main_cst Cert.AdamBRefIdeal.Read.val_main_v3 Cert.AdamBRefIdeal.Read.val_main_v2 Cert.AdamBRefIdeal.Read.val_main_cst_0 Cert.AdamBRefIdeal.Read.val_main_v11 Cert.AdamBRefIdeal.Read.val_main_cst_3 Cert.AdamBRefIdeal.Read.val_main_v17 Cert.AdamBRefIdeal.Read.val_main_v15 Cert.AdamBRefIdeal.Read.val_main_v14 Cert.AdamBRefIdeal.Read.val_main_v10 Cert.AdamBRefIdeal.Read.val_main_v6 Cert.AdamBRefIdeal.Read.val_main_v5 Cert.AdamBRefIdeal.Read.val_main_cst_1 Cert.AdamBRefIdeal.Read.val_main_v9 Cert.AdamBRefIdeal.Read.val_main_v8 Cert.AdamBRefIdeal.Read.val_main_cst_2 Cert.AdamBRefIdeal.Read.val_main_v7 Cert.AdamBRefIdeal.Read.val_main_v13 Cert.AdamBRefIdeal.Read.val_main_cst_4 Cert.AdamBRefIdeal.Read.val_main_v16 Cert.AdamBRefIdeal.Read.val_main_cst_5 Cert.AdamBRefIdeal.Read.val_main_v20 Cert.AdamBRefIdeal.Read.val_main_v19 Cert.AdamBRefIdeal.Read.val_main_cst_6
  pointwise

theorem adam_b_13 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v75 (F := Ideal) (Cert.AdamBIdeal.Hand.a0 m c) (Cert.AdamBIdeal.Hand.a2 m c) i = Cert.AdamBIdeal.Hand.res13 m c i := by
  unfold Cert.AdamBIdeal.Hand.res13 Cert.AdamBIdeal.Hand.X0 Cert.AdamBIdeal.Hand.X2 newM
  unfold Cert.AdamBRefIdeal.Read.val_main_v75 Cert.AdamBRefIdeal.Read.val_main_v74 Cert.AdamBRefIdeal.Read.val_main_v4 Cert.AdamBRefIdeal.Read.val_main_v1 Cert.AdamBRefIdeal.Read.val_main_v0 Cert.AdamBRefIdeal.Read.val_main_cst Cert.AdamBRefIdeal.Read.val_main_v3 Cert.AdamBRefIdeal.Read.val_main_v2 Cert.AdamBRefIdeal.Read.val_main_cst_0
  pointwise

theorem adam_b_14 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v77 (F := Ideal) (Cert.AdamBIdeal.Hand.a0 m c) (Cert.AdamBIdeal.Hand.a3 m c) i = Cert.AdamBIdeal.Hand.res14 m c i := by
  unfold Cert.AdamBIdeal.Hand.res14 Cert.AdamBIdeal.Hand.X0 Cert.AdamBIdeal.Hand.X3 newV
  unfold Cert.AdamBRefIdeal.Read.val_main_v77 Cert.AdamBRefIdeal.Read.val_main_v76 Cert.AdamBRefIdeal.Read.val_main_v10 Cert.AdamBRefIdeal.Read.val_main_v6 Cert.AdamBRefIdeal.Read.val_main_v5 Cert.AdamBRefIdeal.Read.val_main_cst_1 Cert.AdamBRefIdeal.Read.val_main_v9 Cert.AdamBRefIdeal.Read.val_main_v8 Cert.AdamBRefIdeal.Read.val_main_cst_2 Cert.AdamBRefIdeal.Read.val_main_v7
  pointwise

theorem adam_b_15 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v79 (F := Ideal) (Cert.AdamBIdeal.Hand.a4 m c) (Cert.AdamBIdeal.Hand.a5 m c) (Cert.AdamBIdeal.Hand.a6 m c) (Cert.AdamBIdeal.Hand.a7 m c) i = Cert.AdamBIdeal.Hand.res15 m c i := by
  unfold Cert.AdamBIdeal.Hand.res15 Cert.AdamBIdeal.Hand.X4 Cert.AdamBIdeal.Hand.X5 Cert.AdamBIdeal.Hand.X6 Cert.AdamBIdeal.Hand.X7 delta newM newV
  unfold Cert.AdamBRefIdeal.Read.val_main_v79 Cert.AdamBRefIdeal.Read.val_main_v78 Cert.AdamBRefIdeal.Read.val_main_v47 Cert.AdamBRefIdeal.Read.val_main_v46 Cert.AdamBRefIdeal.Read.val_main_cst_16 Cert.AdamBRefIdeal.Read.val_main_v45 Cert.AdamBRefIdeal.Read.val_main_v42 Cert.AdamBRefIdeal.Read.val_main_v36 Cert.AdamBRefIdeal.Read.val_main_v28 Cert.AdamBRefIdeal.Read.val_main_v25 Cert.AdamBRefIdeal.Read.val_main_v24 Cert.AdamBRefIdeal.Read.val_main_cst_8 Cert.AdamBRefIdeal.Read.val_main_v27 Cert.AdamBRefIdeal.Read.val_main_v26 Cert.AdamBRefIdeal.Read.val_main_cst_9 Cert.AdamBRefIdeal.Read.val_main_v35 Cert.AdamBRefIdeal.Read.val_main_cst_12 Cert.AdamBRefIdeal.Read.val_main_v41 Cert.AdamBRefIdeal.Read.val_main_v39 Cert.AdamBRefIdeal.Read.val_main_v38 Cert.AdamBRefIdeal.Read.val_main_v34 Cert.AdamBRefIdeal.Read.val_main_v30 Cert.AdamBRefIdeal.Read.val_main_v29 Cert.AdamBRefIdeal.Read.val_main_cst_10 Cert.AdamBRefIdeal.Read.val_main_v33 Cert.AdamBRefIdeal.Read.val_main_v32 Cert.AdamBRefIdeal.Read.val_main_cst_11 Cert.AdamBRefIdeal.Read.val_main_v31 Cert.AdamBRefIdeal.Read.val_main_v37 Cert.AdamBRefIdeal.Read.val_main_cst_13 Cert.AdamBRefIdeal.Read.val_main_v40 Cert.AdamBRefIdeal.Read.val_main_cst_14 Cert.AdamBRefIdeal.Read.val_main_v44 Cert.AdamBRefIdeal.Read.val_main_v43 Cert.AdamBRefIdeal.Read.val_main_cst_15
  pointwise

theorem adam_b_16 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v81 (F := Ideal) (Cert.AdamBIdeal.Hand.a4 m c) (Cert.AdamBIdeal.Hand.a6 m c) i = Cert.AdamBIdeal.Hand.res16 m c i := by
  unfold Cert.AdamBIdeal.Hand.res16 Cert.AdamBIdeal.Hand.X4 Cert.AdamBIdeal.Hand.X6 newM
  unfold Cert.AdamBRefIdeal.Read.val_main_v81 Cert.AdamBRefIdeal.Read.val_main_v80 Cert.AdamBRefIdeal.Read.val_main_v28 Cert.AdamBRefIdeal.Read.val_main_v25 Cert.AdamBRefIdeal.Read.val_main_v24 Cert.AdamBRefIdeal.Read.val_main_cst_8 Cert.AdamBRefIdeal.Read.val_main_v27 Cert.AdamBRefIdeal.Read.val_main_v26 Cert.AdamBRefIdeal.Read.val_main_cst_9
  pointwise

theorem adam_b_17 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v83 (F := Ideal) (Cert.AdamBIdeal.Hand.a4 m c) (Cert.AdamBIdeal.Hand.a7 m c) i = Cert.AdamBIdeal.Hand.res17 m c i := by
  unfold Cert.AdamBIdeal.Hand.res17 Cert.AdamBIdeal.Hand.X4 Cert.AdamBIdeal.Hand.X7 newV
  unfold Cert.AdamBRefIdeal.Read.val_main_v83 Cert.AdamBRefIdeal.Read.val_main_v82 Cert.AdamBRefIdeal.Read.val_main_v34 Cert.AdamBRefIdeal.Read.val_main_v30 Cert.AdamBRefIdeal.Read.val_main_v29 Cert.AdamBRefIdeal.Read.val_main_cst_10 Cert.AdamBRefIdeal.Read.val_main_v33 Cert.AdamBRefIdeal.Read.val_main_v32 Cert.AdamBRefIdeal.Read.val_main_cst_11 Cert.AdamBRefIdeal.Read.val_main_v31
  pointwise

theorem adam_b_18 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v84 (F := Ideal) (Cert.AdamBIdeal.Hand.a8 m c) (Cert.AdamBIdeal.Hand.a9 m c) (Cert.AdamBIdeal.Hand.a10 m c) (Cert.AdamBIdeal.Hand.a11 m c) i = Cert.AdamBIdeal.Hand.res18 m c i := by
  unfold Cert.AdamBIdeal.Hand.res18 Cert.AdamBIdeal.Hand.X8 Cert.AdamBIdeal.Hand.X9 Cert.AdamBIdeal.Hand.X10 Cert.AdamBIdeal.Hand.X11 delta newM newV
  unfold Cert.AdamBRefIdeal.Read.val_main_v84 Cert.AdamBRefIdeal.Read.val_main_v71 Cert.AdamBRefIdeal.Read.val_main_v70 Cert.AdamBRefIdeal.Read.val_main_cst_25 Cert.AdamBRefIdeal.Read.val_main_v69 Cert.AdamBRefIdeal.Read.val_main_v66 Cert.AdamBRefIdeal.Read.val_main_v60 Cert.AdamBRefIdeal.Read.val_main_v52 Cert.AdamBRefIdeal.Read.val_main_v49 Cert.AdamBRefIdeal.Read.val_main_v48 Cert.AdamBRefIdeal.Read.val_main_cst_17 Cert.AdamBRefIdeal.Read.val_main_v51 Cert.AdamBRefIdeal.Read.val_main_v50 Cert.AdamBRefIdeal.Read.val_main_cst_18 Cert.AdamBRefIdeal.Read.val_main_v59 Cert.AdamBRefIdeal.Read.val_main_cst_21 Cert.AdamBRefIdeal.Read.val_main_v65 Cert.AdamBRefIdeal.Read.val_main_v63 Cert.AdamBRefIdeal.Read.val_main_v62 Cert.AdamBRefIdeal.Read.val_main_v58 Cert.AdamBRefIdeal.Read.val_main_v54 Cert.AdamBRefIdeal.Read.val_main_v53 Cert.AdamBRefIdeal.Read.val_main_cst_19 Cert.AdamBRefIdeal.Read.val_main_v57 Cert.AdamBRefIdeal.Read.val_main_v56 Cert.AdamBRefIdeal.Read.val_main_cst_20 Cert.AdamBRefIdeal.Read.val_main_v55 Cert.AdamBRefIdeal.Read.val_main_v61 Cert.AdamBRefIdeal.Read.val_main_cst_22 Cert.AdamBRefIdeal.Read.val_main_v64 Cert.AdamBRefIdeal.Read.val_main_cst_23 Cert.AdamBRefIdeal.Read.val_main_v68 Cert.AdamBRefIdeal.Read.val_main_v67 Cert.AdamBRefIdeal.Read.val_main_cst_24
  pointwise

theorem adam_b_19 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v85 (F := Ideal) (Cert.AdamBIdeal.Hand.a8 m c) (Cert.AdamBIdeal.Hand.a10 m c) i = Cert.AdamBIdeal.Hand.res19 m c i := by
  unfold Cert.AdamBIdeal.Hand.res19 Cert.AdamBIdeal.Hand.X8 Cert.AdamBIdeal.Hand.X10 newM
  unfold Cert.AdamBRefIdeal.Read.val_main_v85 Cert.AdamBRefIdeal.Read.val_main_v52 Cert.AdamBRefIdeal.Read.val_main_v49 Cert.AdamBRefIdeal.Read.val_main_v48 Cert.AdamBRefIdeal.Read.val_main_cst_17 Cert.AdamBRefIdeal.Read.val_main_v51 Cert.AdamBRefIdeal.Read.val_main_v50 Cert.AdamBRefIdeal.Read.val_main_cst_18
  pointwise

theorem adam_b_20 (m : (ℓ : Loc Cert.AdamBIdeal.nD Cert.AdamBIdeal.τ Cert.AdamBIdeal.sig) → Buf (Elt Ideal) ℓ) (c : Dev Cert.AdamBIdeal.nD)
    (i : Cert.AdamBIdeal.S352x1024.Idx) : Cert.AdamBRefIdeal.Read.val_main_v86 (F := Ideal) (Cert.AdamBIdeal.Hand.a8 m c) (Cert.AdamBIdeal.Hand.a11 m c) i = Cert.AdamBIdeal.Hand.res20 m c i := by
  unfold Cert.AdamBIdeal.Hand.res20 Cert.AdamBIdeal.Hand.X8 Cert.AdamBIdeal.Hand.X11 newV
  unfold Cert.AdamBRefIdeal.Read.val_main_v86 Cert.AdamBRefIdeal.Read.val_main_v58 Cert.AdamBRefIdeal.Read.val_main_v54 Cert.AdamBRefIdeal.Read.val_main_v53 Cert.AdamBRefIdeal.Read.val_main_cst_19 Cert.AdamBRefIdeal.Read.val_main_v57 Cert.AdamBRefIdeal.Read.val_main_v56 Cert.AdamBRefIdeal.Read.val_main_cst_20 Cert.AdamBRefIdeal.Read.val_main_v55
  pointwise

theorem adam_b : Cert.algebraic_AdamBIdeal_AdamBRefIdeal (hAdamBIdeal := Cert.AdamBIdeal.Gen.facts) (hAdamBRefIdeal := Cert.AdamBRefIdeal.Gen.facts) := by
  intro m g m' g' _ hargs
  refine ⟨fun c => (Cert.AdamBIdeal.Hand.res12 m c : Vec Ideal Cert.AdamBIdeal.S352x1024 .f32),
    fun c => (Cert.AdamBIdeal.Hand.res13 m c : Vec Ideal Cert.AdamBIdeal.S352x1024 .f32),
    fun c => (Cert.AdamBIdeal.Hand.res14 m c : Vec Ideal Cert.AdamBIdeal.S352x1024 .f32),
    fun c => (Cert.AdamBIdeal.Hand.res15 m c : Vec Ideal Cert.AdamBIdeal.S352x1024 .f32),
    fun c => (Cert.AdamBIdeal.Hand.res16 m c : Vec Ideal Cert.AdamBIdeal.S352x1024 .f32),
    fun c => (Cert.AdamBIdeal.Hand.res17 m c : Vec Ideal Cert.AdamBIdeal.S352x1024 .f32),
    fun c => (Cert.AdamBIdeal.Hand.res18 m c : Vec Ideal Cert.AdamBIdeal.S352x1024 .f32),
    fun c => (Cert.AdamBIdeal.Hand.res19 m c : Vec Ideal Cert.AdamBIdeal.S352x1024 .f32),
    fun c => (Cert.AdamBIdeal.Hand.res20 m c : Vec Ideal Cert.AdamBIdeal.S352x1024 .f32),
    (θ_run Cert.AdamBIdeal.defs _ _).mono (fun r h c => ?_) (Cert.AdamBIdeal.Value.run_blocks (F := Ideal) m g),
    (θ_run Cert.AdamBRefIdeal.defs _ _).mono (fun r h c => ?_) (Cert.AdamBRefIdeal.Value.run (F := Ideal) m' g')⟩
  · exact ⟨(h c).1.trans (Cert.AdamBIdeal.Hand.final12 m c), (h c).2.1.trans (Cert.AdamBIdeal.Hand.final13 m c), (h c).2.2.1.trans (Cert.AdamBIdeal.Hand.final14 m c), (h c).2.2.2.1.trans (Cert.AdamBIdeal.Hand.final15 m c), (h c).2.2.2.2.1.trans (Cert.AdamBIdeal.Hand.final16 m c), (h c).2.2.2.2.2.1.trans (Cert.AdamBIdeal.Hand.final17 m c), (h c).2.2.2.2.2.2.1.trans (Cert.AdamBIdeal.Hand.final18 m c), (h c).2.2.2.2.2.2.2.1.trans (Cert.AdamBIdeal.Hand.final19 m c), (h c).2.2.2.2.2.2.2.2.1.trans (Cert.AdamBIdeal.Hand.final20 m c), (h c).2.2.2.2.2.2.2.2.2⟩
  · obtain ⟨e0, e1, e2, e3, e4, e5, e6, e7, e8, e9, e10, e11⟩ := hargs c
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2⟩
    · rw [Cert.AdamBRefIdeal.Read.val_main_v73_eq, e0, e1, e2, e3]
      exact funext fun i => adam_b_12 m c i
    · rw [Cert.AdamBRefIdeal.Read.val_main_v75_eq, e0, e2]
      exact funext fun i => adam_b_13 m c i
    · rw [Cert.AdamBRefIdeal.Read.val_main_v77_eq, e0, e3]
      exact funext fun i => adam_b_14 m c i
    · rw [Cert.AdamBRefIdeal.Read.val_main_v79_eq, e4, e5, e6, e7]
      exact funext fun i => adam_b_15 m c i
    · rw [Cert.AdamBRefIdeal.Read.val_main_v81_eq, e4, e6]
      exact funext fun i => adam_b_16 m c i
    · rw [Cert.AdamBRefIdeal.Read.val_main_v83_eq, e4, e7]
      exact funext fun i => adam_b_17 m c i
    · rw [Cert.AdamBRefIdeal.Read.val_main_v84_eq, e8, e9, e10, e11]
      exact funext fun i => adam_b_18 m c i
    · rw [Cert.AdamBRefIdeal.Read.val_main_v85_eq, e8, e10]
      exact funext fun i => adam_b_19 m c i
    · rw [Cert.AdamBRefIdeal.Read.val_main_v86_eq, e8, e11]
      exact funext fun i => adam_b_20 m c i

end Cert.Claims

end
-- ==== Proof.AdamInValue.lean ====
/-
  The optimiser's step on the input projection: what the kernel's result arrays hold, entry by entry, and that the
  reference's hold the same.
-/
module

public import proofs.«01_k».proof.Defs
public import proofs.«01_k».proof.Proof.Step
public import proofs.«01_k».proof.Proof.Gen.AdamInIdeal.Value
public import proofs.«01_k».proof.Proof.Gen.AdamInRefIdeal.Run
public import proofs.«01_k».proof.Proof.Gen.AdamInRefIdeal.Read
public import Idealize.ShloMosaic.Lib.Pointwise
public import Idealize.ShloMosaic.Lib.Tactic

@[expose] public section

noncomputable section

namespace Cert.AdamInIdeal.Hand

open Cert.AdamInIdeal Cert.AdamInIdeal.Gen Idealize.ShloMosaic Idealize.ShloMosaic.TcCoe Idealize.SL.Sem Cert.Step
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

section

variable (x0 : Vec Ideal S193x1x1024 .f32) (x1 : Vec Ideal S193x1x1024 .f32) (x2 : Vec Ideal S193x1x1024 .f32) (x3 : Vec Ideal S193x1x1024 .f32)

theorem out_4 :
    out0_4 (F := Ideal) x0 x1 x2 x3 = (fun j => (delta (x0 j) (x1 j) (x2 j) (x3 j) : EReal) : Vec Ideal S193x1x1024 .f32) := by
  unfold out0_4
  rw [View.canon_unit_zero (S := S193x1x1024) hz3]
  simp only [View.ld_unit_zero (S := S193x1x1024) hz3]
  funext j
  unfold_payloads
  unfold delta newM newV
  pointwise

theorem out_5 :
    out0_5 (F := Ideal) x0 x1 x2 x3 = (fun j => (newM (x0 j) (x2 j) : EReal) : Vec Ideal S193x1x1024 .f32) := by
  unfold out0_5
  rw [View.canon_unit_zero (S := S193x1x1024) hz3]
  simp only [View.ld_unit_zero (S := S193x1x1024) hz3]
  funext j
  unfold_payloads
  unfold newM
  pointwise

theorem out_6 :
    out0_6 (F := Ideal) x0 x1 x2 x3 = (fun j => (newV (x0 j) (x3 j) : EReal) : Vec Ideal S193x1x1024 .f32) := by
  unfold out0_6
  rw [View.canon_unit_zero (S := S193x1x1024) hz3]
  simp only [View.ld_unit_zero (S := S193x1x1024) hz3]
  funext j
  unfold_payloads
  unfold newV
  pointwise

end

/-- The grid point whose block holds an entry. -/
def ptOf_386x1x1024 (i : S386x1x1024.Idx) : Fin cfg0.N :=
  ⟨(i 0).val / 193, by have h : cfg0.N = 2 := N_0; have h0 : (i 0).val < 386 := (i 0).isLt; omega⟩

/-- Row `r` of the block at point `t`. -/
def row_386x1x1024 (t : Fin cfg0.N) (r : Fin 193) : Fin 386 :=
  ⟨t.val * 193 + r.val, by have h := t.isLt; have h' : cfg0.N = 2 := N_0; have := r.isLt; omega⟩

theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)

abbrev a0 (c : Dev nD) : FVec Ideal S1x1024x386 .f32 := m ((c : Thread nD τ).loc main_arg0)
/-- The array the call takes as its operand 0. -/
def X0 (c : Dev nD) : FVec Ideal S386x1x1024 .f32 := transpose S386x1x1024 [2, 0, 1] (a0 m c) transposes_S1x1024x386_S386x1x1024_2_0_1
theorem V0 (c : Dev nD) : (V m c main_v0 : FVec Ideal S386x1x1024 .f32) = X0 m c := by
  unfold X0
  show StableHlo.after hostOps0 _ _ = _
  after_results <;> rfl
theorem blk0 (c : Dev nD) (t : Fin cfg0.N) (y : S193x1x1024.Idx) :
    ((iblk m c 0 t : FVec Ideal S193x1x1024 .f32) y : EReal) = X0 m c (ix3 (row_386x1x1024 t (y 0)) (y 1) (y 2)) := by
  rw [← V0 m c]
  unfold iblk
  rw [View.read_apply]
  show V m c main_v0 _ = V m c main_v0 _
  congr 1
  funext a
  apply Fin.ext
  match a with
  | ⟨0, _⟩ => show win0_0.index t 0 * 193 + 1 * (y 0).val = t.val * 193 + (y 0).val; rw [(idx0 t).1]; omega
  | ⟨1, _⟩ => show win0_0.index t 1 * 1 + 1 * (y 1).val = (y 1).val; rw [(idx0 t).2.1]; omega
  | ⟨2, _⟩ => show win0_0.index t 2 * 1024 + 1 * (y 2).val = (y 2).val; rw [(idx0 t).2.2]; omega

abbrev a1 (c : Dev nD) : FVec Ideal S1x1024x386 .f32 := m ((c : Thread nD τ).loc main_arg1)
/-- The array the call takes as its operand 1. -/
def X1 (c : Dev nD) : FVec Ideal S386x1x1024 .f32 := transpose S386x1x1024 [2, 0, 1] (a1 m c) transposes_S1x1024x386_S386x1x1024_2_0_1
theorem V1 (c : Dev nD) : (V m c main_v1 : FVec Ideal S386x1x1024 .f32) = X1 m c := by
  unfold X1
  show StableHlo.after hostOps0 _ _ = _
  after_results <;> rfl
theorem blk1 (c : Dev nD) (t : Fin cfg0.N) (y : S193x1x1024.Idx) :
    ((iblk m c 1 t : FVec Ideal S193x1x1024 .f32) y : EReal) = X1 m c (ix3 (row_386x1x1024 t (y 0)) (y 1) (y 2)) := by
  rw [← V1 m c]
  unfold iblk
  rw [View.read_apply]
  show V m c main_v1 _ = V m c main_v1 _
  congr 1
  funext a
  apply Fin.ext
  match a with
  | ⟨0, _⟩ => show win0_1.index t 0 * 193 + 1 * (y 0).val = t.val * 193 + (y 0).val; rw [(idx1 t).1]; omega
  | ⟨1, _⟩ => show win0_1.index t 1 * 1 + 1 * (y 1).val = (y 1).val; rw [(idx1 t).2.1]; omega
  | ⟨2, _⟩ => show win0_1.index t 2 * 1024 + 1 * (y 2).val = (y 2).val; rw [(idx1 t).2.2]; omega

abbrev a2 (c : Dev nD) : FVec Ideal S1x1024x386 .f32 := m ((c : Thread nD τ).loc main_arg2)
/-- The array the call takes as its operand 2. -/
def X2 (c : Dev nD) : FVec Ideal S386x1x1024 .f32 := transpose S386x1x1024 [2, 0, 1] (a2 m c) transposes_S1x1024x386_S386x1x1024_2_0_1
theorem V2 (c : Dev nD) : (V m c main_v2 : FVec Ideal S386x1x1024 .f32) = X2 m c := by
  unfold X2
  show StableHlo.after hostOps0 _ _ = _
  after_results <;> rfl
theorem blk2 (c : Dev nD) (t : Fin cfg0.N) (y : S193x1x1024.Idx) :
    ((iblk m c 2 t : FVec Ideal S193x1x1024 .f32) y : EReal) = X2 m c (ix3 (row_386x1x1024 t (y 0)) (y 1) (y 2)) := by
  rw [← V2 m c]
  unfold iblk
  rw [View.read_apply]
  show V m c main_v2 _ = V m c main_v2 _
  congr 1
  funext a
  apply Fin.ext
  match a with
  | ⟨0, _⟩ => show win0_2.index t 0 * 193 + 1 * (y 0).val = t.val * 193 + (y 0).val; rw [(idx2 t).1]; omega
  | ⟨1, _⟩ => show win0_2.index t 1 * 1 + 1 * (y 1).val = (y 1).val; rw [(idx2 t).2.1]; omega
  | ⟨2, _⟩ => show win0_2.index t 2 * 1024 + 1 * (y 2).val = (y 2).val; rw [(idx2 t).2.2]; omega

abbrev a3 (c : Dev nD) : FVec Ideal S1x1024x386 .f32 := m ((c : Thread nD τ).loc main_arg3)
/-- The array the call takes as its operand 3. -/
def X3 (c : Dev nD) : FVec Ideal S386x1x1024 .f32 := transpose S386x1x1024 [2, 0, 1] (a3 m c) transposes_S1x1024x386_S386x1x1024_2_0_1
theorem V3 (c : Dev nD) : (V m c main_v3 : FVec Ideal S386x1x1024 .f32) = X3 m c := by
  unfold X3
  show StableHlo.after hostOps0 _ _ = _
  after_results <;> rfl
theorem blk3 (c : Dev nD) (t : Fin cfg0.N) (y : S193x1x1024.Idx) :
    ((iblk m c 3 t : FVec Ideal S193x1x1024 .f32) y : EReal) = X3 m c (ix3 (row_386x1x1024 t (y 0)) (y 1) (y 2)) := by
  rw [← V3 m c]
  unfold iblk
  rw [View.read_apply]
  show V m c main_v3 _ = V m c main_v3 _
  congr 1
  funext a
  apply Fin.ext
  match a with
  | ⟨0, _⟩ => show win0_3.index t 0 * 193 + 1 * (y 0).val = t.val * 193 + (y 0).val; rw [(idx3 t).1]; omega
  | ⟨1, _⟩ => show win0_3.index t 1 * 1 + 1 * (y 1).val = (y 1).val; rw [(idx3 t).2.1]; omega
  | ⟨2, _⟩ => show win0_3.index t 2 * 1024 + 1 * (y 2).val = (y 2).val; rw [(idx3 t).2.2]; omega

/-- Result 0 of the call, entry by entry. -/
def res4 (c : Dev nD) : Vec Ideal S386x1x1024 .f32 := fun i => (delta (X0 m c i) (X1 m c i) (X2 m c i) (X3 m c i) : EReal)

theorem flushed4_eq (c : Dev nD) (t : Fin cfg0.N) (hf : (cfg0.win 4).flush t = true) :
    (dats m 0 c).flushed 4 t = ((cfg0.win 4).blk t).view.read (Elt Ideal) (res4 m c) := by
  rw [Value.flushed4, out_4]
  funext y
  rw [View.read_apply]
  have hi : ((cfg0.win 4).blk t).view.emb y = ((ix3 (row_386x1x1024 t (y 0)) (y 1) (y 2)) : S386x1x1024.Idx) := by
    funext a
    apply Fin.ext
    match a with
    | ⟨0, _⟩ => show win0_4.index t 0 * 193 + 1 * (y 0).val = t.val * 193 + (y 0).val; rw [(idx4 t).1]; omega
    | ⟨1, _⟩ => show win0_4.index t 1 * 1 + 1 * (y 1).val = (y 1).val; rw [(idx4 t).2.1]; omega
    | ⟨2, _⟩ => show win0_4.index t 2 * 1024 + 1 * (y 2).val = (y 2).val; rw [(idx4 t).2.2]; omega
  have hy : (cfg0.win 4).xinj (grid0.coords t) y = (ix3 (y 0) (y 1) (y 2) : S193x1x1024.Idx) := by
    funext a
    match a with
    | ⟨0, _⟩ => rfl
    | ⟨1, _⟩ => rfl
    | ⟨2, _⟩ => rfl
  refine Eq.trans ?_ (congrArg (res4 m c) hi.symm)
  refine Eq.trans (congrArg (fun j : S193x1x1024.Idx => (delta ((iblk m c 0 t : FVec Ideal S193x1x1024 .f32) j) ((iblk m c 1 t : FVec Ideal S193x1x1024 .f32) j) ((iblk m c 2 t : FVec Ideal S193x1x1024 .f32) j) ((iblk m c 3 t : FVec Ideal S193x1x1024 .f32) j) : EReal)) hy) ?_
  exact delta_congr (blk0 m c t (ix3 (y 0) (y 1) (y 2) : S193x1x1024.Idx)) (blk1 m c t (ix3 (y 0) (y 1) (y 2) : S193x1x1024.Idx)) (blk2 m c t (ix3 (y 0) (y 1) (y 2) : S193x1x1024.Idx)) (blk3 m c t (ix3 (y 0) (y 1) (y 2) : S193x1x1024.Idx))

theorem flush4 : ∀ t : Fin cfg0.N, (cfg0.win 4).flush t = true := (by decide +kernel : ∀ t : Fin grid0.N, (cfg0.win 4).flush t = true)

theorem final4 (c : Dev nD) : (dats m 0 c).arrAt 4 cfg0.N = (res4 m c : Vec Ideal S386x1x1024 .f32) :=
  (dats m 0 c).arrAt_eq_of_cover 4 _ (flushed4_eq m c) fun i => ⟨ptOf_386x1x1024 i, flush4 _, by
    show i ∈ ((View.whole main_v4_0).slice (win0_4.rect (ptOf_386x1x1024 i))).set
    rw [View.set_slice_whole, Rect.mem_set_unit]
    intro a
    have h0 : (i 0 : Nat) < 386 := (i 0).isLt
    have h1 : (i 1 : Nat) < 1 := (i 1).isLt
    have h2 : (i 2 : Nat) < 1024 := (i 2).isLt
    have hp : (ptOf_386x1x1024 i).val = (i 0 : Nat) / 193 := rfl
    match a with
    | ⟨0, _⟩ => show win0_4.index (ptOf_386x1x1024 i) 0 * 193 ≤ (i 0 : Nat) ∧ (i 0 : Nat) < win0_4.index (ptOf_386x1x1024 i) 0 * 193 + 193
                rw [(idx4 (ptOf_386x1x1024 i)).1]; omega
    | ⟨1, _⟩ => show win0_4.index (ptOf_386x1x1024 i) 1 * 1 ≤ (i 1 : Nat) ∧ (i 1 : Nat) < win0_4.index (ptOf_386x1x1024 i) 1 * 1 + 1
                rw [(idx4 (ptOf_386x1x1024 i)).2.1]; omega
    | ⟨2, _⟩ => show win0_4.index (ptOf_386x1x1024 i) 2 * 1024 ≤ (i 2 : Nat) ∧ (i 2 : Nat) < win0_4.index (ptOf_386x1x1024 i) 2 * 1024 + 1024
                rw [(idx4 (ptOf_386x1x1024 i)).2.2]; omega⟩

/-- Result 1 of the call, entry by entry. -/
def res5 (c : Dev nD) : Vec Ideal S386x1x1024 .f32 := fun i => (newM (X0 m c i) (X2 m c i) : EReal)

theorem flushed5_eq (c : Dev nD) (t : Fin cfg0.N) (hf : (cfg0.win 5).flush t = true) :
    (dats m 0 c).flushed 5 t = ((cfg0.win 5).blk t).view.read (Elt Ideal) (res5 m c) := by
  rw [Value.flushed5, out_5]
  funext y
  rw [View.read_apply]
  have hi : ((cfg0.win 5).blk t).view.emb y = ((ix3 (row_386x1x1024 t (y 0)) (y 1) (y 2)) : S386x1x1024.Idx) := by
    funext a
    apply Fin.ext
    match a with
    | ⟨0, _⟩ => show win0_5.index t 0 * 193 + 1 * (y 0).val = t.val * 193 + (y 0).val; rw [(idx5 t).1]; omega
    | ⟨1, _⟩ => show win0_5.index t 1 * 1 + 1 * (y 1).val = (y 1).val; rw [(idx5 t).2.1]; omega
    | ⟨2, _⟩ => show win0_5.index t 2 * 1024 + 1 * (y 2).val = (y 2).val; rw [(idx5 t).2.2]; omega
  have hy : (cfg0.win 5).xinj (grid0.coords t) y = (ix3 (y 0) (y 1) (y 2) : S193x1x1024.Idx) := by
    funext a
    match a with
    | ⟨0, _⟩ => rfl
    | ⟨1, _⟩ => rfl
    | ⟨2, _⟩ => rfl
  refine Eq.trans ?_ (congrArg (res5 m c) hi.symm)
  refine Eq.trans (congrArg (fun j : S193x1x1024.Idx => (newM ((iblk m c 0 t : FVec Ideal S193x1x1024 .f32) j) ((iblk m c 2 t : FVec Ideal S193x1x1024 .f32) j) : EReal)) hy) ?_
  exact newM_congr (blk0 m c t (ix3 (y 0) (y 1) (y 2) : S193x1x1024.Idx)) (blk2 m c t (ix3 (y 0) (y 1) (y 2) : S193x1x1024.Idx))

theorem flush5 : ∀ t : Fin cfg0.N, (cfg0.win 5).flush t = true := (by decide +kernel : ∀ t : Fin grid0.N, (cfg0.win 5).flush t = true)

theorem final5 (c : Dev nD) : (dats m 0 c).arrAt 5 cfg0.N = (res5 m c : Vec Ideal S386x1x1024 .f32) :=
  (dats m 0 c).arrAt_eq_of_cover 5 _ (flushed5_eq m c) fun i => ⟨ptOf_386x1x1024 i, flush5 _, by
    show i ∈ ((View.whole main_v4_1).slice (win0_5.rect (ptOf_386x1x1024 i))).set
    rw [View.set_slice_whole, Rect.mem_set_unit]
    intro a
    have h0 : (i 0 : Nat) < 386 := (i 0).isLt
    have h1 : (i 1 : Nat) < 1 := (i 1).isLt
    have h2 : (i 2 : Nat) < 1024 := (i 2).isLt
    have hp : (ptOf_386x1x1024 i).val = (i 0 : Nat) / 193 := rfl
    match a with
    | ⟨0, _⟩ => show win0_5.index (ptOf_386x1x1024 i) 0 * 193 ≤ (i 0 : Nat) ∧ (i 0 : Nat) < win0_5.index (ptOf_386x1x1024 i) 0 * 193 + 193
                rw [(idx5 (ptOf_386x1x1024 i)).1]; omega
    | ⟨1, _⟩ => show win0_5.index (ptOf_386x1x1024 i) 1 * 1 ≤ (i 1 : Nat) ∧ (i 1 : Nat) < win0_5.index (ptOf_386x1x1024 i) 1 * 1 + 1
                rw [(idx5 (ptOf_386x1x1024 i)).2.1]; omega
    | ⟨2, _⟩ => show win0_5.index (ptOf_386x1x1024 i) 2 * 1024 ≤ (i 2 : Nat) ∧ (i 2 : Nat) < win0_5.index (ptOf_386x1x1024 i) 2 * 1024 + 1024
                rw [(idx5 (ptOf_386x1x1024 i)).2.2]; omega⟩

/-- Result 2 of the call, entry by entry. -/
def res6 (c : Dev nD) : Vec Ideal S386x1x1024 .f32 := fun i => (newV (X0 m c i) (X3 m c i) : EReal)

theorem flushed6_eq (c : Dev nD) (t : Fin cfg0.N) (hf : (cfg0.win 6).flush t = true) :
    (dats m 0 c).flushed 6 t = ((cfg0.win 6).blk t).view.read (Elt Ideal) (res6 m c) := by
  rw [Value.flushed6, out_6]
  funext y
  rw [View.read_apply]
  have hi : ((cfg0.win 6).blk t).view.emb y = ((ix3 (row_386x1x1024 t (y 0)) (y 1) (y 2)) : S386x1x1024.Idx) := by
    funext a
    apply Fin.ext
    match a with
    | ⟨0, _⟩ => show win0_6.index t 0 * 193 + 1 * (y 0).val = t.val * 193 + (y 0).val; rw [(idx6 t).1]; omega
    | ⟨1, _⟩ => show win0_6.index t 1 * 1 + 1 * (y 1).val = (y 1).val; rw [(idx6 t).2.1]; omega
    | ⟨2, _⟩ => show win0_6.index t 2 * 1024 + 1 * (y 2).val = (y 2).val; rw [(idx6 t).2.2]; omega
  have hy : (cfg0.win 6).xinj (grid0.coords t) y = (ix3 (y 0) (y 1) (y 2) : S193x1x1024.Idx) := by
    funext a
    match a with
    | ⟨0, _⟩ => rfl
    | ⟨1, _⟩ => rfl
    | ⟨2, _⟩ => rfl
  refine Eq.trans ?_ (congrArg (res6 m c) hi.symm)
  refine Eq.trans (congrArg (fun j : S193x1x1024.Idx => (newV ((iblk m c 0 t : FVec Ideal S193x1x1024 .f32) j) ((iblk m c 3 t : FVec Ideal S193x1x1024 .f32) j) : EReal)) hy) ?_
  exact newV_congr (blk0 m c t (ix3 (y 0) (y 1) (y 2) : S193x1x1024.Idx)) (blk3 m c t (ix3 (y 0) (y 1) (y 2) : S193x1x1024.Idx))

theorem flush6 : ∀ t : Fin cfg0.N, (cfg0.win 6).flush t = true := (by decide +kernel : ∀ t : Fin grid0.N, (cfg0.win 6).flush t = true)

theorem final6 (c : Dev nD) : (dats m 0 c).arrAt 6 cfg0.N = (res6 m c : Vec Ideal S386x1x1024 .f32) :=
  (dats m 0 c).arrAt_eq_of_cover 6 _ (flushed6_eq m c) fun i => ⟨ptOf_386x1x1024 i, flush6 _, by
    show i ∈ ((View.whole main_v4_2).slice (win0_6.rect (ptOf_386x1x1024 i))).set
    rw [View.set_slice_whole, Rect.mem_set_unit]
    intro a
    have h0 : (i 0 : Nat) < 386 := (i 0).isLt
    have h1 : (i 1 : Nat) < 1 := (i 1).isLt
    have h2 : (i 2 : Nat) < 1024 := (i 2).isLt
    have hp : (ptOf_386x1x1024 i).val = (i 0 : Nat) / 193 := rfl
    match a with
    | ⟨0, _⟩ => show win0_6.index (ptOf_386x1x1024 i) 0 * 193 ≤ (i 0 : Nat) ∧ (i 0 : Nat) < win0_6.index (ptOf_386x1x1024 i) 0 * 193 + 193
                rw [(idx6 (ptOf_386x1x1024 i)).1]; omega
    | ⟨1, _⟩ => show win0_6.index (ptOf_386x1x1024 i) 1 * 1 ≤ (i 1 : Nat) ∧ (i 1 : Nat) < win0_6.index (ptOf_386x1x1024 i) 1 * 1 + 1
                rw [(idx6 (ptOf_386x1x1024 i)).2.1]; omega
    | ⟨2, _⟩ => show win0_6.index (ptOf_386x1x1024 i) 2 * 1024 ≤ (i 2 : Nat) ∧ (i 2 : Nat) < win0_6.index (ptOf_386x1x1024 i) 2 * 1024 + 1024
                rw [(idx6 (ptOf_386x1x1024 i)).2.2]; omega⟩

end Cert.AdamInIdeal.Hand

namespace Cert.Claims

open Idealize.ShloMosaic Idealize.ShloMosaic.TcCoe Idealize.SL.Sem Cert.Step

theorem adam_in_4 (m : (ℓ : Loc Cert.AdamInIdeal.nD Cert.AdamInIdeal.τ Cert.AdamInIdeal.sig) → Buf (Elt Ideal) ℓ) (c : Dev Cert.AdamInIdeal.nD)
    (i : Cert.AdamInIdeal.S386x1x1024.Idx) : Cert.AdamInRefIdeal.Read.val_main_v24 (F := Ideal) (Cert.AdamInIdeal.Hand.a0 m c) (Cert.AdamInIdeal.Hand.a1 m c) (Cert.AdamInIdeal.Hand.a2 m c) (Cert.AdamInIdeal.Hand.a3 m c) i = Cert.AdamInIdeal.Hand.res4 m c i := by
  unfold Cert.AdamInIdeal.Hand.res4 Cert.AdamInIdeal.Hand.X0 Cert.AdamInIdeal.Hand.X1 Cert.AdamInIdeal.Hand.X2 Cert.AdamInIdeal.Hand.X3 delta newM newV
  unfold Cert.AdamInRefIdeal.Read.val_main_v24 Cert.AdamInRefIdeal.Read.val_main_v23 Cert.AdamInRefIdeal.Read.val_main_v22 Cert.AdamInRefIdeal.Read.val_main_cst_7 Cert.AdamInRefIdeal.Read.val_main_v21 Cert.AdamInRefIdeal.Read.val_main_v18 Cert.AdamInRefIdeal.Read.val_main_v12 Cert.AdamInRefIdeal.Read.val_main_v4 Cert.AdamInRefIdeal.Read.val_main_v1 Cert.AdamInRefIdeal.Read.val_main_v0 Cert.AdamInRefIdeal.Read.val_main_cst Cert.AdamInRefIdeal.Read.val_main_v3 Cert.AdamInRefIdeal.Read.val_main_v2 Cert.AdamInRefIdeal.Read.val_main_cst_0 Cert.AdamInRefIdeal.Read.val_main_v11 Cert.AdamInRefIdeal.Read.val_main_cst_3 Cert.AdamInRefIdeal.Read.val_main_v17 Cert.AdamInRefIdeal.Read.val_main_v15 Cert.AdamInRefIdeal.Read.val_main_v14 Cert.AdamInRefIdeal.Read.val_main_v10 Cert.AdamInRefIdeal.Read.val_main_v6 Cert.AdamInRefIdeal.Read.val_main_v5 Cert.AdamInRefIdeal.Read.val_main_cst_1 Cert.AdamInRefIdeal.Read.val_main_v9 Cert.AdamInRefIdeal.Read.val_main_v8 Cert.AdamInRefIdeal.Read.val_main_cst_2 Cert.AdamInRefIdeal.Read.val_main_v7 Cert.AdamInRefIdeal.Read.val_main_v13 Cert.AdamInRefIdeal.Read.val_main_cst_4 Cert.AdamInRefIdeal.Read.val_main_v16 Cert.AdamInRefIdeal.Read.val_main_cst_5 Cert.AdamInRefIdeal.Read.val_main_v20 Cert.AdamInRefIdeal.Read.val_main_v19 Cert.AdamInRefIdeal.Read.val_main_cst_6
  pointwise

theorem adam_in_5 (m : (ℓ : Loc Cert.AdamInIdeal.nD Cert.AdamInIdeal.τ Cert.AdamInIdeal.sig) → Buf (Elt Ideal) ℓ) (c : Dev Cert.AdamInIdeal.nD)
    (i : Cert.AdamInIdeal.S386x1x1024.Idx) : Cert.AdamInRefIdeal.Read.val_main_v25 (F := Ideal) (Cert.AdamInIdeal.Hand.a0 m c) (Cert.AdamInIdeal.Hand.a2 m c) i = Cert.AdamInIdeal.Hand.res5 m c i := by
  unfold Cert.AdamInIdeal.Hand.res5 Cert.AdamInIdeal.Hand.X0 Cert.AdamInIdeal.Hand.X2 newM
  unfold Cert.AdamInRefIdeal.Read.val_main_v25 Cert.AdamInRefIdeal.Read.val_main_v4 Cert.AdamInRefIdeal.Read.val_main_v1 Cert.AdamInRefIdeal.Read.val_main_v0 Cert.AdamInRefIdeal.Read.val_main_cst Cert.AdamInRefIdeal.Read.val_main_v3 Cert.AdamInRefIdeal.Read.val_main_v2 Cert.AdamInRefIdeal.Read.val_main_cst_0
  pointwise

theorem adam_in_6 (m : (ℓ : Loc Cert.AdamInIdeal.nD Cert.AdamInIdeal.τ Cert.AdamInIdeal.sig) → Buf (Elt Ideal) ℓ) (c : Dev Cert.AdamInIdeal.nD)
    (i : Cert.AdamInIdeal.S386x1x1024.Idx) : Cert.AdamInRefIdeal.Read.val_main_v26 (F := Ideal) (Cert.AdamInIdeal.Hand.a0 m c) (Cert.AdamInIdeal.Hand.a3 m c) i = Cert.AdamInIdeal.Hand.res6 m c i := by
  unfold Cert.AdamInIdeal.Hand.res6 Cert.AdamInIdeal.Hand.X0 Cert.AdamInIdeal.Hand.X3 newV
  unfold Cert.AdamInRefIdeal.Read.val_main_v26 Cert.AdamInRefIdeal.Read.val_main_v10 Cert.AdamInRefIdeal.Read.val_main_v6 Cert.AdamInRefIdeal.Read.val_main_v5 Cert.AdamInRefIdeal.Read.val_main_cst_1 Cert.AdamInRefIdeal.Read.val_main_v9 Cert.AdamInRefIdeal.Read.val_main_v8 Cert.AdamInRefIdeal.Read.val_main_cst_2 Cert.AdamInRefIdeal.Read.val_main_v7
  pointwise

theorem adam_in : Cert.algebraic_AdamInIdeal_AdamInRefIdeal (hAdamInIdeal := Cert.AdamInIdeal.Gen.facts) (hAdamInRefIdeal := Cert.AdamInRefIdeal.Gen.facts) := by
  intro m g m' g' _ hargs
  refine ⟨fun c => (Cert.AdamInIdeal.Hand.res4 m c : Vec Ideal Cert.AdamInIdeal.S386x1x1024 .f32),
    fun c => (Cert.AdamInIdeal.Hand.res5 m c : Vec Ideal Cert.AdamInIdeal.S386x1x1024 .f32),
    fun c => (Cert.AdamInIdeal.Hand.res6 m c : Vec Ideal Cert.AdamInIdeal.S386x1x1024 .f32),
    (θ_run Cert.AdamInIdeal.defs _ _).mono (fun r h c => ?_) (Cert.AdamInIdeal.Value.run_blocks (F := Ideal) m g),
    (θ_run Cert.AdamInRefIdeal.defs _ _).mono (fun r h c => ?_) (Cert.AdamInRefIdeal.Value.run (F := Ideal) m' g')⟩
  · exact ⟨(h c).1.trans (Cert.AdamInIdeal.Hand.final4 m c), (h c).2.1.trans (Cert.AdamInIdeal.Hand.final5 m c), (h c).2.2.1.trans (Cert.AdamInIdeal.Hand.final6 m c), (h c).2.2.2⟩
  · obtain ⟨e0, e1, e2, e3⟩ := hargs c
    refine ⟨(h c).1.trans ?_, (h c).2.1.trans ?_, (h c).2.2.1.trans ?_, (h c).2.2.2⟩
    · rw [Cert.AdamInRefIdeal.Read.val_main_v24_eq, e0, e1, e2, e3]
      exact funext fun i => adam_in_4 m c i
    · rw [Cert.AdamInRefIdeal.Read.val_main_v25_eq, e0, e2]
      exact funext fun i => adam_in_5 m c i
    · rw [Cert.AdamInRefIdeal.Read.val_main_v26_eq, e0, e3]
      exact funext fun i => adam_in_6 m c i

end Cert.Claims

end
-- ==== Proof.AttnGradTile.lean ====
/-
  The gradient of the mixer's attention at the output gates, one tile of rows: the tile's gate columns and
  what it adds to the gradients of the two normalisations' gains. The cotangent of the gated output is `dx`
  times the transposed output weight; each head of the saved output is normalised and multiplied with the gate.
-/
module

public import proofs.«01_k».proof.Defs
public import proofs.«01_k».proof.Proof.Gen.AttnGradIdeal.Value
public import Idealize.ShloMosaic.Lib.Pointwise
public import Idealize.ShloMosaic.Lib.Tactic

@[expose] public section

noncomputable section

namespace Cert.AttnGradIdeal.Hand

open Cert.AttnGradIdeal Cert.AttnGradIdeal.Gen Idealize.ShloMosaic Idealize.ShloMosaic.TcCoe Idealize.SL.Sem

/-- The sigmoid. -/
def sgm (t : EReal) : EReal := Ideal.div 1 (1 + Ideal.exp (-t))

/-- An entry of a row divided by the row's root mean square. -/
def nrm (x : Fin 128 → EReal) (j : Fin 128) : EReal :=
  x j * Ideal.rsqrt (Ideal.div (∑ k, x k * x k) (Ideal.ofBits .f32 0x43000000#32) + Ideal.ofBits .f32 0x358637BD#32)

/-- The cotangent `a` of `n g (t σ(t))`, taken to the gate `t`. -/
def dGate (a n g t : EReal) : EReal := a * n * g * (sgm t * (1 + t * (1 - sgm t)))

/-- The cotangent `a` of `n g (t σ(t))`, taken to the gain `g`. -/
def dGain (a n t : EReal) : EReal := a * (t * sgm t) * n

/-- Column `j` of head `h` among the 512 of one branch. -/
def hcol (h : Fin 4) (j : Fin 128) : Fin 512 := ⟨128 * h.val + j.val, by have := h.isLt; have := j.isLt; omega⟩

/-- Column `j` of head `h` of branch `g` of the mixer's output. -/
def ocol (g : Fin 2) (h : Fin 4) (j : Fin 128) : Fin 1024 :=
  ⟨512 * g.val + 128 * h.val + j.val, by have := g.isLt; have := h.isLt; have := j.isLt; omega⟩

/-- The gate column that belongs to it in the projection. -/
def pcol (g : Fin 2) (h : Fin 4) (j : Fin 128) : Fin 3200 :=
  ⟨1024 + 1536 * g.val + (128 * h.val + j.val), by have := g.isLt; have := h.isLt; have := j.isLt; omega⟩

/-- A head's columns of a tile. -/
def cutO (off : ℕ) (h : off + 128 ≤ 1024) (x : Vec Ideal S256x1024 .f32) : Vec Ideal S256x128 .f32 :=
  fun i => x (ix2 (i 0) ⟨off + (i 1).val, by have h1 : (i 1).val < 128 := (i 1).isLt; omega⟩)

/-- A branch's gate columns of a tile of the projection. -/
def cutP (off : ℕ) (h : off + 512 ≤ 3200) (x : Vec Ideal S256x3200 .bf16) : Vec Ideal S256x512 .bf16 :=
  fun i => x (ix2 (i 0) ⟨off + (i 1).val, by have h1 : (i 1).val < 512 := (i 1).isLt; omega⟩)

/-- The cotangent of the gated output: a tile of `dx` times the transposed weight. -/
def dyTile (dx : Vec Ideal S256x1024 .bf16) (w : Vec Ideal S1024x1024 .bf16) : Vec Ideal S256x1024 .f32 :=
  fun i => (∑ k : Fin 1024, (dx (ix2 (i 0) k) : EReal) * w (ix2 (i 1) k) : EReal)

theorem pay_dy (dx : Vec Ideal S256x1024 .bf16) (w : Vec Ideal S1024x1024 .bf16) : k0_pay1 (F := Ideal) dx w = dyTile dx w := by
  funext i
  unfold_payloads
  unfold dyTile
  pointwise

theorem gate_00 (p : Vec Ideal S256x512 .bf16) (G : Vec Ideal S1x512 .f32) (O D : Vec Ideal S256x128 .f32) (r : Fin 256) (j : Fin 128) :
    k0_pay55 (F := Ideal) (k0_pay34 p) G O (k0_pay49 O) D (ix2 r j)
      = dGate (D (ix2 r j)) (nrm (fun k => O (ix2 r k)) j) (G (ix2 0 (hcol 0 j))) (p (ix2 r (hcol 0 j))) := by
  unfold_payloads
  unfold dGate nrm sgm hcol
  pointwise
  simp only [zero_sub]

theorem gate_01 (p : Vec Ideal S256x512 .bf16) (G : Vec Ideal S1x512 .f32) (O D : Vec Ideal S256x128 .f32) (r : Fin 256) (j : Fin 128) :
    k0_pay64 (F := Ideal) (k0_pay34 p) G O D (ix2 r j)
      = dGate (D (ix2 r j)) (nrm (fun k => O (ix2 r k)) j) (G (ix2 0 (hcol 1 j))) (p (ix2 r (hcol 1 j))) := by
  unfold_payloads
  unfold dGate nrm sgm hcol
  pointwise
  simp only [zero_sub]

theorem gate_02 (p : Vec Ideal S256x512 .bf16) (G : Vec Ideal S1x512 .f32) (O D : Vec Ideal S256x128 .f32) (r : Fin 256) (j : Fin 128) :
    k0_pay74 (F := Ideal) (k0_pay34 p) G O D (ix2 r j)
      = dGate (D (ix2 r j)) (nrm (fun k => O (ix2 r k)) j) (G (ix2 0 (hcol 2 j))) (p (ix2 r (hcol 2 j))) := by
  unfold_payloads
  unfold dGate nrm sgm hcol
  pointwise
  simp only [zero_sub]

theorem gate_03 (p : Vec Ideal S256x512 .bf16) (G : Vec Ideal S1x512 .f32) (O D : Vec Ideal S256x128 .f32) (r : Fin 256) (j : Fin 128) :
    k0_pay85 (F := Ideal) (k0_pay34 p) G O D (ix2 r j)
      = dGate (D (ix2 r j)) (nrm (fun k => O (ix2 r k)) j) (G (ix2 0 (hcol 3 j))) (p (ix2 r (hcol 3 j))) := by
  unfold_payloads
  unfold dGate nrm sgm hcol
  pointwise
  simp only [zero_sub]

theorem gain_00 (p : Vec Ideal S256x512 .bf16) (O D : Vec Ideal S256x128 .f32) (z : Fin 1) (j : Fin 128) :
    k0_pay57 (F := Ideal) (k0_pay34 p) O (k0_pay49 O) D (ix2 z j)
      = ∑ r : Fin 256, dGain (D (ix2 r j)) (nrm (fun k => O (ix2 r k)) j) (p (ix2 r (hcol 0 j))) := by
  unfold_payloads
  unfold dGain nrm sgm hcol
  pointwise
  simp only [zero_sub]

theorem gain_01 (p : Vec Ideal S256x512 .bf16) (O D : Vec Ideal S256x128 .f32) (z : Fin 1) (j : Fin 128) :
    k0_pay66 (F := Ideal) (k0_pay34 p) O D (ix2 z j)
      = ∑ r : Fin 256, dGain (D (ix2 r j)) (nrm (fun k => O (ix2 r k)) j) (p (ix2 r (hcol 1 j))) := by
  unfold_payloads
  unfold dGain nrm sgm hcol
  pointwise
  simp only [zero_sub]

theorem gain_02 (p : Vec Ideal S256x512 .bf16) (O D : Vec Ideal S256x128 .f32) (z : Fin 1) (j : Fin 128) :
    k0_pay76 (F := Ideal) (k0_pay34 p) O D (ix2 z j)
      = ∑ r : Fin 256, dGain (D (ix2 r j)) (nrm (fun k => O (ix2 r k)) j) (p (ix2 r (hcol 2 j))) := by
  unfold_payloads
  unfold dGain nrm sgm hcol
  pointwise
  simp only [zero_sub]

theorem gain_03 (p : Vec Ideal S256x512 .bf16) (O D : Vec Ideal S256x128 .f32) (z : Fin 1) (j : Fin 128) :
    k0_pay87 (F := Ideal) (k0_pay34 p) O D (ix2 z j)
      = ∑ r : Fin 256, dGain (D (ix2 r j)) (nrm (fun k => O (ix2 r k)) j) (p (ix2 r (hcol 3 j))) := by
  unfold_payloads
  unfold dGain nrm sgm hcol
  pointwise
  simp only [zero_sub]

theorem gate_10 (p : Vec Ideal S256x512 .bf16) (G : Vec Ideal S1x512 .f32) (O D : Vec Ideal S256x128 .f32) (r : Fin 256) (j : Fin 128) :
    k0_pay210 (F := Ideal) G (k0_pay206 O) (k0_pay207 (k0_pay188 p)) D (ix2 r j)
      = dGate (D (ix2 r j)) (nrm (fun k => O (ix2 r k)) j) (G (ix2 0 (hcol 0 j))) (p (ix2 r (hcol 0 j))) := by
  unfold_payloads
  unfold dGate nrm sgm hcol
  pointwise
  simp only [zero_sub]

theorem gate_11 (p : Vec Ideal S256x512 .bf16) (G : Vec Ideal S1x512 .f32) (O D : Vec Ideal S256x128 .f32) (r : Fin 256) (j : Fin 128) :
    k0_pay219 (F := Ideal) (k0_pay188 p) G O (k0_pay214 O) D (ix2 r j)
      = dGate (D (ix2 r j)) (nrm (fun k => O (ix2 r k)) j) (G (ix2 0 (hcol 1 j))) (p (ix2 r (hcol 1 j))) := by
  unfold_payloads
  unfold dGate nrm sgm hcol
  pointwise
  simp only [zero_sub]

theorem gate_12 (p : Vec Ideal S256x512 .bf16) (G : Vec Ideal S1x512 .f32) (O D : Vec Ideal S256x128 .f32) (r : Fin 256) (j : Fin 128) :
    k0_pay229 (F := Ideal) (k0_pay188 p) G O (k0_pay223 O) (FloatOps.ofBits .f32 0x358637BD#32) D (ix2 r j)
      = dGate (D (ix2 r j)) (nrm (fun k => O (ix2 r k)) j) (G (ix2 0 (hcol 2 j))) (p (ix2 r (hcol 2 j))) := by
  unfold_payloads
  unfold dGate nrm sgm hcol
  pointwise
  simp only [zero_sub]

theorem gate_13 (p : Vec Ideal S256x512 .bf16) (G : Vec Ideal S1x512 .f32) (O D : Vec Ideal S256x128 .f32) (r : Fin 256) (j : Fin 128) :
    k0_pay239 (F := Ideal) (k0_pay188 p) G O (k0_pay233 O) (FloatOps.ofBits .f32 0x43000000#32) D (ix2 r j)
      = dGate (D (ix2 r j)) (nrm (fun k => O (ix2 r k)) j) (G (ix2 0 (hcol 3 j))) (p (ix2 r (hcol 3 j))) := by
  unfold_payloads
  unfold dGate nrm sgm hcol
  pointwise
  simp only [zero_sub]

theorem gain_10 (p : Vec Ideal S256x512 .bf16) (O D : Vec Ideal S256x128 .f32) (z : Fin 1) (j : Fin 128) :
    k0_pay212 (F := Ideal) (k0_pay206 O) (k0_pay207 (k0_pay188 p)) D (ix2 z j)
      = ∑ r : Fin 256, dGain (D (ix2 r j)) (nrm (fun k => O (ix2 r k)) j) (p (ix2 r (hcol 0 j))) := by
  unfold_payloads
  unfold dGain nrm sgm hcol
  pointwise
  simp only [zero_sub]

theorem gain_11 (p : Vec Ideal S256x512 .bf16) (O D : Vec Ideal S256x128 .f32) (z : Fin 1) (j : Fin 128) :
    k0_pay221 (F := Ideal) (k0_pay188 p) O (k0_pay214 O) D (ix2 z j)
      = ∑ r : Fin 256, dGain (D (ix2 r j)) (nrm (fun k => O (ix2 r k)) j) (p (ix2 r (hcol 1 j))) := by
  unfold_payloads
  unfold dGain nrm sgm hcol
  pointwise
  simp only [zero_sub]

theorem gain_12 (p : Vec Ideal S256x512 .bf16) (O D : Vec Ideal S256x128 .f32) (z : Fin 1) (j : Fin 128) :
    k0_pay231 (F := Ideal) (k0_pay188 p) O (k0_pay223 O) (FloatOps.ofBits .f32 0x358637BD#32) D (ix2 z j)
      = ∑ r : Fin 256, dGain (D (ix2 r j)) (nrm (fun k => O (ix2 r k)) j) (p (ix2 r (hcol 2 j))) := by
  unfold_payloads
  unfold dGain nrm sgm hcol
  pointwise
  simp only [zero_sub]

theorem cat_0 (A0 A1 A2 A3 : FVec Ideal S256x128 .f32) (h : Fin 4) (r : Fin 256) (j : Fin 128) :
    k0_pay185 (F := Ideal) (k0_pay91 A0 A1 A2 A3) (ix2 r (hcol h j)) = (![A0, A1, A2, A3] h) (ix2 r j) := by
  have hj := j.isLt
  have e2 : 256 + j.val - 128 - 128 = j.val := by omega
  have e3 : 384 + j.val - 128 - 128 - 128 = j.val := by omega
  unfold_payloads
  unfold hcol
  fin_cases h
  · pointwise
  · pointwise
  · pointwise
    split_ifs <;> first | omega | simp only [e2]
  · pointwise
    split_ifs <;> first | omega | simp only [e3]

theorem cat_1 (A0 A1 A2 A3 : FVec Ideal S256x128 .f32) (h : Fin 4) (r : Fin 256) (j : Fin 128) :
    k0_pay341 (F := Ideal) (k0_pay245 A0 A1 A2 A3) (ix2 r (hcol h j)) = (![A0, A1, A2, A3] h) (ix2 r j) := by
  have hj := j.isLt
  have e2 : 256 + j.val - 128 - 128 = j.val := by omega
  have e3 : 384 + j.val - 128 - 128 - 128 = j.val := by omega
  unfold_payloads
  unfold hcol
  fin_cases h
  · pointwise
  · pointwise
  · pointwise
    split_ifs <;> first | omega | simp only [e2]
  · pointwise
    split_ifs <;> first | omega | simp only [e3]

theorem acc_0 (A0 A1 A2 A3 : FVec Ideal S1x128 .f32) (s : Vec Ideal S1x512 .f32) (h : Fin 4) (z : Fin 1) (j : Fin 128) :
    k0_pay90 (F := Ideal) A0 A1 A2 A3 s (ix2 z (hcol h j)) = s (ix2 z (hcol h j)) + (![A0, A1, A2, A3] h) (ix2 z j) := by
  have hj := j.isLt
  have e2 : 256 + j.val - 128 - 128 = j.val := by omega
  have e3 : 384 + j.val - 128 - 128 - 128 = j.val := by omega
  obtain rfl : z = 0 := Subsingleton.elim _ _
  unfold_payloads
  unfold hcol
  fin_cases h
  · pointwise
  · pointwise
  · pointwise
    split_ifs <;> first | omega | simp only [e2]
  · pointwise
    split_ifs <;> first | omega | simp only [e3]

/-- The last head's part of a gain's gradient. -/
def lastGain (p : Vec Ideal S256x512 .bf16) (O D : Vec Ideal S256x128 .f32) : Vec Ideal S1x128 .f32 :=
  fun i => (∑ r : Fin 256, dGain (D (ix2 r (i 1))) (nrm (fun k => O (ix2 r k)) (i 1)) (p (ix2 r (hcol 3 (i 1)))) : EReal)

theorem acc_1 (p : Vec Ideal S256x512 .bf16) (O D : Vec Ideal S256x128 .f32) (A0 A1 A2 : FVec Ideal S1x128 .f32) (s : Vec Ideal S1x512 .f32) (h : Fin 4) (z : Fin 1) (j : Fin 128) :
    k0_pay244 (F := Ideal) (k0_pay242 s) (k0_pay243 (k0_pay188 p) A0 A1 A2 O (k0_pay233 O) (FloatOps.ofBits .f32 0x43000000#32) D) (ix2 z (hcol h j))
      = s (ix2 z (hcol h j)) + (![A0, A1, A2, lastGain p O D] h) (ix2 z j) := by
  have hj := j.isLt
  have e2 : 256 + j.val - 128 - 128 = j.val := by omega
  have e3 : 384 + j.val - 128 - 128 - 128 = j.val := by omega
  obtain rfl : z = 0 := Subsingleton.elim _ _
  unfold_payloads
  unfold hcol
  fin_cases h
  · pointwise
  · pointwise
  · pointwise
    split_ifs <;> first | omega | simp only [e2]
  · unfold lastGain dGain nrm sgm hcol
    pointwise
    split_ifs <;> first | omega | simp only [e3, zero_sub]

theorem ld_O (x : Vec Ideal S256x1024 .f32) (off : ℕ) (inb : ∀ a, (![0, off] : Fin S256x1024.rank → ℕ) a + (![256, 128] : Fin 2 → ℕ) a ≤ S256x1024.size a) :
    View.ld (Val := Elt Ideal) (S := S256x1024) (e' := .f32) x (Rect.unit (s := S256x1024) ![0, off] ![256, 128] inb) = cutO off (inb 1) x := by
  funext i
  refine congrArg x (funext fun a => Fin.ext ?_)
  match a with
  | ⟨0, _⟩ => show 0 + 1 * (i 0).val = (i 0).val; omega
  | ⟨1, _⟩ => show off + 1 * (i 1).val = off + (i 1).val; omega

theorem ld_P (x : Vec Ideal S256x3200 .bf16) (off : ℕ) (inb : ∀ a, (![0, off] : Fin S256x3200.rank → ℕ) a + (![256, 512] : Fin 2 → ℕ) a ≤ S256x3200.size a) :
    View.ld (Val := Elt Ideal) (S := S256x3200) (e' := .bf16) x (Rect.unit (s := S256x3200) ![0, off] ![256, 512] inb) = cutP off (inb 1) x := by
  funext i
  refine congrArg x (funext fun a => Fin.ext ?_)
  match a with
  | ⟨0, _⟩ => show 0 + 1 * (i 0).val = (i 0).val; omega
  | ⟨1, _⟩ => show off + 1 * (i 1).val = off + (i 1).val; omega

theorem hz2 : (![0, 0] : Fin 2 → ℕ) = fun _ => 0 := by funext a; fin_cases a <;> rfl

/-- A head's columns of the scratch that holds the cotangent. -/
theorem rd_D (a : Memref sig .tc .vmem S256x1024 .f32) (w : Vec Ideal S256x1024 .f32) (off : ℕ)
    (inb0 : ∀ a, (![0, 0] : Fin S256x1024.rank → ℕ) a + (![256, 1024] : Fin 2 → ℕ) a ≤ S256x1024.size a)
    (inb : ∀ a, (![0, off] : Fin S256x1024.rank → ℕ) a + (![256, 128] : Fin 2 → ℕ) a ≤ S256x1024.size a) :
    a.view.readCov (Val := Elt Ideal) [⟨Rect.unit ![0, 0] ![256, 1024] inb0, w⟩] (Rect.unit (s := S256x1024) ![0, off] ![256, 128] inb).toLoadRect = cutO off (inb 1) w := by
  refine Eq.trans (View.readCov_eq_canon_ld a.view _ _ fun y => ⟨_, List.mem_singleton_self _, View.mem_set_unit_zero (S := S256x1024) hz2 inb0 y⟩) ?_
  rw [View.canon_unit_zero (S := S256x1024) hz2]
  exact ld_O w off inb

/-- A store to other columns does not show. -/
theorem skip (n : ℕ) (off : ℕ) (inb : ∀ a, (![0, off] : Fin S256x3200.rank → ℕ) a + (![256, n] : Fin 2 → ℕ) a ≤ S256x3200.size a)
    (w : (Rect.unit ![0, off] ![256, n] inb : Rect S256x3200).shape.Idx → Elt Ideal .bf16) (L : List (View.Piece (Elt Ideal) S256x3200 .bf16)) (r : Fin 256) (k : Fin 3200) (h : k.val < off ∨ off + n ≤ k.val) :
    View.canon (⟨Rect.unit ![0, off] ![256, n] inb, w⟩ :: L) (ix2 r k) = View.canon L (ix2 r k) := by
  refine View.canon_cons_of_not_mem _ _ ?_
  show ix2 r k ∉ (Rect.unit ![0, off] ![256, n] inb : Rect S256x3200).set
  rw [Rect.mem_set_unit]
  intro h'
  have h1 : off ≤ k.val ∧ k.val < off + n := h' 1
  omega

/-- A store to these columns, last, shows. -/
theorem hit (off : ℕ) (inb : ∀ a, (![0, off] : Fin S256x3200.rank → ℕ) a + (![256, 512] : Fin 2 → ℕ) a ≤ S256x3200.size a)
    (w : Vec Ideal S256x512 .bf16) (L : List (View.Piece (Elt Ideal) S256x3200 .bf16)) (r : Fin 256) (k : Fin 3200) (l : Fin 512) (h : k.val = off + l.val) :
    View.canon (⟨Rect.unit ![0, off] ![256, 512] inb, w⟩ :: L) (ix2 r k) = w (ix2 r l) := by
  refine Eq.trans (congrArg _ ?_) (View.canon_cons_emb (Rect.unit (s := S256x3200) ![0, off] ![256, 512] inb) w L (ix2 r l : S256x512.Idx))
  refine funext fun a => Fin.ext ?_
  match a with
  | ⟨0, _⟩ => show r.val = 0 + 1 * r.val; omega
  | ⟨1, _⟩ => show k.val = off + 1 * l.val; omega

/-- The gate's columns of a tile of the projection's gradient, branch `g`. -/
def gateTile (g : Fin 2) (p : Vec Ideal S256x3200 .bf16) (G : Vec Ideal S1x512 .f32) (O D : Vec Ideal S256x1024 .f32) (r : Fin 256) (h : Fin 4) (j : Fin 128) : EReal :=
  dGate (D (ix2 r (ocol g h j))) (nrm (fun k => O (ix2 r (ocol g h k))) j) (G (ix2 0 (hcol h j))) (p (ix2 r (pcol g h j)))

/-- A tile's part of the gradient of a gain, branch `g`. -/
def gainTile (g : Fin 2) (p : Vec Ideal S256x3200 .bf16) (O D : Vec Ideal S256x1024 .f32) (h : Fin 4) (j : Fin 128) : EReal :=
  ∑ r : Fin 256, dGain (D (ix2 r (ocol g h j))) (nrm (fun k => O (ix2 r (ocol g h k))) j) (p (ix2 r (pcol g h j)))

theorem gates_0 (p : Vec Ideal S256x3200 .bf16) (G : Vec Ideal S1x512 .f32) (O D : Vec Ideal S256x1024 .f32) (r : Fin 256) (h : Fin 4) (j : Fin 128) :
    k0_pay185 (F := Ideal) (k0_pay91
      (k0_pay55 (F := Ideal) (k0_pay34 (cutP 1024 (by decide) p)) G (cutO 0 (by decide) O) (k0_pay49 (cutO 0 (by decide) O)) (cutO 0 (by decide) D))
      (k0_pay64 (F := Ideal) (k0_pay34 (cutP 1024 (by decide) p)) G (cutO 128 (by decide) O) (cutO 128 (by decide) D))
      (k0_pay74 (F := Ideal) (k0_pay34 (cutP 1024 (by decide) p)) G (cutO 256 (by decide) O) (cutO 256 (by decide) D))
      (k0_pay85 (F := Ideal) (k0_pay34 (cutP 1024 (by decide) p)) G (cutO 384 (by decide) O) (cutO 384 (by decide) D))) (ix2 r (hcol h j)) = gateTile 0 p G O D r h j := by
  rw [cat_0]
  fin_cases h
  · exact gate_00 _ _ _ _ r j
  · exact gate_01 _ _ _ _ r j
  · exact gate_02 _ _ _ _ r j
  · exact gate_03 _ _ _ _ r j

theorem gates_1 (p : Vec Ideal S256x3200 .bf16) (G : Vec Ideal S1x512 .f32) (O D : Vec Ideal S256x1024 .f32) (r : Fin 256) (h : Fin 4) (j : Fin 128) :
    k0_pay341 (F := Ideal) (k0_pay245
      (k0_pay210 (F := Ideal) G (k0_pay206 (cutO 512 (by decide) O)) (k0_pay207 (k0_pay188 (cutP 2560 (by decide) p))) (cutO 512 (by decide) D))
      (k0_pay219 (F := Ideal) (k0_pay188 (cutP 2560 (by decide) p)) G (cutO 640 (by decide) O) (k0_pay214 (cutO 640 (by decide) O)) (cutO 640 (by decide) D))
      (k0_pay229 (F := Ideal) (k0_pay188 (cutP 2560 (by decide) p)) G (cutO 768 (by decide) O) (k0_pay223 (cutO 768 (by decide) O)) (FloatOps.ofBits .f32 0x358637BD#32) (cutO 768 (by decide) D))
      (k0_pay239 (F := Ideal) (k0_pay188 (cutP 2560 (by decide) p)) G (cutO 896 (by decide) O) (k0_pay233 (cutO 896 (by decide) O)) (FloatOps.ofBits .f32 0x43000000#32) (cutO 896 (by decide) D))) (ix2 r (hcol h j)) = gateTile 1 p G O D r h j := by
  rw [cat_1]
  fin_cases h
  · exact gate_10 _ _ _ _ r j
  · exact gate_11 _ _ _ _ r j
  · exact gate_12 _ _ _ _ r j
  · exact gate_13 _ _ _ _ r j

theorem gains_0 (p : Vec Ideal S256x3200 .bf16) (O D : Vec Ideal S256x1024 .f32) (s : Vec Ideal S1x512 .f32) (h : Fin 4) (z : Fin 1) (j : Fin 128) :
    k0_pay90 (F := Ideal)
      (k0_pay57 (F := Ideal) (k0_pay34 (cutP 1024 (by decide) p)) (cutO 0 (by decide) O) (k0_pay49 (cutO 0 (by decide) O)) (cutO 0 (by decide) D))
      (k0_pay66 (F := Ideal) (k0_pay34 (cutP 1024 (by decide) p)) (cutO 128 (by decide) O) (cutO 128 (by decide) D))
      (k0_pay76 (F := Ideal) (k0_pay34 (cutP 1024 (by decide) p)) (cutO 256 (by decide) O) (cutO 256 (by decide) D))
      (k0_pay87 (F := Ideal) (k0_pay34 (cutP 1024 (by decide) p)) (cutO 384 (by decide) O) (cutO 384 (by decide) D)) s (ix2 z (hcol h j)) = s (ix2 z (hcol h j)) + gainTile 0 p O D h j := by
  rw [acc_0]
  refine congrArg (s (ix2 z (hcol h j)) + ·) ?_
  fin_cases h
  · exact gain_00 _ _ _ z j
  · exact gain_01 _ _ _ z j
  · exact gain_02 _ _ _ z j
  · exact gain_03 _ _ _ z j

theorem gains_1 (p : Vec Ideal S256x3200 .bf16) (O D : Vec Ideal S256x1024 .f32) (s : Vec Ideal S1x512 .f32) (h : Fin 4) (z : Fin 1) (j : Fin 128) :
    k0_pay244 (F := Ideal) (k0_pay242 s) (k0_pay243 (k0_pay188 (cutP 2560 (by decide) p))
      (k0_pay212 (F := Ideal) (k0_pay206 (cutO 512 (by decide) O)) (k0_pay207 (k0_pay188 (cutP 2560 (by decide) p))) (cutO 512 (by decide) D))
      (k0_pay221 (F := Ideal) (k0_pay188 (cutP 2560 (by decide) p)) (cutO 640 (by decide) O) (k0_pay214 (cutO 640 (by decide) O)) (cutO 640 (by decide) D))
      (k0_pay231 (F := Ideal) (k0_pay188 (cutP 2560 (by decide) p)) (cutO 768 (by decide) O) (k0_pay223 (cutO 768 (by decide) O)) (FloatOps.ofBits .f32 0x358637BD#32) (cutO 768 (by decide) D))
      (cutO 896 (by decide) O) (k0_pay233 (cutO 896 (by decide) O)) (FloatOps.ofBits .f32 0x43000000#32) (cutO 896 (by decide) D)) (ix2 z (hcol h j)) = s (ix2 z (hcol h j)) + gainTile 1 p O D h j := by
  rw [acc_1]
  refine congrArg (s (ix2 z (hcol h j)) + ·) ?_
  fin_cases h
  · exact gain_10 _ _ _ z j
  · exact gain_11 _ _ _ z j
  · exact gain_12 _ _ _ z j
  · rfl

section Cases

variable (c : Dev nD) (i : grid0.Coords) (a1 : Memref sig .tc .vmem S256x3200 .bf16) (h1 : a1.IsWhole) (a2 : Memref sig .tc .vmem S256x128 .f32) (h2 : a2.IsWhole) (a3 : Memref sig .tc .vmem S256x128 .f32) (h3 : a3.IsWhole) (a4 : Memref sig .tc .vmem S1x256 .f32) (h4 : a4.IsWhole) (a5 : Memref sig .tc .vmem S128x256 .f32) (h5 : a5.IsWhole) (a6 : Memref sig .tc .vmem S1x256 .f32) (h6 : a6.IsWhole) (a7 : Memref sig .tc .vmem S1x512 .f32) (h7 : a7.IsWhole) (a8 : Memref sig .tc .vmem S1x512 .f32) (h8 : a8.IsWhole) (a9 : Memref sig .tc .vmem S256x1024 .f32) (h9 : a9.IsWhole) (a10 : Memref sig .tc .vmem S256x1024 .bf16) (h10 : a10.IsWhole) (a11 : Memref sig .tc .vmem S1024x1024 .bf16) (h11 : a11.IsWhole) (a12 : Memref sig .tc .vmem S1x2x512x256 .f32) (h12 : a12.IsWhole) (a13 : Memref sig .tc .vmem S256x3200 .bf16) (h13 : a13.IsWhole) (a14 : Memref sig .tc .vmem S1x512 .f32) (h14 : a14.IsWhole) (a15 : Memref sig .tc .vmem S1x512 .f32) (h15 : a15.IsWhole) (a16 : Memref sig .tc .vmem S1x256 .f32) (h16 : a16.IsWhole) (a17 : Memref sig .tc .vmem S128x256 .f32) (h17 : a17.IsWhole) (a18 : Memref sig .tc .vmem S2x512x256 .f32) (h18 : a18.IsWhole) (a19 : Memref sig .tc .vmem S256x1024 .f32) (h19 : a19.IsWhole) (x0 : Vec Ideal S256x3200 .bf16) (x1 : Vec Ideal S256x128 .f32) (x2 : Vec Ideal S256x128 .f32) (x3 : Vec Ideal S1x256 .f32) (x4 : Vec Ideal S128x256 .f32) (x5 : Vec Ideal S1x256 .f32) (x6 : Vec Ideal S1x512 .f32) (x7 : Vec Ideal S1x512 .f32) (x8 : Vec Ideal S256x1024 .f32) (x9 : Vec Ideal S256x1024 .bf16) (x10 : Vec Ideal S1024x1024 .bf16) (x11 : Vec Ideal S1x2x512x256 .f32)

set_option maxHeartbeats 400000 in
theorem out_A_12_0 (hc0 : cond0_0 i) (r : Fin 256) (h : Fin 4) (j : Fin 128) :
    out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 (ix2 r (pcol 0 h j)) = gateTile 0 x0 x6 x8 (dyTile x9 x10) r h j := by
  have hh := h.isLt
  have hj := j.isLt
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11)]
  unfold kernelRun0_A
  dsimp only
  refine (skip 128 3072 _ _ _ r _ (by show 1024 + 1536 * 0 + (128 * h.val + j.val) < 3072 ∨ 3072 + 128 ≤ 1024 + 1536 * 0 + (128 * h.val + j.val); omega)).trans ?_
  refine (skip 512 2560 _ _ _ r _ (by show 1024 + 1536 * 0 + (128 * h.val + j.val) < 2560 ∨ 2560 + 512 ≤ 1024 + 1536 * 0 + (128 * h.val + j.val); omega)).trans ?_
  refine (skip 512 2048 _ _ _ r _ (by show 1024 + 1536 * 0 + (128 * h.val + j.val) < 2048 ∨ 2048 + 512 ≤ 1024 + 1536 * 0 + (128 * h.val + j.val); omega)).trans ?_
  refine (skip 256 1792 _ _ _ r _ (by show 1024 + 1536 * 0 + (128 * h.val + j.val) < 1792 ∨ 1792 + 256 ≤ 1024 + 1536 * 0 + (128 * h.val + j.val); omega)).trans ?_
  refine (skip 256 1536 _ _ _ r _ (by show 1024 + 1536 * 0 + (128 * h.val + j.val) < 1536 ∨ 1536 + 256 ≤ 1024 + 1536 * 0 + (128 * h.val + j.val); omega)).trans ?_
  refine (hit 1024 _ _ _ r _ (hcol h j) (by show 1024 + 1536 * 0 + (128 * h.val + j.val) = 1024 + (128 * h.val + j.val); omega)).trans ?_
  sl_unfold_words
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gates_0 _ _ _ _ r h j

set_option maxHeartbeats 400000 in
theorem out_A_13 (hc0 : cond0_0 i) (h : Fin 4) (z : Fin 1) (j : Fin 128) :
    out0_A_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 (ix2 z (hcol h j)) = (k0_pay3 (F := Ideal)) (ix2 z (hcol h j)) + gainTile 0 x0 x8 (dyTile x9 x10) h j := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11)]
  unfold kernelRun0_A
  dsimp only
  sl_unfold_words
  rw [View.canon_cons_unit_zero (S := S1x512) hz2, View.readCov_unit_zero (S := S1x512) _ hz2]
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gains_0 _ _ _ _ h z j

set_option maxHeartbeats 400000 in
theorem out_A_12_1 (hc0 : cond0_0 i) (r : Fin 256) (h : Fin 4) (j : Fin 128) :
    out0_A_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 (ix2 r (pcol 1 h j)) = gateTile 1 x0 x7 x8 (dyTile x9 x10) r h j := by
  have hh := h.isLt
  have hj := j.isLt
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11)]
  unfold kernelRun0_A
  dsimp only
  refine (skip 128 3072 _ _ _ r _ (by show 1024 + 1536 * 1 + (128 * h.val + j.val) < 3072 ∨ 3072 + 128 ≤ 1024 + 1536 * 1 + (128 * h.val + j.val); omega)).trans ?_
  refine (hit 2560 _ _ _ r _ (hcol h j) (by show 1024 + 1536 * 1 + (128 * h.val + j.val) = 2560 + (128 * h.val + j.val); omega)).trans ?_
  sl_unfold_words
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gates_1 _ _ _ _ r h j

set_option maxHeartbeats 400000 in
theorem out_A_14 (hc0 : cond0_0 i) (h : Fin 4) (z : Fin 1) (j : Fin 128) :
    out0_A_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 (ix2 z (hcol h j)) = (k0_pay4 (F := Ideal)) (ix2 z (hcol h j)) + gainTile 1 x0 x8 (dyTile x9 x10) h j := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11)]
  unfold kernelRun0_A
  dsimp only
  sl_unfold_words
  rw [View.canon_cons_unit_zero (S := S1x512) hz2, View.readCov_unit_zero (S := S1x512) _ hz2]
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gains_1 _ _ _ _ h z j

set_option maxHeartbeats 400000 in
theorem out_B_12_0 (hc0 : ¬cond0_0 i) (xo13 : Vec Ideal S1x512 .f32) (xo14 : Vec Ideal S1x512 .f32) (xo15 : Vec Ideal S1x256 .f32) (xo16 : Vec Ideal S128x256 .f32) (xs0 : Vec Ideal S2x512x256 .f32) (r : Fin 256) (h : Fin 4) (j : Fin 128) :
    out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0 (ix2 r (pcol 0 h j)) = gateTile 0 x0 x6 x8 (dyTile x9 x10) r h j := by
  have hh := h.isLt
  have hj := j.isLt
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0)]
  unfold kernelRun0_B
  dsimp only
  refine (skip 128 3072 _ _ _ r _ (by show 1024 + 1536 * 0 + (128 * h.val + j.val) < 3072 ∨ 3072 + 128 ≤ 1024 + 1536 * 0 + (128 * h.val + j.val); omega)).trans ?_
  refine (skip 512 2560 _ _ _ r _ (by show 1024 + 1536 * 0 + (128 * h.val + j.val) < 2560 ∨ 2560 + 512 ≤ 1024 + 1536 * 0 + (128 * h.val + j.val); omega)).trans ?_
  refine (skip 512 2048 _ _ _ r _ (by show 1024 + 1536 * 0 + (128 * h.val + j.val) < 2048 ∨ 2048 + 512 ≤ 1024 + 1536 * 0 + (128 * h.val + j.val); omega)).trans ?_
  refine (skip 256 1792 _ _ _ r _ (by show 1024 + 1536 * 0 + (128 * h.val + j.val) < 1792 ∨ 1792 + 256 ≤ 1024 + 1536 * 0 + (128 * h.val + j.val); omega)).trans ?_
  refine (skip 256 1536 _ _ _ r _ (by show 1024 + 1536 * 0 + (128 * h.val + j.val) < 1536 ∨ 1536 + 256 ≤ 1024 + 1536 * 0 + (128 * h.val + j.val); omega)).trans ?_
  refine (hit 1024 _ _ _ r _ (hcol h j) (by show 1024 + 1536 * 0 + (128 * h.val + j.val) = 1024 + (128 * h.val + j.val); omega)).trans ?_
  sl_unfold_words
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gates_0 _ _ _ _ r h j

set_option maxHeartbeats 400000 in
theorem out_B_13 (hc0 : ¬cond0_0 i) (xo13 : Vec Ideal S1x512 .f32) (xo14 : Vec Ideal S1x512 .f32) (xo15 : Vec Ideal S1x256 .f32) (xo16 : Vec Ideal S128x256 .f32) (xs0 : Vec Ideal S2x512x256 .f32) (h : Fin 4) (z : Fin 1) (j : Fin 128) :
    out0_B_13 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0 (ix2 z (hcol h j)) = xo13 (ix2 z (hcol h j)) + gainTile 0 x0 x8 (dyTile x9 x10) h j := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0)]
  unfold kernelRun0_B
  dsimp only
  sl_unfold_words
  rw [View.canon_unit_zero (S := S1x512) hz2]
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gains_0 _ _ _ _ h z j

set_option maxHeartbeats 400000 in
theorem out_B_12_1 (hc0 : ¬cond0_0 i) (xo13 : Vec Ideal S1x512 .f32) (xo14 : Vec Ideal S1x512 .f32) (xo15 : Vec Ideal S1x256 .f32) (xo16 : Vec Ideal S128x256 .f32) (xs0 : Vec Ideal S2x512x256 .f32) (r : Fin 256) (h : Fin 4) (j : Fin 128) :
    out0_B_12 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0 (ix2 r (pcol 1 h j)) = gateTile 1 x0 x7 x8 (dyTile x9 x10) r h j := by
  have hh := h.isLt
  have hj := j.isLt
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0)]
  unfold kernelRun0_B
  dsimp only
  refine (skip 128 3072 _ _ _ r _ (by show 1024 + 1536 * 1 + (128 * h.val + j.val) < 3072 ∨ 3072 + 128 ≤ 1024 + 1536 * 1 + (128 * h.val + j.val); omega)).trans ?_
  refine (hit 2560 _ _ _ r _ (hcol h j) (by show 1024 + 1536 * 1 + (128 * h.val + j.val) = 2560 + (128 * h.val + j.val); omega)).trans ?_
  sl_unfold_words
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gates_1 _ _ _ _ r h j

set_option maxHeartbeats 400000 in
theorem out_B_14 (hc0 : ¬cond0_0 i) (xo13 : Vec Ideal S1x512 .f32) (xo14 : Vec Ideal S1x512 .f32) (xo15 : Vec Ideal S1x256 .f32) (xo16 : Vec Ideal S128x256 .f32) (xs0 : Vec Ideal S2x512x256 .f32) (h : Fin 4) (z : Fin 1) (j : Fin 128) :
    out0_B_14 (F := Ideal) c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0 (ix2 z (hcol h j)) = xo14 (ix2 z (hcol h j)) + gainTile 1 x0 x8 (dyTile x9 x10) h j := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 xo13 xo14 xo15 xo16 xs0)]
  unfold kernelRun0_B
  dsimp only
  sl_unfold_words
  rw [View.canon_unit_zero (S := S1x512) hz2]
  simp only [View.readAt_eq_ld, h1.read_unread, h7.read_unread, h8.read_unread, h9.read_unread, h10.read_unread, h11.read_unread, h14.read_unread, h15.read_unread, ld_O, ld_P, rd_D, pay_dy, View.ld_unit_zero (S := S256x1024) hz2, View.ld_unit_zero (S := S1024x1024) hz2, View.ld_unit_zero (S := S1x512) hz2]
  exact gains_1 _ _ _ _ h z j

end Cases

end Cert.AttnGradIdeal.Hand

end
-- ==== Proof.NormRow.lean ====
/-
  The gradient of root-mean-square normalisation along one row: the kernel's closed form and the form
  that differentiating the plain formula gives are the same number when the row is finite.
-/
module

public import proofs.«01_k».proof.Proof.Finite

@[expose] public section

noncomputable section

namespace Cert.Finite

open Idealize.ShloMosaic

variable {N : Type} [Fintype N]

/-- The mean square of a row plus a small constant. -/
def meanSq (n e : EReal) (x : N → EReal) : EReal := Ideal.div (∑ k, x k * x k) n + e

/-- The kernel's form, at one entry of the row: `a` the cotangent of the normalised row, `g` the gain. -/
def normGrad (n e : EReal) (a x g : N → EReal) (d : EReal) (j : N) : EReal :=
  Ideal.rsqrt (meanSq n e x) * (a j * g j - x j * Ideal.rsqrt (meanSq n e x)
    * Ideal.div (∑ k, a k * g k * (x k * Ideal.rsqrt (meanSq n e x))) n) + d

/-- The scalar that multiplies the row in the derivative of its mean square. -/
def meanSqGrad (n e h : EReal) (a x g : N → EReal) : EReal :=
  Ideal.div ((∑ k, x k * (a k * g k)) * (h * Ideal.div (Ideal.rsqrt (meanSq n e x)) (meanSq n e x))) n

theorem coe_sum (f : N → ℝ) : (∑ k, (f k : EReal)) = ((∑ k, f k : ℝ) : EReal) := by
  classical
  induction (Finset.univ : Finset N) using Finset.induction_on with
  | empty => simp
  | insert a s ha ih => rw [Finset.sum_insert ha, Finset.sum_insert ha, ih, EReal.coe_add]

theorem div_real (a b : ℝ) (hb : b ≠ 0) : Ideal.div (a : EReal) (b : EReal) = ((a / b : ℝ) : EReal) := by
  rw [Ideal.div_coe hb, ← EReal.coe_mul]
  congr 1
  ring

theorem norm_row (n e : ℝ) (hn : 0 < n) (he : 0 < e) (a x g : N → EReal) (d : EReal)
    (ha : ∀ k, IsReal (a k)) (hx : ∀ k, IsReal (x k)) (hg : ∀ k, IsReal (g k)) (j : N) :
    normGrad n e a x g d j
      = d + a j * g j * Ideal.rsqrt (meanSq n e x) + x j * meanSqGrad n e ((-(1 / 2) : ℝ) : EReal) a x g
        + meanSqGrad n e ((-(1 / 2) : ℝ) : EReal) a x g * x j := by
  choose a' ha using ha
  choose x' hx using hx
  choose g' hg using hg
  have hn0 : n ≠ 0 := hn.ne'
  have hc : 0 < (∑ k, x' k * x' k) / n + e :=
    add_pos_of_nonneg_of_pos (div_nonneg (Finset.sum_nonneg fun k _ => mul_self_nonneg _) hn.le) he
  have hms : meanSq (n : EReal) e x = (((∑ k, x' k * x' k) / n + e : ℝ) : EReal) := by
    unfold meanSq
    simp only [hx, ← EReal.coe_mul]
    rw [coe_sum, div_real _ _ hn0, ← EReal.coe_add]
  generalize (∑ k, x' k * x' k) / n + e = q at hc hms
  have hr : Ideal.rsqrt (meanSq (n : EReal) e x) = (((Real.sqrt q)⁻¹ : ℝ) : EReal) := by
    rw [hms, Ideal.rsqrt_coe, if_neg (not_lt.2 hc.le), if_neg hc.ne']
  have hs : (Real.sqrt q)⁻¹ * (Real.sqrt q)⁻¹ = q⁻¹ := by
    rw [← mul_inv, Real.mul_self_sqrt hc.le]
  have hw : meanSqGrad (n : EReal) e ((-(1 / 2) : ℝ) : EReal) a x g
      = (((∑ k, x' k * (a' k * g' k)) * (-(1 / 2) * ((Real.sqrt q)⁻¹ / q)) / n : ℝ) : EReal) := by
    unfold meanSqGrad
    rw [hr, hms, div_real _ _ hc.ne']
    simp only [hx, ha, hg, ← EReal.coe_mul]
    rw [coe_sum, ← EReal.coe_mul, div_real _ _ hn0]
  rw [hw]
  unfold normGrad
  rw [hr]
  simp only [hx, ha, hg, ← EReal.coe_mul]
  rw [coe_sum, div_real _ _ hn0]
  have e1 : (∑ k, a' k * g' k * (x' k * (Real.sqrt q)⁻¹)) = (Real.sqrt q)⁻¹ * ∑ k, x' k * (a' k * g' k) := by
    rw [Finset.mul_sum]
    exact Finset.sum_congr rfl fun k _ => by ring
  rw [e1]
  generalize (∑ k, x' k * (a' k * g' k)) = S
  generalize (Real.sqrt q)⁻¹ = r at hs
  simp only [← EReal.coe_mul, ← EReal.coe_sub]
  rw [add_comm, add_assoc, add_assoc, ← EReal.coe_add, ← EReal.coe_add]
  congr 2
  rw [div_eq_mul_inv r q, ← hs]
  field_simp
  ring

/-! The constants of the normalisation. -/
theorem ofBits_1024 : Ideal.ofBits .f32 0x44800000#32 = ((1024 : ℝ) : EReal) := by
  simp [Ideal.ofBits, Ideal.ieee]
  rw [← EReal.coe_mul]
  norm_num

theorem ofBits_neg_half : Ideal.ofBits .f32 0xBF000000#32 = ((-(1 / 2) : ℝ) : EReal) := by
  simp [Ideal.ofBits, Ideal.ieee]
  rw [← EReal.coe_mul]
  norm_num

theorem ofBits_eps : ∃ e : ℝ, 0 < e ∧ Ideal.ofBits .f32 0x358637BD#32 = (e : EReal) := by
  refine ⟨_, ?_, by simp only [Ideal.ofBits, Ideal.ieee]; rfl⟩
  rw [if_neg (by decide)]
  positivity

end Cert.Finite

end
-- ==== Proof.AttnGradValue.lean ====
/-
  The gradient of the mixer's attention at the output gates, all rows: the tiles put together, last tile
  first, what the reference's results are at the same entries, and the claim.
-/
module

public import proofs.«01_k».proof.Defs
public import proofs.«01_k».proof.Proof.Gen.AttnGradIdeal.Value
public import proofs.«01_k».proof.Proof.Gen.AttnGradRefIdeal.Run
public import proofs.«01_k».proof.Proof.Gen.AttnGradRefIdeal.Read
public import proofs.«01_k».proof.Proof.Gen.Pre_finite_gate
public import proofs.«01_k».proof.Proof.Gen.On_gate_columns
public import proofs.«01_k».proof.Proof.NormRow
public import proofs.«01_k».proof.Proof.AttnGradTile
public import Idealize.ShloMosaic.Lib.Pointwise
public import Idealize.ShloMosaic.Lib.Tactic

@[expose] public section

noncomputable section

namespace Cert.AttnGradIdeal.Hand

open Cert.AttnGradIdeal Cert.AttnGradIdeal.Gen Idealize.ShloMosaic Idealize.ShloMosaic.TcCoe Idealize.SL.Sem

set_option maxHeartbeats 400000

open Idealize.ShloMosaic.Pipeline (Dat)

/-! ## From the tiles to the whole arrays -/

theorem idx0 : ∀ t : Fin cfg0.N, win0_0.index t 0 = 15 - t.val ∧ win0_0.index t 1 = 0 :=
  (by decide +kernel : ∀ t : Fin grid0.N, win0_0.index t 0 = 15 - t.val ∧ win0_0.index t 1 = 0)
theorem idx8 : ∀ t : Fin cfg0.N, win0_8.index t 0 = 15 - t.val ∧ win0_8.index t 1 = 0 :=
  (by decide +kernel : ∀ t : Fin grid0.N, win0_8.index t 0 = 15 - t.val ∧ win0_8.index t 1 = 0)
theorem idx9 : ∀ t : Fin cfg0.N, win0_9.index t 0 = 15 - t.val ∧ win0_9.index t 1 = 0 :=
  (by decide +kernel : ∀ t : Fin grid0.N, win0_9.index t 0 = 15 - t.val ∧ win0_9.index t 1 = 0)
theorem idx12 : ∀ t : Fin cfg0.N, win0_12.index t 0 = 15 - t.val ∧ win0_12.index t 1 = 0 :=
  (by decide +kernel : ∀ t : Fin grid0.N, win0_12.index t 0 = 15 - t.val ∧ win0_12.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx10 : ∀ t : Fin cfg0.N, win0_10.index t 0 = 0 ∧ win0_10.index t 1 = 0 :=
  (by decide +kernel : ∀ t : Fin grid0.N, win0_10.index t 0 = 0 ∧ win0_10.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)

/-- Row `r` of the tile at point `t`: the tiles are taken last first. -/
def row (t : Fin cfg0.N) (r : Fin 256) : Fin 4096 :=
  ⟨(15 - t.val) * 256 + r.val, by have := r.isLt; omega⟩

variable (m : (ℓ : Loc nD τ sig) → Buf (Elt Ideal) ℓ) (c : Dev nD)

/-! The arguments. -/
abbrev aP : FVec Ideal S4096x3200 .bf16 := m ((c : Thread nD τ).loc main_arg0)
abbrev aR : FVec Ideal S1x512 .f32 := m ((c : Thread nD τ).loc main_arg6)
abbrev aG : FVec Ideal S1x512 .f32 := m ((c : Thread nD τ).loc main_arg7)
abbrev aO : FVec Ideal S4096x1024 .f32 := m ((c : Thread nD τ).loc main_arg8)
abbrev aD : FVec Ideal S4096x1024 .bf16 := m ((c : Thread nD τ).loc main_arg9)
abbrev aW : FVec Ideal S1024x1024 .bf16 := m ((c : Thread nD τ).loc main_arg10)

theorem blk0 (t : Fin cfg0.N) (r : Fin 256) (k : Fin 3200) :
    (iblk m c 0 t : Vec Ideal S256x3200 .bf16) (ix2 r k) = aP m c (ix2 (row t r) k) := by
  unfold aP; rw [← V_main_arg0 m c]
  unfold iblk
  rw [View.read_apply]
  show V m c main_arg0 _ = V m c main_arg0 _
  congr 1
  funext a
  apply Fin.ext
  match a with
  | ⟨0, _⟩ => show win0_0.index t 0 * 256 + 1 * r.val = (15 - t.val) * 256 + r.val; rw [(idx0 t).1]; omega
  | ⟨1, _⟩ => show win0_0.index t 1 * 3200 + 1 * k.val = k.val; rw [(idx0 t).2]; omega

theorem blk6 (t : Fin cfg0.N) (r : Fin 1) (k : Fin 512) :
    (iblk m c 6 t : Vec Ideal S1x512 .f32) (ix2 r k) = aR m c (ix2 r k) := by
  unfold aR; rw [← V_main_arg6 m c]
  unfold iblk
  rw [View.read_apply]
  show V m c main_arg6 _ = V m c main_arg6 _
  congr 1
  funext a
  apply Fin.ext
  match a with
  | ⟨0, _⟩ => show win0_6.index t 0 * 1 + 1 * r.val = r.val; rw [(idx6 t).1]; omega
  | ⟨1, _⟩ => show win0_6.index t 1 * 512 + 1 * k.val = k.val; rw [(idx6 t).2]; omega

theorem blk7 (t : Fin cfg0.N) (r : Fin 1) (k : Fin 512) :
    (iblk m c 7 t : Vec Ideal S1x512 .f32) (ix2 r k) = aG m c (ix2 r k) := by
  unfold aG; rw [← V_main_arg7 m c]
  unfold iblk
  rw [View.read_apply]
  show V m c main_arg7 _ = V m c main_arg7 _
  congr 1
  funext a
  apply Fin.ext
  match a with
  | ⟨0, _⟩ => show win0_7.index t 0 * 1 + 1 * r.val = r.val; rw [(idx7 t).1]; omega
  | ⟨1, _⟩ => show win0_7.index t 1 * 512 + 1 * k.val = k.val; rw [(idx7 t).2]; omega

theorem blk8 (t : Fin cfg0.N) (r : Fin 256) (k : Fin 1024) :
    (iblk m c 8 t : Vec Ideal S256x1024 .f32) (ix2 r k) = aO m c (ix2 (row t r) k) := by
  unfold aO; rw [← V_main_arg8 m c]
  unfold iblk
  rw [View.read_apply]
  show V m c main_arg8 _ = V m c main_arg8 _
  congr 1
  funext a
  apply Fin.ext
  match a with
  | ⟨0, _⟩ => show win0_8.index t 0 * 256 + 1 * r.val = (15 - t.val) * 256 + r.val; rw [(idx8 t).1]; omega
  | ⟨1, _⟩ => show win0_8.index t 1 * 1024 + 1 * k.val = k.val; rw [(idx8 t).2]; omega

theorem blk9 (t : Fin cfg0.N) (r : Fin 256) (k : Fin 1024) :
    (iblk m c 9 t : Vec Ideal S256x1024 .bf16) (ix2 r k) = aD m c (ix2 (row t r) k) := by
  unfold aD; rw [← V_main_arg9 m c]
  unfold iblk
  rw [View.read_apply]
  show V m c main_arg9 _ = V m c main_arg9 _
  congr 1
  funext a
  apply Fin.ext
  match a with
  | ⟨0, _⟩ => show win0_9.index t 0 * 256 + 1 * r.val = (15 - t.val) * 256 + r.val; rw [(idx9 t).1]; omega
  | ⟨1, _⟩ => show win0_9.index t 1 * 1024 + 1 * k.val = k.val; rw [(idx9 t).2]; omega

theorem blk10 (t : Fin cfg0.N) (r : Fin 1024) (k : Fin 1024) :
    (iblk m c 10 t : Vec Ideal S1024x1024 .bf16) (ix2 r k) = aW m c (ix2 r k) := by
  unfold aW; rw [← V_main_arg10 m c]
  unfold iblk
  rw [View.read_apply]
  show V m c main_arg10 _ = V m c main_arg10 _
  congr 1
  funext a
  apply Fin.ext
  match a with
  | ⟨0, _⟩ => show win0_10.index t 0 * 1024 + 1 * r.val = r.val; rw [(idx10 t).1]; omega
  | ⟨1, _⟩ => show win0_10.index t 1 * 1024 + 1 * k.val = k.val; rw [(idx10 t).2]; omega

/-- The cotangent of the gated output at a row and a column. -/
def dyAt (D : FVec Ideal S4096x1024 .bf16) (W : FVec Ideal S1024x1024 .bf16) (R : Fin 4096) (l : Fin 1024) : EReal :=
  ∑ k : Fin 1024, (D (ix2 R k) : EReal) * W (ix2 l k)

/-- The gradient of the gate at row `R`. -/
def gateAt (g : Fin 2) (P : FVec Ideal S4096x3200 .bf16) (G : FVec Ideal S1x512 .f32) (O : FVec Ideal S4096x1024 .f32)
    (D : FVec Ideal S4096x1024 .bf16) (W : FVec Ideal S1024x1024 .bf16) (R : Fin 4096) (h : Fin 4) (j : Fin 128) : EReal :=
  dGate (dyAt D W R (ocol g h j)) (nrm (fun k => O (ix2 R (ocol g h k))) j) (G (ix2 0 (hcol h j))) (P (ix2 R (pcol g h j)))

/-- What row `R` adds to the gradient of a gain. -/
def gainAt (g : Fin 2) (P : FVec Ideal S4096x3200 .bf16) (O : FVec Ideal S4096x1024 .f32)
    (D : FVec Ideal S4096x1024 .bf16) (W : FVec Ideal S1024x1024 .bf16) (h : Fin 4) (j : Fin 128) (R : Fin 4096) : EReal :=
  dGain (dyAt D W R (ocol g h j)) (nrm (fun k => O (ix2 R (ocol g h k))) j) (P (ix2 R (pcol g h j)))

theorem dy_blk (t : Fin cfg0.N) (r : Fin 256) (l : Fin 1024) :
    dyTile (iblk m c 9 t) (iblk m c 10 t) (ix2 r l) = dyAt (aD m c) (aW m c) (row t r) l := by
  unfold dyTile dyAt
  exact Finset.sum_congr rfl fun k _ => congrArg₂ (fun a b : EReal => a * b) (blk9 m c t r k) (blk10 m c t l k)

theorem nrm_blk (t : Fin cfg0.N) (r : Fin 256) (g : Fin 2) (h : Fin 4) (j : Fin 128) :
    nrm (fun k => (iblk m c 8 t : Vec Ideal S256x1024 .f32) (ix2 r (ocol g h k))) j = nrm (fun k => aO m c (ix2 (row t r) (ocol g h k))) j :=
  congrArg (fun x => nrm x j) (funext fun k => blk8 m c t r (ocol g h k))

theorem gate_blk0 (t : Fin cfg0.N) (r : Fin 256) (h : Fin 4) (j : Fin 128) :
    gateTile 0 (iblk m c 0 t) (iblk m c 6 t) (iblk m c 8 t) (dyTile (iblk m c 9 t) (iblk m c 10 t)) r h j
      = gateAt 0 (aP m c) (aR m c) (aO m c) (aD m c) (aW m c) (row t r) h j := by
  unfold gateTile gateAt
  rw [dy_blk, nrm_blk, blk6, blk0]

theorem gate_blk1 (t : Fin cfg0.N) (r : Fin 256) (h : Fin 4) (j : Fin 128) :
    gateTile 1 (iblk m c 0 t) (iblk m c 7 t) (iblk m c 8 t) (dyTile (iblk m c 9 t) (iblk m c 10 t)) r h j
      = gateAt 1 (aP m c) (aG m c) (aO m c) (aD m c) (aW m c) (row t r) h j := by
  unfold gateTile gateAt
  rw [dy_blk, nrm_blk, blk7, blk0]

theorem gain_blk (g : Fin 2) (t : Fin cfg0.N) (h : Fin 4) (j : Fin 128) :
    gainTile g (iblk m c 0 t) (iblk m c 8 t) (dyTile (iblk m c 9 t) (iblk m c 10 t)) h j
      = ∑ r : Fin 256, gainAt g (aP m c) (aO m c) (aD m c) (aW m c) h j (row t r) := by
  unfold gainTile gainAt
  refine Finset.sum_congr rfl fun r _ => ?_
  rw [dy_blk, nrm_blk, blk0]

theorem gate_at0 (t : Fin cfg0.N) (r : Fin 256) (h : Fin 4) (j : Fin 128) :
    (outsAt0 m c t.val t.isLt).1 (ix2 r (pcol 0 h j)) = gateAt 0 (aP m c) (aR m c) (aO m c) (aD m c) (aW m c) (row t r) h j := by
  rw [← gate_blk0]
  by_cases hc : t.val % 16 = 0
  · rw [outsAt0_A m c t hc]
    dsimp only
    rw [out_A_12_0]
  · rw [outsAt0_B m c t hc]
    dsimp only
    rw [out_B_12_0]

theorem gate_at1 (t : Fin cfg0.N) (r : Fin 256) (h : Fin 4) (j : Fin 128) :
    (outsAt0 m c t.val t.isLt).1 (ix2 r (pcol 1 h j)) = gateAt 1 (aP m c) (aG m c) (aO m c) (aD m c) (aW m c) (row t r) h j := by
  rw [← gate_blk1]
  by_cases hc : t.val % 16 = 0
  · rw [outsAt0_A m c t hc]
    dsimp only
    rw [out_A_12_1]
  · rw [outsAt0_B m c t hc]
    dsimp only
    rw [out_B_12_1]

/-- A sum over the points up to one of them. -/
def sumTo (f : (s : ℕ) → s < cfg0.N → EReal) : (n : ℕ) → n < cfg0.N → EReal
  | 0, h => f 0 h
  | n + 1, h => sumTo f n (Nat.lt_of_succ_lt h) + f (n + 1) h

theorem sumTo_eq (f : (s : ℕ) → s < cfg0.N → EReal) : ∀ (n : ℕ) (h : n < cfg0.N),
    sumTo f n h = ∑ s : Fin (n + 1), f s.val (Nat.lt_of_lt_of_le s.isLt h)
  | 0, h => (Fin.sum_univ_one fun s : Fin 1 => f s.val (Nat.lt_of_lt_of_le s.isLt h)).symm
  | n + 1, h => by
    rw [Fin.sum_univ_castSucc]
    unfold sumTo
    rw [sumTo_eq f n]
    rfl

theorem N16 : cfg0.N = 16 := N_0

/-- The tiles, last first, make up all the rows. -/
theorem sum_rows (f : Fin 4096 → EReal) (n : ℕ) (h : n < cfg0.N) (e : n = 15) :
    sumTo (fun s hs => ∑ r : Fin 256, f (row ⟨s, hs⟩ r)) n h = ∑ R : Fin 4096, f R := by
  subst e
  rw [sumTo_eq, Fin.sum_univ_tiles (N := 4096) 16 256 (by decide) f, ← Equiv.sum_comp Fin.revPerm]
  refine Finset.sum_congr rfl fun s _ => Finset.sum_congr rfl fun r _ => congrArg f (Fin.ext ?_)
  show (15 - (Fin.rev s).val) * 256 + r.val = s.val * 256 + r.val
  rw [Fin.val_rev]
  have := s.isLt
  omega

theorem zero_3 (i : S1x512.Idx) : k0_pay3 (F := Ideal) i = 0 := by
  unfold_payloads
  pointwise
theorem zero_4 (i : S1x512.Idx) : k0_pay4 (F := Ideal) i = 0 := by
  unfold_payloads
  pointwise

theorem gain_at0 (h : Fin 4) (z : Fin 1) (j : Fin 128) : ∀ (n : ℕ) (hn : n < cfg0.N),
    (outsAt0 m c n hn).2.1 (ix2 z (hcol h j))
      = sumTo (fun s hs => ∑ r : Fin 256, gainAt 0 (aP m c) (aO m c) (aD m c) (aW m c) h j (row ⟨s, hs⟩ r)) n hn
  | 0, hn => by
    have e := outsAt0_A m c ⟨0, hn⟩ rfl
    dsimp only at e
    rw [e]
    dsimp only
    rw [out_A_13, gain_blk, zero_3, zero_add]
    rfl
  | n + 1, hn => by
    have hN := N16
    have hk : ¬(n + 1) % 16 = 0 := by omega
    have e := outsAt0_B m c ⟨n + 1, hn⟩ hk
    dsimp only at e
    rw [e]
    dsimp only
    rw [out_B_13, gain_blk]
    have e' : (outsAt0 m c (n + 1 - 1) (Nat.lt_of_le_of_lt (Nat.sub_le _ _) hn)).2.1 (ix2 z (hcol h j)) = _ := gain_at0 h z j n (Nat.lt_of_succ_lt hn)
    rw [e']
    rfl

theorem gain_at1 (h : Fin 4) (z : Fin 1) (j : Fin 128) : ∀ (n : ℕ) (hn : n < cfg0.N),
    (outsAt0 m c n hn).2.2.1 (ix2 z (hcol h j))
      = sumTo (fun s hs => ∑ r : Fin 256, gainAt 1 (aP m c) (aO m c) (aD m c) (aW m c) h j (row ⟨s, hs⟩ r)) n hn
  | 0, hn => by
    have e := outsAt0_A m c ⟨0, hn⟩ rfl
    dsimp only at e
    rw [e]
    dsimp only
    rw [out_A_14, gain_blk, zero_4, zero_add]
    rfl
  | n + 1, hn => by
    have hN := N16
    have hk : ¬(n + 1) % 16 = 0 := by omega
    have e := outsAt0_B m c ⟨n + 1, hn⟩ hk
    dsimp only at e
    rw [e]
    dsimp only
    rw [out_B_14, gain_blk]
    have e' : (outsAt0 m c (n + 1 - 1) (Nat.lt_of_le_of_lt (Nat.sub_le _ _) hn)).2.2.1 (ix2 z (hcol h j)) = _ := gain_at1 h z j n (Nat.lt_of_succ_lt hn)
    rw [e']
    rfl

theorem flush12 : ∀ t : Fin cfg0.N, (cfg0.win 12).flush t = true := (by decide +kernel : ∀ t : Fin grid0.N, (cfg0.win 12).flush t = true)
theorem flush13 : ∀ t : Fin cfg0.N, (cfg0.win 13).flush t = true ↔ t.val = 15 := (by decide +kernel : ∀ t : Fin grid0.N, (cfg0.win 13).flush t = true ↔ t.val = 15)
theorem flush14 : ∀ t : Fin cfg0.N, (cfg0.win 14).flush t = true ↔ t.val = 15 := (by decide +kernel : ∀ t : Fin grid0.N, (cfg0.win 14).flush t = true ↔ t.val = 15)

/-- The point whose tile holds row `R`. -/
def ptOf (R : Fin 4096) : Fin cfg0.N := ⟨15 - R.val / 256, by have := N16; omega⟩

theorem row_ptOf (R : Fin 4096) : row (ptOf R) ⟨R.val % 256, Nat.mod_lt _ (by decide)⟩ = R := by
  apply Fin.ext
  show (15 - (15 - R.val / 256)) * 256 + R.val % 256 = R.val
  have := R.isLt
  omega

/-- What is left in the first result at a row is what its tile's point wrote. -/
theorem final12 (R : Fin 4096) (l : Fin 3200) :
    ((dats m 0 c).arrAt 12 cfg0.N : Vec Ideal S4096x3200 .bf16) (ix2 R l)
      = (outsAt0 m c (ptOf R).val (ptOf R).isLt).1 (ix2 ⟨R.val % 256, Nat.mod_lt _ (by decide)⟩ l) := by
  have e := congrFun (Value.blocks12 m c (ptOf R) (flush12 _)) (ix2 ⟨R.val % 256, Nat.mod_lt _ (by decide)⟩ l)
  rw [Value.flushed12, View.read_apply] at e
  have hi : ((cfg0.win 12).blk (ptOf R)).view.emb (ix2 ⟨R.val % 256, Nat.mod_lt _ (by decide)⟩ l) = (ix2 R l : S4096x3200.Idx) := by
    funext a
    apply Fin.ext
    match a with
    | ⟨0, _⟩ =>
      show win0_12.index (ptOf R) 0 * 256 + 1 * (R.val % 256) = R.val
      rw [(idx12 (ptOf R)).1]
      show (15 - (15 - R.val / 256)) * 256 + 1 * (R.val % 256) = R.val
      have := R.isLt
      omega
    | ⟨1, _⟩ => show win0_12.index (ptOf R) 1 * 3200 + 1 * l.val = l.val; rw [(idx12 (ptOf R)).2]; omega
  have hy : (cfg0.win 12).xinj (grid0.coords (ptOf R)) (ix2 ⟨R.val % 256, Nat.mod_lt _ (by decide)⟩ l) = (ix2 ⟨R.val % 256, Nat.mod_lt _ (by decide)⟩ l : S256x3200.Idx) := by
    funext a
    match a with
    | ⟨0, _⟩ => rfl
    | ⟨1, _⟩ => rfl
  exact ((congrArg ((dats m 0 c).arrAt 12 cfg0.N) hi).symm.trans e).trans (congrArg (outsAt0 m c (ptOf R).val (ptOf R).isLt).1 hy)

theorem outs_congr (n k : ℕ) (hn : n < cfg0.N) (hk : k < cfg0.N) (e : n = k) : outsAt0 m c n hn = outsAt0 m c k hk := by
  subst e
  rfl

/-- The last point. -/
def lastPt : Fin cfg0.N := ⟨15, by have := N16; omega⟩

theorem gate_final0 (R : Fin 4096) (h : Fin 4) (j : Fin 128) :
    ((dats m 0 c).arrAt 12 cfg0.N : Vec Ideal S4096x3200 .bf16) (ix2 R (pcol 0 h j))
      = gateAt 0 (aP m c) (aR m c) (aO m c) (aD m c) (aW m c) R h j := by
  rw [final12, gate_at0, row_ptOf]

theorem gate_final1 (R : Fin 4096) (h : Fin 4) (j : Fin 128) :
    ((dats m 0 c).arrAt 12 cfg0.N : Vec Ideal S4096x3200 .bf16) (ix2 R (pcol 1 h j))
      = gateAt 1 (aP m c) (aG m c) (aO m c) (aD m c) (aW m c) R h j := by
  rw [final12, gate_at1, row_ptOf]

theorem flushed13_eq (X : Vec Ideal S1x512 .f32) (hX : ∀ n hn, n = 15 → (outsAt0 m c n hn).2.1 = X) (t : Fin cfg0.N) (hf : (cfg0.win 13).flush t = true) :
    (dats m 0 c).flushed 13 t = ((cfg0.win 13).blk t).view.read (Elt Ideal) X := by
  have h : t.val = 15 := (flush13 t).mp hf
  rw [Value.flushed13]
  funext y
  rw [View.read_apply]
  have hi : ((cfg0.win 13).blk t).view.emb y = (ix2 (y 0) (y 1) : S1x512.Idx) := by
    funext a
    apply Fin.ext
    match a with
    | ⟨0, _⟩ => show win0_13.index t 0 * 1 + 1 * (y 0).val = (y 0).val; rw [(idx13 t).1]; omega
    | ⟨1, _⟩ => show win0_13.index t 1 * 512 + 1 * (y 1).val = (y 1).val; rw [(idx13 t).2]; omega
  have hy : (cfg0.win 13).xinj (grid0.coords t) y = (ix2 (y 0) (y 1) : S1x512.Idx) := by
    funext a
    match a with
    | ⟨0, _⟩ => rfl
    | ⟨1, _⟩ => rfl
  refine Eq.trans ?_ (congrArg X hi.symm)
  refine Eq.trans (congrArg (outsAt0 m c t.val t.isLt).2.1 hy) ?_
  exact congrFun (hX t.val t.isLt h) _

theorem final13 (X : Vec Ideal S1x512 .f32) (hX : ∀ n hn, n = 15 → (outsAt0 m c n hn).2.1 = X) : (dats m 0 c).arrAt 13 cfg0.N = X :=
  (dats m 0 c).arrAt_eq_of_cover 13 _ (flushed13_eq m c X hX) fun i => ⟨lastPt, (flush13 lastPt).mpr rfl, by
    show i ∈ ((View.whole main_v0_1).slice (win0_13.rect lastPt)).set
    rw [View.set_slice_whole, Rect.mem_set_unit]
    intro a
    have h0 : (i 0 : Nat) < 1 := (i 0).isLt
    have h1 : (i 1 : Nat) < 512 := (i 1).isLt
    match a with
    | ⟨0, _⟩ => show win0_13.index lastPt 0 * 1 ≤ (i 0 : Nat) ∧ (i 0 : Nat) < win0_13.index lastPt 0 * 1 + 1
                rw [(idx13 lastPt).1]; omega
    | ⟨1, _⟩ => show win0_13.index lastPt 1 * 512 ≤ (i 1 : Nat) ∧ (i 1 : Nat) < win0_13.index lastPt 1 * 512 + 512
                rw [(idx13 lastPt).2]; omega⟩

theorem gain_final0 (z : Fin 1) (h : Fin 4) (j : Fin 128) :
    ((dats m 0 c).arrAt 13 cfg0.N : Vec Ideal S1x512 .f32) (ix2 z (hcol h j))
      = ∑ R : Fin 4096, gainAt 0 (aP m c) (aO m c) (aD m c) (aW m c) h j R := by
  rw [final13 m c (outsAt0 m c lastPt.val lastPt.isLt).2.1 fun n hn e => by rw [outs_congr m c n lastPt.val hn lastPt.isLt e],
    gain_at0 m c h z j, sum_rows (gainAt 0 (aP m c) (aO m c) (aD m c) (aW m c) h j) lastPt.val lastPt.isLt rfl]

theorem flushed14_eq (X : Vec Ideal S1x512 .f32) (hX : ∀ n hn, n = 15 → (outsAt0 m c n hn).2.2.1 = X) (t : Fin cfg0.N) (hf : (cfg0.win 14).flush t = true) :
    (dats m 0 c).flushed 14 t = ((cfg0.win 14).blk t).view.read (Elt Ideal) X := by
  have h : t.val = 15 := (flush14 t).mp hf
  rw [Value.flushed14]
  funext y
  rw [View.read_apply]
  have hi : ((cfg0.win 14).blk t).view.emb y = (ix2 (y 0) (y 1) : S1x512.Idx) := by
    funext a
    apply Fin.ext
    match a with
    | ⟨0, _⟩ => show win0_14.index t 0 * 1 + 1 * (y 0).val = (y 0).val; rw [(idx14 t).1]; omega
    | ⟨1, _⟩ => show win0_14.index t 1 * 512 + 1 * (y 1).val = (y 1).val; rw [(idx14 t).2]; omega
  have hy : (cfg0.win 14).xinj (grid0.coords t) y = (ix2 (y 0) (y 1) : S1x512.Idx) := by
    funext a
    match a with
    | ⟨0, _⟩ => rfl
    | ⟨1, _⟩ => rfl
  refine Eq.trans ?_ (congrArg X hi.symm)
  refine Eq.trans (congrArg (outsAt0 m c t.val t.isLt).2.2.1 hy) ?_
  exact congrFun (hX t.val t.isLt h) _

theorem final14 (X : Vec Ideal S1x512 .f32) (hX : ∀ n hn, n = 15 → (outsAt0 m c n hn).2.2.1 = X) : (dats m 0 c).arrAt 14 cfg0.N = X :=
  (dats m 0 c).arrAt_eq_of_cover 14 _ (flushed14_eq m c X hX) fun i => ⟨lastPt, (flush14 lastPt).mpr rfl, by
    show i ∈ ((View.whole main_v0_2).slice (win0_14.rect lastPt)).set
    rw [View.set_slice_whole, Rect.mem_set_unit]
    intro a
    have h0 : (i 0 : Nat) < 1 := (i 0).isLt
    have h1 : (i 1 : Nat) < 512 := (i 1).isLt
    match a with
    | ⟨0, _⟩ => show win0_14.index lastPt 0 * 1 ≤ (i 0 : Nat) ∧ (i 0 : Nat) < win0_14.index lastPt 0 * 1 + 1
                rw [(idx14 lastPt).1]; omega
    | ⟨1, _⟩ => show win0_14.index lastPt 1 * 512 ≤ (i 1 : Nat) ∧ (i 1 : Nat) < win0_14.index lastPt 1 * 512 + 512
                rw [(idx14 lastPt).2]; omega⟩

theorem gain_final1 (z : Fin 1) (h : Fin 4) (j : Fin 128) :
    ((dats m 0 c).arrAt 14 cfg0.N : Vec Ideal S1x512 .f32) (ix2 z (hcol h j))
      = ∑ R : Fin 4096, gainAt 1 (aP m c) (aO m c) (aD m c) (aW m c) h j R := by
  rw [final14 m c (outsAt0 m c lastPt.val lastPt.isLt).2.2.1 fun n hn e => by rw [outs_congr m c n lastPt.val hn lastPt.isLt e],
    gain_at1 m c h z j, sum_rows (gainAt 1 (aP m c) (aO m c) (aD m c) (aW m c) h j) lastPt.val lastPt.isLt rfl]

open Cert.Finite

/-- A sum of squares is at least any one of them, and none of them is negative. -/
theorem sq_nonneg (x : EReal) : 0 ≤ x * x := by
  induction x using EReal.rec with
  | bot => simp
  | coe r => rw [← EReal.coe_mul]; exact_mod_cast mul_self_nonneg r
  | top => simp

theorem sq_top {x : EReal} (h : ¬IsReal x) : x * x = ⊤ := by
  induction x using EReal.rec with
  | bot => simp
  | coe r => exact absurd (isReal_coe r) h
  | top => simp

theorem ofBits_128 : Ideal.ofBits .f32 0x43000000#32 = ((128 : ℝ) : EReal) := by
  simp [Ideal.ofBits, Ideal.ieee]
  rw [← EReal.coe_mul]
  norm_num

/-- A normalised entry is a real number, whatever the row: a row with an infinite entry is normalised to zeros. -/
theorem nrm_real (x : Fin 128 → EReal) (j : Fin 128) : IsReal (nrm x j) := by
  obtain ⟨e, he, hb⟩ := ofBits_eps
  unfold nrm
  rw [ofBits_128, hb]
  by_cases hx : ∀ k, IsReal (x k)
  · choose y hy using hx
    have hc : 0 < (∑ k, y k * y k) / 128 + e :=
      add_pos_of_nonneg_of_pos (div_nonneg (Finset.sum_nonneg fun k _ => mul_self_nonneg _) (by norm_num)) he
    simp only [hy, ← EReal.coe_mul]
    rw [coe_sum, div_real _ _ (by norm_num), ← EReal.coe_add]
    generalize (∑ k, y k * y k) / 128 + e = q at hc
    rw [Ideal.rsqrt_coe, if_neg (not_lt.2 hc.le), if_neg hc.ne']
    exact (isReal_coe _).mul (isReal_coe _)
  · obtain ⟨k, hk⟩ := not_forall.1 hx
    have ht : ∑ k, x k * x k = ⊤ :=
      top_le_iff.1 ((sq_top hk).symm.le.trans (Finset.single_le_sum (f := fun k => x k * x k) (fun i _ => sq_nonneg (x i)) (Finset.mem_univ k)))
    rw [ht, Ideal.div_coe (by norm_num), EReal.top_mul_coe_of_pos (by norm_num), EReal.top_add_coe, Ideal.rsqrt_top, mul_zero]
    exact isReal_zero

/-- The cotangent of the gate, the two ways it is computed. -/
theorem gate_alg {a n g : EReal} (t : EReal) (ha : IsReal a) (hn : IsReal n) (hg : IsReal g) :
    dGate a n g t = n * g * a * sgm t + t * (n * g * a) * (sgm t * (1 - sgm t)) := by
  unfold dGate
  rw [mul_assoc a n g, mul_comm a (n * g)]
  obtain ⟨q, hq⟩ := (hn.mul hg).mul ha
  rw [hq]
  show (q : EReal) * (Ideal.logistic t * (1 + t * (1 - Ideal.logistic t))) = q * Ideal.logistic t + t * q * (Ideal.logistic t * (1 - Ideal.logistic t))
  induction t using EReal.rec with
  | bot => simp [Ideal.logistic_bot]
  | coe r =>
    rw [Ideal.logistic_coe, ← EReal.coe_one]
    simp only [← EReal.coe_sub, ← EReal.coe_mul, ← EReal.coe_add]
    congr 1
    ring
  | top =>
    have h : (1 : EReal) - 1 = 0 := by rw [← EReal.coe_one, ← EReal.coe_sub]; simp
    simp [Ideal.logistic_top, h]

theorem gain_alg (a n t : EReal) : dGain a n t = n * (a * (t * sgm t)) := by
  unfold dGain
  rw [mul_comm]

theorem col_a0 (h : Fin 4) (j k : Fin 128) (p : (hcol h j).val / 128 * 128 + k.val < 1024) : (⟨(hcol h j).val / 128 * 128 + k.val, p⟩ : Fin 1024) = ocol 0 h k := by
  apply Fin.ext; have := j.isLt; simp only [hcol, ocol, Fin.val_zero]; omega
theorem col_a1 (h : Fin 4) (j k : Fin 128) (p : 512 + ((hcol h j).val / 128 * 128 + k.val) < 1024) : (⟨512 + ((hcol h j).val / 128 * 128 + k.val), p⟩ : Fin 1024) = ocol 1 h k := by
  apply Fin.ext; have := j.isLt; simp only [hcol, ocol, Fin.val_one]; omega
theorem col_b0 (h : Fin 4) (j : Fin 128) (p : (hcol h j).val < 1024) : (⟨(hcol h j).val, p⟩ : Fin 1024) = ocol 0 h j := by
  apply Fin.ext; simp only [hcol, ocol, Fin.val_zero]; omega
theorem col_b1 (h : Fin 4) (j : Fin 128) (p : 512 + (hcol h j).val < 1024) : (⟨512 + (hcol h j).val, p⟩ : Fin 1024) = ocol 1 h j := by
  apply Fin.ext; simp only [hcol, ocol, Fin.val_one]; omega
theorem pcol_0 (h : Fin 4) (j : Fin 128) : (pcol 0 h j).val = 1024 + (hcol h j).val := rfl
theorem pcol_1 (h : Fin 4) (j : Fin 128) : (pcol 1 h j).val = 2560 + (hcol h j).val := rfl
theorem col_c0 (h : Fin 4) (j : Fin 128) (p : 1024 + (hcol h j).val < 3200) : (⟨1024 + (hcol h j).val, p⟩ : Fin 3200) = pcol 0 h j := rfl
theorem col_c1 (h : Fin 4) (j : Fin 128) (p : 2560 + (hcol h j).val < 3200) : (⟨2560 + (hcol h j).val, p⟩ : Fin 3200) = pcol 1 h j := rfl

/-- A sum over two axes of length one. -/
theorem sum_unit (p : Shape.ReducesTo ⟨3, ![1, 1, 512]⟩ [0, 1] ⟨1, ![512]⟩) (x : (⟨3, ![1, 1, 512]⟩ : Shape).Idx → EReal) (e : EReal) (l : Fin 512) :
    Ideal.hostReduceAdd p x e (ix1 l) = e + x (ix3 0 0 l) := by
  unfold Ideal.hostReduceAdd
  congr 1
  refine Finset.sum_eq_single_of_mem _ ?_ fun i hi hne => ?_
  · rw [Finset.mem_filter]
    refine ⟨Finset.mem_univ _, funext fun b => Fin.ext ?_⟩
    match b with
    | ⟨0, _⟩ => exact Shape.ReducesTo.drop_apply_val_of_eq p _ 0 2
  · refine absurd (funext fun a => Fin.ext ?_) hne
    have h := (Shape.ReducesTo.drop_apply_val_of_eq p i 0 2).symm.trans (congrArg Fin.val (congrFun (Finset.mem_filter.1 hi).2 0))
    match a with
    | ⟨0, _⟩ => exact Nat.lt_one_iff.1 (i 0).isLt
    | ⟨1, _⟩ => exact Nat.lt_one_iff.1 (i 1).isLt
    | ⟨2, _⟩ => exact h

theorem ref_n0 (x8 : FVec Ideal S4096x1024 .f32) (R : Fin 4096) (h : Fin 4) (j : Fin 128) :
    Cert.AttnGradRefIdeal.Read.val_main_v24 (F := Ideal) x8 (ix3 0 R (hcol h j)) = nrm (fun k => x8 (ix2 R (ocol 0 h k))) j := by
  simp only [Cert.AttnGradRefIdeal.Read.val_main_v24, Cert.AttnGradRefIdeal.Read.val_main_v23, Cert.AttnGradRefIdeal.Read.val_main_v22, Cert.AttnGradRefIdeal.Read.val_main_v21, Cert.AttnGradRefIdeal.Read.val_main_v20, Cert.AttnGradRefIdeal.Read.val_main_v19, Cert.AttnGradRefIdeal.Read.val_main_v18, Cert.AttnGradRefIdeal.Read.val_main_cst_1, Cert.AttnGradRefIdeal.Read.val_main_v17, Cert.AttnGradRefIdeal.Read.val_main_v16, Cert.AttnGradRefIdeal.Read.val_main_cst_0, Cert.AttnGradRefIdeal.Read.val_main_v15, Cert.AttnGradRefIdeal.Read.val_main_v14, Cert.AttnGradRefIdeal.Read.val_main_cst, Cert.AttnGradRefIdeal.Read.val_main_v13, Cert.AttnGradRefIdeal.Read.val_main_v12, Cert.AttnGradRefIdeal.Read.val_main_v11, Cert.AttnGradRefIdeal.Read.val_main_v5, Cert.AttnGradRefIdeal.Read.val_main_v4]
  unfold nrm
  pointwise
  simp only [col_a0, col_a1, col_b0, col_b1, col_c0, col_c1]

theorem ref_s0 (x0 : FVec Ideal S4096x3200 .bf16) (R : Fin 4096) (h : Fin 4) (j : Fin 128) :
    Cert.AttnGradRefIdeal.Read.val_main_v28_2 (F := Ideal) x0 (ix3 0 R (hcol h j)) = sgm (x0 (ix2 R (pcol 0 h j))) := by
  simp only [Cert.AttnGradRefIdeal.Read.val_main_v28_2, Cert.AttnGradRefIdeal.Read.val_main_call0_v3, Cert.AttnGradRefIdeal.Read.val_main_call0_v1, Cert.AttnGradRefIdeal.Read.val_main_call0_v0, Cert.AttnGradRefIdeal.Read.val_main_v2, Cert.AttnGradRefIdeal.Read.val_main_v1, Cert.AttnGradRefIdeal.Read.val_main_v0, Cert.AttnGradRefIdeal.Read.val_main_call0_v2, Cert.AttnGradRefIdeal.Read.val_main_call0_cst, Cert.AttnGradRefIdeal.Read.val_main_call0_v4, Cert.AttnGradRefIdeal.Read.val_main_call0_cst_0]
  unfold sgm
  pointwise
  simp only [col_a0, col_a1, col_b0, col_b1, col_c0, col_c1]

theorem ref_p0 (x0 : FVec Ideal S4096x3200 .bf16) (R : Fin 4096) (h : Fin 4) (j : Fin 128) :
    Cert.AttnGradRefIdeal.Read.val_main_v2 (F := Ideal) x0 (ix3 0 R (hcol h j)) = x0 (ix2 R (pcol 0 h j)) := by
  simp only [Cert.AttnGradRefIdeal.Read.val_main_v2, Cert.AttnGradRefIdeal.Read.val_main_v1, Cert.AttnGradRefIdeal.Read.val_main_v0]
  pointwise
  simp only [col_a0, col_a1, col_b0, col_b1, col_c0, col_c1]

theorem ref_g0 (G : FVec Ideal S1x512 .f32) (R : Fin 4096) (h : Fin 4) (j : Fin 128) :
    Cert.AttnGradRefIdeal.Read.val_main_v26 (F := Ideal) G (ix3 0 R (hcol h j)) = G (ix2 0 (hcol h j)) := by
  simp only [Cert.AttnGradRefIdeal.Read.val_main_v26, Cert.AttnGradRefIdeal.Read.val_main_v25, Cert.AttnGradRefIdeal.Read.val_main_v9]
  pointwise

theorem ref_d0 (x9 : FVec Ideal S4096x1024 .bf16) (x10 : FVec Ideal S1024x1024 .bf16) (R : Fin 4096) (h : Fin 4) (j : Fin 128) :
    Cert.AttnGradRefIdeal.Read.val_main_v54 (F := Ideal) x9 x10 (ix3 0 R (hcol h j)) = ∑ k : Fin 1024, (x9 (ix2 R k) : EReal) * x10 (ix2 (ocol 0 h j) k) := by
  simp only [Cert.AttnGradRefIdeal.Read.val_main_v54, Cert.AttnGradRefIdeal.Read.val_main_v53, Cert.AttnGradRefIdeal.Read.val_main_v8, Cert.AttnGradRefIdeal.Read.val_main_v52, Cert.AttnGradRefIdeal.Read.val_main_v51]
  pointwise
  simp only [col_a0, col_a1, col_b0, col_b1, col_c0, col_c1]

theorem ref_n1 (x8 : FVec Ideal S4096x1024 .f32) (R : Fin 4096) (h : Fin 4) (j : Fin 128) :
    Cert.AttnGradRefIdeal.Read.val_main_v43 (F := Ideal) x8 (ix3 0 R (hcol h j)) = nrm (fun k => x8 (ix2 R (ocol 1 h k))) j := by
  simp only [Cert.AttnGradRefIdeal.Read.val_main_v43, Cert.AttnGradRefIdeal.Read.val_main_v42, Cert.AttnGradRefIdeal.Read.val_main_v41, Cert.AttnGradRefIdeal.Read.val_main_v40, Cert.AttnGradRefIdeal.Read.val_main_v39, Cert.AttnGradRefIdeal.Read.val_main_v38, Cert.AttnGradRefIdeal.Read.val_main_v37, Cert.AttnGradRefIdeal.Read.val_main_cst_4, Cert.AttnGradRefIdeal.Read.val_main_v36, Cert.AttnGradRefIdeal.Read.val_main_v35, Cert.AttnGradRefIdeal.Read.val_main_cst_3, Cert.AttnGradRefIdeal.Read.val_main_v34, Cert.AttnGradRefIdeal.Read.val_main_v33, Cert.AttnGradRefIdeal.Read.val_main_cst_2, Cert.AttnGradRefIdeal.Read.val_main_v32, Cert.AttnGradRefIdeal.Read.val_main_v31, Cert.AttnGradRefIdeal.Read.val_main_v30, Cert.AttnGradRefIdeal.Read.val_main_v7, Cert.AttnGradRefIdeal.Read.val_main_v6]
  unfold nrm
  pointwise
  simp only [col_a0, col_a1, col_b0, col_b1, col_c0, col_c1]

theorem ref_s1 (x0 : FVec Ideal S4096x3200 .bf16) (R : Fin 4096) (h : Fin 4) (j : Fin 128) :
    Cert.AttnGradRefIdeal.Read.val_main_v47_2 (F := Ideal) x0 (ix3 0 R (hcol h j)) = sgm (x0 (ix2 R (pcol 1 h j))) := by
  simp only [Cert.AttnGradRefIdeal.Read.val_main_v47_2, Cert.AttnGradRefIdeal.Read.val_main_call1_v3, Cert.AttnGradRefIdeal.Read.val_main_call1_v1, Cert.AttnGradRefIdeal.Read.val_main_call1_v0, Cert.AttnGradRefIdeal.Read.val_main_v3, Cert.AttnGradRefIdeal.Read.val_main_v1, Cert.AttnGradRefIdeal.Read.val_main_v0, Cert.AttnGradRefIdeal.Read.val_main_call1_v2, Cert.AttnGradRefIdeal.Read.val_main_call1_cst, Cert.AttnGradRefIdeal.Read.val_main_call1_v4, Cert.AttnGradRefIdeal.Read.val_main_call1_cst_0]
  unfold sgm
  pointwise
  simp only [col_a0, col_a1, col_b0, col_b1, col_c0, col_c1]

theorem ref_p1 (x0 : FVec Ideal S4096x3200 .bf16) (R : Fin 4096) (h : Fin 4) (j : Fin 128) :
    Cert.AttnGradRefIdeal.Read.val_main_v3 (F := Ideal) x0 (ix3 0 R (hcol h j)) = x0 (ix2 R (pcol 1 h j)) := by
  simp only [Cert.AttnGradRefIdeal.Read.val_main_v3, Cert.AttnGradRefIdeal.Read.val_main_v1, Cert.AttnGradRefIdeal.Read.val_main_v0]
  pointwise
  simp only [col_a0, col_a1, col_b0, col_b1, col_c0, col_c1]

theorem ref_g1 (G : FVec Ideal S1x512 .f32) (R : Fin 4096) (h : Fin 4) (j : Fin 128) :
    Cert.AttnGradRefIdeal.Read.val_main_v45 (F := Ideal) G (ix3 0 R (hcol h j)) = G (ix2 0 (hcol h j)) := by
  simp only [Cert.AttnGradRefIdeal.Read.val_main_v45, Cert.AttnGradRefIdeal.Read.val_main_v44, Cert.AttnGradRefIdeal.Read.val_main_v10]
  pointwise

theorem ref_d1 (x9 : FVec Ideal S4096x1024 .bf16) (x10 : FVec Ideal S1024x1024 .bf16) (R : Fin 4096) (h : Fin 4) (j : Fin 128) :
    Cert.AttnGradRefIdeal.Read.val_main_v55 (F := Ideal) x9 x10 (ix3 0 R (hcol h j)) = ∑ k : Fin 1024, (x9 (ix2 R k) : EReal) * x10 (ix2 (ocol 1 h j) k) := by
  simp only [Cert.AttnGradRefIdeal.Read.val_main_v55, Cert.AttnGradRefIdeal.Read.val_main_v53, Cert.AttnGradRefIdeal.Read.val_main_v8, Cert.AttnGradRefIdeal.Read.val_main_v52, Cert.AttnGradRefIdeal.Read.val_main_v51]
  pointwise
  simp only [col_a0, col_a1, col_b0, col_b1, col_c0, col_c1]

theorem ref_gate0 (x0 : FVec Ideal S4096x3200 .bf16) (x6 x7 : FVec Ideal S1x512 .f32) (x8 : FVec Ideal S4096x1024 .f32) (x9 : FVec Ideal S4096x1024 .bf16) (x10 : FVec Ideal S1024x1024 .bf16) (R : Fin 4096) (h : Fin 4) (j : Fin 128) :
    Cert.AttnGradRefIdeal.Read.val_main_v76 (F := Ideal) x0 x6 x7 x8 x9 x10 (ix2 R (pcol 0 h j))
      = nrm (fun k => x8 (ix2 R (ocol 0 h k))) j * x6 (ix2 0 (hcol h j)) * (∑ k : Fin 1024, (x9 (ix2 R k) : EReal) * x10 (ix2 (ocol 0 h j) k)) * sgm (x0 (ix2 R (pcol 0 h j))) + x0 (ix2 R (pcol 0 h j)) * (nrm (fun k => x8 (ix2 R (ocol 0 h k))) j * x6 (ix2 0 (hcol h j)) * (∑ k : Fin 1024, (x9 (ix2 R k) : EReal) * x10 (ix2 (ocol 0 h j) k))) * (sgm (x0 (ix2 R (pcol 0 h j))) * (1 - sgm (x0 (ix2 R (pcol 0 h j))))) := by
  have q := pcol_0 h j
  have l := (hcol h j).isLt
  have e : ∀ p, (⟨(pcol 0 h j).val - 1024, p⟩ : Fin 512) = hcol h j := fun p => Fin.ext (by dsimp only; omega)
  rw [← ref_n0 x8 R h j, ← ref_s0 x0 R h j, ← ref_p0 x0 R h j, ← ref_g0 x6 R h j, ← ref_d0 x9 x10 R h j]
  simp only [Cert.AttnGradRefIdeal.Read.val_main_v76, Cert.AttnGradRefIdeal.Read.val_main_v75, Cert.AttnGradRefIdeal.Read.val_main_v74, Cert.AttnGradRefIdeal.Read.val_main_cst_11, Cert.AttnGradRefIdeal.Read.val_main_v73, Cert.AttnGradRefIdeal.Read.val_main_v58, Cert.AttnGradRefIdeal.Read.val_main_call2_v2, Cert.AttnGradRefIdeal.Read.val_main_v47_1, Cert.AttnGradRefIdeal.Read.val_main_call1_v7, Cert.AttnGradRefIdeal.Read.val_main_call1_v6, Cert.AttnGradRefIdeal.Read.val_main_call1_cst_1, Cert.AttnGradRefIdeal.Read.val_main_call2_v0, Cert.AttnGradRefIdeal.Read.val_main_v56, Cert.AttnGradRefIdeal.Read.val_main_v46, Cert.AttnGradRefIdeal.Read.val_main_call2_v1, Cert.AttnGradRefIdeal.Read.val_main_v72, Cert.AttnGradRefIdeal.Read.val_main_cst_10, Cert.AttnGradRefIdeal.Read.val_main_v71, Cert.AttnGradRefIdeal.Read.val_main_v65, Cert.AttnGradRefIdeal.Read.val_main_call3_v2, Cert.AttnGradRefIdeal.Read.val_main_v28_1, Cert.AttnGradRefIdeal.Read.val_main_call0_v7, Cert.AttnGradRefIdeal.Read.val_main_call0_v6, Cert.AttnGradRefIdeal.Read.val_main_call0_cst_1, Cert.AttnGradRefIdeal.Read.val_main_call3_v0, Cert.AttnGradRefIdeal.Read.val_main_v63, Cert.AttnGradRefIdeal.Read.val_main_v27, Cert.AttnGradRefIdeal.Read.val_main_call3_v1, Cert.AttnGradRefIdeal.Read.val_main_v70, Cert.AttnGradRefIdeal.Read.val_main_cst_9]
  pointwise
  split_ifs <;> first | omega | simp only [e]

theorem ref_gain0 (x0 : FVec Ideal S4096x3200 .bf16) (x8 : FVec Ideal S4096x1024 .f32) (x9 : FVec Ideal S4096x1024 .bf16) (x10 : FVec Ideal S1024x1024 .bf16) (z : Fin 1) (h : Fin 4) (j : Fin 128) :
    Cert.AttnGradRefIdeal.Read.val_main_v77 (F := Ideal) x0 x8 x9 x10 (ix2 z (hcol h j))
      = ∑ R : Fin 4096, nrm (fun k => x8 (ix2 R (ocol 0 h k))) j * ((∑ k : Fin 1024, (x9 (ix2 R k) : EReal) * x10 (ix2 (ocol 0 h j) k)) * (x0 (ix2 R (pcol 0 h j)) * sgm (x0 (ix2 R (pcol 0 h j))))) := by
  simp only [Cert.AttnGradRefIdeal.Read.val_main_v77, Cert.AttnGradRefIdeal.Read.val_main_v69, Cert.AttnGradRefIdeal.Read.val_main_cst_8, Cert.AttnGradRefIdeal.Read.val_main_v68, Cert.AttnGradRefIdeal.Read.val_main_v67, Cert.AttnGradRefIdeal.Read.val_main_cst_7, Cert.AttnGradRefIdeal.Read.val_main_v66, Cert.AttnGradRefIdeal.Read.val_main_v64, Cert.AttnGradRefIdeal.Read.val_main_v28_0]
  pointwise
  rw [sum_unit]
  pointwise
  refine Finset.sum_congr rfl fun R _ => ?_
  rw [← ref_n0 x8 R h j, ← ref_s0 x0 R h j, ← ref_p0 x0 R h j, ← ref_d0 x9 x10 R h j]

theorem ref_gate1 (x0 : FVec Ideal S4096x3200 .bf16) (x6 x7 : FVec Ideal S1x512 .f32) (x8 : FVec Ideal S4096x1024 .f32) (x9 : FVec Ideal S4096x1024 .bf16) (x10 : FVec Ideal S1024x1024 .bf16) (R : Fin 4096) (h : Fin 4) (j : Fin 128) :
    Cert.AttnGradRefIdeal.Read.val_main_v76 (F := Ideal) x0 x6 x7 x8 x9 x10 (ix2 R (pcol 1 h j))
      = nrm (fun k => x8 (ix2 R (ocol 1 h k))) j * x7 (ix2 0 (hcol h j)) * (∑ k : Fin 1024, (x9 (ix2 R k) : EReal) * x10 (ix2 (ocol 1 h j) k)) * sgm (x0 (ix2 R (pcol 1 h j))) + x0 (ix2 R (pcol 1 h j)) * (nrm (fun k => x8 (ix2 R (ocol 1 h k))) j * x7 (ix2 0 (hcol h j)) * (∑ k : Fin 1024, (x9 (ix2 R k) : EReal) * x10 (ix2 (ocol 1 h j) k))) * (sgm (x0 (ix2 R (pcol 1 h j))) * (1 - sgm (x0 (ix2 R (pcol 1 h j))))) := by
  have q := pcol_1 h j
  have l := (hcol h j).isLt
  have e : ∀ p, (⟨(pcol 1 h j).val - 1024 - 512 - 1024, p⟩ : Fin 512) = hcol h j := fun p => Fin.ext (by dsimp only; omega)
  rw [← ref_n1 x8 R h j, ← ref_s1 x0 R h j, ← ref_p1 x0 R h j, ← ref_g1 x7 R h j, ← ref_d1 x9 x10 R h j]
  simp only [Cert.AttnGradRefIdeal.Read.val_main_v76, Cert.AttnGradRefIdeal.Read.val_main_v75, Cert.AttnGradRefIdeal.Read.val_main_v74, Cert.AttnGradRefIdeal.Read.val_main_cst_11, Cert.AttnGradRefIdeal.Read.val_main_v73, Cert.AttnGradRefIdeal.Read.val_main_v58, Cert.AttnGradRefIdeal.Read.val_main_call2_v2, Cert.AttnGradRefIdeal.Read.val_main_v47_1, Cert.AttnGradRefIdeal.Read.val_main_call1_v7, Cert.AttnGradRefIdeal.Read.val_main_call1_v6, Cert.AttnGradRefIdeal.Read.val_main_call1_cst_1, Cert.AttnGradRefIdeal.Read.val_main_call2_v0, Cert.AttnGradRefIdeal.Read.val_main_v56, Cert.AttnGradRefIdeal.Read.val_main_v46, Cert.AttnGradRefIdeal.Read.val_main_call2_v1, Cert.AttnGradRefIdeal.Read.val_main_v72, Cert.AttnGradRefIdeal.Read.val_main_cst_10, Cert.AttnGradRefIdeal.Read.val_main_v71, Cert.AttnGradRefIdeal.Read.val_main_v65, Cert.AttnGradRefIdeal.Read.val_main_call3_v2, Cert.AttnGradRefIdeal.Read.val_main_v28_1, Cert.AttnGradRefIdeal.Read.val_main_call0_v7, Cert.AttnGradRefIdeal.Read.val_main_call0_v6, Cert.AttnGradRefIdeal.Read.val_main_call0_cst_1, Cert.AttnGradRefIdeal.Read.val_main_call3_v0, Cert.AttnGradRefIdeal.Read.val_main_v63, Cert.AttnGradRefIdeal.Read.val_main_v27, Cert.AttnGradRefIdeal.Read.val_main_call3_v1, Cert.AttnGradRefIdeal.Read.val_main_v70, Cert.AttnGradRefIdeal.Read.val_main_cst_9]
  pointwise
  split_ifs <;> first | omega | simp only [e]

theorem ref_gain1 (x0 : FVec Ideal S4096x3200 .bf16) (x8 : FVec Ideal S4096x1024 .f32) (x9 : FVec Ideal S4096x1024 .bf16) (x10 : FVec Ideal S1024x1024 .bf16) (z : Fin 1) (h : Fin 4) (j : Fin 128) :
    Cert.AttnGradRefIdeal.Read.val_main_v78 (F := Ideal) x0 x8 x9 x10 (ix2 z (hcol h j))
      = ∑ R : Fin 4096, nrm (fun k => x8 (ix2 R (ocol 1 h k))) j * ((∑ k : Fin 1024, (x9 (ix2 R k) : EReal) * x10 (ix2 (ocol 1 h j) k)) * (x0 (ix2 R (pcol 1 h j)) * sgm (x0 (ix2 R (pcol 1 h j))))) := by
  simp only [Cert.AttnGradRefIdeal.Read.val_main_v78, Cert.AttnGradRefIdeal.Read.val_main_v62, Cert.AttnGradRefIdeal.Read.val_main_cst_6, Cert.AttnGradRefIdeal.Read.val_main_v61, Cert.AttnGradRefIdeal.Read.val_main_v60, Cert.AttnGradRefIdeal.Read.val_main_cst_5, Cert.AttnGradRefIdeal.Read.val_main_v59, Cert.AttnGradRefIdeal.Read.val_main_v57, Cert.AttnGradRefIdeal.Read.val_main_v47_0]
  pointwise
  rw [sum_unit]
  pointwise
  refine Finset.sum_congr rfl fun R _ => ?_
  rw [← ref_n1 x8 R h j, ← ref_s1 x0 R h j, ← ref_p1 x0 R h j, ← ref_d1 x9 x10 R h j]

theorem ref_gate_eq0 (x0 : FVec Ideal S4096x3200 .bf16) (x6 x7 : FVec Ideal S1x512 .f32) (x8 : FVec Ideal S4096x1024 .f32) (x9 : FVec Ideal S4096x1024 .bf16) (x10 : FVec Ideal S1024x1024 .bf16)
    (hg : ∀ i, IsReal (x6 i)) (h9 : ∀ i, IsReal (x9 i)) (h10 : ∀ i, IsReal (x10 i)) (R : Fin 4096) (h : Fin 4) (j : Fin 128) :
    Cert.AttnGradRefIdeal.Read.val_main_v76 (F := Ideal) x0 x6 x7 x8 x9 x10 (ix2 R (pcol 0 h j)) = gateAt 0 x0 x6 x8 x9 x10 R h j := by
  rw [ref_gate0]
  unfold gateAt dyAt
  exact (gate_alg _ (IsReal.sum _ _ fun k _ => (h9 _).mul (h10 _)) (nrm_real _ _) (hg _)).symm

theorem ref_gain_eq0 (x0 : FVec Ideal S4096x3200 .bf16) (x8 : FVec Ideal S4096x1024 .f32) (x9 : FVec Ideal S4096x1024 .bf16) (x10 : FVec Ideal S1024x1024 .bf16) (z : Fin 1) (h : Fin 4) (j : Fin 128) :
    Cert.AttnGradRefIdeal.Read.val_main_v77 (F := Ideal) x0 x8 x9 x10 (ix2 z (hcol h j)) = ∑ R : Fin 4096, gainAt 0 x0 x8 x9 x10 h j R := by
  rw [ref_gain0]
  unfold gainAt dyAt
  exact Finset.sum_congr rfl fun R _ => (gain_alg _ _ _).symm

theorem ref_gate_eq1 (x0 : FVec Ideal S4096x3200 .bf16) (x6 x7 : FVec Ideal S1x512 .f32) (x8 : FVec Ideal S4096x1024 .f32) (x9 : FVec Ideal S4096x1024 .bf16) (x10 : FVec Ideal S1024x1024 .bf16)
    (hg : ∀ i, IsReal (x7 i)) (h9 : ∀ i, IsReal (x9 i)) (h10 : ∀ i, IsReal (x10 i)) (R : Fin 4096) (h : Fin 4) (j : Fin 128) :
    Cert.AttnGradRefIdeal.Read.val_main_v76 (F := Ideal) x0 x6 x7 x8 x9 x10 (ix2 R (pcol 1 h j)) = gateAt 1 x0 x7 x8 x9 x10 R h j := by
  rw [ref_gate1]
  unfold gateAt dyAt
  exact (gate_alg _ (IsReal.sum _ _ fun k _ => (h9 _).mul (h10 _)) (nrm_real _ _) (hg _)).symm

theorem ref_gain_eq1 (x0 : FVec Ideal S4096x3200 .bf16) (x8 : FVec Ideal S4096x1024 .f32) (x9 : FVec Ideal S4096x1024 .bf16) (x10 : FVec Ideal S1024x1024 .bf16) (z : Fin 1) (h : Fin 4) (j : Fin 128) :
    Cert.AttnGradRefIdeal.Read.val_main_v78 (F := Ideal) x0 x8 x9 x10 (ix2 z (hcol h j)) = ∑ R : Fin 4096, gainAt 1 x0 x8 x9 x10 h j R := by
  rw [ref_gain1]
  unfold gainAt dyAt
  exact Finset.sum_congr rfl fun R _ => (gain_alg _ _ _).symm

theorem col_split (l : Fin 512) : l = hcol ⟨l.val / 128, by have := l.isLt; omega⟩ ⟨l.val % 128, Nat.mod_lt _ (by decide)⟩ := by
  apply Fin.ext
  show l.val = 128 * (l.val / 128) + l.val % 128
  omega

theorem gate_split0 (l : Fin 3200) (h : 1024 ≤ l.val ∧ l.val < 1536) :
    l = pcol 0 ⟨(l.val - 1024) / 128, by omega⟩ ⟨(l.val - 1024) % 128, Nat.mod_lt _ (by decide)⟩ := by
  apply Fin.ext
  show l.val = 1024 + (128 * ((l.val - 1024) / 128) + (l.val - 1024) % 128)
  omega

theorem gate_split1 (l : Fin 3200) (h : 2560 ≤ l.val ∧ l.val < 3072) :
    l = pcol 1 ⟨(l.val - 2560) / 128, by omega⟩ ⟨(l.val - 2560) % 128, Nat.mod_lt _ (by decide)⟩ := by
  apply Fin.ext
  show l.val = 2560 + (128 * ((l.val - 2560) / 128) + (l.val - 2560) % 128)
  omega

end Cert.AttnGradIdeal.Hand

namespace Cert.Claims

open Idealize.ShloMosaic Idealize.ShloMosaic.TcCoe Idealize.SL.Sem Cert.Finite

section Gate

open Cert.AttnGradIdeal

/-- The columns the claim is about. -/
theorem gate_columns (x0 : FVec Ideal S4096x3200 .bf16) (x1 x2 : FVec Ideal S4096x128 .f32) (x3 : FVec Ideal S1x256 .f32) (x4 : FVec Ideal S128x256 .f32) (x5 : FVec Ideal S1x256 .f32) (x6 x7 : FVec Ideal S1x512 .f32) (x8 : FVec Ideal S4096x1024 .f32) (x9 : FVec Ideal S4096x1024 .bf16) (x10 : FVec Ideal S1024x1024 .bf16) (x11 : FVec Ideal S16x2x512x256 .f32) [Cert.On_gate_columns.Facts]
    (i : S4096x3200.Idx) (h : (Cert.On_gate_columns.fn (F := Ideal) x0 x1 x2 x3 x4 x5 x6 x7 x8 x9 x10 x11).1 i = 1#1) :
    (1024 ≤ (i 1).val ∧ (i 1).val < 1536) ∨ (2560 ≤ (i 1).val ∧ (i 1).val < 3072) := by
  have key : ∀ l : Fin 3200, IntOp.ori (IntOp.andi (IntOp.cmpi .sge (BitVec.ofNat 32 l.val) 1024#32) (IntOp.cmpi .slt (BitVec.ofNat 32 l.val) 1536#32)) (IntOp.andi (IntOp.cmpi .sge (BitVec.ofNat 32 l.val) 2560#32) (IntOp.cmpi .slt (BitVec.ofNat 32 l.val) 3072#32)) = 1#1
      → (1024 ≤ l.val ∧ l.val < 1536) ∨ (2560 ≤ l.val ∧ l.val < 3072) := by decide +kernel
  exact key (i 1) h

/-- What the precondition says of the arguments. -/
theorem finite_gate_read (x0 : FVec Ideal S4096x3200 .bf16) (x1 x2 : FVec Ideal S4096x128 .f32) (x3 : FVec Ideal S1x256 .f32) (x4 : FVec Ideal S128x256 .f32) (x5 : FVec Ideal S1x256 .f32) (x6 x7 : FVec Ideal S1x512 .f32) (x8 : FVec Ideal S4096x1024 .f32) (x9 : FVec Ideal S4096x1024 .bf16) (x10 : FVec Ideal S1024x1024 .bf16) (x11 : FVec Ideal S16x2x512x256 .f32) [Cert.Pre_finite_gate.Facts]
    (h : Cert.Pre_finite_gate.fn (F := Ideal) x0 x1 x2 x3 x4 x5 x6 x7 x8 x9 x10 x11 = fun _ => 1#1) :
    (∀ i, IsReal (x6 i)) ∧ (∀ i, IsReal (x7 i)) ∧ (∀ i, IsReal (x9 i)) ∧ (∀ i, IsReal (x10 i)) := by
  have h' := congrFun h (fun a => a.elim0)
  unfold Cert.Pre_finite_gate.fn Cert.Pre_finite_gate.fn_part1 at h'
  obtain ⟨r3, q3⟩ := IntOp.andi_eq_one.1 h'
  obtain ⟨r2, q2⟩ := IntOp.andi_eq_one.1 r3
  obtain ⟨r1, q1⟩ := IntOp.andi_eq_one.1 r2
  haveI : Subsingleton Cert.Pre_finite_gate.S_.Idx := ⟨fun a b => funext fun x => x.elim0⟩
  exact ⟨isReal_of_all x6 _ _ _ _ _ r1, isReal_of_all x7 _ _ _ _ _ q1, isReal_of_all (extf .f32 x9 _) _ _ _ _ _ q2, isReal_of_all (extf .f32 x10 _) _ _ _ _ _ q3⟩

end Gate

open Cert.AttnGradIdeal.Hand in
theorem attn_grad [hP : Cert.Pre_finite_gate.Facts] [hO : Cert.On_gate_columns.Facts] :
    Cert.algebraic_AttnGradIdeal_AttnGradRefIdeal_on_gate_columns_pre_finite_gate (hAttnGradIdeal := Cert.AttnGradIdeal.Gen.facts)
      (hAttnGradRefIdeal := Cert.AttnGradRefIdeal.Gen.facts) (hPre_finite_gate := hP) (hOn_gate_columns := hO) := by
  intro m g m' g' hpre hargs
  refine ⟨fun c => (Cert.AttnGradIdeal.Gen.dats m 0 c).arrAt 12 Cert.AttnGradIdeal.cfg0.N, fun c => (Cert.AttnGradIdeal.Gen.dats m 0 c).arrAt 13 Cert.AttnGradIdeal.cfg0.N,
    fun c => (Cert.AttnGradIdeal.Gen.dats m 0 c).arrAt 14 Cert.AttnGradIdeal.cfg0.N,
    (θ_run Cert.AttnGradIdeal.defs _ _).mono (fun r h c => ?_) (Cert.AttnGradIdeal.Value.run_blocks (F := Ideal) m g),
    (θ_run Cert.AttnGradRefIdeal.defs _ _).mono (fun r h c => ?_) (Cert.AttnGradRefIdeal.Value.run (F := Ideal) m' g')⟩
  · obtain ⟨e0, e1, e2, _, _, ha⟩ := h c
    exact ⟨fun i _ => congrFun e0 i, fun i _ => congrFun e1 i, fun i _ => congrFun e2 i, ha⟩
  · obtain ⟨h6, h7, h9, h10⟩ := finite_gate_read _ _ _ _ _ _ _ _ _ _ _ _ (hpre c)
    obtain ⟨e0, _, _, _, _, _, e6, e7, e8, e9, e10, _⟩ := hargs c
    obtain ⟨r0, r1, r2, ha⟩ := h c
    rw [Cert.AttnGradRefIdeal.Read.val_main_v76_eq, e0, e6, e7, e8, e9, e10] at r0
    rw [Cert.AttnGradRefIdeal.Read.val_main_v77_eq, e0, e8, e9, e10] at r1
    rw [Cert.AttnGradRefIdeal.Read.val_main_v78_eq, e0, e8, e9, e10] at r2
    refine ⟨fun i hi => (congrFun r0 i).trans ?_, fun i _ => (congrFun r1 i).trans ?_, fun i _ => (congrFun r2 i).trans ?_, ha⟩
    · obtain ⟨R, l, rfl⟩ : ∃ (R : Fin 4096) (l : Fin 3200), i = ix2 R l := ⟨i 0, i 1, (ix2_eta i).symm⟩
      rcases gate_columns _ _ _ _ _ _ _ _ _ _ _ _ _ hi with q | q
      · rw [gate_split0 l q]
        exact (ref_gate_eq0 _ _ _ _ _ _ h6 h9 h10 R _ _).trans (gate_final0 m c R _ _).symm
      · rw [gate_split1 l q]
        exact (ref_gate_eq1 _ _ _ _ _ _ h7 h9 h10 R _ _).trans (gate_final1 m c R _ _).symm
    · obtain ⟨z, l, rfl⟩ : ∃ (z : Fin 1) (l : Fin 512), i = ix2 z l := ⟨i 0, i 1, (ix2_eta i).symm⟩
      rw [col_split l]
      exact (ref_gain_eq0 _ _ _ _ z _ _).trans (gain_final0 m c z _ _).symm
    · obtain ⟨z, l, rfl⟩ : ∃ (z : Fin 1) (l : Fin 512), i = ix2 z l := ⟨i 0, i 1, (ix2_eta i).symm⟩
      rw [col_split l]
      exact (ref_gain_eq1 _ _ _ _ z _ _).trans (gain_final1 m c z _ _).symm

end Cert.Claims

end
-- ==== Proof.FfnLossValue.lean ====
/-
  The output of the second feed-forward layer, the final normalisation and the loss: what the kernel's four result arrays
  hold, entry by entry, and that the reference's hold the same.
-/
module

public import proofs.«01_k».proof.Defs
public import proofs.«01_k».proof.Proof.NormRow
public import proofs.«01_k».proof.Proof.Gen.FfnLossIdeal.Value
public import proofs.«01_k».proof.Proof.Gen.FfnLossRefIdeal.Run
public import proofs.«01_k».proof.Proof.Gen.FfnLossRefIdeal.Read
public import Idealize.ShloMosaic.Lib.Pointwise
public import Idealize.ShloMosaic.Lib.Tactic

@[expose] public section

noncomputable section

namespace Cert.FfnLossIdeal.Hand

open Cert.FfnLossIdeal Cert.FfnLossIdeal.Gen Idealize.ShloMosaic Idealize.ShloMosaic.TcCoe Idealize.SL.Sem Cert.Finite
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The width of a row, and the small constant, as the program writes them. -/
abbrev width : EReal := Ideal.ofBits .f32 0x44800000#32
abbrev tiny : EReal := Ideal.ofBits .f32 0x358637BD#32

/-- One half, the reciprocal of the width and half of it, as the program writes them. -/
abbrev half : EReal := Ideal.ofBits .f32 0x3F000000#32
abbrev invW : EReal := Ideal.ofBits .f32 0x3A800000#32
abbrev halfInvW : EReal := Ideal.ofBits .f32 0x3A000000#32

/-- The error of one row: the normalised row times the gain, less the target. -/
def errRow (y g t : Fin 1024 → EReal) (l : Fin 1024) : EReal :=
  y l * Ideal.rsqrt (meanSq width tiny y) * g l - t l

/-- The cotangent of one normalised row. -/
def cotRow (y g t : Fin 1024 → EReal) (l : Fin 1024) : EReal := errRow y g t l * invW

/-- The gradient of the loss in one row. -/
def dxRow (y g t : Fin 1024 → EReal) (l : Fin 1024) : EReal := normGrad width tiny (cotRow y g t) y g 0 l

/-- What one row adds to the gradient of the gain. -/
def dgRow (y g t : Fin 1024 → EReal) (l : Fin 1024) : EReal :=
  cotRow y g t l * (y l * Ideal.rsqrt (meanSq width tiny y))

/-- The squared error of one row. -/
def sqRow (y g t : Fin 1024 → EReal) : EReal := ∑ l, errRow y g t l * errRow y g t l

/-- The rows of one tile behind the feed-forward layer. -/
def res (x0 : Vec Ideal S512x2816 .bf16) (x1 : Vec Ideal S1x2816x1024 .bf16) (x2 : Vec Ideal S512x1024 .f32) : Vec Ideal S512x1024 .f32 :=
  fun j => (x2 j + half * ∑ k : Fin 2816, (x0 (ix2 (j 0) k) : EReal) * x1 (ix3 0 k (j 1)) : EReal)

/-- Row `r` of a tile, and the one row of a vector. -/
def rw512 (y : Vec Ideal S512x1024 .f32) (r : Fin 512) : Fin 1024 → EReal := fun k => (y (ix2 r k) : EReal)
def rw1 (g : Vec Ideal S1x1024 .f32) : Fin 1024 → EReal := fun k => (g (ix2 0 k) : EReal)

/-- The gradient of one tile of rows. -/
def dxTile (y : Vec Ideal S512x1024 .f32) (g : Vec Ideal S1x1024 .f32) (t : Vec Ideal S512x1024 .f32) : Vec Ideal S512x1024 .f32 :=
  fun j => (dxRow (rw512 y (j 0)) (rw1 g) (rw512 t (j 0)) (j 1) : EReal)

/-- The same, halved and rounded for the layer's gradient. -/
def dxTileB (y : Vec Ideal S512x1024 .f32) (g : Vec Ideal S1x1024 .f32) (t : Vec Ideal S512x1024 .f32) : Vec Ideal S512x1024 .bf16 :=
  fun j => (half * dxTile y g t j : EReal)

/-- What one tile of rows adds to the gradient of the gain. -/
def gTile (y : Vec Ideal S512x1024 .f32) (g : Vec Ideal S1x1024 .f32) (t : Vec Ideal S512x1024 .f32) : Vec Ideal S1x1024 .f32 :=
  fun j => (∑ r : Fin 512, dgRow (rw512 y r) (rw1 g) (rw512 t r) (j 1) : EReal)

/-- What one tile of rows adds to the loss. -/
def lossTile (y : Vec Ideal S512x1024 .f32) (g : Vec Ideal S1x1024 .f32) (t : Vec Ideal S512x1024 .f32) : Vec Ideal S1x1024 .f32 :=
  fun _ => ((∑ r : Fin 512, sqRow (rw512 y r) (rw1 g) (rw512 t r)) * halfInvW : EReal)

/-- The running sum with one more tile. -/
def plus (s p : Vec Ideal S1x1024 .f32) : Vec Ideal S1x1024 .f32 := fun j => (s j + p j : EReal)

theorem pay_res (x0 : Vec Ideal S512x2816 .bf16) (x1 : Vec Ideal S1x2816x1024 .bf16) (x2 : Vec Ideal S512x1024 .f32) : k0_pay5 (F := Ideal) x0 x1 x2 = res x0 x1 x2 := by
  funext j
  unfold_payloads
  unfold res
  pointwise

theorem pay_dx (x0 : Vec Ideal S512x2816 .bf16) (x1 : Vec Ideal S1x2816x1024 .bf16) (x2 : Vec Ideal S512x1024 .f32) (x3 : Vec Ideal S1x1024 .f32) (x4 : Vec Ideal S512x1024 .f32) :
    k0_pay3 (F := Ideal) (k0_pay6 x0 x1 x2) (k0_pay7 x0 x1 x2) (k0_pay8 x0 x1 x2 x3 x4) x3 = dxTile (res x0 x1 x2) x3 x4 := by
  unfold k0_pay8 k0_pay7 k0_pay6
  rw [pay_res]
  generalize res x0 x1 x2 = y
  funext j
  unfold_payloads
  unfold dxTile dxRow normGrad cotRow errRow meanSq rw512 rw1
  rw [add_zero]
  pointwise

theorem pay_dxb (x0 : Vec Ideal S512x2816 .bf16) (x1 : Vec Ideal S1x2816x1024 .bf16) (x2 : Vec Ideal S512x1024 .f32) (x3 : Vec Ideal S1x1024 .f32) (x4 : Vec Ideal S512x1024 .f32) :
    k0_pay4 (F := Ideal) (k0_pay6 x0 x1 x2) (k0_pay7 x0 x1 x2) (k0_pay8 x0 x1 x2 x3 x4) x3 = dxTileB (res x0 x1 x2) x3 x4 := by
  unfold k0_pay4
  rw [pay_dx]
  funext j
  unfold dxTileB
  pointwise

theorem pay_dg (x0 : Vec Ideal S512x2816 .bf16) (x1 : Vec Ideal S1x2816x1024 .bf16) (x2 : Vec Ideal S512x1024 .f32) (x3 : Vec Ideal S1x1024 .f32) (x4 : Vec Ideal S512x1024 .f32) (s : Vec Ideal S1x1024 .f32) :
    k0_pay2 (F := Ideal) (k0_pay7 x0 x1 x2) (k0_pay8 x0 x1 x2 x3 x4) s = plus s (gTile (res x0 x1 x2) x3 x4) := by
  unfold k0_pay8 k0_pay7 k0_pay6
  rw [pay_res]
  generalize res x0 x1 x2 = y
  funext j
  unfold_payloads
  unfold plus gTile dgRow cotRow errRow meanSq rw512 rw1
  pointwise

theorem pay_loss (x0 : Vec Ideal S512x2816 .bf16) (x1 : Vec Ideal S1x2816x1024 .bf16) (x2 : Vec Ideal S512x1024 .f32) (x3 : Vec Ideal S1x1024 .f32) (x4 : Vec Ideal S512x1024 .f32) (s : Vec Ideal S1x1024 .f32) :
    k0_pay11 (F := Ideal) x0 x1 x2 x3 x4 s = plus s (lossTile (res x0 x1 x2) x3 x4) := by
  unfold k0_pay11 k0_pay8 k0_pay7 k0_pay6
  rw [pay_res]
  generalize res x0 x1 x2 = y
  funext j
  unfold_payloads
  unfold plus lossTile sqRow errRow meanSq rw512 rw1
  pointwise

theorem out_A_5 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : cond0_0 i) (x0 : Vec Ideal S512x2816 .bf16) (x1 : Vec Ideal S1x2816x1024 .bf16) (x2 : Vec Ideal S512x1024 .f32) (x3 : Vec Ideal S1x1024 .f32) (x4 : Vec Ideal S512x1024 .f32) :
    out0_A_5 (F := Ideal) c i a1 h1 a2 h2 a3 h3 a4 h4 a5 h5 a6 h6 a7 h7 a8 h8 a9 h9 hc0 x0 x1 x2 x3 x4 = dxTile (res x0 x1 x2) x3 x4 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_dx]

theorem out_A_6 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : cond0_0 i) (x0 : Vec Ideal S512x2816 .bf16) (x1 : Vec Ideal S1x2816x1024 .bf16) (x2 : Vec Ideal S512x1024 .f32) (x3 : Vec Ideal S1x1024 .f32) (x4 : Vec Ideal S512x1024 .f32) :
    out0_A_6 (F := Ideal) c i a1 h1 a2 h2 a3 h3 a4 h4 a5 h5 a6 h6 a7 h7 a8 h8 a9 h9 hc0 x0 x1 x2 x3 x4 = dxTileB (res x0 x1 x2) x3 x4 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_dxb]

theorem out_A_7 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : cond0_0 i) (x0 : Vec Ideal S512x2816 .bf16) (x1 : Vec Ideal S1x2816x1024 .bf16) (x2 : Vec Ideal S512x1024 .f32) (x3 : Vec Ideal S1x1024 .f32) (x4 : Vec Ideal S512x1024 .f32) :
    out0_A_7 (F := Ideal) c i a1 h1 a2 h2 a3 h3 a4 h4 a5 h5 a6 h6 a7 h7 a8 h8 a9 h9 hc0 x0 x1 x2 x3 x4 = plus (k0_pay9 (F := Ideal)) (gTile (res x0 x1 x2) x3 x4) := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_dg]

theorem out_A_8 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : cond0_0 i) (x0 : Vec Ideal S512x2816 .bf16) (x1 : Vec Ideal S1x2816x1024 .bf16) (x2 : Vec Ideal S512x1024 .f32) (x3 : Vec Ideal S1x1024 .f32) (x4 : Vec Ideal S512x1024 .f32) :
    out0_A_8 (F := Ideal) c i a1 h1 a2 h2 a3 h3 a4 h4 a5 h5 a6 h6 a7 h7 a8 h8 a9 h9 hc0 x0 x1 x2 x3 x4 = plus (k0_pay10 (F := Ideal)) (lossTile (res x0 x1 x2) x3 x4) := by
  unfold out0_A_8
  rw [View.read_writes_eq_canon _ _ _ (cover0_A_8 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_loss]

theorem out_B_5 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : ¬cond0_0 i) (x0 : Vec Ideal S512x2816 .bf16) (x1 : Vec Ideal S1x2816x1024 .bf16) (x2 : Vec Ideal S512x1024 .f32) (x3 : Vec Ideal S1x1024 .f32) (x4 : Vec Ideal S512x1024 .f32) (s7 s8 : Vec Ideal S1x1024 .f32) :
    out0_B_5 (F := Ideal) c i a1 h1 a2 h2 a3 h3 a4 h4 a5 h5 a6 h6 a7 h7 a8 h8 a9 h9 hc0 x0 x1 x2 x3 x4 s7 s8 = dxTile (res x0 x1 x2) x3 x4 := by
  unfold out0_B_5
  rw [View.read_writes_eq_canon _ _ _ (cover0_B_5 c i a1 h1 a2 h2 a3 h3 a4 h4 a5 h5 a6 h6 a7 h7 a8 h8 a9 h9 hc0 x0 x1 x2 x3 x4 s7 s8)]
  unfold kernelRun0_B
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_dx]

theorem out_B_6 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : ¬cond0_0 i) (x0 : Vec Ideal S512x2816 .bf16) (x1 : Vec Ideal S1x2816x1024 .bf16) (x2 : Vec Ideal S512x1024 .f32) (x3 : Vec Ideal S1x1024 .f32) (x4 : Vec Ideal S512x1024 .f32) (s7 s8 : Vec Ideal S1x1024 .f32) :
    out0_B_6 (F := Ideal) c i a1 h1 a2 h2 a3 h3 a4 h4 a5 h5 a6 h6 a7 h7 a8 h8 a9 h9 hc0 x0 x1 x2 x3 x4 s7 s8 = dxTileB (res x0 x1 x2) x3 x4 := by
  unfold out0_B_6
  rw [View.read_writes_eq_canon _ _ _ (cover0_B_6 c i a1 h1 a2 h2 a3 h3 a4 h4 a5 h5 a6 h6 a7 h7 a8 h8 a9 h9 hc0 x0 x1 x2 x3 x4 s7 s8)]
  unfold kernelRun0_B
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_dxb]

theorem out_B_7 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : ¬cond0_0 i) (x0 : Vec Ideal S512x2816 .bf16) (x1 : Vec Ideal S1x2816x1024 .bf16) (x2 : Vec Ideal S512x1024 .f32) (x3 : Vec Ideal S1x1024 .f32) (x4 : Vec Ideal S512x1024 .f32) (s7 s8 : Vec Ideal S1x1024 .f32) :
    out0_B_7 (F := Ideal) c i a1 h1 a2 h2 a3 h3 a4 h4 a5 h5 a6 h6 a7 h7 a8 h8 a9 h9 hc0 x0 x1 x2 x3 x4 s7 s8 = plus s7 (gTile (res x0 x1 x2) x3 x4) := by
  unfold out0_B_7
  rw [View.read_writes_eq_canon _ _ _ (cover0_B_7 c i a1 h1 a2 h2 a3 h3 a4 h4 a5 h5 a6 h6 a7 h7 a8 h8 a9 h9 hc0 x0 x1 x2 x3 x4 s7 s8)]
  unfold kernelRun0_B
  dsimp only
  sl_unfold_words
  rw [View.canon_unit_zero (S := S1x1024) hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_dg]

theorem out_B_8 (c : Dev nD) (i : grid0.Coords) (a1 : Memref sig .tc .vmem S512x2816 .bf16) (h1 : a1.IsWhole) (a2 : Memref sig .tc .vmem S1x2816x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x1024 .f32) (h9 : a9.IsWhole)
    (hc0 : ¬cond0_0 i) (x0 : Vec Ideal S512x2816 .bf16) (x1 : Vec Ideal S1x2816x1024 .bf16) (x2 : Vec Ideal S512x1024 .f32) (x3 : Vec Ideal S1x1024 .f32) (x4 : Vec Ideal S512x1024 .f32) (s7 s8 : Vec Ideal S1x1024 .f32) :
    out0_B_8 (F := Ideal) c i a1 h1 a2 h2 a3 h3 a4 h4 a5 h5 a6 h6 a7 h7 a8 h8 a9 h9 hc0 x0 x1 x2 x3 x4 s7 s8 = plus s8 (lossTile (res x0 x1 x2) x3 x4) := by
  unfold out0_B_8
  rw [View.read_writes_eq_canon _ _ _ (cover0_B_8 c i a1 h1 a2 h2 a3 h3 a4 h4 a5 h5 a6 h6 a7 h7 a8 h8 a9 h9 hc0 x0 x1 x2 x3 x4 s7 s8)]
  unfold kernelRun0_B
  dsimp only
  sl_unfold_words
  rw [View.canon_unit_zero (S := S1x1024) hz2]
  simp only [View.readAt_eq_ld, h1.read_unread, h2.read_unread, h3.read_unread, h4.read_unread, h5.read_unread, h8.read_unread, h9.read_unread, View.ld_unit_zero (S := S512x2816) hz2, View.ld_unit_zero (S := S1x2816x1024) hz3, View.ld_unit_zero (S := S512x1024) hz2, View.ld_unit_zero (S := S1x1024) hz2]
  rw [pay_loss]

/-- The rows at a grid point behind the feed-forward layer. -/
abbrev resAt (c : Dev nD) (t : Fin cfg0.N) : Vec Ideal S512x1024 .f32 := res (iblk m c 0 t) (iblk m c 1 t) (iblk m c 2 t)

theorem at1 (c : Dev nD) (t : Fin cfg0.N) : (outsAt0 m c t.val t.isLt).1 = dxTile (resAt m c t) (iblk m c 3 t) (iblk m c 4 t) := by
  by_cases h : t.val % 8 = 0
  · rw [outsAt0_A m c t h]
    dsimp only
    rw [out_A_5]
  · rw [outsAt0_B m c t h]
    dsimp only
    rw [out_B_5]

theorem at2 (c : Dev nD) (t : Fin cfg0.N) : (outsAt0 m c t.val t.isLt).2.1 = dxTileB (resAt m c t) (iblk m c 3 t) (iblk m c 4 t) := by
  by_cases h : t.val % 8 = 0
  · rw [outsAt0_A m c t h]
    dsimp only
    rw [out_A_6]
  · rw [outsAt0_B m c t h]
    dsimp only
    rw [out_B_6]

/-- The running sum over the tiles up to a point. -/
def gUpTo (c : Dev nD) : (n : ℕ) → n < cfg0.N → Vec Ideal S1x1024 .f32
  | 0, h => plus (k0_pay9 (F := Ideal)) (gTile (resAt m c ⟨0, h⟩) (iblk m c 3 ⟨0, h⟩) (iblk m c 4 ⟨0, h⟩))
  | n + 1, h => plus (gUpTo c n (Nat.lt_of_succ_lt h)) (gTile (resAt m c ⟨n + 1, h⟩) (iblk m c 3 ⟨n + 1, h⟩) (iblk m c 4 ⟨n + 1, h⟩))

theorem at3 (c : Dev nD) : ∀ (n : ℕ) (h : n < cfg0.N), (outsAt0 m c n h).2.2.1 = gUpTo m c n h
  | 0, h => by
    have e := outsAt0_A m c ⟨0, h⟩ rfl
    dsimp only at e
    rw [e]
    dsimp only
    rw [out_A_7]
    rfl
  | n + 1, h => by
    have hN : cfg0.N = 8 := N_0
    have hn : ¬(n + 1) % 8 = 0 := by omega
    have e := outsAt0_B m c ⟨n + 1, h⟩ hn
    dsimp only at e
    rw [e]
    dsimp only
    rw [out_B_7]
    have e' : (outsAt0 m c (n + 1 - 1) (Nat.lt_of_le_of_lt (Nat.sub_le _ _) h)).2.2.1 = _ := at3 c n (Nat.lt_of_succ_lt h)
    rw [e']
    rfl

/-- The running sum over the tiles up to a point. -/
def lUpTo (c : Dev nD) : (n : ℕ) → n < cfg0.N → Vec Ideal S1x1024 .f32
  | 0, h => plus (k0_pay10 (F := Ideal)) (lossTile (resAt m c ⟨0, h⟩) (iblk m c 3 ⟨0, h⟩) (iblk m c 4 ⟨0, h⟩))
  | n + 1, h => plus (lUpTo c n (Nat.lt_of_succ_lt h)) (lossTile (resAt m c ⟨n + 1, h⟩) (iblk m c 3 ⟨n + 1, h⟩) (iblk m c 4 ⟨n + 1, h⟩))

theorem at4 (c : Dev nD) : ∀ (n : ℕ) (h : n < cfg0.N), (outsAt0 m c n h).2.2.2 = lUpTo m c n h
  | 0, h => by
    have e := outsAt0_A m c ⟨0, h⟩ rfl
    dsimp only at e
    rw [e]
    dsimp only
    rw [out_A_8]
    rfl
  | n + 1, h => by
    have hN : cfg0.N = 8 := N_0
    have hn : ¬(n + 1) % 8 = 0 := by omega
    have e := outsAt0_B m c ⟨n + 1, h⟩ hn
    dsimp only at e
    rw [e]
    dsimp only
    rw [out_B_8]
    have e' : (outsAt0 m c (n + 1 - 1) (Nat.lt_of_le_of_lt (Nat.sub_le _ _) h)).2.2.2 = _ := at4 c n (Nat.lt_of_succ_lt h)
    rw [e']
    rfl
theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

theorem idx8 : ∀ t : Fin cfg0.N, win0_8.index t 0 = 0 ∧ win0_8.index t 1 = 0 :=
  (by decide +kernel : ∀ t : Fin grid0.N, win0_8.index t 0 = 0 ∧ win0_8.index t 1 = 0)

/-- Row `r` of the tile at point `t`. -/
def row (t : Fin cfg0.N) (r : Fin 512) : Fin 4096 :=
  ⟨t.val * 512 + r.val, by have h := t.isLt; have h' : cfg0.N = 8 := N_0; have := r.isLt; omega⟩

/-! The arguments. -/
abbrev a0 (c : Dev nD) : FVec Ideal S4096x2816 .bf16 := m ((c : Thread nD τ).loc main_arg0)
abbrev a1 (c : Dev nD) : FVec Ideal S2816x1024 .f32 := m ((c : Thread nD τ).loc main_arg1)
abbrev a2 (c : Dev nD) : FVec Ideal S4096x1024 .f32 := m ((c : Thread nD τ).loc main_arg2)
abbrev a3 (c : Dev nD) : FVec Ideal S1x1024 .f32 := m ((c : Thread nD τ).loc main_arg3)
abbrev a4 (c : Dev nD) : FVec Ideal S4096x1024 .f32 := m ((c : Thread nD τ).loc main_arg4)

theorem blk0 (c : Dev nD) (t : Fin cfg0.N) (r : Fin 512) (k : Fin 2816) :
    (iblk m c 0 t : FVec Ideal S512x2816 .bf16) (ix2 r k) = a0 m c (ix2 (row t r) k) := by
  unfold a0; rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = t.val * 512 + r.val; rw [(idx0 t).1]; omega
  | ⟨1, _⟩ => show win0_0.index t 1 * 2816 + 1 * k.val = k.val; rw [(idx0 t).2]; omega

theorem V_w0 (c : Dev nD) : (V m c main_v1 : FVec Ideal S1x2816x1024 .bf16)
    = truncf .bf16 (broadcastInDim S1x2816x1024 ![1, 2] bcast_S2816x1024_S1x2816x1024_1_2 (a1 m c)) bitsLt_bf16_f32 := by
  show StableHlo.after hostOps0 _ _ = _
  after_results

theorem V_w0_apply (c : Dev nD) (z : Fin 1) (k : Fin 2816) (l : Fin 1024) :
    (V m c main_v1 : FVec Ideal S1x2816x1024 .bf16) (ix3 z k l) = a1 m c (ix2 k l) := by
  rw [V_w0]
  pointwise

theorem blk1 (c : Dev nD) (t : Fin cfg0.N) (k : Fin 2816) (l : Fin 1024) :
    (iblk m c 1 t : FVec Ideal S1x2816x1024 .bf16) (ix3 0 k l) = a1 m c (ix2 k l) := by
  rw [← V_w0_apply m c 0 k l]
  unfold iblk
  rw [View.read_apply]
  show V m c main_v1 _ = V m c main_v1 _
  congr 1
  funext a
  apply Fin.ext
  match a with
  | ⟨0, _⟩ => show win0_1.index t 0 * 1 + 1 * 0 = 0; rw [(idx1 t).1]
  | ⟨1, _⟩ => show win0_1.index t 1 * 2816 + 1 * k.val = k.val; rw [(idx1 t).2.1]; omega
  | ⟨2, _⟩ => show win0_1.index t 2 * 1024 + 1 * l.val = l.val; rw [(idx1 t).2.2]; omega

theorem blk2 (c : Dev nD) (t : Fin cfg0.N) (r : Fin 512) (k : Fin 1024) :
    (iblk m c 2 t : FVec Ideal S512x1024 .f32) (ix2 r k) = a2 m c (ix2 (row t r) k) := by
  unfold a2; rw [← V_main_arg2 m c]
  unfold iblk
  rw [View.read_apply]
  show V m c main_arg2 _ = V m c main_arg2 _
  congr 1
  funext a
  apply Fin.ext
  match a with
  | ⟨0, _⟩ => show win0_2.index t 0 * 512 + 1 * r.val = t.val * 512 + r.val; rw [(idx2 t).1]; omega
  | ⟨1, _⟩ => show win0_2.index t 1 * 1024 + 1 * k.val = k.val; rw [(idx2 t).2]; omega

theorem blk4 (c : Dev nD) (t : Fin cfg0.N) (r : Fin 512) (k : Fin 1024) :
    (iblk m c 4 t : FVec Ideal S512x1024 .f32) (ix2 r k) = a4 m c (ix2 (row t r) k) := by
  unfold a4; rw [← V_main_arg4 m c]
  unfold iblk
  rw [View.read_apply]
  show V m c main_arg4 _ = V m c main_arg4 _
  congr 1
  funext a
  apply Fin.ext
  match a with
  | ⟨0, _⟩ => show win0_4.index t 0 * 512 + 1 * r.val = t.val * 512 + r.val; rw [(idx4 t).1]; omega
  | ⟨1, _⟩ => show win0_4.index t 1 * 1024 + 1 * k.val = k.val; rw [(idx4 t).2]; omega

theorem blk3 (c : Dev nD) (t : Fin cfg0.N) (z : Fin 1) (k : Fin 1024) :
    (iblk m c 3 t : FVec Ideal S1x1024 .f32) (ix2 z k) = a3 m c (ix2 z k) := by
  unfold a3; rw [← V_main_arg3 m c]
  unfold iblk
  rw [View.read_apply]
  show V m c main_arg3 _ = V m c main_arg3 _
  congr 1
  funext a
  apply Fin.ext
  match a with
  | ⟨0, _⟩ => show win0_3.index t 0 * 1 + 1 * z.val = z.val; rw [(idx3 t).1]; omega
  | ⟨1, _⟩ => show win0_3.index t 1 * 1024 + 1 * k.val = k.val; rw [(idx3 t).2]; omega

/-- The rows behind the feed-forward layer. -/
def resF (y0 : FVec Ideal S4096x2816 .bf16) (w0 : FVec Ideal S2816x1024 .f32) (x : FVec Ideal S4096x1024 .f32) : FVec Ideal S4096x1024 .f32 :=
  fun i => (x i + half * ∑ k : Fin 2816, (y0 (ix2 (i 0) k) : EReal) * w0 (ix2 k (i 1)) : EReal)

/-- Row `R` of an array. -/
def rwF (y : FVec Ideal S4096x1024 .f32) (R : Fin 4096) : Fin 1024 → EReal := fun k => (y (ix2 R k) : EReal)

def dxTotal (y : FVec Ideal S4096x1024 .f32) (g : FVec Ideal S1x1024 .f32) (t : FVec Ideal S4096x1024 .f32) : Vec Ideal S4096x1024 .f32 :=
  fun j => (dxRow (rwF y (j 0)) (rw1 g) (rwF t (j 0)) (j 1) : EReal)

def dxTotalB (y : FVec Ideal S4096x1024 .f32) (g : FVec Ideal S1x1024 .f32) (t : FVec Ideal S4096x1024 .f32) : Vec Ideal S4096x1024 .bf16 :=
  fun j => (half * dxTotal y g t j : EReal)

/-- The gradient of the gain: a sum over all rows. -/
def gTotal (y : FVec Ideal S4096x1024 .f32) (g : FVec Ideal S1x1024 .f32) (t : FVec Ideal S4096x1024 .f32) : Vec Ideal S1x1024 .f32 :=
  fun j => (∑ R : Fin 4096, dgRow (rwF y R) (rw1 g) (rwF t R) (j 1) : EReal)

/-- The loss, tile by tile. -/
def lossTotal (y : FVec Ideal S4096x1024 .f32) (g : FVec Ideal S1x1024 .f32) (t : FVec Ideal S4096x1024 .f32) : Vec Ideal S1x1024 .f32 :=
  fun _ => (∑ s : Fin 8, (∑ r : Fin 512, sqRow (rwF y ⟨s.val * 512 + r.val, by omega⟩) (rw1 g) (rwF t ⟨s.val * 512 + r.val, by omega⟩)) * halfInvW : EReal)

abbrev resF' (c : Dev nD) : FVec Ideal S4096x1024 .f32 := resF (a0 m c) (a1 m c) (a2 m c)

theorem row_res (c : Dev nD) (t : Fin cfg0.N) (r : Fin 512) : rw512 (resAt m c t) r = rwF (resF' m c) (row t r) := by
  funext l
  unfold rw512 rwF resAt res resF' resF
  exact congrArg₂ (· + ·) (blk2 m c t r l) (congrArg (half * ·)
    (Finset.sum_congr rfl fun k _ => congrArg₂ (· * ·) (blk0 m c t r k) (blk1 m c t k l)))

theorem row_gain (c : Dev nD) (t : Fin cfg0.N) : rw1 (iblk m c 3 t : FVec Ideal S1x1024 .f32) = rw1 (a3 m c) :=
  funext fun k => blk3 m c t 0 k

theorem row_target (c : Dev nD) (t : Fin cfg0.N) (r : Fin 512) :
    rw512 (iblk m c 4 t : FVec Ideal S512x1024 .f32) r = rwF (a4 m c) (row t r) :=
  funext fun k => blk4 m c t r k

theorem dx_eq (c : Dev nD) (t : Fin cfg0.N) (r : Fin 512) (l : Fin 1024) :
    (outsAt0 m c t.val t.isLt).1 (ix2 r l) = dxTotal (resF' m c) (a3 m c) (a4 m c) (ix2 (row t r) l) := by
  rw [at1]
  show dxRow (rw512 (resAt m c t) r) (rw1 (iblk m c 3 t : FVec Ideal S1x1024 .f32)) (rw512 (iblk m c 4 t : FVec Ideal S512x1024 .f32) r) l = _
  rw [row_res, row_gain, row_target]
  rfl

theorem dxb_eq (c : Dev nD) (t : Fin cfg0.N) (r : Fin 512) (l : Fin 1024) :
    (outsAt0 m c t.val t.isLt).2.1 (ix2 r l) = dxTotalB (resF' m c) (a3 m c) (a4 m c) (ix2 (row t r) l) := by
  have e := dx_eq m c t r l
  rw [at1] at e
  rw [at2]
  exact congrArg (half * ·) e

theorem gTile_eq (c : Dev nD) (t : Fin cfg0.N) (j : S1x1024.Idx) :
    gTile (resAt m c t) (iblk m c 3 t) (iblk m c 4 t) j = ∑ r : Fin 512, dgRow (rwF (resF' m c) (row t r)) (rw1 (a3 m c)) (rwF (a4 m c) (row t r)) (j 1) := by
  unfold gTile
  refine Finset.sum_congr rfl fun r _ => ?_
  rw [row_res, row_gain, row_target]

theorem lTile_eq (c : Dev nD) (t : Fin cfg0.N) (j : S1x1024.Idx) :
    lossTile (resAt m c t) (iblk m c 3 t) (iblk m c 4 t) j = (∑ r : Fin 512, sqRow (rwF (resF' m c) (row t r)) (rw1 (a3 m c)) (rwF (a4 m c) (row t r))) * halfInvW := by
  unfold lossTile
  refine congrArg (· * halfInvW) (Finset.sum_congr rfl fun r _ => ?_)
  rw [row_res, row_gain, row_target]

theorem zero_pay (j : S1x1024.Idx) : (k0_pay9 (F := Ideal) j : EReal) = 0 := by
  unfold_payloads
  pointwise

theorem zero_pay' (j : S1x1024.Idx) : (k0_pay10 (F := Ideal) j : EReal) = 0 := by
  unfold_payloads
  pointwise

theorem dg_eq (c : Dev nD) (h : 7 < cfg0.N) (j : S1x1024.Idx) : gUpTo m c 7 h j = gTotal (resF' m c) (a3 m c) (a4 m c) j := by
  have hN : cfg0.N = 8 := N_0
  have g : ∀ s (hs : s < cfg0.N), (gTile (resAt m c ⟨s, hs⟩) (iblk m c 3 ⟨s, hs⟩) (iblk m c 4 ⟨s, hs⟩) j : EReal) = _ := fun s hs => gTile_eq m c ⟨s, hs⟩ j
  unfold gUpTo gUpTo gUpTo gUpTo gUpTo gUpTo gUpTo gUpTo
  unfold plus
  dsimp only
  rw [zero_pay, zero_add]
  simp only [g]
  unfold gTotal
  rw [Fin.sum_univ_tiles (N := 4096) 8 512 (by decide), Fin.sum_univ_eight]
  rfl

theorem dl_eq (c : Dev nD) (h : 7 < cfg0.N) (j : S1x1024.Idx) : lUpTo m c 7 h j = lossTotal (resF' m c) (a3 m c) (a4 m c) j := by
  have hN : cfg0.N = 8 := N_0
  have g : ∀ s (hs : s < cfg0.N), (lossTile (resAt m c ⟨s, hs⟩) (iblk m c 3 ⟨s, hs⟩) (iblk m c 4 ⟨s, hs⟩) j : EReal) = _ := fun s hs => lTile_eq m c ⟨s, hs⟩ j
  unfold lUpTo lUpTo lUpTo lUpTo lUpTo lUpTo lUpTo lUpTo
  unfold plus
  dsimp only
  rw [zero_pay', zero_add]
  simp only [g]
  unfold lossTotal
  rw [Fin.sum_univ_eight]
  rfl

/-- The point whose tile holds a row. -/
def ptOf (i : S4096x1024.Idx) : Fin cfg0.N :=
  ⟨(i 0).val / 512, by have h : cfg0.N = 8 := N_0; have h0 : (i 0).val < 4096 := (i 0).isLt; omega⟩

theorem flushed5_eq (c : Dev nD) (t : Fin cfg0.N) (hf : (cfg0.win 5).flush t = true) :
    (dats m 0 c).flushed 5 t = ((cfg0.win 5).blk t).view.read (Elt Ideal) (dxTotal (resF' m c) (a3 m c) (a4 m c)) := by
  rw [Value.flushed5]
  funext y
  rw [View.read_apply]
  have hi : ((cfg0.win 5).blk t).view.emb y = (ix2 (row t (y 0)) (y 1) : S4096x1024.Idx) := by
    funext a
    apply Fin.ext
    match a with
    | ⟨0, _⟩ => show win0_5.index t 0 * 512 + 1 * (y 0).val = t.val * 512 + (y 0).val; rw [(idx5 t).1]; omega
    | ⟨1, _⟩ => show win0_5.index t 1 * 1024 + 1 * (y 1).val = (y 1).val; rw [(idx5 t).2]; omega
  have hy : (cfg0.win 5).xinj (grid0.coords t) y = (ix2 (y 0) (y 1) : S512x1024.Idx) := by
    funext a
    match a with
    | ⟨0, _⟩ => rfl
    | ⟨1, _⟩ => rfl
  refine Eq.trans ?_ (congrArg (dxTotal (resF' m c) (a3 m c) (a4 m c)) hi.symm)
  refine Eq.trans (congrArg (outsAt0 m c t.val t.isLt).1 hy) ?_
  exact dx_eq m c t (y 0) (y 1)

theorem flush5 : ∀ t : Fin cfg0.N, (cfg0.win 5).flush t = true := (by decide +kernel : ∀ t : Fin grid0.N, (cfg0.win 5).flush t = true)

theorem final5 (c : Dev nD) : (dats m 0 c).arrAt 5 cfg0.N = (dxTotal (resF' m c) (a3 m c) (a4 m c) : Vec Ideal S4096x1024 .f32) :=
  (dats m 0 c).arrAt_eq_of_cover 5 _ (flushed5_eq m c) fun i => ⟨ptOf i, flush5 _, by
    show i ∈ ((View.whole main_v2_0).slice (win0_5.rect (ptOf i))).set
    rw [View.set_slice_whole, Rect.mem_set_unit]
    intro a
    have h0 : (i 0 : Nat) < 4096 := (i 0).isLt
    have h1 : (i 1 : Nat) < 1024 := (i 1).isLt
    have hp : (ptOf i).val = (i 0 : Nat) / 512 := rfl
    match a with
    | ⟨0, _⟩ => show win0_5.index (ptOf i) 0 * 512 ≤ (i 0 : Nat) ∧ (i 0 : Nat) < win0_5.index (ptOf i) 0 * 512 + 512
                rw [(idx5 (ptOf i)).1]; omega
    | ⟨1, _⟩ => show win0_5.index (ptOf i) 1 * 1024 ≤ (i 1 : Nat) ∧ (i 1 : Nat) < win0_5.index (ptOf i) 1 * 1024 + 1024
                rw [(idx5 (ptOf i)).2]; omega⟩

theorem flushed6_eq (c : Dev nD) (t : Fin cfg0.N) (hf : (cfg0.win 6).flush t = true) :
    (dats m 0 c).flushed 6 t = ((cfg0.win 6).blk t).view.read (Elt Ideal) (dxTotalB (resF' m c) (a3 m c) (a4 m c)) := by
  rw [Value.flushed6]
  funext y
  rw [View.read_apply]
  have hi : ((cfg0.win 6).blk t).view.emb y = (ix2 (row t (y 0)) (y 1) : S4096x1024.Idx) := by
    funext a
    apply Fin.ext
    match a with
    | ⟨0, _⟩ => show win0_6.index t 0 * 512 + 1 * (y 0).val = t.val * 512 + (y 0).val; rw [(idx6 t).1]; omega
    | ⟨1, _⟩ => show win0_6.index t 1 * 1024 + 1 * (y 1).val = (y 1).val; rw [(idx6 t).2]; omega
  have hy : (cfg0.win 6).xinj (grid0.coords t) y = (ix2 (y 0) (y 1) : S512x1024.Idx) := by
    funext a
    match a with
    | ⟨0, _⟩ => rfl
    | ⟨1, _⟩ => rfl
  refine Eq.trans ?_ (congrArg (dxTotalB (resF' m c) (a3 m c) (a4 m c)) hi.symm)
  refine Eq.trans (congrArg (outsAt0 m c t.val t.isLt).2.1 hy) ?_
  exact dxb_eq m c t (y 0) (y 1)

theorem flush6 : ∀ t : Fin cfg0.N, (cfg0.win 6).flush t = true := (by decide +kernel : ∀ t : Fin grid0.N, (cfg0.win 6).flush t = true)

theorem final6 (c : Dev nD) : (dats m 0 c).arrAt 6 cfg0.N = (dxTotalB (resF' m c) (a3 m c) (a4 m c) : Vec Ideal S4096x1024 .bf16) :=
  (dats m 0 c).arrAt_eq_of_cover 6 _ (flushed6_eq m c) fun i => ⟨ptOf i, flush6 _, by
    show i ∈ ((View.whole main_v2_1).slice (win0_6.rect (ptOf i))).set
    rw [View.set_slice_whole, Rect.mem_set_unit]
    intro a
    have h0 : (i 0 : Nat) < 4096 := (i 0).isLt
    have h1 : (i 1 : Nat) < 1024 := (i 1).isLt
    have hp : (ptOf i).val = (i 0 : Nat) / 512 := rfl
    match a with
    | ⟨0, _⟩ => show win0_6.index (ptOf i) 0 * 512 ≤ (i 0 : Nat) ∧ (i 0 : Nat) < win0_6.index (ptOf i) 0 * 512 + 512
                rw [(idx6 (ptOf i)).1]; omega
    | ⟨1, _⟩ => show win0_6.index (ptOf i) 1 * 1024 ≤ (i 1 : Nat) ∧ (i 1 : Nat) < win0_6.index (ptOf i) 1 * 1024 + 1024
                rw [(idx6 (ptOf i)).2]; omega⟩

theorem flush7 : ∀ t : Fin cfg0.N, (cfg0.win 7).flush t = true ↔ t.val = 7 := (by decide +kernel : ∀ t : Fin grid0.N, (cfg0.win 7).flush t = true ↔ t.val = 7)

theorem flushed7_eq (c : Dev nD) (t : Fin cfg0.N) (hf : (cfg0.win 7).flush t = true) :
    (dats m 0 c).flushed 7 t = ((cfg0.win 7).blk t).view.read (Elt Ideal) (gTotal (resF' m c) (a3 m c) (a4 m c)) := by
  have h : t.val = 7 := (flush7 t).mp hf
  rw [Value.flushed7]
  funext y
  rw [View.read_apply]
  have hi : ((cfg0.win 7).blk t).view.emb y = (ix2 (y 0) (y 1) : S1x1024.Idx) := by
    funext a
    apply Fin.ext
    match a with
    | ⟨0, _⟩ => show win0_7.index t 0 * 1 + 1 * (y 0).val = (y 0).val; rw [(idx7 t).1]; omega
    | ⟨1, _⟩ => show win0_7.index t 1 * 1024 + 1 * (y 1).val = (y 1).val; rw [(idx7 t).2]; omega
  have hy : (cfg0.win 7).xinj (grid0.coords t) y = (ix2 (y 0) (y 1) : S1x1024.Idx) := by
    funext a
    match a with
    | ⟨0, _⟩ => rfl
    | ⟨1, _⟩ => rfl
  refine Eq.trans ?_ (congrArg (gTotal (resF' m c) (a3 m c) (a4 m c)) hi.symm)
  refine Eq.trans (congrArg (outsAt0 m c t.val t.isLt).2.2.1 hy) ?_
  obtain ⟨n, hn⟩ := t
  dsimp only at h
  subst h
  rw [at3]
  exact dg_eq m c hn _

/-- The last point. -/
def lastPt : Fin cfg0.N := ⟨7, by have h : cfg0.N = 8 := N_0; omega⟩

theorem final7 (c : Dev nD) : (dats m 0 c).arrAt 7 cfg0.N = (gTotal (resF' m c) (a3 m c) (a4 m c) : Vec Ideal S1x1024 .f32) :=
  (dats m 0 c).arrAt_eq_of_cover 7 _ (flushed7_eq m c) fun i => ⟨lastPt, (flush7 lastPt).mpr rfl, by
    show i ∈ ((View.whole main_v2_2).slice (win0_7.rect lastPt)).set
    rw [View.set_slice_whole, Rect.mem_set_unit]
    intro a
    have h0 : (i 0 : Nat) < 1 := (i 0).isLt
    have h1 : (i 1 : Nat) < 1024 := (i 1).isLt
    match a with
    | ⟨0, _⟩ => show win0_7.index lastPt 0 * 1 ≤ (i 0 : Nat) ∧ (i 0 : Nat) < win0_7.index lastPt 0 * 1 + 1
                rw [(idx7 lastPt).1]; omega
    | ⟨1, _⟩ => show win0_7.index lastPt 1 * 1024 ≤ (i 1 : Nat) ∧ (i 1 : Nat) < win0_7.index lastPt 1 * 1024 + 1024
                rw [(idx7 lastPt).2]; omega⟩

theorem flush8 : ∀ t : Fin cfg0.N, (cfg0.win 8).flush t = true ↔ t.val = 7 := (by decide +kernel : ∀ t : Fin grid0.N, (cfg0.win 8).flush t = true ↔ t.val = 7)

theorem flushed8_eq (c : Dev nD) (t : Fin cfg0.N) (hf : (cfg0.win 8).flush t = true) :
    (dats m 0 c).flushed 8 t = ((cfg0.win 8).blk t).view.read (Elt Ideal) (lossTotal (resF' m c) (a3 m c) (a4 m c)) := by
  have h : t.val = 7 := (flush8 t).mp hf
  rw [Value.flushed8]
  funext y
  rw [View.read_apply]
  have hi : ((cfg0.win 8).blk t).view.emb y = (ix2 (y 0) (y 1) : S1x1024.Idx) := by
    funext a
    apply Fin.ext
    match a with
    | ⟨0, _⟩ => show win0_8.index t 0 * 1 + 1 * (y 0).val = (y 0).val; rw [(idx8 t).1]; omega
    | ⟨1, _⟩ => show win0_8.index t 1 * 1024 + 1 * (y 1).val = (y 1).val; rw [(idx8 t).2]; omega
  have hy : (cfg0.win 8).xinj (grid0.coords t) y = (ix2 (y 0) (y 1) : S1x1024.Idx) := by
    funext a
    match a with
    | ⟨0, _⟩ => rfl
    | ⟨1, _⟩ => rfl
  refine Eq.trans ?_ (congrArg (lossTotal (resF' m c) (a3 m c) (a4 m c)) hi.symm)
  refine Eq.trans (congrArg (outsAt0 m c t.val t.isLt).2.2.2 hy) ?_
  obtain ⟨n, hn⟩ := t
  dsimp only at h
  subst h
  rw [at4]
  exact dl_eq m c hn _

theorem final8 (c : Dev nD) : (dats m 0 c).arrAt 8 cfg0.N = (lossTotal (resF' m c) (a3 m c) (a4 m c) : Vec Ideal S1x1024 .f32) :=
  (dats m 0 c).arrAt_eq_of_cover 8 _ (flushed8_eq m c) fun i => ⟨lastPt, (flush8 lastPt).mpr rfl, by
    show i ∈ ((View.whole main_v2_3).slice (win0_8.rect lastPt)).set
    rw [View.set_slice_whole, Rect.mem_set_unit]
    intro a
    have h0 : (i 0 : Nat) < 1 := (i 0).isLt
    have h1 : (i 1 : Nat) < 1024 := (i 1).isLt
    match a with
    | ⟨0, _⟩ => show win0_8.index lastPt 0 * 1 ≤ (i 0 : Nat) ∧ (i 0 : Nat) < win0_8.index lastPt 0 * 1 + 1
                rw [(idx8 lastPt).1]; omega
    | ⟨1, _⟩ => show win0_8.index lastPt 1 * 1024 ≤ (i 1 : Nat) ∧ (i 1 : Nat) < win0_8.index lastPt 1 * 1024 + 1024
                rw [(idx8 lastPt).2]; omega⟩

end Cert.FfnLossIdeal.Hand

namespace Cert.FfnLossRefIdeal.Hand

open Cert.FfnLossRefIdeal Cert.FfnLossRefIdeal.Gen Idealize.ShloMosaic Idealize.ShloMosaic.TcCoe Idealize.SL.Sem Cert.Finite

theorem ofBits_half : Ideal.ofBits .f32 0x3F000000#32 = ((1 / 2 : ℝ) : EReal) := by
  simp [Ideal.ofBits, Ideal.ieee]
  rw [← EReal.coe_mul]
  norm_num

theorem ofBits_one : Ideal.ofBits .f32 0x3F800000#32 = ((1 : ℝ) : EReal) := by
  simp [Ideal.ofBits, Ideal.ieee]
  rw [← EReal.coe_mul]
  norm_num

theorem ofBits_two : Ideal.ofBits .f32 0x40000000#32 = ((2 : ℝ) : EReal) := by
  simp [Ideal.ofBits, Ideal.ieee]
  rw [← EReal.coe_mul]
  norm_num

theorem ofBits_inv_width : Ideal.ofBits .f32 0x3A800000#32 = ((1 / 1024 : ℝ) : EReal) := by
  simp [Ideal.ofBits, Ideal.ieee]
  rw [← EReal.coe_mul]
  norm_num

theorem ofBits_half_inv_width : Ideal.ofBits .f32 0x3A000000#32 = ((1 / 2048 : ℝ) : EReal) := by
  simp [Ideal.ofBits, Ideal.ieee]
  rw [← EReal.coe_mul]
  norm_num

theorem isReal_sub {x y : EReal} (hx : IsReal x) (hy : IsReal y) : IsReal (x - y) := by
  obtain ⟨a, rfl⟩ := hx
  obtain ⟨b, rfl⟩ := hy
  exact ⟨a - b, (EReal.coe_sub a b).symm⟩

/-- The reciprocal root of a real row's mean square is real. -/
theorem isReal_rsqrt (x : Fin 1024 → EReal) (hx : ∀ k, IsReal (x k)) :
    IsReal (Ideal.rsqrt (meanSq Cert.FfnLossIdeal.Hand.width Cert.FfnLossIdeal.Hand.tiny x)) := by
  obtain ⟨e, he, hE⟩ := ofBits_eps
  unfold Cert.FfnLossIdeal.Hand.width Cert.FfnLossIdeal.Hand.tiny
  rw [hE, ofBits_1024]
  choose y hy using hx
  have hc : 0 < (∑ k, y k * y k) / 1024 + e :=
    add_pos_of_nonneg_of_pos (div_nonneg (Finset.sum_nonneg fun k _ => mul_self_nonneg _) (by norm_num)) he
  have hms : meanSq ((1024 : ℝ) : EReal) e x = (((∑ k, y k * y k) / 1024 + e : ℝ) : EReal) := by
    unfold meanSq
    simp only [hy, ← EReal.coe_mul]
    rw [coe_sum, div_real _ _ (by norm_num), ← EReal.coe_add]
  rw [hms, Ideal.rsqrt_coe, if_neg (not_lt.2 hc.le), if_neg hc.ne']
  exact isReal_coe _

theorem isReal_err (y g t : Fin 1024 → EReal) (hy : ∀ k, IsReal (y k)) (hg : ∀ k, IsReal (g k)) (ht : ∀ k, IsReal (t k)) (l : Fin 1024) :
    IsReal (Cert.FfnLossIdeal.Hand.errRow y g t l) := by
  unfold Cert.FfnLossIdeal.Hand.errRow
  exact isReal_sub (((hy l).mul (isReal_rsqrt y hy)).mul (hg l)) (ht l)

theorem isReal_sq (y g t : Fin 1024 → EReal) (hy : ∀ k, IsReal (y k)) (hg : ∀ k, IsReal (g k)) (ht : ∀ k, IsReal (t k)) :
    IsReal (Cert.FfnLossIdeal.Hand.sqRow y g t) := by
  unfold Cert.FfnLossIdeal.Hand.sqRow
  exact IsReal.sum _ _ fun l _ => (isReal_err y g t hy hg ht l).mul (isReal_err y g t hy hg ht l)

theorem isReal_res (x0 : FVec Ideal S4096x2816 .bf16) (x1 : FVec Ideal S2816x1024 .f32) (x2 : FVec Ideal S4096x1024 .f32) (h0 : ∀ i, IsReal (x0 i)) (h1 : ∀ i, IsReal (x1 i)) (h2 : ∀ i, IsReal (x2 i)) (i : S4096x1024.Idx) :
    IsReal (Cert.FfnLossIdeal.Hand.resF x0 x1 x2 i) := by
  unfold Cert.FfnLossIdeal.Hand.resF Cert.FfnLossIdeal.Hand.half
  refine (h2 _).add (IsReal.mul ?_ (IsReal.sum _ _ fun k _ => (h0 _).mul (h1 _)))
  rw [ofBits_half]
  exact isReal_coe _

/-- The weight the loss gives to an entry's error, as differentiating the loss gives it: half of one over the
    width, times two. -/
theorem weight_eq (e : EReal) :
    Ideal.div (Ideal.ofBits .f32 0x3F000000#32 * Ideal.ofBits .f32 0x3F800000#32) (Ideal.ofBits .f32 0x44800000#32) * (Ideal.ofBits .f32 0x40000000#32 * e)
      = e * Cert.FfnLossIdeal.Hand.invW := by
  unfold Cert.FfnLossIdeal.Hand.invW
  rw [ofBits_half, ofBits_one, ofBits_two, ofBits_1024, ofBits_inv_width, ← EReal.coe_mul, div_real _ _ (by norm_num), ← mul_assoc, ← EReal.coe_mul, mul_comm]
  congr 2
  norm_num

/-- The output of the layer with its residual. -/
theorem res_eq (x0 : FVec Ideal S4096x2816 .bf16) (x1 : FVec Ideal S2816x1024 .f32) (x2 : FVec Ideal S4096x1024 .f32) (i : S4096x1024.Idx) :
    Read.val_main_v5 (F := Ideal) x0 x1 x2 i = Cert.FfnLossIdeal.Hand.resF x0 x1 x2 i := by
  unfold Read.val_main_v5 Read.val_main_v4 Read.val_main_v3 Read.val_main_v1 Read.val_main_v0 Read.val_main_cst
  unfold Cert.FfnLossIdeal.Hand.resF Cert.FfnLossIdeal.Hand.half
  pointwise

/-- The error at an entry. -/
theorem err_eq (x0 : FVec Ideal S4096x2816 .bf16) (x1 : FVec Ideal S2816x1024 .f32) (x2 : FVec Ideal S4096x1024 .f32) (x3 : FVec Ideal S1x1024 .f32) (x4 : FVec Ideal S4096x1024 .f32) (R : Fin 4096) (l : Fin 1024) :
    Read.val_main_v22 (F := Ideal) x0 x1 x2 x3 x4 (ix2 R l)
      = Cert.FfnLossIdeal.Hand.errRow (Cert.FfnLossIdeal.Hand.rwF (Cert.FfnLossIdeal.Hand.resF x0 x1 x2) R) (Cert.FfnLossIdeal.Hand.rw1 x3) (Cert.FfnLossIdeal.Hand.rwF x4 R) l := by
  have hc := funext (res_eq x0 x1 x2)
  generalize Cert.FfnLossIdeal.Hand.resF x0 x1 x2 = y at *
  unfold Read.val_main_v22 Read.val_main_v21 Read.val_main_v20 Read.val_main_v19 Read.val_main_v18 Read.val_main_v17 Read.val_main_v13 Read.val_main_v12 Read.val_main_v11 Read.val_main_v10 Read.val_main_v9 Read.val_main_v8 Read.val_main_v7 Read.val_main_v6 Read.val_main_v2 Read.val_main_cst_2 Read.val_main_cst_1 Read.val_main_cst_0
  rw [hc]
  unfold Cert.FfnLossIdeal.Hand.errRow Cert.FfnLossIdeal.Hand.rwF Cert.FfnLossIdeal.Hand.rw1 Cert.FfnLossIdeal.Hand.width Cert.FfnLossIdeal.Hand.tiny meanSq
  pointwise

/-- The cotangent of the normalised row at an entry. -/
theorem cot_eq (x0 : FVec Ideal S4096x2816 .bf16) (x1 : FVec Ideal S2816x1024 .f32) (x2 : FVec Ideal S4096x1024 .f32) (x3 : FVec Ideal S1x1024 .f32) (x4 : FVec Ideal S4096x1024 .f32) (R : Fin 4096) (l : Fin 1024) :
    Read.val_main_v36 (F := Ideal) x0 x1 x2 x3 x4 (ix2 R l)
      = Cert.FfnLossIdeal.Hand.cotRow (Cert.FfnLossIdeal.Hand.rwF (Cert.FfnLossIdeal.Hand.resF x0 x1 x2) R) (Cert.FfnLossIdeal.Hand.rw1 x3) (Cert.FfnLossIdeal.Hand.rwF x4 R) l := by
  unfold Cert.FfnLossIdeal.Hand.cotRow
  rw [← err_eq, ← weight_eq]
  unfold Read.val_main_v36 Read.val_main_v35 Read.val_main_v34 Read.val_main_v33 Read.val_main_v32 Read.val_main_v31 Read.val_main_v25 Read.val_main_v24 Read.val_main_cst_4 Read.val_main_cst_11 Read.val_main_cst_10 Read.val_main_cst_9
  generalize Read.val_main_v22 (F := Ideal) x0 x1 x2 x3 x4 = z
  pointwise

/-- The cotangent as a matrix. -/
def cotF (y : FVec Ideal S4096x1024 .f32) (g : FVec Ideal S1x1024 .f32) (t : FVec Ideal S4096x1024 .f32) : FVec Ideal S4096x1024 .f32 :=
  fun i => Cert.FfnLossIdeal.Hand.cotRow (Cert.FfnLossIdeal.Hand.rwF y (i 0)) (Cert.FfnLossIdeal.Hand.rw1 g) (Cert.FfnLossIdeal.Hand.rwF t (i 0)) (i 1)

theorem cotF_eq (x0 : FVec Ideal S4096x2816 .bf16) (x1 : FVec Ideal S2816x1024 .f32) (x2 : FVec Ideal S4096x1024 .f32) (x3 : FVec Ideal S1x1024 .f32) (x4 : FVec Ideal S4096x1024 .f32) :
    Read.val_main_v36 (F := Ideal) x0 x1 x2 x3 x4 = cotF (Cert.FfnLossIdeal.Hand.resF x0 x1 x2) x3 x4 := by
  funext i
  have hi : i = ix2 (i 0) (i 1) := funext fun a => match a with
    | ⟨0, _⟩ => rfl
    | ⟨1, _⟩ => rfl
  rw [hi]
  exact cot_eq x0 x1 x2 x3 x4 (i 0) (i 1)

theorem ref_dx (x0 : FVec Ideal S4096x2816 .bf16) (x1 : FVec Ideal S2816x1024 .f32) (x2 : FVec Ideal S4096x1024 .f32) (x3 : FVec Ideal S1x1024 .f32) (x4 : FVec Ideal S4096x1024 .f32) (h0 : ∀ i, IsReal (x0 i)) (h1 : ∀ i, IsReal (x1 i)) (h2 : ∀ i, IsReal (x2 i)) (h3 : ∀ i, IsReal (x3 i)) (h4 : ∀ i, IsReal (x4 i)) (i : S4096x1024.Idx) :
    Read.val_main_v56 (F := Ideal) x0 x1 x2 x3 x4 i = Cert.FfnLossIdeal.Hand.dxTotal (Cert.FfnLossIdeal.Hand.resF x0 x1 x2) x3 x4 i := by
  have hy := isReal_res x0 x1 x2 h0 h1 h2
  have hc := funext (res_eq x0 x1 x2)
  have ht := cotF_eq x0 x1 x2 x3 x4
  generalize Cert.FfnLossIdeal.Hand.resF x0 x1 x2 = y at *
  unfold Cert.FfnLossIdeal.Hand.dxTotal Cert.FfnLossIdeal.Hand.dxRow
  have ha : ∀ l, IsReal (Cert.FfnLossIdeal.Hand.cotRow (Cert.FfnLossIdeal.Hand.rwF y (i 0)) (Cert.FfnLossIdeal.Hand.rw1 x3) (Cert.FfnLossIdeal.Hand.rwF x4 (i 0)) l) := fun l => by
    unfold Cert.FfnLossIdeal.Hand.cotRow Cert.FfnLossIdeal.Hand.invW
    refine (isReal_err _ _ _ (fun k => hy _) (fun k => h3 _) (fun k => h4 _) l).mul ?_
    rw [ofBits_inv_width]
    exact isReal_coe _
  have hq : ∀ l, Cert.FfnLossIdeal.Hand.cotRow (Cert.FfnLossIdeal.Hand.rwF y (i 0)) (Cert.FfnLossIdeal.Hand.rw1 x3) (Cert.FfnLossIdeal.Hand.rwF x4 (i 0)) l = cotF y x3 x4 (ix2 (i 0) l) := fun l => rfl
  have hf := funext hq
  generalize Cert.FfnLossIdeal.Hand.cotRow (Cert.FfnLossIdeal.Hand.rwF y (i 0)) (Cert.FfnLossIdeal.Hand.rw1 x3) (Cert.FfnLossIdeal.Hand.rwF x4 (i 0)) = q at *
  generalize cotF y x3 x4 = a at *
  obtain ⟨e, he, hE⟩ := ofBits_eps
  unfold Cert.FfnLossIdeal.Hand.width Cert.FfnLossIdeal.Hand.tiny
  have hn := norm_row 1024 e (by norm_num) he q (Cert.FfnLossIdeal.Hand.rwF y (i 0)) (Cert.FfnLossIdeal.Hand.rw1 x3) 0 ha (fun k => hy _) (fun k => h3 _) (i 1)
  rw [← ofBits_neg_half, ← ofBits_1024, ← hE, zero_add] at hn
  refine Eq.trans ?_ hn.symm
  rw [hf]
  unfold Read.val_main_v56 Read.val_main_v55 Read.val_main_v54 Read.val_main_v53 Read.val_main_v52 Read.val_main_v51 Read.val_main_v50 Read.val_main_v49 Read.val_main_v48 Read.val_main_v47 Read.val_main_v46 Read.val_main_v45 Read.val_main_v44 Read.val_main_v43 Read.val_main_v41 Read.val_main_v40 Read.val_main_v19 Read.val_main_v16 Read.val_main_v15 Read.val_main_v14 Read.val_main_v13 Read.val_main_v12 Read.val_main_v11 Read.val_main_v10 Read.val_main_v9 Read.val_main_v8 Read.val_main_v7 Read.val_main_v6 Read.val_main_v2 Read.val_main_cst_16 Read.val_main_cst_15 Read.val_main_cst_2 Read.val_main_cst_1 Read.val_main_cst_0 Read.val_main_cst_3 Read.val_main_cst_14
  rw [hc, ht]
  unfold Cert.FfnLossIdeal.Hand.rwF Cert.FfnLossIdeal.Hand.rw1 meanSqGrad meanSq
  pointwise
  simp only [Fin.sum_univ_one]

theorem ref_dxb (x0 : FVec Ideal S4096x2816 .bf16) (x1 : FVec Ideal S2816x1024 .f32) (x2 : FVec Ideal S4096x1024 .f32) (x3 : FVec Ideal S1x1024 .f32) (x4 : FVec Ideal S4096x1024 .f32) (h0 : ∀ i, IsReal (x0 i)) (h1 : ∀ i, IsReal (x1 i)) (h2 : ∀ i, IsReal (x2 i)) (h3 : ∀ i, IsReal (x3 i)) (h4 : ∀ i, IsReal (x4 i)) (i : S4096x1024.Idx) :
    Read.val_main_v59 (F := Ideal) x0 x1 x2 x3 x4 i = Cert.FfnLossIdeal.Hand.dxTotalB (Cert.FfnLossIdeal.Hand.resF x0 x1 x2) x3 x4 i := by
  have h := ref_dx x0 x1 x2 x3 x4 h0 h1 h2 h3 h4 i
  unfold Cert.FfnLossIdeal.Hand.dxTotalB Cert.FfnLossIdeal.Hand.half
  rw [← h]
  unfold Read.val_main_v59 Read.val_main_v58 Read.val_main_v57 Read.val_main_cst_17
  generalize Read.val_main_v56 (F := Ideal) x0 x1 x2 x3 x4 = z
  pointwise

theorem ref_dg (x0 : FVec Ideal S4096x2816 .bf16) (x1 : FVec Ideal S2816x1024 .f32) (x2 : FVec Ideal S4096x1024 .f32) (x3 : FVec Ideal S1x1024 .f32) (x4 : FVec Ideal S4096x1024 .f32) (i : S1x1024.Idx) :
    Read.val_main_v60 (F := Ideal) x0 x1 x2 x3 x4 i = Cert.FfnLossIdeal.Hand.gTotal (Cert.FfnLossIdeal.Hand.resF x0 x1 x2) x3 x4 i := by
  have hc := funext (res_eq x0 x1 x2)
  have ht := cotF_eq x0 x1 x2 x3 x4
  generalize Cert.FfnLossIdeal.Hand.resF x0 x1 x2 = y at *
  have hq : ∀ R, Cert.FfnLossIdeal.Hand.dgRow (Cert.FfnLossIdeal.Hand.rwF y R) (Cert.FfnLossIdeal.Hand.rw1 x3) (Cert.FfnLossIdeal.Hand.rwF x4 R) (i 1)
      = cotF y x3 x4 (ix2 R (i 1)) * (Cert.FfnLossIdeal.Hand.rwF y R (i 1) * Ideal.rsqrt (meanSq Cert.FfnLossIdeal.Hand.width Cert.FfnLossIdeal.Hand.tiny (Cert.FfnLossIdeal.Hand.rwF y R))) := fun R => rfl
  unfold Cert.FfnLossIdeal.Hand.gTotal
  rw [Finset.sum_congr rfl fun R _ => hq R]
  generalize cotF y x3 x4 = a at *
  unfold Read.val_main_v60 Read.val_main_v42 Read.val_main_v39 Read.val_main_v38 Read.val_main_v37 Read.val_main_v18 Read.val_main_v17 Read.val_main_v13 Read.val_main_v12 Read.val_main_v11 Read.val_main_v10 Read.val_main_v9 Read.val_main_v8 Read.val_main_v7 Read.val_main_v6 Read.val_main_cst_13 Read.val_main_cst_12 Read.val_main_cst_2 Read.val_main_cst_1 Read.val_main_cst_0
  rw [hc, ht]
  unfold Cert.FfnLossIdeal.Hand.rwF Cert.FfnLossIdeal.Hand.width Cert.FfnLossIdeal.Hand.tiny meanSq
  pointwise
  refine (Fin.sum_univ_one _).trans ?_
  exact Finset.sum_congr rfl fun k _ => mul_comm (G := EReal) _ _

theorem tiles_coe (q : Fin 8 → Fin 512 → ℝ) (c : ℝ) :
    (∑ s : Fin 8, (∑ r : Fin 512, (q s r : EReal)) * (c : EReal)) = ((∑ s : Fin 8, (∑ r : Fin 512, q s r) * c : ℝ) : EReal) := by
  rw [← coe_sum]
  exact Finset.sum_congr rfl fun s _ => by rw [coe_sum, EReal.coe_mul]

/-- The loss over all rows, against the sum of the tiles' shares. -/
theorem loss_alg (f : Fin 4096 → EReal) (hf : ∀ R, IsReal (f R)) :
    Cert.FfnLossIdeal.Hand.half * ∑ R, Ideal.div (f R) Cert.FfnLossIdeal.Hand.width
      = ∑ s : Fin 8, (∑ r : Fin 512, f ⟨s.val * 512 + r.val, by omega⟩) * Cert.FfnLossIdeal.Hand.halfInvW := by
  unfold Cert.FfnLossIdeal.Hand.half Cert.FfnLossIdeal.Hand.width Cert.FfnLossIdeal.Hand.halfInvW
  rw [ofBits_half, ofBits_1024, ofBits_half_inv_width]
  choose f' hf using hf
  simp only [hf]
  rw [Finset.sum_congr rfl fun R _ => div_real (f' R) 1024 (by norm_num)]
  rw [coe_sum, ← EReal.coe_mul]
  rw [tiles_coe (fun (s : Fin 8) (r : Fin 512) => f' ⟨s.val * 512 + r.val, by omega⟩) (1 / 2048)]
  congr 1
  rw [← Finset.sum_div, Fin.sum_univ_tiles 8 512 (by norm_num) f', ← Finset.sum_mul]
  generalize (∑ s : Fin 8, ∑ r : Fin 512, f' ⟨s.val * 512 + r.val, by omega⟩) = z
  ring

theorem ref_loss (x0 : FVec Ideal S4096x2816 .bf16) (x1 : FVec Ideal S2816x1024 .f32) (x2 : FVec Ideal S4096x1024 .f32) (x3 : FVec Ideal S1x1024 .f32) (x4 : FVec Ideal S4096x1024 .f32) (h0 : ∀ i, IsReal (x0 i)) (h1 : ∀ i, IsReal (x1 i)) (h2 : ∀ i, IsReal (x2 i)) (h3 : ∀ i, IsReal (x3 i)) (h4 : ∀ i, IsReal (x4 i)) (i : S1x1024.Idx) :
    Read.val_main_v61 (F := Ideal) x0 x1 x2 x3 x4 i = Cert.FfnLossIdeal.Hand.lossTotal (Cert.FfnLossIdeal.Hand.resF x0 x1 x2) x3 x4 i := by
  have hy := isReal_res x0 x1 x2 h0 h1 h2
  have he := err_eq x0 x1 x2 x3 x4
  generalize Cert.FfnLossIdeal.Hand.resF x0 x1 x2 = y at *
  have hq : ∀ R, Cert.FfnLossIdeal.Hand.sqRow (Cert.FfnLossIdeal.Hand.rwF y R) (Cert.FfnLossIdeal.Hand.rw1 x3) (Cert.FfnLossIdeal.Hand.rwF x4 R)
      = ∑ l, Read.val_main_v22 (F := Ideal) x0 x1 x2 x3 x4 (ix2 R l) * Read.val_main_v22 (F := Ideal) x0 x1 x2 x3 x4 (ix2 R l) := fun R => by
    unfold Cert.FfnLossIdeal.Hand.sqRow
    exact Finset.sum_congr rfl fun l _ => by rw [he R l]
  unfold Cert.FfnLossIdeal.Hand.lossTotal
  refine Eq.trans ?_ (loss_alg (fun R => Cert.FfnLossIdeal.Hand.sqRow (Cert.FfnLossIdeal.Hand.rwF y R) (Cert.FfnLossIdeal.Hand.rw1 x3) (Cert.FfnLossIdeal.Hand.rwF x4 R))
    fun R => isReal_sq _ _ _ (fun k => hy _) (fun k => h3 _) (fun k => h4 _))
  simp only [hq]
  unfold Read.val_main_v61 Read.val_main_v30 Read.val_main_v29 Read.val_main_v28 Read.val_main_v27 Read.val_main_v26 Read.val_main_v23 Read.val_main_cst_7 Read.val_main_cst_6 Read.val_main_cst_5 Read.val_main_cst_8
  generalize Read.val_main_v22 (F := Ideal) x0 x1 x2 x3 x4 = z
  unfold Cert.FfnLossIdeal.Hand.half Cert.FfnLossIdeal.Hand.width
  pointwise

end Cert.FfnLossRefIdeal.Hand

namespace Cert.Claims

open Idealize.ShloMosaic Idealize.ShloMosaic.TcCoe Idealize.SL.Sem Cert.Finite

/-- What the precondition says of the arguments. -/
theorem finite_loss_read (x0 : FVec Ideal Cert.Pre_finite_loss.S4096x2816 .bf16) (x1 : FVec Ideal Cert.Pre_finite_loss.S2816x1024 .f32) (x2 : FVec Ideal Cert.Pre_finite_loss.S4096x1024 .f32) (x3 : FVec Ideal Cert.Pre_finite_loss.S1x1024 .f32) (x4 : FVec Ideal Cert.Pre_finite_loss.S4096x1024 .f32) [Cert.Pre_finite_loss.Facts]
    (h : Cert.Pre_finite_loss.fn (F := Ideal) x0 x1 x2 x3 x4 = fun _ => 1#1) :
    (∀ i, IsReal (x0 i)) ∧ (∀ i, IsReal (x1 i)) ∧ (∀ i, IsReal (x2 i)) ∧ (∀ i, IsReal (x3 i)) ∧ (∀ i, IsReal (x4 i)) := by
  have h' := congrFun h (fun a => a.elim0)
  unfold Cert.Pre_finite_loss.fn Cert.Pre_finite_loss.fn_part1 at h'

  obtain ⟨r4, q4⟩ := IntOp.andi_eq_one.1 h'
  obtain ⟨r3, q3⟩ := IntOp.andi_eq_one.1 r4
  obtain ⟨r2, q2⟩ := IntOp.andi_eq_one.1 r3
  obtain ⟨r1, q1⟩ := IntOp.andi_eq_one.1 r2
  haveI : Subsingleton Cert.Pre_finite_loss.S_.Idx := ⟨fun a b => funext fun x => x.elim0⟩
  exact ⟨isReal_of_all (extf .f32 x0 _) _ _ _ _ _ r1, isReal_of_all x1 _ _ _ _ _ q1, isReal_of_all x2 _ _ _ _ _ q2, isReal_of_all x3 _ _ _ _ _ q3, isReal_of_all x4 _ _ _ _ _ q4⟩

theorem ffn_loss [hP : Cert.Pre_finite_loss.Facts] :
    Cert.algebraic_FfnLossIdeal_FfnLossRefIdeal_pre_finite_loss (hFfnLossIdeal := Cert.FfnLossIdeal.Gen.facts)
      (hFfnLossRefIdeal := Cert.FfnLossRefIdeal.Gen.facts) (hPre_finite_loss := hP) := by
  intro m g m' g' hpre hargs
  refine ⟨fun c => (Cert.FfnLossIdeal.Hand.dxTotal (Cert.FfnLossIdeal.Hand.resF' m c) (Cert.FfnLossIdeal.Hand.a3 m c) (Cert.FfnLossIdeal.Hand.a4 m c) : Vec Ideal Cert.FfnLossIdeal.S4096x1024 .f32),
    fun c => (Cert.FfnLossIdeal.Hand.dxTotalB (Cert.FfnLossIdeal.Hand.resF' m c) (Cert.FfnLossIdeal.Hand.a3 m c) (Cert.FfnLossIdeal.Hand.a4 m c) : Vec Ideal Cert.FfnLossIdeal.S4096x1024 .bf16),
    fun c => (Cert.FfnLossIdeal.Hand.gTotal (Cert.FfnLossIdeal.Hand.resF' m c) (Cert.FfnLossIdeal.Hand.a3 m c) (Cert.FfnLossIdeal.Hand.a4 m c) : Vec Ideal Cert.FfnLossIdeal.S1x1024 .f32),
    fun c => (Cert.FfnLossIdeal.Hand.lossTotal (Cert.FfnLossIdeal.Hand.resF' m c) (Cert.FfnLossIdeal.Hand.a3 m c) (Cert.FfnLossIdeal.Hand.a4 m c) : Vec Ideal Cert.FfnLossIdeal.S1x1024 .f32),
    (θ_run Cert.FfnLossIdeal.defs _ _).mono (fun r h c => ?_) (Cert.FfnLossIdeal.Value.run_blocks (F := Ideal) m g),
    (θ_run Cert.FfnLossRefIdeal.defs _ _).mono (fun r h c => ?_) (Cert.FfnLossRefIdeal.Value.run (F := Ideal) m' g')⟩
  · exact ⟨(h c).1.trans (Cert.FfnLossIdeal.Hand.final5 m c), (h c).2.1.trans (Cert.FfnLossIdeal.Hand.final6 m c), (h c).2.2.1.trans (Cert.FfnLossIdeal.Hand.final7 m c), (h c).2.2.2.1.trans (Cert.FfnLossIdeal.Hand.final8 m c), (h c).2.2.2.2⟩
  · obtain ⟨h0, h1, h2, h3, h4⟩ := finite_loss_read _ _ _ _ _ (hpre c)
    obtain ⟨e0, e1, e2, e3, e4⟩ := hargs c
    refine ⟨(h c).1.trans ?_, (h c).2.1.trans ?_, (h c).2.2.1.trans ?_, (h c).2.2.2.1.trans ?_, (h c).2.2.2.2⟩
    · rw [Cert.FfnLossRefIdeal.Read.val_main_v56_eq, e0, e1, e2, e3, e4]
      exact funext fun i => Cert.FfnLossRefIdeal.Hand.ref_dx _ _ _ _ _ h0 h1 h2 h3 h4 i
    · rw [Cert.FfnLossRefIdeal.Read.val_main_v59_eq, e0, e1, e2, e3, e4]
      exact funext fun i => Cert.FfnLossRefIdeal.Hand.ref_dxb _ _ _ _ _ h0 h1 h2 h3 h4 i
    · rw [Cert.FfnLossRefIdeal.Read.val_main_v60_eq, e0, e1, e2, e3, e4]
      exact funext fun i => Cert.FfnLossRefIdeal.Hand.ref_dg _ _ _ _ _ i
    · rw [Cert.FfnLossRefIdeal.Read.val_main_v61_eq, e0, e1, e2, e3, e4]
      exact funext fun i => Cert.FfnLossRefIdeal.Hand.ref_loss _ _ _ _ _ h0 h1 h2 h3 h4 i

end Cert.Claims

end
-- ==== Proof.MixInValue.lean ====
/-
  A weight's gradient: what the kernel's result array holds, entry by entry — the sum over all rows, which
  the kernel takes in 2 tiles of 2048 rows — and that the reference's holds the same.
-/
module

public import proofs.«01_k».proof.Defs
public import proofs.«01_k».proof.Proof.Finite
public import proofs.«01_k».proof.Proof.Gen.MixInIdeal.Value
public import proofs.«01_k».proof.Proof.Gen.MixInRefIdeal.Run
public import proofs.«01_k».proof.Proof.Gen.MixInRefIdeal.Read
public import Idealize.ShloMosaic.Lib.Pointwise
public import Idealize.ShloMosaic.Lib.Tactic

@[expose] public section

noncomputable section

namespace Cert.MixInIdeal.Hand

open Cert.MixInIdeal Cert.MixInIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of one tile of rows: `xᵀ y`. -/
def tile (x : Vec Ideal S2048x640 .bf16) (y : Vec Ideal S2048x1024 .bf16) : Vec Ideal S640x1024 .f32 :=
  fun j => (∑ k : Fin 2048, (x (ix2 k (j 0)) : EReal) * y (ix2 k (j 1)) : EReal)

/-- The running sum with one more tile. -/
def plus (s p : Vec Ideal S640x1024 .f32) : Vec Ideal S640x1024 .f32 := fun j => (s j + p j : EReal)

/-- The first tile of a column block starts the sum. -/
theorem scratch_A (c : Dev nD) (i : grid0.Coords) (a3 : Memref sig .tc .vmem S2048x640 .bf16) (h3 : a3.IsWhole)
    (a4 : Memref sig .tc .vmem S2048x1024 .bf16) (h4 : a4.IsWhole) (a5 : Memref sig .tc .vmem S640x1024 .bf16) (h5 : a5.IsWhole)
    (a6 : Memref sig .tc .vmem S640x1024 .f32) (h6 : a6.IsWhole) (hc0 : cond0_0 i) (hc1 : ¬cond0_1 i)
    (x : Vec Ideal S2048x640 .bf16) (y : Vec Ideal S2048x1024 .bf16) :
    sout0_A_0 (F := Ideal) c i a3 h3 a4 h4 a5 h5 a6 h6 hc0 hc1 x y = tile x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S640x1024) hz, View.readCov_unit_zero (S := S640x1024) _ hz]
  simp only [View.readAt_eq_ld, h3.read_unread, h4.read_unread, View.ld_unit_zero (S := S2048x640) hz, View.ld_unit_zero (S := S2048x1024) hz]
  funext j
  unfold_payloads
  unfold tile
  pointwise

/-- The last tile adds to it and the sum is the result's block. -/
theorem result_B (c : Dev nD) (i : grid0.Coords) (a3 : Memref sig .tc .vmem S2048x640 .bf16) (h3 : a3.IsWhole)
    (a4 : Memref sig .tc .vmem S2048x1024 .bf16) (h4 : a4.IsWhole) (a5 : Memref sig .tc .vmem S640x1024 .bf16) (h5 : a5.IsWhole)
    (a6 : Memref sig .tc .vmem S640x1024 .f32) (h6 : a6.IsWhole) (hc0 : ¬cond0_0 i) (hc1 : cond0_1 i)
    (x : Vec Ideal S2048x640 .bf16) (y : Vec Ideal S2048x1024 .bf16) (s : Vec Ideal S640x1024 .f32) :
    out0_B_2 (F := Ideal) c i a3 h3 a4 h4 a5 h5 a6 h6 hc0 hc1 x y s = plus s (tile x y) := by
  unfold out0_B_2
  rw [View.read_writes_eq_canon _ _ _ (cover0_B_2 c i a3 h3 a4 h4 a5 h5 a6 h6 hc0 hc1 x y s)]
  unfold kernelRun0_B
  dsimp only
  sl_unfold_words
  rw [View.canon_unit_zero (S := S640x1024) hz, View.readCov_unit_zero (S := S640x1024) _ hz]
  simp only [View.readAt_eq_ld, h3.read_unread, h4.read_unread, h6.read_unread, View.ld_unit_zero (S := S2048x640) hz, View.ld_unit_zero (S := S2048x1024) hz, View.ld_unit_zero (S := S640x1024) hz]
  funext j
  unfold_payloads
  unfold plus tile
  pointwise

/-- The tile's product at a grid point. -/
abbrev tileAt (c : Dev nD) (t : Fin cfg0.N) : Vec Ideal S640x1024 .f32 := tile (iblk m c 0 t) (iblk m c 1 t)

/-- The point before. -/
abbrev prev (t : Fin cfg0.N) : Fin cfg0.N := ⟨t.val - 1, Nat.lt_of_le_of_lt (Nat.sub_le _ _) t.isLt⟩

theorem acc0 (c : Dev nD) (t : Fin cfg0.N) (h : t.val % 2 = 0) : (outsAt0 m c t.val t.isLt).2 = tileAt m c t := by
  have h1 : ¬t.val % 2 = 1 := by omega
  rw [outsAt0_A m c t h h1]
  dsimp only
  rw [scratch_A]

theorem res (c : Dev nD) (t : Fin cfg0.N) (h : t.val % 2 = 1) :
    (outsAt0 m c t.val t.isLt).1 = plus (tileAt m c (prev t)) (tileAt m c t) := by
  have h0 : ¬t.val % 2 = 0 := by omega
  rw [outsAt0_B m c t h0 h]
  dsimp only
  rw [result_B]
  have e : (outsAt0 m c (t.val - 1) (Nat.lt_of_le_of_lt (Nat.sub_le _ _) t.isLt)).2 = _ := acc0 m c (prev t) (by show (t.val - 1) % 2 = 0; omega)
  rw [e]

theorem idx : ∀ t : Fin cfg0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0) :=
  (by decide +kernel : ∀ t : Fin grid0.N, (win0_0.index t 0 = t.val % 2 ∧ win0_0.index t 1 = t.val / 2)
    ∧ (win0_1.index t 0 = t.val % 2 ∧ win0_1.index t 1 = 0) ∧ (win0_2.index t 0 = t.val / 2 ∧ win0_2.index t 1 = 0))

/-! The two arguments. -/
abbrev aX (c : Dev nD) : FVec Ideal S4096x3200 .bf16 := m ((c : Thread nD τ).loc main_arg0)
abbrev aY (c : Dev nD) : FVec Ideal S4096x1024 .bf16 := m ((c : Thread nD τ).loc main_arg1)

/-- Row `k` of row tile `s`. -/
def row (s : Nat) (hs : s < 2) (k : Fin 2048) : Fin 4096 := ⟨s * 2048 + k.val, by have := k.isLt; omega⟩

/-- Column `l` of column block `t / 2`. -/
def col (t : Fin cfg0.N) (l : Fin 640) : Fin 3200 :=
  ⟨640 * (t.val / 2) + l.val, by have h := t.isLt; have h' : cfg0.N = 10 := N_0; have := l.isLt; omega⟩

theorem blk0 (c : Dev nD) (t : Fin cfg0.N) (s : Nat) (hs : s < 2) (h : t.val % 2 = s) (k : Fin 2048) (l : Fin 640) :
    (iblk m c 0 t : FVec Ideal S2048x640 .bf16) (ix2 k l) = aX m c (ix2 (row s hs k) (col t l)) := by
  unfold iblk
  rw [View.read_apply]
  show V m c main_arg0 _ = _
  unfold V
  refine congrArg (aX m c) ?_
  funext a
  apply Fin.ext
  match a with
  | ⟨0, _⟩ => show win0_0.index t 0 * 2048 + 1 * k.val = s * 2048 + k.val; rw [(idx t).1.1]; omega
  | ⟨1, _⟩ => show win0_0.index t 1 * 640 + 1 * l.val = 640 * (t.val / 2) + l.val; rw [(idx t).1.2]; omega

theorem blk1 (c : Dev nD) (t : Fin cfg0.N) (s : Nat) (hs : s < 2) (h : t.val % 2 = s) (k : Fin 2048) (l : Fin 1024) :
    (iblk m c 1 t : FVec Ideal S2048x1024 .bf16) (ix2 k l) = aY m c (ix2 (row s hs k) l) := by
  unfold iblk
  rw [View.read_apply]
  show V m c main_arg1 _ = _
  unfold V
  refine congrArg (aY m c) ?_
  funext a
  apply Fin.ext
  match a with
  | ⟨0, _⟩ => show win0_1.index t 0 * 2048 + 1 * k.val = s * 2048 + k.val; rw [(idx t).2.1.1]; omega
  | ⟨1, _⟩ => show win0_1.index t 1 * 1024 + 1 * l.val = l.val; rw [(idx t).2.1.2]; omega

theorem tileAt_eq (c : Dev nD) (t : Fin cfg0.N) (s : Nat) (hs : s < 2) (h : t.val % 2 = s) (i : Fin 640) (l : Fin 1024) :
    (tileAt m c t (ix2 i l) : EReal) = ∑ k : Fin 2048, (aX m c (ix2 (row s hs k) (col t i)) : EReal) * aY m c (ix2 (row s hs k) l) := by
  unfold tileAt tile
  refine Finset.sum_congr rfl fun k _ => ?_
  exact congrArg₂ (· * ·) (blk0 m c t s hs h k i) (blk1 m c t s hs h k l)

/-- The whole product `xᵀ y`, as one sum over the rows. -/
def total (x : FVec Ideal S4096x3200 .bf16) (y : FVec Ideal S4096x1024 .bf16) : Vec Ideal S3200x1024 .bf16 :=
  fun i => (∑ k : Fin 4096, (x (ix2 k (i 0)) : EReal) * y (ix2 k (i 1)) : EReal)

theorem col_prev (t : Fin cfg0.N) (h : t.val % 2 ≠ 0) (l : Fin 640) : col (prev t) l = col t l := by
  apply Fin.ext
  show 640 * ((t.val - 1) / 2) + l.val = 640 * (t.val / 2) + l.val
  have : (t.val - 1) / 2 = t.val / 2 := by omega
  rw [this]

theorem res_total (c : Dev nD) (t : Fin cfg0.N) (h : t.val % 2 = 1) (i : Fin 640) (l : Fin 1024) :
    (outsAt0 m c t.val t.isLt).1 (ix2 i l) = total (aX m c) (aY m c) (ix2 (col t i) l) := by
  rw [res m c t h]
  have m0 : (prev t).val % 2 = 0 := by show (t.val - 1) % 2 = 0; omega
  have m1 : t.val % 2 = 1 := by exact h
  have c1 : col t i = col t i := rfl
  have c0 : col (prev t) i = col t i := (col_prev t (by rw [m1]; decide) i)
  show (tileAt m c (prev t) (ix2 i l) + tileAt m c t (ix2 i l) : EReal) = ∑ k : Fin 4096, (aX m c (ix2 k (col t i)) : EReal) * aY m c (ix2 k l)
  rw [tileAt_eq m c (prev t) 0 (by decide) m0, tileAt_eq m c t 1 (by decide) m1]
  rw [c0]
  rw [Fin.sum_univ_tiles (N := 4096) 2 2048 (by decide), Fin.sum_univ_two]
  rfl

theorem flushed_eq (c : Dev nD) (t : Fin cfg0.N) (hf : (cfg0.win 2).flush t = true) :
    (dats m 0 c).flushed 2 t = ((cfg0.win 2).blk t).view.read (Elt Ideal) (total (aX m c) (aY m c)) := by
  have h : t.val % 2 = 1 := (flush0_2 t).mp hf
  rw [Value.flushed2]
  funext y
  rw [View.read_apply]
  have hi : ((cfg0.win 2).blk t).view.emb y = (ix2 (col t (y 0)) (y 1) : S3200x1024.Idx) := by
    funext a
    apply Fin.ext
    match a with
    | ⟨0, _⟩ => show win0_2.index t 0 * 640 + 1 * (y 0).val = 640 * (t.val / 2) + (y 0).val; rw [(idx t).2.2.1]; omega
    | ⟨1, _⟩ => show win0_2.index t 1 * 1024 + 1 * (y 1).val = (y 1).val; rw [(idx t).2.2.2]; omega
  have hy : (cfg0.win 2).xinj (grid0.coords t) y = (ix2 (y 0) (y 1) : S640x1024.Idx) := by
    funext a
    match a with
    | ⟨0, _⟩ => rfl
    | ⟨1, _⟩ => rfl
  refine Eq.trans ?_ (congrArg (total (aX m c) (aY m c)) hi.symm)
  refine Eq.trans (congrArg (outsAt0 m c t.val t.isLt).1 hy) ?_
  exact res_total m c t h (y 0) (y 1)

theorem final (c : Dev nD) : (dats m 0 c).arrAt 2 cfg0.N = (total (aX m c) (aY m c) : Vec Ideal S3200x1024 .bf16) :=
  (dats m 0 c).arrAt_eq_of_cover 2 _ (flushed_eq m c) fun i => (Value.covered_iff2 i).2 (by
    have h0 : (i 0).val < 3200 := (i 0).isLt; have h1 : (i 1).val < 1024 := (i 1).isLt; omega)

end Cert.MixInIdeal.Hand

namespace Cert.MixInRefIdeal.Hand

open Cert.MixInRefIdeal Cert.MixInRefIdeal.Gen Idealize.ShloMosaic Idealize.ShloMosaic.TcCoe Idealize.SL.Sem

/-- The reference's gradient at an entry. -/
theorem ref_eq (x : FVec Ideal S4096x3200 .bf16) (y : FVec Ideal S4096x1024 .bf16) (i : S3200x1024.Idx) :
    Read.val_main_v7 (F := Ideal) x y i = ∑ k : Fin 4096, (x (ix2 k (i 0)) : EReal) * y (ix2 k (i 1)) := by
  rw [← Read.val_main_v7_eq]
  pointwise

end Cert.MixInRefIdeal.Hand

namespace Cert.Claims

open Idealize.ShloMosaic Idealize.ShloMosaic.TcCoe Idealize.SL.Sem

theorem mix_in :
    Cert.algebraic_MixInIdeal_MixInRefIdeal (hMixInIdeal := Cert.MixInIdeal.Gen.facts)
      (hMixInRefIdeal := Cert.MixInRefIdeal.Gen.facts) := by
  intro m g m' g' hpre hargs
  refine ⟨fun c => (Cert.MixInIdeal.Hand.total (Cert.MixInIdeal.Hand.aX m c) (Cert.MixInIdeal.Hand.aY m c) : Vec Ideal Cert.MixInIdeal.S3200x1024 .bf16),
    (θ_run Cert.MixInIdeal.defs _ _).mono (fun r h c => ?_) (Cert.MixInIdeal.Value.run_blocks (F := Ideal) m g),
    (θ_run Cert.MixInRefIdeal.defs _ _).mono (fun r h c => ?_) (Cert.MixInRefIdeal.Value.run (F := Ideal) m' g')⟩
  · exact ⟨(h c).1.trans (Cert.MixInIdeal.Hand.final m c), (h c).2⟩
  · obtain ⟨e0, e1⟩ := hargs c
    refine ⟨(h c).1.trans ?_, (h c).2⟩
    rw [Cert.MixInRefIdeal.Read.val_main_v7_eq, e0, e1]
    exact funext fun i => Cert.MixInRefIdeal.Hand.ref_eq _ _ i

end Cert.Claims

end
-- ==== Proof.MixNormValue.lean ====
/-
  The gradient of the normalisation before the mixer: what the kernel's three result arrays hold, entry by entry, and that
  the reference's hold the same.
-/
module

public import proofs.«01_k».proof.Defs
public import proofs.«01_k».proof.Proof.NormRow
public import proofs.«01_k».proof.Proof.Gen.MixNormIdeal.Value
public import proofs.«01_k».proof.Proof.Gen.MixNormRefIdeal.Run
public import proofs.«01_k».proof.Proof.Gen.MixNormRefIdeal.Read
public import Idealize.ShloMosaic.Lib.Pointwise
public import Idealize.ShloMosaic.Lib.Tactic

@[expose] public section

noncomputable section

namespace Cert.MixNormIdeal.Hand

open Cert.MixNormIdeal Cert.MixNormIdeal.Gen Idealize.ShloMosaic Idealize.ShloMosaic.TcCoe Idealize.SL.Sem Cert.Finite
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The width of a row, and the small constant, as the program writes them. -/
abbrev width : EReal := Ideal.ofBits .f32 0x44800000#32
abbrev tiny : EReal := Ideal.ofBits .f32 0x358637BD#32

/-- The cotangent of the normalised rows of one tile. -/
def prod (x0 : Vec Ideal S512x3200 .bf16) (x1 : Vec Ideal S1x3200x1024 .bf16) : Vec Ideal S512x1024 .f32 :=
  fun j => ((∑ k : Fin 3200, (x0 (ix2 (j 0) k) : EReal) * x1 (ix3 0 k (j 1))) : EReal)

/-- The gradient of one tile of rows. -/
def dxTile (a x : Vec Ideal S512x1024 .f32) (g : Vec Ideal S1x1024 .f32) (d : Vec Ideal S512x1024 .f32) : Vec Ideal S512x1024 .f32 :=
  fun j => (normGrad width tiny (fun k : Fin 1024 => (a (ix2 (j 0) k) : EReal)) (fun k => x (ix2 (j 0) k)) (fun k => g (ix2 0 k)) (d j) (j 1) : EReal)

/-- The same, rounded for the next product and halved. -/
def dxTileB (a x : Vec Ideal S512x1024 .f32) (g : Vec Ideal S1x1024 .f32) (d : Vec Ideal S512x1024 .f32) : Vec Ideal S512x1024 .bf16 :=
  fun j => (Ideal.ofBits .f32 0x3F000000#32 * dxTile a x g d j : EReal)

/-- What one tile of rows adds to the gradient of the gain. -/
def gTile (a x : Vec Ideal S512x1024 .f32) : Vec Ideal S1x1024 .f32 :=
  fun j => (∑ r : Fin 512, (a (ix2 r (j 1)) : EReal) * (x (ix2 r (j 1)) * Ideal.rsqrt (meanSq width tiny (fun k : Fin 1024 => (x (ix2 r k) : EReal)))) : EReal)

/-- The running sum with one more tile. -/
def plus (s p : Vec Ideal S1x1024 .f32) : Vec Ideal S1x1024 .f32 := fun j => (s j + p j : EReal)

theorem pay_prod (x0 : Vec Ideal S512x3200 .bf16) (x1 : Vec Ideal S1x3200x1024 .bf16) : k0_pay3 (F := Ideal) x0 x1 = prod x0 x1 := by
  funext j
  unfold_payloads
  unfold prod
  pointwise

theorem pay_rsqrt (x : Vec Ideal S512x1024 .f32) (j : S512x1.Idx) :
    k0_pay4 (F := Ideal) x j = Ideal.rsqrt (meanSq width tiny (fun k : Fin 1024 => (x (ix2 (j 0) k) : EReal))) := by
  unfold_payloads
  unfold meanSq
  pointwise

theorem pay_hat (x : Vec Ideal S512x1024 .f32) (j : S512x1024.Idx) :
    k0_pay5 (F := Ideal) x j = x j * Ideal.rsqrt (meanSq width tiny (fun k : Fin 1024 => (x (ix2 (j 0) k) : EReal))) := by
  unfold_payloads
  unfold meanSq
  pointwise

theorem pay_dx (x0 : Vec Ideal S512x3200 .bf16) (x1 : Vec Ideal S1x3200x1024 .bf16) (x : Vec Ideal S512x1024 .f32) (g : Vec Ideal S1x1024 .f32) (d : Vec Ideal S512x1024 .f32) :
    k0_pay1 (F := Ideal) (k0_pay4 x) (k0_pay8 x0 x1 g) (k0_pay9 x0 x1 x g) d = dxTile (prod x0 x1) x g d := by
  unfold k0_pay9 k0_pay8
  rw [pay_prod]
  generalize prod x0 x1 = a
  funext j
  unfold_payloads
  unfold dxTile normGrad meanSq
  pointwise

theorem pay_dxb (x0 : Vec Ideal S512x3200 .bf16) (x1 : Vec Ideal S1x3200x1024 .bf16) (x : Vec Ideal S512x1024 .f32) (g : Vec Ideal S1x1024 .f32) (d : Vec Ideal S512x1024 .f32) :
    k0_pay2 (F := Ideal) (k0_pay4 x) (k0_pay8 x0 x1 g) (k0_pay9 x0 x1 x g) d = dxTileB (prod x0 x1) x g d := by
  unfold k0_pay2
  rw [pay_dx]
  funext j
  unfold dxTileB
  pointwise

theorem pay_dg (x0 : Vec Ideal S512x3200 .bf16) (x1 : Vec Ideal S1x3200x1024 .bf16) (x : Vec Ideal S512x1024 .f32) (s : Vec Ideal S1x1024 .f32) :
    k0_pay7 (F := Ideal) x0 x1 x s = plus s (gTile (prod x0 x1) x) := by
  unfold k0_pay7
  rw [pay_prod]
  funext j
  unfold plus gTile
  generalize prod x0 x1 = a
  unfold_payloads
  unfold meanSq
  pointwise

theorem out_A_5 (c : Dev nD) (i : grid0.Coords) (a1 : Memref sig .tc .vmem S512x3200 .bf16) (h1 : a1.IsWhole) (a2 : Memref sig .tc .vmem S1x3200x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
    (hc0 : cond0_0 i) (x0 : Vec Ideal S512x3200 .bf16) (x1 : Vec Ideal S1x3200x1024 .bf16) (x2 : Vec Ideal S512x1024 .f32) (x3 : Vec Ideal S1x1024 .f32) (x4 : Vec Ideal S512x1024 .f32) :
    out0_A_5 (F := Ideal) c i a1 h1 a2 h2 a3 h3 a4 h4 a5 h5 a6 h6 a7 h7 a8 h8 hc0 x0 x1 x2 x3 x4 = dxTile (prod x0 x1) x2 x3 x4 := by
  unfold out0_A_5
  rw [View.read_writes_eq_canon _ _ _ (cover0_A_5 c i a1 h1 a2 h2 a3 h3 a4 h4 a5 h5 a6 h6 a7 h7 a8 h8 hc0 x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread, h8.read_unread, View.ld_unit_zero (S := S512x3200) hz2, View.ld_unit_zero (S := S1x3200x1024) hz3, View.ld_unit_zero (S := S512x1024) hz2, View.ld_unit_zero (S := S1x1024) hz2]
  rw [pay_dx]

theorem out_A_6 (c : Dev nD) (i : grid0.Coords) (a1 : Memref sig .tc .vmem S512x3200 .bf16) (h1 : a1.IsWhole) (a2 : Memref sig .tc .vmem S1x3200x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
    (hc0 : cond0_0 i) (x0 : Vec Ideal S512x3200 .bf16) (x1 : Vec Ideal S1x3200x1024 .bf16) (x2 : Vec Ideal S512x1024 .f32) (x3 : Vec Ideal S1x1024 .f32) (x4 : Vec Ideal S512x1024 .f32) :
    out0_A_6 (F := Ideal) c i a1 h1 a2 h2 a3 h3 a4 h4 a5 h5 a6 h6 a7 h7 a8 h8 hc0 x0 x1 x2 x3 x4 = dxTileB (prod x0 x1) x2 x3 x4 := by
  unfold out0_A_6
  rw [View.read_writes_eq_canon _ _ _ (cover0_A_6 c i a1 h1 a2 h2 a3 h3 a4 h4 a5 h5 a6 h6 a7 h7 a8 h8 hc0 x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread, h8.read_unread, View.ld_unit_zero (S := S512x3200) hz2, View.ld_unit_zero (S := S1x3200x1024) hz3, View.ld_unit_zero (S := S512x1024) hz2, View.ld_unit_zero (S := S1x1024) hz2]
  rw [pay_dxb]

theorem out_B_5 (c : Dev nD) (i : grid0.Coords) (a1 : Memref sig .tc .vmem S512x3200 .bf16) (h1 : a1.IsWhole) (a2 : Memref sig .tc .vmem S1x3200x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
    (hc0 : ¬cond0_0 i) (x0 : Vec Ideal S512x3200 .bf16) (x1 : Vec Ideal S1x3200x1024 .bf16) (x2 : Vec Ideal S512x1024 .f32) (x3 : Vec Ideal S1x1024 .f32) (x4 : Vec Ideal S512x1024 .f32) (s : Vec Ideal S1x1024 .f32) :
    out0_B_5 (F := Ideal) c i a1 h1 a2 h2 a3 h3 a4 h4 a5 h5 a6 h6 a7 h7 a8 h8 hc0 x0 x1 x2 x3 x4 s = dxTile (prod x0 x1) x2 x3 x4 := by
  unfold out0_B_5
  rw [View.read_writes_eq_canon _ _ _ (cover0_B_5 c i a1 h1 a2 h2 a3 h3 a4 h4 a5 h5 a6 h6 a7 h7 a8 h8 hc0 x0 x1 x2 x3 x4 s)]
  unfold kernelRun0_B
  dsimp only
  sl_unfold_words
  rw [View.canon_unit_zero (S := S512x1024) hz2]
  simp only [View.readAt_eq_ld, h1.read_unread, h2.read_unread, h3.read_unread, h4.read_unread, h5.read_unread, h8.read_unread, View.ld_unit_zero (S := S512x3200) hz2, View.ld_unit_zero (S := S1x3200x1024) hz3, View.ld_unit_zero (S := S512x1024) hz2, View.ld_unit_zero (S := S1x1024) hz2]
  rw [pay_dx]

theorem out_B_6 (c : Dev nD) (i : grid0.Coords) (a1 : Memref sig .tc .vmem S512x3200 .bf16) (h1 : a1.IsWhole) (a2 : Memref sig .tc .vmem S1x3200x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
    (hc0 : ¬cond0_0 i) (x0 : Vec Ideal S512x3200 .bf16) (x1 : Vec Ideal S1x3200x1024 .bf16) (x2 : Vec Ideal S512x1024 .f32) (x3 : Vec Ideal S1x1024 .f32) (x4 : Vec Ideal S512x1024 .f32) (s : Vec Ideal S1x1024 .f32) :
    out0_B_6 (F := Ideal) c i a1 h1 a2 h2 a3 h3 a4 h4 a5 h5 a6 h6 a7 h7 a8 h8 hc0 x0 x1 x2 x3 x4 s = dxTileB (prod x0 x1) x2 x3 x4 := by
  unfold out0_B_6
  rw [View.read_writes_eq_canon _ _ _ (cover0_B_6 c i a1 h1 a2 h2 a3 h3 a4 h4 a5 h5 a6 h6 a7 h7 a8 h8 hc0 x0 x1 x2 x3 x4 s)]
  unfold kernelRun0_B
  dsimp only
  sl_unfold_words
  rw [View.canon_unit_zero (S := S512x1024) hz2]
  simp only [View.readAt_eq_ld, h1.read_unread, h2.read_unread, h3.read_unread, h4.read_unread, h5.read_unread, h8.read_unread, View.ld_unit_zero (S := S512x3200) hz2, View.ld_unit_zero (S := S1x3200x1024) hz3, View.ld_unit_zero (S := S512x1024) hz2, View.ld_unit_zero (S := S1x1024) hz2]
  rw [pay_dxb]

theorem out_A_7 (c : Dev nD) (i : grid0.Coords) (a1 : Memref sig .tc .vmem S512x3200 .bf16) (h1 : a1.IsWhole) (a2 : Memref sig .tc .vmem S1x3200x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
    (hc0 : cond0_0 i) (x0 : Vec Ideal S512x3200 .bf16) (x1 : Vec Ideal S1x3200x1024 .bf16) (x2 : Vec Ideal S512x1024 .f32) (x3 : Vec Ideal S1x1024 .f32) (x4 : Vec Ideal S512x1024 .f32) :
    out0_A_7 (F := Ideal) c i a1 h1 a2 h2 a3 h3 a4 h4 a5 h5 a6 h6 a7 h7 a8 h8 hc0 x0 x1 x2 x3 x4 = plus (k0_pay6 (F := Ideal)) (gTile (prod x0 x1) x2) := by
  unfold out0_A_7
  rw [View.read_writes_eq_canon _ _ _ (cover0_A_7 c i a1 h1 a2 h2 a3 h3 a4 h4 a5 h5 a6 h6 a7 h7 a8 h8 hc0 x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h8.read_unread, View.ld_unit_zero (S := S512x3200) hz2, View.ld_unit_zero (S := S1x3200x1024) hz3, View.ld_unit_zero (S := S512x1024) hz2, View.ld_unit_zero (S := S1x1024) hz2]
  rw [pay_dg]

theorem out_B_7 (c : Dev nD) (i : grid0.Coords) (a1 : Memref sig .tc .vmem S512x3200 .bf16) (h1 : a1.IsWhole) (a2 : Memref sig .tc .vmem S1x3200x1024 .bf16) (h2 : a2.IsWhole) (a3 : Memref sig .tc .vmem S512x1024 .f32) (h3 : a3.IsWhole) (a4 : Memref sig .tc .vmem S1x1024 .f32) (h4 : a4.IsWhole) (a5 : Memref sig .tc .vmem S512x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)
    (hc0 : ¬cond0_0 i) (x0 : Vec Ideal S512x3200 .bf16) (x1 : Vec Ideal S1x3200x1024 .bf16) (x2 : Vec Ideal S512x1024 .f32) (x3 : Vec Ideal S1x1024 .f32) (x4 : Vec Ideal S512x1024 .f32) (s : Vec Ideal S1x1024 .f32) :
    out0_B_7 (F := Ideal) c i a1 h1 a2 h2 a3 h3 a4 h4 a5 h5 a6 h6 a7 h7 a8 h8 hc0 x0 x1 x2 x3 x4 s = plus s (gTile (prod x0 x1) x2) := by
  unfold out0_B_7
  rw [View.read_writes_eq_canon _ _ _ (cover0_B_7 c i a1 h1 a2 h2 a3 h3 a4 h4 a5 h5 a6 h6 a7 h7 a8 h8 hc0 x0 x1 x2 x3 x4 s)]
  unfold kernelRun0_B
  dsimp only
  sl_unfold_words
  rw [View.canon_unit_zero (S := S1x1024) hz2]
  simp only [View.readAt_eq_ld, h1.read_unread, h2.read_unread, h3.read_unread, h4.read_unread, h5.read_unread, h8.read_unread, View.ld_unit_zero (S := S512x3200) hz2, View.ld_unit_zero (S := S1x3200x1024) hz3, View.ld_unit_zero (S := S512x1024) hz2, View.ld_unit_zero (S := S1x1024) hz2]
  rw [pay_dg]

/-- The cotangent of the normalised rows at a grid point. -/
abbrev prodAt (c : Dev nD) (t : Fin cfg0.N) : Vec Ideal S512x1024 .f32 := prod (iblk m c 0 t) (iblk m c 1 t)

theorem at1 (c : Dev nD) (t : Fin cfg0.N) : (outsAt0 m c t.val t.isLt).1 = dxTile (prodAt m c t) (iblk m c 2 t) (iblk m c 3 t) (iblk m c 4 t) := by
  by_cases h : t.val % 8 = 0
  · rw [outsAt0_A m c t h]
    dsimp only
    rw [out_A_5]
  · rw [outsAt0_B m c t h]
    dsimp only
    rw [out_B_5]

theorem at2 (c : Dev nD) (t : Fin cfg0.N) : (outsAt0 m c t.val t.isLt).2.1 = dxTileB (prodAt m c t) (iblk m c 2 t) (iblk m c 3 t) (iblk m c 4 t) := by
  by_cases h : t.val % 8 = 0
  · rw [outsAt0_A m c t h]
    dsimp only
    rw [out_A_6]
  · rw [outsAt0_B m c t h]
    dsimp only
    rw [out_B_6]

/-- The gradient of the gain over the tiles up to a point. -/
def upTo (c : Dev nD) : (n : ℕ) → n < cfg0.N → Vec Ideal S1x1024 .f32
  | 0, h => plus (k0_pay6 (F := Ideal)) (gTile (prodAt m c ⟨0, h⟩) (iblk m c 2 ⟨0, h⟩))
  | n + 1, h => plus (upTo c n (Nat.lt_of_succ_lt h)) (gTile (prodAt m c ⟨n + 1, h⟩) (iblk m c 2 ⟨n + 1, h⟩))

theorem at3 (c : Dev nD) : ∀ (n : ℕ) (h : n < cfg0.N), (outsAt0 m c n h).2.2 = upTo m c n h
  | 0, h => by
    have e := outsAt0_A m c ⟨0, h⟩ rfl
    dsimp only at e
    rw [e]
    dsimp only
    rw [out_A_7]
    rfl
  | n + 1, h => by
    have hN : cfg0.N = 8 := N_0
    have hn : ¬(n + 1) % 8 = 0 := by omega
    have e := outsAt0_B m c ⟨n + 1, h⟩ hn
    dsimp only at e
    rw [e]
    dsimp only
    rw [out_B_7]
    have e' : (outsAt0 m c (n + 1 - 1) (Nat.lt_of_le_of_lt (Nat.sub_le _ _) h)).2.2 = _ := at3 c n (Nat.lt_of_succ_lt h)
    rw [e']
    rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)

/-- Row `r` of the tile at point `t`. -/
def row (t : Fin cfg0.N) (r : Fin 512) : Fin 4096 :=
  ⟨t.val * 512 + r.val, by have h := t.isLt; have h' : cfg0.N = 8 := N_0; have := r.isLt; omega⟩

/-! The arguments. -/
abbrev a0 (c : Dev nD) : FVec Ideal S4096x3200 .bf16 := m ((c : Thread nD τ).loc main_arg0)
abbrev a1 (c : Dev nD) : FVec Ideal S1024x3200 .f32 := m ((c : Thread nD τ).loc main_arg1)
abbrev a2 (c : Dev nD) : FVec Ideal S4096x1024 .f32 := m ((c : Thread nD τ).loc main_arg2)
abbrev a3 (c : Dev nD) : FVec Ideal S1x1024 .f32 := m ((c : Thread nD τ).loc main_arg3)
abbrev a4 (c : Dev nD) : FVec Ideal S4096x1024 .f32 := m ((c : Thread nD τ).loc main_arg4)

theorem blk0 (c : Dev nD) (t : Fin cfg0.N) (r : Fin 512) (k : Fin 3200) :
    (iblk m c 0 t : FVec Ideal S512x3200 .bf16) (ix2 r k) = a0 m c (ix2 (row t r) k) := by
  unfold a0; rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = t.val * 512 + r.val; rw [(idx0 t).1]; omega
  | ⟨1, _⟩ => show win0_0.index t 1 * 3200 + 1 * k.val = k.val; rw [(idx0 t).2]; omega

theorem V_w0 (c : Dev nD) : (V m c main_v2 : FVec Ideal S1x3200x1024 .bf16)
    = truncf .bf16 (broadcastInDim S1x3200x1024 ![1, 2] bcast_S3200x1024_S1x3200x1024_1_2 (transpose S3200x1024 [1, 0] (a1 m c) transposes_S1024x3200_S3200x1024_1_0)) bitsLt_bf16_f32 := by
  show StableHlo.after hostOps0 _ _ = _
  after_results

theorem V_w0_apply (c : Dev nD) (z : Fin 1) (k : Fin 3200) (l : Fin 1024) :
    (V m c main_v2 : FVec Ideal S1x3200x1024 .bf16) (ix3 z k l) = a1 m c (ix2 l k) := by
  rw [V_w0]
  pointwise

theorem blk1 (c : Dev nD) (t : Fin cfg0.N) (k : Fin 3200) (l : Fin 1024) :
    (iblk m c 1 t : FVec Ideal S1x3200x1024 .bf16) (ix3 0 k l) = a1 m c (ix2 l k) := by
  rw [← V_w0_apply m c 0 k l]
  unfold iblk
  rw [View.read_apply]
  show V m c main_v2 _ = V m c main_v2 _
  congr 1
  funext a
  apply Fin.ext
  match a with
  | ⟨0, _⟩ => show win0_1.index t 0 * 1 + 1 * 0 = 0; rw [(idx1 t).1]
  | ⟨1, _⟩ => show win0_1.index t 1 * 3200 + 1 * k.val = k.val; rw [(idx1 t).2.1]; omega
  | ⟨2, _⟩ => show win0_1.index t 2 * 1024 + 1 * l.val = l.val; rw [(idx1 t).2.2]; omega

theorem blk2 (c : Dev nD) (t : Fin cfg0.N) (r : Fin 512) (k : Fin 1024) :
    (iblk m c 2 t : FVec Ideal S512x1024 .f32) (ix2 r k) = a2 m c (ix2 (row t r) k) := by
  unfold a2; rw [← V_main_arg2 m c]
  unfold iblk
  rw [View.read_apply]
  show V m c main_arg2 _ = V m c main_arg2 _
  congr 1
  funext a
  apply Fin.ext
  match a with
  | ⟨0, _⟩ => show win0_2.index t 0 * 512 + 1 * r.val = t.val * 512 + r.val; rw [(idx2 t).1]; omega
  | ⟨1, _⟩ => show win0_2.index t 1 * 1024 + 1 * k.val = k.val; rw [(idx2 t).2]; omega

theorem blk4 (c : Dev nD) (t : Fin cfg0.N) (r : Fin 512) (k : Fin 1024) :
    (iblk m c 4 t : FVec Ideal S512x1024 .f32) (ix2 r k) = a4 m c (ix2 (row t r) k) := by
  unfold a4; rw [← V_main_arg4 m c]
  unfold iblk
  rw [View.read_apply]
  show V m c main_arg4 _ = V m c main_arg4 _
  congr 1
  funext a
  apply Fin.ext
  match a with
  | ⟨0, _⟩ => show win0_4.index t 0 * 512 + 1 * r.val = t.val * 512 + r.val; rw [(idx4 t).1]; omega
  | ⟨1, _⟩ => show win0_4.index t 1 * 1024 + 1 * k.val = k.val; rw [(idx4 t).2]; omega

theorem blk3 (c : Dev nD) (t : Fin cfg0.N) (z : Fin 1) (k : Fin 1024) :
    (iblk m c 3 t : FVec Ideal S1x1024 .f32) (ix2 z k) = a3 m c (ix2 z k) := by
  unfold a3; rw [← V_main_arg3 m c]
  unfold iblk
  rw [View.read_apply]
  show V m c main_arg3 _ = V m c main_arg3 _
  congr 1
  funext a
  apply Fin.ext
  match a with
  | ⟨0, _⟩ => show win0_3.index t 0 * 1 + 1 * z.val = z.val; rw [(idx3 t).1]; omega
  | ⟨1, _⟩ => show win0_3.index t 1 * 1024 + 1 * k.val = k.val; rw [(idx3 t).2]; omega

/-- The cotangent of the normalised rows. -/
def cot (y0 : FVec Ideal S4096x3200 .bf16) (w0 : FVec Ideal S1024x3200 .f32) : FVec Ideal S4096x1024 .f32 :=
  fun i => ((∑ k : Fin 3200, (y0 (ix2 (i 0) k) : EReal) * w0 (ix2 (i 1) k)) : EReal)

/-- The gradient of the rows. -/
def dxTotal (a x : FVec Ideal S4096x1024 .f32) (g : FVec Ideal S1x1024 .f32) (d : FVec Ideal S4096x1024 .f32) : Vec Ideal S4096x1024 .f32 :=
  fun j => (normGrad width tiny (fun k : Fin 1024 => (a (ix2 (j 0) k) : EReal)) (fun k => x (ix2 (j 0) k)) (fun k => g (ix2 0 k)) (d j) (j 1) : EReal)

def dxTotalB (a x : FVec Ideal S4096x1024 .f32) (g : FVec Ideal S1x1024 .f32) (d : FVec Ideal S4096x1024 .f32) : Vec Ideal S4096x1024 .bf16 :=
  fun j => (Ideal.ofBits .f32 0x3F000000#32 * dxTotal a x g d j : EReal)

/-- The gradient of the gain: a sum over all rows. -/
def gTotal (a x : FVec Ideal S4096x1024 .f32) : Vec Ideal S1x1024 .f32 :=
  fun j => (∑ r : Fin 4096, (a (ix2 r (j 1)) : EReal) * (x (ix2 r (j 1)) * Ideal.rsqrt (meanSq width tiny (fun k : Fin 1024 => (x (ix2 r k) : EReal)))) : EReal)

abbrev cotAt (c : Dev nD) : FVec Ideal S4096x1024 .f32 := cot (a0 m c) (a1 m c)

theorem prodAt_eq (c : Dev nD) (t : Fin cfg0.N) (r : Fin 512) (l : Fin 1024) :
    prodAt m c t (ix2 r l) = cotAt m c (ix2 (row t r) l) := by
  unfold prodAt prod cotAt cot
  refine (Finset.sum_congr rfl fun k _ => congrArg₂ (· * ·) (blk0 m c t r k) (blk1 m c t k l))

theorem dx_eq (c : Dev nD) (t : Fin cfg0.N) (r : Fin 512) (l : Fin 1024) :
    (outsAt0 m c t.val t.isLt).1 (ix2 r l) = dxTotal (cotAt m c) (a2 m c) (a3 m c) (a4 m c) (ix2 (row t r) l) := by
  rw [at1]
  have e1 : (fun k : Fin 1024 => (prodAt m c t (ix2 r k) : EReal)) = fun k => cotAt m c (ix2 (row t r) k) := funext fun k => prodAt_eq m c t r k
  have e2 : (fun k : Fin 1024 => ((iblk m c 2 t : FVec Ideal S512x1024 .f32) (ix2 r k) : EReal)) = fun k => a2 m c (ix2 (row t r) k) := funext fun k => blk2 m c t r k
  have e3 : (fun k : Fin 1024 => ((iblk m c 3 t : FVec Ideal S1x1024 .f32) (ix2 0 k) : EReal)) = fun k => a3 m c (ix2 0 k) := funext fun k => blk3 m c t 0 k
  have e4 : ((iblk m c 4 t : FVec Ideal S512x1024 .f32) (ix2 r l) : EReal) = a4 m c (ix2 (row t r) l) := blk4 m c t r l
  show normGrad width tiny (fun k : Fin 1024 => (prodAt m c t (ix2 r k) : EReal)) (fun k => (iblk m c 2 t : FVec Ideal S512x1024 .f32) (ix2 r k)) (fun k => (iblk m c 3 t : FVec Ideal S1x1024 .f32) (ix2 0 k)) ((iblk m c 4 t : FVec Ideal S512x1024 .f32) (ix2 r l)) l = _
  rw [e1, e2, e3, e4]
  rfl

theorem dxb_eq (c : Dev nD) (t : Fin cfg0.N) (r : Fin 512) (l : Fin 1024) :
    (outsAt0 m c t.val t.isLt).2.1 (ix2 r l) = dxTotalB (cotAt m c) (a2 m c) (a3 m c) (a4 m c) (ix2 (row t r) l) := by
  have e := dx_eq m c t r l
  rw [at1] at e
  rw [at2]
  exact congrArg (Ideal.ofBits .f32 0x3F000000#32 * ·) e

theorem gTile_eq (c : Dev nD) (t : Fin cfg0.N) (j : S1x1024.Idx) :
    gTile (prodAt m c t) (iblk m c 2 t) j = ∑ r : Fin 512, (cotAt m c (ix2 (row t r) (j 1)) : EReal) * (a2 m c (ix2 (row t r) (j 1)) * Ideal.rsqrt (meanSq width tiny (fun k : Fin 1024 => (a2 m c (ix2 (row t r) k) : EReal)))) := by
  unfold gTile
  refine Finset.sum_congr rfl fun r _ => ?_
  have e2 : (fun k : Fin 1024 => ((iblk m c 2 t : FVec Ideal S512x1024 .f32) (ix2 r k) : EReal)) = fun k => a2 m c (ix2 (row t r) k) := funext fun k => blk2 m c t r k
  exact congrArg₂ (· * ·) (prodAt_eq m c t r (j 1)) (congrArg₂ (· * ·) (blk2 m c t r (j 1)) (congrArg (fun f => Ideal.rsqrt (meanSq width tiny f)) e2))

theorem zero_pay (j : S1x1024.Idx) : (k0_pay6 (F := Ideal) j : EReal) = 0 := by
  unfold_payloads
  pointwise

theorem dg_eq (c : Dev nD) (h : 7 < cfg0.N) (j : S1x1024.Idx) : upTo m c 7 h j = gTotal (cotAt m c) (a2 m c) j := by
  have hN : cfg0.N = 8 := N_0
  have g : ∀ s (hs : s < cfg0.N), (gTile (prodAt m c ⟨s, hs⟩) (iblk m c 2 ⟨s, hs⟩) j : EReal) = _ := fun s hs => gTile_eq m c ⟨s, hs⟩ j
  unfold upTo upTo upTo upTo upTo upTo upTo upTo
  unfold plus
  dsimp only
  rw [zero_pay, zero_add]
  simp only [g]
  unfold gTotal
  rw [Fin.sum_univ_tiles (N := 4096) 8 512 (by decide), Fin.sum_univ_eight]
  rfl

/-- The point whose tile holds a row. -/
def ptOf (i : S4096x1024.Idx) : Fin cfg0.N :=
  ⟨(i 0).val / 512, by have h : cfg0.N = 8 := N_0; have h0 : (i 0).val < 4096 := (i 0).isLt; omega⟩

theorem flushed5_eq (c : Dev nD) (t : Fin cfg0.N) (hf : (cfg0.win 5).flush t = true) :
    (dats m 0 c).flushed 5 t = ((cfg0.win 5).blk t).view.read (Elt Ideal) (dxTotal (cotAt m c) (a2 m c) (a3 m c) (a4 m c)) := by
  rw [Value.flushed5]
  funext y
  rw [View.read_apply]
  have hi : ((cfg0.win 5).blk t).view.emb y = (ix2 (row t (y 0)) (y 1) : S4096x1024.Idx) := by
    funext a
    apply Fin.ext
    match a with
    | ⟨0, _⟩ => show win0_5.index t 0 * 512 + 1 * (y 0).val = t.val * 512 + (y 0).val; rw [(idx5 t).1]; omega
    | ⟨1, _⟩ => show win0_5.index t 1 * 1024 + 1 * (y 1).val = (y 1).val; rw [(idx5 t).2]; omega
  have hy : (cfg0.win 5).xinj (grid0.coords t) y = (ix2 (y 0) (y 1) : S512x1024.Idx) := by
    funext a
    match a with
    | ⟨0, _⟩ => rfl
    | ⟨1, _⟩ => rfl
  refine Eq.trans ?_ (congrArg (dxTotal (cotAt m c) (a2 m c) (a3 m c) (a4 m c)) hi.symm)
  refine Eq.trans (congrArg (outsAt0 m c t.val t.isLt).1 hy) ?_
  exact dx_eq m c t (y 0) (y 1)

theorem flush5 : ∀ t : Fin cfg0.N, (cfg0.win 5).flush t = true := (by decide +kernel : ∀ t : Fin grid0.N, (cfg0.win 5).flush t = true)

theorem final5 (c : Dev nD) : (dats m 0 c).arrAt 5 cfg0.N = (dxTotal (cotAt m c) (a2 m c) (a3 m c) (a4 m c) : Vec Ideal S4096x1024 .f32) :=
  (dats m 0 c).arrAt_eq_of_cover 5 _ (flushed5_eq m c) fun i => ⟨ptOf i, flush5 _, by
    show i ∈ ((View.whole main_v3_0).slice (win0_5.rect (ptOf i))).set
    rw [View.set_slice_whole, Rect.mem_set_unit]
    intro a
    have h0 : (i 0 : Nat) < 4096 := (i 0).isLt
    have h1 : (i 1 : Nat) < 1024 := (i 1).isLt
    have hp : (ptOf i).val = (i 0 : Nat) / 512 := rfl
    match a with
    | ⟨0, _⟩ => show win0_5.index (ptOf i) 0 * 512 ≤ (i 0 : Nat) ∧ (i 0 : Nat) < win0_5.index (ptOf i) 0 * 512 + 512
                rw [(idx5 (ptOf i)).1]; omega
    | ⟨1, _⟩ => show win0_5.index (ptOf i) 1 * 1024 ≤ (i 1 : Nat) ∧ (i 1 : Nat) < win0_5.index (ptOf i) 1 * 1024 + 1024
                rw [(idx5 (ptOf i)).2]; omega⟩

theorem flushed6_eq (c : Dev nD) (t : Fin cfg0.N) (hf : (cfg0.win 6).flush t = true) :
    (dats m 0 c).flushed 6 t = ((cfg0.win 6).blk t).view.read (Elt Ideal) (dxTotalB (cotAt m c) (a2 m c) (a3 m c) (a4 m c)) := by
  rw [Value.flushed6]
  funext y
  rw [View.read_apply]
  have hi : ((cfg0.win 6).blk t).view.emb y = (ix2 (row t (y 0)) (y 1) : S4096x1024.Idx) := by
    funext a
    apply Fin.ext
    match a with
    | ⟨0, _⟩ => show win0_6.index t 0 * 512 + 1 * (y 0).val = t.val * 512 + (y 0).val; rw [(idx6 t).1]; omega
    | ⟨1, _⟩ => show win0_6.index t 1 * 1024 + 1 * (y 1).val = (y 1).val; rw [(idx6 t).2]; omega
  have hy : (cfg0.win 6).xinj (grid0.coords t) y = (ix2 (y 0) (y 1) : S512x1024.Idx) := by
    funext a
    match a with
    | ⟨0, _⟩ => rfl
    | ⟨1, _⟩ => rfl
  refine Eq.trans ?_ (congrArg (dxTotalB (cotAt m c) (a2 m c) (a3 m c) (a4 m c)) hi.symm)
  refine Eq.trans (congrArg (outsAt0 m c t.val t.isLt).2.1 hy) ?_
  exact dxb_eq m c t (y 0) (y 1)

theorem flush6 : ∀ t : Fin cfg0.N, (cfg0.win 6).flush t = true := (by decide +kernel : ∀ t : Fin grid0.N, (cfg0.win 6).flush t = true)

theorem final6 (c : Dev nD) : (dats m 0 c).arrAt 6 cfg0.N = (dxTotalB (cotAt m c) (a2 m c) (a3 m c) (a4 m c) : Vec Ideal S4096x1024 .bf16) :=
  (dats m 0 c).arrAt_eq_of_cover 6 _ (flushed6_eq m c) fun i => ⟨ptOf i, flush6 _, by
    show i ∈ ((View.whole main_v3_1).slice (win0_6.rect (ptOf i))).set
    rw [View.set_slice_whole, Rect.mem_set_unit]
    intro a
    have h0 : (i 0 : Nat) < 4096 := (i 0).isLt
    have h1 : (i 1 : Nat) < 1024 := (i 1).isLt
    have hp : (ptOf i).val = (i 0 : Nat) / 512 := rfl
    match a with
    | ⟨0, _⟩ => show win0_6.index (ptOf i) 0 * 512 ≤ (i 0 : Nat) ∧ (i 0 : Nat) < win0_6.index (ptOf i) 0 * 512 + 512
                rw [(idx6 (ptOf i)).1]; omega
    | ⟨1, _⟩ => show win0_6.index (ptOf i) 1 * 1024 ≤ (i 1 : Nat) ∧ (i 1 : Nat) < win0_6.index (ptOf i) 1 * 1024 + 1024
                rw [(idx6 (ptOf i)).2]; omega⟩

theorem flush7 : ∀ t : Fin cfg0.N, (cfg0.win 7).flush t = true ↔ t.val = 7 := (by decide +kernel : ∀ t : Fin grid0.N, (cfg0.win 7).flush t = true ↔ t.val = 7)

theorem flushed7_eq (c : Dev nD) (t : Fin cfg0.N) (hf : (cfg0.win 7).flush t = true) :
    (dats m 0 c).flushed 7 t = ((cfg0.win 7).blk t).view.read (Elt Ideal) (gTotal (cotAt m c) (a2 m c)) := by
  have h : t.val = 7 := (flush7 t).mp hf
  rw [Value.flushed7]
  funext y
  rw [View.read_apply]
  have hi : ((cfg0.win 7).blk t).view.emb y = (ix2 (y 0) (y 1) : S1x1024.Idx) := by
    funext a
    apply Fin.ext
    match a with
    | ⟨0, _⟩ => show win0_7.index t 0 * 1 + 1 * (y 0).val = (y 0).val; rw [(idx7 t).1]; omega
    | ⟨1, _⟩ => show win0_7.index t 1 * 1024 + 1 * (y 1).val = (y 1).val; rw [(idx7 t).2]; omega
  have hy : (cfg0.win 7).xinj (grid0.coords t) y = (ix2 (y 0) (y 1) : S1x1024.Idx) := by
    funext a
    match a with
    | ⟨0, _⟩ => rfl
    | ⟨1, _⟩ => rfl
  refine Eq.trans ?_ (congrArg (gTotal (cotAt m c) (a2 m c)) hi.symm)
  refine Eq.trans (congrArg (outsAt0 m c t.val t.isLt).2.2 hy) ?_
  obtain ⟨n, hn⟩ := t
  dsimp only at h
  subst h
  rw [at3]
  exact dg_eq m c hn _

/-- The last point. -/
def lastPt : Fin cfg0.N := ⟨7, by have h : cfg0.N = 8 := N_0; omega⟩

theorem final7 (c : Dev nD) : (dats m 0 c).arrAt 7 cfg0.N = (gTotal (cotAt m c) (a2 m c) : Vec Ideal S1x1024 .f32) :=
  (dats m 0 c).arrAt_eq_of_cover 7 _ (flushed7_eq m c) fun i => ⟨lastPt, (flush7 lastPt).mpr rfl, by
    show i ∈ ((View.whole main_v3_2).slice (win0_7.rect lastPt)).set
    rw [View.set_slice_whole, Rect.mem_set_unit]
    intro a
    have h0 : (i 0 : Nat) < 1 := (i 0).isLt
    have h1 : (i 1 : Nat) < 1024 := (i 1).isLt
    match a with
    | ⟨0, _⟩ => show win0_7.index lastPt 0 * 1 ≤ (i 0 : Nat) ∧ (i 0 : Nat) < win0_7.index lastPt 0 * 1 + 1
                rw [(idx7 lastPt).1]; omega
    | ⟨1, _⟩ => show win0_7.index lastPt 1 * 1024 ≤ (i 1 : Nat) ∧ (i 1 : Nat) < win0_7.index lastPt 1 * 1024 + 1024
                rw [(idx7 lastPt).2]; omega⟩

end Cert.MixNormIdeal.Hand

namespace Cert.MixNormRefIdeal.Hand

open Cert.MixNormRefIdeal Cert.MixNormRefIdeal.Gen Idealize.ShloMosaic Idealize.ShloMosaic.TcCoe Idealize.SL.Sem Cert.Finite

/-- The cotangent of the normalised rows, as the reference's products give it. -/
theorem cot_eq (x0 : FVec Ideal S4096x3200 .bf16) (x1 : FVec Ideal S1024x3200 .f32) (x2 : FVec Ideal S4096x1024 .f32) (x3 : FVec Ideal S1x1024 .f32) (x4 : FVec Ideal S4096x1024 .f32) (i : S4096x1024.Idx) :
    Read.val_main_v19 (F := Ideal) x0 x1 i = Cert.MixNormIdeal.Hand.cot x0 x1 i := by
  unfold Read.val_main_v19 Read.val_main_v18 Cert.MixNormIdeal.Hand.cot
  pointwise

theorem ref_dx (x0 : FVec Ideal S4096x3200 .bf16) (x1 : FVec Ideal S1024x3200 .f32) (x2 : FVec Ideal S4096x1024 .f32) (x3 : FVec Ideal S1x1024 .f32) (x4 : FVec Ideal S4096x1024 .f32) (h0 : ∀ i, IsReal (x0 i)) (h1 : ∀ i, IsReal (x1 i)) (h2 : ∀ i, IsReal (x2 i)) (h3 : ∀ i, IsReal (x3 i)) (i : S4096x1024.Idx) :
    Read.val_main_v40 (F := Ideal) x0 x1 x2 x3 x4 i
      = Cert.MixNormIdeal.Hand.dxTotal (Cert.MixNormIdeal.Hand.cot x0 x1) x2 x3 x4 i := by
  have ha : ∀ j, IsReal (Cert.MixNormIdeal.Hand.cot x0 x1 j) := fun j => by
    unfold Cert.MixNormIdeal.Hand.cot
    exact (IsReal.sum _ _ fun k _ => (h0 _).mul (h1 _))
  have hc := funext (cot_eq x0 x1 x2 x3 x4)
  unfold Cert.MixNormIdeal.Hand.dxTotal
  generalize Cert.MixNormIdeal.Hand.cot x0 x1 = a at *
  obtain ⟨e, he, hE⟩ := ofBits_eps
  unfold Cert.MixNormIdeal.Hand.width Cert.MixNormIdeal.Hand.tiny
  have hn := norm_row 1024 e (by norm_num) he (fun k : Fin 1024 => (a (ix2 (i 0) k) : EReal)) (fun k => x2 (ix2 (i 0) k)) (fun k => x3 (ix2 0 k)) (x4 i)
    (fun k => ha _) (fun k => h2 _) (fun k => h3 _) (i 1)
  rw [← ofBits_neg_half, ← ofBits_1024, ← hE] at hn
  refine Eq.trans ?_ hn.symm
  unfold Read.val_main_v40 Read.val_main_v39 Read.val_main_v38 Read.val_main_v37 Read.val_main_v36 Read.val_main_v35 Read.val_main_v34 Read.val_main_v33 Read.val_main_v32 Read.val_main_v31 Read.val_main_v30 Read.val_main_v29 Read.val_main_v28 Read.val_main_v27 Read.val_main_v26 Read.val_main_v24 Read.val_main_v23 Read.val_main_v14 Read.val_main_v11 Read.val_main_v10 Read.val_main_v9 Read.val_main_v8 Read.val_main_v7 Read.val_main_v6 Read.val_main_v5 Read.val_main_v4 Read.val_main_v3 Read.val_main_v2 Read.val_main_v1 Read.val_main_v0 Read.val_main_cst_0 Read.val_main_cst Read.val_main_cst_1 Read.val_main_cst_2 Read.val_main_cst_5 Read.val_main_cst_6 Read.val_main_cst_7
  rw [hc]
  unfold meanSqGrad meanSq
  pointwise
  simp only [Fin.sum_univ_one]

theorem ref_dg (x0 : FVec Ideal S4096x3200 .bf16) (x1 : FVec Ideal S1024x3200 .f32) (x2 : FVec Ideal S4096x1024 .f32) (x3 : FVec Ideal S1x1024 .f32) (x4 : FVec Ideal S4096x1024 .f32) (i : S1x1024.Idx) :
    Read.val_main_v44 (F := Ideal) x0 x1 x2 i
      = Cert.MixNormIdeal.Hand.gTotal (Cert.MixNormIdeal.Hand.cot x0 x1) x2 i := by
  have hc := funext (cot_eq x0 x1 x2 x3 x4)
  unfold Cert.MixNormIdeal.Hand.gTotal
  generalize Cert.MixNormIdeal.Hand.cot x0 x1 = a at *
  unfold Read.val_main_v44 Read.val_main_v25 Read.val_main_v22 Read.val_main_v21 Read.val_main_v20 Read.val_main_v13 Read.val_main_v12 Read.val_main_v8 Read.val_main_v7 Read.val_main_v6 Read.val_main_v5 Read.val_main_v4 Read.val_main_v3 Read.val_main_v2 Read.val_main_v1 Read.val_main_cst_4 Read.val_main_cst_3 Read.val_main_cst Read.val_main_cst_0 Read.val_main_cst_1
  rw [hc]
  unfold meanSq
  pointwise
  refine (Fin.sum_univ_one _).trans ?_
  exact Finset.sum_congr rfl fun k _ => mul_comm (G := EReal) _ _

theorem ref_dxb (x0 : FVec Ideal S4096x3200 .bf16) (x1 : FVec Ideal S1024x3200 .f32) (x2 : FVec Ideal S4096x1024 .f32) (x3 : FVec Ideal S1x1024 .f32) (x4 : FVec Ideal S4096x1024 .f32) (h0 : ∀ i, IsReal (x0 i)) (h1 : ∀ i, IsReal (x1 i)) (h2 : ∀ i, IsReal (x2 i)) (h3 : ∀ i, IsReal (x3 i)) (i : S4096x1024.Idx) :
    Read.val_main_v43 (F := Ideal) x0 x1 x2 x3 x4 i
      = Cert.MixNormIdeal.Hand.dxTotalB (Cert.MixNormIdeal.Hand.cot x0 x1) x2 x3 x4 i := by
  have h := ref_dx x0 x1 x2 x3 x4 h0 h1 h2 h3 i
  unfold Cert.MixNormIdeal.Hand.dxTotalB
  rw [← h]
  unfold Read.val_main_v43 Read.val_main_v42 Read.val_main_v41 Read.val_main_cst_8
  generalize Read.val_main_v40 (F := Ideal) x0 x1 x2 x3 x4 = z
  pointwise

end Cert.MixNormRefIdeal.Hand

namespace Cert.Claims

open Idealize.ShloMosaic Idealize.ShloMosaic.TcCoe Idealize.SL.Sem Cert.Finite

/-- What the precondition says of the arguments. -/
theorem finite_mix_read (x0 : FVec Ideal Cert.Pre_finite_mix.S4096x3200 .bf16) (x1 : FVec Ideal Cert.Pre_finite_mix.S1024x3200 .f32) (x2 : FVec Ideal Cert.Pre_finite_mix.S4096x1024 .f32) (x3 : FVec Ideal Cert.Pre_finite_mix.S1x1024 .f32) (x4 : FVec Ideal Cert.Pre_finite_mix.S4096x1024 .f32) [Cert.Pre_finite_mix.Facts]
    (h : Cert.Pre_finite_mix.fn (F := Ideal) x0 x1 x2 x3 x4 = fun _ => 1#1) :
    (∀ i, IsReal (x0 i)) ∧ (∀ i, IsReal (x1 i)) ∧ (∀ i, IsReal (x2 i)) ∧ (∀ i, IsReal (x3 i)) := by
  have h' := congrFun h (fun a => a.elim0)
  unfold Cert.Pre_finite_mix.fn at h'

  obtain ⟨r3, q3⟩ := IntOp.andi_eq_one.1 h'
  obtain ⟨r2, q2⟩ := IntOp.andi_eq_one.1 r3
  obtain ⟨r1, q1⟩ := IntOp.andi_eq_one.1 r2
  haveI : Subsingleton Cert.Pre_finite_mix.S_.Idx := ⟨fun a b => funext fun x => x.elim0⟩
  exact ⟨isReal_of_all (extf .f32 x0 _) _ _ _ _ _ r1, isReal_of_all x1 _ _ _ _ _ q1, isReal_of_all x2 _ _ _ _ _ q2, isReal_of_all x3 _ _ _ _ _ q3⟩

theorem mix_norm [hP : Cert.Pre_finite_mix.Facts] :
    Cert.algebraic_MixNormIdeal_MixNormRefIdeal_pre_finite_mix (hMixNormIdeal := Cert.MixNormIdeal.Gen.facts)
      (hMixNormRefIdeal := Cert.MixNormRefIdeal.Gen.facts) (hPre_finite_mix := hP) := by
  intro m g m' g' hpre hargs
  refine ⟨fun c => (Cert.MixNormIdeal.Hand.dxTotal (Cert.MixNormIdeal.Hand.cotAt m c) (Cert.MixNormIdeal.Hand.a2 m c) (Cert.MixNormIdeal.Hand.a3 m c) (Cert.MixNormIdeal.Hand.a4 m c) : Vec Ideal Cert.MixNormIdeal.S4096x1024 .f32),
    fun c => (Cert.MixNormIdeal.Hand.dxTotalB (Cert.MixNormIdeal.Hand.cotAt m c) (Cert.MixNormIdeal.Hand.a2 m c) (Cert.MixNormIdeal.Hand.a3 m c) (Cert.MixNormIdeal.Hand.a4 m c) : Vec Ideal Cert.MixNormIdeal.S4096x1024 .bf16),
    fun c => (Cert.MixNormIdeal.Hand.gTotal (Cert.MixNormIdeal.Hand.cotAt m c) (Cert.MixNormIdeal.Hand.a2 m c) : Vec Ideal Cert.MixNormIdeal.S1x1024 .f32),
    (θ_run Cert.MixNormIdeal.defs _ _).mono (fun r h c => ?_) (Cert.MixNormIdeal.Value.run_blocks (F := Ideal) m g),
    (θ_run Cert.MixNormRefIdeal.defs _ _).mono (fun r h c => ?_) (Cert.MixNormRefIdeal.Value.run (F := Ideal) m' g')⟩
  · exact ⟨(h c).1.trans (Cert.MixNormIdeal.Hand.final5 m c), (h c).2.1.trans (Cert.MixNormIdeal.Hand.final6 m c), (h c).2.2.1.trans (Cert.MixNormIdeal.Hand.final7 m c), (h c).2.2.2⟩
  · obtain ⟨h0, h1, h2, h3⟩ := finite_mix_read _ _ _ _ _ (hpre c)
    obtain ⟨e0, e1, e2, e3, e4⟩ := hargs c
    refine ⟨(h c).1.trans ?_, (h c).2.1.trans ?_, (h c).2.2.1.trans ?_, (h c).2.2.2⟩
    · rw [Cert.MixNormRefIdeal.Read.val_main_v40_eq, e0, e1, e2, e3, e4]
      exact funext fun i => Cert.MixNormRefIdeal.Hand.ref_dx _ _ _ _ _ h0 h1 h2 h3 i
    · rw [Cert.MixNormRefIdeal.Read.val_main_v43_eq, e0, e1, e2, e3, e4]
      exact funext fun i => Cert.MixNormRefIdeal.Hand.ref_dxb _ _ _ _ _ h0 h1 h2 h3 i
    · rw [Cert.MixNormRefIdeal.Read.val_main_v44_eq, e0, e1, e2]
      exact funext fun i => Cert.MixNormRefIdeal.Hand.ref_dg (Cert.MixNormIdeal.Hand.a0 m c) (Cert.MixNormIdeal.Hand.a1 m c) (Cert.MixNormIdeal.Hand.a2 m c) (Cert.MixNormIdeal.Hand.a3 m c) (Cert.MixNormIdeal.Hand.a4 m c) i

end Cert.Claims

end
-- ==== Proof.MixOutValue.lean ====
/-
  A weight's gradient: what the kernel's result array holds, entry by entry — the sum over all rows, which
  the kernel takes in 4 tiles of 1024 rows — and that the reference's holds the same.
-/
module

public import proofs.«01_k».proof.Defs
public import proofs.«01_k».proof.Proof.Finite
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Pointwise
public import Idealize.ShloMosaic.Lib.Tactic

@[expose] public section

noncomputable section

namespace Cert.MixOutIdeal.Hand

open Cert.MixOutIdeal Cert.MixOutIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of one tile of rows: `xᵀ y`. -/
def tile (x : Vec Ideal S1024x1024 .bf16) (y : Vec Ideal S1024x1024 .bf16) : Vec Ideal S1024x1024 .f32 :=
  fun j => (∑ k : Fin 1024, (x (ix2 k (j 0)) : EReal) * y (ix2 k (j 1)) : EReal)

/-- The running sum with one more tile. -/
def plus (s p : Vec Ideal S1024x1024 .f32) : Vec Ideal S1024x1024 .f32 := fun j => (s j + p j : EReal)

/-- The first tile of a column block starts the sum. -/
theorem scratch_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : cond0_0 i) (hc1 : ¬cond0_1 i)
    (x : Vec Ideal S1024x1024 .bf16) (y : Vec Ideal S1024x1024 .bf16) :
    sout0_A_0 (F := Ideal) c i a3 h3 a4 h4 a5 h5 a6 h6 hc0 hc1 x y = tile x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, View.ld_unit_zero (S := S1024x1024) hz]
  funext j
  unfold_payloads
  unfold tile
  pointwise

/-- A tile between adds to it. -/
theorem scratch_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : ¬cond0_1 i)
    (x : Vec Ideal S1024x1024 .bf16) (y : Vec Ideal S1024x1024 .bf16) (s : Vec Ideal S1024x1024 .f32) :
    sout0_B_0 (F := Ideal) c i a3 h3 a4 h4 a5 h5 a6 h6 hc0 hc1 x y s = plus s (tile x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1024x1024) hz]
  simp only [View.readAt_eq_ld, h3.read_unread, h4.read_unread, h6.read_unread, View.ld_unit_zero (S := S1024x1024) hz, View.ld_unit_zero (S := S1024x1024) hz, View.ld_unit_zero (S := S1024x1024) hz]
  funext j
  unfold_payloads
  unfold plus tile
  pointwise

/-- The last tile adds to it and the sum is the result's block. -/
theorem result_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .bf16) (h5 : a5.IsWhole)
    (a6 : Memref sig .tc .vmem S1024x1024 .f32) (h6 : a6.IsWhole) (hc0 : ¬cond0_0 i) (hc1 : cond0_1 i)
    (x : Vec Ideal S1024x1024 .bf16) (y : Vec Ideal S1024x1024 .bf16) (s : Vec Ideal S1024x1024 .f32) :
    out0_C_2 (F := Ideal) c i a3 h3 a4 h4 a5 h5 a6 h6 hc0 hc1 x y s = plus s (tile x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1024x1024) hz, View.readCov_unit_zero (S := S1024x1024) _ hz]
  simp only [View.readAt_eq_ld, h3.read_unread, h4.read_unread, h6.read_unread, View.ld_unit_zero (S := S1024x1024) hz, View.ld_unit_zero (S := S1024x1024) hz, View.ld_unit_zero (S := S1024x1024) hz]
  funext j
  unfold_payloads
  unfold plus tile
  pointwise

/-- The tile's product at a grid point. -/
abbrev tileAt (c : Dev nD) (t : Fin cfg0.N) : Vec Ideal S1024x1024 .f32 := tile (iblk m c 0 t) (iblk m c 1 t)

/-- The point before. -/
abbrev prev (t : Fin cfg0.N) : Fin cfg0.N := ⟨t.val - 1, Nat.lt_of_le_of_lt (Nat.sub_le _ _) t.isLt⟩

theorem acc0 (c : Dev nD) (t : Fin cfg0.N) (h : t.val % 4 = 0) : (outsAt0 m c t.val t.isLt).2 = tileAt m c t := by
  have h1 : ¬t.val % 4 = 3 := by omega
  rw [outsAt0_A m c t h h1]
  dsimp only
  rw [scratch_A]

theorem acc1 (c : Dev nD) (t : Fin cfg0.N) (h : t.val % 4 = 1) :
    (outsAt0 m c t.val t.isLt).2 = plus (tileAt m c (prev t)) (tileAt m c t) := by
  have h0 : ¬t.val % 4 = 0 := by omega
  have h1 : ¬t.val % 4 = 3 := by omega
  rw [outsAt0_B m c t h0 h1]
  dsimp only
  rw [scratch_B]
  have e : (outsAt0 m c (t.val - 1) (Nat.lt_of_le_of_lt (Nat.sub_le _ _) t.isLt)).2 = _ := acc0 m c (prev t) (by show (t.val - 1) % 4 = 0; omega)
  rw [e]

theorem acc2 (c : Dev nD) (t : Fin cfg0.N) (h : t.val % 4 = 2) :
    (outsAt0 m c t.val t.isLt).2 = plus (plus (tileAt m c (prev (prev t))) (tileAt m c (prev t))) (tileAt m c t) := by
  have h0 : ¬t.val % 4 = 0 := by omega
  have h1 : ¬t.val % 4 = 3 := by omega
  rw [outsAt0_B m c t h0 h1]
  dsimp only
  rw [scratch_B]
  have e : (outsAt0 m c (t.val - 1) (Nat.lt_of_le_of_lt (Nat.sub_le _ _) t.isLt)).2 = _ := acc1 m c (prev t) (by show (t.val - 1) % 4 = 1; omega)
  rw [e]

theorem res (c : Dev nD) (t : Fin cfg0.N) (h : t.val % 4 = 3) :
    (outsAt0 m c t.val t.isLt).1 = plus (plus (plus (tileAt m c (prev (prev (prev t)))) (tileAt m c (prev (prev t)))) (tileAt m c (prev t))) (tileAt m c t) := by
  have h0 : ¬t.val % 4 = 0 := by omega
  rw [outsAt0_C m c t h0 h]
  dsimp only
  rw [result_C]
  have e : (outsAt0 m c (t.val - 1) (Nat.lt_of_le_of_lt (Nat.sub_le _ _) t.isLt)).2 = _ := acc2 m c (prev t) (by show (t.val - 1) % 4 = 2; omega)
  rw [e]

theorem idx : ∀ t : Fin cfg0.N, (win0_0.index t 0 = t.val % 4 ∧ win0_0.index t 1 = t.val / 4)
    ∧ (win0_1.index t 0 = t.val % 4 ∧ win0_1.index t 1 = 0) ∧ (win0_2.index t 0 = t.val / 4 ∧ win0_2.index t 1 = 0) :=
  (by decide +kernel : ∀ t : Fin grid0.N, (win0_0.index t 0 = t.val % 4 ∧ win0_0.index t 1 = t.val / 4)
    ∧ (win0_1.index t 0 = t.val % 4 ∧ win0_1.index t 1 = 0) ∧ (win0_2.index t 0 = t.val / 4 ∧ win0_2.index t 1 = 0))

/-! The two arguments. -/
abbrev aX (c : Dev nD) : FVec Ideal S4096x1024 .bf16 := m ((c : Thread nD τ).loc main_arg0)
abbrev aY (c : Dev nD) : FVec Ideal S4096x1024 .bf16 := m ((c : Thread nD τ).loc main_arg1)

/-- Row `k` of row tile `s`. -/
def row (s : Nat) (hs : s < 4) (k : Fin 1024) : Fin 4096 := ⟨s * 1024 + k.val, by have := k.isLt; omega⟩

/-- Column `l` of column block `t / 4`. -/
def col (t : Fin cfg0.N) (l : Fin 1024) : Fin 1024 :=
  ⟨1024 * (t.val / 4) + l.val, by have h := t.isLt; have h' : cfg0.N = 4 := N_0; have := l.isLt; omega⟩

theorem blk0 (c : Dev nD) (t : Fin cfg0.N) (s : Nat) (hs : s < 4) (h : t.val % 4 = s) (k : Fin 1024) (l : Fin 1024) :
    (iblk m c 0 t : FVec Ideal S1024x1024 .bf16) (ix2 k l) = aX m c (ix2 (row s hs k) (col t l)) := by
  unfold iblk
  rw [View.read_apply]
  show V m c main_arg0 _ = _
  unfold V
  refine congrArg (aX m c) ?_
  funext a
  apply Fin.ext
  match a with
  | ⟨0, _⟩ => show win0_0.index t 0 * 1024 + 1 * k.val = s * 1024 + k.val; rw [(idx t).1.1]; omega
  | ⟨1, _⟩ => show win0_0.index t 1 * 1024 + 1 * l.val = 1024 * (t.val / 4) + l.val; rw [(idx t).1.2]; omega

theorem blk1 (c : Dev nD) (t : Fin cfg0.N) (s : Nat) (hs : s < 4) (h : t.val % 4 = s) (k : Fin 1024) (l : Fin 1024) :
    (iblk m c 1 t : FVec Ideal S1024x1024 .bf16) (ix2 k l) = aY m c (ix2 (row s hs k) l) := by
  unfold iblk
  rw [View.read_apply]
  show V m c main_arg1 _ = _
  unfold V
  refine congrArg (aY m c) ?_
  funext a
  apply Fin.ext
  match a with
  | ⟨0, _⟩ => show win0_1.index t 0 * 1024 + 1 * k.val = s * 1024 + k.val; rw [(idx t).2.1.1]; omega
  | ⟨1, _⟩ => show win0_1.index t 1 * 1024 + 1 * l.val = l.val; rw [(idx t).2.1.2]; omega

theorem tileAt_eq (c : Dev nD) (t : Fin cfg0.N) (s : Nat) (hs : s < 4) (h : t.val % 4 = s) (i : Fin 1024) (l : Fin 1024) :
    (tileAt m c t (ix2 i l) : EReal) = ∑ k : Fin 1024, (aX m c (ix2 (row s hs k) (col t i)) : EReal) * aY m c (ix2 (row s hs k) l) := by
  unfold tileAt tile
  refine Finset.sum_congr rfl fun k _ => ?_
  exact congrArg₂ (· * ·) (blk0 m c t s hs h k i) (blk1 m c t s hs h k l)

/-- The whole product `xᵀ y`, as one sum over the rows. -/
def total (x : FVec Ideal S4096x1024 .bf16) (y : FVec Ideal S4096x1024 .bf16) : Vec Ideal S1024x1024 .bf16 :=
  fun i => (∑ k : Fin 4096, (x (ix2 k (i 0)) : EReal) * y (ix2 k (i 1)) : EReal)

theorem col_prev (t : Fin cfg0.N) (h : t.val % 4 ≠ 0) (l : Fin 1024) : col (prev t) l = col t l := by
  apply Fin.ext
  show 1024 * ((t.val - 1) / 4) + l.val = 1024 * (t.val / 4) + l.val
  have : (t.val - 1) / 4 = t.val / 4 := by omega
  rw [this]

theorem res_total (c : Dev nD) (t : Fin cfg0.N) (h : t.val % 4 = 3) (i : Fin 1024) (l : Fin 1024) :
    (outsAt0 m c t.val t.isLt).1 (ix2 i l) = total (aX m c) (aY m c) (ix2 (col t i) l) := by
  rw [res m c t h]
  have m0 : (prev (prev (prev t))).val % 4 = 0 := by show (((t.val - 1) - 1) - 1) % 4 = 0; omega
  have m1 : (prev (prev t)).val % 4 = 1 := by show ((t.val - 1) - 1) % 4 = 1; omega
  have m2 : (prev t).val % 4 = 2 := by show (t.val - 1) % 4 = 2; omega
  have m3 : t.val % 4 = 3 := by exact h
  have c3 : col t i = col t i := rfl
  have c2 : col (prev t) i = col t i := (col_prev t (by rw [m3]; decide) i)
  have c1 : col (prev (prev t)) i = col t i := (col_prev (prev t) (by rw [m2]; decide) i).trans c2
  have c0 : col (prev (prev (prev t))) i = col t i := (col_prev (prev (prev t)) (by rw [m1]; decide) i).trans c1
  show (tileAt m c (prev (prev (prev t))) (ix2 i l) + tileAt m c (prev (prev t)) (ix2 i l) + tileAt m c (prev t) (ix2 i l) + tileAt m c t (ix2 i l) : EReal) = ∑ k : Fin 4096, (aX m c (ix2 k (col t i)) : EReal) * aY m c (ix2 k l)
  rw [tileAt_eq m c (prev (prev (prev t))) 0 (by decide) m0, tileAt_eq m c (prev (prev t)) 1 (by decide) m1, tileAt_eq m c (prev t) 2 (by decide) m2, tileAt_eq m c t 3 (by decide) m3]
  rw [c0, c1, c2]
  rw [Fin.sum_univ_tiles (N := 4096) 4 1024 (by decide), Fin.sum_univ_four]
  rfl

theorem flushed_eq (c : Dev nD) (t : Fin cfg0.N) (hf : (cfg0.win 2).flush t = true) :
    (dats m 0 c).flushed 2 t = ((cfg0.win 2).blk t).view.read (Elt Ideal) (total (aX m c) (aY m c)) := by
  have h : t.val % 4 = 3 := (flush0_2 t).mp hf
  rw [Value.flushed2]
  funext y
  rw [View.read_apply]
  have hi : ((cfg0.win 2).blk t).view.emb y = (ix2 (col t (y 0)) (y 1) : S1024x1024.Idx) := by
    funext a
    apply Fin.ext
    match a with
    | ⟨0, _⟩ => show win0_2.index t 0 * 1024 + 1 * (y 0).val = 1024 * (t.val / 4) + (y 0).val; rw [(idx t).2.2.1]; omega
    | ⟨1, _⟩ => show win0_2.index t 1 * 1024 + 1 * (y 1).val = (y 1).val; rw [(idx t).2.2.2]; omega
  have hy : (cfg0.win 2).xinj (grid0.coords t) y = (ix2 (y 0) (y 1) : S1024x1024.Idx) := by
    funext a
    match a with
    | ⟨0, _⟩ => rfl
    | ⟨1, _⟩ => rfl
  refine Eq.trans ?_ (congrArg (total (aX m c) (aY m c)) hi.symm)
  refine Eq.trans (congrArg (outsAt0 m c t.val t.isLt).1 hy) ?_
  exact res_total m c t h (y 0) (y 1)

theorem final (c : Dev nD) : (dats m 0 c).arrAt 2 cfg0.N = (total (aX m c) (aY m c) : Vec Ideal S1024x1024 .bf16) :=
  (dats m 0 c).arrAt_eq_of_cover 2 _ (flushed_eq m c) fun i => (Value.covered_iff2 i).2 (by
    have h0 : (i 0).val < 1024 := (i 0).isLt; have h1 : (i 1).val < 1024 := (i 1).isLt; omega)

end Cert.MixOutIdeal.Hand

namespace Cert.MixOutRefIdeal.Hand

open Cert.MixOutRefIdeal Cert.MixOutRefIdeal.Gen Idealize.ShloMosaic Idealize.ShloMosaic.TcCoe Idealize.SL.Sem

/-- The reference's gradient at an entry. -/
theorem ref_eq (x : FVec Ideal S4096x1024 .bf16) (y : FVec Ideal S4096x1024 .bf16) (i : S1024x1024.Idx) :
    Read.val_main_v6 (F := Ideal) x y i = ∑ k : Fin 4096, (x (ix2 k (i 0)) : EReal) * y (ix2 k (i 1)) := by
  rw [← Read.val_main_v6_eq]
  pointwise
  exact Finset.sum_congr rfl fun k _ => mul_comm _ _

end Cert.MixOutRefIdeal.Hand

namespace Cert.Claims

open Idealize.ShloMosaic Idealize.ShloMosaic.TcCoe Idealize.SL.Sem

theorem mix_out :
    Cert.algebraic_MixOutIdeal_MixOutRefIdeal (hMixOutIdeal := Cert.MixOutIdeal.Gen.facts)
      (hMixOutRefIdeal := Cert.MixOutRefIdeal.Gen.facts) := by
  intro m g m' g' hpre hargs
  refine ⟨fun c => (Cert.MixOutIdeal.Hand.total (Cert.MixOutIdeal.Hand.aX m c) (Cert.MixOutIdeal.Hand.aY m c) : Vec Ideal Cert.MixOutIdeal.S1024x1024 .bf16),
    (θ_run Cert.MixOutIdeal.defs _ _).mono (fun r h c => ?_) (Cert.MixOutIdeal.Value.run_blocks (F := Ideal) m g),
    (θ_run Cert.MixOutRefIdeal.defs _ _).mono (fun r h c => ?_) (Cert.MixOutRefIdeal.Value.run (F := Ideal) m' g')⟩
  · exact ⟨(h c).1.trans (Cert.MixOutIdeal.Hand.final m c), (h c).2⟩
  · obtain ⟨e0, e1⟩ := hargs c
    refine ⟨(h c).1.trans ?_, (h c).2⟩
    rw [Cert.MixOutRefIdeal.Read.val_main_v6_eq, e0, e1]
    exact funext fun i => Cert.MixOutRefIdeal.Hand.ref_eq _ _ i

end Cert.Claims

end
-- ==== Proof.NormGradValue.lean ====
/-
  The gradient of the normalisation before the gated unit: what the kernel's three result arrays hold, entry by entry,
  and that the reference's hold the same.
-/
module

public import proofs.«01_k».proof.Defs
public import proofs.«01_k».proof.Proof.NormRow
public import proofs.«01_k».proof.Proof.Gen.NormGradIdeal.Value
public import proofs.«01_k».proof.Proof.Gen.NormGradRefIdeal.Run
public import proofs.«01_k».proof.Proof.Gen.NormGradRefIdeal.Read
public import Idealize.ShloMosaic.Lib.Pointwise
public import Idealize.ShloMosaic.Lib.Tactic

@[expose] public section

noncomputable section

namespace Cert.NormGradIdeal.Hand

open Cert.NormGradIdeal Cert.NormGradIdeal.Gen Idealize.ShloMosaic Idealize.ShloMosaic.TcCoe Idealize.SL.Sem Cert.Finite
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The width of a row, and the small constant, as the program writes them. -/
abbrev width : EReal := Ideal.ofBits .f32 0x44800000#32
abbrev tiny : EReal := Ideal.ofBits .f32 0x358637BD#32

/-- The cotangent of the normalised rows of one tile. -/
def prod (x0 : Vec Ideal S512x2816 .bf16) (x1 : Vec Ideal S512x2816 .bf16) (x2 : Vec Ideal S1x2816x1024 .bf16) (x3 : Vec Ideal S1x2816x1024 .bf16) : Vec Ideal S512x1024 .f32 :=
  fun j => ((∑ k : Fin 2816, (x0 (ix2 (j 0) k) : EReal) * x2 (ix3 0 k (j 1))) + (∑ k : Fin 2816, (x1 (ix2 (j 0) k) : EReal) * x3 (ix3 0 k (j 1))) : EReal)

/-- The gradient of one tile of rows. -/
def dxTile (a x : Vec Ideal S512x1024 .f32) (g : Vec Ideal S1x1024 .f32) (d : Vec Ideal S512x1024 .f32) : Vec Ideal S512x1024 .f32 :=
  fun j => (normGrad width tiny (fun k : Fin 1024 => (a (ix2 (j 0) k) : EReal)) (fun k => x (ix2 (j 0) k)) (fun k => g (ix2 0 k)) (d j) (j 1) : EReal)

/-- The same, rounded for the next product. -/
def dxTileB (a x : Vec Ideal S512x1024 .f32) (g : Vec Ideal S1x1024 .f32) (d : Vec Ideal S512x1024 .f32) : Vec Ideal S512x1024 .bf16 :=
  fun j => (dxTile a x g d j : EReal)

/-- What one tile of rows adds to the gradient of the gain. -/
def gTile (a x : Vec Ideal S512x1024 .f32) : Vec Ideal S1x1024 .f32 :=
  fun j => (∑ r : Fin 512, (a (ix2 r (j 1)) : EReal) * (x (ix2 r (j 1)) * Ideal.rsqrt (meanSq width tiny (fun k : Fin 1024 => (x (ix2 r k) : EReal)))) : EReal)

/-- The running sum with one more tile. -/
def plus (s p : Vec Ideal S1x1024 .f32) : Vec Ideal S1x1024 .f32 := fun j => (s j + p j : EReal)

theorem pay_prod (x0 : Vec Ideal S512x2816 .bf16) (x1 : Vec Ideal S512x2816 .bf16) (x2 : Vec Ideal S1x2816x1024 .bf16) (x3 : Vec Ideal S1x2816x1024 .bf16) : k0_pay3 (F := Ideal) x0 x2 x1 x3 = prod x0 x1 x2 x3 := by
  funext j
  unfold_payloads
  unfold prod
  pointwise

theorem pay_rsqrt (x : Vec Ideal S512x1024 .f32) (j : S512x1.Idx) :
    k0_pay4 (F := Ideal) x j = Ideal.rsqrt (meanSq width tiny (fun k : Fin 1024 => (x (ix2 (j 0) k) : EReal))) := by
  unfold_payloads
  unfold meanSq
  pointwise

theorem pay_hat (x : Vec Ideal S512x1024 .f32) (j : S512x1024.Idx) :
    k0_pay5 (F := Ideal) x j = x j * Ideal.rsqrt (meanSq width tiny (fun k : Fin 1024 => (x (ix2 (j 0) k) : EReal))) := by
  unfold_payloads
  unfold meanSq
  pointwise

theorem pay_dx (a x : Vec Ideal S512x1024 .f32) (g : Vec Ideal S1x1024 .f32) (d : Vec Ideal S512x1024 .f32) :
    k0_pay1 (F := Ideal) a (k0_pay4 x) (k0_pay5 x) g d = dxTile a x g d := by
  funext j
  unfold_payloads
  unfold dxTile normGrad meanSq
  pointwise

theorem pay_dxb (a x : Vec Ideal S512x1024 .f32) (g : Vec Ideal S1x1024 .f32) (d : Vec Ideal S512x1024 .f32) :
    k0_pay2 (F := Ideal) a (k0_pay4 x) (k0_pay5 x) g d = dxTileB a x g d := by
  unfold k0_pay2
  rw [pay_dx]
  funext j
  unfold dxTileB
  pointwise

theorem pay_dg (x0 : Vec Ideal S512x2816 .bf16) (x1 : Vec Ideal S512x2816 .bf16) (x2 : Vec Ideal S1x2816x1024 .bf16) (x3 : Vec Ideal S1x2816x1024 .bf16) (x : Vec Ideal S512x1024 .f32) (s : Vec Ideal S1x1024 .f32) :
    k0_pay7 (F := Ideal) x0 x2 x1 x3 x s = plus s (gTile (prod x0 x1 x2 x3) x) := by
  unfold k0_pay7
  rw [pay_prod]
  funext j
  unfold plus gTile
  generalize prod x0 x1 x2 x3 = a
  unfold_payloads
  unfold meanSq
  pointwise

theorem out_A_7 (c : Dev nD) (i : grid0.Coords) (a1 : Memref sig .tc .vmem S512x2816 .bf16) (h1 : a1.IsWhole) (a2 : Memref sig .tc .vmem S512x2816 .bf16) (h2 : a2.IsWhole) (a3 : Memref sig .tc .vmem S1x2816x1024 .bf16) (h3 : a3.IsWhole) (a4 : Memref sig .tc .vmem S1x2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : cond0_0 i) (x0 : Vec Ideal S512x2816 .bf16) (x1 : Vec Ideal S512x2816 .bf16) (x2 : Vec Ideal S1x2816x1024 .bf16) (x3 : Vec Ideal S1x2816x1024 .bf16) (x4 : Vec Ideal S512x1024 .f32) (x5 : Vec Ideal S1x1024 .f32) (x6 : Vec Ideal S512x1024 .f32) :
    out0_A_7 (F := Ideal) c i a1 h1 a2 h2 a3 h3 a4 h4 a5 h5 a6 h6 a7 h7 a8 h8 a9 h9 a10 h10 hc0 x0 x1 x2 x3 x4 x5 x6 = dxTile (prod x0 x1 x2 x3) x4 x5 x6 := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5 x6)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h10.read_unread, View.ld_unit_zero (S := S512x2816) hz2, View.ld_unit_zero (S := S1x2816x1024) hz3, View.ld_unit_zero (S := S512x1024) hz2, View.ld_unit_zero (S := S1x1024) hz2]
  rw [pay_prod, pay_dx]

theorem out_A_8 (c : Dev nD) (i : grid0.Coords) (a1 : Memref sig .tc .vmem S512x2816 .bf16) (h1 : a1.IsWhole) (a2 : Memref sig .tc .vmem S512x2816 .bf16) (h2 : a2.IsWhole) (a3 : Memref sig .tc .vmem S1x2816x1024 .bf16) (h3 : a3.IsWhole) (a4 : Memref sig .tc .vmem S1x2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : cond0_0 i) (x0 : Vec Ideal S512x2816 .bf16) (x1 : Vec Ideal S512x2816 .bf16) (x2 : Vec Ideal S1x2816x1024 .bf16) (x3 : Vec Ideal S1x2816x1024 .bf16) (x4 : Vec Ideal S512x1024 .f32) (x5 : Vec Ideal S1x1024 .f32) (x6 : Vec Ideal S512x1024 .f32) :
    out0_A_8 (F := Ideal) c i a1 h1 a2 h2 a3 h3 a4 h4 a5 h5 a6 h6 a7 h7 a8 h8 a9 h9 a10 h10 hc0 x0 x1 x2 x3 x4 x5 x6 = dxTileB (prod x0 x1 x2 x3) x4 x5 x6 := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5 x6)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h10.read_unread, View.ld_unit_zero (S := S512x2816) hz2, View.ld_unit_zero (S := S1x2816x1024) hz3, View.ld_unit_zero (S := S512x1024) hz2, View.ld_unit_zero (S := S1x1024) hz2]
  rw [pay_prod, pay_dxb]

theorem out_B_7 (c : Dev nD) (i : grid0.Coords) (a1 : Memref sig .tc .vmem S512x2816 .bf16) (h1 : a1.IsWhole) (a2 : Memref sig .tc .vmem S512x2816 .bf16) (h2 : a2.IsWhole) (a3 : Memref sig .tc .vmem S1x2816x1024 .bf16) (h3 : a3.IsWhole) (a4 : Memref sig .tc .vmem S1x2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : ¬cond0_0 i) (x0 : Vec Ideal S512x2816 .bf16) (x1 : Vec Ideal S512x2816 .bf16) (x2 : Vec Ideal S1x2816x1024 .bf16) (x3 : Vec Ideal S1x2816x1024 .bf16) (x4 : Vec Ideal S512x1024 .f32) (x5 : Vec Ideal S1x1024 .f32) (x6 : Vec Ideal S512x1024 .f32) (s : Vec Ideal S1x1024 .f32) :
    out0_B_7 (F := Ideal) c i a1 h1 a2 h2 a3 h3 a4 h4 a5 h5 a6 h6 a7 h7 a8 h8 a9 h9 a10 h10 hc0 x0 x1 x2 x3 x4 x5 x6 s = dxTile (prod x0 x1 x2 x3) x4 x5 x6 := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 x6 s)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h10.read_unread, View.ld_unit_zero (S := S512x2816) hz2, View.ld_unit_zero (S := S1x2816x1024) hz3, View.ld_unit_zero (S := S512x1024) hz2, View.ld_unit_zero (S := S1x1024) hz2]
  rw [pay_prod, pay_dx]

theorem out_B_8 (c : Dev nD) (i : grid0.Coords) (a1 : Memref sig .tc .vmem S512x2816 .bf16) (h1 : a1.IsWhole) (a2 : Memref sig .tc .vmem S512x2816 .bf16) (h2 : a2.IsWhole) (a3 : Memref sig .tc .vmem S1x2816x1024 .bf16) (h3 : a3.IsWhole) (a4 : Memref sig .tc .vmem S1x2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : ¬cond0_0 i) (x0 : Vec Ideal S512x2816 .bf16) (x1 : Vec Ideal S512x2816 .bf16) (x2 : Vec Ideal S1x2816x1024 .bf16) (x3 : Vec Ideal S1x2816x1024 .bf16) (x4 : Vec Ideal S512x1024 .f32) (x5 : Vec Ideal S1x1024 .f32) (x6 : Vec Ideal S512x1024 .f32) (s : Vec Ideal S1x1024 .f32) :
    out0_B_8 (F := Ideal) c i a1 h1 a2 h2 a3 h3 a4 h4 a5 h5 a6 h6 a7 h7 a8 h8 a9 h9 a10 h10 hc0 x0 x1 x2 x3 x4 x5 x6 s = dxTileB (prod x0 x1 x2 x3) x4 x5 x6 := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 x6 s)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h10.read_unread, View.ld_unit_zero (S := S512x2816) hz2, View.ld_unit_zero (S := S1x2816x1024) hz3, View.ld_unit_zero (S := S512x1024) hz2, View.ld_unit_zero (S := S1x1024) hz2]
  rw [pay_prod, pay_dxb]

theorem out_A_9 (c : Dev nD) (i : grid0.Coords) (a1 : Memref sig .tc .vmem S512x2816 .bf16) (h1 : a1.IsWhole) (a2 : Memref sig .tc .vmem S512x2816 .bf16) (h2 : a2.IsWhole) (a3 : Memref sig .tc .vmem S1x2816x1024 .bf16) (h3 : a3.IsWhole) (a4 : Memref sig .tc .vmem S1x2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : cond0_0 i) (x0 : Vec Ideal S512x2816 .bf16) (x1 : Vec Ideal S512x2816 .bf16) (x2 : Vec Ideal S1x2816x1024 .bf16) (x3 : Vec Ideal S1x2816x1024 .bf16) (x4 : Vec Ideal S512x1024 .f32) (x5 : Vec Ideal S1x1024 .f32) (x6 : Vec Ideal S512x1024 .f32) :
    out0_A_9 (F := Ideal) c i a1 h1 a2 h2 a3 h3 a4 h4 a5 h5 a6 h6 a7 h7 a8 h8 a9 h9 a10 h10 hc0 x0 x1 x2 x3 x4 x5 x6 = plus (k0_pay6 (F := Ideal)) (gTile (prod x0 x1 x2 x3) x4) := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4 x5 x6)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h10.read_unread, View.ld_unit_zero (S := S512x2816) hz2, View.ld_unit_zero (S := S1x2816x1024) hz3, View.ld_unit_zero (S := S512x1024) hz2, View.ld_unit_zero (S := S1x1024) hz2]
  rw [pay_dg]

theorem out_B_9 (c : Dev nD) (i : grid0.Coords) (a1 : Memref sig .tc .vmem S512x2816 .bf16) (h1 : a1.IsWhole) (a2 : Memref sig .tc .vmem S512x2816 .bf16) (h2 : a2.IsWhole) (a3 : Memref sig .tc .vmem S1x2816x1024 .bf16) (h3 : a3.IsWhole) (a4 : Memref sig .tc .vmem S1x2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (a9 : Memref sig .tc .vmem S512x1024 .bf16) (h9 : a9.IsWhole) (a10 : Memref sig .tc .vmem S1x1024 .f32) (h10 : a10.IsWhole)
    (hc0 : ¬cond0_0 i) (x0 : Vec Ideal S512x2816 .bf16) (x1 : Vec Ideal S512x2816 .bf16) (x2 : Vec Ideal S1x2816x1024 .bf16) (x3 : Vec Ideal S1x2816x1024 .bf16) (x4 : Vec Ideal S512x1024 .f32) (x5 : Vec Ideal S1x1024 .f32) (x6 : Vec Ideal S512x1024 .f32) (s : Vec Ideal S1x1024 .f32) :
    out0_B_9 (F := Ideal) c i a1 h1 a2 h2 a3 h3 a4 h4 a5 h5 a6 h6 a7 h7 a8 h8 a9 h9 a10 h10 hc0 x0 x1 x2 x3 x4 x5 x6 s = plus s (gTile (prod x0 x1 x2 x3) x4) := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 x5 x6 s)]
  unfold kernelRun0_B
  dsimp only
  sl_unfold_words
  rw [View.canon_unit_zero (S := S1x1024) hz2]
  simp only [View.readAt_eq_ld, h1.read_unread, h2.read_unread, h3.read_unread, h4.read_unread, h5.read_unread, h6.read_unread, h7.read_unread, h10.read_unread, View.ld_unit_zero (S := S512x2816) hz2, View.ld_unit_zero (S := S1x2816x1024) hz3, View.ld_unit_zero (S := S512x1024) hz2, View.ld_unit_zero (S := S1x1024) hz2]
  rw [pay_dg]

/-- The cotangent of the normalised rows at a grid point. -/
abbrev prodAt (c : Dev nD) (t : Fin cfg0.N) : Vec Ideal S512x1024 .f32 := prod (iblk m c 0 t) (iblk m c 1 t) (iblk m c 2 t) (iblk m c 3 t)

theorem at1 (c : Dev nD) (t : Fin cfg0.N) : (outsAt0 m c t.val t.isLt).1 = dxTile (prodAt m c t) (iblk m c 4 t) (iblk m c 5 t) (iblk m c 6 t) := by
  by_cases h : t.val % 8 = 0
  · rw [outsAt0_A m c t h]
    dsimp only
    rw [out_A_7]
  · rw [outsAt0_B m c t h]
    dsimp only
    rw [out_B_7]

theorem at2 (c : Dev nD) (t : Fin cfg0.N) : (outsAt0 m c t.val t.isLt).2.1 = dxTileB (prodAt m c t) (iblk m c 4 t) (iblk m c 5 t) (iblk m c 6 t) := by
  by_cases h : t.val % 8 = 0
  · rw [outsAt0_A m c t h]
    dsimp only
    rw [out_A_8]
  · rw [outsAt0_B m c t h]
    dsimp only
    rw [out_B_8]

/-- The gradient of the gain over the tiles up to a point. -/
def upTo (c : Dev nD) : (n : ℕ) → n < cfg0.N → Vec Ideal S1x1024 .f32
  | 0, h => plus (k0_pay6 (F := Ideal)) (gTile (prodAt m c ⟨0, h⟩) (iblk m c 4 ⟨0, h⟩))
  | n + 1, h => plus (upTo c n (Nat.lt_of_succ_lt h)) (gTile (prodAt m c ⟨n + 1, h⟩) (iblk m c 4 ⟨n + 1, h⟩))

theorem at3 (c : Dev nD) : ∀ (n : ℕ) (h : n < cfg0.N), (outsAt0 m c n h).2.2 = upTo m c n h
  | 0, h => by
    have e := outsAt0_A m c ⟨0, h⟩ rfl
    dsimp only at e
    rw [e]
    dsimp only
    rw [out_A_9]
    rfl
  | n + 1, h => by
    have hN : cfg0.N = 8 := N_0
    have hn : ¬(n + 1) % 8 = 0 := by omega
    have e := outsAt0_B m c ⟨n + 1, h⟩ hn
    dsimp only at e
    rw [e]
    dsimp only
    rw [out_B_9]
    have e' : (outsAt0 m c (n + 1 - 1) (Nat.lt_of_le_of_lt (Nat.sub_le _ _) h)).2.2 = _ := at3 c n (Nat.lt_of_succ_lt h)
    rw [e']
    rfl

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem idx3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)
theorem idx8 : ∀ t : Fin cfg0.N, win0_8.index t 0 = t.val ∧ win0_8.index t 1 = 0 :=
  (by decide +kernel : ∀ t : Fin grid0.N, win0_8.index t 0 = t.val ∧ win0_8.index t 1 = 0)
theorem idx9 : ∀ t : Fin cfg0.N, win0_9.index t 0 = 0 ∧ win0_9.index t 1 = 0 :=
  (by decide +kernel : ∀ t : Fin grid0.N, win0_9.index t 0 = 0 ∧ win0_9.index t 1 = 0)

/-- Row `r` of the tile at point `t`. -/
def row (t : Fin cfg0.N) (r : Fin 512) : Fin 4096 :=
  ⟨t.val * 512 + r.val, by have h := t.isLt; have h' : cfg0.N = 8 := N_0; have := r.isLt; omega⟩

/-! The arguments. -/
abbrev a0 (c : Dev nD) : FVec Ideal S4096x2816 .bf16 := m ((c : Thread nD τ).loc main_arg0)
abbrev a1 (c : Dev nD) : FVec Ideal S4096x2816 .bf16 := m ((c : Thread nD τ).loc main_arg1)
abbrev a2 (c : Dev nD) : FVec Ideal S1024x2816 .f32 := m ((c : Thread nD τ).loc main_arg2)
abbrev a3 (c : Dev nD) : FVec Ideal S1024x2816 .f32 := m ((c : Thread nD τ).loc main_arg3)
abbrev a4 (c : Dev nD) : FVec Ideal S4096x1024 .f32 := m ((c : Thread nD τ).loc main_arg4)
abbrev a5 (c : Dev nD) : FVec Ideal S1x1024 .f32 := m ((c : Thread nD τ).loc main_arg5)
abbrev a6 (c : Dev nD) : FVec Ideal S4096x1024 .f32 := m ((c : Thread nD τ).loc main_arg6)

theorem blk0 (c : Dev nD) (t : Fin cfg0.N) (r : Fin 512) (k : Fin 2816) :
    (iblk m c 0 t : FVec Ideal S512x2816 .bf16) (ix2 r k) = a0 m c (ix2 (row t r) k) := by
  unfold a0; rw [← V_main_arg0 m c]
  unfold iblk
  rw [View.read_apply]
  show V m c main_arg0 _ = V m c main_arg0 _
  congr 1
  funext a
  apply Fin.ext
  match a with
  | ⟨0, _⟩ => show win0_0.index t 0 * 512 + 1 * r.val = t.val * 512 + r.val; rw [(idx0 t).1]; omega
  | ⟨1, _⟩ => show win0_0.index t 1 * 2816 + 1 * k.val = k.val; rw [(idx0 t).2]; omega

theorem blk1 (c : Dev nD) (t : Fin cfg0.N) (r : Fin 512) (k : Fin 2816) :
    (iblk m c 1 t : FVec Ideal S512x2816 .bf16) (ix2 r k) = a1 m c (ix2 (row t r) k) := by
  unfold a1; rw [← V_main_arg1 m c]
  unfold iblk
  rw [View.read_apply]
  show V m c main_arg1 _ = V m c main_arg1 _
  congr 1
  funext a
  apply Fin.ext
  match a with
  | ⟨0, _⟩ => show win0_1.index t 0 * 512 + 1 * r.val = t.val * 512 + r.val; rw [(idx1 t).1]; omega
  | ⟨1, _⟩ => show win0_1.index t 1 * 2816 + 1 * k.val = k.val; rw [(idx1 t).2]; omega

theorem V_w0 (c : Dev nD) : (V m c main_v2 : FVec Ideal S1x2816x1024 .bf16)
    = truncf .bf16 (broadcastInDim S1x2816x1024 ![1, 2] bcast_S2816x1024_S1x2816x1024_1_2 (transpose S2816x1024 [1, 0] (a2 m c) transposes_S1024x2816_S2816x1024_1_0)) bitsLt_bf16_f32 := by
  show StableHlo.after hostOps0 _ _ = _
  after_results

theorem V_w0_apply (c : Dev nD) (z : Fin 1) (k : Fin 2816) (l : Fin 1024) :
    (V m c main_v2 : FVec Ideal S1x2816x1024 .bf16) (ix3 z k l) = a2 m c (ix2 l k) := by
  rw [V_w0]
  pointwise

theorem blk2 (c : Dev nD) (t : Fin cfg0.N) (k : Fin 2816) (l : Fin 1024) :
    (iblk m c 2 t : FVec Ideal S1x2816x1024 .bf16) (ix3 0 k l) = a2 m c (ix2 l k) := by
  rw [← V_w0_apply m c 0 k l]
  unfold iblk
  rw [View.read_apply]
  show V m c main_v2 _ = V m c main_v2 _
  congr 1
  funext a
  apply Fin.ext
  match a with
  | ⟨0, _⟩ => show win0_2.index t 0 * 1 + 1 * 0 = 0; rw [(idx2 t).1]
  | ⟨1, _⟩ => show win0_2.index t 1 * 2816 + 1 * k.val = k.val; rw [(idx2 t).2.1]; omega
  | ⟨2, _⟩ => show win0_2.index t 2 * 1024 + 1 * l.val = l.val; rw [(idx2 t).2.2]; omega

theorem V_w1 (c : Dev nD) : (V m c main_v5 : FVec Ideal S1x2816x1024 .bf16)
    = truncf .bf16 (broadcastInDim S1x2816x1024 ![1, 2] bcast_S2816x1024_S1x2816x1024_1_2 (transpose S2816x1024 [1, 0] (a3 m c) transposes_S1024x2816_S2816x1024_1_0)) bitsLt_bf16_f32 := by
  show StableHlo.after hostOps0 _ _ = _
  after_results

theorem V_w1_apply (c : Dev nD) (z : Fin 1) (k : Fin 2816) (l : Fin 1024) :
    (V m c main_v5 : FVec Ideal S1x2816x1024 .bf16) (ix3 z k l) = a3 m c (ix2 l k) := by
  rw [V_w1]
  pointwise

theorem blk3 (c : Dev nD) (t : Fin cfg0.N) (k : Fin 2816) (l : Fin 1024) :
    (iblk m c 3 t : FVec Ideal S1x2816x1024 .bf16) (ix3 0 k l) = a3 m c (ix2 l k) := by
  rw [← V_w1_apply m c 0 k l]
  unfold iblk
  rw [View.read_apply]
  show V m c main_v5 _ = V m c main_v5 _
  congr 1
  funext a
  apply Fin.ext
  match a with
  | ⟨0, _⟩ => show win0_3.index t 0 * 1 + 1 * 0 = 0; rw [(idx3 t).1]
  | ⟨1, _⟩ => show win0_3.index t 1 * 2816 + 1 * k.val = k.val; rw [(idx3 t).2.1]; omega
  | ⟨2, _⟩ => show win0_3.index t 2 * 1024 + 1 * l.val = l.val; rw [(idx3 t).2.2]; omega

theorem blk4 (c : Dev nD) (t : Fin cfg0.N) (r : Fin 512) (k : Fin 1024) :
    (iblk m c 4 t : FVec Ideal S512x1024 .f32) (ix2 r k) = a4 m c (ix2 (row t r) k) := by
  unfold a4; rw [← V_main_arg4 m c]
  unfold iblk
  rw [View.read_apply]
  show V m c main_arg4 _ = V m c main_arg4 _
  congr 1
  funext a
  apply Fin.ext
  match a with
  | ⟨0, _⟩ => show win0_4.index t 0 * 512 + 1 * r.val = t.val * 512 + r.val; rw [(idx4 t).1]; omega
  | ⟨1, _⟩ => show win0_4.index t 1 * 1024 + 1 * k.val = k.val; rw [(idx4 t).2]; omega

theorem blk6 (c : Dev nD) (t : Fin cfg0.N) (r : Fin 512) (k : Fin 1024) :
    (iblk m c 6 t : FVec Ideal S512x1024 .f32) (ix2 r k) = a6 m c (ix2 (row t r) k) := by
  unfold a6; rw [← V_main_arg6 m c]
  unfold iblk
  rw [View.read_apply]
  show V m c main_arg6 _ = V m c main_arg6 _
  congr 1
  funext a
  apply Fin.ext
  match a with
  | ⟨0, _⟩ => show win0_6.index t 0 * 512 + 1 * r.val = t.val * 512 + r.val; rw [(idx6 t).1]; omega
  | ⟨1, _⟩ => show win0_6.index t 1 * 1024 + 1 * k.val = k.val; rw [(idx6 t).2]; omega

theorem blk5 (c : Dev nD) (t : Fin cfg0.N) (z : Fin 1) (k : Fin 1024) :
    (iblk m c 5 t : FVec Ideal S1x1024 .f32) (ix2 z k) = a5 m c (ix2 z k) := by
  unfold a5; rw [← V_main_arg5 m c]
  unfold iblk
  rw [View.read_apply]
  show V m c main_arg5 _ = V m c main_arg5 _
  congr 1
  funext a
  apply Fin.ext
  match a with
  | ⟨0, _⟩ => show win0_5.index t 0 * 1 + 1 * z.val = z.val; rw [(idx5 t).1]; omega
  | ⟨1, _⟩ => show win0_5.index t 1 * 1024 + 1 * k.val = k.val; rw [(idx5 t).2]; omega

/-- The cotangent of the normalised rows. -/
def cot (y0 : FVec Ideal S4096x2816 .bf16) (y1 : FVec Ideal S4096x2816 .bf16) (w0 : FVec Ideal S1024x2816 .f32) (w1 : FVec Ideal S1024x2816 .f32) : FVec Ideal S4096x1024 .f32 :=
  fun i => ((∑ k : Fin 2816, (y0 (ix2 (i 0) k) : EReal) * w0 (ix2 (i 1) k)) + (∑ k : Fin 2816, (y1 (ix2 (i 0) k) : EReal) * w1 (ix2 (i 1) k)) : EReal)

/-- The gradient of the rows. -/
def dxTotal (a x : FVec Ideal S4096x1024 .f32) (g : FVec Ideal S1x1024 .f32) (d : FVec Ideal S4096x1024 .f32) : Vec Ideal S4096x1024 .f32 :=
  fun j => (normGrad width tiny (fun k : Fin 1024 => (a (ix2 (j 0) k) : EReal)) (fun k => x (ix2 (j 0) k)) (fun k => g (ix2 0 k)) (d j) (j 1) : EReal)

def dxTotalB (a x : FVec Ideal S4096x1024 .f32) (g : FVec Ideal S1x1024 .f32) (d : FVec Ideal S4096x1024 .f32) : Vec Ideal S4096x1024 .bf16 :=
  fun j => (dxTotal a x g d j : EReal)

/-- The gradient of the gain: a sum over all rows. -/
def gTotal (a x : FVec Ideal S4096x1024 .f32) : Vec Ideal S1x1024 .f32 :=
  fun j => (∑ r : Fin 4096, (a (ix2 r (j 1)) : EReal) * (x (ix2 r (j 1)) * Ideal.rsqrt (meanSq width tiny (fun k : Fin 1024 => (x (ix2 r k) : EReal)))) : EReal)

abbrev cotAt (c : Dev nD) : FVec Ideal S4096x1024 .f32 := cot (a0 m c) (a1 m c) (a2 m c) (a3 m c)

theorem prodAt_eq (c : Dev nD) (t : Fin cfg0.N) (r : Fin 512) (l : Fin 1024) :
    prodAt m c t (ix2 r l) = cotAt m c (ix2 (row t r) l) := by
  unfold prodAt prod cotAt cot
  refine congrArg₂ (· + ·) (Finset.sum_congr rfl fun k _ => congrArg₂ (· * ·) (blk0 m c t r k) (blk2 m c t k l)) (Finset.sum_congr rfl fun k _ => congrArg₂ (· * ·) (blk1 m c t r k) (blk3 m c t k l))

theorem dx_eq (c : Dev nD) (t : Fin cfg0.N) (r : Fin 512) (l : Fin 1024) :
    (outsAt0 m c t.val t.isLt).1 (ix2 r l) = dxTotal (cotAt m c) (a4 m c) (a5 m c) (a6 m c) (ix2 (row t r) l) := by
  rw [at1]
  have e1 : (fun k : Fin 1024 => (prodAt m c t (ix2 r k) : EReal)) = fun k => cotAt m c (ix2 (row t r) k) := funext fun k => prodAt_eq m c t r k
  have e2 : (fun k : Fin 1024 => ((iblk m c 4 t : FVec Ideal S512x1024 .f32) (ix2 r k) : EReal)) = fun k => a4 m c (ix2 (row t r) k) := funext fun k => blk4 m c t r k
  have e3 : (fun k : Fin 1024 => ((iblk m c 5 t : FVec Ideal S1x1024 .f32) (ix2 0 k) : EReal)) = fun k => a5 m c (ix2 0 k) := funext fun k => blk5 m c t 0 k
  have e4 : ((iblk m c 6 t : FVec Ideal S512x1024 .f32) (ix2 r l) : EReal) = a6 m c (ix2 (row t r) l) := blk6 m c t r l
  show normGrad width tiny (fun k : Fin 1024 => (prodAt m c t (ix2 r k) : EReal)) (fun k => (iblk m c 4 t : FVec Ideal S512x1024 .f32) (ix2 r k)) (fun k => (iblk m c 5 t : FVec Ideal S1x1024 .f32) (ix2 0 k)) ((iblk m c 6 t : FVec Ideal S512x1024 .f32) (ix2 r l)) l = _
  rw [e1, e2, e3, e4]
  rfl

theorem dxb_eq (c : Dev nD) (t : Fin cfg0.N) (r : Fin 512) (l : Fin 1024) :
    (outsAt0 m c t.val t.isLt).2.1 (ix2 r l) = dxTotalB (cotAt m c) (a4 m c) (a5 m c) (a6 m c) (ix2 (row t r) l) := by
  have e := dx_eq m c t r l
  rw [at1] at e
  rw [at2]
  exact e

theorem gTile_eq (c : Dev nD) (t : Fin cfg0.N) (j : S1x1024.Idx) :
    gTile (prodAt m c t) (iblk m c 4 t) j = ∑ r : Fin 512, (cotAt m c (ix2 (row t r) (j 1)) : EReal) * (a4 m c (ix2 (row t r) (j 1)) * Ideal.rsqrt (meanSq width tiny (fun k : Fin 1024 => (a4 m c (ix2 (row t r) k) : EReal)))) := by
  unfold gTile
  refine Finset.sum_congr rfl fun r _ => ?_
  have e2 : (fun k : Fin 1024 => ((iblk m c 4 t : FVec Ideal S512x1024 .f32) (ix2 r k) : EReal)) = fun k => a4 m c (ix2 (row t r) k) := funext fun k => blk4 m c t r k
  exact congrArg₂ (· * ·) (prodAt_eq m c t r (j 1)) (congrArg₂ (· * ·) (blk4 m c t r (j 1)) (congrArg (fun f => Ideal.rsqrt (meanSq width tiny f)) e2))

theorem zero_pay (j : S1x1024.Idx) : (k0_pay6 (F := Ideal) j : EReal) = 0 := by
  unfold_payloads
  pointwise

theorem dg_eq (c : Dev nD) (h : 7 < cfg0.N) (j : S1x1024.Idx) : upTo m c 7 h j = gTotal (cotAt m c) (a4 m c) j := by
  have hN : cfg0.N = 8 := N_0
  have g : ∀ s (hs : s < cfg0.N), (gTile (prodAt m c ⟨s, hs⟩) (iblk m c 4 ⟨s, hs⟩) j : EReal) = _ := fun s hs => gTile_eq m c ⟨s, hs⟩ j
  unfold upTo upTo upTo upTo upTo upTo upTo upTo
  unfold plus
  dsimp only
  rw [zero_pay, zero_add]
  simp only [g]
  unfold gTotal
  rw [Fin.sum_univ_tiles (N := 4096) 8 512 (by decide), Fin.sum_univ_eight]
  rfl

/-- The point whose tile holds a row. -/
def ptOf (i : S4096x1024.Idx) : Fin cfg0.N :=
  ⟨(i 0).val / 512, by have h : cfg0.N = 8 := N_0; have h0 : (i 0).val < 4096 := (i 0).isLt; omega⟩

theorem flushed7_eq (c : Dev nD) (t : Fin cfg0.N) (hf : (cfg0.win 7).flush t = true) :
    (dats m 0 c).flushed 7 t = ((cfg0.win 7).blk t).view.read (Elt Ideal) (dxTotal (cotAt m c) (a4 m c) (a5 m c) (a6 m c)) := by
  rw [Value.flushed7]
  funext y
  rw [View.read_apply]
  have hi : ((cfg0.win 7).blk t).view.emb y = (ix2 (row t (y 0)) (y 1) : S4096x1024.Idx) := by
    funext a
    apply Fin.ext
    match a with
    | ⟨0, _⟩ => show win0_7.index t 0 * 512 + 1 * (y 0).val = t.val * 512 + (y 0).val; rw [(idx7 t).1]; omega
    | ⟨1, _⟩ => show win0_7.index t 1 * 1024 + 1 * (y 1).val = (y 1).val; rw [(idx7 t).2]; omega
  have hy : (cfg0.win 7).xinj (grid0.coords t) y = (ix2 (y 0) (y 1) : S512x1024.Idx) := by
    funext a
    match a with
    | ⟨0, _⟩ => rfl
    | ⟨1, _⟩ => rfl
  refine Eq.trans ?_ (congrArg (dxTotal (cotAt m c) (a4 m c) (a5 m c) (a6 m c)) hi.symm)
  refine Eq.trans (congrArg (outsAt0 m c t.val t.isLt).1 hy) ?_
  exact dx_eq m c t (y 0) (y 1)

theorem flush7 : ∀ t : Fin cfg0.N, (cfg0.win 7).flush t = true := (by decide +kernel : ∀ t : Fin grid0.N, (cfg0.win 7).flush t = true)

theorem final7 (c : Dev nD) : (dats m 0 c).arrAt 7 cfg0.N = (dxTotal (cotAt m c) (a4 m c) (a5 m c) (a6 m c) : Vec Ideal S4096x1024 .f32) :=
  (dats m 0 c).arrAt_eq_of_cover 7 _ (flushed7_eq m c) fun i => ⟨ptOf i, flush7 _, by
    show i ∈ ((View.whole main_v6_0).slice (win0_7.rect (ptOf i))).set
    rw [View.set_slice_whole, Rect.mem_set_unit]
    intro a
    have h0 : (i 0 : Nat) < 4096 := (i 0).isLt
    have h1 : (i 1 : Nat) < 1024 := (i 1).isLt
    have hp : (ptOf i).val = (i 0 : Nat) / 512 := rfl
    match a with
    | ⟨0, _⟩ => show win0_7.index (ptOf i) 0 * 512 ≤ (i 0 : Nat) ∧ (i 0 : Nat) < win0_7.index (ptOf i) 0 * 512 + 512
                rw [(idx7 (ptOf i)).1]; omega
    | ⟨1, _⟩ => show win0_7.index (ptOf i) 1 * 1024 ≤ (i 1 : Nat) ∧ (i 1 : Nat) < win0_7.index (ptOf i) 1 * 1024 + 1024
                rw [(idx7 (ptOf i)).2]; omega⟩

theorem flushed8_eq (c : Dev nD) (t : Fin cfg0.N) (hf : (cfg0.win 8).flush t = true) :
    (dats m 0 c).flushed 8 t = ((cfg0.win 8).blk t).view.read (Elt Ideal) (dxTotalB (cotAt m c) (a4 m c) (a5 m c) (a6 m c)) := by
  rw [Value.flushed8]
  funext y
  rw [View.read_apply]
  have hi : ((cfg0.win 8).blk t).view.emb y = (ix2 (row t (y 0)) (y 1) : S4096x1024.Idx) := by
    funext a
    apply Fin.ext
    match a with
    | ⟨0, _⟩ => show win0_8.index t 0 * 512 + 1 * (y 0).val = t.val * 512 + (y 0).val; rw [(idx8 t).1]; omega
    | ⟨1, _⟩ => show win0_8.index t 1 * 1024 + 1 * (y 1).val = (y 1).val; rw [(idx8 t).2]; omega
  have hy : (cfg0.win 8).xinj (grid0.coords t) y = (ix2 (y 0) (y 1) : S512x1024.Idx) := by
    funext a
    match a with
    | ⟨0, _⟩ => rfl
    | ⟨1, _⟩ => rfl
  refine Eq.trans ?_ (congrArg (dxTotalB (cotAt m c) (a4 m c) (a5 m c) (a6 m c)) hi.symm)
  refine Eq.trans (congrArg (outsAt0 m c t.val t.isLt).2.1 hy) ?_
  exact dxb_eq m c t (y 0) (y 1)

theorem flush8 : ∀ t : Fin cfg0.N, (cfg0.win 8).flush t = true := (by decide +kernel : ∀ t : Fin grid0.N, (cfg0.win 8).flush t = true)

theorem final8 (c : Dev nD) : (dats m 0 c).arrAt 8 cfg0.N = (dxTotalB (cotAt m c) (a4 m c) (a5 m c) (a6 m c) : Vec Ideal S4096x1024 .bf16) :=
  (dats m 0 c).arrAt_eq_of_cover 8 _ (flushed8_eq m c) fun i => ⟨ptOf i, flush8 _, by
    show i ∈ ((View.whole main_v6_1).slice (win0_8.rect (ptOf i))).set
    rw [View.set_slice_whole, Rect.mem_set_unit]
    intro a
    have h0 : (i 0 : Nat) < 4096 := (i 0).isLt
    have h1 : (i 1 : Nat) < 1024 := (i 1).isLt
    have hp : (ptOf i).val = (i 0 : Nat) / 512 := rfl
    match a with
    | ⟨0, _⟩ => show win0_8.index (ptOf i) 0 * 512 ≤ (i 0 : Nat) ∧ (i 0 : Nat) < win0_8.index (ptOf i) 0 * 512 + 512
                rw [(idx8 (ptOf i)).1]; omega
    | ⟨1, _⟩ => show win0_8.index (ptOf i) 1 * 1024 ≤ (i 1 : Nat) ∧ (i 1 : Nat) < win0_8.index (ptOf i) 1 * 1024 + 1024
                rw [(idx8 (ptOf i)).2]; omega⟩

theorem flush9 : ∀ t : Fin cfg0.N, (cfg0.win 9).flush t = true ↔ t.val = 7 := (by decide +kernel : ∀ t : Fin grid0.N, (cfg0.win 9).flush t = true ↔ t.val = 7)

theorem flushed9_eq (c : Dev nD) (t : Fin cfg0.N) (hf : (cfg0.win 9).flush t = true) :
    (dats m 0 c).flushed 9 t = ((cfg0.win 9).blk t).view.read (Elt Ideal) (gTotal (cotAt m c) (a4 m c)) := by
  have h : t.val = 7 := (flush9 t).mp hf
  rw [Value.flushed9]
  funext y
  rw [View.read_apply]
  have hi : ((cfg0.win 9).blk t).view.emb y = (ix2 (y 0) (y 1) : S1x1024.Idx) := by
    funext a
    apply Fin.ext
    match a with
    | ⟨0, _⟩ => show win0_9.index t 0 * 1 + 1 * (y 0).val = (y 0).val; rw [(idx9 t).1]; omega
    | ⟨1, _⟩ => show win0_9.index t 1 * 1024 + 1 * (y 1).val = (y 1).val; rw [(idx9 t).2]; omega
  have hy : (cfg0.win 9).xinj (grid0.coords t) y = (ix2 (y 0) (y 1) : S1x1024.Idx) := by
    funext a
    match a with
    | ⟨0, _⟩ => rfl
    | ⟨1, _⟩ => rfl
  refine Eq.trans ?_ (congrArg (gTotal (cotAt m c) (a4 m c)) hi.symm)
  refine Eq.trans (congrArg (outsAt0 m c t.val t.isLt).2.2 hy) ?_
  obtain ⟨n, hn⟩ := t
  dsimp only at h
  subst h
  rw [at3]
  exact dg_eq m c hn _

/-- The last point. -/
def lastPt : Fin cfg0.N := ⟨7, by have h : cfg0.N = 8 := N_0; omega⟩

theorem final9 (c : Dev nD) : (dats m 0 c).arrAt 9 cfg0.N = (gTotal (cotAt m c) (a4 m c) : Vec Ideal S1x1024 .f32) :=
  (dats m 0 c).arrAt_eq_of_cover 9 _ (flushed9_eq m c) fun i => ⟨lastPt, (flush9 lastPt).mpr rfl, by
    show i ∈ ((View.whole main_v6_2).slice (win0_9.rect lastPt)).set
    rw [View.set_slice_whole, Rect.mem_set_unit]
    intro a
    have h0 : (i 0 : Nat) < 1 := (i 0).isLt
    have h1 : (i 1 : Nat) < 1024 := (i 1).isLt
    match a with
    | ⟨0, _⟩ => show win0_9.index lastPt 0 * 1 ≤ (i 0 : Nat) ∧ (i 0 : Nat) < win0_9.index lastPt 0 * 1 + 1
                rw [(idx9 lastPt).1]; omega
    | ⟨1, _⟩ => show win0_9.index lastPt 1 * 1024 ≤ (i 1 : Nat) ∧ (i 1 : Nat) < win0_9.index lastPt 1 * 1024 + 1024
                rw [(idx9 lastPt).2]; omega⟩

end Cert.NormGradIdeal.Hand

namespace Cert.NormGradRefIdeal.Hand

open Cert.NormGradRefIdeal Cert.NormGradRefIdeal.Gen Idealize.ShloMosaic Idealize.ShloMosaic.TcCoe Idealize.SL.Sem Cert.Finite

/-- The cotangent of the normalised rows, as the reference's products give it. -/
theorem cot_eq (x0 : FVec Ideal S4096x2816 .bf16) (x1 : FVec Ideal S4096x2816 .bf16) (x2 : FVec Ideal S1024x2816 .f32) (x3 : FVec Ideal S1024x2816 .f32) (x4 : FVec Ideal S4096x1024 .f32) (x5 : FVec Ideal S1x1024 .f32) (x6 : FVec Ideal S4096x1024 .f32) (i : S4096x1024.Idx) :
    Read.val_main_v23 (F := Ideal) x0 x1 x2 x3 i = Cert.NormGradIdeal.Hand.cot x0 x1 x2 x3 i := by
  unfold Read.val_main_v23 Read.val_main_v21 Read.val_main_v22 Read.val_main_v19 Read.val_main_v20 Cert.NormGradIdeal.Hand.cot
  pointwise
  exact add_comm _ _

theorem ref_dx (x0 : FVec Ideal S4096x2816 .bf16) (x1 : FVec Ideal S4096x2816 .bf16) (x2 : FVec Ideal S1024x2816 .f32) (x3 : FVec Ideal S1024x2816 .f32) (x4 : FVec Ideal S4096x1024 .f32) (x5 : FVec Ideal S1x1024 .f32) (x6 : FVec Ideal S4096x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S4096x1024.Idx) :
    Read.val_main_v44 (F := Ideal) x0 x1 x2 x3 x4 x5 x6 i
      = Cert.NormGradIdeal.Hand.dxTotal (Cert.NormGradIdeal.Hand.cot x0 x1 x2 x3) x4 x5 x6 i := by
  have ha : ∀ j, IsReal (Cert.NormGradIdeal.Hand.cot x0 x1 x2 x3 j) := fun j => by
    unfold Cert.NormGradIdeal.Hand.cot
    exact IsReal.add (IsReal.sum _ _ fun k _ => (h0 _).mul (h2 _)) (IsReal.sum _ _ fun k _ => (h1 _).mul (h3 _))
  have hc := funext (cot_eq x0 x1 x2 x3 x4 x5 x6)
  unfold Cert.NormGradIdeal.Hand.dxTotal
  generalize Cert.NormGradIdeal.Hand.cot x0 x1 x2 x3 = a at *
  obtain ⟨e, he, hE⟩ := ofBits_eps
  unfold Cert.NormGradIdeal.Hand.width Cert.NormGradIdeal.Hand.tiny
  have hn := norm_row 1024 e (by norm_num) he (fun k : Fin 1024 => (a (ix2 (i 0) k) : EReal)) (fun k => x4 (ix2 (i 0) k)) (fun k => x5 (ix2 0 k)) (x6 i)
    (fun k => ha _) (fun k => h4 _) (fun k => h5 _) (i 1)
  rw [← ofBits_neg_half, ← ofBits_1024, ← hE] at hn
  refine Eq.trans ?_ hn.symm
  unfold Read.val_main_v44 Read.val_main_v43 Read.val_main_v42 Read.val_main_v41 Read.val_main_v40 Read.val_main_v39 Read.val_main_v38 Read.val_main_v37 Read.val_main_v36 Read.val_main_v35 Read.val_main_v34 Read.val_main_v33 Read.val_main_v32 Read.val_main_v31 Read.val_main_v30 Read.val_main_v28 Read.val_main_v27 Read.val_main_v14 Read.val_main_v11 Read.val_main_v10 Read.val_main_v9 Read.val_main_v8 Read.val_main_v7 Read.val_main_v6 Read.val_main_v5 Read.val_main_v4 Read.val_main_v3 Read.val_main_v2 Read.val_main_v1 Read.val_main_v0 Read.val_main_cst_0 Read.val_main_cst Read.val_main_cst_1 Read.val_main_cst_2 Read.val_main_cst_5 Read.val_main_cst_6 Read.val_main_cst_7
  rw [hc]
  unfold meanSqGrad meanSq
  pointwise
  simp only [Fin.sum_univ_one]

theorem ref_dg (x0 : FVec Ideal S4096x2816 .bf16) (x1 : FVec Ideal S4096x2816 .bf16) (x2 : FVec Ideal S1024x2816 .f32) (x3 : FVec Ideal S1024x2816 .f32) (x4 : FVec Ideal S4096x1024 .f32) (x5 : FVec Ideal S1x1024 .f32) (x6 : FVec Ideal S4096x1024 .f32) (i : S1x1024.Idx) :
    Read.val_main_v46 (F := Ideal) x0 x1 x2 x3 x4 i
      = Cert.NormGradIdeal.Hand.gTotal (Cert.NormGradIdeal.Hand.cot x0 x1 x2 x3) x4 i := by
  have hc := funext (cot_eq x0 x1 x2 x3 x4 x5 x6)
  unfold Cert.NormGradIdeal.Hand.gTotal
  generalize Cert.NormGradIdeal.Hand.cot x0 x1 x2 x3 = a at *
  unfold Read.val_main_v46 Read.val_main_v29 Read.val_main_v26 Read.val_main_v25 Read.val_main_v24 Read.val_main_v13 Read.val_main_v12 Read.val_main_v8 Read.val_main_v7 Read.val_main_v6 Read.val_main_v5 Read.val_main_v4 Read.val_main_v3 Read.val_main_v2 Read.val_main_v1 Read.val_main_cst_4 Read.val_main_cst_3 Read.val_main_cst Read.val_main_cst_0 Read.val_main_cst_1
  rw [hc]
  unfold meanSq
  pointwise
  refine (Fin.sum_univ_one _).trans ?_
  exact Finset.sum_congr rfl fun k _ => mul_comm (G := EReal) _ _

theorem ref_dxb (x0 : FVec Ideal S4096x2816 .bf16) (x1 : FVec Ideal S4096x2816 .bf16) (x2 : FVec Ideal S1024x2816 .f32) (x3 : FVec Ideal S1024x2816 .f32) (x4 : FVec Ideal S4096x1024 .f32) (x5 : FVec Ideal S1x1024 .f32) (x6 : FVec Ideal S4096x1024 .f32) (h0 : ∀ i, IsReal (x0 i)) (h1 : ∀ i, IsReal (x1 i)) (h2 : ∀ i, IsReal (x2 i)) (h3 : ∀ i, IsReal (x3 i)) (h4 : ∀ i, IsReal (x4 i)) (h5 : ∀ i, IsReal (x5 i)) (i : S4096x1024.Idx) :
    Read.val_main_v45 (F := Ideal) x0 x1 x2 x3 x4 x5 x6 i
      = Cert.NormGradIdeal.Hand.dxTotalB (Cert.NormGradIdeal.Hand.cot x0 x1 x2 x3) x4 x5 x6 i := by
  have h := ref_dx x0 x1 x2 x3 x4 x5 x6 h0 h1 h2 h3 h4 h5 i
  unfold Cert.NormGradIdeal.Hand.dxTotalB
  rw [← h]
  unfold Read.val_main_v45
  generalize Read.val_main_v44 (F := Ideal) x0 x1 x2 x3 x4 x5 x6 = z
  pointwise

end Cert.NormGradRefIdeal.Hand

namespace Cert.Claims

open Idealize.ShloMosaic Idealize.ShloMosaic.TcCoe Idealize.SL.Sem Cert.Finite

/-- What the precondition says of the arguments. -/
theorem finite_norm_read (x0 : FVec Ideal Cert.Pre_finite_norm.S4096x2816 .bf16) (x1 : FVec Ideal Cert.Pre_finite_norm.S4096x2816 .bf16) (x2 : FVec Ideal Cert.Pre_finite_norm.S1024x2816 .f32) (x3 : FVec Ideal Cert.Pre_finite_norm.S1024x2816 .f32) (x4 : FVec Ideal Cert.Pre_finite_norm.S4096x1024 .f32) (x5 : FVec Ideal Cert.Pre_finite_norm.S1x1024 .f32) (x6 : FVec Ideal Cert.Pre_finite_norm.S4096x1024 .f32) [Cert.Pre_finite_norm.Facts]
    (h : Cert.Pre_finite_norm.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) := by
  have h' := congrFun h (fun a => a.elim0)
  unfold Cert.Pre_finite_norm.fn at h'

  obtain ⟨r5, q5⟩ := IntOp.andi_eq_one.1 h'
  obtain ⟨r4, q4⟩ := IntOp.andi_eq_one.1 r5
  obtain ⟨r3, q3⟩ := IntOp.andi_eq_one.1 r4
  obtain ⟨r2, q2⟩ := IntOp.andi_eq_one.1 r3
  obtain ⟨r1, q1⟩ := IntOp.andi_eq_one.1 r2
  haveI : Subsingleton Cert.Pre_finite_norm.S_.Idx := ⟨fun a b => funext fun x => x.elim0⟩
  exact ⟨isReal_of_all (extf .f32 x0 _) _ _ _ _ _ r1, isReal_of_all (extf .f32 x1 _) _ _ _ _ _ q1, isReal_of_all x2 _ _ _ _ _ q2, isReal_of_all x3 _ _ _ _ _ q3, isReal_of_all x4 _ _ _ _ _ q4, isReal_of_all x5 _ _ _ _ _ q5⟩

theorem norm_grad [hP : Cert.Pre_finite_norm.Facts] :
    Cert.algebraic_NormGradIdeal_NormGradRefIdeal_pre_finite_norm (hNormGradIdeal := Cert.NormGradIdeal.Gen.facts)
      (hNormGradRefIdeal := Cert.NormGradRefIdeal.Gen.facts) (hPre_finite_norm := hP) := by
  intro m g m' g' hpre hargs
  refine ⟨fun c => (Cert.NormGradIdeal.Hand.dxTotal (Cert.NormGradIdeal.Hand.cotAt m c) (Cert.NormGradIdeal.Hand.a4 m c) (Cert.NormGradIdeal.Hand.a5 m c) (Cert.NormGradIdeal.Hand.a6 m c) : Vec Ideal Cert.NormGradIdeal.S4096x1024 .f32),
    fun c => (Cert.NormGradIdeal.Hand.dxTotalB (Cert.NormGradIdeal.Hand.cotAt m c) (Cert.NormGradIdeal.Hand.a4 m c) (Cert.NormGradIdeal.Hand.a5 m c) (Cert.NormGradIdeal.Hand.a6 m c) : Vec Ideal Cert.NormGradIdeal.S4096x1024 .bf16),
    fun c => (Cert.NormGradIdeal.Hand.gTotal (Cert.NormGradIdeal.Hand.cotAt m c) (Cert.NormGradIdeal.Hand.a4 m c) : Vec Ideal Cert.NormGradIdeal.S1x1024 .f32),
    (θ_run Cert.NormGradIdeal.defs _ _).mono (fun r h c => ?_) (Cert.NormGradIdeal.Value.run_blocks (F := Ideal) m g),
    (θ_run Cert.NormGradRefIdeal.defs _ _).mono (fun r h c => ?_) (Cert.NormGradRefIdeal.Value.run (F := Ideal) m' g')⟩
  · exact ⟨(h c).1.trans (Cert.NormGradIdeal.Hand.final7 m c), (h c).2.1.trans (Cert.NormGradIdeal.Hand.final8 m c), (h c).2.2.1.trans (Cert.NormGradIdeal.Hand.final9 m c), (h c).2.2.2⟩
  · obtain ⟨h0, h1, h2, h3, h4, h5⟩ := finite_norm_read _ _ _ _ _ _ _ (hpre c)
    obtain ⟨e0, e1, e2, e3, e4, e5, e6⟩ := hargs c
    refine ⟨(h c).1.trans ?_, (h c).2.1.trans ?_, (h c).2.2.1.trans ?_, (h c).2.2.2⟩
    · rw [Cert.NormGradRefIdeal.Read.val_main_v44_eq, e0, e1, e2, e3, e4, e5, e6]
      exact funext fun i => Cert.NormGradRefIdeal.Hand.ref_dx _ _ _ _ _ _ _ h0 h1 h2 h3 h4 h5 i
    · rw [Cert.NormGradRefIdeal.Read.val_main_v45_eq, e0, e1, e2, e3, e4, e5, e6]
      exact funext fun i => Cert.NormGradRefIdeal.Hand.ref_dxb _ _ _ _ _ _ _ h0 h1 h2 h3 h4 h5 i
    · rw [Cert.NormGradRefIdeal.Read.val_main_v46_eq, e0, e1, e2, e3, e4]
      exact funext fun i => Cert.NormGradRefIdeal.Hand.ref_dg (Cert.NormGradIdeal.Hand.a0 m c) (Cert.NormGradIdeal.Hand.a1 m c) (Cert.NormGradIdeal.Hand.a2 m c) (Cert.NormGradIdeal.Hand.a3 m c) (Cert.NormGradIdeal.Hand.a4 m c) (Cert.NormGradIdeal.Hand.a5 m c) (Cert.NormGradIdeal.Hand.a6 m c) i

end Cert.Claims

end
-- ==== Proof.WeightGradValue.lean ====
/-
  A weight's gradient: what the kernel's result array holds, entry by entry — the sum over all rows, which
  the kernel takes in 4 tiles of 1024 rows — and that the reference's holds the same.
-/
module

public import proofs.«01_k».proof.Defs
public import proofs.«01_k».proof.Proof.Finite
public import proofs.«01_k».proof.Proof.Gen.WeightGradIdeal.Value
public import proofs.«01_k».proof.Proof.Gen.WeightGradRefIdeal.Run
public import proofs.«01_k».proof.Proof.Gen.WeightGradRefIdeal.Read
public import Idealize.ShloMosaic.Lib.Pointwise
public import Idealize.ShloMosaic.Lib.Tactic

@[expose] public section

noncomputable section

namespace Cert.WeightGradIdeal.Hand

open Cert.WeightGradIdeal Cert.WeightGradIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The product of one tile of rows: `xᵀ y`. -/
def tile (x : Vec Ideal S1024x1408 .bf16) (y : Vec Ideal S1024x1024 .bf16) : Vec Ideal S1408x1024 .f32 :=
  fun j => (∑ k : Fin 1024, (x (ix2 k (j 0)) : EReal) * y (ix2 k (j 1)) : EReal)

/-- The running sum with one more tile. -/
def plus (s p : Vec Ideal S1408x1024 .f32) : Vec Ideal S1408x1024 .f32 := fun j => (s j + p j : EReal)

/-- The first tile of a column block starts the sum. -/
theorem scratch_A (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : cond0_0 i) (hc1 : ¬cond0_1 i)
    (x : Vec Ideal S1024x1408 .bf16) (y : Vec Ideal S1024x1024 .bf16) :
    sout0_A_0 (F := Ideal) c i a3 h3 a4 h4 a5 h5 a6 h6 hc0 hc1 x y = tile x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1408x1024) hz, View.readCov_unit_zero (S := S1408x1024) _ hz]
  simp only [View.readAt_eq_ld, h3.read_unread, h4.read_unread, View.ld_unit_zero (S := S1024x1408) hz, View.ld_unit_zero (S := S1024x1024) hz]
  funext j
  unfold_payloads
  unfold tile
  pointwise

/-- A tile between adds to it. -/
theorem scratch_B (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : ¬cond0_1 i)
    (x : Vec Ideal S1024x1408 .bf16) (y : Vec Ideal S1024x1024 .bf16) (s : Vec Ideal S1408x1024 .f32) :
    sout0_B_0 (F := Ideal) c i a3 h3 a4 h4 a5 h5 a6 h6 hc0 hc1 x y s = plus s (tile x y) := by
  unfold sout0_B_0
  rw [View.read_writes_eq_canon _ _ _ (scover0_B_0 c i a3 h3 a4 h4 a5 h5 a6 h6 hc0 hc1 x y s)]
  unfold kernelRun0_B
  dsimp only
  sl_unfold_words
  rw [View.canon_unit_zero (S := S1408x1024) hz]
  simp only [View.readAt_eq_ld, h3.read_unread, h4.read_unread, h6.read_unread, View.ld_unit_zero (S := S1024x1408) hz, View.ld_unit_zero (S := S1024x1024) hz, View.ld_unit_zero (S := S1408x1024) hz]
  funext j
  unfold_payloads
  unfold plus tile
  pointwise

/-- The last tile adds to it and the sum is the result's block. -/
theorem result_C (c : Dev nD) (i : grid0.Coords) (a3 : Memref sig .tc .vmem S1024x1408 .bf16) (h3 : a3.IsWhole)
    (a4 : Memref sig .tc .vmem S1024x1024 .bf16) (h4 : a4.IsWhole) (a5 : Memref sig .tc .vmem S1408x1024 .bf16) (h5 : a5.IsWhole)
    (a6 : Memref sig .tc .vmem S1408x1024 .f32) (h6 : a6.IsWhole) (hc0 : ¬cond0_0 i) (hc1 : cond0_1 i)
    (x : Vec Ideal S1024x1408 .bf16) (y : Vec Ideal S1024x1024 .bf16) (s : Vec Ideal S1408x1024 .f32) :
    out0_C_2 (F := Ideal) c i a3 h3 a4 h4 a5 h5 a6 h6 hc0 hc1 x y s = plus s (tile x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero (S := S1408x1024) hz, View.readCov_unit_zero (S := S1408x1024) _ hz]
  simp only [View.readAt_eq_ld, h3.read_unread, h4.read_unread, h6.read_unread, View.ld_unit_zero (S := S1024x1408) hz, View.ld_unit_zero (S := S1024x1024) hz, View.ld_unit_zero (S := S1408x1024) hz]
  funext j
  unfold_payloads
  unfold plus tile
  pointwise

/-- The tile's product at a grid point. -/
abbrev tileAt (c : Dev nD) (t : Fin cfg0.N) : Vec Ideal S1408x1024 .f32 := tile (iblk m c 0 t) (iblk m c 1 t)

/-- The point before. -/
abbrev prev (t : Fin cfg0.N) : Fin cfg0.N := ⟨t.val - 1, Nat.lt_of_le_of_lt (Nat.sub_le _ _) t.isLt⟩

theorem acc0 (c : Dev nD) (t : Fin cfg0.N) (h : t.val % 4 = 0) : (outsAt0 m c t.val t.isLt).2 = tileAt m c t := by
  have h1 : ¬t.val % 4 = 3 := by omega
  rw [outsAt0_A m c t h h1]
  dsimp only
  rw [scratch_A]

theorem acc1 (c : Dev nD) (t : Fin cfg0.N) (h : t.val % 4 = 1) :
    (outsAt0 m c t.val t.isLt).2 = plus (tileAt m c (prev t)) (tileAt m c t) := by
  have h0 : ¬t.val % 4 = 0 := by omega
  have h1 : ¬t.val % 4 = 3 := by omega
  rw [outsAt0_B m c t h0 h1]
  dsimp only
  rw [scratch_B]
  have e : (outsAt0 m c (t.val - 1) (Nat.lt_of_le_of_lt (Nat.sub_le _ _) t.isLt)).2 = _ := acc0 m c (prev t) (by show (t.val - 1) % 4 = 0; omega)
  rw [e]

theorem acc2 (c : Dev nD) (t : Fin cfg0.N) (h : t.val % 4 = 2) :
    (outsAt0 m c t.val t.isLt).2 = plus (plus (tileAt m c (prev (prev t))) (tileAt m c (prev t))) (tileAt m c t) := by
  have h0 : ¬t.val % 4 = 0 := by omega
  have h1 : ¬t.val % 4 = 3 := by omega
  rw [outsAt0_B m c t h0 h1]
  dsimp only
  rw [scratch_B]
  have e : (outsAt0 m c (t.val - 1) (Nat.lt_of_le_of_lt (Nat.sub_le _ _) t.isLt)).2 = _ := acc1 m c (prev t) (by show (t.val - 1) % 4 = 1; omega)
  rw [e]

theorem res (c : Dev nD) (t : Fin cfg0.N) (h : t.val % 4 = 3) :
    (outsAt0 m c t.val t.isLt).1 = plus (plus (plus (tileAt m c (prev (prev (prev t)))) (tileAt m c (prev (prev t)))) (tileAt m c (prev t))) (tileAt m c t) := by
  have h0 : ¬t.val % 4 = 0 := by omega
  rw [outsAt0_C m c t h0 h]
  dsimp only
  rw [result_C]
  have e : (outsAt0 m c (t.val - 1) (Nat.lt_of_le_of_lt (Nat.sub_le _ _) t.isLt)).2 = _ := acc2 m c (prev t) (by show (t.val - 1) % 4 = 2; omega)
  rw [e]

theorem idx : ∀ t : Fin cfg0.N, (win0_0.index t 0 = t.val % 4 ∧ win0_0.index t 1 = t.val / 4)
    ∧ (win0_1.index t 0 = t.val % 4 ∧ win0_1.index t 1 = 0) ∧ (win0_2.index t 0 = t.val / 4 ∧ win0_2.index t 1 = 0) :=
  (by decide +kernel : ∀ t : Fin grid0.N, (win0_0.index t 0 = t.val % 4 ∧ win0_0.index t 1 = t.val / 4)
    ∧ (win0_1.index t 0 = t.val % 4 ∧ win0_1.index t 1 = 0) ∧ (win0_2.index t 0 = t.val / 4 ∧ win0_2.index t 1 = 0))

/-! The two arguments. -/
abbrev aX (c : Dev nD) : FVec Ideal S4096x2816 .bf16 := m ((c : Thread nD τ).loc main_arg0)
abbrev aY (c : Dev nD) : FVec Ideal S4096x1024 .bf16 := m ((c : Thread nD τ).loc main_arg1)

/-- Row `k` of row tile `s`. -/
def row (s : Nat) (hs : s < 4) (k : Fin 1024) : Fin 4096 := ⟨s * 1024 + k.val, by have := k.isLt; omega⟩

/-- Column `l` of column block `t / 4`. -/
def col (t : Fin cfg0.N) (l : Fin 1408) : Fin 2816 :=
  ⟨1408 * (t.val / 4) + l.val, by have h := t.isLt; have h' : cfg0.N = 8 := N_0; have := l.isLt; omega⟩

theorem blk0 (c : Dev nD) (t : Fin cfg0.N) (s : Nat) (hs : s < 4) (h : t.val % 4 = s) (k : Fin 1024) (l : Fin 1408) :
    (iblk m c 0 t : FVec Ideal S1024x1408 .bf16) (ix2 k l) = aX m c (ix2 (row s hs k) (col t l)) := by
  unfold iblk
  rw [View.read_apply]
  show V m c main_arg0 _ = _
  unfold V
  refine congrArg (aX m c) ?_
  funext a
  apply Fin.ext
  match a with
  | ⟨0, _⟩ => show win0_0.index t 0 * 1024 + 1 * k.val = s * 1024 + k.val; rw [(idx t).1.1]; omega
  | ⟨1, _⟩ => show win0_0.index t 1 * 1408 + 1 * l.val = 1408 * (t.val / 4) + l.val; rw [(idx t).1.2]; omega

theorem blk1 (c : Dev nD) (t : Fin cfg0.N) (s : Nat) (hs : s < 4) (h : t.val % 4 = s) (k : Fin 1024) (l : Fin 1024) :
    (iblk m c 1 t : FVec Ideal S1024x1024 .bf16) (ix2 k l) = aY m c (ix2 (row s hs k) l) := by
  unfold iblk
  rw [View.read_apply]
  show V m c main_arg1 _ = _
  unfold V
  refine congrArg (aY m c) ?_
  funext a
  apply Fin.ext
  match a with
  | ⟨0, _⟩ => show win0_1.index t 0 * 1024 + 1 * k.val = s * 1024 + k.val; rw [(idx t).2.1.1]; omega
  | ⟨1, _⟩ => show win0_1.index t 1 * 1024 + 1 * l.val = l.val; rw [(idx t).2.1.2]; omega

theorem tileAt_eq (c : Dev nD) (t : Fin cfg0.N) (s : Nat) (hs : s < 4) (h : t.val % 4 = s) (i : Fin 1408) (l : Fin 1024) :
    (tileAt m c t (ix2 i l) : EReal) = ∑ k : Fin 1024, (aX m c (ix2 (row s hs k) (col t i)) : EReal) * aY m c (ix2 (row s hs k) l) := by
  unfold tileAt tile
  refine Finset.sum_congr rfl fun k _ => ?_
  exact congrArg₂ (· * ·) (blk0 m c t s hs h k i) (blk1 m c t s hs h k l)

/-- The whole product `xᵀ y`, as one sum over the rows. -/
def total (x : FVec Ideal S4096x2816 .bf16) (y : FVec Ideal S4096x1024 .bf16) : Vec Ideal S2816x1024 .bf16 :=
  fun i => (∑ k : Fin 4096, (x (ix2 k (i 0)) : EReal) * y (ix2 k (i 1)) : EReal)

theorem col_prev (t : Fin cfg0.N) (h : t.val % 4 ≠ 0) (l : Fin 1408) : col (prev t) l = col t l := by
  apply Fin.ext
  show 1408 * ((t.val - 1) / 4) + l.val = 1408 * (t.val / 4) + l.val
  have : (t.val - 1) / 4 = t.val / 4 := by omega
  rw [this]

theorem res_total (c : Dev nD) (t : Fin cfg0.N) (h : t.val % 4 = 3) (i : Fin 1408) (l : Fin 1024) :
    (outsAt0 m c t.val t.isLt).1 (ix2 i l) = total (aX m c) (aY m c) (ix2 (col t i) l) := by
  rw [res m c t h]
  have m0 : (prev (prev (prev t))).val % 4 = 0 := by show (((t.val - 1) - 1) - 1) % 4 = 0; omega
  have m1 : (prev (prev t)).val % 4 = 1 := by show ((t.val - 1) - 1) % 4 = 1; omega
  have m2 : (prev t).val % 4 = 2 := by show (t.val - 1) % 4 = 2; omega
  have m3 : t.val % 4 = 3 := by exact h
  have c3 : col t i = col t i := rfl
  have c2 : col (prev t) i = col t i := (col_prev t (by rw [m3]; decide) i)
  have c1 : col (prev (prev t)) i = col t i := (col_prev (prev t) (by rw [m2]; decide) i).trans c2
  have c0 : col (prev (prev (prev t))) i = col t i := (col_prev (prev (prev t)) (by rw [m1]; decide) i).trans c1
  show (tileAt m c (prev (prev (prev t))) (ix2 i l) + tileAt m c (prev (prev t)) (ix2 i l) + tileAt m c (prev t) (ix2 i l) + tileAt m c t (ix2 i l) : EReal) = ∑ k : Fin 4096, (aX m c (ix2 k (col t i)) : EReal) * aY m c (ix2 k l)
  rw [tileAt_eq m c (prev (prev (prev t))) 0 (by decide) m0, tileAt_eq m c (prev (prev t)) 1 (by decide) m1, tileAt_eq m c (prev t) 2 (by decide) m2, tileAt_eq m c t 3 (by decide) m3]
  rw [c0, c1, c2]
  rw [Fin.sum_univ_tiles (N := 4096) 4 1024 (by decide), Fin.sum_univ_four]
  rfl

theorem flushed_eq (c : Dev nD) (t : Fin cfg0.N) (hf : (cfg0.win 2).flush t = true) :
    (dats m 0 c).flushed 2 t = ((cfg0.win 2).blk t).view.read (Elt Ideal) (total (aX m c) (aY m c)) := by
  have h : t.val % 4 = 3 := (flush0_2 t).mp hf
  rw [Value.flushed2]
  funext y
  rw [View.read_apply]
  have hi : ((cfg0.win 2).blk t).view.emb y = (ix2 (col t (y 0)) (y 1) : S2816x1024.Idx) := by
    funext a
    apply Fin.ext
    match a with
    | ⟨0, _⟩ => show win0_2.index t 0 * 1408 + 1 * (y 0).val = 1408 * (t.val / 4) + (y 0).val; rw [(idx t).2.2.1]; omega
    | ⟨1, _⟩ => show win0_2.index t 1 * 1024 + 1 * (y 1).val = (y 1).val; rw [(idx t).2.2.2]; omega
  have hy : (cfg0.win 2).xinj (grid0.coords t) y = (ix2 (y 0) (y 1) : S1408x1024.Idx) := by
    funext a
    match a with
    | ⟨0, _⟩ => rfl
    | ⟨1, _⟩ => rfl
  refine Eq.trans ?_ (congrArg (total (aX m c) (aY m c)) hi.symm)
  refine Eq.trans (congrArg (outsAt0 m c t.val t.isLt).1 hy) ?_
  exact res_total m c t h (y 0) (y 1)

theorem final (c : Dev nD) : (dats m 0 c).arrAt 2 cfg0.N = (total (aX m c) (aY m c) : Vec Ideal S2816x1024 .bf16) :=
  (dats m 0 c).arrAt_eq_of_cover 2 _ (flushed_eq m c) fun i => (Value.covered_iff2 i).2 (by
    have h0 : (i 0).val < 2816 := (i 0).isLt; have h1 : (i 1).val < 1024 := (i 1).isLt; omega)

end Cert.WeightGradIdeal.Hand

namespace Cert.WeightGradRefIdeal.Hand

open Cert.WeightGradRefIdeal Cert.WeightGradRefIdeal.Gen Idealize.ShloMosaic Idealize.ShloMosaic.TcCoe Idealize.SL.Sem

/-- The reference's gradient at an entry. -/
theorem ref_eq (x : FVec Ideal S4096x2816 .bf16) (y : FVec Ideal S4096x1024 .bf16) (i : S2816x1024.Idx) :
    Read.val_main_v6 (F := Ideal) x y i = ∑ k : Fin 4096, (x (ix2 k (i 0)) : EReal) * y (ix2 k (i 1)) := by
  rw [← Read.val_main_v6_eq]
  pointwise
  exact Finset.sum_congr rfl fun k _ => mul_comm _ _

end Cert.WeightGradRefIdeal.Hand

namespace Cert.Claims

open Idealize.ShloMosaic Idealize.ShloMosaic.TcCoe Idealize.SL.Sem

theorem weight_grad :
    Cert.algebraic_WeightGradIdeal_WeightGradRefIdeal (hWeightGradIdeal := Cert.WeightGradIdeal.Gen.facts)
      (hWeightGradRefIdeal := Cert.WeightGradRefIdeal.Gen.facts) := by
  intro m g m' g' hpre hargs
  refine ⟨fun c => (Cert.WeightGradIdeal.Hand.total (Cert.WeightGradIdeal.Hand.aX m c) (Cert.WeightGradIdeal.Hand.aY m c) : Vec Ideal Cert.WeightGradIdeal.S2816x1024 .bf16),
    (θ_run Cert.WeightGradIdeal.defs _ _).mono (fun r h c => ?_) (Cert.WeightGradIdeal.Value.run_blocks (F := Ideal) m g),
    (θ_run Cert.WeightGradRefIdeal.defs _ _).mono (fun r h c => ?_) (Cert.WeightGradRefIdeal.Value.run (F := Ideal) m' g')⟩
  · exact ⟨(h c).1.trans (Cert.WeightGradIdeal.Hand.final m c), (h c).2⟩
  · obtain ⟨e0, e1⟩ := hargs c
    refine ⟨(h c).1.trans ?_, (h c).2⟩
    rw [Cert.WeightGradRefIdeal.Read.val_main_v6_eq, e0, e1]
    exact funext fun i => Cert.WeightGradRefIdeal.Hand.ref_eq _ _ i

end Cert.Claims

end
-- ==== Proof.lean ====
/- The proof of the claims: the generated whole-kernel runs are the frames, the idealized programs rewrite
   nothing, and the value claims are the theorems of `Cert.Claims`. -/
module

public import proofs.«01_k».proof.Defs
public import proofs.«01_k».proof.Proof.Gen.ActGrad
public import proofs.«01_k».proof.Proof.Gen.ActGrad.Skeleton
public import proofs.«01_k».proof.Proof.Gen.ActGrad.Launch
public import proofs.«01_k».proof.Proof.Gen.ActGrad.Points
public import proofs.«01_k».proof.Proof.Gen.ActGrad.Frame
public import proofs.«01_k».proof.Proof.Gen.ActGradIdeal
public import proofs.«01_k».proof.Proof.Gen.ActGradIdeal.Skeleton
public import proofs.«01_k».proof.Proof.Gen.ActGradIdeal.Launch
public import proofs.«01_k».proof.Proof.Gen.ActGradIdeal.Points
public import proofs.«01_k».proof.Proof.Gen.ActGradIdeal.Frame
public import proofs.«01_k».proof.Proof.Gen.ActGradIdeal.Value
public import proofs.«01_k».proof.Proof.Gen.ActGradRefIdeal
public import proofs.«01_k».proof.Proof.Gen.ActGradRefIdeal.Run
public import proofs.«01_k».proof.Proof.Gen.ActGradRefIdeal.Read
public import proofs.«01_k».proof.Proof.Gen.WeightGrad
public import proofs.«01_k».proof.Proof.Gen.WeightGrad.Skeleton
public import proofs.«01_k».proof.Proof.Gen.WeightGrad.Launch
public import proofs.«01_k».proof.Proof.Gen.WeightGrad.Points
public import proofs.«01_k».proof.Proof.Gen.WeightGrad.Frame
public import proofs.«01_k».proof.Proof.Gen.WeightGradIdeal
public import proofs.«01_k».proof.Proof.Gen.WeightGradIdeal.Skeleton
public import proofs.«01_k».proof.Proof.Gen.WeightGradIdeal.Launch
public import proofs.«01_k».proof.Proof.Gen.WeightGradIdeal.Points
public import proofs.«01_k».proof.Proof.Gen.WeightGradIdeal.Frame
public import proofs.«01_k».proof.Proof.Gen.WeightGradIdeal.Value
public import proofs.«01_k».proof.Proof.Gen.WeightGradRefIdeal
public import proofs.«01_k».proof.Proof.Gen.WeightGradRefIdeal.Run
public import proofs.«01_k».proof.Proof.Gen.WeightGradRefIdeal.Read
public import proofs.«01_k».proof.Proof.Gen.NormGrad
public import proofs.«01_k».proof.Proof.Gen.NormGrad.Skeleton
public import proofs.«01_k».proof.Proof.Gen.NormGrad.Launch
public import proofs.«01_k».proof.Proof.Gen.NormGrad.Points
public import proofs.«01_k».proof.Proof.Gen.NormGrad.Frame
public import proofs.«01_k».proof.Proof.Gen.NormGradIdeal
public import proofs.«01_k».proof.Proof.Gen.NormGradIdeal.Skeleton
public import proofs.«01_k».proof.Proof.Gen.NormGradIdeal.Launch
public import proofs.«01_k».proof.Proof.Gen.NormGradIdeal.Points
public import proofs.«01_k».proof.Proof.Gen.NormGradIdeal.Frame
public import proofs.«01_k».proof.Proof.Gen.NormGradIdeal.Value
public import proofs.«01_k».proof.Proof.Gen.NormGradRefIdeal
public import proofs.«01_k».proof.Proof.Gen.NormGradRefIdeal.Run
public import proofs.«01_k».proof.Proof.Gen.NormGradRefIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.MixNorm
public import proofs.«01_k».proof.Proof.Gen.MixNorm.Skeleton
public import proofs.«01_k».proof.Proof.Gen.MixNorm.Launch
public import proofs.«01_k».proof.Proof.Gen.MixNorm.Points
public import proofs.«01_k».proof.Proof.Gen.MixNorm.Frame
public import proofs.«01_k».proof.Proof.Gen.MixNormIdeal
public import proofs.«01_k».proof.Proof.Gen.MixNormIdeal.Skeleton
public import proofs.«01_k».proof.Proof.Gen.MixNormIdeal.Launch
public import proofs.«01_k».proof.Proof.Gen.MixNormIdeal.Points
public import proofs.«01_k».proof.Proof.Gen.MixNormIdeal.Frame
public import proofs.«01_k».proof.Proof.Gen.MixNormIdeal.Value
public import proofs.«01_k».proof.Proof.Gen.MixNormRefIdeal
public import proofs.«01_k».proof.Proof.Gen.MixNormRefIdeal.Run
public import proofs.«01_k».proof.Proof.Gen.MixNormRefIdeal.Read
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamB
public import proofs.«01_k».proof.Proof.Gen.AdamB.Skeleton
public import proofs.«01_k».proof.Proof.Gen.AdamB.Launch
public import proofs.«01_k».proof.Proof.Gen.AdamB.Points
public import proofs.«01_k».proof.Proof.Gen.AdamB.Frame
public import proofs.«01_k».proof.Proof.Gen.AdamBIdeal
public import proofs.«01_k».proof.Proof.Gen.AdamBIdeal.Skeleton
public import proofs.«01_k».proof.Proof.Gen.AdamBIdeal.Launch
public import proofs.«01_k».proof.Proof.Gen.AdamBIdeal.Points
public import proofs.«01_k».proof.Proof.Gen.AdamBIdeal.Frame
public import proofs.«01_k».proof.Proof.Gen.AdamBIdeal.Value
public import proofs.«01_k».proof.Proof.Gen.AdamBRefIdeal
public import proofs.«01_k».proof.Proof.Gen.AdamBRefIdeal.Run
public import proofs.«01_k».proof.Proof.Gen.AdamBRefIdeal.Read
public import proofs.«01_k».proof.Proof.Gen.AttnGrad
public import proofs.«01_k».proof.Proof.Gen.AttnGrad.Skeleton
public import proofs.«01_k».proof.Proof.Gen.AttnGrad.Launch
public import proofs.«01_k».proof.Proof.Gen.AttnGrad.Points
public import proofs.«01_k».proof.Proof.Gen.AttnGrad.Frame
public import proofs.«01_k».proof.Proof.Gen.AttnGradIdeal
public import proofs.«01_k».proof.Proof.Gen.AttnGradIdeal.Skeleton
public import proofs.«01_k».proof.Proof.Gen.AttnGradIdeal.Launch
public import proofs.«01_k».proof.Proof.Gen.AttnGradIdeal.Points
public import proofs.«01_k».proof.Proof.Gen.AttnGradIdeal.Frame
public import proofs.«01_k».proof.Proof.Gen.AttnGradIdeal.Value
public import proofs.«01_k».proof.Proof.Gen.AttnGradRefIdeal
public import proofs.«01_k».proof.Proof.Gen.AttnGradRefIdeal.Run
public import proofs.«01_k».proof.Proof.Gen.AttnGradRefIdeal.Read
public import proofs.«01_k».proof.Proof.Gen.FfnLoss
public import proofs.«01_k».proof.Proof.Gen.FfnLoss.Skeleton
public import proofs.«01_k».proof.Proof.Gen.FfnLoss.Launch
public import proofs.«01_k».proof.Proof.Gen.FfnLoss.Points
public import proofs.«01_k».proof.Proof.Gen.FfnLoss.Frame
public import proofs.«01_k».proof.Proof.Gen.FfnLossIdeal
public import proofs.«01_k».proof.Proof.Gen.FfnLossIdeal.Skeleton
public import proofs.«01_k».proof.Proof.Gen.FfnLossIdeal.Launch
public import proofs.«01_k».proof.Proof.Gen.FfnLossIdeal.Points
public import proofs.«01_k».proof.Proof.Gen.FfnLossIdeal.Frame
public import proofs.«01_k».proof.Proof.Gen.FfnLossIdeal.Value
public import proofs.«01_k».proof.Proof.Gen.FfnLossRefIdeal
public import proofs.«01_k».proof.Proof.Gen.FfnLossRefIdeal.Run
public import proofs.«01_k».proof.Proof.Gen.FfnLossRefIdeal.Read
public import proofs.«01_k».proof.Proof.Gen.AdamA
public import proofs.«01_k».proof.Proof.Gen.AdamA.Launch
public import proofs.«01_k».proof.Proof.Gen.AdamAIdeal
public import proofs.«01_k».proof.Proof.Gen.AdamAIdeal.Skeleton
public import proofs.«01_k».proof.Proof.Gen.AdamAIdeal.Launch
public import proofs.«01_k».proof.Proof.Gen.AdamAIdeal.Points
public import proofs.«01_k».proof.Proof.Gen.AdamARefIdeal
public import proofs.«01_k».proof.Proof.Gen.AdamARefIdeal.Run
public import proofs.«01_k».proof.Proof.Gen.AdamARefIdeal.Read
public import proofs.«01_k».proof.Proof.Gen.On_gate_columns
public import proofs.«01_k».proof.Proof.ActGradValue
public import proofs.«01_k».proof.Proof.AdamAFrame
public import proofs.«01_k».proof.Proof.AdamARun
public import proofs.«01_k».proof.Proof.AdamASame
public import proofs.«01_k».proof.Proof.AdamAValue
public import proofs.«01_k».proof.Proof.AdamBValue
public import proofs.«01_k».proof.Proof.AdamInValue
public import proofs.«01_k».proof.Proof.AttnGradTile
public import proofs.«01_k».proof.Proof.AttnGradValue
public import proofs.«01_k».proof.Proof.FfnLossValue
public import proofs.«01_k».proof.Proof.Finite
public import proofs.«01_k».proof.Proof.MixInValue
public import proofs.«01_k».proof.Proof.MixNormValue
public import proofs.«01_k».proof.Proof.MixOutValue
public import proofs.«01_k».proof.Proof.NormGradValue
public import proofs.«01_k».proof.Proof.NormRow
public import proofs.«01_k».proof.Proof.Step
public import proofs.«01_k».proof.Proof.WeightGradValue
public import Idealize.ShloMosaic.Adequacy
public import Idealize.ShloMosaic.Init
public import Idealize.ShloMosaic.Lib.Quiescent

@[expose] public section

noncomputable section

namespace Cert.Proof

open Idealize.ShloMosaic Idealize.SL.Sem

theorem pre_finite_act_facts : Cert.Pre_finite_act.Facts := by constructor <;> decide

theorem pre_finite_norm_facts : Cert.Pre_finite_norm.Facts := by constructor <;> decide

theorem pre_finite_mix_facts : Cert.Pre_finite_mix.Facts := by constructor <;> decide

theorem pre_finite_gate_facts : Cert.Pre_finite_gate.Facts := by constructor <;> decide

theorem pre_finite_loss_facts : Cert.Pre_finite_loss.Facts := by constructor <;> decide

theorem claim : Cert.Claim := ⟨Cert.ActGrad.Gen.facts, Cert.ActGradIdeal.Gen.facts, Cert.ActGradRefIdeal.Gen.facts, Cert.WeightGrad.Gen.facts, Cert.WeightGradIdeal.Gen.facts, Cert.WeightGradRefIdeal.Gen.facts, Cert.NormGrad.Gen.facts, Cert.NormGradIdeal.Gen.facts, Cert.NormGradRefIdeal.Gen.facts, Cert.MixOut.Gen.facts, Cert.MixOutIdeal.Gen.facts, Cert.MixOutRefIdeal.Gen.facts, Cert.MixIn.Gen.facts, Cert.MixInIdeal.Gen.facts, Cert.MixInRefIdeal.Gen.facts, Cert.MixNorm.Gen.facts, Cert.MixNormIdeal.Gen.facts, Cert.MixNormRefIdeal.Gen.facts, Cert.AdamIn.Gen.facts, Cert.AdamInIdeal.Gen.facts, Cert.AdamInRefIdeal.Gen.facts, Cert.AdamB.Gen.facts, Cert.AdamBIdeal.Gen.facts, Cert.AdamBRefIdeal.Gen.facts, Cert.AttnGrad.Gen.facts, Cert.AttnGradIdeal.Gen.facts, Cert.AttnGradRefIdeal.Gen.facts, Cert.FfnLoss.Gen.facts, Cert.FfnLossIdeal.Gen.facts, Cert.FfnLossRefIdeal.Gen.facts, Cert.AdamA.Gen.facts, Cert.AdamAIdeal.Gen.facts, Cert.AdamARefIdeal.Gen.facts, pre_finite_act_facts, pre_finite_norm_facts, pre_finite_mix_facts, pre_finite_gate_facts, pre_finite_loss_facts, Cert.On_gate_columns.Gen.facts,
  fun m ρ _ => Cert.ActGrad.Gen.frame m ρ,
  fun m ρ _ => Cert.ActGradIdeal.Gen.frame m ρ,
  fun m ρ _ => Cert.ActGradIdeal.Gen.frame m ρ,
  fun m ρ _ => (θ_run Cert.ActGradRefIdeal.defs _ _).mono (fun r h => ⟨fun c => (h c).2.2, sem_eq_zero_of_no_sems (by decide) _⟩) (Cert.ActGradRefIdeal.Value.run (F := Ideal) m ρ),
  fun m ρ _ => (θ_run Cert.ActGradRefIdeal.defs _ _).mono (fun r h => ⟨fun c => (h c).2.2, sem_eq_zero_of_no_sems (by decide) _⟩) (Cert.ActGradRefIdeal.Value.run (F := Ideal) m ρ),
  fun m ρ _ => Cert.WeightGrad.Gen.frame m ρ,
  fun m ρ _ => Cert.WeightGradIdeal.Gen.frame m ρ,
  fun m ρ _ => (θ_run Cert.WeightGradRefIdeal.defs _ _).mono (fun r h => ⟨fun c => (h c).2, sem_eq_zero_of_no_sems (by decide) _⟩) (Cert.WeightGradRefIdeal.Value.run (F := Ideal) m ρ),
  fun m ρ _ => Cert.NormGrad.Gen.frame m ρ,
  fun m ρ _ => Cert.NormGradIdeal.Gen.frame m ρ,
  fun m ρ _ => Cert.NormGradIdeal.Gen.frame m ρ,
  fun m ρ _ => (θ_run Cert.NormGradRefIdeal.defs _ _).mono (fun r h => ⟨fun c => (h c).2.2.2, sem_eq_zero_of_no_sems (by decide) _⟩) (Cert.NormGradRefIdeal.Value.run (F := Ideal) m ρ),
  fun m ρ _ => (θ_run Cert.NormGradRefIdeal.defs _ _).mono (fun r h => ⟨fun c => (h c).2.2.2, sem_eq_zero_of_no_sems (by decide) _⟩) (Cert.NormGradRefIdeal.Value.run (F := Ideal) m ρ),
  fun m ρ _ => Cert.MixOut.Gen.frame m ρ,
  fun m ρ _ => Cert.MixOutIdeal.Gen.frame m ρ,
  fun m ρ _ => (θ_run Cert.MixOutRefIdeal.defs _ _).mono (fun r h => ⟨fun c => (h c).2, sem_eq_zero_of_no_sems (by decide) _⟩) (Cert.MixOutRefIdeal.Value.run (F := Ideal) m ρ),
  fun m ρ _ => Cert.MixIn.Gen.frame m ρ,
  fun m ρ _ => Cert.MixInIdeal.Gen.frame m ρ,
  fun m ρ _ => (θ_run Cert.MixInRefIdeal.defs _ _).mono (fun r h => ⟨fun c => (h c).2, sem_eq_zero_of_no_sems (by decide) _⟩) (Cert.MixInRefIdeal.Value.run (F := Ideal) m ρ),
  fun m ρ _ => Cert.MixNorm.Gen.frame m ρ,
  fun m ρ _ => Cert.MixNormIdeal.Gen.frame m ρ,
  fun m ρ _ => Cert.MixNormIdeal.Gen.frame m ρ,
  fun m ρ _ => (θ_run Cert.MixNormRefIdeal.defs _ _).mono (fun r h => ⟨fun c => (h c).2.2.2, sem_eq_zero_of_no_sems (by decide) _⟩) (Cert.MixNormRefIdeal.Value.run (F := Ideal) m ρ),
  fun m ρ _ => (θ_run Cert.MixNormRefIdeal.defs _ _).mono (fun r h => ⟨fun c => (h c).2.2.2, sem_eq_zero_of_no_sems (by decide) _⟩) (Cert.MixNormRefIdeal.Value.run (F := Ideal) m ρ),
  fun m ρ _ => Cert.AdamIn.Gen.frame m ρ,
  fun m ρ _ => Cert.AdamInIdeal.Gen.frame m ρ,
  fun m ρ _ => (θ_run Cert.AdamInRefIdeal.defs _ _).mono (fun r h => ⟨fun c => (h c).2.2.2, sem_eq_zero_of_no_sems (by decide) _⟩) (Cert.AdamInRefIdeal.Value.run (F := Ideal) m ρ),
  fun m ρ _ => Cert.AdamB.Gen.frame m ρ,
  fun m ρ _ => Cert.AdamBIdeal.Gen.frame m ρ,
  fun m ρ _ => (θ_run Cert.AdamBRefIdeal.defs _ _).mono (fun r h => ⟨fun c => (h c).2.2.2.2.2.2.2.2.2, sem_eq_zero_of_no_sems (by decide) _⟩) (Cert.AdamBRefIdeal.Value.run (F := Ideal) m ρ),
  fun m ρ _ => Cert.AttnGrad.Gen.frame m ρ,
  fun m ρ _ => Cert.AttnGradIdeal.Gen.frame m ρ,
  fun m ρ _ => Cert.AttnGradIdeal.Gen.frame m ρ,
  fun m ρ _ => (θ_run Cert.AttnGradRefIdeal.defs _ _).mono (fun r h => ⟨fun c => (h c).2.2.2, sem_eq_zero_of_no_sems (by decide) _⟩) (Cert.AttnGradRefIdeal.Value.run (F := Ideal) m ρ),
  fun m ρ _ => (θ_run Cert.AttnGradRefIdeal.defs _ _).mono (fun r h => ⟨fun c => (h c).2.2.2, sem_eq_zero_of_no_sems (by decide) _⟩) (Cert.AttnGradRefIdeal.Value.run (F := Ideal) m ρ),
  fun m ρ _ => Cert.FfnLoss.Gen.frame m ρ,
  fun m ρ _ => Cert.FfnLossIdeal.Gen.frame m ρ,
  fun m ρ _ => Cert.FfnLossIdeal.Gen.frame m ρ,
  fun m ρ _ => (θ_run Cert.FfnLossRefIdeal.defs _ _).mono (fun r h => ⟨fun c => (h c).2.2.2.2, sem_eq_zero_of_no_sems (by decide) _⟩) (Cert.FfnLossRefIdeal.Value.run (F := Ideal) m ρ),
  fun m ρ _ => (θ_run Cert.FfnLossRefIdeal.defs _ _).mono (fun r h => ⟨fun c => (h c).2.2.2.2, sem_eq_zero_of_no_sems (by decide) _⟩) (Cert.FfnLossRefIdeal.Value.run (F := Ideal) m ρ),
  Cert.AdamAFrame.frame_kernel,
  fun m ρ _ => Cert.AdamAIdeal.Run.frame m ρ,
  fun m ρ _ => (θ_run Cert.AdamARefIdeal.defs _ _).mono (fun r h => ⟨fun c => (h c).2.2.2.2.2.2.2.2.2.2.2.2, sem_eq_zero_of_no_sems (by decide) _⟩) (Cert.AdamARefIdeal.Value.run (F := Ideal) m ρ),
  trivial,
  Cert.Claims.act_grad (hP := Cert.Proof.pre_finite_act_facts),
  trivial,
  Cert.Claims.weight_grad,
  trivial,
  Cert.Claims.norm_grad (hP := Cert.Proof.pre_finite_norm_facts),
  trivial,
  Cert.Claims.mix_out,
  trivial,
  Cert.Claims.mix_in,
  trivial,
  Cert.Claims.mix_norm (hP := Cert.Proof.pre_finite_mix_facts),
  trivial,
  Cert.Claims.adam_in,
  trivial,
  Cert.Claims.adam_b,
  trivial,
  Cert.Claims.attn_grad (hP := Cert.Proof.pre_finite_gate_facts) (hO := Cert.On_gate_columns.Gen.facts),
  trivial,
  Cert.Claims.ffn_loss (hP := Cert.Proof.pre_finite_loss_facts),
  trivial,
  Cert.Claims.adam_a⟩

end Cert.Proof

end
